-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchReferenceIdeal (m : (ℓ : Loc Cert.BranchReferenceIdeal.nD Cert.BranchReferenceIdeal.τ Cert.BranchReferenceIdeal.sig) → Buf (Elt Ideal) ℓ) : Prop :=
  True

def Pre_Side (m : (ℓ : Loc Cert.Side.nD Cert.Side.τ Cert.Side.sig) → Buf (Elt Bits) ℓ) : Prop :=
  True

def Pre_SideIdeal (m : (ℓ : Loc Cert.SideIdeal.nD Cert.SideIdeal.τ Cert.SideIdeal.sig) → Buf (Elt Ideal) ℓ) : Prop :=
  True

def Pre_SideReferenceIdeal (m : (ℓ : Loc Cert.SideReferenceIdeal.nD Cert.SideReferenceIdeal.τ Cert.SideReferenceIdeal.sig) → Buf (Elt Ideal) ℓ) : Prop :=
  True

def Pre_DhQkv (m : (ℓ : Loc Cert.DhQkv.nD Cert.DhQkv.τ Cert.DhQkv.sig) → Buf (Elt Bits) ℓ) : Prop :=
  True

def Pre_DhQkvIdeal (m : (ℓ : Loc Cert.DhQkvIdeal.nD Cert.DhQkvIdeal.τ Cert.DhQkvIdeal.sig) → Buf (Elt Ideal) ℓ) : Prop :=
  True

def Pre_DhQkvReferenceIdeal (m : (ℓ : Loc Cert.DhQkvReferenceIdeal.nD Cert.DhQkvReferenceIdeal.τ Cert.DhQkvReferenceIdeal.sig) → Buf (Elt Ideal) ℓ) : Prop :=
  True

def Pre_DhGate (m : (ℓ : Loc Cert.DhGate.nD Cert.DhGate.τ Cert.DhGate.sig) → Buf (Elt Bits) ℓ) : Prop :=
  True

def Pre_DhGateIdeal (m : (ℓ : Loc Cert.DhGateIdeal.nD Cert.DhGateIdeal.τ Cert.DhGateIdeal.sig) → Buf (Elt Ideal) ℓ) : Prop :=
  True

def Pre_DhGateReferenceIdeal (m : (ℓ : Loc Cert.DhGateReferenceIdeal.nD Cert.DhGateReferenceIdeal.τ Cert.DhGateReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdReferenceIdeal (m : (ℓ : Loc Cert.GluFwdReferenceIdeal.nD Cert.GluFwdReferenceIdeal.τ Cert.GluFwdReferenceIdeal.sig) → Buf (Elt Ideal) ℓ) : Prop :=
  True

def Pre_SkipFwd (m : (ℓ : Loc Cert.SkipFwd.nD Cert.SkipFwd.τ Cert.SkipFwd.sig) → Buf (Elt Bits) ℓ) : Prop :=
  True

def Pre_SkipFwdIdeal (m : (ℓ : Loc Cert.SkipFwdIdeal.nD Cert.SkipFwdIdeal.τ Cert.SkipFwdIdeal.sig) → Buf (Elt Ideal) ℓ) : Prop :=
  True

def Pre_SkipFwdReferenceIdeal (m : (ℓ : Loc Cert.SkipFwdReferenceIdeal.nD Cert.SkipFwdReferenceIdeal.τ Cert.SkipFwdReferenceIdeal.sig) → Buf (Elt Ideal) ℓ) : Prop :=
  True

def Pre_Skip (m : (ℓ : Loc Cert.Skip.nD Cert.Skip.τ Cert.Skip.sig) → Buf (Elt Bits) ℓ) : Prop :=
  True

def Pre_SkipIdeal (m : (ℓ : Loc Cert.SkipIdeal.nD Cert.SkipIdeal.τ Cert.SkipIdeal.sig) → Buf (Elt Ideal) ℓ) : Prop :=
  True

def Pre_SkipReferenceIdeal (m : (ℓ : Loc Cert.SkipReferenceIdeal.nD Cert.SkipReferenceIdeal.τ Cert.SkipReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamPa (m : (ℓ : Loc Cert.AdamPa.nD Cert.AdamPa.τ Cert.AdamPa.sig) → Buf (Elt Bits) ℓ) : Prop :=
  True

def Pre_AdamPaIdeal (m : (ℓ : Loc Cert.AdamPaIdeal.nD Cert.AdamPaIdeal.τ Cert.AdamPaIdeal.sig) → Buf (Elt Ideal) ℓ) : Prop :=
  True

def Pre_AdamPaReferenceIdeal (m : (ℓ : Loc Cert.AdamPaReferenceIdeal.nD Cert.AdamPaReferenceIdeal.τ Cert.AdamPaReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3)
      ∧ r.2.mem ((c.tc : Thread Cert.BranchReferenceIdeal.nD Cert.BranchReferenceIdeal.τ).loc Cert.BranchReferenceIdeal.main_arg4) = m ((c.tc : Thread Cert.BranchReferenceIdeal.nD Cert.BranchReferenceIdeal.τ).loc Cert.BranchReferenceIdeal.main_arg4)
      ∧ r.2.mem ((c.tc : Thread Cert.BranchReferenceIdeal.nD Cert.BranchReferenceIdeal.τ).loc Cert.BranchReferenceIdeal.main_arg5) = m ((c.tc : Thread Cert.BranchReferenceIdeal.nD Cert.BranchReferenceIdeal.τ).loc Cert.BranchReferenceIdeal.main_arg5)
      ∧ r.2.mem ((c.tc : Thread Cert.BranchReferenceIdeal.nD Cert.BranchReferenceIdeal.τ).loc Cert.BranchReferenceIdeal.main_arg6) = m ((c.tc : Thread Cert.BranchReferenceIdeal.nD Cert.BranchReferenceIdeal.τ).loc Cert.BranchReferenceIdeal.main_arg6))
      ∧ r.2.sem = fun _ => 0)

def quiescent_Side [hSide : Cert.Side.Facts] : Prop :=
  ∀ (m : (ℓ : Loc Cert.Side.nD Cert.Side.τ Cert.Side.sig) → Buf (Elt Bits) ℓ) (g : Dev Cert.Side.nD → PrngReg), Pre_Side m →
    θ_run (Cert.Side.defs (F := Bits)) (onTc (τ := Cert.Side.τ) (Cert.Side.main (F := Bits))) ⟨m, fun _ => 0, g⟩ (fun r => (∀ c : Dev Cert.Side.nD,
      r.2.mem ((c.tc : Thread Cert.Side.nD Cert.Side.τ).loc Cert.Side.main_arg0) = m ((c.tc : Thread Cert.Side.nD Cert.Side.τ).loc Cert.Side.main_arg0)
      ∧ r.2.mem ((c.tc : Thread Cert.Side.nD Cert.Side.τ).loc Cert.Side.main_arg1) = m ((c.tc : Thread Cert.Side.nD Cert.Side.τ).loc Cert.Side.main_arg1)
      ∧ r.2.mem ((c.tc : Thread Cert.Side.nD Cert.Side.τ).loc Cert.Side.main_arg2) = m ((c.tc : Thread Cert.Side.nD Cert.Side.τ).loc Cert.Side.main_arg2)
      ∧ r.2.mem ((c.tc : Thread Cert.Side.nD Cert.Side.τ).loc Cert.Side.main_arg3) = m ((c.tc : Thread Cert.Side.nD Cert.Side.τ).loc Cert.Side.main_arg3)
      ∧ r.2.mem ((c.tc : Thread Cert.Side.nD Cert.Side.τ).loc Cert.Side.main_arg4) = m ((c.tc : Thread Cert.Side.nD Cert.Side.τ).loc Cert.Side.main_arg4)
      ∧ r.2.mem ((c.tc : Thread Cert.Side.nD Cert.Side.τ).loc Cert.Side.main_arg5) = m ((c.tc : Thread Cert.Side.nD Cert.Side.τ).loc Cert.Side.main_arg5))
      ∧ r.2.sem = fun _ => 0)

def quiescent_SideIdeal [hSideIdeal : Cert.SideIdeal.Facts] : Prop :=
  ∀ (m : (ℓ : Loc Cert.SideIdeal.nD Cert.SideIdeal.τ Cert.SideIdeal.sig) → Buf (Elt Ideal) ℓ) (g : Dev Cert.SideIdeal.nD → PrngReg), Pre_SideIdeal m →
    θ_run (Cert.SideIdeal.defs (F := Ideal)) (onTc (τ := Cert.SideIdeal.τ) (Cert.SideIdeal.main (F := Ideal))) ⟨m, fun _ => 0, g⟩ (fun r => (∀ c : Dev Cert.SideIdeal.nD,
      r.2.mem ((c.tc : Thread Cert.SideIdeal.nD Cert.SideIdeal.τ).loc Cert.SideIdeal.main_arg0) = m ((c.tc : Thread Cert.SideIdeal.nD Cert.SideIdeal.τ).loc Cert.SideIdeal.main_arg0)
      ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
      ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
      ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
      ∧ r.2.mem ((c.tc : Thread Cert.SideIdeal.nD Cert.SideIdeal.τ).loc Cert.SideIdeal.main_arg4) = m ((c.tc : Thread Cert.SideIdeal.nD Cert.SideIdeal.τ).loc Cert.SideIdeal.main_arg4)
      ∧ r.2.mem ((c.tc : Thread Cert.SideIdeal.nD Cert.SideIdeal.τ).loc Cert.SideIdeal.main_arg5) = m ((c.tc : Thread Cert.SideIdeal.nD Cert.SideIdeal.τ).loc Cert.SideIdeal.main_arg5))
      ∧ r.2.sem = fun _ => 0)

def quiescent_SideReferenceIdeal [hSideReferenceIdeal : Cert.SideReferenceIdeal.Facts] : Prop :=
  ∀ (m : (ℓ : Loc Cert.SideReferenceIdeal.nD Cert.SideReferenceIdeal.τ Cert.SideReferenceIdeal.sig) → Buf (Elt Ideal) ℓ) (g : Dev Cert.SideReferenceIdeal.nD → PrngReg), Pre_SideReferenceIdeal m →
    θ_run (Cert.SideReferenceIdeal.defs (F := Ideal)) (onTc (τ := Cert.SideReferenceIdeal.τ) (Cert.SideReferenceIdeal.main (F := Ideal))) ⟨m, fun _ => 0, g⟩ (fun r => (∀ c : Dev Cert.SideReferenceIdeal.nD,
      r.2.mem ((c.tc : Thread Cert.SideReferenceIdeal.nD Cert.SideReferenceIdeal.τ).loc Cert.SideReferenceIdeal.main_arg0) = m ((c.tc : Thread Cert.SideReferenceIdeal.nD Cert.SideReferenceIdeal.τ).loc Cert.SideReferenceIdeal.main_arg0)
      ∧ r.2.mem ((c.tc : Thread Cert.SideReferenceIdeal.nD Cert.SideReferenceIdeal.τ).loc Cert.SideReferenceIdeal.main_arg1) = m ((c.tc : Thread Cert.SideReferenceIdeal.nD Cert.SideReferenceIdeal.τ).loc Cert.SideReferenceIdeal.main_arg1)
      ∧ r.2.mem ((c.tc : Thread Cert.SideReferenceIdeal.nD Cert.SideReferenceIdeal.τ).loc Cert.SideReferenceIdeal.main_arg2) = m ((c.tc : Thread Cert.SideReferenceIdeal.nD Cert.SideReferenceIdeal.τ).loc Cert.SideReferenceIdeal.main_arg2)
      ∧ r.2.mem ((c.tc : Thread Cert.SideReferenceIdeal.nD Cert.SideReferenceIdeal.τ).loc Cert.SideReferenceIdeal.main_arg3) = m ((c.tc : Thread Cert.SideReferenceIdeal.nD Cert.SideReferenceIdeal.τ).loc Cert.SideReferenceIdeal.main_arg3)
      ∧ r.2.mem ((c.tc : Thread Cert.SideReferenceIdeal.nD Cert.SideReferenceIdeal.τ).loc Cert.SideReferenceIdeal.main_arg4) = m ((c.tc : Thread Cert.SideReferenceIdeal.nD Cert.SideReferenceIdeal.τ).loc Cert.SideReferenceIdeal.main_arg4)
      ∧ r.2.mem ((c.tc : Thread Cert.SideReferenceIdeal.nD Cert.SideReferenceIdeal.τ).loc Cert.SideReferenceIdeal.main_arg5) = m ((c.tc : Thread Cert.SideReferenceIdeal.nD Cert.SideReferenceIdeal.τ).loc Cert.SideReferenceIdeal.main_arg5))
      ∧ r.2.sem = fun _ => 0)

def quiescent_DhQkv [hDhQkv : Cert.DhQkv.Facts] : Prop :=
  ∀ (m : (ℓ : Loc Cert.DhQkv.nD Cert.DhQkv.τ Cert.DhQkv.sig) → Buf (Elt Bits) ℓ) (g : Dev Cert.DhQkv.nD → PrngReg), Pre_DhQkv m →
    θ_run (Cert.DhQkv.defs (F := Bits)) (onTc (τ := Cert.DhQkv.τ) (Cert.DhQkv.main (F := Bits))) ⟨m, fun _ => 0, g⟩ (fun r => (∀ c : Dev Cert.DhQkv.nD,
      r.2.mem ((c.tc : Thread Cert.DhQkv.nD Cert.DhQkv.τ).loc Cert.DhQkv.main_arg0) = m ((c.tc : Thread Cert.DhQkv.nD Cert.DhQkv.τ).loc Cert.DhQkv.main_arg0)
      ∧ r.2.mem ((c.tc : Thread Cert.DhQkv.nD Cert.DhQkv.τ).loc Cert.DhQkv.main_arg1) = m ((c.tc : Thread Cert.DhQkv.nD Cert.DhQkv.τ).loc Cert.DhQkv.main_arg1)
      ∧ r.2.mem ((c.tc : Thread Cert.DhQkv.nD Cert.DhQkv.τ).loc Cert.DhQkv.main_arg2) = m ((c.tc : Thread Cert.DhQkv.nD Cert.DhQkv.τ).loc Cert.DhQkv.main_arg2))
      ∧ r.2.sem = fun _ => 0)

def quiescent_DhQkvIdeal [hDhQkvIdeal : Cert.DhQkvIdeal.Facts] : Prop :=
  ∀ (m : (ℓ : Loc Cert.DhQkvIdeal.nD Cert.DhQkvIdeal.τ Cert.DhQkvIdeal.sig) → Buf (Elt Ideal) ℓ) (g : Dev Cert.DhQkvIdeal.nD → PrngReg), Pre_DhQkvIdeal m →
    θ_run (Cert.DhQkvIdeal.defs (F := Ideal)) (onTc (τ := Cert.DhQkvIdeal.τ) (Cert.DhQkvIdeal.main (F := Ideal))) ⟨m, fun _ => 0, g⟩ (fun r => (∀ c : Dev Cert.DhQkvIdeal.nD,
      r.2.mem ((c.tc : Thread Cert.DhQkvIdeal.nD Cert.DhQkvIdeal.τ).loc Cert.DhQkvIdeal.main_arg0) = m ((c.tc : Thread Cert.DhQkvIdeal.nD Cert.DhQkvIdeal.τ).loc Cert.DhQkvIdeal.main_arg0)
      ∧ r.2.mem ((c.tc : Thread Cert.DhQkvIdeal.nD Cert.DhQkvIdeal.τ).loc Cert.DhQkvIdeal.main_arg1) = m ((c.tc : Thread Cert.DhQkvIdeal.nD Cert.DhQkvIdeal.τ).loc Cert.DhQkvIdeal.main_arg1)
      ∧ r.2.mem ((c.tc : Thread Cert.DhQkvIdeal.nD Cert.DhQkvIdeal.τ).loc Cert.DhQkvIdeal.main_arg2) = m ((c.tc : Thread Cert.DhQkvIdeal.nD Cert.DhQkvIdeal.τ).loc Cert.DhQkvIdeal.main_arg2))
      ∧ r.2.sem = fun _ => 0)

def quiescent_DhQkvReferenceIdeal [hDhQkvReferenceIdeal : Cert.DhQkvReferenceIdeal.Facts] : Prop :=
  ∀ (m : (ℓ : Loc Cert.DhQkvReferenceIdeal.nD Cert.DhQkvReferenceIdeal.τ Cert.DhQkvReferenceIdeal.sig) → Buf (Elt Ideal) ℓ) (g : Dev Cert.DhQkvReferenceIdeal.nD → PrngReg), Pre_DhQkvReferenceIdeal m →
    θ_run (Cert.DhQkvReferenceIdeal.defs (F := Ideal)) (onTc (τ := Cert.DhQkvReferenceIdeal.τ) (Cert.DhQkvReferenceIdeal.main (F := Ideal))) ⟨m, fun _ => 0, g⟩ (fun r => (∀ c : Dev Cert.DhQkvReferenceIdeal.nD,
      r.2.mem ((c.tc : Thread Cert.DhQkvReferenceIdeal.nD Cert.DhQkvReferenceIdeal.τ).loc Cert.DhQkvReferenceIdeal.main_arg0) = m ((c.tc : Thread Cert.DhQkvReferenceIdeal.nD Cert.DhQkvReferenceIdeal.τ).loc Cert.DhQkvReferenceIdeal.main_arg0)
      ∧ r.2.mem ((c.tc : Thread Cert.DhQkvReferenceIdeal.nD Cert.DhQkvReferenceIdeal.τ).loc Cert.DhQkvReferenceIdeal.main_arg1) = m ((c.tc : Thread Cert.DhQkvReferenceIdeal.nD Cert.DhQkvReferenceIdeal.τ).loc Cert.DhQkvReferenceIdeal.main_arg1)
      ∧ r.2.mem ((c.tc : Thread Cert.DhQkvReferenceIdeal.nD Cert.DhQkvReferenceIdeal.τ).loc Cert.DhQkvReferenceIdeal.main_arg2) = m ((c.tc : Thread Cert.DhQkvReferenceIdeal.nD Cert.DhQkvReferenceIdeal.τ).loc Cert.DhQkvReferenceIdeal.main_arg2))
      ∧ r.2.sem = fun _ => 0)

def quiescent_DhGate [hDhGate : Cert.DhGate.Facts] : Prop :=
  ∀ (m : (ℓ : Loc Cert.DhGate.nD Cert.DhGate.τ Cert.DhGate.sig) → Buf (Elt Bits) ℓ) (g : Dev Cert.DhGate.nD → PrngReg), Pre_DhGate m →
    θ_run (Cert.DhGate.defs (F := Bits)) (onTc (τ := Cert.DhGate.τ) (Cert.DhGate.main (F := Bits))) ⟨m, fun _ => 0, g⟩ (fun r => (∀ c : Dev Cert.DhGate.nD,
      r.2.mem ((c.tc : Thread Cert.DhGate.nD Cert.DhGate.τ).loc Cert.DhGate.main_arg0) = m ((c.tc : Thread Cert.DhGate.nD Cert.DhGate.τ).loc Cert.DhGate.main_arg0)
      ∧ r.2.mem ((c.tc : Thread Cert.DhGate.nD Cert.DhGate.τ).loc Cert.DhGate.main_arg1) = m ((c.tc : Thread Cert.DhGate.nD Cert.DhGate.τ).loc Cert.DhGate.main_arg1)
      ∧ r.2.mem ((c.tc : Thread Cert.DhGate.nD Cert.DhGate.τ).loc Cert.DhGate.main_arg2) = m ((c.tc : Thread Cert.DhGate.nD Cert.DhGate.τ).loc Cert.DhGate.main_arg2))
      ∧ r.2.sem = fun _ => 0)

def quiescent_DhGateIdeal [hDhGateIdeal : Cert.DhGateIdeal.Facts] : Prop :=
  ∀ (m : (ℓ : Loc Cert.DhGateIdeal.nD Cert.DhGateIdeal.τ Cert.DhGateIdeal.sig) → Buf (Elt Ideal) ℓ) (g : Dev Cert.DhGateIdeal.nD → PrngReg), Pre_DhGateIdeal m →
    θ_run (Cert.DhGateIdeal.defs (F := Ideal)) (onTc (τ := Cert.DhGateIdeal.τ) (Cert.DhGateIdeal.main (F := Ideal))) ⟨m, fun _ => 0, g⟩ (fun r => (∀ c : Dev Cert.DhGateIdeal.nD,
      r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
      ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
      ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2))
      ∧ r.2.sem = fun _ => 0)

def quiescent_DhGateReferenceIdeal [hDhGateReferenceIdeal : Cert.DhGateReferenceIdeal.Facts] : Prop :=
  ∀ (m : (ℓ : Loc Cert.DhGateReferenceIdeal.nD Cert.DhGateReferenceIdeal.τ Cert.DhGateReferenceIdeal.sig) → Buf (Elt Ideal) ℓ) (g : Dev Cert.DhGateReferenceIdeal.nD → PrngReg), Pre_DhGateReferenceIdeal m →
    θ_run (Cert.DhGateReferenceIdeal.defs (F := Ideal)) (onTc (τ := Cert.DhGateReferenceIdeal.τ) (Cert.DhGateReferenceIdeal.main (F := Ideal))) ⟨m, fun _ => 0, g⟩ (fun r => (∀ c : Dev Cert.DhGateReferenceIdeal.nD,
      r.2.mem ((c.tc : Thread Cert.DhGateReferenceIdeal.nD Cert.DhGateReferenceIdeal.τ).loc Cert.DhGateReferenceIdeal.main_arg0) = m ((c.tc : Thread Cert.DhGateReferenceIdeal.nD Cert.DhGateReferenceIdeal.τ).loc Cert.DhGateReferenceIdeal.main_arg0)
      ∧ r.2.mem ((c.tc : Thread Cert.DhGateReferenceIdeal.nD Cert.DhGateReferenceIdeal.τ).loc Cert.DhGateReferenceIdeal.main_arg1) = m ((c.tc : Thread Cert.DhGateReferenceIdeal.nD Cert.DhGateReferenceIdeal.τ).loc Cert.DhGateReferenceIdeal.main_arg1)
      ∧ r.2.mem ((c.tc : Thread Cert.DhGateReferenceIdeal.nD Cert.DhGateReferenceIdeal.τ).loc Cert.DhGateReferenceIdeal.main_arg2) = m ((c.tc : Thread Cert.DhGateReferenceIdeal.nD Cert.DhGateReferenceIdeal.τ).loc Cert.DhGateReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ r.2.sem = fun _ => 0)

def quiescent_GluFwdReferenceIdeal [hGluFwdReferenceIdeal : Cert.GluFwdReferenceIdeal.Facts] : Prop :=
  ∀ (m : (ℓ : Loc Cert.GluFwdReferenceIdeal.nD Cert.GluFwdReferenceIdeal.τ Cert.GluFwdReferenceIdeal.sig) → Buf (Elt Ideal) ℓ) (g : Dev Cert.GluFwdReferenceIdeal.nD → PrngReg), Pre_GluFwdReferenceIdeal m →
    θ_run (Cert.GluFwdReferenceIdeal.defs (F := Ideal)) (onTc (τ := Cert.GluFwdReferenceIdeal.τ) (Cert.GluFwdReferenceIdeal.main (F := Ideal))) ⟨m, fun _ => 0, g⟩ (fun r => (∀ c : Dev Cert.GluFwdReferenceIdeal.nD,
      r.2.mem ((c.tc : Thread Cert.GluFwdReferenceIdeal.nD Cert.GluFwdReferenceIdeal.τ).loc Cert.GluFwdReferenceIdeal.main_arg0) = m ((c.tc : Thread Cert.GluFwdReferenceIdeal.nD Cert.GluFwdReferenceIdeal.τ).loc Cert.GluFwdReferenceIdeal.main_arg0)
      ∧ r.2.mem ((c.tc : Thread Cert.GluFwdReferenceIdeal.nD Cert.GluFwdReferenceIdeal.τ).loc Cert.GluFwdReferenceIdeal.main_arg1) = m ((c.tc : Thread Cert.GluFwdReferenceIdeal.nD Cert.GluFwdReferenceIdeal.τ).loc Cert.GluFwdReferenceIdeal.main_arg1)
      ∧ r.2.mem ((c.tc : Thread Cert.GluFwdReferenceIdeal.nD Cert.GluFwdReferenceIdeal.τ).loc Cert.GluFwdReferenceIdeal.main_arg2) = m ((c.tc : Thread Cert.GluFwdReferenceIdeal.nD Cert.GluFwdReferenceIdeal.τ).loc Cert.GluFwdReferenceIdeal.main_arg2)
      ∧ r.2.mem ((c.tc : Thread Cert.GluFwdReferenceIdeal.nD Cert.GluFwdReferenceIdeal.τ).loc Cert.GluFwdReferenceIdeal.main_arg3) = m ((c.tc : Thread Cert.GluFwdReferenceIdeal.nD Cert.GluFwdReferenceIdeal.τ).loc Cert.GluFwdReferenceIdeal.main_arg3))
      ∧ r.2.sem = fun _ => 0)

def quiescent_SkipFwd [hSkipFwd : Cert.SkipFwd.Facts] : Prop :=
  ∀ (m : (ℓ : Loc Cert.SkipFwd.nD Cert.SkipFwd.τ Cert.SkipFwd.sig) → Buf (Elt Bits) ℓ) (g : Dev Cert.SkipFwd.nD → PrngReg), Pre_SkipFwd m →
    θ_run (Cert.SkipFwd.defs (F := Bits)) (onTc (τ := Cert.SkipFwd.τ) (Cert.SkipFwd.main (F := Bits))) ⟨m, fun _ => 0, g⟩ (fun r => (∀ c : Dev Cert.SkipFwd.nD,
      r.2.mem ((c.tc : Thread Cert.SkipFwd.nD Cert.SkipFwd.τ).loc Cert.SkipFwd.main_arg0) = m ((c.tc : Thread Cert.SkipFwd.nD Cert.SkipFwd.τ).loc Cert.SkipFwd.main_arg0)
      ∧ r.2.mem ((c.tc : Thread Cert.SkipFwd.nD Cert.SkipFwd.τ).loc Cert.SkipFwd.main_arg1) = m ((c.tc : Thread Cert.SkipFwd.nD Cert.SkipFwd.τ).loc Cert.SkipFwd.main_arg1)
      ∧ r.2.mem ((c.tc : Thread Cert.SkipFwd.nD Cert.SkipFwd.τ).loc Cert.SkipFwd.main_arg2) = m ((c.tc : Thread Cert.SkipFwd.nD Cert.SkipFwd.τ).loc Cert.SkipFwd.main_arg2)
      ∧ r.2.mem ((c.tc : Thread Cert.SkipFwd.nD Cert.SkipFwd.τ).loc Cert.SkipFwd.main_arg3) = m ((c.tc : Thread Cert.SkipFwd.nD Cert.SkipFwd.τ).loc Cert.SkipFwd.main_arg3))
      ∧ r.2.sem = fun _ => 0)

def quiescent_SkipFwdIdeal [hSkipFwdIdeal : Cert.SkipFwdIdeal.Facts] : Prop :=
  ∀ (m : (ℓ : Loc Cert.SkipFwdIdeal.nD Cert.SkipFwdIdeal.τ Cert.SkipFwdIdeal.sig) → Buf (Elt Ideal) ℓ) (g : Dev Cert.SkipFwdIdeal.nD → PrngReg), Pre_SkipFwdIdeal m →
    θ_run (Cert.SkipFwdIdeal.defs (F := Ideal)) (onTc (τ := Cert.SkipFwdIdeal.τ) (Cert.SkipFwdIdeal.main (F := Ideal))) ⟨m, fun _ => 0, g⟩ (fun r => (∀ c : Dev Cert.SkipFwdIdeal.nD,
      r.2.mem ((c.tc : Thread Cert.SkipFwdIdeal.nD Cert.SkipFwdIdeal.τ).loc Cert.SkipFwdIdeal.main_arg0) = m ((c.tc : Thread Cert.SkipFwdIdeal.nD Cert.SkipFwdIdeal.τ).loc Cert.SkipFwdIdeal.main_arg0)
      ∧ r.2.mem ((c.tc : Thread Cert.SkipFwdIdeal.nD Cert.SkipFwdIdeal.τ).loc Cert.SkipFwdIdeal.main_arg1) = m ((c.tc : Thread Cert.SkipFwdIdeal.nD Cert.SkipFwdIdeal.τ).loc Cert.SkipFwdIdeal.main_arg1)
      ∧ r.2.mem ((c.tc : Thread Cert.SkipFwdIdeal.nD Cert.SkipFwdIdeal.τ).loc Cert.SkipFwdIdeal.main_arg2) = m ((c.tc : Thread Cert.SkipFwdIdeal.nD Cert.SkipFwdIdeal.τ).loc Cert.SkipFwdIdeal.main_arg2)
      ∧ r.2.mem ((c.tc : Thread Cert.SkipFwdIdeal.nD Cert.SkipFwdIdeal.τ).loc Cert.SkipFwdIdeal.main_arg3) = m ((c.tc : Thread Cert.SkipFwdIdeal.nD Cert.SkipFwdIdeal.τ).loc Cert.SkipFwdIdeal.main_arg3))
      ∧ r.2.sem = fun _ => 0)

def quiescent_SkipFwdReferenceIdeal [hSkipFwdReferenceIdeal : Cert.SkipFwdReferenceIdeal.Facts] : Prop :=
  ∀ (m : (ℓ : Loc Cert.SkipFwdReferenceIdeal.nD Cert.SkipFwdReferenceIdeal.τ Cert.SkipFwdReferenceIdeal.sig) → Buf (Elt Ideal) ℓ) (g : Dev Cert.SkipFwdReferenceIdeal.nD → PrngReg), Pre_SkipFwdReferenceIdeal m →
    θ_run (Cert.SkipFwdReferenceIdeal.defs (F := Ideal)) (onTc (τ := Cert.SkipFwdReferenceIdeal.τ) (Cert.SkipFwdReferenceIdeal.main (F := Ideal))) ⟨m, fun _ => 0, g⟩ (fun r => (∀ c : Dev Cert.SkipFwdReferenceIdeal.nD,
      r.2.mem ((c.tc : Thread Cert.SkipFwdReferenceIdeal.nD Cert.SkipFwdReferenceIdeal.τ).loc Cert.SkipFwdReferenceIdeal.main_arg0) = m ((c.tc : Thread Cert.SkipFwdReferenceIdeal.nD Cert.SkipFwdReferenceIdeal.τ).loc Cert.SkipFwdReferenceIdeal.main_arg0)
      ∧ r.2.mem ((c.tc : Thread Cert.SkipFwdReferenceIdeal.nD Cert.SkipFwdReferenceIdeal.τ).loc Cert.SkipFwdReferenceIdeal.main_arg1) = m ((c.tc : Thread Cert.SkipFwdReferenceIdeal.nD Cert.SkipFwdReferenceIdeal.τ).loc Cert.SkipFwdReferenceIdeal.main_arg1)
      ∧ r.2.mem ((c.tc : Thread Cert.SkipFwdReferenceIdeal.nD Cert.SkipFwdReferenceIdeal.τ).loc Cert.SkipFwdReferenceIdeal.main_arg2) = m ((c.tc : Thread Cert.SkipFwdReferenceIdeal.nD Cert.SkipFwdReferenceIdeal.τ).loc Cert.SkipFwdReferenceIdeal.main_arg2)
      ∧ r.2.mem ((c.tc : Thread Cert.SkipFwdReferenceIdeal.nD Cert.SkipFwdReferenceIdeal.τ).loc Cert.SkipFwdReferenceIdeal.main_arg3) = m ((c.tc : Thread Cert.SkipFwdReferenceIdeal.nD Cert.SkipFwdReferenceIdeal.τ).loc Cert.SkipFwdReferenceIdeal.main_arg3))
      ∧ r.2.sem = fun _ => 0)

def quiescent_Skip [hSkip : Cert.Skip.Facts] : Prop :=
  ∀ (m : (ℓ : Loc Cert.Skip.nD Cert.Skip.τ Cert.Skip.sig) → Buf (Elt Bits) ℓ) (g : Dev Cert.Skip.nD → PrngReg), Pre_Skip m →
    θ_run (Cert.Skip.defs (F := Bits)) (onTc (τ := Cert.Skip.τ) (Cert.Skip.main (F := Bits))) ⟨m, fun _ => 0, g⟩ (fun r => (∀ c : Dev Cert.Skip.nD,
      r.2.mem ((c.tc : Thread Cert.Skip.nD Cert.Skip.τ).loc Cert.Skip.main_arg0) = m ((c.tc : Thread Cert.Skip.nD Cert.Skip.τ).loc Cert.Skip.main_arg0)
      ∧ r.2.mem ((c.tc : Thread Cert.Skip.nD Cert.Skip.τ).loc Cert.Skip.main_arg1) = m ((c.tc : Thread Cert.Skip.nD Cert.Skip.τ).loc Cert.Skip.main_arg1)
      ∧ r.2.mem ((c.tc : Thread Cert.Skip.nD Cert.Skip.τ).loc Cert.Skip.main_arg2) = m ((c.tc : Thread Cert.Skip.nD Cert.Skip.τ).loc Cert.Skip.main_arg2)
      ∧ r.2.mem ((c.tc : Thread Cert.Skip.nD Cert.Skip.τ).loc Cert.Skip.main_arg3) = m ((c.tc : Thread Cert.Skip.nD Cert.Skip.τ).loc Cert.Skip.main_arg3)
      ∧ r.2.mem ((c.tc : Thread Cert.Skip.nD Cert.Skip.τ).loc Cert.Skip.main_arg4) = m ((c.tc : Thread Cert.Skip.nD Cert.Skip.τ).loc Cert.Skip.main_arg4))
      ∧ r.2.sem = fun _ => 0)

def quiescent_SkipIdeal [hSkipIdeal : Cert.SkipIdeal.Facts] : Prop :=
  ∀ (m : (ℓ : Loc Cert.SkipIdeal.nD Cert.SkipIdeal.τ Cert.SkipIdeal.sig) → Buf (Elt Ideal) ℓ) (g : Dev Cert.SkipIdeal.nD → PrngReg), Pre_SkipIdeal m →
    θ_run (Cert.SkipIdeal.defs (F := Ideal)) (onTc (τ := Cert.SkipIdeal.τ) (Cert.SkipIdeal.main (F := Ideal))) ⟨m, fun _ => 0, g⟩ (fun r => (∀ c : Dev Cert.SkipIdeal.nD,
      r.2.mem ((c.tc : Thread Cert.SkipIdeal.nD Cert.SkipIdeal.τ).loc Cert.SkipIdeal.main_arg0) = m ((c.tc : Thread Cert.SkipIdeal.nD Cert.SkipIdeal.τ).loc Cert.SkipIdeal.main_arg0)
      ∧ r.2.mem ((c.tc : Thread Cert.SkipIdeal.nD Cert.SkipIdeal.τ).loc Cert.SkipIdeal.main_arg1) = m ((c.tc : Thread Cert.SkipIdeal.nD Cert.SkipIdeal.τ).loc Cert.SkipIdeal.main_arg1)
      ∧ r.2.mem ((c.tc : Thread Cert.SkipIdeal.nD Cert.SkipIdeal.τ).loc Cert.SkipIdeal.main_arg2) = m ((c.tc : Thread Cert.SkipIdeal.nD Cert.SkipIdeal.τ).loc Cert.SkipIdeal.main_arg2)
      ∧ r.2.mem ((c.tc : Thread Cert.SkipIdeal.nD Cert.SkipIdeal.τ).loc Cert.SkipIdeal.main_arg3) = m ((c.tc : Thread Cert.SkipIdeal.nD Cert.SkipIdeal.τ).loc Cert.SkipIdeal.main_arg3)
      ∧ r.2.mem ((c.tc : Thread Cert.SkipIdeal.nD Cert.SkipIdeal.τ).loc Cert.SkipIdeal.main_arg4) = m ((c.tc : Thread Cert.SkipIdeal.nD Cert.SkipIdeal.τ).loc Cert.SkipIdeal.main_arg4))
      ∧ r.2.sem = fun _ => 0)

def quiescent_SkipReferenceIdeal [hSkipReferenceIdeal : Cert.SkipReferenceIdeal.Facts] : Prop :=
  ∀ (m : (ℓ : Loc Cert.SkipReferenceIdeal.nD Cert.SkipReferenceIdeal.τ Cert.SkipReferenceIdeal.sig) → Buf (Elt Ideal) ℓ) (g : Dev Cert.SkipReferenceIdeal.nD → PrngReg), Pre_SkipReferenceIdeal m →
    θ_run (Cert.SkipReferenceIdeal.defs (F := Ideal)) (onTc (τ := Cert.SkipReferenceIdeal.τ) (Cert.SkipReferenceIdeal.main (F := Ideal))) ⟨m, fun _ => 0, g⟩ (fun r => (∀ c : Dev Cert.SkipReferenceIdeal.nD,
      r.2.mem ((c.tc : Thread Cert.SkipReferenceIdeal.nD Cert.SkipReferenceIdeal.τ).loc Cert.SkipReferenceIdeal.main_arg0) = m ((c.tc : Thread Cert.SkipReferenceIdeal.nD Cert.SkipReferenceIdeal.τ).loc Cert.SkipReferenceIdeal.main_arg0)
      ∧ r.2.mem ((c.tc : Thread Cert.SkipReferenceIdeal.nD Cert.SkipReferenceIdeal.τ).loc Cert.SkipReferenceIdeal.main_arg1) = m ((c.tc : Thread Cert.SkipReferenceIdeal.nD Cert.SkipReferenceIdeal.τ).loc Cert.SkipReferenceIdeal.main_arg1)
      ∧ r.2.mem ((c.tc : Thread Cert.SkipReferenceIdeal.nD Cert.SkipReferenceIdeal.τ).loc Cert.SkipReferenceIdeal.main_arg2) = m ((c.tc : Thread Cert.SkipReferenceIdeal.nD Cert.SkipReferenceIdeal.τ).loc Cert.SkipReferenceIdeal.main_arg2)
      ∧ r.2.mem ((c.tc : Thread Cert.SkipReferenceIdeal.nD Cert.SkipReferenceIdeal.τ).loc Cert.SkipReferenceIdeal.main_arg3) = m ((c.tc : Thread Cert.SkipReferenceIdeal.nD Cert.SkipReferenceIdeal.τ).loc Cert.SkipReferenceIdeal.main_arg3)
      ∧ r.2.mem ((c.tc : Thread Cert.SkipReferenceIdeal.nD Cert.SkipReferenceIdeal.τ).loc Cert.SkipReferenceIdeal.main_arg4) = m ((c.tc : Thread Cert.SkipReferenceIdeal.nD Cert.SkipReferenceIdeal.τ).loc Cert.SkipReferenceIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3)
      ∧ r.2.mem ((c.tc : Thread Cert.AdamGluReferenceIdeal.nD Cert.AdamGluReferenceIdeal.τ).loc Cert.AdamGluReferenceIdeal.main_arg4) = m ((c.tc : Thread Cert.AdamGluReferenceIdeal.nD Cert.AdamGluReferenceIdeal.τ).loc Cert.AdamGluReferenceIdeal.main_arg4))
      ∧ r.2.sem = fun _ => 0)

def quiescent_AdamPa [hAdamPa : Cert.AdamPa.Facts] : Prop :=
  ∀ (m : (ℓ : Loc Cert.AdamPa.nD Cert.AdamPa.τ Cert.AdamPa.sig) → Buf (Elt Bits) ℓ) (g : Dev Cert.AdamPa.nD → PrngReg), Pre_AdamPa m →
    θ_run (Cert.AdamPa.defs (F := Bits)) (onTc (τ := Cert.AdamPa.τ) (Cert.AdamPa.main (F := Bits))) ⟨m, fun _ => 0, g⟩ (fun r => (∀ c : Dev Cert.AdamPa.nD,
      r.2.mem ((c.tc : Thread Cert.AdamPa.nD Cert.AdamPa.τ).loc Cert.AdamPa.main_arg0) = m ((c.tc : Thread Cert.AdamPa.nD Cert.AdamPa.τ).loc Cert.AdamPa.main_arg0)
      ∧ r.2.mem ((c.tc : Thread Cert.AdamPa.nD Cert.AdamPa.τ).loc Cert.AdamPa.main_arg1) = m ((c.tc : Thread Cert.AdamPa.nD Cert.AdamPa.τ).loc Cert.AdamPa.main_arg1)
      ∧ r.2.mem ((c.tc : Thread Cert.AdamPa.nD Cert.AdamPa.τ).loc Cert.AdamPa.main_arg2) = m ((c.tc : Thread Cert.AdamPa.nD Cert.AdamPa.τ).loc Cert.AdamPa.main_arg2)
      ∧ r.2.mem ((c.tc : Thread Cert.AdamPa.nD Cert.AdamPa.τ).loc Cert.AdamPa.main_arg3) = m ((c.tc : Thread Cert.AdamPa.nD Cert.AdamPa.τ).loc Cert.AdamPa.main_arg3)
      ∧ r.2.mem ((c.tc : Thread Cert.AdamPa.nD Cert.AdamPa.τ).loc Cert.AdamPa.main_arg4) = m ((c.tc : Thread Cert.AdamPa.nD Cert.AdamPa.τ).loc Cert.AdamPa.main_arg4))
      ∧ r.2.sem = fun _ => 0)

def quiescent_AdamPaIdeal [hAdamPaIdeal : Cert.AdamPaIdeal.Facts] : Prop :=
  ∀ (m : (ℓ : Loc Cert.AdamPaIdeal.nD Cert.AdamPaIdeal.τ Cert.AdamPaIdeal.sig) → Buf (Elt Ideal) ℓ) (g : Dev Cert.AdamPaIdeal.nD → PrngReg), Pre_AdamPaIdeal m →
    θ_run (Cert.AdamPaIdeal.defs (F := Ideal)) (onTc (τ := Cert.AdamPaIdeal.τ) (Cert.AdamPaIdeal.main (F := Ideal))) ⟨m, fun _ => 0, g⟩ (fun r => (∀ c : Dev Cert.AdamPaIdeal.nD,
      r.2.mem ((c.tc : Thread Cert.AdamPaIdeal.nD Cert.AdamPaIdeal.τ).loc Cert.AdamPaIdeal.main_arg0) = m ((c.tc : Thread Cert.AdamPaIdeal.nD Cert.AdamPaIdeal.τ).loc Cert.AdamPaIdeal.main_arg0)
      ∧ r.2.mem ((c.tc : Thread Cert.AdamPaIdeal.nD Cert.AdamPaIdeal.τ).loc Cert.AdamPaIdeal.main_arg1) = m ((c.tc : Thread Cert.AdamPaIdeal.nD Cert.AdamPaIdeal.τ).loc Cert.AdamPaIdeal.main_arg1)
      ∧ r.2.mem ((c.tc : Thread Cert.AdamPaIdeal.nD Cert.AdamPaIdeal.τ).loc Cert.AdamPaIdeal.main_arg2) = m ((c.tc : Thread Cert.AdamPaIdeal.nD Cert.AdamPaIdeal.τ).loc Cert.AdamPaIdeal.main_arg2)
      ∧ r.2.mem ((c.tc : Thread Cert.AdamPaIdeal.nD Cert.AdamPaIdeal.τ).loc Cert.AdamPaIdeal.main_arg3) = m ((c.tc : Thread Cert.AdamPaIdeal.nD Cert.AdamPaIdeal.τ).loc Cert.AdamPaIdeal.main_arg3)
      ∧ r.2.mem ((c.tc : Thread Cert.AdamPaIdeal.nD Cert.AdamPaIdeal.τ).loc Cert.AdamPaIdeal.main_arg4) = m ((c.tc : Thread Cert.AdamPaIdeal.nD Cert.AdamPaIdeal.τ).loc Cert.AdamPaIdeal.main_arg4))
      ∧ r.2.sem = fun _ => 0)

def quiescent_AdamPaReferenceIdeal [hAdamPaReferenceIdeal : Cert.AdamPaReferenceIdeal.Facts] : Prop :=
  ∀ (m : (ℓ : Loc Cert.AdamPaReferenceIdeal.nD Cert.AdamPaReferenceIdeal.τ Cert.AdamPaReferenceIdeal.sig) → Buf (Elt Ideal) ℓ) (g : Dev Cert.AdamPaReferenceIdeal.nD → PrngReg), Pre_AdamPaReferenceIdeal m →
    θ_run (Cert.AdamPaReferenceIdeal.defs (F := Ideal)) (onTc (τ := Cert.AdamPaReferenceIdeal.τ) (Cert.AdamPaReferenceIdeal.main (F := Ideal))) ⟨m, fun _ => 0, g⟩ (fun r => (∀ c : Dev Cert.AdamPaReferenceIdeal.nD,
      r.2.mem ((c.tc : Thread Cert.AdamPaReferenceIdeal.nD Cert.AdamPaReferenceIdeal.τ).loc Cert.AdamPaReferenceIdeal.main_arg0) = m ((c.tc : Thread Cert.AdamPaReferenceIdeal.nD Cert.AdamPaReferenceIdeal.τ).loc Cert.AdamPaReferenceIdeal.main_arg0)
      ∧ r.2.mem ((c.tc : Thread Cert.AdamPaReferenceIdeal.nD Cert.AdamPaReferenceIdeal.τ).loc Cert.AdamPaReferenceIdeal.main_arg1) = m ((c.tc : Thread Cert.AdamPaReferenceIdeal.nD Cert.AdamPaReferenceIdeal.τ).loc Cert.AdamPaReferenceIdeal.main_arg1)
      ∧ r.2.mem ((c.tc : Thread Cert.AdamPaReferenceIdeal.nD Cert.AdamPaReferenceIdeal.τ).loc Cert.AdamPaReferenceIdeal.main_arg2) = m ((c.tc : Thread Cert.AdamPaReferenceIdeal.nD Cert.AdamPaReferenceIdeal.τ).loc Cert.AdamPaReferenceIdeal.main_arg2)
      ∧ r.2.mem ((c.tc : Thread Cert.AdamPaReferenceIdeal.nD Cert.AdamPaReferenceIdeal.τ).loc Cert.AdamPaReferenceIdeal.main_arg3) = m ((c.tc : Thread Cert.AdamPaReferenceIdeal.nD Cert.AdamPaReferenceIdeal.τ).loc Cert.AdamPaReferenceIdeal.main_arg3)
      ∧ r.2.mem ((c.tc : Thread Cert.AdamPaReferenceIdeal.nD Cert.AdamPaReferenceIdeal.τ).loc Cert.AdamPaReferenceIdeal.main_arg4) = m ((c.tc : Thread Cert.AdamPaReferenceIdeal.nD Cert.AdamPaReferenceIdeal.τ).loc Cert.AdamPaReferenceIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3)
      ∧ r.2.mem ((c.tc : Thread Cert.AdamConvReferenceIdeal.nD Cert.AdamConvReferenceIdeal.τ).loc Cert.AdamConvReferenceIdeal.main_arg4) = m ((c.tc : Thread Cert.AdamConvReferenceIdeal.nD Cert.AdamConvReferenceIdeal.τ).loc Cert.AdamConvReferenceIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v115)) (v2 : (c : Dev Cert.KernelIdeal.nD) → Buf (Elt Ideal) ((c.tc : Thread Cert.KernelIdeal.nD Cert.KernelIdeal.τ).loc Cert.KernelIdeal.main_v106)) (v3 : (c : Dev Cert.KernelIdeal.nD) → Buf (Elt Ideal) ((c.tc : Thread Cert.KernelIdeal.nD Cert.KernelIdeal.τ).loc Cert.KernelIdeal.main_v109)) (v4 : (c : Dev Cert.KernelIdeal.nD) → Buf (Elt Ideal) ((c.tc : Thread Cert.KernelIdeal.nD Cert.KernelIdeal.τ).loc Cert.KernelIdeal.main_v116)) (v5 : (c : Dev Cert.KernelIdeal.nD) → Buf (Elt Ideal) ((c.tc : Thread Cert.KernelIdeal.nD Cert.KernelIdeal.τ).loc Cert.KernelIdeal.main_v117)) (v6 : (c : Dev Cert.KernelIdeal.nD) → Buf (Elt Ideal) ((c.tc : Thread Cert.KernelIdeal.nD Cert.KernelIdeal.τ).loc Cert.KernelIdeal.main_v118)) (v7 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v115) = v1 c
          ∧ r.2.mem ((c.tc : Thread Cert.KernelIdeal.nD Cert.KernelIdeal.τ).loc Cert.KernelIdeal.main_v106) = v2 c
          ∧ r.2.mem ((c.tc : Thread Cert.KernelIdeal.nD Cert.KernelIdeal.τ).loc Cert.KernelIdeal.main_v109) = v3 c
          ∧ r.2.mem ((c.tc : Thread Cert.KernelIdeal.nD Cert.KernelIdeal.τ).loc Cert.KernelIdeal.main_v116) = v4 c
          ∧ r.2.mem ((c.tc : Thread Cert.KernelIdeal.nD Cert.KernelIdeal.τ).loc Cert.KernelIdeal.main_v117) = v5 c
          ∧ r.2.mem ((c.tc : Thread Cert.KernelIdeal.nD Cert.KernelIdeal.τ).loc Cert.KernelIdeal.main_v118) = v6 c
          ∧ r.2.mem ((c.tc : Thread Cert.KernelIdeal.nD Cert.KernelIdeal.τ).loc Cert.KernelIdeal.main_v119) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v35_7) = v2 c
          ∧ r.2.mem ((c.tc : Thread Cert.ReferenceIdeal.nD Cert.ReferenceIdeal.τ).loc Cert.ReferenceIdeal.main_v35_8) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_v37) = v5 c
          ∧ r.2.mem ((c.tc : Thread Cert.ReferenceIdeal.nD Cert.ReferenceIdeal.τ).loc Cert.ReferenceIdeal.main_v26) = v6 c
          ∧ r.2.mem ((c.tc : Thread Cert.ReferenceIdeal.nD Cert.ReferenceIdeal.τ).loc Cert.ReferenceIdeal.main_v22) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)) (v1 : (c : Dev Cert.OutIdeal.nD) → Buf (Elt Ideal) ((c.tc : Thread Cert.OutIdeal.nD Cert.OutIdeal.τ).loc Cert.OutIdeal.main_v3)) (v2 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_v3) = v1 c
          ∧ r.2.mem ((c.tc : Thread Cert.OutIdeal.nD Cert.OutIdeal.τ).loc Cert.OutIdeal.main_v5) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_v4) = v1 c
          ∧ r.2.mem ((c.tc : Thread Cert.OutReferenceIdeal.nD Cert.OutReferenceIdeal.τ).loc Cert.OutReferenceIdeal.main_v3) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)
      ∧ m' ((c.tc : Thread Cert.InReferenceIdeal.nD Cert.InReferenceIdeal.τ).loc Cert.InReferenceIdeal.main_arg5) = m ((c.tc : Thread Cert.InIdeal.nD Cert.InIdeal.τ).loc Cert.InIdeal.main_arg5)
      ∧ m' ((c.tc : Thread Cert.InReferenceIdeal.nD Cert.InReferenceIdeal.τ).loc Cert.InReferenceIdeal.main_arg6) = m ((c.tc : Thread Cert.InIdeal.nD Cert.InIdeal.τ).loc Cert.InIdeal.main_arg6)
      ∧ m' ((c.tc : Thread Cert.InReferenceIdeal.nD Cert.InReferenceIdeal.τ).loc Cert.InReferenceIdeal.main_arg7) = m ((c.tc : Thread Cert.InIdeal.nD Cert.InIdeal.τ).loc Cert.InIdeal.main_arg7)) →
    ∃ (v0 : (c : Dev Cert.InIdeal.nD) → Buf (Elt Ideal) ((c.tc : Thread Cert.InIdeal.nD Cert.InIdeal.τ).loc Cert.InIdeal.main_v10)) (v1 : (c : Dev Cert.InIdeal.nD) → Buf (Elt Ideal) ((c.tc : Thread Cert.InIdeal.nD Cert.InIdeal.τ).loc Cert.InIdeal.main_v11)) (v2 : (c : Dev Cert.InIdeal.nD) → Buf (Elt Ideal) ((c.tc : Thread Cert.InIdeal.nD Cert.InIdeal.τ).loc Cert.InIdeal.main_v12)) (v3 : (c : Dev Cert.InIdeal.nD) → Buf (Elt Ideal) ((c.tc : Thread Cert.InIdeal.nD Cert.InIdeal.τ).loc Cert.InIdeal.main_v13)) (v4 : (c : Dev Cert.InIdeal.nD) → Buf (Elt Ideal) ((c.tc : Thread Cert.InIdeal.nD Cert.InIdeal.τ).loc Cert.InIdeal.main_v18)) (v5 : (c : Dev Cert.InIdeal.nD) → Buf (Elt Ideal) ((c.tc : Thread Cert.InIdeal.nD Cert.InIdeal.τ).loc Cert.InIdeal.main_v20)) (v6 : (c : Dev Cert.InIdeal.nD) → Buf (Elt Ideal) ((c.tc : Thread Cert.InIdeal.nD Cert.InIdeal.τ).loc Cert.InIdeal.main_v22)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v10) = v0 c
          ∧ r.2.mem ((c.tc : Thread Cert.InIdeal.nD Cert.InIdeal.τ).loc Cert.InIdeal.main_v11) = v1 c
          ∧ r.2.mem ((c.tc : Thread Cert.InIdeal.nD Cert.InIdeal.τ).loc Cert.InIdeal.main_v12) = v2 c
          ∧ r.2.mem ((c.tc : Thread Cert.InIdeal.nD Cert.InIdeal.τ).loc Cert.InIdeal.main_v13) = v3 c
          ∧ r.2.mem ((c.tc : Thread Cert.InIdeal.nD Cert.InIdeal.τ).loc Cert.InIdeal.main_v18) = v4 c
          ∧ r.2.mem ((c.tc : Thread Cert.InIdeal.nD Cert.InIdeal.τ).loc Cert.InIdeal.main_v20) = v5 c
          ∧ r.2.mem ((c.tc : Thread Cert.InIdeal.nD Cert.InIdeal.τ).loc Cert.InIdeal.main_v22) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_v1) = v1 c
          ∧ r.2.mem ((c.tc : Thread Cert.InReferenceIdeal.nD Cert.InReferenceIdeal.τ).loc Cert.InReferenceIdeal.main_v2) = v2 c
          ∧ r.2.mem ((c.tc : Thread Cert.InReferenceIdeal.nD Cert.InReferenceIdeal.τ).loc Cert.InReferenceIdeal.main_v6) = v3 c
          ∧ r.2.mem ((c.tc : Thread Cert.InReferenceIdeal.nD Cert.InReferenceIdeal.τ).loc Cert.InReferenceIdeal.main_v8) = v4 c
          ∧ r.2.mem ((c.tc : Thread Cert.InReferenceIdeal.nD Cert.InReferenceIdeal.τ).loc Cert.InReferenceIdeal.main_v4) = v5 c
          ∧ r.2.mem ((c.tc : Thread Cert.InReferenceIdeal.nD Cert.InReferenceIdeal.τ).loc Cert.InReferenceIdeal.main_v10) = v6 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7))

def preserves_Branch_BranchIdeal : Prop :=
  True

def algebraic_BranchIdeal_BranchReferenceIdeal [hBranchIdeal : Cert.BranchIdeal.Facts] [hBranchReferenceIdeal : Cert.BranchReferenceIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchIdeal m →
    (∀ c : Dev Cert.BranchIdeal.nD,
      m' ((c.tc : Thread Cert.BranchReferenceIdeal.nD Cert.BranchReferenceIdeal.τ).loc Cert.BranchReferenceIdeal.main_arg0) = m ((c.tc : Thread Cert.BranchIdeal.nD Cert.BranchIdeal.τ).loc Cert.BranchIdeal.main_arg0)
      ∧ m' ((c.tc : Thread Cert.BranchReferenceIdeal.nD Cert.BranchReferenceIdeal.τ).loc Cert.BranchReferenceIdeal.main_arg1) = m ((c.tc : Thread Cert.BranchIdeal.nD Cert.BranchIdeal.τ).loc Cert.BranchIdeal.main_arg1)
      ∧ m' ((c.tc : Thread Cert.BranchReferenceIdeal.nD Cert.BranchReferenceIdeal.τ).loc Cert.BranchReferenceIdeal.main_arg2) = m ((c.tc : Thread Cert.BranchIdeal.nD Cert.BranchIdeal.τ).loc Cert.BranchIdeal.main_arg2)
      ∧ m' ((c.tc : Thread Cert.BranchReferenceIdeal.nD Cert.BranchReferenceIdeal.τ).loc Cert.BranchReferenceIdeal.main_arg3) = m ((c.tc : Thread Cert.BranchIdeal.nD Cert.BranchIdeal.τ).loc Cert.BranchIdeal.main_arg3)
      ∧ m' ((c.tc : Thread Cert.BranchReferenceIdeal.nD Cert.BranchReferenceIdeal.τ).loc Cert.BranchReferenceIdeal.main_arg4) = m ((c.tc : Thread Cert.BranchIdeal.nD Cert.BranchIdeal.τ).loc Cert.BranchIdeal.main_arg4)
      ∧ m' ((c.tc : Thread Cert.BranchReferenceIdeal.nD Cert.BranchReferenceIdeal.τ).loc Cert.BranchReferenceIdeal.main_arg5) = m ((c.tc : Thread Cert.BranchIdeal.nD Cert.BranchIdeal.τ).loc Cert.BranchIdeal.main_arg5)
      ∧ m' ((c.tc : Thread Cert.BranchReferenceIdeal.nD Cert.BranchReferenceIdeal.τ).loc Cert.BranchReferenceIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v5)) (v1 : (c : Dev Cert.BranchIdeal.nD) → Buf (Elt Ideal) ((c.tc : Thread Cert.BranchIdeal.nD Cert.BranchIdeal.τ).loc Cert.BranchIdeal.main_v6)) (v2 : (c : Dev Cert.BranchIdeal.nD) → Buf (Elt Ideal) ((c.tc : Thread Cert.BranchIdeal.nD Cert.BranchIdeal.τ).loc Cert.BranchIdeal.main_v7)) (v3 : (c : Dev Cert.BranchIdeal.nD) → Buf (Elt Ideal) ((c.tc : Thread Cert.BranchIdeal.nD Cert.BranchIdeal.τ).loc Cert.BranchIdeal.main_v11)) (v4 : (c : Dev Cert.BranchIdeal.nD) → Buf (Elt Ideal) ((c.tc : Thread Cert.BranchIdeal.nD Cert.BranchIdeal.τ).loc Cert.BranchIdeal.main_v9)) (v5 : (c : Dev Cert.BranchIdeal.nD) → Buf (Elt Ideal) ((c.tc : Thread Cert.BranchIdeal.nD Cert.BranchIdeal.τ).loc Cert.BranchIdeal.main_v12)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v5) = v0 c
          ∧ r.2.mem ((c.tc : Thread Cert.BranchIdeal.nD Cert.BranchIdeal.τ).loc Cert.BranchIdeal.main_v6) = v1 c
          ∧ r.2.mem ((c.tc : Thread Cert.BranchIdeal.nD Cert.BranchIdeal.τ).loc Cert.BranchIdeal.main_v7) = v2 c
          ∧ r.2.mem ((c.tc : Thread Cert.BranchIdeal.nD Cert.BranchIdeal.τ).loc Cert.BranchIdeal.main_v11) = v3 c
          ∧ r.2.mem ((c.tc : Thread Cert.BranchIdeal.nD Cert.BranchIdeal.τ).loc Cert.BranchIdeal.main_v9) = v4 c
          ∧ r.2.mem ((c.tc : Thread Cert.BranchIdeal.nD Cert.BranchIdeal.τ).loc Cert.BranchIdeal.main_v12) = v5 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v0) = v0 c
          ∧ r.2.mem ((c.tc : Thread Cert.BranchReferenceIdeal.nD Cert.BranchReferenceIdeal.τ).loc Cert.BranchReferenceIdeal.main_v1) = v1 c
          ∧ r.2.mem ((c.tc : Thread Cert.BranchReferenceIdeal.nD Cert.BranchReferenceIdeal.τ).loc Cert.BranchReferenceIdeal.main_v8) = v2 c
          ∧ r.2.mem ((c.tc : Thread Cert.BranchReferenceIdeal.nD Cert.BranchReferenceIdeal.τ).loc Cert.BranchReferenceIdeal.main_v6) = v3 c
          ∧ r.2.mem ((c.tc : Thread Cert.BranchReferenceIdeal.nD Cert.BranchReferenceIdeal.τ).loc Cert.BranchReferenceIdeal.main_v4) = v4 c
          ∧ r.2.mem ((c.tc : Thread Cert.BranchReferenceIdeal.nD Cert.BranchReferenceIdeal.τ).loc Cert.BranchReferenceIdeal.main_v3) = v5 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1)
          ∧ r.2.mem ((c.tc : Thread Cert.BranchReferenceIdeal.nD Cert.BranchReferenceIdeal.τ).loc Cert.BranchReferenceIdeal.main_arg2) = m' ((c.tc : Thread Cert.BranchReferenceIdeal.nD Cert.BranchReferenceIdeal.τ).loc Cert.BranchReferenceIdeal.main_arg2)
          ∧ r.2.mem ((c.tc : Thread Cert.BranchReferenceIdeal.nD Cert.BranchReferenceIdeal.τ).loc Cert.BranchReferenceIdeal.main_arg3) = m' ((c.tc : Thread Cert.BranchReferenceIdeal.nD Cert.BranchReferenceIdeal.τ).loc Cert.BranchReferenceIdeal.main_arg3)
          ∧ r.2.mem ((c.tc : Thread Cert.BranchReferenceIdeal.nD Cert.BranchReferenceIdeal.τ).loc Cert.BranchReferenceIdeal.main_arg4) = m' ((c.tc : Thread Cert.BranchReferenceIdeal.nD Cert.BranchReferenceIdeal.τ).loc Cert.BranchReferenceIdeal.main_arg4)
          ∧ r.2.mem ((c.tc : Thread Cert.BranchReferenceIdeal.nD Cert.BranchReferenceIdeal.τ).loc Cert.BranchReferenceIdeal.main_arg5) = m' ((c.tc : Thread Cert.BranchReferenceIdeal.nD Cert.BranchReferenceIdeal.τ).loc Cert.BranchReferenceIdeal.main_arg5)
          ∧ r.2.mem ((c.tc : Thread Cert.BranchReferenceIdeal.nD Cert.BranchReferenceIdeal.τ).loc Cert.BranchReferenceIdeal.main_arg6) = m' ((c.tc : Thread Cert.BranchReferenceIdeal.nD Cert.BranchReferenceIdeal.τ).loc Cert.BranchReferenceIdeal.main_arg6))

def preserves_Side_SideIdeal : Prop :=
  True

def algebraic_SideIdeal_SideReferenceIdeal [hSideIdeal : Cert.SideIdeal.Facts] [hSideReferenceIdeal : Cert.SideReferenceIdeal.Facts] : Prop :=
  ∀ (m : (ℓ : Loc Cert.SideIdeal.nD Cert.SideIdeal.τ Cert.SideIdeal.sig) → Buf (Elt Ideal) ℓ) (g : Dev Cert.SideIdeal.nD → PrngReg)
    (m' : (ℓ : Loc Cert.SideReferenceIdeal.nD Cert.SideReferenceIdeal.τ Cert.SideReferenceIdeal.sig) → Buf (Elt Ideal) ℓ) (g' : Dev Cert.SideReferenceIdeal.nD → PrngReg), Pre_SideIdeal m →
    (∀ c : Dev Cert.SideIdeal.nD,
      m' ((c.tc : Thread Cert.SideReferenceIdeal.nD Cert.SideReferenceIdeal.τ).loc Cert.SideReferenceIdeal.main_arg0) = m ((c.tc : Thread Cert.SideIdeal.nD Cert.SideIdeal.τ).loc Cert.SideIdeal.main_arg0)
      ∧ m' ((c.tc : Thread Cert.SideReferenceIdeal.nD Cert.SideReferenceIdeal.τ).loc Cert.SideReferenceIdeal.main_arg1) = m ((c.tc : Thread Cert.SideIdeal.nD Cert.SideIdeal.τ).loc Cert.SideIdeal.main_arg1)
      ∧ m' ((c.tc : Thread Cert.SideReferenceIdeal.nD Cert.SideReferenceIdeal.τ).loc Cert.SideReferenceIdeal.main_arg2) = m ((c.tc : Thread Cert.SideIdeal.nD Cert.SideIdeal.τ).loc Cert.SideIdeal.main_arg2)
      ∧ m' ((c.tc : Thread Cert.SideReferenceIdeal.nD Cert.SideReferenceIdeal.τ).loc Cert.SideReferenceIdeal.main_arg3) = m ((c.tc : Thread Cert.SideIdeal.nD Cert.SideIdeal.τ).loc Cert.SideIdeal.main_arg3)
      ∧ m' ((c.tc : Thread Cert.SideReferenceIdeal.nD Cert.SideReferenceIdeal.τ).loc Cert.SideReferenceIdeal.main_arg4) = m ((c.tc : Thread Cert.SideIdeal.nD Cert.SideIdeal.τ).loc Cert.SideIdeal.main_arg4)
      ∧ m' ((c.tc : Thread Cert.SideReferenceIdeal.nD Cert.SideReferenceIdeal.τ).loc Cert.SideReferenceIdeal.main_arg5) = m ((c.tc : Thread Cert.SideIdeal.nD Cert.SideIdeal.τ).loc Cert.SideIdeal.main_arg5)) →
    ∃ (v0 : (c : Dev Cert.SideIdeal.nD) → Buf (Elt Ideal) ((c.tc : Thread Cert.SideIdeal.nD Cert.SideIdeal.τ).loc Cert.SideIdeal.main_v7)) (v1 : (c : Dev Cert.SideIdeal.nD) → Buf (Elt Ideal) ((c.tc : Thread Cert.SideIdeal.nD Cert.SideIdeal.τ).loc Cert.SideIdeal.main_v8)) (v2 : (c : Dev Cert.SideIdeal.nD) → Buf (Elt Ideal) ((c.tc : Thread Cert.SideIdeal.nD Cert.SideIdeal.τ).loc Cert.SideIdeal.main_v9)) (v3 : (c : Dev Cert.SideIdeal.nD) → Buf (Elt Ideal) ((c.tc : Thread Cert.SideIdeal.nD Cert.SideIdeal.τ).loc Cert.SideIdeal.main_v12)),
      θ_run (Cert.SideIdeal.defs (F := Ideal)) (onTc (τ := Cert.SideIdeal.τ) (Cert.SideIdeal.main (F := Ideal))) ⟨m, fun _ => 0, g⟩ (fun r => ∀ c : Dev Cert.SideIdeal.nD,
          r.2.mem ((c.tc : Thread Cert.SideIdeal.nD Cert.SideIdeal.τ).loc Cert.SideIdeal.main_v7) = v0 c
          ∧ r.2.mem ((c.tc : Thread Cert.SideIdeal.nD Cert.SideIdeal.τ).loc Cert.SideIdeal.main_v8) = v1 c
          ∧ r.2.mem ((c.tc : Thread Cert.SideIdeal.nD Cert.SideIdeal.τ).loc Cert.SideIdeal.main_v9) = v2 c
          ∧ r.2.mem ((c.tc : Thread Cert.SideIdeal.nD Cert.SideIdeal.τ).loc Cert.SideIdeal.main_v12) = v3 c
          ∧ r.2.mem ((c.tc : Thread Cert.SideIdeal.nD Cert.SideIdeal.τ).loc Cert.SideIdeal.main_arg0) = m ((c.tc : Thread Cert.SideIdeal.nD Cert.SideIdeal.τ).loc Cert.SideIdeal.main_arg0)
          ∧ r.2.mem ((c.tc : Thread Cert.SideIdeal.nD Cert.SideIdeal.τ).loc Cert.SideIdeal.main_arg1) = m ((c.tc : Thread Cert.SideIdeal.nD Cert.SideIdeal.τ).loc Cert.SideIdeal.main_arg1)
          ∧ r.2.mem ((c.tc : Thread Cert.SideIdeal.nD Cert.SideIdeal.τ).loc Cert.SideIdeal.main_arg2) = m ((c.tc : Thread Cert.SideIdeal.nD Cert.SideIdeal.τ).loc Cert.SideIdeal.main_arg2)
          ∧ r.2.mem ((c.tc : Thread Cert.SideIdeal.nD Cert.SideIdeal.τ).loc Cert.SideIdeal.main_arg3) = m ((c.tc : Thread Cert.SideIdeal.nD Cert.SideIdeal.τ).loc Cert.SideIdeal.main_arg3)
          ∧ r.2.mem ((c.tc : Thread Cert.SideIdeal.nD Cert.SideIdeal.τ).loc Cert.SideIdeal.main_arg4) = m ((c.tc : Thread Cert.SideIdeal.nD Cert.SideIdeal.τ).loc Cert.SideIdeal.main_arg4)
          ∧ r.2.mem ((c.tc : Thread Cert.SideIdeal.nD Cert.SideIdeal.τ).loc Cert.SideIdeal.main_arg5) = m ((c.tc : Thread Cert.SideIdeal.nD Cert.SideIdeal.τ).loc Cert.SideIdeal.main_arg5))
      ∧ θ_run (Cert.SideReferenceIdeal.defs (F := Ideal)) (onTc (τ := Cert.SideReferenceIdeal.τ) (Cert.SideReferenceIdeal.main (F := Ideal))) ⟨m', fun _ => 0, g'⟩ (fun r => ∀ c : Dev Cert.SideReferenceIdeal.nD,
          r.2.mem ((c.tc : Thread Cert.SideReferenceIdeal.nD Cert.SideReferenceIdeal.τ).loc Cert.SideReferenceIdeal.main_v0) = v0 c
          ∧ r.2.mem ((c.tc : Thread Cert.SideReferenceIdeal.nD Cert.SideReferenceIdeal.τ).loc Cert.SideReferenceIdeal.main_v5) = v1 c
          ∧ r.2.mem ((c.tc : Thread Cert.SideReferenceIdeal.nD Cert.SideReferenceIdeal.τ).loc Cert.SideReferenceIdeal.main_v6) = v2 c
          ∧ r.2.mem ((c.tc : Thread Cert.SideReferenceIdeal.nD Cert.SideReferenceIdeal.τ).loc Cert.SideReferenceIdeal.main_v2) = v3 c
          ∧ r.2.mem ((c.tc : Thread Cert.SideReferenceIdeal.nD Cert.SideReferenceIdeal.τ).loc Cert.SideReferenceIdeal.main_arg0) = m' ((c.tc : Thread Cert.SideReferenceIdeal.nD Cert.SideReferenceIdeal.τ).loc Cert.SideReferenceIdeal.main_arg0)
          ∧ r.2.mem ((c.tc : Thread Cert.SideReferenceIdeal.nD Cert.SideReferenceIdeal.τ).loc Cert.SideReferenceIdeal.main_arg1) = m' ((c.tc : Thread Cert.SideReferenceIdeal.nD Cert.SideReferenceIdeal.τ).loc Cert.SideReferenceIdeal.main_arg1)
          ∧ r.2.mem ((c.tc : Thread Cert.SideReferenceIdeal.nD Cert.SideReferenceIdeal.τ).loc Cert.SideReferenceIdeal.main_arg2) = m' ((c.tc : Thread Cert.SideReferenceIdeal.nD Cert.SideReferenceIdeal.τ).loc Cert.SideReferenceIdeal.main_arg2)
          ∧ r.2.mem ((c.tc : Thread Cert.SideReferenceIdeal.nD Cert.SideReferenceIdeal.τ).loc Cert.SideReferenceIdeal.main_arg3) = m' ((c.tc : Thread Cert.SideReferenceIdeal.nD Cert.SideReferenceIdeal.τ).loc Cert.SideReferenceIdeal.main_arg3)
          ∧ r.2.mem ((c.tc : Thread Cert.SideReferenceIdeal.nD Cert.SideReferenceIdeal.τ).loc Cert.SideReferenceIdeal.main_arg4) = m' ((c.tc : Thread Cert.SideReferenceIdeal.nD Cert.SideReferenceIdeal.τ).loc Cert.SideReferenceIdeal.main_arg4)
          ∧ r.2.mem ((c.tc : Thread Cert.SideReferenceIdeal.nD Cert.SideReferenceIdeal.τ).loc Cert.SideReferenceIdeal.main_arg5) = m' ((c.tc : Thread Cert.SideReferenceIdeal.nD Cert.SideReferenceIdeal.τ).loc Cert.SideReferenceIdeal.main_arg5))

def preserves_DhQkv_DhQkvIdeal : Prop :=
  True

def algebraic_DhQkvIdeal_DhQkvReferenceIdeal [hDhQkvIdeal : Cert.DhQkvIdeal.Facts] [hDhQkvReferenceIdeal : Cert.DhQkvReferenceIdeal.Facts] : Prop :=
  ∀ (m : (ℓ : Loc Cert.DhQkvIdeal.nD Cert.DhQkvIdeal.τ Cert.DhQkvIdeal.sig) → Buf (Elt Ideal) ℓ) (g : Dev Cert.DhQkvIdeal.nD → PrngReg)
    (m' : (ℓ : Loc Cert.DhQkvReferenceIdeal.nD Cert.DhQkvReferenceIdeal.τ Cert.DhQkvReferenceIdeal.sig) → Buf (Elt Ideal) ℓ) (g' : Dev Cert.DhQkvReferenceIdeal.nD → PrngReg), Pre_DhQkvIdeal m →
    (∀ c : Dev Cert.DhQkvIdeal.nD,
      m' ((c.tc : Thread Cert.DhQkvReferenceIdeal.nD Cert.DhQkvReferenceIdeal.τ).loc Cert.DhQkvReferenceIdeal.main_arg0) = m ((c.tc : Thread Cert.DhQkvIdeal.nD Cert.DhQkvIdeal.τ).loc Cert.DhQkvIdeal.main_arg0)
      ∧ m' ((c.tc : Thread Cert.DhQkvReferenceIdeal.nD Cert.DhQkvReferenceIdeal.τ).loc Cert.DhQkvReferenceIdeal.main_arg1) = m ((c.tc : Thread Cert.DhQkvIdeal.nD Cert.DhQkvIdeal.τ).loc Cert.DhQkvIdeal.main_arg1)
      ∧ m' ((c.tc : Thread Cert.DhQkvReferenceIdeal.nD Cert.DhQkvReferenceIdeal.τ).loc Cert.DhQkvReferenceIdeal.main_arg2) = m ((c.tc : Thread Cert.DhQkvIdeal.nD Cert.DhQkvIdeal.τ).loc Cert.DhQkvIdeal.main_arg2)) →
    ∃ (v0 : (c : Dev Cert.DhQkvIdeal.nD) → Buf (Elt Ideal) ((c.tc : Thread Cert.DhQkvIdeal.nD Cert.DhQkvIdeal.τ).loc Cert.DhQkvIdeal.main_v3)),
      θ_run (Cert.DhQkvIdeal.defs (F := Ideal)) (onTc (τ := Cert.DhQkvIdeal.τ) (Cert.DhQkvIdeal.main (F := Ideal))) ⟨m, fun _ => 0, g⟩ (fun r => ∀ c : Dev Cert.DhQkvIdeal.nD,
          r.2.mem ((c.tc : Thread Cert.DhQkvIdeal.nD Cert.DhQkvIdeal.τ).loc Cert.DhQkvIdeal.main_v3) = v0 c
          ∧ r.2.mem ((c.tc : Thread Cert.DhQkvIdeal.nD Cert.DhQkvIdeal.τ).loc Cert.DhQkvIdeal.main_arg0) = m ((c.tc : Thread Cert.DhQkvIdeal.nD Cert.DhQkvIdeal.τ).loc Cert.DhQkvIdeal.main_arg0)
          ∧ r.2.mem ((c.tc : Thread Cert.DhQkvIdeal.nD Cert.DhQkvIdeal.τ).loc Cert.DhQkvIdeal.main_arg1) = m ((c.tc : Thread Cert.DhQkvIdeal.nD Cert.DhQkvIdeal.τ).loc Cert.DhQkvIdeal.main_arg1)
          ∧ r.2.mem ((c.tc : Thread Cert.DhQkvIdeal.nD Cert.DhQkvIdeal.τ).loc Cert.DhQkvIdeal.main_arg2) = m ((c.tc : Thread Cert.DhQkvIdeal.nD Cert.DhQkvIdeal.τ).loc Cert.DhQkvIdeal.main_arg2))
      ∧ θ_run (Cert.DhQkvReferenceIdeal.defs (F := Ideal)) (onTc (τ := Cert.DhQkvReferenceIdeal.τ) (Cert.DhQkvReferenceIdeal.main (F := Ideal))) ⟨m', fun _ => 0, g'⟩ (fun r => ∀ c : Dev Cert.DhQkvReferenceIdeal.nD,
          r.2.mem ((c.tc : Thread Cert.DhQkvReferenceIdeal.nD Cert.DhQkvReferenceIdeal.τ).loc Cert.DhQkvReferenceIdeal.main_v3) = v0 c
          ∧ r.2.mem ((c.tc : Thread Cert.DhQkvReferenceIdeal.nD Cert.DhQkvReferenceIdeal.τ).loc Cert.DhQkvReferenceIdeal.main_arg0) = m' ((c.tc : Thread Cert.DhQkvReferenceIdeal.nD Cert.DhQkvReferenceIdeal.τ).loc Cert.DhQkvReferenceIdeal.main_arg0)
          ∧ r.2.mem ((c.tc : Thread Cert.DhQkvReferenceIdeal.nD Cert.DhQkvReferenceIdeal.τ).loc Cert.DhQkvReferenceIdeal.main_arg1) = m' ((c.tc : Thread Cert.DhQkvReferenceIdeal.nD Cert.DhQkvReferenceIdeal.τ).loc Cert.DhQkvReferenceIdeal.main_arg1)
          ∧ r.2.mem ((c.tc : Thread Cert.DhQkvReferenceIdeal.nD Cert.DhQkvReferenceIdeal.τ).loc Cert.DhQkvReferenceIdeal.main_arg2) = m' ((c.tc : Thread Cert.DhQkvReferenceIdeal.nD Cert.DhQkvReferenceIdeal.τ).loc Cert.DhQkvReferenceIdeal.main_arg2))

def preserves_DhGate_DhGateIdeal : Prop :=
  True

def algebraic_DhGateIdeal_DhGateReferenceIdeal [hDhGateIdeal : Cert.DhGateIdeal.Facts] [hDhGateReferenceIdeal : Cert.DhGateReferenceIdeal.Facts] : Prop :=
  ∀ (m : (ℓ : Loc Cert.DhGateIdeal.nD Cert.DhGateIdeal.τ Cert.DhGateIdeal.sig) → Buf (Elt Ideal) ℓ) (g : Dev Cert.DhGateIdeal.nD → PrngReg)
    (m' : (ℓ : Loc Cert.DhGateReferenceIdeal.nD Cert.DhGateReferenceIdeal.τ Cert.DhGateReferenceIdeal.sig) → Buf (Elt Ideal) ℓ) (g' : Dev Cert.DhGateReferenceIdeal.nD → PrngReg), Pre_DhGateIdeal m →
    (∀ c : Dev Cert.DhGateIdeal.nD,
      m' ((c.tc : Thread Cert.DhGateReferenceIdeal.nD Cert.DhGateReferenceIdeal.τ).loc Cert.DhGateReferenceIdeal.main_arg0) = m ((c.tc : Thread Cert.DhGateIdeal.nD Cert.DhGateIdeal.τ).loc Cert.DhGateIdeal.main_arg0)
      ∧ m' ((c.tc : Thread Cert.DhGateReferenceIdeal.nD Cert.DhGateReferenceIdeal.τ).loc Cert.DhGateReferenceIdeal.main_arg1) = m ((c.tc : Thread Cert.DhGateIdeal.nD Cert.DhGateIdeal.τ).loc Cert.DhGateIdeal.main_arg1)
      ∧ m' ((c.tc : Thread Cert.DhGateReferenceIdeal.nD Cert.DhGateReferenceIdeal.τ).loc Cert.DhGateReferenceIdeal.main_arg2) = m ((c.tc : Thread Cert.DhGateIdeal.nD Cert.DhGateIdeal.τ).loc Cert.DhGateIdeal.main_arg2)) →
    ∃ (v0 : (c : Dev Cert.DhGateIdeal.nD) → Buf (Elt Ideal) ((c.tc : Thread Cert.DhGateIdeal.nD Cert.DhGateIdeal.τ).loc Cert.DhGateIdeal.main_v3)),
      θ_run (Cert.DhGateIdeal.defs (F := Ideal)) (onTc (τ := Cert.DhGateIdeal.τ) (Cert.DhGateIdeal.main (F := Ideal))) ⟨m, fun _ => 0, g⟩ (fun r => ∀ c : Dev Cert.DhGateIdeal.nD,
          r.2.mem ((c.tc : Thread Cert.DhGateIdeal.nD Cert.DhGateIdeal.τ).loc Cert.DhGateIdeal.main_v3) = v0 c
          ∧ r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
          ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1)
          ∧ r.2.mem ((c.tc : Thread Cert.DhGateIdeal.nD Cert.DhGateIdeal.τ).loc Cert.DhGateIdeal.main_arg2) = m ((c.tc : Thread Cert.DhGateIdeal.nD Cert.DhGateIdeal.τ).loc Cert.DhGateIdeal.main_arg2))
      ∧ θ_run (Cert.DhGateReferenceIdeal.defs (F := Ideal)) (onTc (τ := Cert.DhGateReferenceIdeal.τ) (Cert.DhGateReferenceIdeal.main (F := Ideal))) ⟨m', fun _ => 0, g'⟩ (fun r => ∀ c : Dev Cert.DhGateReferenceIdeal.nD,
          r.2.mem ((c.tc : Thread Cert.DhGateReferenceIdeal.nD Cert.DhGateReferenceIdeal.τ).loc Cert.DhGateReferenceIdeal.main_v3) = v0 c
          ∧ r.2.mem ((c.tc : Thread Cert.DhGateReferenceIdeal.nD Cert.DhGateReferenceIdeal.τ).loc Cert.DhGateReferenceIdeal.main_arg0) = m' ((c.tc : Thread Cert.DhGateReferenceIdeal.nD Cert.DhGateReferenceIdeal.τ).loc Cert.DhGateReferenceIdeal.main_arg0)
          ∧ r.2.mem ((c.tc : Thread Cert.DhGateReferenceIdeal.nD Cert.DhGateReferenceIdeal.τ).loc Cert.DhGateReferenceIdeal.main_arg1) = m' ((c.tc : Thread Cert.DhGateReferenceIdeal.nD Cert.DhGateReferenceIdeal.τ).loc Cert.DhGateReferenceIdeal.main_arg1)
          ∧ r.2.mem ((c.tc : Thread Cert.DhGateReferenceIdeal.nD Cert.DhGateReferenceIdeal.τ).loc Cert.DhGateReferenceIdeal.main_arg2) = m' ((c.tc : Thread Cert.DhGateReferenceIdeal.nD Cert.DhGateReferenceIdeal.τ).loc Cert.DhGateReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_v27) = v1 c
          ∧ r.2.mem ((c.tc : Thread Cert.MergeReferenceIdeal.nD Cert.MergeReferenceIdeal.τ).loc Cert.MergeReferenceIdeal.main_v28) = v2 c
          ∧ r.2.mem ((c.tc : Thread Cert.MergeReferenceIdeal.nD Cert.MergeReferenceIdeal.τ).loc Cert.MergeReferenceIdeal.main_v25) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)) (v2 : (c : Dev Cert.GluIdeal.nD) → Buf (Elt Ideal) ((c.tc : Thread Cert.GluIdeal.nD Cert.GluIdeal.τ).loc Cert.GluIdeal.main_v0_2)) (v3 : (c : Dev Cert.GluIdeal.nD) → Buf (Elt Ideal) ((c.tc : Thread Cert.GluIdeal.nD Cert.GluIdeal.τ).loc Cert.GluIdeal.main_v0_3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_v0_2) = v2 c
          ∧ r.2.mem ((c.tc : Thread Cert.GluIdeal.nD Cert.GluIdeal.τ).loc Cert.GluIdeal.main_v0_3) = v3 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v18) = v0 c
          ∧ r.2.mem ((c.tc : Thread Cert.GluReferenceIdeal.nD Cert.GluReferenceIdeal.τ).loc Cert.GluReferenceIdeal.main_v22) = v1 c
          ∧ r.2.mem ((c.tc : Thread Cert.GluReferenceIdeal.nD Cert.GluReferenceIdeal.τ).loc Cert.GluReferenceIdeal.main_v23) = v2 c
          ∧ r.2.mem ((c.tc : Thread Cert.GluReferenceIdeal.nD Cert.GluReferenceIdeal.τ).loc Cert.GluReferenceIdeal.main_v21) = v3 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v13) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3))

def preserves_GluFwd_GluFwdIdeal : Prop :=
  True

def algebraic_GluFwdIdeal_GluFwdReferenceIdeal [hGluFwdIdeal : Cert.GluFwdIdeal.Facts] [hGluFwdReferenceIdeal : Cert.GluFwdReferenceIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdReferenceIdeal.nD Cert.GluFwdReferenceIdeal.τ Cert.GluFwdReferenceIdeal.sig) → Buf (Elt Ideal) ℓ) (g' : Dev Cert.GluFwdReferenceIdeal.nD → PrngReg), Pre_GluFwdIdeal m →
    (∀ c : Dev Cert.GluFwdIdeal.nD,
      m' ((c.tc : Thread Cert.GluFwdReferenceIdeal.nD Cert.GluFwdReferenceIdeal.τ).loc Cert.GluFwdReferenceIdeal.main_arg0) = m ((c.tc : Thread Cert.GluFwdIdeal.nD Cert.GluFwdIdeal.τ).loc Cert.GluFwdIdeal.main_arg0)
      ∧ m' ((c.tc : Thread Cert.GluFwdReferenceIdeal.nD Cert.GluFwdReferenceIdeal.τ).loc Cert.GluFwdReferenceIdeal.main_arg1) = m ((c.tc : Thread Cert.GluFwdIdeal.nD Cert.GluFwdIdeal.τ).loc Cert.GluFwdIdeal.main_arg1)
      ∧ m' ((c.tc : Thread Cert.GluFwdReferenceIdeal.nD Cert.GluFwdReferenceIdeal.τ).loc Cert.GluFwdReferenceIdeal.main_arg2) = m ((c.tc : Thread Cert.GluFwdIdeal.nD Cert.GluFwdIdeal.τ).loc Cert.GluFwdIdeal.main_arg2)
      ∧ m' ((c.tc : Thread Cert.GluFwdReferenceIdeal.nD Cert.GluFwdReferenceIdeal.τ).loc Cert.GluFwdReferenceIdeal.main_arg3) = m ((c.tc : Thread Cert.GluFwdIdeal.nD Cert.GluFwdIdeal.τ).loc Cert.GluFwdIdeal.main_arg3)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ θ_run (Cert.GluFwdReferenceIdeal.defs (F := Ideal)) (onTc (τ := Cert.GluFwdReferenceIdeal.τ) (Cert.GluFwdReferenceIdeal.main (F := Ideal))) ⟨m', fun _ => 0, g'⟩ (fun r => ∀ c : Dev Cert.GluFwdReferenceIdeal.nD,
          r.2.mem ((c.tc : Thread Cert.GluFwdReferenceIdeal.nD Cert.GluFwdReferenceIdeal.τ).loc Cert.GluFwdReferenceIdeal.main_v11) = v0 c
          ∧ r.2.mem ((c.tc : Thread Cert.GluFwdReferenceIdeal.nD Cert.GluFwdReferenceIdeal.τ).loc Cert.GluFwdReferenceIdeal.main_arg0) = m' ((c.tc : Thread Cert.GluFwdReferenceIdeal.nD Cert.GluFwdReferenceIdeal.τ).loc Cert.GluFwdReferenceIdeal.main_arg0)
          ∧ r.2.mem ((c.tc : Thread Cert.GluFwdReferenceIdeal.nD Cert.GluFwdReferenceIdeal.τ).loc Cert.GluFwdReferenceIdeal.main_arg1) = m' ((c.tc : Thread Cert.GluFwdReferenceIdeal.nD Cert.GluFwdReferenceIdeal.τ).loc Cert.GluFwdReferenceIdeal.main_arg1)
          ∧ r.2.mem ((c.tc : Thread Cert.GluFwdReferenceIdeal.nD Cert.GluFwdReferenceIdeal.τ).loc Cert.GluFwdReferenceIdeal.main_arg2) = m' ((c.tc : Thread Cert.GluFwdReferenceIdeal.nD Cert.GluFwdReferenceIdeal.τ).loc Cert.GluFwdReferenceIdeal.main_arg2)
          ∧ r.2.mem ((c.tc : Thread Cert.GluFwdReferenceIdeal.nD Cert.GluFwdReferenceIdeal.τ).loc Cert.GluFwdReferenceIdeal.main_arg3) = m' ((c.tc : Thread Cert.GluFwdReferenceIdeal.nD Cert.GluFwdReferenceIdeal.τ).loc Cert.GluFwdReferenceIdeal.main_arg3))

def preserves_SkipFwd_SkipFwdIdeal : Prop :=
  True

def algebraic_SkipFwdIdeal_SkipFwdReferenceIdeal [hSkipFwdIdeal : Cert.SkipFwdIdeal.Facts] [hSkipFwdReferenceIdeal : Cert.SkipFwdReferenceIdeal.Facts] : Prop :=
  ∀ (m : (ℓ : Loc Cert.SkipFwdIdeal.nD Cert.SkipFwdIdeal.τ Cert.SkipFwdIdeal.sig) → Buf (Elt Ideal) ℓ) (g : Dev Cert.SkipFwdIdeal.nD → PrngReg)
    (m' : (ℓ : Loc Cert.SkipFwdReferenceIdeal.nD Cert.SkipFwdReferenceIdeal.τ Cert.SkipFwdReferenceIdeal.sig) → Buf (Elt Ideal) ℓ) (g' : Dev Cert.SkipFwdReferenceIdeal.nD → PrngReg), Pre_SkipFwdIdeal m →
    (∀ c : Dev Cert.SkipFwdIdeal.nD,
      m' ((c.tc : Thread Cert.SkipFwdReferenceIdeal.nD Cert.SkipFwdReferenceIdeal.τ).loc Cert.SkipFwdReferenceIdeal.main_arg0) = m ((c.tc : Thread Cert.SkipFwdIdeal.nD Cert.SkipFwdIdeal.τ).loc Cert.SkipFwdIdeal.main_arg0)
      ∧ m' ((c.tc : Thread Cert.SkipFwdReferenceIdeal.nD Cert.SkipFwdReferenceIdeal.τ).loc Cert.SkipFwdReferenceIdeal.main_arg1) = m ((c.tc : Thread Cert.SkipFwdIdeal.nD Cert.SkipFwdIdeal.τ).loc Cert.SkipFwdIdeal.main_arg1)
      ∧ m' ((c.tc : Thread Cert.SkipFwdReferenceIdeal.nD Cert.SkipFwdReferenceIdeal.τ).loc Cert.SkipFwdReferenceIdeal.main_arg2) = m ((c.tc : Thread Cert.SkipFwdIdeal.nD Cert.SkipFwdIdeal.τ).loc Cert.SkipFwdIdeal.main_arg2)
      ∧ m' ((c.tc : Thread Cert.SkipFwdReferenceIdeal.nD Cert.SkipFwdReferenceIdeal.τ).loc Cert.SkipFwdReferenceIdeal.main_arg3) = m ((c.tc : Thread Cert.SkipFwdIdeal.nD Cert.SkipFwdIdeal.τ).loc Cert.SkipFwdIdeal.main_arg3)) →
    ∃ (v0 : (c : Dev Cert.SkipFwdIdeal.nD) → Buf (Elt Ideal) ((c.tc : Thread Cert.SkipFwdIdeal.nD Cert.SkipFwdIdeal.τ).loc Cert.SkipFwdIdeal.main_v0)),
      θ_run (Cert.SkipFwdIdeal.defs (F := Ideal)) (onTc (τ := Cert.SkipFwdIdeal.τ) (Cert.SkipFwdIdeal.main (F := Ideal))) ⟨m, fun _ => 0, g⟩ (fun r => ∀ c : Dev Cert.SkipFwdIdeal.nD,
          r.2.mem ((c.tc : Thread Cert.SkipFwdIdeal.nD Cert.SkipFwdIdeal.τ).loc Cert.SkipFwdIdeal.main_v0) = v0 c
          ∧ r.2.mem ((c.tc : Thread Cert.SkipFwdIdeal.nD Cert.SkipFwdIdeal.τ).loc Cert.SkipFwdIdeal.main_arg0) = m ((c.tc : Thread Cert.SkipFwdIdeal.nD Cert.SkipFwdIdeal.τ).loc Cert.SkipFwdIdeal.main_arg0)
          ∧ r.2.mem ((c.tc : Thread Cert.SkipFwdIdeal.nD Cert.SkipFwdIdeal.τ).loc Cert.SkipFwdIdeal.main_arg1) = m ((c.tc : Thread Cert.SkipFwdIdeal.nD Cert.SkipFwdIdeal.τ).loc Cert.SkipFwdIdeal.main_arg1)
          ∧ r.2.mem ((c.tc : Thread Cert.SkipFwdIdeal.nD Cert.SkipFwdIdeal.τ).loc Cert.SkipFwdIdeal.main_arg2) = m ((c.tc : Thread Cert.SkipFwdIdeal.nD Cert.SkipFwdIdeal.τ).loc Cert.SkipFwdIdeal.main_arg2)
          ∧ r.2.mem ((c.tc : Thread Cert.SkipFwdIdeal.nD Cert.SkipFwdIdeal.τ).loc Cert.SkipFwdIdeal.main_arg3) = m ((c.tc : Thread Cert.SkipFwdIdeal.nD Cert.SkipFwdIdeal.τ).loc Cert.SkipFwdIdeal.main_arg3))
      ∧ θ_run (Cert.SkipFwdReferenceIdeal.defs (F := Ideal)) (onTc (τ := Cert.SkipFwdReferenceIdeal.τ) (Cert.SkipFwdReferenceIdeal.main (F := Ideal))) ⟨m', fun _ => 0, g'⟩ (fun r => ∀ c : Dev Cert.SkipFwdReferenceIdeal.nD,
          r.2.mem ((c.tc : Thread Cert.SkipFwdReferenceIdeal.nD Cert.SkipFwdReferenceIdeal.τ).loc Cert.SkipFwdReferenceIdeal.main_v16) = v0 c
          ∧ r.2.mem ((c.tc : Thread Cert.SkipFwdReferenceIdeal.nD Cert.SkipFwdReferenceIdeal.τ).loc Cert.SkipFwdReferenceIdeal.main_arg0) = m' ((c.tc : Thread Cert.SkipFwdReferenceIdeal.nD Cert.SkipFwdReferenceIdeal.τ).loc Cert.SkipFwdReferenceIdeal.main_arg0)
          ∧ r.2.mem ((c.tc : Thread Cert.SkipFwdReferenceIdeal.nD Cert.SkipFwdReferenceIdeal.τ).loc Cert.SkipFwdReferenceIdeal.main_arg1) = m' ((c.tc : Thread Cert.SkipFwdReferenceIdeal.nD Cert.SkipFwdReferenceIdeal.τ).loc Cert.SkipFwdReferenceIdeal.main_arg1)
          ∧ r.2.mem ((c.tc : Thread Cert.SkipFwdReferenceIdeal.nD Cert.SkipFwdReferenceIdeal.τ).loc Cert.SkipFwdReferenceIdeal.main_arg2) = m' ((c.tc : Thread Cert.SkipFwdReferenceIdeal.nD Cert.SkipFwdReferenceIdeal.τ).loc Cert.SkipFwdReferenceIdeal.main_arg2)
          ∧ r.2.mem ((c.tc : Thread Cert.SkipFwdReferenceIdeal.nD Cert.SkipFwdReferenceIdeal.τ).loc Cert.SkipFwdReferenceIdeal.main_arg3) = m' ((c.tc : Thread Cert.SkipFwdReferenceIdeal.nD Cert.SkipFwdReferenceIdeal.τ).loc Cert.SkipFwdReferenceIdeal.main_arg3))

def preserves_Skip_SkipIdeal : Prop :=
  True

def algebraic_SkipIdeal_SkipReferenceIdeal [hSkipIdeal : Cert.SkipIdeal.Facts] [hSkipReferenceIdeal : Cert.SkipReferenceIdeal.Facts] : Prop :=
  ∀ (m : (ℓ : Loc Cert.SkipIdeal.nD Cert.SkipIdeal.τ Cert.SkipIdeal.sig) → Buf (Elt Ideal) ℓ) (g : Dev Cert.SkipIdeal.nD → PrngReg)
    (m' : (ℓ : Loc Cert.SkipReferenceIdeal.nD Cert.SkipReferenceIdeal.τ Cert.SkipReferenceIdeal.sig) → Buf (Elt Ideal) ℓ) (g' : Dev Cert.SkipReferenceIdeal.nD → PrngReg), Pre_SkipIdeal m →
    (∀ c : Dev Cert.SkipIdeal.nD,
      m' ((c.tc : Thread Cert.SkipReferenceIdeal.nD Cert.SkipReferenceIdeal.τ).loc Cert.SkipReferenceIdeal.main_arg0) = m ((c.tc : Thread Cert.SkipIdeal.nD Cert.SkipIdeal.τ).loc Cert.SkipIdeal.main_arg0)
      ∧ m' ((c.tc : Thread Cert.SkipReferenceIdeal.nD Cert.SkipReferenceIdeal.τ).loc Cert.SkipReferenceIdeal.main_arg1) = m ((c.tc : Thread Cert.SkipIdeal.nD Cert.SkipIdeal.τ).loc Cert.SkipIdeal.main_arg1)
      ∧ m' ((c.tc : Thread Cert.SkipReferenceIdeal.nD Cert.SkipReferenceIdeal.τ).loc Cert.SkipReferenceIdeal.main_arg2) = m ((c.tc : Thread Cert.SkipIdeal.nD Cert.SkipIdeal.τ).loc Cert.SkipIdeal.main_arg2)
      ∧ m' ((c.tc : Thread Cert.SkipReferenceIdeal.nD Cert.SkipReferenceIdeal.τ).loc Cert.SkipReferenceIdeal.main_arg3) = m ((c.tc : Thread Cert.SkipIdeal.nD Cert.SkipIdeal.τ).loc Cert.SkipIdeal.main_arg3)
      ∧ m' ((c.tc : Thread Cert.SkipReferenceIdeal.nD Cert.SkipReferenceIdeal.τ).loc Cert.SkipReferenceIdeal.main_arg4) = m ((c.tc : Thread Cert.SkipIdeal.nD Cert.SkipIdeal.τ).loc Cert.SkipIdeal.main_arg4)) →
    ∃ (v0 : (c : Dev Cert.SkipIdeal.nD) → Buf (Elt Ideal) ((c.tc : Thread Cert.SkipIdeal.nD Cert.SkipIdeal.τ).loc Cert.SkipIdeal.main_v0_0)) (v1 : (c : Dev Cert.SkipIdeal.nD) → Buf (Elt Ideal) ((c.tc : Thread Cert.SkipIdeal.nD Cert.SkipIdeal.τ).loc Cert.SkipIdeal.main_v0_1)) (v2 : (c : Dev Cert.SkipIdeal.nD) → Buf (Elt Ideal) ((c.tc : Thread Cert.SkipIdeal.nD Cert.SkipIdeal.τ).loc Cert.SkipIdeal.main_v0_2)),
      θ_run (Cert.SkipIdeal.defs (F := Ideal)) (onTc (τ := Cert.SkipIdeal.τ) (Cert.SkipIdeal.main (F := Ideal))) ⟨m, fun _ => 0, g⟩ (fun r => ∀ c : Dev Cert.SkipIdeal.nD,
          r.2.mem ((c.tc : Thread Cert.SkipIdeal.nD Cert.SkipIdeal.τ).loc Cert.SkipIdeal.main_v0_0) = v0 c
          ∧ r.2.mem ((c.tc : Thread Cert.SkipIdeal.nD Cert.SkipIdeal.τ).loc Cert.SkipIdeal.main_v0_1) = v1 c
          ∧ r.2.mem ((c.tc : Thread Cert.SkipIdeal.nD Cert.SkipIdeal.τ).loc Cert.SkipIdeal.main_v0_2) = v2 c
          ∧ r.2.mem ((c.tc : Thread Cert.SkipIdeal.nD Cert.SkipIdeal.τ).loc Cert.SkipIdeal.main_arg0) = m ((c.tc : Thread Cert.SkipIdeal.nD Cert.SkipIdeal.τ).loc Cert.SkipIdeal.main_arg0)
          ∧ r.2.mem ((c.tc : Thread Cert.SkipIdeal.nD Cert.SkipIdeal.τ).loc Cert.SkipIdeal.main_arg1) = m ((c.tc : Thread Cert.SkipIdeal.nD Cert.SkipIdeal.τ).loc Cert.SkipIdeal.main_arg1)
          ∧ r.2.mem ((c.tc : Thread Cert.SkipIdeal.nD Cert.SkipIdeal.τ).loc Cert.SkipIdeal.main_arg2) = m ((c.tc : Thread Cert.SkipIdeal.nD Cert.SkipIdeal.τ).loc Cert.SkipIdeal.main_arg2)
          ∧ r.2.mem ((c.tc : Thread Cert.SkipIdeal.nD Cert.SkipIdeal.τ).loc Cert.SkipIdeal.main_arg3) = m ((c.tc : Thread Cert.SkipIdeal.nD Cert.SkipIdeal.τ).loc Cert.SkipIdeal.main_arg3)
          ∧ r.2.mem ((c.tc : Thread Cert.SkipIdeal.nD Cert.SkipIdeal.τ).loc Cert.SkipIdeal.main_arg4) = m ((c.tc : Thread Cert.SkipIdeal.nD Cert.SkipIdeal.τ).loc Cert.SkipIdeal.main_arg4))
      ∧ θ_run (Cert.SkipReferenceIdeal.defs (F := Ideal)) (onTc (τ := Cert.SkipReferenceIdeal.τ) (Cert.SkipReferenceIdeal.main (F := Ideal))) ⟨m', fun _ => 0, g'⟩ (fun r => ∀ c : Dev Cert.SkipReferenceIdeal.nD,
          r.2.mem ((c.tc : Thread Cert.SkipReferenceIdeal.nD Cert.SkipReferenceIdeal.τ).loc Cert.SkipReferenceIdeal.main_v42) = v0 c
          ∧ r.2.mem ((c.tc : Thread Cert.SkipReferenceIdeal.nD Cert.SkipReferenceIdeal.τ).loc Cert.SkipReferenceIdeal.main_v41) = v1 c
          ∧ r.2.mem ((c.tc : Thread Cert.SkipReferenceIdeal.nD Cert.SkipReferenceIdeal.τ).loc Cert.SkipReferenceIdeal.main_v39) = v2 c
          ∧ r.2.mem ((c.tc : Thread Cert.SkipReferenceIdeal.nD Cert.SkipReferenceIdeal.τ).loc Cert.SkipReferenceIdeal.main_arg0) = m' ((c.tc : Thread Cert.SkipReferenceIdeal.nD Cert.SkipReferenceIdeal.τ).loc Cert.SkipReferenceIdeal.main_arg0)
          ∧ r.2.mem ((c.tc : Thread Cert.SkipReferenceIdeal.nD Cert.SkipReferenceIdeal.τ).loc Cert.SkipReferenceIdeal.main_arg1) = m' ((c.tc : Thread Cert.SkipReferenceIdeal.nD Cert.SkipReferenceIdeal.τ).loc Cert.SkipReferenceIdeal.main_arg1)
          ∧ r.2.mem ((c.tc : Thread Cert.SkipReferenceIdeal.nD Cert.SkipReferenceIdeal.τ).loc Cert.SkipReferenceIdeal.main_arg2) = m' ((c.tc : Thread Cert.SkipReferenceIdeal.nD Cert.SkipReferenceIdeal.τ).loc Cert.SkipReferenceIdeal.main_arg2)
          ∧ r.2.mem ((c.tc : Thread Cert.SkipReferenceIdeal.nD Cert.SkipReferenceIdeal.τ).loc Cert.SkipReferenceIdeal.main_arg3) = m' ((c.tc : Thread Cert.SkipReferenceIdeal.nD Cert.SkipReferenceIdeal.τ).loc Cert.SkipReferenceIdeal.main_arg3)
          ∧ r.2.mem ((c.tc : Thread Cert.SkipReferenceIdeal.nD Cert.SkipReferenceIdeal.τ).loc Cert.SkipReferenceIdeal.main_arg4) = m' ((c.tc : Thread Cert.SkipReferenceIdeal.nD Cert.SkipReferenceIdeal.τ).loc Cert.SkipReferenceIdeal.main_arg4))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v12) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v34) = v0 c
          ∧ r.2.mem ((c.tc : Thread Cert.NormReferenceIdeal.nD Cert.NormReferenceIdeal.τ).loc Cert.NormReferenceIdeal.main_v17) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_AdamGlu_AdamGluIdeal : Prop :=
  True

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)
      ∧ m' ((c.tc : Thread Cert.AdamGluReferenceIdeal.nD Cert.AdamGluReferenceIdeal.τ).loc Cert.AdamGluReferenceIdeal.main_arg4) = m ((c.tc : Thread Cert.AdamGluIdeal.nD Cert.AdamGluIdeal.τ).loc Cert.AdamGluIdeal.main_arg4)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v0) = v0 c
          ∧ r.2.mem ((c.tc : Thread Cert.AdamGluReferenceIdeal.nD Cert.AdamGluReferenceIdeal.τ).loc Cert.AdamGluReferenceIdeal.main_v24) = v1 c
          ∧ r.2.mem ((c.tc : Thread Cert.AdamGluReferenceIdeal.nD Cert.AdamGluReferenceIdeal.τ).loc Cert.AdamGluReferenceIdeal.main_v5) = v2 c
          ∧ r.2.mem ((c.tc : Thread Cert.AdamGluReferenceIdeal.nD Cert.AdamGluReferenceIdeal.τ).loc Cert.AdamGluReferenceIdeal.main_v11) = v3 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3)
          ∧ r.2.mem ((c.tc : Thread Cert.AdamGluReferenceIdeal.nD Cert.AdamGluReferenceIdeal.τ).loc Cert.AdamGluReferenceIdeal.main_arg4) = m' ((c.tc : Thread Cert.AdamGluReferenceIdeal.nD Cert.AdamGluReferenceIdeal.τ).loc Cert.AdamGluReferenceIdeal.main_arg4))

def preserves_AdamPa_AdamPaIdeal : Prop :=
  True

def algebraic_AdamPaIdeal_AdamPaReferenceIdeal [hAdamPaIdeal : Cert.AdamPaIdeal.Facts] [hAdamPaReferenceIdeal : Cert.AdamPaReferenceIdeal.Facts] : Prop :=
  ∀ (m : (ℓ : Loc Cert.AdamPaIdeal.nD Cert.AdamPaIdeal.τ Cert.AdamPaIdeal.sig) → Buf (Elt Ideal) ℓ) (g : Dev Cert.AdamPaIdeal.nD → PrngReg)
    (m' : (ℓ : Loc Cert.AdamPaReferenceIdeal.nD Cert.AdamPaReferenceIdeal.τ Cert.AdamPaReferenceIdeal.sig) → Buf (Elt Ideal) ℓ) (g' : Dev Cert.AdamPaReferenceIdeal.nD → PrngReg), Pre_AdamPaIdeal m →
    (∀ c : Dev Cert.AdamPaIdeal.nD,
      m' ((c.tc : Thread Cert.AdamPaReferenceIdeal.nD Cert.AdamPaReferenceIdeal.τ).loc Cert.AdamPaReferenceIdeal.main_arg0) = m ((c.tc : Thread Cert.AdamPaIdeal.nD Cert.AdamPaIdeal.τ).loc Cert.AdamPaIdeal.main_arg0)
      ∧ m' ((c.tc : Thread Cert.AdamPaReferenceIdeal.nD Cert.AdamPaReferenceIdeal.τ).loc Cert.AdamPaReferenceIdeal.main_arg1) = m ((c.tc : Thread Cert.AdamPaIdeal.nD Cert.AdamPaIdeal.τ).loc Cert.AdamPaIdeal.main_arg1)
      ∧ m' ((c.tc : Thread Cert.AdamPaReferenceIdeal.nD Cert.AdamPaReferenceIdeal.τ).loc Cert.AdamPaReferenceIdeal.main_arg2) = m ((c.tc : Thread Cert.AdamPaIdeal.nD Cert.AdamPaIdeal.τ).loc Cert.AdamPaIdeal.main_arg2)
      ∧ m' ((c.tc : Thread Cert.AdamPaReferenceIdeal.nD Cert.AdamPaReferenceIdeal.τ).loc Cert.AdamPaReferenceIdeal.main_arg3) = m ((c.tc : Thread Cert.AdamPaIdeal.nD Cert.AdamPaIdeal.τ).loc Cert.AdamPaIdeal.main_arg3)
      ∧ m' ((c.tc : Thread Cert.AdamPaReferenceIdeal.nD Cert.AdamPaReferenceIdeal.τ).loc Cert.AdamPaReferenceIdeal.main_arg4) = m ((c.tc : Thread Cert.AdamPaIdeal.nD Cert.AdamPaIdeal.τ).loc Cert.AdamPaIdeal.main_arg4)) →
    ∃ (v0 : (c : Dev Cert.AdamPaIdeal.nD) → Buf (Elt Ideal) ((c.tc : Thread Cert.AdamPaIdeal.nD Cert.AdamPaIdeal.τ).loc Cert.AdamPaIdeal.main_v0_0)) (v1 : (c : Dev Cert.AdamPaIdeal.nD) → Buf (Elt Ideal) ((c.tc : Thread Cert.AdamPaIdeal.nD Cert.AdamPaIdeal.τ).loc Cert.AdamPaIdeal.main_v0_1)) (v2 : (c : Dev Cert.AdamPaIdeal.nD) → Buf (Elt Ideal) ((c.tc : Thread Cert.AdamPaIdeal.nD Cert.AdamPaIdeal.τ).loc Cert.AdamPaIdeal.main_v0_2)) (v3 : (c : Dev Cert.AdamPaIdeal.nD) → Buf (Elt Ideal) ((c.tc : Thread Cert.AdamPaIdeal.nD Cert.AdamPaIdeal.τ).loc Cert.AdamPaIdeal.main_v0_3)),
      θ_run (Cert.AdamPaIdeal.defs (F := Ideal)) (onTc (τ := Cert.AdamPaIdeal.τ) (Cert.AdamPaIdeal.main (F := Ideal))) ⟨m, fun _ => 0, g⟩ (fun r => ∀ c : Dev Cert.AdamPaIdeal.nD,
          r.2.mem ((c.tc : Thread Cert.AdamPaIdeal.nD Cert.AdamPaIdeal.τ).loc Cert.AdamPaIdeal.main_v0_0) = v0 c
          ∧ r.2.mem ((c.tc : Thread Cert.AdamPaIdeal.nD Cert.AdamPaIdeal.τ).loc Cert.AdamPaIdeal.main_v0_1) = v1 c
          ∧ r.2.mem ((c.tc : Thread Cert.AdamPaIdeal.nD Cert.AdamPaIdeal.τ).loc Cert.AdamPaIdeal.main_v0_2) = v2 c
          ∧ r.2.mem ((c.tc : Thread Cert.AdamPaIdeal.nD Cert.AdamPaIdeal.τ).loc Cert.AdamPaIdeal.main_v0_3) = v3 c
          ∧ r.2.mem ((c.tc : Thread Cert.AdamPaIdeal.nD Cert.AdamPaIdeal.τ).loc Cert.AdamPaIdeal.main_arg0) = m ((c.tc : Thread Cert.AdamPaIdeal.nD Cert.AdamPaIdeal.τ).loc Cert.AdamPaIdeal.main_arg0)
          ∧ r.2.mem ((c.tc : Thread Cert.AdamPaIdeal.nD Cert.AdamPaIdeal.τ).loc Cert.AdamPaIdeal.main_arg1) = m ((c.tc : Thread Cert.AdamPaIdeal.nD Cert.AdamPaIdeal.τ).loc Cert.AdamPaIdeal.main_arg1)
          ∧ r.2.mem ((c.tc : Thread Cert.AdamPaIdeal.nD Cert.AdamPaIdeal.τ).loc Cert.AdamPaIdeal.main_arg2) = m ((c.tc : Thread Cert.AdamPaIdeal.nD Cert.AdamPaIdeal.τ).loc Cert.AdamPaIdeal.main_arg2)
          ∧ r.2.mem ((c.tc : Thread Cert.AdamPaIdeal.nD Cert.AdamPaIdeal.τ).loc Cert.AdamPaIdeal.main_arg3) = m ((c.tc : Thread Cert.AdamPaIdeal.nD Cert.AdamPaIdeal.τ).loc Cert.AdamPaIdeal.main_arg3)
          ∧ r.2.mem ((c.tc : Thread Cert.AdamPaIdeal.nD Cert.AdamPaIdeal.τ).loc Cert.AdamPaIdeal.main_arg4) = m ((c.tc : Thread Cert.AdamPaIdeal.nD Cert.AdamPaIdeal.τ).loc Cert.AdamPaIdeal.main_arg4))
      ∧ θ_run (Cert.AdamPaReferenceIdeal.defs (F := Ideal)) (onTc (τ := Cert.AdamPaReferenceIdeal.τ) (Cert.AdamPaReferenceIdeal.main (F := Ideal))) ⟨m', fun _ => 0, g'⟩ (fun r => ∀ c : Dev Cert.AdamPaReferenceIdeal.nD,
          r.2.mem ((c.tc : Thread Cert.AdamPaReferenceIdeal.nD Cert.AdamPaReferenceIdeal.τ).loc Cert.AdamPaReferenceIdeal.main_v0) = v0 c
          ∧ r.2.mem ((c.tc : Thread Cert.AdamPaReferenceIdeal.nD Cert.AdamPaReferenceIdeal.τ).loc Cert.AdamPaReferenceIdeal.main_v24) = v1 c
          ∧ r.2.mem ((c.tc : Thread Cert.AdamPaReferenceIdeal.nD Cert.AdamPaReferenceIdeal.τ).loc Cert.AdamPaReferenceIdeal.main_v5) = v2 c
          ∧ r.2.mem ((c.tc : Thread Cert.AdamPaReferenceIdeal.nD Cert.AdamPaReferenceIdeal.τ).loc Cert.AdamPaReferenceIdeal.main_v11) = v3 c
          ∧ r.2.mem ((c.tc : Thread Cert.AdamPaReferenceIdeal.nD Cert.AdamPaReferenceIdeal.τ).loc Cert.AdamPaReferenceIdeal.main_arg0) = m' ((c.tc : Thread Cert.AdamPaReferenceIdeal.nD Cert.AdamPaReferenceIdeal.τ).loc Cert.AdamPaReferenceIdeal.main_arg0)
          ∧ r.2.mem ((c.tc : Thread Cert.AdamPaReferenceIdeal.nD Cert.AdamPaReferenceIdeal.τ).loc Cert.AdamPaReferenceIdeal.main_arg1) = m' ((c.tc : Thread Cert.AdamPaReferenceIdeal.nD Cert.AdamPaReferenceIdeal.τ).loc Cert.AdamPaReferenceIdeal.main_arg1)
          ∧ r.2.mem ((c.tc : Thread Cert.AdamPaReferenceIdeal.nD Cert.AdamPaReferenceIdeal.τ).loc Cert.AdamPaReferenceIdeal.main_arg2) = m' ((c.tc : Thread Cert.AdamPaReferenceIdeal.nD Cert.AdamPaReferenceIdeal.τ).loc Cert.AdamPaReferenceIdeal.main_arg2)
          ∧ r.2.mem ((c.tc : Thread Cert.AdamPaReferenceIdeal.nD Cert.AdamPaReferenceIdeal.τ).loc Cert.AdamPaReferenceIdeal.main_arg3) = m' ((c.tc : Thread Cert.AdamPaReferenceIdeal.nD Cert.AdamPaReferenceIdeal.τ).loc Cert.AdamPaReferenceIdeal.main_arg3)
          ∧ r.2.mem ((c.tc : Thread Cert.AdamPaReferenceIdeal.nD Cert.AdamPaReferenceIdeal.τ).loc Cert.AdamPaReferenceIdeal.main_arg4) = m' ((c.tc : Thread Cert.AdamPaReferenceIdeal.nD Cert.AdamPaReferenceIdeal.τ).loc Cert.AdamPaReferenceIdeal.main_arg4))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v0) = v0 c
          ∧ r.2.mem ((c.tc : Thread Cert.AdamOutReferenceIdeal.nD Cert.AdamOutReferenceIdeal.τ).loc Cert.AdamOutReferenceIdeal.main_v24) = v1 c
          ∧ r.2.mem ((c.tc : Thread Cert.AdamOutReferenceIdeal.nD Cert.AdamOutReferenceIdeal.τ).loc Cert.AdamOutReferenceIdeal.main_v5) = v2 c
          ∧ r.2.mem ((c.tc : Thread Cert.AdamOutReferenceIdeal.nD Cert.AdamOutReferenceIdeal.τ).loc Cert.AdamOutReferenceIdeal.main_v11) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v0) = v0 c
          ∧ r.2.mem ((c.tc : Thread Cert.AdamInReferenceIdeal.nD Cert.AdamInReferenceIdeal.τ).loc Cert.AdamInReferenceIdeal.main_v24) = v1 c
          ∧ r.2.mem ((c.tc : Thread Cert.AdamInReferenceIdeal.nD Cert.AdamInReferenceIdeal.τ).loc Cert.AdamInReferenceIdeal.main_v5) = v2 c
          ∧ r.2.mem ((c.tc : Thread Cert.AdamInReferenceIdeal.nD Cert.AdamInReferenceIdeal.τ).loc Cert.AdamInReferenceIdeal.main_v11) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)
      ∧ m' ((c.tc : Thread Cert.AdamConvReferenceIdeal.nD Cert.AdamConvReferenceIdeal.τ).loc Cert.AdamConvReferenceIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v0) = v0 c
          ∧ r.2.mem ((c.tc : Thread Cert.AdamConvReferenceIdeal.nD Cert.AdamConvReferenceIdeal.τ).loc Cert.AdamConvReferenceIdeal.main_v24) = v1 c
          ∧ r.2.mem ((c.tc : Thread Cert.AdamConvReferenceIdeal.nD Cert.AdamConvReferenceIdeal.τ).loc Cert.AdamConvReferenceIdeal.main_v5) = v2 c
          ∧ r.2.mem ((c.tc : Thread Cert.AdamConvReferenceIdeal.nD Cert.AdamConvReferenceIdeal.τ).loc Cert.AdamConvReferenceIdeal.main_v11) = v3 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3)
          ∧ r.2.mem ((c.tc : Thread Cert.AdamConvReferenceIdeal.nD Cert.AdamConvReferenceIdeal.τ).loc Cert.AdamConvReferenceIdeal.main_arg4) = m' ((c.tc : Thread Cert.AdamConvReferenceIdeal.nD Cert.AdamConvReferenceIdeal.τ).loc Cert.AdamConvReferenceIdeal.main_arg4))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_arg1) = v0 c
          ∧ r.2.mem ((c.tc : Thread Cert.AdamSmallReferenceIdeal.nD Cert.AdamSmallReferenceIdeal.τ).loc Cert.AdamSmallReferenceIdeal.main_v23) = v1 c
          ∧ r.2.mem ((c.tc : Thread Cert.AdamSmallReferenceIdeal.nD Cert.AdamSmallReferenceIdeal.τ).loc Cert.AdamSmallReferenceIdeal.main_v4) = v2 c
          ∧ r.2.mem ((c.tc : Thread Cert.AdamSmallReferenceIdeal.nD Cert.AdamSmallReferenceIdeal.τ).loc Cert.AdamSmallReferenceIdeal.main_v10) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v48) = v0 c
          ∧ r.2.mem ((c.tc : Thread Cert.LossReferenceIdeal.nD Cert.LossReferenceIdeal.τ).loc Cert.LossReferenceIdeal.main_v32) = v1 c
          ∧ r.2.mem ((c.tc : Thread Cert.LossReferenceIdeal.nD Cert.LossReferenceIdeal.τ).loc Cert.LossReferenceIdeal.main_v49) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hBranch : Cert.Branch.Facts) (hBranchIdeal : Cert.BranchIdeal.Facts) (hBranchReferenceIdeal : Cert.BranchReferenceIdeal.Facts) (hSide : Cert.Side.Facts) (hSideIdeal : Cert.SideIdeal.Facts) (hSideReferenceIdeal : Cert.SideReferenceIdeal.Facts) (hDhQkv : Cert.DhQkv.Facts) (hDhQkvIdeal : Cert.DhQkvIdeal.Facts) (hDhQkvReferenceIdeal : Cert.DhQkvReferenceIdeal.Facts) (hDhGate : Cert.DhGate.Facts) (hDhGateIdeal : Cert.DhGateIdeal.Facts) (hDhGateReferenceIdeal : Cert.DhGateReferenceIdeal.Facts) (hMerge : Cert.Merge.Facts) (hMergeIdeal : Cert.MergeIdeal.Facts) (hMergeReferenceIdeal : Cert.MergeReferenceIdeal.Facts) (hGlu : Cert.Glu.Facts) (hGluIdeal : Cert.GluIdeal.Facts) (hGluReferenceIdeal : Cert.GluReferenceIdeal.Facts) (hMergeFwd : Cert.MergeFwd.Facts) (hMergeFwdIdeal : Cert.MergeFwdIdeal.Facts) (hMergeFwdReferenceIdeal : Cert.MergeFwdReferenceIdeal.Facts) (hGluFwd : Cert.GluFwd.Facts) (hGluFwdIdeal : Cert.GluFwdIdeal.Facts) (hGluFwdReferenceIdeal : Cert.GluFwdReferenceIdeal.Facts) (hSkipFwd : Cert.SkipFwd.Facts) (hSkipFwdIdeal : Cert.SkipFwdIdeal.Facts) (hSkipFwdReferenceIdeal : Cert.SkipFwdReferenceIdeal.Facts) (hSkip : Cert.Skip.Facts) (hSkipIdeal : Cert.SkipIdeal.Facts) (hSkipReferenceIdeal : Cert.SkipReferenceIdeal.Facts) (hNormFwd : Cert.NormFwd.Facts) (hNormFwdIdeal : Cert.NormFwdIdeal.Facts) (hNormFwdReferenceIdeal : Cert.NormFwdReferenceIdeal.Facts) (hNorm : Cert.Norm.Facts) (hNormIdeal : Cert.NormIdeal.Facts) (hNormReferenceIdeal : Cert.NormReferenceIdeal.Facts) (hAdamGlu : Cert.AdamGlu.Facts) (hAdamGluIdeal : Cert.AdamGluIdeal.Facts) (hAdamGluReferenceIdeal : Cert.AdamGluReferenceIdeal.Facts) (hAdamPa : Cert.AdamPa.Facts) (hAdamPaIdeal : Cert.AdamPaIdeal.Facts) (hAdamPaReferenceIdeal : Cert.AdamPaReferenceIdeal.Facts) (hAdamOut : Cert.AdamOut.Facts) (hAdamOutIdeal : Cert.AdamOutIdeal.Facts) (hAdamOutReferenceIdeal : Cert.AdamOutReferenceIdeal.Facts) (hAdamIn : Cert.AdamIn.Facts) (hAdamInIdeal : Cert.AdamInIdeal.Facts) (hAdamInReferenceIdeal : Cert.AdamInReferenceIdeal.Facts) (hAdamConv : Cert.AdamConv.Facts) (hAdamConvIdeal : Cert.AdamConvIdeal.Facts) (hAdamConvReferenceIdeal : Cert.AdamConvReferenceIdeal.Facts) (hAdamSmall : Cert.AdamSmall.Facts) (hAdamSmallIdeal : Cert.AdamSmallIdeal.Facts) (hAdamSmallReferenceIdeal : Cert.AdamSmallReferenceIdeal.Facts) (hLoss : Cert.Loss.Facts) (hLossIdeal : Cert.LossIdeal.Facts) (hLossReferenceIdeal : Cert.LossReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ quiescent_Branch (hBranch := hBranch)
    ∧ quiescent_BranchIdeal (hBranchIdeal := hBranchIdeal)
    ∧ quiescent_BranchReferenceIdeal (hBranchReferenceIdeal := hBranchReferenceIdeal)
    ∧ quiescent_Side (hSide := hSide)
    ∧ quiescent_SideIdeal (hSideIdeal := hSideIdeal)
    ∧ quiescent_SideReferenceIdeal (hSideReferenceIdeal := hSideReferenceIdeal)
    ∧ quiescent_DhQkv (hDhQkv := hDhQkv)
    ∧ quiescent_DhQkvIdeal (hDhQkvIdeal := hDhQkvIdeal)
    ∧ quiescent_DhQkvReferenceIdeal (hDhQkvReferenceIdeal := hDhQkvReferenceIdeal)
    ∧ quiescent_DhGate (hDhGate := hDhGate)
    ∧ quiescent_DhGateIdeal (hDhGateIdeal := hDhGateIdeal)
    ∧ quiescent_DhGateReferenceIdeal (hDhGateReferenceIdeal := hDhGateReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_GluFwd (hGluFwd := hGluFwd)
    ∧ quiescent_GluFwdIdeal (hGluFwdIdeal := hGluFwdIdeal)
    ∧ quiescent_GluFwdReferenceIdeal (hGluFwdReferenceIdeal := hGluFwdReferenceIdeal)
    ∧ quiescent_SkipFwd (hSkipFwd := hSkipFwd)
    ∧ quiescent_SkipFwdIdeal (hSkipFwdIdeal := hSkipFwdIdeal)
    ∧ quiescent_SkipFwdReferenceIdeal (hSkipFwdReferenceIdeal := hSkipFwdReferenceIdeal)
    ∧ quiescent_Skip (hSkip := hSkip)
    ∧ quiescent_SkipIdeal (hSkipIdeal := hSkipIdeal)
    ∧ quiescent_SkipReferenceIdeal (hSkipReferenceIdeal := hSkipReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamPa (hAdamPa := hAdamPa)
    ∧ quiescent_AdamPaIdeal (hAdamPaIdeal := hAdamPaIdeal)
    ∧ quiescent_AdamPaReferenceIdeal (hAdamPaReferenceIdeal := hAdamPaReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Out_OutIdeal
    ∧ algebraic_OutIdeal_OutReferenceIdeal (hOutIdeal := hOutIdeal) (hOutReferenceIdeal := hOutReferenceIdeal)
    ∧ preserves_In_InIdeal
    ∧ algebraic_InIdeal_InReferenceIdeal (hInIdeal := hInIdeal) (hInReferenceIdeal := hInReferenceIdeal)
    ∧ preserves_Branch_BranchIdeal
    ∧ algebraic_BranchIdeal_BranchReferenceIdeal (hBranchIdeal := hBranchIdeal) (hBranchReferenceIdeal := hBranchReferenceIdeal)
    ∧ preserves_Side_SideIdeal
    ∧ algebraic_SideIdeal_SideReferenceIdeal (hSideIdeal := hSideIdeal) (hSideReferenceIdeal := hSideReferenceIdeal)
    ∧ preserves_DhQkv_DhQkvIdeal
    ∧ algebraic_DhQkvIdeal_DhQkvReferenceIdeal (hDhQkvIdeal := hDhQkvIdeal) (hDhQkvReferenceIdeal := hDhQkvReferenceIdeal)
    ∧ preserves_DhGate_DhGateIdeal
    ∧ algebraic_DhGateIdeal_DhGateReferenceIdeal (hDhGateIdeal := hDhGateIdeal) (hDhGateReferenceIdeal := hDhGateReferenceIdeal)
    ∧ preserves_Merge_MergeIdeal
    ∧ algebraic_MergeIdeal_MergeReferenceIdeal (hMergeIdeal := hMergeIdeal) (hMergeReferenceIdeal := hMergeReferenceIdeal)
    ∧ preserves_Glu_GluIdeal
    ∧ algebraic_GluIdeal_GluReferenceIdeal (hGluIdeal := hGluIdeal) (hGluReferenceIdeal := hGluReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_GluFwd_GluFwdIdeal
    ∧ algebraic_GluFwdIdeal_GluFwdReferenceIdeal (hGluFwdIdeal := hGluFwdIdeal) (hGluFwdReferenceIdeal := hGluFwdReferenceIdeal)
    ∧ preserves_SkipFwd_SkipFwdIdeal
    ∧ algebraic_SkipFwdIdeal_SkipFwdReferenceIdeal (hSkipFwdIdeal := hSkipFwdIdeal) (hSkipFwdReferenceIdeal := hSkipFwdReferenceIdeal)
    ∧ preserves_Skip_SkipIdeal
    ∧ algebraic_SkipIdeal_SkipReferenceIdeal (hSkipIdeal := hSkipIdeal) (hSkipReferenceIdeal := hSkipReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_Norm_NormIdeal
    ∧ algebraic_NormIdeal_NormReferenceIdeal (hNormIdeal := hNormIdeal) (hNormReferenceIdeal := hNormReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamPa_AdamPaIdeal
    ∧ algebraic_AdamPaIdeal_AdamPaReferenceIdeal (hAdamPaIdeal := hAdamPaIdeal) (hAdamPaReferenceIdeal := hAdamPaReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_Loss_LossIdeal
    ∧ algebraic_LossIdeal_LossReferenceIdeal (hLossIdeal := hLossIdeal) (hLossReferenceIdeal := hLossReferenceIdeal)
-- ==== Pre_finite.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S_ : Shape := ⟨0, ![]⟩

class Facts : Prop where
  bcast_S_S2048x1024 : S_.BroadcastsInDim S2048x1024 (![] : Fin 0 → Fin S2048x1024.rank)
  bcast_S_S64x64 : S_.BroadcastsInDim S64x64 (![] : Fin 0 → Fin S64x64.rank)
  bcast_S_S64x64x16 : S_.BroadcastsInDim S64x64x16 (![] : Fin 0 → Fin S64x64x16.rank)
  bcast_S_S64x16x64 : S_.BroadcastsInDim S64x16x64 (![] : Fin 0 → Fin S64x16x64.rank)

variable [Facts]

def fn_part1 {F : FTy → Type} [FloatOps F] (main_arg6 : FVec F S64x16x64 .f32) (main_arg7 : FVec F S2048x1024 .f32) (main_v2 : IVec S2048x1024 1) (main_v5 : IVec S64x64 1) (main_v8 : IVec S64x64 1) (main_v11 : IVec S64x64x16 1) (main_v14 : IVec S64x64x16 1) (main_v17 : IVec S64x16x64 1) : IVec S2048x1024 1 × IVec S64x64 1 × IVec S64x64 1 × IVec S64x64x16 1 × IVec S64x64x16 1 × IVec S64x16x64 1 × IVec S64x16x64 1 × IVec S2048x1024 1 :=
  let main_v18 : FVec F S64x16x64 .f32 := Host.absf main_arg6
  let main_cst_5 : FVec F S_ .f32 := constant S_ .f32 0x7F800000#32
  let main_v19 : FVec F S64x16x64 .f32 := broadcastInDim S64x16x64 ![] bcast_S_S64x16x64 main_cst_5
  let main_v20 : IVec S64x16x64 1 := cmpf .olt main_v18 main_v19
  let main_v21 : FVec F S2048x1024 .f32 := Host.absf main_arg7
  let main_cst_6 : FVec F S_ .f32 := constant S_ .f32 0x7F800000#32
  let main_v22 : FVec F S2048x1024 .f32 := broadcastInDim S2048x1024 ![] bcast_S_S2048x1024 main_cst_6
  let main_v23 : IVec S2048x1024 1 := cmpf .olt main_v21 main_v22
  (main_v2, main_v5, main_v8, main_v11, main_v14, main_v17, main_v20, main_v23)

def fn {F : FTy → Type} [FloatOps F] (main_arg0 : FVec F S2048x1024 .f32) (main_arg1 : FVec F S64x64 .f32) (main_arg2 : FVec F S64x64 .f32) (main_arg3 : FVec F S64x64x16 .f32) (main_arg4 : FVec F S64x64x16 .f32) (main_arg5 : FVec F S64x16x64 .f32) (main_arg6 : FVec F S64x16x64 .f32) (main_arg7 : FVec F S2048x1024 .f32) : IVec S2048x1024 1 × IVec S64x64 1 × IVec S64x64 1 × IVec S64x64x16 1 × IVec S64x64x16 1 × IVec S64x16x64 1 × IVec S64x16x64 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64x64 .f32 := Host.absf main_arg2
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_v9 : FVec F S64x64x16 .f32 := Host.absf main_arg3
  let main_cst_2 : FVec F S_ .f32 := constant S_ .f32 0x7F800000#32
  let main_v10 : FVec F S64x64x16 .f32 := broadcastInDim S64x64x16 ![] bcast_S_S64x64x16 main_cst_2
  let main_v11 : IVec S64x64x16 1 := cmpf .olt main_v9 main_v10
  let main_v12 : FVec F S64x64x16 .f32 := Host.absf main_arg4
  let main_cst_3 : FVec F S_ .f32 := constant S_ .f32 0x7F800000#32
  let main_v13 : FVec F S64x64x16 .f32 := broadcastInDim S64x64x16 ![] bcast_S_S64x64x16 main_cst_3
  let main_v14 : IVec S64x64x16 1 := cmpf .olt main_v12 main_v13
  let main_v15 : FVec F S64x16x64 .f32 := Host.absf main_arg5
  let main_cst_4 : FVec F S_ .f32 := constant S_ .f32 0x7F800000#32
  let main_v16 : FVec F S64x16x64 .f32 := broadcastInDim S64x16x64 ![] bcast_S_S64x16x64 main_cst_4
  let main_v17 : IVec S64x16x64 1 := cmpf .olt main_v15 main_v16
  fn_part1 (F := F) main_arg6 main_arg7 main_v2 main_v5 main_v8 main_v11 main_v14 main_v17
-- ==== Kernel.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S8x8 : Shape := ⟨2, ![8, 8]⟩
abbrev S_ : Shape := ⟨0, ![]⟩
abbrev S1x8x8x64x16 : Shape := ⟨5, ![1, 8, 8, 64, 16]⟩
abbrev S1x8x8x16x64 : Shape := ⟨5, ![1, 8, 8, 16, 64]⟩
abbrev S1x8x8x16x1x64 : Shape := ⟨6, ![1, 8, 8, 16, 1, 64]⟩
abbrev S1x1x8x1x8x1 : Shape := ⟨6, ![1, 1, 8, 1, 8, 1]⟩
abbrev S1x8x8x16x8x64 : Shape := ⟨6, ![1, 8, 8, 16, 8, 64]⟩
abbrev S1x8x128x512 : Shape := ⟨4, ![1, 8, 128, 512]⟩
abbrev S1x8x128x1024 : Shape := ⟨4, ![1, 8, 128, 1024]⟩
abbrev S1x8x8x64x1x16 : Shape := ⟨6, ![1, 8, 8, 64, 1, 16]⟩
abbrev S1x8x8x64x8x16 : Shape := ⟨6, ![1, 8, 8, 64, 8, 16]⟩
abbrev S1x8x512x128 : Shape := ⟨4, ![1, 8, 512, 128]⟩
abbrev S1x8x1024x128 : Shape := ⟨4, ![1, 8, 1024, 128]⟩
abbrev S1x8x1x512 : Shape := ⟨4, ![1, 8, 1, 512]⟩
abbrev S1x8x1x1024 : Shape := ⟨4, ![1, 8, 1, 1024]⟩
abbrev S1x8x8x1024 : Shape := ⟨4, ![1, 8, 8, 1024]⟩
abbrev S8x256x1024 : Shape := ⟨3, ![8, 256, 1024]⟩
abbrev S256x8x1024 : Shape := ⟨3, ![256, 8, 1024]⟩
abbrev S8x128x1024 : Shape := ⟨3, ![8, 128, 1024]⟩
abbrev S8x1024x128 : Shape := ⟨3, ![8, 1024, 128]⟩
abbrev S8x8x1024 : Shape := ⟨3, ![8, 8, 1024]⟩
abbrev S2048x8192 : Shape := ⟨2, ![2048, 8192]⟩
abbrev S2048x128 : Shape := ⟨2, ![2048, 128]⟩
abbrev S1x128x1024 : Shape := ⟨3, ![1, 128, 1024]⟩
abbrev S1x1024x128 : Shape := ⟨3, ![1, 1024, 128]⟩
abbrev S1x8x1024 : Shape := ⟨3, ![1, 8, 1024]⟩
abbrev S256x128 : Shape := ⟨2, ![256, 128]⟩
abbrev S128x1024 : Shape := ⟨2, ![128, 1024]⟩
abbrev S256x1024 : Shape := ⟨2, ![256, 1024]⟩
abbrev S1x1x512 : Shape := ⟨3, ![1, 1, 512]⟩
abbrev S1x512 : Shape := ⟨2, ![1, 512]⟩
abbrev S8x512 : Shape := ⟨2, ![8, 512]⟩
abbrev S1x8x512 : Shape := ⟨3, ![1, 8, 512]⟩
abbrev S1024x128 : Shape := ⟨2, ![1024, 128]⟩
abbrev S512 : Shape := ⟨1, ![512]⟩
abbrev S64x1024 : Shape := ⟨2, ![64, 1024]⟩
abbrev S1x64x16x64 : Shape := ⟨4, ![1, 64, 16, 64]⟩

abbrev nBuf : Space → Nat
  | .hbm => 139
  | .vmem => 37
  | .smem => 0
  | _ => 0

abbrev hbmTy0_0 (i : Nat) : BufTy := match i % 128 with
  | 0 => ⟨S2048x1024, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S2048x1024, .f32⟩
  | 8 => ⟨S8x8, .i32⟩
  | 9 => ⟨S8x8, .i32⟩
  | 10 => ⟨S_, .i32⟩
  | 11 => ⟨S8x8, .i32⟩
  | 12 => ⟨S8x8, .i32⟩
  | 13 => ⟨S8x8, .i1⟩
  | 14 => ⟨S8x8, .f32⟩
  | 15 => ⟨S1x8x8x64x16, .f32⟩
  | 16 => ⟨S1x8x8x16x64, .f32⟩
  | 17 => ⟨S1x8x8x16x1x64, .f32⟩
  | 18 => ⟨S1x1x8x1x8x1, .f32⟩
  | 19 => ⟨S1x8x8x16x8x64, .f32⟩
  | 20 => ⟨S1x8x8x16x8x64, .f32⟩
  | 21 => ⟨S1x8x8x16x8x64, .f32⟩
  | 22 => ⟨S1x8x128x512, .f32⟩
  | 23 => ⟨S1x8x8x64x16, .f32⟩
  | 24 => ⟨S1x8x8x16x64, .f32⟩
  | 25 => ⟨S1x8x8x16x1x64, .f32⟩
  | 26 => ⟨S1x1x8x1x8x1, .f32⟩
  | 27 => ⟨S1x8x8x16x8x64, .f32⟩
  | 28 => ⟨S1x8x8x16x8x64, .f32⟩
  | 29 => ⟨S1x8x8x16x8x64, .f32⟩
  | 30 => ⟨S1x8x128x512, .f32⟩
  | 31 => ⟨S1x8x128x1024, .f32⟩
  | 32 => ⟨S1x8x128x1024, .bf16⟩
  | 33 => ⟨S1x8x8x16x64, .f32⟩
  | 34 => ⟨S1x8x8x64x16, .f32⟩
  | 35 => ⟨S1x8x8x64x1x16, .f32⟩
  | 36 => ⟨S1x1x8x1x8x1, .f32⟩
  | 37 => ⟨S1x8x8x64x8x16, .f32⟩
  | 38 => ⟨S1x8x8x64x8x16, .f32⟩
  | 39 => ⟨S1x8x8x64x8x16, .f32⟩
  | 40 => ⟨S1x8x512x128, .f32⟩
  | 41 => ⟨S1x8x8x16x64, .f32⟩
  | 42 => ⟨S1x8x8x64x16, .f32⟩
  | 43 => ⟨S1x8x8x64x1x16, .f32⟩
  | 44 => ⟨S1x1x8x1x8x1, .f32⟩
  | 45 => ⟨S1x8x8x64x8x16, .f32⟩
  | 46 => ⟨S1x8x8x64x8x16, .f32⟩
  | 47 => ⟨S1x8x8x64x8x16, .f32⟩
  | 48 => ⟨S1x8x512x128, .f32⟩
  | 49 => ⟨S1x8x512x128, .f32⟩
  | 50 => ⟨S1x8x1024x128, .f32⟩
  | 51 => ⟨S1x8x1024x128, .bf16⟩
  | 52 => ⟨S1x8x1x512, .f32⟩
  | 53 => ⟨S1x8x1x512, .f32⟩
  | 54 => ⟨S1x8x1x1024, .f32⟩
  | 55 => ⟨S1x8x8x1024, .f32⟩
  | 56 => ⟨S8x256x1024, .f32⟩
  | 57 => ⟨S256x8x1024, .f32⟩
  | 58 => ⟨S2048x1024, .f32⟩
  | 59 => ⟨S8x256x1024, .f32⟩
  | 60 => ⟨S256x8x1024, .f32⟩
  | 61 => ⟨S2048x1024, .f32⟩
  | 62 => ⟨S2048x1024, .bf16⟩
  | 63 => ⟨S8x128x1024, .bf16⟩
  | 64 => ⟨S8x1024x128, .bf16⟩
  | 65 => ⟨S8x8x1024, .f32⟩
  | 66 => ⟨S2048x1024, .f32⟩
  | 67 => ⟨S2048x8192, .f32⟩
  | 68 => ⟨S8x8x1024, .f32⟩
  | 69 => ⟨S8x128x1024, .bf16⟩
  | 70 => ⟨S8x1024x128, .bf16⟩
  | 71 => ⟨S8x8x1024, .f32⟩
  | 72 => ⟨S2048x1024, .f32⟩
  | 73 => ⟨S8x128x1024, .f32⟩
  | 74 => ⟨S8x1024x128, .f32⟩
  | 75 => ⟨S8x8x1024, .f32⟩
  | 76 => ⟨S1x8x128x1024, .f32⟩
  | 77 => ⟨S1x8x1024x128, .f32⟩
  | 78 => ⟨S1x8x8x1024, .f32⟩
  | 79 => ⟨S8x8, .i32⟩
  | 80 => ⟨S8x8, .i32⟩
  | 81 => ⟨S_, .i32⟩
  | 82 => ⟨S8x8, .i32⟩
  | 83 => ⟨S8x8, .i32⟩
  | 84 => ⟨S8x8, .i1⟩
  | 85 => ⟨S8x8, .f32⟩
  | 86 => ⟨S1x8x128x512, .f32⟩
  | 87 => ⟨S1x8x8x16x8x64, .f32⟩
  | 88 => ⟨S1x1x8x1x8x1, .f32⟩
  | 89 => ⟨S1x8x8x16x8x64, .f32⟩
  | 90 => ⟨S1x8x8x16x8x64, .f32⟩
  | 91 => ⟨S_, .f32⟩
  | 92 => ⟨S1x8x8x16x64, .f32⟩
  | 93 => ⟨S1x8x8x64x16, .f32⟩
  | 94 => ⟨S64x1024, .f32⟩
  | 95 => ⟨S1x8x128x512, .f32⟩
  | 96 => ⟨S1x8x8x16x8x64, .f32⟩
  | 97 => ⟨S1x1x8x1x8x1, .f32⟩
  | 98 => ⟨S1x8x8x16x8x64, .f32⟩
  | 99 => ⟨S1x8x8x16x8x64, .f32⟩
  | 100 => ⟨S_, .f32⟩
  | 101 => ⟨S1x8x8x16x64, .f32⟩
  | 102 => ⟨S1x8x8x64x16, .f32⟩
  | 103 => ⟨S64x1024, .f32⟩
  | 104 => ⟨S1x8x512x128, .f32⟩
  | 105 => ⟨S1x8x8x64x8x16, .f32⟩
  | 106 => ⟨S1x1x8x1x8x1, .f32⟩
  | 107 => ⟨S1x8x8x64x8x16, .f32⟩
  | 108 => ⟨S1x8x8x64x8x16, .f32⟩
  | 109 => ⟨S_, .f32⟩
  | 110 => ⟨S1x8x8x64x16, .f32⟩
  | 111 => ⟨S1x8x8x16x64, .f32⟩
  | 112 => ⟨S1x64x16x64, .f32⟩
  | 113 => ⟨S1x8x512x128, .f32⟩
  | 114 => ⟨S1x8x8x64x8x16, .f32⟩
  | 115 => ⟨S1x1x8x1x8x1, .f32⟩
  | 116 => ⟨S1x8x8x64x8x16, .f32⟩
  | 117 => ⟨S1x8x8x64x8x16, .f32⟩
  | 118 => ⟨S_, .f32⟩
  | 119 => ⟨S1x8x8x64x16, .f32⟩
  | 120 => ⟨S1x8x8x16x64, .f32⟩
  | 121 => ⟨S1x64x16x64, .f32⟩
  | 122 => ⟨S1x64x16x64, .f32⟩
  | 123 => ⟨S1x8x1x512, .f32⟩
  | 124 => ⟨S1x8x512, .f32⟩
  | 125 => ⟨S64x64, .f32⟩
  | 126 => ⟨S1x8x1x512, .f32⟩
  | 127 => ⟨S1x8x512, .f32⟩
  | _ => ⟨S2048x1024, .f32⟩

abbrev hbmTy0_1 (i : Nat) : BufTy := match i % 128 with
  | 0 => ⟨S64x64, .f32⟩
  | 1 => ⟨S256x8x1024, .f32⟩
  | 2 => ⟨S8x256x1024, .f32⟩
  | 3 => ⟨S2048x1024, .f32⟩
  | 4 => ⟨S256x8x1024, .f32⟩
  | 5 => ⟨S8x256x1024, .f32⟩
  | 6 => ⟨S2048x1024, .f32⟩
  | 7 => ⟨S64x64x16, .f32⟩
  | 8 => ⟨S64x64x16, .f32⟩
  | 9 => ⟨S64x16x64, .f32⟩
  | 10 => ⟨S64x16x64, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x8x1024, .f32⟩
  | .local _ .vmem, ⟨7, _⟩ => ⟨S1x8x1024, .f32⟩
  | .local _ .vmem, ⟨8, _⟩ => ⟨S2048x128, .f32⟩
  | .local _ .vmem, ⟨9, _⟩ => ⟨S2048x128, .f32⟩
  | .local _ .vmem, ⟨10, _⟩ => ⟨S2048x1024, .f32⟩
  | .local _ .vmem, ⟨11, _⟩ => ⟨S2048x1024, .f32⟩
  | .local _ .vmem, ⟨12, _⟩ => ⟨S1x8x1024, .f32⟩
  | .local _ .vmem, ⟨13, _⟩ => ⟨S1x8x1024, .f32⟩
  | .local _ .vmem, ⟨14, _⟩ => ⟨S2048x128, .f32⟩
  | .local _ .vmem, ⟨15, _⟩ => ⟨S2048x128, .f32⟩
  | .local _ .vmem, ⟨16, _⟩ => ⟨S1x128x1024, .bf16⟩
  | .local _ .vmem, ⟨17, _⟩ => ⟨S1x128x1024, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x8x1024, .f32⟩
  | .local _ .vmem, ⟨21, _⟩ => ⟨S1x8x1024, .f32⟩
  | .local _ .vmem, ⟨22, _⟩ => ⟨S2048x128, .bf16⟩
  | .local _ .vmem, ⟨23, _⟩ => ⟨S2048x128, .bf16⟩
  | .local _ .vmem, ⟨24, _⟩ => ⟨S2048x1024, .f32⟩
  | .local _ .vmem, ⟨25, _⟩ => ⟨S2048x1024, .f32⟩
  | .local _ .vmem, ⟨26, _⟩ => ⟨S1x8x1024, .f32⟩
  | .local _ .vmem, ⟨27, _⟩ => ⟨S1x8x1024, .f32⟩
  | .local _ .vmem, ⟨28, _⟩ => ⟨S2048x128, .f32⟩
  | .local _ .vmem, ⟨29, _⟩ => ⟨S2048x128, .f32⟩
  | .local _ .vmem, ⟨30, _⟩ => ⟨S1x128x1024, .f32⟩
  | .local _ .vmem, ⟨31, _⟩ => ⟨S1x128x1024, .f32⟩
  | .local _ .vmem, ⟨32, _⟩ => ⟨S1x1024x128, .f32⟩
  | .local _ .vmem, ⟨33, _⟩ => ⟨S1x1024x128, .f32⟩
  | .local _ .vmem, ⟨34, _⟩ => ⟨S1x8x1024, .f32⟩
  | .local _ .vmem, ⟨35, _⟩ => ⟨S1x8x1024, .f32⟩
  | .local _ .vmem, ⟨36, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57_0 : Ref sig .tc := ⟨.hbm, 66, rfl⟩
abbrev main_v57_1 : Ref sig .tc := ⟨.hbm, 67, rfl⟩
abbrev main_v57_2 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61_0 : Ref sig .tc := ⟨.hbm, 72, rfl⟩
abbrev main_v61_1 : Ref sig .tc := ⟨.hbm, 73, rfl⟩
abbrev main_v61_2 : Ref sig .tc := ⟨.hbm, 74, rfl⟩
abbrev main_v61_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_c_0 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_1 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_2 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_3 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c256_i32 : BitVec 32 := 256#32
  let v66 : BitVec 32 := Scalar.addi c0_i32 c256_i32
  let c1_i32 : BitVec 32 := 1#32
  ⟨c0_i32, v66, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v322 : BitVec 32 := Scalar.muli arg8 c8_i32
  v322
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v322 : BitVec 32 := Scalar.muli arg8 c8_i32
  let v323 : BitVec 32 := v322
  let v330 : Index := Scalar.indexCast v323
  let c0_147 : Index := 0#32
  ![v330.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v322 : BitVec 32 := Scalar.muli arg8 c8_i32
  let v323 : BitVec 32 := v322
  let v334 : Index := Scalar.indexCast v323
  let c512_148 : Index := 512#32
  ![v334.toNat, 512]
@[reducible] def k0_t2_loop : Scf.Loop 32 :=
  let c0_i32_73 : BitVec 32 := 0#32
  let c256_i32_74 : BitVec 32 := 256#32
  let v258 : BitVec 32 := Scalar.addi c0_i32_73 c256_i32_74
  let c1_i32_75 : BitVec 32 := 1#32
  ⟨c0_i32_73, v258, c1_i32_75⟩
def k0_mult2 (k0_t2 : Fin k0_t2_loop.trips) : BitVec 32 :=
  let c0_i32_73 : BitVec 32 := 0#32
  let c1_i32_75 : BitVec 32 := 1#32
  let arg8 : BitVec 32 := Scf.iv c0_i32_73 c1_i32_75 k0_t2
  let c8_i32 : BitVec 32 := 8#32
  let v322 : BitVec 32 := Scalar.muli arg8 c8_i32
  v322
def k0_off3 (k0_t2 : Fin k0_t2_loop.trips) : Fin 2 → Nat :=
  let c0_i32_73 : BitVec 32 := 0#32
  let c1_i32_75 : BitVec 32 := 1#32
  let arg8 : BitVec 32 := Scf.iv c0_i32_73 c1_i32_75 k0_t2
  let c8_i32 : BitVec 32 := 8#32
  let v322 : BitVec 32 := Scalar.muli arg8 c8_i32
  let v323 : BitVec 32 := v322
  let v330 : Index := Scalar.indexCast v323
  let c0_147 : Index := 0#32
  ![v330.toNat, 0]
def k0_off4 (k0_t2 : Fin k0_t2_loop.trips) : Fin 2 → Nat :=
  let c0_i32_73 : BitVec 32 := 0#32
  let c1_i32_75 : BitVec 32 := 1#32
  let arg8 : BitVec 32 := Scf.iv c0_i32_73 c1_i32_75 k0_t2
  let c8_i32 : BitVec 32 := 8#32
  let v322 : BitVec 32 := Scalar.muli arg8 c8_i32
  let v323 : BitVec 32 := v322
  let v334 : Index := Scalar.indexCast v323
  let c512_148 : Index := 512#32
  ![v334.toNat, 512]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

@[reducible] def k1_t1_loop : Scf.Loop 32 :=
  let c0_i32 : BitVec 32 := 0#32
  let c256_i32 : BitVec 32 := 256#32
  let v164 : BitVec 32 := Scalar.addi c0_i32 c256_i32
  let c1_i32 : BitVec 32 := 1#32
  ⟨c0_i32, v164, c1_i32⟩
def k1_mult1 (k1_t1 : Fin k1_t1_loop.trips) : BitVec 32 :=
  let c255_i32 : BitVec 32 := 255#32
  let c0_i32 : BitVec 32 := 0#32
  let c1_i32 : BitVec 32 := 1#32
  let arg13 : BitVec 32 := Scf.iv c0_i32 c1_i32 k1_t1
  let v507 : BitVec 32 := Scalar.subi c255_i32 arg13
  let c8_i32 : BitVec 32 := 8#32
  let v508 : BitVec 32 := Scalar.muli v507 c8_i32
  v508
def k1_off1 (k1_t1 : Fin k1_t1_loop.trips) : Fin 2 → Nat :=
  let c255_i32 : BitVec 32 := 255#32
  let c0_i32 : BitVec 32 := 0#32
  let c1_i32 : BitVec 32 := 1#32
  let arg13 : BitVec 32 := Scf.iv c0_i32 c1_i32 k1_t1
  let v507 : BitVec 32 := Scalar.subi c255_i32 arg13
  let c8_i32 : BitVec 32 := 8#32
  let v508 : BitVec 32 := Scalar.muli v507 c8_i32
  let v509 : BitVec 32 := v508
  let v516 : Index := Scalar.indexCast v509
  let c0_314 : Index := 0#32
  ![v516.toNat, 0]
def k1_off2 (k1_t1 : Fin k1_t1_loop.trips) : Fin 2 → Nat :=
  let c255_i32 : BitVec 32 := 255#32
  let c0_i32 : BitVec 32 := 0#32
  let c1_i32 : BitVec 32 := 1#32
  let arg13 : BitVec 32 := Scf.iv c0_i32 c1_i32 k1_t1
  let v507 : BitVec 32 := Scalar.subi c255_i32 arg13
  let c8_i32 : BitVec 32 := 8#32
  let v508 : BitVec 32 := Scalar.muli v507 c8_i32
  let v509 : BitVec 32 := v508
  let v519 : Index := Scalar.indexCast v509
  let c512_315 : Index := 512#32
  ![v519.toNat, 512]
@[reducible] def k1_t2_loop : Scf.Loop 32 :=
  let c0_i32_157 : BitVec 32 := 0#32
  let c256_i32_158 : BitVec 32 := 256#32
  let v356 : BitVec 32 := Scalar.addi c0_i32_157 c256_i32_158
  let c1_i32_159 : BitVec 32 := 1#32
  ⟨c0_i32_157, v356, c1_i32_159⟩
def k1_mult2 (k1_t2 : Fin k1_t2_loop.trips) : BitVec 32 :=
  let c255_i32 : BitVec 32 := 255#32
  let c0_i32_157 : BitVec 32 := 0#32
  let c1_i32_159 : BitVec 32 := 1#32
  let arg13 : BitVec 32 := Scf.iv c0_i32_157 c1_i32_159 k1_t2
  let v507 : BitVec 32 := Scalar.subi c255_i32 arg13
  let c8_i32 : BitVec 32 := 8#32
  let v508 : BitVec 32 := Scalar.muli v507 c8_i32
  v508
def k1_off3 (k1_t2 : Fin k1_t2_loop.trips) : Fin 2 → Nat :=
  let c255_i32 : BitVec 32 := 255#32
  let c0_i32_157 : BitVec 32 := 0#32
  let c1_i32_159 : BitVec 32 := 1#32
  let arg13 : BitVec 32 := Scf.iv c0_i32_157 c1_i32_159 k1_t2
  let v507 : BitVec 32 := Scalar.subi c255_i32 arg13
  let c8_i32 : BitVec 32 := 8#32
  let v508 : BitVec 32 := Scalar.muli v507 c8_i32
  let v509 : BitVec 32 := v508
  let v516 : Index := Scalar.indexCast v509
  let c0_314 : Index := 0#32
  ![v516.toNat, 0]
def k1_off4 (k1_t2 : Fin k1_t2_loop.trips) : Fin 2 → Nat :=
  let c255_i32 : BitVec 32 := 255#32
  let c0_i32_157 : BitVec 32 := 0#32
  let c1_i32_159 : BitVec 32 := 1#32
  let arg13 : BitVec 32 := Scf.iv c0_i32_157 c1_i32_159 k1_t2
  let v507 : BitVec 32 := Scalar.subi c255_i32 arg13
  let c8_i32 : BitVec 32 := 8#32
  let v508 : BitVec 32 := Scalar.muli v507 c8_i32
  let v509 : BitVec 32 := v508
  let v519 : Index := Scalar.indexCast v509
  let c512_315 : Index := 512#32
  ![v519.toNat, 512]
@[reducible] def k1_t3_loop : Scf.Loop 32 :=
  let c0_i32_162 : BitVec 32 := 0#32
  let c256_i32_163 : BitVec 32 := 256#32
  let v359 : BitVec 32 := Scalar.addi c0_i32_162 c256_i32_163
  let c1_i32_164 : BitVec 32 := 1#32
  ⟨c0_i32_162, v359, c1_i32_164⟩
def k1_mult3 (k1_t3 : Fin k1_t3_loop.trips) : BitVec 32 :=
  let c0_i32_162 : BitVec 32 := 0#32
  let c1_i32_164 : BitVec 32 := 1#32
  let arg13 : BitVec 32 := Scf.iv c0_i32_162 c1_i32_164 k1_t3
  let c8_i32 : BitVec 32 := 8#32
  let v507 : BitVec 32 := Scalar.muli arg13 c8_i32
  v507
def k1_off5 (k1_t3 : Fin k1_t3_loop.trips) : Fin 2 → Nat :=
  let c0_i32_162 : BitVec 32 := 0#32
  let c1_i32_164 : BitVec 32 := 1#32
  let arg13 : BitVec 32 := Scf.iv c0_i32_162 c1_i32_164 k1_t3
  let c8_i32 : BitVec 32 := 8#32
  let v507 : BitVec 32 := Scalar.muli arg13 c8_i32
  let v508 : BitVec 32 := v507
  let v509 : Index := Scalar.indexCast v508
  let c0_314 : Index := 0#32
  ![v509.toNat, 0]
def k1_off6 (k1_t3 : Fin k1_t3_loop.trips) : Fin 2 → Nat :=
  let c0_i32_162 : BitVec 32 := 0#32
  let c1_i32_164 : BitVec 32 := 1#32
  let arg13 : BitVec 32 := Scf.iv c0_i32_162 c1_i32_164 k1_t3
  let c8_i32 : BitVec 32 := 8#32
  let v507 : BitVec 32 := Scalar.muli arg13 c8_i32
  let v508 : BitVec 32 := v507
  let v511 : Index := Scalar.indexCast v508
  let c512_315 : Index := 512#32
  ![v511.toNat, 512]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x8x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S2048x64x16 : Shape := ⟨3, ![2048, 64, 16]⟩
abbrev S64x2048x64 : Shape := ⟨3, ![64, 2048, 64]⟩
abbrev S2048x64x64 : Shape := ⟨3, ![2048, 64, 64]⟩
abbrev S_ : Shape := ⟨0, ![]⟩
abbrev S1x64x64 : Shape := ⟨3, ![1, 64, 64]⟩
abbrev S64x2048x16 : Shape := ⟨3, ![64, 2048, 16]⟩

abbrev nBuf : Space → Nat
  | .hbm => 176
  | .vmem => 0
  | .smem => 0
  | _ => 0

abbrev hbmTy0_0 (i : Nat) : BufTy := match i % 128 with
  | 0 => ⟨S2048x1024, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S2048x1024, .f32⟩
  | 8 => ⟨S2048x64x16, .f32⟩
  | 9 => ⟨S64x2048x64, .f32⟩
  | 10 => ⟨S2048x64x64, .f32⟩
  | 11 => ⟨S64x2048x64, .f32⟩
  | 12 => ⟨S2048x64x64, .f32⟩
  | 13 => ⟨S_, .f32⟩
  | 14 => ⟨S64x64, .f32⟩
  | 15 => ⟨S_, .f32⟩
  | 16 => ⟨S2048x64x64, .f32⟩
  | 17 => ⟨S_, .f32⟩
  | 18 => ⟨S2048x64x64, .f32⟩
  | 19 => ⟨S_, .f32⟩
  | 20 => ⟨S2048x64x64, .f32⟩
  | 21 => ⟨S_, .f32⟩
  | 22 => ⟨S2048x64x64, .f32⟩
  | 23 => ⟨S_, .i32⟩
  | 24 => ⟨S2048x64x64, .f32⟩
  | 25 => ⟨S2048x64x64, .f32⟩
  | 26 => ⟨S64x64, .f32⟩
  | 27 => ⟨S64x64, .f32⟩
  | 28 => ⟨S_, .i32⟩
  | 29 => ⟨S64x64, .f32⟩
  | 30 => ⟨S64x64, .f32⟩
  | 31 => ⟨S2048x64x64, .f32⟩
  | 32 => ⟨S2048x64x64, .f32⟩
  | 33 => ⟨S2048x64x64, .f32⟩
  | 34 => ⟨S2048x64x64, .f32⟩
  | 35 => ⟨S_, .i32⟩
  | 36 => ⟨S_, .i1⟩
  | 37 => ⟨S_, .i32⟩
  | 38 => ⟨S_, .i32⟩
  | 39 => ⟨S1x64x64, .f32⟩
  | 40 => ⟨S64x64, .f32⟩
  | 41 => ⟨S_, .i32⟩
  | 42 => ⟨S_, .i32⟩
  | 43 => ⟨S1x64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S1x64x64, .f32⟩
  | 54 => ⟨S_, .i32⟩
  | 55 => ⟨S_, .i32⟩
  | 56 => ⟨S2048x64x64, .f32⟩
  | 57 => ⟨S1x64x64, .f32⟩
  | 58 => ⟨S_, .i32⟩
  | 59 => ⟨S_, .i32⟩
  | 60 => ⟨S2048x64x64, .f32⟩
  | 61 => ⟨S1x64x64, .f32⟩
  | 62 => ⟨S_, .i32⟩
  | 63 => ⟨S_, .i32⟩
  | 64 => ⟨S2048x64x64, .f32⟩
  | 65 => ⟨S1x64x64, .f32⟩
  | 66 => ⟨S_, .i32⟩
  | 67 => ⟨S_, .i32⟩
  | 68 => ⟨S2048x64x64, .f32⟩
  | 69 => ⟨S_, .i32⟩
  | 70 => ⟨S_, .i32⟩
  | 71 => ⟨S64x2048x16, .f32⟩
  | 72 => ⟨S2048x64x16, .f32⟩
  | 73 => ⟨S64x2048x16, .f32⟩
  | 74 => ⟨S2048x64x16, .f32⟩
  | 75 => ⟨S2048x64x16, .f32⟩
  | 76 => ⟨S2048x1024, .f32⟩
  | 77 => ⟨S_, .f32⟩
  | 78 => ⟨S64x64, .f32⟩
  | 79 => ⟨S_, .f32⟩
  | 80 => ⟨S64x64, .f32⟩
  | 81 => ⟨S2048x64x16, .f32⟩
  | 82 => ⟨S2048x64x16, .f32⟩
  | 83 => ⟨S64x2048x16, .f32⟩
  | 84 => ⟨S64x16x64, .f32⟩
  | 85 => ⟨S64x2048x64, .f32⟩
  | 86 => ⟨S2048x64x64, .f32⟩
  | 87 => ⟨S64x2048x16, .f32⟩
  | 88 => ⟨S64x16x64, .f32⟩
  | 89 => ⟨S64x2048x64, .f32⟩
  | 90 => ⟨S2048x64x64, .f32⟩
  | 91 => ⟨S_, .f32⟩
  | 92 => ⟨S64x64, .f32⟩
  | 93 => ⟨S_, .f32⟩
  | 94 => ⟨S64x64, .f32⟩
  | 95 => ⟨S_, .f32⟩
  | 96 => ⟨S64x64, .f32⟩
  | 97 => ⟨S_, .f32⟩
  | 98 => ⟨S64x64, .f32⟩
  | 99 => ⟨S_, .f32⟩
  | 100 => ⟨S2048x64x64, .f32⟩
  | 101 => ⟨S_, .f32⟩
  | 102 => ⟨S2048x64x64, .f32⟩
  | 103 => ⟨S_, .i32⟩
  | 104 => ⟨S2048x64x64, .f32⟩
  | 105 => ⟨S2048x64x64, .f32⟩
  | 106 => ⟨S2048x64x64, .f32⟩
  | 107 => ⟨S2048x64x64, .f32⟩
  | 108 => ⟨S64x64, .f32⟩
  | 109 => ⟨S64x64, .f32⟩
  | 110 => ⟨S_, .i32⟩
  | 111 => ⟨S64x64, .f32⟩
  | 112 => ⟨S64x64, .f32⟩
  | 113 => ⟨S64x64, .f32⟩
  | 114 => ⟨S64x64, .f32⟩
  | 115 => ⟨S2048x64x64, .f32⟩
  | 116 => ⟨S2048x64x64, .f32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S1x64x64, .f32⟩
  | 126 => ⟨S64x64, .f32⟩
  | 127 => ⟨S_, .i32⟩
  | _ => ⟨S2048x1024, .f32⟩

abbrev hbmTy0_1 (i : Nat) : BufTy := match i % 128 with
  | 0 => ⟨S_, .i32⟩
  | 1 => ⟨S1x64x64, .f32⟩
  | 2 => ⟨S64x64, .f32⟩
  | 3 => ⟨S_, .i32⟩
  | 4 => ⟨S_, .i32⟩
  | 5 => ⟨S1x64x64, .f32⟩
  | 6 => ⟨S64x64, .f32⟩
  | 7 => ⟨S_, .i32⟩
  | 8 => ⟨S_, .i32⟩
  | 9 => ⟨S1x64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S1x64x64, .f32⟩
  | 29 => ⟨S_, .i32⟩
  | 30 => ⟨S_, .i32⟩
  | 31 => ⟨S2048x64x64, .f32⟩
  | 32 => ⟨S1x64x64, .f32⟩
  | 33 => ⟨S_, .i32⟩
  | 34 => ⟨S_, .i32⟩
  | 35 => ⟨S2048x64x64, .f32⟩
  | 36 => ⟨S_, .i32⟩
  | 37 => ⟨S_, .i32⟩
  | 38 => ⟨S64x2048x64, .f32⟩
  | 39 => ⟨S64x64x16, .f32⟩
  | 40 => ⟨S64x2048x16, .f32⟩
  | 41 => ⟨S2048x64x16, .f32⟩
  | 42 => ⟨S64x2048x64, .f32⟩
  | 43 => ⟨S64x64x16, .f32⟩
  | 44 => ⟨S64x2048x16, .f32⟩
  | 45 => ⟨S2048x64x16, .f32⟩
  | 46 => ⟨S2048x64x16, .f32⟩
  | 47 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_c : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v10_3 : Ref sig .tc := ⟨.hbm, 27, rfl⟩
abbrev main_v10_4 : Ref sig .tc := ⟨.hbm, 28, rfl⟩
abbrev main_v10_5 : Ref sig .tc := ⟨.hbm, 29, rfl⟩
abbrev main_v10_6 : Ref sig .tc := ⟨.hbm, 30, rfl⟩
abbrev main_v10_7 : Ref sig .tc := ⟨.hbm, 31, rfl⟩
abbrev main_v10_8 : Ref sig .tc := ⟨.hbm, 32, rfl⟩
abbrev main_v10_9 : Ref sig .tc := ⟨.hbm, 33, rfl⟩
abbrev main_v10_10 : Ref sig .tc := ⟨.hbm, 34, rfl⟩
abbrev main_while0c_c_23 : Ref sig .tc := ⟨.hbm, 35, rfl⟩
abbrev main_while0c_v46 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_v0 : Ref sig .tc := ⟨.hbm, 39, rfl⟩
abbrev main_while0b_v46 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_v0 : Ref sig .tc := ⟨.hbm, 43, rfl⟩
abbrev main_while0b_v47 : Ref sig .tc := ⟨.hbm, 44, rfl⟩
abbrev main_while0b_v48 : Ref sig .tc := ⟨.hbm, 45, rfl⟩
abbrev main_while0b_v49 : Ref sig .tc := ⟨.hbm, 46, rfl⟩
abbrev main_while0b_v50 : Ref sig .tc := ⟨.hbm, 47, rfl⟩
abbrev main_while0b_v51 : Ref sig .tc := ⟨.hbm, 48, rfl⟩
abbrev main_while0b_v52 : Ref sig .tc := ⟨.hbm, 49, rfl⟩
abbrev main_while0b_v53 : Ref sig .tc := ⟨.hbm, 50, rfl⟩
abbrev main_while0b_v54 : Ref sig .tc := ⟨.hbm, 51, rfl⟩
abbrev main_while0b_v55 : Ref sig .tc := ⟨.hbm, 52, rfl⟩
abbrev main_while0b_call2_v0 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_v56 : Ref sig .tc := ⟨.hbm, 56, rfl⟩
abbrev main_while0b_call3_v0 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_v57 : Ref sig .tc := ⟨.hbm, 60, rfl⟩
abbrev main_while0b_call4_v0 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_v58 : Ref sig .tc := ⟨.hbm, 64, rfl⟩
abbrev main_while0b_call5_v0 : Ref sig .tc := ⟨.hbm, 65, rfl⟩
abbrev main_while0b_call5_c : Ref sig .tc := ⟨.hbm, 66, rfl⟩
abbrev main_while0b_call5_c_0 : Ref sig .tc := ⟨.hbm, 67, rfl⟩
abbrev main_while0b_v59 : Ref sig .tc := ⟨.hbm, 68, rfl⟩
abbrev main_while0b_c_23 : Ref sig .tc := ⟨.hbm, 69, rfl⟩
abbrev main_while0b_v60 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_cst_4 : Ref sig .tc := ⟨.hbm, 77, rfl⟩
abbrev main_v17 : Ref sig .tc := ⟨.hbm, 78, rfl⟩
abbrev main_cst_5 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_cst_6 : Ref sig .tc := ⟨.hbm, 91, rfl⟩
abbrev main_v29 : Ref sig .tc := ⟨.hbm, 92, rfl⟩
abbrev main_cst_7 : Ref sig .tc := ⟨.hbm, 93, rfl⟩
abbrev main_v30 : Ref sig .tc := ⟨.hbm, 94, rfl⟩
abbrev main_cst_8 : Ref sig .tc := ⟨.hbm, 95, rfl⟩
abbrev main_v31 : Ref sig .tc := ⟨.hbm, 96, rfl⟩
abbrev main_cst_9 : Ref sig .tc := ⟨.hbm, 97, rfl⟩
abbrev main_v32 : Ref sig .tc := ⟨.hbm, 98, rfl⟩
abbrev main_cst_10 : Ref sig .tc := ⟨.hbm, 99, rfl⟩
abbrev main_v33 : Ref sig .tc := ⟨.hbm, 100, rfl⟩
abbrev main_cst_11 : Ref sig .tc := ⟨.hbm, 101, rfl⟩
abbrev main_v34 : Ref sig .tc := ⟨.hbm, 102, rfl⟩
abbrev main_c_12 : Ref sig .tc := ⟨.hbm, 103, rfl⟩
abbrev main_v35_0 : Ref sig .tc := ⟨.hbm, 104, rfl⟩
abbrev main_v35_1 : Ref sig .tc := ⟨.hbm, 105, rfl⟩
abbrev main_v35_2 : Ref sig .tc := ⟨.hbm, 106, rfl⟩
abbrev main_v35_3 : Ref sig .tc := ⟨.hbm, 107, rfl⟩
abbrev main_v35_4 : Ref sig .tc := ⟨.hbm, 108, rfl⟩
abbrev main_v35_5 : Ref sig .tc := ⟨.hbm, 109, rfl⟩
abbrev main_v35_6 : Ref sig .tc := ⟨.hbm, 110, rfl⟩
abbrev main_v35_7 : Ref sig .tc := ⟨.hbm, 111, rfl⟩
abbrev main_v35_8 : Ref sig .tc := ⟨.hbm, 112, rfl⟩
abbrev main_v35_9 : Ref sig .tc := ⟨.hbm, 113, rfl⟩
abbrev main_v35_10 : Ref sig .tc := ⟨.hbm, 114, rfl⟩
abbrev main_v35_11 : Ref sig .tc := ⟨.hbm, 115, rfl⟩
abbrev main_v35_12 : Ref sig .tc := ⟨.hbm, 116, rfl⟩
abbrev main_while1c_c_25 : Ref sig .tc := ⟨.hbm, 117, rfl⟩
abbrev main_while1c_v46 : Ref sig .tc := ⟨.hbm, 118, rfl⟩
abbrev main_while1b_c_25 : Ref sig .tc := ⟨.hbm, 119, rfl⟩
abbrev main_while1b_v46 : Ref sig .tc := ⟨.hbm, 120, rfl⟩
abbrev main_while1b_c_26 : Ref sig .tc := ⟨.hbm, 121, rfl⟩
abbrev main_while1b_v47 : Ref sig .tc := ⟨.hbm, 122, rfl⟩
abbrev main_while1b_call6_c : Ref sig .tc := ⟨.hbm, 123, rfl⟩
abbrev main_while1b_call6_c_0 : Ref sig .tc := ⟨.hbm, 124, rfl⟩
abbrev main_while1b_call6_v0 : Ref sig .tc := ⟨.hbm, 125, rfl⟩
abbrev main_while1b_v48 : Ref sig .tc := ⟨.hbm, 126, rfl⟩
abbrev main_while1b_call7_c : Ref sig .tc := ⟨.hbm, 127, rfl⟩
abbrev main_while1b_call7_c_0 : Ref sig .tc := ⟨.hbm, 128, rfl⟩
abbrev main_while1b_call7_v0 : Ref sig .tc := ⟨.hbm, 129, rfl⟩
abbrev main_while1b_v49 : Ref sig .tc := ⟨.hbm, 130, rfl⟩
abbrev main_while1b_call8_c : Ref sig .tc := ⟨.hbm, 131, rfl⟩
abbrev main_while1b_call8_c_0 : Ref sig .tc := ⟨.hbm, 132, rfl⟩
abbrev main_while1b_call8_v0 : Ref sig .tc := ⟨.hbm, 133, rfl⟩
abbrev main_while1b_v50 : Ref sig .tc := ⟨.hbm, 134, rfl⟩
abbrev main_while1b_call9_c : Ref sig .tc := ⟨.hbm, 135, rfl⟩
abbrev main_while1b_call9_c_0 : Ref sig .tc := ⟨.hbm, 136, rfl⟩
abbrev main_while1b_call9_v0 : Ref sig .tc := ⟨.hbm, 137, rfl⟩
abbrev main_while1b_v51 : Ref sig .tc := ⟨.hbm, 138, rfl⟩
abbrev main_while1b_v52 : Ref sig .tc := ⟨.hbm, 139, rfl⟩
abbrev main_while1b_v53 : Ref sig .tc := ⟨.hbm, 140, rfl⟩
abbrev main_while1b_v54 : Ref sig .tc := ⟨.hbm, 141, rfl⟩
abbrev main_while1b_v55 : Ref sig .tc := ⟨.hbm, 142, rfl⟩
abbrev main_while1b_v56 : Ref sig .tc := ⟨.hbm, 143, rfl⟩
abbrev main_while1b_v57 : Ref sig .tc := ⟨.hbm, 144, rfl⟩
abbrev main_while1b_v58 : Ref sig .tc := ⟨.hbm, 145, rfl⟩
abbrev main_while1b_v59 : Ref sig .tc := ⟨.hbm, 146, rfl⟩
abbrev main_while1b_v60 : Ref sig .tc := ⟨.hbm, 147, rfl⟩
abbrev main_while1b_v61 : Ref sig .tc := ⟨.hbm, 148, rfl⟩
abbrev main_while1b_v62 : Ref sig .tc := ⟨.hbm, 149, rfl⟩
abbrev main_while1b_v63 : Ref sig .tc := ⟨.hbm, 150, rfl⟩
abbrev main_while1b_v64 : Ref sig .tc := ⟨.hbm, 151, rfl⟩
abbrev main_while1b_v65 : Ref sig .tc := ⟨.hbm, 152, rfl⟩
abbrev main_while1b_v66 : Ref sig .tc := ⟨.hbm, 153, rfl⟩
abbrev main_while1b_v67 : Ref sig .tc := ⟨.hbm, 154, rfl⟩
abbrev main_while1b_v68 : Ref sig .tc := ⟨.hbm, 155, rfl⟩
abbrev main_while1b_call10_v0 : Ref sig .tc := ⟨.hbm, 156, rfl⟩
abbrev main_while1b_call10_c : Ref sig .tc := ⟨.hbm, 157, rfl⟩
abbrev main_while1b_call10_c_0 : Ref sig .tc := ⟨.hbm, 158, rfl⟩
abbrev main_while1b_v69 : Ref sig .tc := ⟨.hbm, 159, rfl⟩
abbrev main_while1b_call11_v0 : Ref sig .tc := ⟨.hbm, 160, rfl⟩
abbrev main_while1b_call11_c : Ref sig .tc := ⟨.hbm, 161, rfl⟩
abbrev main_while1b_call11_c_0 : Ref sig .tc := ⟨.hbm, 162, rfl⟩
abbrev main_while1b_v70 : Ref sig .tc := ⟨.hbm, 163, rfl⟩
abbrev main_while1b_c_27 : Ref sig .tc := ⟨.hbm, 164, rfl⟩
abbrev main_while1b_v71 : Ref sig .tc := ⟨.hbm, 165, rfl⟩
abbrev main_v36 : Ref sig .tc := ⟨.hbm, 166, rfl⟩
abbrev main_v37 : Ref sig .tc := ⟨.hbm, 167, rfl⟩
abbrev main_v38 : Ref sig .tc := ⟨.hbm, 168, rfl⟩
abbrev main_v39 : Ref sig .tc := ⟨.hbm, 169, rfl⟩
abbrev main_v40 : Ref sig .tc := ⟨.hbm, 170, rfl⟩
abbrev main_v41 : Ref sig .tc := ⟨.hbm, 171, rfl⟩
abbrev main_v42 : Ref sig .tc := ⟨.hbm, 172, rfl⟩
abbrev main_v43 : Ref sig .tc := ⟨.hbm, 173, rfl⟩
abbrev main_v44 : Ref sig .tc := ⟨.hbm, 174, rfl⟩
abbrev main_v45 : Ref sig .tc := ⟨.hbm, 175, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Out.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S2048x1024, .bf16⟩
  | .local _ .vmem, ⟨15, _⟩ => ⟨S2048x1024, .bf16⟩
  | .local _ .vmem, ⟨16, _⟩ => ⟨S2048x1024, .f32⟩
  | .local _ .vmem, ⟨17, _⟩ => ⟨S2048x1024, .f32⟩
  | .local _ .vmem, ⟨18, _⟩ => ⟨S1024x1024, .bf16⟩
  | .local _ .vmem, ⟨19, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== OutReferenceIdeal.lean ====
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== In.lean ====
abbrev S2048x2048 : Shape := ⟨2, ![2048, 2048]⟩
abbrev S2048x3072 : Shape := ⟨2, ![2048, 3072]⟩
abbrev S2048x1024 : Shape := ⟨2, ![2048, 1024]⟩
abbrev S2048x4096 : Shape := ⟨2, ![2048, 4096]⟩
abbrev S3072x2048 : Shape := ⟨2, ![3072, 2048]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 31
  | .vmem => 42
  | .smem => 0
  | _ => 0

abbrev bufTy : (tb : Table) → Fin (tcTables nBuf tb) → BufTy
  | .hbm, ⟨0, _⟩ => ⟨S2048x2048, .f32⟩
  | .hbm, ⟨1, _⟩ => ⟨S2048x3072, .f32⟩
  | .hbm, ⟨2, _⟩ => ⟨S2048x1024, .f32⟩
  | .hbm, ⟨3, _⟩ => ⟨S2048x4096, .f32⟩
  | .hbm, ⟨4, _⟩ => ⟨S2048x3072, .f32⟩
  | .hbm, ⟨5, _⟩ => ⟨S2048x1024, .f32⟩
  | .hbm, ⟨6, _⟩ => ⟨S2048x4096, .f32⟩
  | .hbm, ⟨7, _⟩ => ⟨S2048x2048, .f32⟩
  | .hbm, ⟨8, _⟩ => ⟨S2048x2048, .bf16⟩
  | .hbm, ⟨9, _⟩ => ⟨S2048x3072, .bf16⟩
  | .hbm, ⟨10, _⟩ => ⟨S2048x1024, .bf16⟩
  | .hbm, ⟨11, _⟩ => ⟨S2048x4096, .bf16⟩
  | .hbm, ⟨12, _⟩ => ⟨S3072x2048, .f32⟩
  | .hbm, ⟨13, _⟩ => ⟨S3072x2048, .bf16⟩
  | .hbm, ⟨14, _⟩ => ⟨S1024x2048, .f32⟩
  | .hbm, ⟨15, _⟩ => ⟨S1024x2048, .bf16⟩
  | .hbm, ⟨16, _⟩ => ⟨S4096x2048, .f32⟩
  | .hbm, ⟨17, _⟩ => ⟨S4096x2048, .bf16⟩
  | .hbm, ⟨18, _⟩ => ⟨S2048x3072, .f32⟩
  | .hbm, ⟨19, _⟩ => ⟨S2048x1024, .f32⟩
  | .hbm, ⟨20, _⟩ => ⟨S2048x4096, .f32⟩
  | .hbm, ⟨21, _⟩ => ⟨S2048x2048, .f32⟩
  | .hbm, ⟨22, _⟩ => ⟨S3072x2048, .bf16⟩
  | .hbm, ⟨23, _⟩ => ⟨S1024x2048, .bf16⟩
  | .hbm, ⟨24, _⟩ => ⟨S4096x2048, .bf16⟩
  | .hbm, ⟨25, _⟩ => ⟨S3072x2048, .f32⟩
  | .hbm, ⟨26, _⟩ => ⟨S2048x3072, .f32⟩
  | .hbm, ⟨27, _⟩ => ⟨S1024x2048, .f32⟩
  | .hbm, ⟨28, _⟩ => ⟨S2048x1024, .f32⟩
  | .hbm, ⟨29, _⟩ => ⟨S4096x2048, .f32⟩
  | .hbm, ⟨30, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S2048x1024, .bf16⟩
  | .local _ .vmem, ⟨26, _⟩ => ⟨S2048x1024, .bf16⟩
  | .local _ .vmem, ⟨27, _⟩ => ⟨S2048x1024, .bf16⟩
  | .local _ .vmem, ⟨28, _⟩ => ⟨S2048x1024, .bf16⟩
  | .local _ .vmem, ⟨29, _⟩ => ⟨S1024x1024, .bf16⟩
  | .local _ .vmem, ⟨30, _⟩ => ⟨S1024x1024, .bf16⟩
  | .local _ .vmem, ⟨31, _⟩ => ⟨S2048x1024, .bf16⟩
  | .local _ .vmem, ⟨32, _⟩ => ⟨S2048x1024, .bf16⟩
  | .local _ .vmem, ⟨33, _⟩ => ⟨S2048x1024, .bf16⟩
  | .local _ .vmem, ⟨34, _⟩ => ⟨S1024x1024, .bf16⟩
  | .local _ .vmem, ⟨35, _⟩ => ⟨S1024x1024, .bf16⟩
  | .local _ .vmem, ⟨36, _⟩ => ⟨S2048x1024, .bf16⟩
  | .local _ .vmem, ⟨37, _⟩ => ⟨S2048x1024, .bf16⟩
  | .local _ .vmem, ⟨38, _⟩ => ⟨S2048x1024, .bf16⟩
  | .local _ .vmem, ⟨39, _⟩ => ⟨S2048x1024, .bf16⟩
  | .local _ .vmem, ⟨40, _⟩ => ⟨S1024x1024, .bf16⟩
  | .local _ .vmem, ⟨41, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![3, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== InReferenceIdeal.lean ====
abbrev S2048x2048 : Shape := ⟨2, ![2048, 2048]⟩
abbrev S2048x3072 : Shape := ⟨2, ![2048, 3072]⟩
abbrev S2048x1024 : Shape := ⟨2, ![2048, 1024]⟩
abbrev S2048x4096 : Shape := ⟨2, ![2048, 4096]⟩
abbrev S1024x2048 : Shape := ⟨2, ![1024, 2048]⟩
abbrev S3072x2048 : Shape := ⟨2, ![3072, 2048]⟩
abbrev S4096x2048 : Shape := ⟨2, ![4096, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x3072, .f32⟩
  | .hbm, ⟨2, _⟩ => ⟨S2048x1024, .f32⟩
  | .hbm, ⟨3, _⟩ => ⟨S2048x4096, .f32⟩
  | .hbm, ⟨4, _⟩ => ⟨S2048x3072, .f32⟩
  | .hbm, ⟨5, _⟩ => ⟨S2048x1024, .f32⟩
  | .hbm, ⟨6, _⟩ => ⟨S2048x4096, .f32⟩
  | .hbm, ⟨7, _⟩ => ⟨S2048x2048, .f32⟩
  | .hbm, ⟨8, _⟩ => ⟨S2048x3072, .f32⟩
  | .hbm, ⟨9, _⟩ => ⟨S2048x1024, .f32⟩
  | .hbm, ⟨10, _⟩ => ⟨S2048x4096, .f32⟩
  | .hbm, ⟨11, _⟩ => ⟨S1024x2048, .f32⟩
  | .hbm, ⟨12, _⟩ => ⟨S2048x1024, .f32⟩
  | .hbm, ⟨13, _⟩ => ⟨S2048x2048, .f32⟩
  | .hbm, ⟨14, _⟩ => ⟨S2048x2048, .f32⟩
  | .hbm, ⟨15, _⟩ => ⟨S3072x2048, .f32⟩
  | .hbm, ⟨16, _⟩ => ⟨S2048x3072, .f32⟩
  | .hbm, ⟨17, _⟩ => ⟨S4096x2048, .f32⟩
  | .hbm, ⟨18, _⟩ => ⟨S2048x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Branch.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 20
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1024x2048, .bf16⟩
  | .hbm, ⟨9, _⟩ => ⟨S2048x2048, .bf16⟩
  | .hbm, ⟨10, _⟩ => ⟨S1024x1024, .bf16⟩
  | .hbm, ⟨11, _⟩ => ⟨S2048x1024, .bf16⟩
  | .hbm, ⟨12, _⟩ => ⟨S2048x2048, .f32⟩
  | .hbm, ⟨13, _⟩ => ⟨S2048x1024, .f32⟩
  | .hbm, ⟨14, _⟩ => ⟨S2048x1024, .f32⟩
  | .hbm, ⟨15, _⟩ => ⟨S1024x1024, .bf16⟩
  | .hbm, ⟨16, _⟩ => ⟨S2048x1024, .f32⟩
  | .hbm, ⟨17, _⟩ => ⟨S1024x2048, .bf16⟩
  | .hbm, ⟨18, _⟩ => ⟨S1024x1024, .f32⟩
  | .hbm, ⟨19, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S2048x1024, .f32⟩
  | .local _ .vmem, ⟨19, _⟩ => ⟨S2048x1024, .bf16⟩
  | .local _ .vmem, ⟨20, _⟩ => ⟨S1024x1024, .bf16⟩
  | .local _ .vmem, ⟨21, _⟩ => ⟨S1024x2048, .bf16⟩
  | .local _ .vmem, ⟨22, _⟩ => ⟨S1024x2048, .bf16⟩
  | .local _ .vmem, ⟨23, _⟩ => ⟨S1024x2048, .bf16⟩
  | .local _ .vmem, ⟨24, _⟩ => ⟨S1024x1024, .f32⟩
  | .local _ .vmem, ⟨25, _⟩ => ⟨S1024x1024, .f32⟩
  | .local _ .vmem, ⟨26, _⟩ => ⟨S2048x1024, .bf16⟩
  | .local _ .vmem, ⟨27, _⟩ => ⟨S2048x1024, .bf16⟩
  | .local _ .vmem, ⟨28, _⟩ => ⟨S2048x1024, .bf16⟩
  | .local _ .vmem, ⟨29, _⟩ => ⟨S1024x1024, .bf16⟩
  | .local _ .vmem, ⟨30, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem1_1 : DmaSem sig := 28
abbrev cc5_sem2_0 : DmaSem sig := 29
abbrev cc5_sem2_1 : DmaSem sig := 30

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== BranchReferenceIdeal.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x1024, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S2048x1024, .f32⟩
  | .hbm, ⟨15, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Side.lean ====
abbrev S2048x2048 : Shape := ⟨2, ![2048, 2048]⟩
abbrev S2048x256 : Shape := ⟨2, ![2048, 256]⟩
abbrev S2048x1024 : Shape := ⟨2, ![2048, 1024]⟩
abbrev S256x2048 : Shape := ⟨2, ![256, 2048]⟩
abbrev S1024x2048 : Shape := ⟨2, ![1024, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 19
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S2048x256, .f32⟩
  | .hbm, ⟨2, _⟩ => ⟨S2048x256, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x2048, .bf16⟩
  | .hbm, ⟨7, _⟩ => ⟨S256x2048, .f32⟩
  | .hbm, ⟨8, _⟩ => ⟨S256x2048, .bf16⟩
  | .hbm, ⟨9, _⟩ => ⟨S2048x256, .bf16⟩
  | .hbm, ⟨10, _⟩ => ⟨S2048x1024, .bf16⟩
  | .hbm, ⟨11, _⟩ => ⟨S1024x2048, .f32⟩
  | .hbm, ⟨12, _⟩ => ⟨S1024x2048, .bf16⟩
  | .hbm, ⟨13, _⟩ => ⟨S2048x256, .f32⟩
  | .hbm, ⟨14, _⟩ => ⟨S2048x2048, .f32⟩
  | .hbm, ⟨15, _⟩ => ⟨S2048x2048, .f32⟩
  | .hbm, ⟨16, _⟩ => ⟨S256x2048, .bf16⟩
  | .hbm, ⟨17, _⟩ => ⟨S256x2048, .f32⟩
  | .hbm, ⟨18, _⟩ => ⟨S2048x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S2048x256, .bf16⟩
  | .local _ .vmem, ⟨20, _⟩ => ⟨S2048x1024, .bf16⟩
  | .local _ .vmem, ⟨21, _⟩ => ⟨S2048x1024, .bf16⟩
  | .local _ .vmem, ⟨22, _⟩ => ⟨S256x1024, .bf16⟩
  | .local _ .vmem, ⟨23, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== SideReferenceIdeal.lean ====
abbrev S2048x2048 : Shape := ⟨2, ![2048, 2048]⟩
abbrev S2048x256 : Shape := ⟨2, ![2048, 256]⟩
abbrev S2048x1024 : Shape := ⟨2, ![2048, 1024]⟩
abbrev S256x2048 : Shape := ⟨2, ![256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x256, .f32⟩
  | .hbm, ⟨2, _⟩ => ⟨S2048x256, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x256, .f32⟩
  | .hbm, ⟨7, _⟩ => ⟨S256x2048, .f32⟩
  | .hbm, ⟨8, _⟩ => ⟨S2048x256, .f32⟩
  | .hbm, ⟨9, _⟩ => ⟨S2048x2048, .f32⟩
  | .hbm, ⟨10, _⟩ => ⟨S2048x1024, .f32⟩
  | .hbm, ⟨11, _⟩ => ⟨S2048x2048, .f32⟩
  | .hbm, ⟨12, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== DhQkv.lean ====
abbrev S2048x3072 : Shape := ⟨2, ![2048, 3072]⟩
abbrev S2048x2048 : Shape := ⟨2, ![2048, 2048]⟩
abbrev S3072x2048 : Shape := ⟨2, ![3072, 2048]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x2048, .f32⟩
  | .hbm, ⟨3, _⟩ => ⟨S2048x3072, .bf16⟩
  | .hbm, ⟨4, _⟩ => ⟨S3072x2048, .f32⟩
  | .hbm, ⟨5, _⟩ => ⟨S3072x2048, .bf16⟩
  | .hbm, ⟨6, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhQkvReferenceIdeal.lean ====
abbrev S2048x3072 : Shape := ⟨2, ![2048, 3072]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x3072, .f32⟩
  | .hbm, ⟨6, _⟩ => ⟨S2048x2048, .f32⟩
  | .hbm, ⟨7, _⟩ => ⟨S2048x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DhGate.lean ====
abbrev S2048x4096 : Shape := ⟨2, ![2048, 4096]⟩
abbrev S2048x2048 : Shape := ⟨2, ![2048, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x2048, .f32⟩
  | .hbm, ⟨3, _⟩ => ⟨S2048x4096, .bf16⟩
  | .hbm, ⟨4, _⟩ => ⟨S4096x2048, .f32⟩
  | .hbm, ⟨5, _⟩ => ⟨S4096x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhGateReferenceIdeal.lean ====
abbrev S2048x4096 : Shape := ⟨2, ![2048, 4096]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x4096, .f32⟩
  | .hbm, ⟨6, _⟩ => ⟨S2048x2048, .f32⟩
  | .hbm, ⟨7, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Merge.lean ====
abbrev S2048x4096 : Shape := ⟨2, ![2048, 4096]⟩
abbrev S2048x2048 : Shape := ⟨2, ![2048, 2048]⟩
abbrev S1x4096 : Shape := ⟨2, ![1, 4096]⟩
abbrev S128x4096 : Shape := ⟨2, ![128, 4096]⟩
abbrev S128x2048 : Shape := ⟨2, ![128, 2048]⟩
abbrev S4096 : Shape := ⟨1, ![4096]⟩

abbrev nBuf : Space → Nat
  | .hbm => 9
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S1x4096, .f32⟩
  | .hbm, ⟨4, _⟩ => ⟨S2048x2048, .f32⟩
  | .hbm, ⟨5, _⟩ => ⟨S2048x4096, .bf16⟩
  | .hbm, ⟨6, _⟩ => ⟨S2048x2048, .bf16⟩
  | .hbm, ⟨7, _⟩ => ⟨S2048x2048, .bf16⟩
  | .hbm, ⟨8, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x4096, .f32⟩
  | .local _ .vmem, ⟨7, _⟩ => ⟨S128x2048, .f32⟩
  | .local _ .vmem, ⟨8, _⟩ => ⟨S128x2048, .f32⟩
  | .local _ .vmem, ⟨9, _⟩ => ⟨S128x4096, .bf16⟩
  | .local _ .vmem, ⟨10, _⟩ => ⟨S128x4096, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S1x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MergeReferenceIdeal.lean ====
abbrev S2048x4096 : Shape := ⟨2, ![2048, 4096]⟩
abbrev S2048x2048 : Shape := ⟨2, ![2048, 2048]⟩
abbrev S1x4096 : Shape := ⟨2, ![1, 4096]⟩
abbrev S_ : Shape := ⟨0, ![]⟩
abbrev S4096 : Shape := ⟨1, ![4096]⟩

abbrev nBuf : Space → Nat
  | .hbm => 38
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S1x4096, .f32⟩
  | .hbm, ⟨4, _⟩ => ⟨S2048x2048, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x4096, .f32⟩
  | .hbm, ⟨31, _⟩ => ⟨S2048x4096, .f32⟩
  | .hbm, ⟨32, _⟩ => ⟨S_, .f32⟩
  | .hbm, ⟨33, _⟩ => ⟨S4096, .f32⟩
  | .hbm, ⟨34, _⟩ => ⟨S1x4096, .f32⟩
  | .hbm, ⟨35, _⟩ => ⟨S2048x4096, .bf16⟩
  | .hbm, ⟨36, _⟩ => ⟨S2048x2048, .bf16⟩
  | .hbm, ⟨37, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Glu.lean ====
abbrev S2048x1024 : Shape := ⟨2, ![2048, 1024]⟩
abbrev S1x1024 : Shape := ⟨2, ![1, 1024]⟩
abbrev S128x1024 : Shape := ⟨2, ![128, 1024]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GluReferenceIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .bf16⟩
  | .hbm, ⟨47, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v12_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v12_1 : Ref sig .tc := ⟨.hbm, 31, rfl⟩
abbrev main_v12_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]
-- ==== MergeFwd.lean ====
abbrev S2048x4096 : Shape := ⟨2, ![2048, 4096]⟩
abbrev S2048x2048 : Shape := ⟨2, ![2048, 2048]⟩
abbrev S1x4096 : Shape := ⟨2, ![1, 4096]⟩
abbrev S128x4096 : Shape := ⟨2, ![128, 4096]⟩
abbrev S128x2048 : Shape := ⟨2, ![128, 2048]⟩

abbrev nBuf : Space → Nat
  | .hbm => 5
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S1x4096, .f32⟩
  | .hbm, ⟨4, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x4096, .f32⟩
  | .local _ .vmem, ⟨7, _⟩ => ⟨S128x2048, .bf16⟩
  | .local _ .vmem, ⟨8, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdReferenceIdeal.lean ====
abbrev S2048x4096 : Shape := ⟨2, ![2048, 4096]⟩
abbrev S2048x2048 : Shape := ⟨2, ![2048, 2048]⟩
abbrev S1x4096 : Shape := ⟨2, ![1, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S2048x2048, .f32⟩
  | .hbm, ⟨3, _⟩ => ⟨S1x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== GluFwd.lean ====
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFwdReferenceIdeal.lean ====
abbrev S2048x1024 : Shape := ⟨2, ![2048, 1024]⟩
abbrev S1x1024 : Shape := ⟨2, ![1, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== SkipFwd.lean ====
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SkipFwdReferenceIdeal.lean ====
abbrev S2048x1024 : Shape := ⟨2, ![2048, 1024]⟩
abbrev S1x1024 : Shape := ⟨2, ![1, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Skip.lean ====
abbrev S2048x1024 : Shape := ⟨2, ![2048, 1024]⟩
abbrev S1x1024 : Shape := ⟨2, ![1, 1024]⟩
abbrev S128x1024 : Shape := ⟨2, ![128, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .bf16⟩
  | .local _ .vmem, ⟨10, _⟩ => ⟨S128x1024, .bf16⟩
  | .local _ .vmem, ⟨11, _⟩ => ⟨S128x1024, .f32⟩
  | .local _ .vmem, ⟨12, _⟩ => ⟨S128x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== SkipReferenceIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== NormFwd.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AdamGlu.lean ====
abbrev S1x1024x1024 : Shape := ⟨3, ![1, 1024, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGluIdeal.lean ====
abbrev S1x1024x1024 : Shape := ⟨3, ![1, 1024, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGluReferenceIdeal.lean ====
abbrev S1x1024x1024 : Shape := ⟨3, ![1, 1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S_, .f32⟩
  | .hbm, ⟨7, _⟩ => ⟨S1x1024x1024, .f32⟩
  | .hbm, ⟨8, _⟩ => ⟨S1x1024x1024, .f32⟩
  | .hbm, ⟨9, _⟩ => ⟨S_, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S_, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S_, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S_, .f32⟩
  | .hbm, ⟨22, _⟩ => ⟨S1x1024x1024, .f32⟩
  | .hbm, ⟨23, _⟩ => ⟨S1x1024x1024, .f32⟩
  | .hbm, ⟨24, _⟩ => ⟨S_, .f32⟩
  | .hbm, ⟨25, _⟩ => ⟨S1x1024x1024, .f32⟩
  | .hbm, ⟨26, _⟩ => ⟨S1x1024x1024, .f32⟩
  | .hbm, ⟨27, _⟩ => ⟨S1x1024x1024, .f32⟩
  | .hbm, ⟨28, _⟩ => ⟨S_, .f32⟩
  | .hbm, ⟨29, _⟩ => ⟨S1x1024x1024, .f32⟩
  | .hbm, ⟨30, _⟩ => ⟨S1x1024x1024, .f32⟩
  | .hbm, ⟨31, _⟩ => ⟨S1x1024x1024, .f32⟩
  | .hbm, ⟨32, _⟩ => ⟨S_, .f32⟩
  | .hbm, ⟨33, _⟩ => ⟨S1x1024x1024, .f32⟩
  | .hbm, ⟨34, _⟩ => ⟨S1x1024x1024, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPa.lean ====
abbrev S1x4096x512 : Shape := ⟨3, ![1, 4096, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPaIdeal.lean ====
abbrev S1x4096x512 : Shape := ⟨3, ![1, 4096, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPaReferenceIdeal.lean ====
abbrev S1x4096x512 : Shape := ⟨3, ![1, 4096, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x512, .f32⟩
  | .hbm, ⟨6, _⟩ => ⟨S_, .f32⟩
  | .hbm, ⟨7, _⟩ => ⟨S1x4096x512, .f32⟩
  | .hbm, ⟨8, _⟩ => ⟨S1x4096x512, .f32⟩
  | .hbm, ⟨9, _⟩ => ⟨S_, .f32⟩
  | .hbm, ⟨10, _⟩ => ⟨S1x4096x512, .f32⟩
  | .hbm, ⟨11, _⟩ => ⟨S1x4096x512, .f32⟩
  | .hbm, ⟨12, _⟩ => ⟨S1x4096x512, .f32⟩
  | .hbm, ⟨13, _⟩ => ⟨S_, .f32⟩
  | .hbm, ⟨14, _⟩ => ⟨S1x4096x512, .f32⟩
  | .hbm, ⟨15, _⟩ => ⟨S1x4096x512, .f32⟩
  | .hbm, ⟨16, _⟩ => ⟨S1x4096x512, .f32⟩
  | .hbm, ⟨17, _⟩ => ⟨S_, .f32⟩
  | .hbm, ⟨18, _⟩ => ⟨S1x4096x512, .f32⟩
  | .hbm, ⟨19, _⟩ => ⟨S1x4096x512, .f32⟩
  | .hbm, ⟨20, _⟩ => ⟨S1x4096x512, .f32⟩
  | .hbm, ⟨21, _⟩ => ⟨S_, .f32⟩
  | .hbm, ⟨22, _⟩ => ⟨S1x4096x512, .f32⟩
  | .hbm, ⟨23, _⟩ => ⟨S1x4096x512, .f32⟩
  | .hbm, ⟨24, _⟩ => ⟨S_, .f32⟩
  | .hbm, ⟨25, _⟩ => ⟨S1x4096x512, .f32⟩
  | .hbm, ⟨26, _⟩ => ⟨S1x4096x512, .f32⟩
  | .hbm, ⟨27, _⟩ => ⟨S1x4096x512, .f32⟩
  | .hbm, ⟨28, _⟩ => ⟨S_, .f32⟩
  | .hbm, ⟨29, _⟩ => ⟨S1x4096x512, .f32⟩
  | .hbm, ⟨30, _⟩ => ⟨S1x4096x512, .f32⟩
  | .hbm, ⟨31, _⟩ => ⟨S1x4096x512, .f32⟩
  | .hbm, ⟨32, _⟩ => ⟨S_, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S_, .f32⟩
  | .hbm, ⟨37, _⟩ => ⟨S1x4096x512, .f32⟩
  | .hbm, ⟨38, _⟩ => ⟨S1x4096x512, .f32⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S1x2048x2048 : Shape := ⟨3, ![1, 2048, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S1x2048x2048 : Shape := ⟨3, ![1, 2048, 2048]⟩
abbrev S1x128x2048 : Shape := ⟨3, ![1, 128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutReferenceIdeal.lean ====
abbrev S1x2048x2048 : Shape := ⟨3, ![1, 2048, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S1x2048x2048, .f32⟩
  | .hbm, ⟨6, _⟩ => ⟨S_, .f32⟩
  | .hbm, ⟨7, _⟩ => ⟨S1x2048x2048, .f32⟩
  | .hbm, ⟨8, _⟩ => ⟨S1x2048x2048, .f32⟩
  | .hbm, ⟨9, _⟩ => ⟨S_, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048x2048, .f32⟩
  | .hbm, ⟨23, _⟩ => ⟨S1x2048x2048, .f32⟩
  | .hbm, ⟨24, _⟩ => ⟨S_, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S_, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048x2048, .f32⟩
  | .hbm, ⟨38, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S1x10272x2048 : Shape := ⟨3, ![1, 10272, 2048]⟩
abbrev S1x96x2048 : Shape := ⟨3, ![1, 96, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1x10272x2048, .f32⟩
  | .hbm, ⟨1, _⟩ => ⟨S1x10272x2048, .f32⟩
  | .hbm, ⟨2, _⟩ => ⟨S1x10272x2048, .f32⟩
  | .hbm, ⟨3, _⟩ => ⟨S1x10272x2048, .f32⟩
  | .hbm, ⟨4, _⟩ => ⟨S1x10272x2048, .f32⟩
  | .hbm, ⟨5, _⟩ => ⟨S1x10272x2048, .f32⟩
  | .hbm, ⟨6, _⟩ => ⟨S1x10272x2048, .f32⟩
  | .hbm, ⟨7, _⟩ => ⟨S1x10272x2048, .f32⟩
  | .hbm, ⟨8, _⟩ => ⟨S1x10272x2048, .f32⟩
  | .local _ .vmem, ⟨0, _⟩ => ⟨S1x96x2048, .f32⟩
  | .local _ .vmem, ⟨1, _⟩ => ⟨S1x96x2048, .f32⟩
  | .local _ .vmem, ⟨2, _⟩ => ⟨S1x96x2048, .f32⟩
  | .local _ .vmem, ⟨3, _⟩ => ⟨S1x96x2048, .f32⟩
  | .local _ .vmem, ⟨4, _⟩ => ⟨S1x96x2048, .f32⟩
  | .local _ .vmem, ⟨5, _⟩ => ⟨S1x96x2048, .f32⟩
  | .local _ .vmem, ⟨6, _⟩ => ⟨S1x96x2048, .f32⟩
  | .local _ .vmem, ⟨7, _⟩ => ⟨S1x96x2048, .f32⟩
  | .local _ .vmem, ⟨8, _⟩ => ⟨S1x96x2048, .f32⟩
  | .local _ .vmem, ⟨9, _⟩ => ⟨S1x96x2048, .f32⟩
  | .local _ .vmem, ⟨10, _⟩ => ⟨S1x96x2048, .f32⟩
  | .local _ .vmem, ⟨11, _⟩ => ⟨S1x96x2048, .f32⟩
  | .local _ .vmem, ⟨12, _⟩ => ⟨S1x96x2048, .f32⟩
  | .local _ .vmem, ⟨13, _⟩ => ⟨S1x96x2048, .f32⟩
  | .local _ .vmem, ⟨14, _⟩ => ⟨S1x96x2048, .f32⟩
  | .local _ .vmem, ⟨15, _⟩ => ⟨S1x96x2048, .f32⟩
  | .local _ .vmem, ⟨16, _⟩ => ⟨S1x96x2048, .f32⟩
  | .local _ .vmem, ⟨17, _⟩ => ⟨S1x96x2048, .f32⟩
  | _, _ => ⟨S1x10272x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 107], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x96x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
abbrev S1x10272x2048 : Shape := ⟨3, ![1, 10272, 2048]⟩
abbrev S1x96x2048 : Shape := ⟨3, ![1, 96, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1x10272x2048, .f32⟩
  | .hbm, ⟨1, _⟩ => ⟨S1x10272x2048, .f32⟩
  | .hbm, ⟨2, _⟩ => ⟨S1x10272x2048, .f32⟩
  | .hbm, ⟨3, _⟩ => ⟨S1x10272x2048, .f32⟩
  | .hbm, ⟨4, _⟩ => ⟨S1x10272x2048, .f32⟩
  | .hbm, ⟨5, _⟩ => ⟨S1x10272x2048, .f32⟩
  | .hbm, ⟨6, _⟩ => ⟨S1x10272x2048, .f32⟩
  | .hbm, ⟨7, _⟩ => ⟨S1x10272x2048, .f32⟩
  | .hbm, ⟨8, _⟩ => ⟨S1x10272x2048, .f32⟩
  | .local _ .vmem, ⟨0, _⟩ => ⟨S1x96x2048, .f32⟩
  | .local _ .vmem, ⟨1, _⟩ => ⟨S1x96x2048, .f32⟩
  | .local _ .vmem, ⟨2, _⟩ => ⟨S1x96x2048, .f32⟩
  | .local _ .vmem, ⟨3, _⟩ => ⟨S1x96x2048, .f32⟩
  | .local _ .vmem, ⟨4, _⟩ => ⟨S1x96x2048, .f32⟩
  | .local _ .vmem, ⟨5, _⟩ => ⟨S1x96x2048, .f32⟩
  | .local _ .vmem, ⟨6, _⟩ => ⟨S1x96x2048, .f32⟩
  | .local _ .vmem, ⟨7, _⟩ => ⟨S1x96x2048, .f32⟩
  | .local _ .vmem, ⟨8, _⟩ => ⟨S1x96x2048, .f32⟩
  | .local _ .vmem, ⟨9, _⟩ => ⟨S1x96x2048, .f32⟩
  | .local _ .vmem, ⟨10, _⟩ => ⟨S1x96x2048, .f32⟩
  | .local _ .vmem, ⟨11, _⟩ => ⟨S1x96x2048, .f32⟩
  | .local _ .vmem, ⟨12, _⟩ => ⟨S1x96x2048, .f32⟩
  | .local _ .vmem, ⟨13, _⟩ => ⟨S1x96x2048, .f32⟩
  | .local _ .vmem, ⟨14, _⟩ => ⟨S1x96x2048, .f32⟩
  | .local _ .vmem, ⟨15, _⟩ => ⟨S1x96x2048, .f32⟩
  | .local _ .vmem, ⟨16, _⟩ => ⟨S1x96x2048, .f32⟩
  | .local _ .vmem, ⟨17, _⟩ => ⟨S1x96x2048, .f32⟩
  | _, _ => ⟨S1x10272x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 107], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x96x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInReferenceIdeal.lean ====
abbrev S1x10272x2048 : Shape := ⟨3, ![1, 10272, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x10272x2048, .f32⟩
  | .hbm, ⟨1, _⟩ => ⟨S1x10272x2048, .f32⟩
  | .hbm, ⟨2, _⟩ => ⟨S1x10272x2048, .f32⟩
  | .hbm, ⟨3, _⟩ => ⟨S1x10272x2048, .f32⟩
  | .hbm, ⟨4, _⟩ => ⟨S1x10272x2048, .f32⟩
  | .hbm, ⟨5, _⟩ => ⟨S1x10272x2048, .f32⟩
  | .hbm, ⟨6, _⟩ => ⟨S_, .f32⟩
  | .hbm, ⟨7, _⟩ => ⟨S1x10272x2048, .f32⟩
  | .hbm, ⟨8, _⟩ => ⟨S1x10272x2048, .f32⟩
  | .hbm, ⟨9, _⟩ => ⟨S_, .f32⟩
  | .hbm, ⟨10, _⟩ => ⟨S1x10272x2048, .f32⟩
  | .hbm, ⟨11, _⟩ => ⟨S1x10272x2048, .f32⟩
  | .hbm, ⟨12, _⟩ => ⟨S1x10272x2048, .f32⟩
  | .hbm, ⟨13, _⟩ => ⟨S_, .f32⟩
  | .hbm, ⟨14, _⟩ => ⟨S1x10272x2048, .f32⟩
  | .hbm, ⟨15, _⟩ => ⟨S1x10272x2048, .f32⟩
  | .hbm, ⟨16, _⟩ => ⟨S1x10272x2048, .f32⟩
  | .hbm, ⟨17, _⟩ => ⟨S_, .f32⟩
  | .hbm, ⟨18, _⟩ => ⟨S1x10272x2048, .f32⟩
  | .hbm, ⟨19, _⟩ => ⟨S1x10272x2048, .f32⟩
  | .hbm, ⟨20, _⟩ => ⟨S1x10272x2048, .f32⟩
  | .hbm, ⟨21, _⟩ => ⟨S_, .f32⟩
  | .hbm, ⟨22, _⟩ => ⟨S1x10272x2048, .f32⟩
  | .hbm, ⟨23, _⟩ => ⟨S1x10272x2048, .f32⟩
  | .hbm, ⟨24, _⟩ => ⟨S_, .f32⟩
  | .hbm, ⟨25, _⟩ => ⟨S1x10272x2048, .f32⟩
  | .hbm, ⟨26, _⟩ => ⟨S1x10272x2048, .f32⟩
  | .hbm, ⟨27, _⟩ => ⟨S1x10272x2048, .f32⟩
  | .hbm, ⟨28, _⟩ => ⟨S_, .f32⟩
  | .hbm, ⟨29, _⟩ => ⟨S1x10272x2048, .f32⟩
  | .hbm, ⟨30, _⟩ => ⟨S1x10272x2048, .f32⟩
  | .hbm, ⟨31, _⟩ => ⟨S1x10272x2048, .f32⟩
  | .hbm, ⟨32, _⟩ => ⟨S_, .f32⟩
  | .hbm, ⟨33, _⟩ => ⟨S1x10272x2048, .f32⟩
  | .hbm, ⟨34, _⟩ => ⟨S1x10272x2048, .f32⟩
  | .hbm, ⟨35, _⟩ => ⟨S1x10272x2048, .f32⟩
  | .hbm, ⟨36, _⟩ => ⟨S_, .f32⟩
  | .hbm, ⟨37, _⟩ => ⟨S1x10272x2048, .f32⟩
  | .hbm, ⟨38, _⟩ => ⟨S1x10272x2048, .f32⟩
  | _, _ => ⟨S1x10272x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S4x5x768 : Shape := ⟨3, ![4, 5, 768]⟩
abbrev S1x5x768 : Shape := ⟨3, ![1, 5, 768]⟩

abbrev nBuf : Space → Nat
  | .hbm => 9
  | .vmem => 18
  | .smem => 0
  | _ => 0

abbrev bufTy : (tb : Table) → Fin (tcTables nBuf tb) → BufTy
  | .hbm, ⟨0, _⟩ => ⟨S4x5x768, .f32⟩
  | .hbm, ⟨1, _⟩ => ⟨S4x5x768, .f32⟩
  | .hbm, ⟨2, _⟩ => ⟨S4x5x768, .f32⟩
  | .hbm, ⟨3, _⟩ => ⟨S4x5x768, .f32⟩
  | .hbm, ⟨4, _⟩ => ⟨S4x5x768, .f32⟩
  | .hbm, ⟨5, _⟩ => ⟨S4x5x768, .f32⟩
  | .hbm, ⟨6, _⟩ => ⟨S4x5x768, .f32⟩
  | .hbm, ⟨7, _⟩ => ⟨S4x5x768, .f32⟩
  | .hbm, ⟨8, _⟩ => ⟨S4x5x768, .f32⟩
  | .local _ .vmem, ⟨0, _⟩ => ⟨S1x5x768, .f32⟩
  | .local _ .vmem, ⟨1, _⟩ => ⟨S1x5x768, .f32⟩
  | .local _ .vmem, ⟨2, _⟩ => ⟨S1x5x768, .f32⟩
  | .local _ .vmem, ⟨3, _⟩ => ⟨S1x5x768, .f32⟩
  | .local _ .vmem, ⟨4, _⟩ => ⟨S1x5x768, .f32⟩
  | .local _ .vmem, ⟨5, _⟩ => ⟨S1x5x768, .f32⟩
  | .local _ .vmem, ⟨6, _⟩ => ⟨S1x5x768, .f32⟩
  | .local _ .vmem, ⟨7, _⟩ => ⟨S1x5x768, .f32⟩
  | .local _ .vmem, ⟨8, _⟩ => ⟨S1x5x768, .f32⟩
  | .local _ .vmem, ⟨9, _⟩ => ⟨S1x5x768, .f32⟩
  | .local _ .vmem, ⟨10, _⟩ => ⟨S1x5x768, .f32⟩
  | .local _ .vmem, ⟨11, _⟩ => ⟨S1x5x768, .f32⟩
  | .local _ .vmem, ⟨12, _⟩ => ⟨S1x5x768, .f32⟩
  | .local _ .vmem, ⟨13, _⟩ => ⟨S1x5x768, .f32⟩
  | .local _ .vmem, ⟨14, _⟩ => ⟨S1x5x768, .f32⟩
  | .local _ .vmem, ⟨15, _⟩ => ⟨S1x5x768, .f32⟩
  | .local _ .vmem, ⟨16, _⟩ => ⟨S1x5x768, .f32⟩
  | .local _ .vmem, ⟨17, _⟩ => ⟨S1x5x768, .f32⟩
  | _, _ => ⟨S4x5x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x5x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x5x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x5x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x5x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x5x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvReferenceIdeal.lean ====
abbrev S4x5x768 : Shape := ⟨3, ![4, 5, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x5x768, .f32⟩
  | .hbm, ⟨1, _⟩ => ⟨S4x5x768, .f32⟩
  | .hbm, ⟨2, _⟩ => ⟨S4x5x768, .f32⟩
  | .hbm, ⟨3, _⟩ => ⟨S4x5x768, .f32⟩
  | .hbm, ⟨4, _⟩ => ⟨S4x5x768, .f32⟩
  | .hbm, ⟨5, _⟩ => ⟨S4x5x768, .f32⟩
  | .hbm, ⟨6, _⟩ => ⟨S_, .f32⟩
  | .hbm, ⟨7, _⟩ => ⟨S4x5x768, .f32⟩
  | .hbm, ⟨8, _⟩ => ⟨S4x5x768, .f32⟩
  | .hbm, ⟨9, _⟩ => ⟨S_, .f32⟩
  | .hbm, ⟨10, _⟩ => ⟨S4x5x768, .f32⟩
  | .hbm, ⟨11, _⟩ => ⟨S4x5x768, .f32⟩
  | .hbm, ⟨12, _⟩ => ⟨S4x5x768, .f32⟩
  | .hbm, ⟨13, _⟩ => ⟨S_, .f32⟩
  | .hbm, ⟨14, _⟩ => ⟨S4x5x768, .f32⟩
  | .hbm, ⟨15, _⟩ => ⟨S4x5x768, .f32⟩
  | .hbm, ⟨16, _⟩ => ⟨S4x5x768, .f32⟩
  | .hbm, ⟨17, _⟩ => ⟨S_, .f32⟩
  | .hbm, ⟨18, _⟩ => ⟨S4x5x768, .f32⟩
  | .hbm, ⟨19, _⟩ => ⟨S4x5x768, .f32⟩
  | .hbm, ⟨20, _⟩ => ⟨S4x5x768, .f32⟩
  | .hbm, ⟨21, _⟩ => ⟨S_, .f32⟩
  | .hbm, ⟨22, _⟩ => ⟨S4x5x768, .f32⟩
  | .hbm, ⟨23, _⟩ => ⟨S4x5x768, .f32⟩
  | .hbm, ⟨24, _⟩ => ⟨S_, .f32⟩
  | .hbm, ⟨25, _⟩ => ⟨S4x5x768, .f32⟩
  | .hbm, ⟨26, _⟩ => ⟨S4x5x768, .f32⟩
  | .hbm, ⟨27, _⟩ => ⟨S4x5x768, .f32⟩
  | .hbm, ⟨28, _⟩ => ⟨S_, .f32⟩
  | .hbm, ⟨29, _⟩ => ⟨S4x5x768, .f32⟩
  | .hbm, ⟨30, _⟩ => ⟨S4x5x768, .f32⟩
  | .hbm, ⟨31, _⟩ => ⟨S4x5x768, .f32⟩
  | .hbm, ⟨32, _⟩ => ⟨S_, .f32⟩
  | .hbm, ⟨33, _⟩ => ⟨S4x5x768, .f32⟩
  | .hbm, ⟨34, _⟩ => ⟨S4x5x768, .f32⟩
  | .hbm, ⟨35, _⟩ => ⟨S4x5x768, .f32⟩
  | .hbm, ⟨36, _⟩ => ⟨S_, .f32⟩
  | .hbm, ⟨37, _⟩ => ⟨S4x5x768, .f32⟩
  | .hbm, ⟨38, _⟩ => ⟨S4x5x768, .f32⟩
  | _, _ => ⟨S4x5x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S1x17408x128 : Shape := ⟨3, ![1, 17408, 128]⟩
abbrev S1x1088x128 : Shape := ⟨3, ![1, 1088, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x17408x128, .f32⟩
  | .hbm, ⟨1, _⟩ => ⟨S1x17408x128, .f32⟩
  | .hbm, ⟨2, _⟩ => ⟨S1x17408x128, .f32⟩
  | .hbm, ⟨3, _⟩ => ⟨S1x17408x128, .f32⟩
  | .hbm, ⟨4, _⟩ => ⟨S1x17408x128, .f32⟩
  | .hbm, ⟨5, _⟩ => ⟨S1x17408x128, .f32⟩
  | .hbm, ⟨6, _⟩ => ⟨S1x17408x128, .f32⟩
  | .hbm, ⟨7, _⟩ => ⟨S1x17408x128, .f32⟩
  | .local _ .vmem, ⟨0, _⟩ => ⟨S1x1088x128, .f32⟩
  | .local _ .vmem, ⟨1, _⟩ => ⟨S1x1088x128, .f32⟩
  | .local _ .vmem, ⟨2, _⟩ => ⟨S1x1088x128, .f32⟩
  | .local _ .vmem, ⟨3, _⟩ => ⟨S1x1088x128, .f32⟩
  | .local _ .vmem, ⟨4, _⟩ => ⟨S1x1088x128, .f32⟩
  | .local _ .vmem, ⟨5, _⟩ => ⟨S1x1088x128, .f32⟩
  | .local _ .vmem, ⟨6, _⟩ => ⟨S1x1088x128, .f32⟩
  | .local _ .vmem, ⟨7, _⟩ => ⟨S1x1088x128, .f32⟩
  | .local _ .vmem, ⟨8, _⟩ => ⟨S1x1088x128, .f32⟩
  | .local _ .vmem, ⟨9, _⟩ => ⟨S1x1088x128, .f32⟩
  | .local _ .vmem, ⟨10, _⟩ => ⟨S1x1088x128, .f32⟩
  | .local _ .vmem, ⟨11, _⟩ => ⟨S1x1088x128, .f32⟩
  | .local _ .vmem, ⟨12, _⟩ => ⟨S1x1088x128, .f32⟩
  | .local _ .vmem, ⟨13, _⟩ => ⟨S1x1088x128, .f32⟩
  | .local _ .vmem, ⟨14, _⟩ => ⟨S1x1088x128, .f32⟩
  | .local _ .vmem, ⟨15, _⟩ => ⟨S1x1088x128, .f32⟩
  | _, _ => ⟨S1x17408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1088x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1088x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSmallReferenceIdeal.lean ====
abbrev S1x17408x128 : Shape := ⟨3, ![1, 17408, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x17408x128, .f32⟩
  | .hbm, ⟨1, _⟩ => ⟨S1x17408x128, .f32⟩
  | .hbm, ⟨2, _⟩ => ⟨S1x17408x128, .f32⟩
  | .hbm, ⟨3, _⟩ => ⟨S1x17408x128, .f32⟩
  | .hbm, ⟨4, _⟩ => ⟨S_, .f32⟩
  | .hbm, ⟨5, _⟩ => ⟨S1x17408x128, .f32⟩
  | .hbm, ⟨6, _⟩ => ⟨S1x17408x128, .f32⟩
  | .hbm, ⟨7, _⟩ => ⟨S_, .f32⟩
  | .hbm, ⟨8, _⟩ => ⟨S1x17408x128, .f32⟩
  | .hbm, ⟨9, _⟩ => ⟨S1x17408x128, .f32⟩
  | .hbm, ⟨10, _⟩ => ⟨S1x17408x128, .f32⟩
  | .hbm, ⟨11, _⟩ => ⟨S_, .f32⟩
  | .hbm, ⟨12, _⟩ => ⟨S1x17408x128, .f32⟩
  | .hbm, ⟨13, _⟩ => ⟨S1x17408x128, .f32⟩
  | .hbm, ⟨14, _⟩ => ⟨S1x17408x128, .f32⟩
  | .hbm, ⟨15, _⟩ => ⟨S_, .f32⟩
  | .hbm, ⟨16, _⟩ => ⟨S1x17408x128, .f32⟩
  | .hbm, ⟨17, _⟩ => ⟨S1x17408x128, .f32⟩
  | .hbm, ⟨18, _⟩ => ⟨S1x17408x128, .f32⟩
  | .hbm, ⟨19, _⟩ => ⟨S_, .f32⟩
  | .hbm, ⟨20, _⟩ => ⟨S1x17408x128, .f32⟩
  | .hbm, ⟨21, _⟩ => ⟨S1x17408x128, .f32⟩
  | .hbm, ⟨22, _⟩ => ⟨S_, .f32⟩
  | .hbm, ⟨23, _⟩ => ⟨S1x17408x128, .f32⟩
  | .hbm, ⟨24, _⟩ => ⟨S1x17408x128, .f32⟩
  | .hbm, ⟨25, _⟩ => ⟨S1x17408x128, .f32⟩
  | .hbm, ⟨26, _⟩ => ⟨S_, .f32⟩
  | .hbm, ⟨27, _⟩ => ⟨S1x17408x128, .f32⟩
  | .hbm, ⟨28, _⟩ => ⟨S1x17408x128, .f32⟩
  | .hbm, ⟨29, _⟩ => ⟨S1x17408x128, .f32⟩
  | .hbm, ⟨30, _⟩ => ⟨S_, .f32⟩
  | .hbm, ⟨31, _⟩ => ⟨S1x17408x128, .f32⟩
  | .hbm, ⟨32, _⟩ => ⟨S1x17408x128, .f32⟩
  | .hbm, ⟨33, _⟩ => ⟨S1x17408x128, .f32⟩
  | .hbm, ⟨34, _⟩ => ⟨S_, .f32⟩
  | .hbm, ⟨35, _⟩ => ⟨S1x17408x128, .f32⟩
  | .hbm, ⟨36, _⟩ => ⟨S1x17408x128, .f32⟩
  | _, _ => ⟨S1x17408x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Proof.MatProd.lean ====
/-
  The three products of two matrices that a dense layer and its gradients are made of, entry by entry: the plain product,
  the product with the second matrix transposed, and the product with the first matrix transposed.
-/
module

public import Idealize.ShloMosaic.Lib.Pointwise
public import Idealize.ShloMosaic.PureOps.Ideal

@[expose] public section

noncomputable section

namespace Cert.Mat

open Idealize.ShloMosaic
open scoped BigOperators

abbrev Mat (M N : ℕ) := (⟨2, ![M, N]⟩ : Shape).Idx → EReal

variable {M K N : ℕ}

/-- `A B`. -/
def nn (A : Mat M K) (B : Mat K N) : Mat M N := fun i => ∑ k : Fin K, A (ix2 (i 0) k) * B (ix2 k (i 1))
/-- `A Bᵀ`. -/
def nt (A : Mat M K) (B : Mat N K) : Mat M N := fun i => ∑ k : Fin K, A (ix2 (i 0) k) * B (ix2 (i 1) k)
/-- `Aᵀ B`. -/
def tn (A : Mat K M) (B : Mat K N) : Mat M N := fun i => ∑ k : Fin K, A (ix2 k (i 0)) * B (ix2 k (i 1))
/-- `Aᵀ`. -/
def tr (A : Mat M N) : Mat N M := fun i => A (ix2 (i 1) (i 0))

theorem nt_tr (A : Mat M K) (B : Mat K N) : nt A (tr B) = nn A B := rfl
theorem nn_tr (A : Mat M K) (B : Mat N K) : nn A (tr B) = nt A B := rfl
theorem tr_tn (A : Mat K M) (B : Mat K N) : tr (tn A B) = tn B A := by
  funext i
  exact Finset.sum_congr (s₁ := Finset.univ) (f := fun k => A (ix2 k (i 1)) * B (ix2 k (i 0))) (g := fun k => B (ix2 k (i 0)) * A (ix2 k (i 1)))
    rfl fun _ _ => mul_comm (G := EReal) _ _

end Cert.Mat

end
-- ==== Proof.OutValue.lean ====
/-
  The output projection's three products (`proj_out`, `d_merged`, `dw_out`): each call's result array, block by block, is
  the whole product of the arrays that it reads; and so the program's results, as functions of its arguments.
-/
module

public import proofs.«01_k».proof.Proof.Gen.OutIdeal.Frame
public import proofs.«01_k».proof.Proof.Gen.OutReferenceIdeal.Read
public import proofs.«01_k».proof.Proof.MatProd
public import Idealize.ShloMosaic.Lib.Pipeline.ValueKit
public import Idealize.ShloMosaic.Lib.Pointwise

@[expose] public section

set_option maxRecDepth 16384

noncomputable section

namespace Cert.OutV

open Cert.OutIdeal Cert.OutIdeal.Gen Cert.Mat
open Idealize.ShloMosaic Idealize.ShloMosaic.TcCoe Idealize.ShloMosaic.Tactic Idealize.ShloMosaic.StableHlo
open scoped BigOperators

/-! ## The calls -/

section
variable (V : (c : Dev nD) → (b : Ref sig .tc) → Buf (Elt Ideal) ((c : Thread nD τ).loc b)) (c : Dev nD)

theorem idx0_0 : ∀ t : Fin cfg0.N, win0_0.index t = ![win0_3.index t 0, 0] := (by decide +kernel : ∀ t : Fin grid0.N, _)
theorem idx0_1 : ∀ t : Fin cfg0.N, win0_1.index t = ![0, win0_3.index t 1] := (by decide +kernel : ∀ t : Fin grid0.N, _)
theorem idx0_2 : ∀ t : Fin cfg0.N, win0_2.index t = win0_3.index t := (by decide +kernel : ∀ t : Fin grid0.N, _)
theorem arr0 : (dat0 V c).arrAt 3 cfg0.N = fun i => nn (V c main_v0 : Mat 2048 2048) (V c main_v1 : Mat 2048 2048) i + (V c main_arg2 : Mat 2048 2048) i := by
  refine (dat0 V c).arrAt_eq_of_covers 3 _ (by decide +kernel) fun t hf y => ?_
  blk_simp
  rw [after0_3]
  frame_out
  unfold nn
  pointwise [k0_pay1]
  blk_point [iblk0, idx0_0, idx0_1, idx0_2]

theorem idx1_0 : ∀ t : Fin cfg1.N, win1_0.index t = ![win1_2.index t 0, 0] := (by decide +kernel : ∀ t : Fin grid1.N, _)
theorem idx1_1 : ∀ t : Fin cfg1.N, win1_1.index t = ![win1_2.index t 1, 0] := (by decide +kernel : ∀ t : Fin grid1.N, _)
theorem arr1 : (dat1 V c).arrAt 2 cfg1.N = nt (V c main_arg3 : Mat 2048 2048) (V c main_v1 : Mat 2048 2048) := by
  refine (dat1 V c).arrAt_eq_of_covers 2 _ (by decide +kernel) fun t hf y => ?_
  blk_simp
  rw [after1_2]
  frame_out
  unfold nt
  pointwise [k1_pay1]
  blk_point [iblk1, idx1_0, idx1_1]

theorem idx2_0 : ∀ t : Fin cfg2.N, win2_0.index t = ![0, win2_2.index t 0] := (by decide +kernel : ∀ t : Fin grid2.N, _)
theorem idx2_1 : ∀ t : Fin cfg2.N, win2_1.index t = ![0, win2_2.index t 1] := (by decide +kernel : ∀ t : Fin grid2.N, _)
theorem arr2 : (dat2 V c).arrAt 2 cfg2.N = tn (V c main_v0 : Mat 2048 2048) (V c main_arg3 : Mat 2048 2048) := by
  refine (dat2 V c).arrAt_eq_of_covers 2 _ (by decide +kernel) fun t hf y => ?_
  blk_simp
  rw [after2_2]
  frame_out
  unfold tn
  pointwise [k2_pay1]
  blk_point [iblk2, idx2_0, idx2_1]

end

/-! ## The program's results -/

section
variable (m : (ℓ : Loc nD τ sig) → Buf (Elt Ideal) ℓ) (ρ : Dev nD → PrngReg) (c : Dev nD)

theorem V1_v0 : V1 m ρ c main_v0 = m ((c : Thread nD τ).loc main_arg0) := by
  show after hostOps0 (W0 m ρ c) _ = _
  after_results
  rfl
theorem V1_v1 : V1 m ρ c main_v1 = m ((c : Thread nD τ).loc main_arg1) := by
  show after hostOps0 (W0 m ρ c) _ = _
  after_results
  rfl

theorem res0 : W5 m ρ c (Proc.devRef .tc main_v2) = fun i => nn (m ((c : Thread nD τ).loc main_arg0) : Mat 2048 2048) (m ((c : Thread nD τ).loc main_arg1) : Mat 2048 2048) i + (m ((c : Thread nD τ).loc main_arg2) : Mat 2048 2048) i := by
  rw [W5_of m ρ c main_v2 (by decide), W4_of m ρ c main_v2 (by decide), W3_of m ρ c main_v2 (by decide)]
  refine (W2_arr m ρ c 3).trans ((arr0 (V1 m ρ) c).trans ?_)
  rw [V1_v0, V1_v1, show V1 m ρ c main_arg2 = m ((c : Thread nD τ).loc main_arg2) from W1_args m ρ c _ (by decide)]

theorem res1 : W5 m ρ c (Proc.devRef .tc main_v3) = nt (m ((c : Thread nD τ).loc main_arg3) : Mat 2048 2048) (m ((c : Thread nD τ).loc main_arg1) : Mat 2048 2048) := by
  rw [W5_of m ρ c main_v3 (by decide), W4_of m ρ c main_v3 (by decide)]
  refine (W3_arr m ρ c 2).trans ((arr1 (V2 m ρ) c).trans ?_)
  rw [show V2 m ρ c main_v1 = _ from (W2_of m ρ c main_v1 (by decide)).trans (V1_v1 m ρ c), show V2 m ρ c main_arg3 = m ((c : Thread nD τ).loc main_arg3) from W2_args m ρ c _ (by decide)]

theorem res2 : W5 m ρ c (Proc.devRef .tc main_v5) = tn (m ((c : Thread nD τ).loc main_arg0) : Mat 2048 2048) (m ((c : Thread nD τ).loc main_arg3) : Mat 2048 2048) := by
  have e : W4 m ρ c (Proc.devRef .tc main_v4) = tn (m ((c : Thread nD τ).loc main_arg0) : Mat 2048 2048) (m ((c : Thread nD τ).loc main_arg3) : Mat 2048 2048) := by
    refine (W4_arr m ρ c 2).trans ((arr2 (V3 m ρ) c).trans ?_)
    rw [show V3 m ρ c main_v0 = _ from (W3_of m ρ c main_v0 (by decide)).trans ((W2_of m ρ c main_v0 (by decide)).trans (V1_v0 m ρ c)), show V3 m ρ c main_arg3 = m ((c : Thread nD τ).loc main_arg3) from W3_args m ρ c _ (by decide)]
  show after hostOps3 (W4 m ρ c) _ = _
  after_results
  exact e

end

end Cert.OutV

end
-- ==== Proof.OutRun.lean ====
/- The run of the output projection's program, at any float instance: from any memory with zero counters every weakly fair
   execution terminates, nothing faulting; every final state has each tensor value's buffer at the contents `Gen.W5` that the
   fold over @main's five items (stretch, three calls, stretch) names, and every counter at zero. -/
module

public import proofs.«01_k».proof.Proof.Gen.OutIdeal.Frame

@[expose] public section

set_option maxRecDepth 16384

noncomputable section

namespace Cert.OutIdeal.Run

open Cert.OutIdeal Cert.OutIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What holds of every final state: each tensor value's buffer at `W5`, every counter at zero. -/
abbrev Final (s : MemSt nD τ sig (Elt F)) : Prop :=
  (∀ (c : Dev nD) (b : Ref sig .tc), (Proc.devRef .tc b : DevRef τ sig).isScoped = false →
    s.mem ((c.tc : Thread nD τ).loc b) = W5 m ρ c (Proc.devRef .tc b)) ∧ s.sem = fun _ => 0

-- the kit's implicit arguments are found by unifying its conclusion with this one, which takes unfolding plain definitions in a metavariable's type
set_option backward.isDefEq.respectTransparency.types false in
theorem run_main : θ_run defs (onTc (τ := τ) (main (F := F))) ⟨m, fun _ => 0, ρ⟩ (fun r => Final m ρ r.2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b (by rw [hb]; exact Bool.false_ne_true)), funext fun g => hz g (.inr (no_unscoped g.2))⟩)

/-- Every argument array ends as it was launched. -/
theorem Final.args {s : MemSt nD τ sig (Elt F)} (h : Final m ρ s) (c : Dev nD) (r : Ref sig .tc) (hr : r ∈ argRefs)
    (hs : (Proc.devRef .tc r : DevRef τ sig).isScoped = false) : s.mem ((c.tc : Thread nD τ).loc r) = m ((c.tc : Thread nD τ).loc r) :=
  (h.1 c r hs).trans (W5_args m ρ c r hr)

end Cert.OutIdeal.Run

end
-- ==== Proof.OutClaims.lean ====
/-
  The output projection: the program's results are the reference's, on any arguments.
-/
module

public import proofs.«01_k».proof.Defs
public import proofs.«01_k».proof.Proof.Gen.OutReferenceIdeal.Run
public import proofs.«01_k».proof.Proof.OutValue
public import proofs.«01_k».proof.Proof.OutRun
public import Idealize.ShloMosaic.Lib.Quiescent

@[expose] public section

set_option maxRecDepth 16384

noncomputable section

namespace Cert.OutV

open Cert.Mat
open Idealize.ShloMosaic Idealize.ShloMosaic.TcCoe Idealize.ShloMosaic.Tactic Idealize.SL.Sem
open scoped BigOperators

theorem frame_reference : Cert.quiescent_OutReferenceIdeal := fun m ρ _ =>
  (θ_run Cert.OutReferenceIdeal.defs _ _).mono (fun r h => ⟨fun c => (h c).2.2.2, sem_eq_zero_of_no_sems (by decide) r.2⟩)
    (Cert.OutReferenceIdeal.Value.run m ρ)

section
open Cert.OutReferenceIdeal Cert.OutReferenceIdeal.Gen
variable (x w y g : Mat 2048 2048)

theorem ref0 : (addf (F := Ideal) (φ := .f32) y (Host.dotGeneral (F := Ideal) (φ₁ := .f32) (φ₂ := .f32) dot_S2048x2048_S2048x2048_S2048x2048_1_0_0_1_n_n none x w) : Mat 2048 2048) = fun i => nn x w i + y i := by
  funext i
  unfold nn
  rw [add_comm]
  pointwise
theorem ref1 : (Host.dotGeneral (F := Ideal) (φ₁ := .f32) (φ₂ := .f32) dot_S2048x2048_S2048x2048_S2048x2048_1_1_0_0_n_n none g w : Mat 2048 2048) = nt g w := by
  funext i
  unfold nt
  pointwise
theorem ref2 : (transpose S2048x2048 [1, 0] (Host.dotGeneral (F := Ideal) (φ₁ := .f32) (φ₂ := .f32) dot_S2048x2048_S2048x2048_S2048x2048_0_0_1_1_n_n none g x : Mat 2048 2048) transposes_S2048x2048_S2048x2048_1_0 : Mat 2048 2048) = tn x g := by
  funext i
  unfold tn
  pointwise
  exact Finset.sum_congr rfl fun k _ => mul_comm (G := EReal) _ _
end

theorem results : Cert.algebraic_OutIdeal_OutReferenceIdeal := fun m g m' g' _ ha =>
  ⟨fun c => Cert.OutIdeal.Gen.W5 m g c (Proc.devRef .tc Cert.OutIdeal.main_v2),
   fun c => Cert.OutIdeal.Gen.W5 m g c (Proc.devRef .tc Cert.OutIdeal.main_v3),
   fun c => Cert.OutIdeal.Gen.W5 m g c (Proc.devRef .tc Cert.OutIdeal.main_v5),
   (θ_run Cert.OutIdeal.defs _ _).mono
    (fun _ h c => ⟨h.1 c _ (by decide), h.1 c _ (by decide), h.1 c _ (by decide), h.args m g c _ (by decide) (by decide), h.args m g c _ (by decide) (by decide),
      h.args m g c _ (by decide) (by decide), h.args m g c _ (by decide) (by decide)⟩)
    (Cert.OutIdeal.Run.run_main m g),
   (θ_run Cert.OutReferenceIdeal.defs _ _).mono
    (fun _ h c => by
      obtain ⟨a0, a1, a2, a3⟩ := ha c
      obtain ⟨h0, h1, h2, h3⟩ := h c
      rw [a0, a1, a2] at h0
      rw [a1, a3] at h1
      rw [a0, a3] at h2
      exact ⟨h0.trans ((ref0 ..).trans (res0 m g c).symm), h1.trans ((ref1 ..).trans (res1 m g c).symm), h2.trans ((ref2 ..).trans (res2 m g c).symm), h3⟩)
    (Cert.OutReferenceIdeal.Value.run m' g')⟩

end Cert.OutV

end
-- ==== Proof.InValue.lean ====
/-
  The input projections (`proj_qkv`, `proj_za`, `proj_gate`) and their gradients (`dh_za`, `dw_in_qkv`, `dw_in_za`,
  `dw_in_gate`): each call's result array, block by block, is the whole product of the arrays that it reads; and so the
  program's results, as functions of its arguments.
-/
module

public import proofs.«01_k».proof.Proof.Gen.InIdeal.Frame
public import proofs.«01_k».proof.Proof.Gen.InReferenceIdeal.Read
public import proofs.«01_k».proof.Proof.MatProd
public import Idealize.ShloMosaic.Lib.Pipeline.ValueKit
public import Idealize.ShloMosaic.Lib.Pointwise

@[expose] public section

set_option maxRecDepth 16384

noncomputable section

namespace Cert.InV

open Cert.InIdeal Cert.InIdeal.Gen Cert.Mat
open Idealize.ShloMosaic Idealize.ShloMosaic.TcCoe Idealize.ShloMosaic.Tactic Idealize.ShloMosaic.StableHlo
open scoped BigOperators

/-! ## The calls -/

section
variable (V : (c : Dev nD) → (b : Ref sig .tc) → Buf (Elt Ideal) ((c : Thread nD τ).loc b)) (c : Dev nD)

theorem idx0_0 : ∀ t : Fin cfg0.N, win0_0.index t = ![win0_2.index t 0, 0] := (by decide +kernel : ∀ t : Fin grid0.N, _)
theorem idx0_1 : ∀ t : Fin cfg0.N, win0_1.index t = ![win0_2.index t 1, 0] := (by decide +kernel : ∀ t : Fin grid0.N, _)
theorem arr0 : (dat0 V c).arrAt 2 cfg0.N = nt (V c main_v0 : Mat 2048 2048) (V c main_v5 : Mat 3072 2048) := by
  refine (dat0 V c).arrAt_eq_of_covers 2 _ (by decide +kernel) fun t hf y => ?_
  blk_simp
  rw [after0_2]
  frame_out
  unfold nt
  pointwise [k0_pay1]
  blk_point [iblk0, idx0_0, idx0_1]

theorem idx1_0 : ∀ t : Fin cfg1.N, win1_0.index t = ![win1_2.index t 0, 0] := (by decide +kernel : ∀ t : Fin grid1.N, _)
theorem idx1_1 : ∀ t : Fin cfg1.N, win1_1.index t = ![win1_2.index t 1, 0] := (by decide +kernel : ∀ t : Fin grid1.N, _)
theorem arr1 : (dat1 V c).arrAt 2 cfg1.N = nt (V c main_v0 : Mat 2048 2048) (V c main_v7 : Mat 1024 2048) := by
  refine (dat1 V c).arrAt_eq_of_covers 2 _ (by decide +kernel) fun t hf y => ?_
  blk_simp
  rw [after1_2]
  frame_out
  unfold nt
  pointwise [k1_pay1]
  blk_point [iblk1, idx1_0, idx1_1]

theorem idx2_0 : ∀ t : Fin cfg2.N, win2_0.index t = ![win2_2.index t 0, 0] := (by decide +kernel : ∀ t : Fin grid2.N, _)
theorem idx2_1 : ∀ t : Fin cfg2.N, win2_1.index t = ![win2_2.index t 1, 0] := (by decide +kernel : ∀ t : Fin grid2.N, _)
theorem arr2 : (dat2 V c).arrAt 2 cfg2.N = nt (V c main_v0 : Mat 2048 2048) (V c main_v9 : Mat 4096 2048) := by
  refine (dat2 V c).arrAt_eq_of_covers 2 _ (by decide +kernel) fun t hf y => ?_
  blk_simp
  rw [after2_2]
  frame_out
  unfold nt
  pointwise [k2_pay1]
  blk_point [iblk2, idx2_0, idx2_1]

theorem idx3_0 : ∀ t : Fin cfg3.N, win3_0.index t = ![win3_3.index t 0, 0] := (by decide +kernel : ∀ t : Fin grid3.N, _)
theorem idx3_1 : ∀ t : Fin cfg3.N, win3_1.index t = ![0, win3_3.index t 1] := (by decide +kernel : ∀ t : Fin grid3.N, _)
theorem idx3_2 : ∀ t : Fin cfg3.N, win3_2.index t = win3_3.index t := (by decide +kernel : ∀ t : Fin grid3.N, _)
theorem arr3 : (dat3 V c).arrAt 3 cfg3.N = fun i => nn (V c main_v2 : Mat 2048 1024) (V c main_v7 : Mat 1024 2048) i + (V c main_arg7 : Mat 2048 2048) i := by
  refine (dat3 V c).arrAt_eq_of_covers 3 _ (by decide +kernel) fun t hf y => ?_
  blk_simp
  rw [after3_3]
  frame_out
  unfold nn
  pointwise [k3_pay1]
  blk_point [iblk3, idx3_0, idx3_1, idx3_2]

theorem idx4_0 : ∀ t : Fin cfg4.N, win4_0.index t = ![0, win4_2.index t 0] := (by decide +kernel : ∀ t : Fin grid4.N, _)
theorem idx4_1 : ∀ t : Fin cfg4.N, win4_1.index t = ![0, win4_2.index t 1] := (by decide +kernel : ∀ t : Fin grid4.N, _)
theorem arr4 : (dat4 V c).arrAt 2 cfg4.N = tn (V c main_v1 : Mat 2048 3072) (V c main_v0 : Mat 2048 2048) := by
  refine (dat4 V c).arrAt_eq_of_covers 2 _ (by decide +kernel) fun t hf y => ?_
  blk_simp
  rw [after4_2]
  frame_out
  unfold tn
  pointwise [k4_pay1]
  blk_point [iblk4, idx4_0, idx4_1]

theorem idx5_0 : ∀ t : Fin cfg5.N, win5_0.index t = ![0, win5_2.index t 0] := (by decide +kernel : ∀ t : Fin grid5.N, _)
theorem idx5_1 : ∀ t : Fin cfg5.N, win5_1.index t = ![0, win5_2.index t 1] := (by decide +kernel : ∀ t : Fin grid5.N, _)
theorem arr5 : (dat5 V c).arrAt 2 cfg5.N = tn (V c main_v2 : Mat 2048 1024) (V c main_v0 : Mat 2048 2048) := by
  refine (dat5 V c).arrAt_eq_of_covers 2 _ (by decide +kernel) fun t hf y => ?_
  blk_simp
  rw [after5_2]
  frame_out
  unfold tn
  pointwise [k5_pay1]
  blk_point [iblk5, idx5_0, idx5_1]

theorem idx6_0 : ∀ t : Fin cfg6.N, win6_0.index t = ![0, win6_2.index t 0] := (by decide +kernel : ∀ t : Fin grid6.N, _)
theorem idx6_1 : ∀ t : Fin cfg6.N, win6_1.index t = ![0, win6_2.index t 1] := (by decide +kernel : ∀ t : Fin grid6.N, _)
theorem arr6 : (dat6 V c).arrAt 2 cfg6.N = tn (V c main_v3 : Mat 2048 4096) (V c main_v0 : Mat 2048 2048) := by
  refine (dat6 V c).arrAt_eq_of_covers 2 _ (by decide +kernel) fun t hf y => ?_
  blk_simp
  rw [after6_2]
  frame_out
  unfold tn
  pointwise [k6_pay1]
  blk_point [iblk6, idx6_0, idx6_1]

end

/-! ## What the calls read -/

section
variable (m : (ℓ : Loc nD τ sig) → Buf (Elt Ideal) ℓ) (ρ : Dev nD → PrngReg) (c : Dev nD)

/-- The arguments, as matrices. -/
abbrev h : Mat 2048 2048 := m ((c : Thread nD τ).loc main_arg0)
abbrev wqkv : Mat 2048 3072 := m ((c : Thread nD τ).loc main_arg1)
abbrev wza : Mat 2048 1024 := m ((c : Thread nD τ).loc main_arg2)
abbrev wgate : Mat 2048 4096 := m ((c : Thread nD τ).loc main_arg3)
abbrev dc : Mat 2048 3072 := m ((c : Thread nD τ).loc main_arg4)
abbrev dz : Mat 2048 1024 := m ((c : Thread nD τ).loc main_arg5)
abbrev dgl : Mat 2048 4096 := m ((c : Thread nD τ).loc main_arg6)
abbrev dh : Mat 2048 2048 := m ((c : Thread nD τ).loc main_arg7)

theorem V1_v0 : V1 m ρ c main_v0 = h m c := by
  show after hostOps0 (W0 m ρ c) _ = _
  after_results
  rfl
theorem V1_v1 : V1 m ρ c main_v1 = dc m c := by
  show after hostOps0 (W0 m ρ c) _ = _
  after_results
  rfl
theorem V1_v2 : V1 m ρ c main_v2 = dz m c := by
  show after hostOps0 (W0 m ρ c) _ = _
  after_results
  rfl
theorem V1_v3 : V1 m ρ c main_v3 = dgl m c := by
  show after hostOps0 (W0 m ρ c) _ = _
  after_results
  rfl
theorem V1_v5 : V1 m ρ c main_v5 = tr (wqkv m c) := by
  show after hostOps0 (W0 m ρ c) _ = _
  after_results
  funext i
  unfold tr
  pointwise
theorem V1_v7 : V1 m ρ c main_v7 = tr (wza m c) := by
  show after hostOps0 (W0 m ρ c) _ = _
  after_results
  funext i
  unfold tr
  pointwise
theorem V1_v9 : V1 m ρ c main_v9 = tr (wgate m c) := by
  show after hostOps0 (W0 m ρ c) _ = _
  after_results
  funext i
  unfold tr
  pointwise

-- a call's operand, at each call that reads it
theorem V2_v0 : V2 m ρ c main_v0 = h m c := (W2_of m ρ c main_v0 (by decide)).trans (V1_v0 m ρ c)
theorem V3_v0 : V3 m ρ c main_v0 = h m c := (W3_of m ρ c main_v0 (by decide)).trans (V2_v0 m ρ c)
theorem V5_v0 : V5 m ρ c main_v0 = h m c := (W5_of m ρ c main_v0 (by decide)).trans ((W4_of m ρ c main_v0 (by decide)).trans (V3_v0 m ρ c))
theorem V6_v0 : V6 m ρ c main_v0 = h m c := (W6_of m ρ c main_v0 (by decide)).trans (V5_v0 m ρ c)
theorem V7_v0 : V7 m ρ c main_v0 = h m c := (W7_of m ρ c main_v0 (by decide)).trans (V6_v0 m ρ c)
theorem V5_v1 : V5 m ρ c main_v1 = dc m c := (W5_of m ρ c main_v1 (by decide)).trans <| (W4_of m ρ c main_v1 (by decide)).trans <|
  (W3_of m ρ c main_v1 (by decide)).trans <| (W2_of m ρ c main_v1 (by decide)).trans (V1_v1 m ρ c)
theorem V4_v2 : V4 m ρ c main_v2 = dz m c := (W4_of m ρ c main_v2 (by decide)).trans <| (W3_of m ρ c main_v2 (by decide)).trans <|
  (W2_of m ρ c main_v2 (by decide)).trans (V1_v2 m ρ c)
theorem V6_v2 : V6 m ρ c main_v2 = dz m c := (W6_of m ρ c main_v2 (by decide)).trans ((W5_of m ρ c main_v2 (by decide)).trans (V4_v2 m ρ c))
theorem V7_v3 : V7 m ρ c main_v3 = dgl m c := (W7_of m ρ c main_v3 (by decide)).trans <| (W6_of m ρ c main_v3 (by decide)).trans <|
  (W5_of m ρ c main_v3 (by decide)).trans <| (W4_of m ρ c main_v3 (by decide)).trans <| (W3_of m ρ c main_v3 (by decide)).trans <|
  (W2_of m ρ c main_v3 (by decide)).trans (V1_v3 m ρ c)
theorem V2_v7 : V2 m ρ c main_v7 = tr (wza m c) := (W2_of m ρ c main_v7 (by decide)).trans (V1_v7 m ρ c)
theorem V4_v7 : V4 m ρ c main_v7 = tr (wza m c) := (W4_of m ρ c main_v7 (by decide)).trans ((W3_of m ρ c main_v7 (by decide)).trans (V2_v7 m ρ c))
theorem V3_v9 : V3 m ρ c main_v9 = tr (wgate m c) := (W3_of m ρ c main_v9 (by decide)).trans ((W2_of m ρ c main_v9 (by decide)).trans (V1_v9 m ρ c))

/-! ## The program's results -/

theorem W2_v10 : W2 m ρ c (Proc.devRef .tc main_v10) = nn (h m c) (wqkv m c) :=
  (W2_arr m ρ c 2).trans <| (arr0 (V1 m ρ) c).trans <| by rw [V1_v0, V1_v5, nt_tr]
theorem W3_v11 : W3 m ρ c (Proc.devRef .tc main_v11) = nn (h m c) (wza m c) :=
  (W3_arr m ρ c 2).trans <| (arr1 (V2 m ρ) c).trans <| by rw [V2_v0, V2_v7, nt_tr]
theorem W4_v12 : W4 m ρ c (Proc.devRef .tc main_v12) = nn (h m c) (wgate m c) :=
  (W4_arr m ρ c 2).trans <| (arr2 (V3 m ρ) c).trans <| by rw [V3_v0, V3_v9, nt_tr]
theorem W5_v13 : W5 m ρ c (Proc.devRef .tc main_v13) = fun i => nt (dz m c) (wza m c) i + dh m c i :=
  (W5_arr m ρ c 3).trans <| (arr3 (V4 m ρ) c).trans <| by
    rw [V4_v2, V4_v7, nn_tr, show V4 m ρ c main_arg7 = dh m c from W4_args m ρ c _ (by decide)]
theorem W6_v14 : W6 m ρ c (Proc.devRef .tc main_v14) = tn (dc m c) (h m c) :=
  (W6_arr m ρ c 2).trans <| (arr4 (V5 m ρ) c).trans <| by rw [V5_v1, V5_v0]
theorem W7_v15 : W7 m ρ c (Proc.devRef .tc main_v15) = tn (dz m c) (h m c) :=
  (W7_arr m ρ c 2).trans <| (arr5 (V6 m ρ) c).trans <| by rw [V6_v2, V6_v0]
theorem W8_v16 : W8 m ρ c (Proc.devRef .tc main_v16) = tn (dgl m c) (h m c) :=
  (W8_arr m ρ c 2).trans <| (arr6 (V7 m ρ) c).trans <| by rw [V7_v3, V7_v0]

theorem res0 : W9 m ρ c (Proc.devRef .tc main_v10) = nn (h m c) (wqkv m c) := by
  rw [W9_of m ρ c main_v10 (by decide), W8_of m ρ c main_v10 (by decide), W7_of m ρ c main_v10 (by decide), W6_of m ρ c main_v10 (by decide),
    W5_of m ρ c main_v10 (by decide), W4_of m ρ c main_v10 (by decide), W3_of m ρ c main_v10 (by decide)]
  exact W2_v10 m ρ c
theorem res1 : W9 m ρ c (Proc.devRef .tc main_v11) = nn (h m c) (wza m c) := by
  rw [W9_of m ρ c main_v11 (by decide), W8_of m ρ c main_v11 (by decide), W7_of m ρ c main_v11 (by decide), W6_of m ρ c main_v11 (by decide),
    W5_of m ρ c main_v11 (by decide), W4_of m ρ c main_v11 (by decide)]
  exact W3_v11 m ρ c
theorem res2 : W9 m ρ c (Proc.devRef .tc main_v12) = nn (h m c) (wgate m c) := by
  rw [W9_of m ρ c main_v12 (by decide), W8_of m ρ c main_v12 (by decide), W7_of m ρ c main_v12 (by decide), W6_of m ρ c main_v12 (by decide),
    W5_of m ρ c main_v12 (by decide)]
  exact W4_v12 m ρ c
theorem res3 : W9 m ρ c (Proc.devRef .tc main_v13) = fun i => nt (dz m c) (wza m c) i + dh m c i := by
  rw [W9_of m ρ c main_v13 (by decide), W8_of m ρ c main_v13 (by decide), W7_of m ρ c main_v13 (by decide), W6_of m ρ c main_v13 (by decide)]
  exact W5_v13 m ρ c
theorem res4 : W9 m ρ c (Proc.devRef .tc main_v18) = tn (h m c) (dc m c) := by
  have e : W8 m ρ c (Proc.devRef .tc main_v14) = tn (dc m c) (h m c) := by
    rw [W8_of m ρ c main_v14 (by decide), W7_of m ρ c main_v14 (by decide)]
    exact W6_v14 m ρ c
  show after hostOps7 (W8 m ρ c) _ = _
  after_results
  rw [e, ← tr_tn]
  funext i
  unfold tr
  pointwise
theorem res5 : W9 m ρ c (Proc.devRef .tc main_v20) = tn (h m c) (dz m c) := by
  have e : W8 m ρ c (Proc.devRef .tc main_v15) = tn (dz m c) (h m c) := by
    rw [W8_of m ρ c main_v15 (by decide)]
    exact W7_v15 m ρ c
  show after hostOps7 (W8 m ρ c) _ = _
  after_results
  rw [e, ← tr_tn]
  funext i
  unfold tr
  pointwise
theorem res6 : W9 m ρ c (Proc.devRef .tc main_v22) = tn (h m c) (dgl m c) := by
  show after hostOps7 (W8 m ρ c) _ = _
  after_results
  rw [W8_v16, ← tr_tn]
  funext i
  unfold tr
  pointwise

end

end Cert.InV

end
-- ==== Proof.InRun.lean ====
/- The run of the input projections' program, at any float instance: from any memory with zero counters every weakly fair
   execution terminates, nothing faulting; every final state has each tensor value's buffer at the contents `Gen.W9` that the
   fold over @main's nine items (stretch, seven calls, stretch) names, and every counter at zero. -/
module

public import proofs.«01_k».proof.Proof.Gen.InIdeal.Frame

@[expose] public section

set_option maxRecDepth 16384

noncomputable section

namespace Cert.InIdeal.Run

open Cert.InIdeal Cert.InIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What holds of every final state: each tensor value's buffer at `W9`, every counter at zero. -/
abbrev Final (s : MemSt nD τ sig (Elt F)) : Prop :=
  (∀ (c : Dev nD) (b : Ref sig .tc), (Proc.devRef .tc b : DevRef τ sig).isScoped = false →
    s.mem ((c.tc : Thread nD τ).loc b) = W9 m ρ c (Proc.devRef .tc b)) ∧ s.sem = fun _ => 0

-- the kit's implicit arguments are found by unifying its conclusion with this one, which takes unfolding plain definitions in a metavariable's type
set_option backward.isDefEq.respectTransparency.types false in
theorem run_main : θ_run defs (onTc (τ := τ) (main (F := F))) ⟨m, fun _ => 0, ρ⟩ (fun r => Final m ρ r.2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨fun c b hb => h c _ (mem_uc b (by rw [hb]; exact Bool.false_ne_true)), funext fun g => hz g (.inr (no_unscoped g.2))⟩)

/-- Every argument array ends as it was launched. -/
theorem Final.args {s : MemSt nD τ sig (Elt F)} (h : Final m ρ s) (c : Dev nD) (r : Ref sig .tc) (hr : r ∈ argRefs)
    (hs : (Proc.devRef .tc r : DevRef τ sig).isScoped = false) : s.mem ((c.tc : Thread nD τ).loc r) = m ((c.tc : Thread nD τ).loc r) :=
  (h.1 c r hs).trans (W9_args m ρ c r hr)

end Cert.InIdeal.Run

end
-- ==== Proof.InClaims.lean ====
/-
  The input projections and their gradients: the program's results are the reference's, on any arguments.
-/
module

public import proofs.«01_k».proof.Defs
public import proofs.«01_k».proof.Proof.Gen.InReferenceIdeal.Run
public import proofs.«01_k».proof.Proof.InValue
public import proofs.«01_k».proof.Proof.InRun
public import Idealize.ShloMosaic.Lib.Quiescent

@[expose] public section

set_option maxRecDepth 16384

noncomputable section

namespace Cert.InV

open Cert.Mat
open Idealize.ShloMosaic Idealize.ShloMosaic.TcCoe Idealize.ShloMosaic.Tactic Idealize.SL.Sem
open scoped BigOperators

theorem frame_reference : Cert.quiescent_InReferenceIdeal := fun m ρ _ =>
  (θ_run Cert.InReferenceIdeal.defs _ _).mono (fun r h => ⟨fun c => (h c).2.2.2.2.2.2.2, sem_eq_zero_of_no_sems (by decide) r.2⟩)
    (Cert.InReferenceIdeal.Value.run m ρ)

section
open Cert.InReferenceIdeal Cert.InReferenceIdeal.Gen
variable (x g : Mat 2048 2048) (q e : Mat 2048 3072) (z d : Mat 2048 1024) (u l : Mat 2048 4096)

theorem ref0 : (Host.dotGeneral (F := Ideal) (φ₁ := .f32) (φ₂ := .f32) dot_S2048x2048_S2048x3072_S2048x3072_1_0_0_1_n_n none x q : Mat 2048 3072) = nn x q := by
  funext i
  unfold nn
  pointwise
theorem ref1 : (Host.dotGeneral (F := Ideal) (φ₁ := .f32) (φ₂ := .f32) dot_S2048x2048_S2048x1024_S2048x1024_1_0_0_1_n_n none x z : Mat 2048 1024) = nn x z := by
  funext i
  unfold nn
  pointwise
theorem ref2 : (Host.dotGeneral (F := Ideal) (φ₁ := .f32) (φ₂ := .f32) dot_S2048x2048_S2048x4096_S2048x4096_1_0_0_1_n_n none x u : Mat 2048 4096) = nn x u := by
  funext i
  unfold nn
  pointwise
theorem ref3 : (addf (F := Ideal) (φ := .f32) g (Host.dotGeneral (F := Ideal) (φ₁ := .f32) (φ₂ := .f32) dot_S2048x1024_S2048x1024_S2048x2048_1_1_0_0_n_n none d z) : Mat 2048 2048) = fun i => nt d z i + g i := by
  funext i
  unfold nt
  rw [add_comm]
  pointwise
theorem ref4 : (transpose S2048x3072 [1, 0] (Host.dotGeneral (F := Ideal) (φ₁ := .f32) (φ₂ := .f32) dot_S2048x3072_S2048x2048_S3072x2048_0_0_1_1_n_n none e x : Mat 3072 2048) transposes_S3072x2048_S2048x3072_1_0 : Mat 2048 3072) = tn x e := by
  rw [← tr_tn]
  funext i
  unfold tr tn
  pointwise
theorem ref5 : (transpose S2048x1024 [1, 0] (Host.dotGeneral (F := Ideal) (φ₁ := .f32) (φ₂ := .f32) dot_S2048x1024_S2048x2048_S1024x2048_0_0_1_1_n_n none d x : Mat 1024 2048) transposes_S1024x2048_S2048x1024_1_0 : Mat 2048 1024) = tn x d := by
  rw [← tr_tn]
  funext i
  unfold tr tn
  pointwise
theorem ref6 : (transpose S2048x4096 [1, 0] (Host.dotGeneral (F := Ideal) (φ₁ := .f32) (φ₂ := .f32) dot_S2048x4096_S2048x2048_S4096x2048_0_0_1_1_n_n none l x : Mat 4096 2048) transposes_S4096x2048_S2048x4096_1_0 : Mat 2048 4096) = tn x l := by
  rw [← tr_tn]
  funext i
  unfold tr tn
  pointwise
end

theorem results : Cert.algebraic_InIdeal_InReferenceIdeal := fun m g m' g' _ ha =>
  ⟨fun c => Cert.InIdeal.Gen.W9 m g c (Proc.devRef .tc Cert.InIdeal.main_v10),
   fun c => Cert.InIdeal.Gen.W9 m g c (Proc.devRef .tc Cert.InIdeal.main_v11),
   fun c => Cert.InIdeal.Gen.W9 m g c (Proc.devRef .tc Cert.InIdeal.main_v12),
   fun c => Cert.InIdeal.Gen.W9 m g c (Proc.devRef .tc Cert.InIdeal.main_v13),
   fun c => Cert.InIdeal.Gen.W9 m g c (Proc.devRef .tc Cert.InIdeal.main_v18),
   fun c => Cert.InIdeal.Gen.W9 m g c (Proc.devRef .tc Cert.InIdeal.main_v20),
   fun c => Cert.InIdeal.Gen.W9 m g c (Proc.devRef .tc Cert.InIdeal.main_v22),
   (θ_run Cert.InIdeal.defs _ _).mono
    (fun _ h c => ⟨h.1 c _ (by decide), h.1 c _ (by decide), h.1 c _ (by decide), h.1 c _ (by decide), h.1 c _ (by decide), h.1 c _ (by decide), h.1 c _ (by decide),
      h.args m g c _ (by decide) (by decide), h.args m g c _ (by decide) (by decide), h.args m g c _ (by decide) (by decide), h.args m g c _ (by decide) (by decide),
      h.args m g c _ (by decide) (by decide), h.args m g c _ (by decide) (by decide), h.args m g c _ (by decide) (by decide), h.args m g c _ (by decide) (by decide)⟩)
    (Cert.InIdeal.Run.run_main m g),
   (θ_run Cert.InReferenceIdeal.defs _ _).mono
    (fun _ h c => by
      obtain ⟨a0, a1, a2, a3, a4, a5, a6, a7⟩ := ha c
      obtain ⟨h0, h1, h2, h3, h4, h5, h6, h7⟩ := h c
      rw [a0, a1] at h0
      rw [a0, a2] at h1
      rw [a0, a3] at h2
      rw [a2, a5, a7] at h3
      rw [a0, a4] at h4
      rw [a0, a5] at h5
      rw [a0, a6] at h6
      exact ⟨h0.trans ((ref0 ..).trans (res0 m g c).symm), h1.trans ((ref1 ..).trans (res1 m g c).symm), h2.trans ((ref2 ..).trans (res2 m g c).symm),
        h3.trans ((ref3 ..).trans (res3 m g c).symm), h4.trans ((ref4 ..).trans (res4 m g c).symm), h5.trans ((ref5 ..).trans (res5 m g c).symm),
        h6.trans ((ref6 ..).trans (res6 m g c).symm), h7⟩)
    (Cert.InReferenceIdeal.Value.run m' g')⟩

end Cert.InV

end
-- ==== Proof.BranchValue.lean ====
/-
  The products of the branches (`proj_a`, `d_pa_in`, `dw_pa`) and of the gated linear unit (`glu_lin`, `d_ys`, `dw_glu`):
  each call's result array, block by block, is the whole product of the arrays that it reads; and so the program's results,
  as functions of its arguments.
-/
module

public import proofs.«01_k».proof.Proof.Gen.BranchIdeal.Frame
public import proofs.«01_k».proof.Proof.Gen.BranchReferenceIdeal.Read
public import proofs.«01_k».proof.Proof.MatProd
public import Idealize.ShloMosaic.Lib.Pipeline.ValueKit
public import Idealize.ShloMosaic.Lib.Pointwise

@[expose] public section

set_option maxRecDepth 16384

noncomputable section

namespace Cert.BranchV

open Cert.BranchIdeal Cert.BranchIdeal.Gen Cert.Mat
open Idealize.ShloMosaic Idealize.ShloMosaic.TcCoe Idealize.ShloMosaic.Tactic Idealize.ShloMosaic.StableHlo
open scoped BigOperators

/-! ## The calls -/

section
variable (V : (c : Dev nD) → (b : Ref sig .tc) → Buf (Elt Ideal) ((c : Thread nD τ).loc b)) (c : Dev nD)

theorem idx0_0 : ∀ t : Fin cfg0.N, win0_0.index t = ![win0_2.index t 0, 0] := (by decide +kernel : ∀ t : Fin grid0.N, _)
theorem idx0_1 : ∀ t : Fin cfg0.N, win0_1.index t = ![0, win0_2.index t 1] := (by decide +kernel : ∀ t : Fin grid0.N, _)
theorem arr0 : (dat0 V c).arrAt 2 cfg0.N = nn (V c main_v0 : Mat 2048 1024) (V c main_v1 : Mat 1024 2048) := by
  refine (dat0 V c).arrAt_eq_of_covers 2 _ (by decide +kernel) fun t hf y => ?_
  blk_simp
  rw [after0_2]
  frame_out
  unfold nn
  pointwise [k0_pay1]
  blk_point [iblk0, idx0_0, idx0_1]

theorem idx1_0 : ∀ t : Fin cfg1.N, win1_0.index t = ![win1_2.index t 0, 0] := (by decide +kernel : ∀ t : Fin grid1.N, _)
theorem idx1_1 : ∀ t : Fin cfg1.N, win1_1.index t = ![0, win1_2.index t 1] := (by decide +kernel : ∀ t : Fin grid1.N, _)
theorem arr1 : (dat1 V c).arrAt 2 cfg1.N = nn (V c main_arg3 : Mat 2048 1024) (V c main_v3 : Mat 1024 1024) := by
  refine (dat1 V c).arrAt_eq_of_covers 2 _ (by decide +kernel) fun t hf y => ?_
  blk_simp
  rw [after1_2]
  frame_out
  unfold nn
  pointwise [k1_pay1]
  blk_point [iblk1, idx1_0, idx1_1]

theorem idx2_0 : ∀ t : Fin cfg2.N, win2_0.index t = ![win2_3.index t 0, 0] := (by decide +kernel : ∀ t : Fin grid2.N, _)
theorem idx2_1 : ∀ t : Fin cfg2.N, win2_1.index t = ![win2_3.index t 1, 0] := (by decide +kernel : ∀ t : Fin grid2.N, _)
theorem idx2_2 : ∀ t : Fin cfg2.N, win2_2.index t = win2_3.index t := (by decide +kernel : ∀ t : Fin grid2.N, _)
theorem arr2 : (dat2 V c).arrAt 3 cfg2.N = fun i => nt (V c main_v4 : Mat 2048 1024) (V c main_v3 : Mat 1024 1024) i + (V c main_arg6 : Mat 2048 1024) i := by
  refine (dat2 V c).arrAt_eq_of_covers 3 _ (by decide +kernel) fun t hf y => ?_
  blk_simp
  rw [after2_3]
  frame_out
  unfold nt
  pointwise [k2_pay1]
  blk_point [iblk2, idx2_0, idx2_1, idx2_2]

theorem idx3_0 : ∀ t : Fin cfg3.N, win3_0.index t = ![0, win3_2.index t 0] := (by decide +kernel : ∀ t : Fin grid3.N, _)
theorem idx3_1 : ∀ t : Fin cfg3.N, win3_1.index t = ![0, win3_2.index t 1] := (by decide +kernel : ∀ t : Fin grid3.N, _)
theorem arr3 : (dat3 V c).arrAt 2 cfg3.N = tn (V c main_arg3 : Mat 2048 1024) (V c main_v4 : Mat 2048 1024) := by
  refine (dat3 V c).arrAt_eq_of_covers 2 _ (by decide +kernel) fun t hf y => ?_
  blk_simp
  rw [after3_2]
  frame_out
  unfold tn
  pointwise [k3_pay1]
  blk_point [iblk3, idx3_0, idx3_1]

theorem idx4_0 : ∀ t : Fin cfg4.N, win4_0.index t = ![win4_2.index t 0, 0] := (by decide +kernel : ∀ t : Fin grid4.N, _)
theorem idx4_1 : ∀ t : Fin cfg4.N, win4_1.index t = ![win4_2.index t 1, 0] := (by decide +kernel : ∀ t : Fin grid4.N, _)
theorem arr4 : (dat4 V c).arrAt 2 cfg4.N = nt (V c main_v2 : Mat 2048 2048) (V c main_v1 : Mat 1024 2048) := by
  refine (dat4 V c).arrAt_eq_of_covers 2 _ (by decide +kernel) fun t hf y => ?_
  blk_simp
  rw [after4_2]
  frame_out
  unfold nt
  pointwise [k4_pay1]
  blk_point [iblk4, idx4_0, idx4_1]

theorem idx5_0 : ∀ t : Fin cfg5.N, win5_0.index t = ![0, win5_2.index t 0] := (by decide +kernel : ∀ t : Fin grid5.N, _)
theorem idx5_1 : ∀ t : Fin cfg5.N, win5_1.index t = ![0, win5_2.index t 1] := (by decide +kernel : ∀ t : Fin grid5.N, _)
theorem arr5 : (dat5 V c).arrAt 2 cfg5.N = tn (V c main_v0 : Mat 2048 1024) (V c main_v2 : Mat 2048 2048) := by
  refine (dat5 V c).arrAt_eq_of_covers 2 _ (by decide +kernel) fun t hf y => ?_
  blk_simp
  rw [after5_2]
  frame_out
  unfold tn
  pointwise [k5_pay1]
  blk_point [iblk5, idx5_0, idx5_1]

end

/-! ## What the calls read -/

section
variable (m : (ℓ : Loc nD τ sig) → Buf (Elt Ideal) ℓ) (ρ : Dev nD → PrngReg) (c : Dev nD)

/-- The arguments, as matrices. -/
abbrev pa : Mat 2048 1024 := m ((c : Thread nD τ).loc main_arg0)
abbrev wpa : Mat 1024 2048 := m ((c : Thread nD τ).loc main_arg1)
abbrev dy : Mat 2048 2048 := m ((c : Thread nD τ).loc main_arg2)
abbrev ys : Mat 2048 1024 := m ((c : Thread nD τ).loc main_arg3)
abbrev wglu : Mat 1024 1024 := m ((c : Thread nD τ).loc main_arg4)
abbrev dglin : Mat 2048 1024 := m ((c : Thread nD τ).loc main_arg5)
abbrev dys : Mat 2048 1024 := m ((c : Thread nD τ).loc main_arg6)

theorem V1_v0 : V1 m ρ c main_v0 = pa m c := by
  show after hostOps0 (W0 m ρ c) _ = _
  after_results
  rfl
theorem V1_v1 : V1 m ρ c main_v1 = wpa m c := by
  show after hostOps0 (W0 m ρ c) _ = _
  after_results
  rfl
theorem V1_v2 : V1 m ρ c main_v2 = dy m c := by
  show after hostOps0 (W0 m ρ c) _ = _
  after_results
  rfl
theorem V1_v3 : V1 m ρ c main_v3 = wglu m c := by
  show after hostOps0 (W0 m ρ c) _ = _
  after_results
  rfl
theorem V1_v4 : V1 m ρ c main_v4 = dglin m c := by
  show after hostOps0 (W0 m ρ c) _ = _
  after_results
  rfl

-- a call's operand, at each call that reads it
theorem V2_v3 : V2 m ρ c main_v3 = wglu m c := (W2_of m ρ c main_v3 (by decide)).trans (V1_v3 m ρ c)
theorem V3_v3 : V3 m ρ c main_v3 = wglu m c := (W3_of m ρ c main_v3 (by decide)).trans (V2_v3 m ρ c)
theorem V3_v4 : V3 m ρ c main_v4 = dglin m c := (W3_of m ρ c main_v4 (by decide)).trans ((W2_of m ρ c main_v4 (by decide)).trans (V1_v4 m ρ c))
theorem V4_v4 : V4 m ρ c main_v4 = dglin m c := (W4_of m ρ c main_v4 (by decide)).trans (V3_v4 m ρ c)
theorem V5_v2 : V5 m ρ c main_v2 = dy m c := (W5_of m ρ c main_v2 (by decide)).trans <| (W4_of m ρ c main_v2 (by decide)).trans <|
  (W3_of m ρ c main_v2 (by decide)).trans <| (W2_of m ρ c main_v2 (by decide)).trans (V1_v2 m ρ c)
theorem V6_v2 : V6 m ρ c main_v2 = dy m c := (W6_of m ρ c main_v2 (by decide)).trans (V5_v2 m ρ c)
theorem V5_v1 : V5 m ρ c main_v1 = wpa m c := (W5_of m ρ c main_v1 (by decide)).trans <| (W4_of m ρ c main_v1 (by decide)).trans <|
  (W3_of m ρ c main_v1 (by decide)).trans <| (W2_of m ρ c main_v1 (by decide)).trans (V1_v1 m ρ c)
theorem V6_v0 : V6 m ρ c main_v0 = pa m c := (W6_of m ρ c main_v0 (by decide)).trans <| (W5_of m ρ c main_v0 (by decide)).trans <|
  (W4_of m ρ c main_v0 (by decide)).trans <| (W3_of m ρ c main_v0 (by decide)).trans <| (W2_of m ρ c main_v0 (by decide)).trans (V1_v0 m ρ c)

/-! ## The program's results -/

theorem W2_v5 : W2 m ρ c (Proc.devRef .tc main_v5) = nn (pa m c) (wpa m c) :=
  (W2_arr m ρ c 2).trans <| (arr0 (V1 m ρ) c).trans <| by rw [V1_v0, V1_v1]
theorem W3_v6 : W3 m ρ c (Proc.devRef .tc main_v6) = nn (ys m c) (wglu m c) :=
  (W3_arr m ρ c 2).trans <| (arr1 (V2 m ρ) c).trans <| by rw [V2_v3, show V2 m ρ c main_arg3 = ys m c from W2_args m ρ c _ (by decide)]
theorem W4_v7 : W4 m ρ c (Proc.devRef .tc main_v7) = fun i => nt (dglin m c) (wglu m c) i + dys m c i :=
  (W4_arr m ρ c 3).trans <| (arr2 (V3 m ρ) c).trans <| by rw [V3_v4, V3_v3, show V3 m ρ c main_arg6 = dys m c from W3_args m ρ c _ (by decide)]
theorem W5_v8 : W5 m ρ c (Proc.devRef .tc main_v8) = tn (ys m c) (dglin m c) :=
  (W5_arr m ρ c 2).trans <| (arr3 (V4 m ρ) c).trans <| by rw [V4_v4, show V4 m ρ c main_arg3 = ys m c from W4_args m ρ c _ (by decide)]
theorem W6_v9 : W6 m ρ c (Proc.devRef .tc main_v9) = nt (dy m c) (wpa m c) :=
  (W6_arr m ρ c 2).trans <| (arr4 (V5 m ρ) c).trans <| by rw [V5_v2, V5_v1]
theorem W7_v10 : W7 m ρ c (Proc.devRef .tc main_v10) = tn (pa m c) (dy m c) :=
  (W7_arr m ρ c 2).trans <| (arr5 (V6 m ρ) c).trans <| by rw [V6_v0, V6_v2]

theorem res0 : W8 m ρ c (Proc.devRef .tc main_v5) = nn (pa m c) (wpa m c) := by
  rw [W8_of m ρ c main_v5 (by decide), W7_of m ρ c main_v5 (by decide), W6_of m ρ c main_v5 (by decide),
    W5_of m ρ c main_v5 (by decide), W4_of m ρ c main_v5 (by decide), W3_of m ρ c main_v5 (by decide)]
  exact W2_v5 m ρ c
theorem res1 : W8 m ρ c (Proc.devRef .tc main_v6) = nn (ys m c) (wglu m c) := by
  rw [W8_of m ρ c main_v6 (by decide), W7_of m ρ c main_v6 (by decide), W6_of m ρ c main_v6 (by decide),
    W5_of m ρ c main_v6 (by decide), W4_of m ρ c main_v6 (by decide)]
  exact W3_v6 m ρ c
theorem res2 : W8 m ρ c (Proc.devRef .tc main_v7) = fun i => nt (dglin m c) (wglu m c) i + dys m c i := by
  rw [W8_of m ρ c main_v7 (by decide), W7_of m ρ c main_v7 (by decide), W6_of m ρ c main_v7 (by decide), W5_of m ρ c main_v7 (by decide)]
  exact W4_v7 m ρ c
theorem res3 : W8 m ρ c (Proc.devRef .tc main_v11) = tn (ys m c) (dglin m c) := by
  have e : W7 m ρ c (Proc.devRef .tc main_v8) = tn (ys m c) (dglin m c) := by
    rw [W7_of m ρ c main_v8 (by decide), W6_of m ρ c main_v8 (by decide)]
    exact W5_v8 m ρ c
  show after hostOps6 (W7 m ρ c) _ = _
  after_results
  exact e
theorem res4 : W8 m ρ c (Proc.devRef .tc main_v9) = nt (dy m c) (wpa m c) := by
  rw [W8_of m ρ c main_v9 (by decide), W7_of m ρ c main_v9 (by decide)]
  exact W6_v9 m ρ c
theorem res5 : W8 m ρ c (Proc.devRef .tc main_v12) = tn (pa m c) (dy m c) := by
  show after hostOps6 (W7 m ρ c) _ = _
  after_results
  exact W7_v10 m ρ c

end

end Cert.BranchV

end
-- ==== Proof.BranchRun.lean ====
/- The run of the branches' and the gated linear unit's program, at any float instance: from any memory with zero counters every weakly fair
   execution terminates, nothing faulting; every final state has each tensor value's buffer at the contents `Gen.W8` that the
   fold over @main's eight items (stretch, six calls, stretch) names, and every counter at zero. -/
module

public import proofs.«01_k».proof.Proof.Gen.BranchIdeal.Frame

@[expose] public section

set_option maxRecDepth 16384

noncomputable section

namespace Cert.BranchIdeal.Run

open Cert.BranchIdeal Cert.BranchIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What holds of every final state: each tensor value's buffer at `W8`, every counter at zero. -/
abbrev Final (s : MemSt nD τ sig (Elt F)) : Prop :=
  (∀ (c : Dev nD) (b : Ref sig .tc), (Proc.devRef .tc b : DevRef τ sig).isScoped = false →
    s.mem ((c.tc : Thread nD τ).loc b) = W8 m ρ c (Proc.devRef .tc b)) ∧ s.sem = fun _ => 0

-- the kit's implicit arguments are found by unifying its conclusion with this one, which takes unfolding plain definitions in a metavariable's type
set_option backward.isDefEq.respectTransparency.types false in
theorem run_main : θ_run defs (onTc (τ := τ) (main (F := F))) ⟨m, fun _ => 0, ρ⟩ (fun r => Final m ρ r.2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c b hb => h c _ (mem_uc b (by rw [hb]; exact Bool.false_ne_true)), funext fun g => hz g (.inr (no_unscoped g.2))⟩)

/-- Every argument array ends as it was launched. -/
theorem Final.args {s : MemSt nD τ sig (Elt F)} (h : Final m ρ s) (c : Dev nD) (r : Ref sig .tc) (hr : r ∈ argRefs)
    (hs : (Proc.devRef .tc r : DevRef τ sig).isScoped = false) : s.mem ((c.tc : Thread nD τ).loc r) = m ((c.tc : Thread nD τ).loc r) :=
  (h.1 c r hs).trans (W8_args m ρ c r hr)

end Cert.BranchIdeal.Run

end
-- ==== Proof.BranchClaims.lean ====
/-
  The products of the branches and of the gated linear unit: the program's results are the reference's, on any arguments.
-/
module

public import proofs.«01_k».proof.Defs
public import proofs.«01_k».proof.Proof.Gen.BranchReferenceIdeal.Run
public import proofs.«01_k».proof.Proof.BranchValue
public import proofs.«01_k».proof.Proof.BranchRun
public import Idealize.ShloMosaic.Lib.Quiescent

@[expose] public section

set_option maxRecDepth 16384

noncomputable section

namespace Cert.BranchV

open Cert.Mat
open Idealize.ShloMosaic Idealize.ShloMosaic.TcCoe Idealize.ShloMosaic.Tactic Idealize.SL.Sem
open scoped BigOperators

theorem frame_reference : Cert.quiescent_BranchReferenceIdeal := fun m ρ _ =>
  (θ_run Cert.BranchReferenceIdeal.defs _ _).mono (fun r h => ⟨fun c => (h c).2.2.2.2.2.2, sem_eq_zero_of_no_sems (by decide) r.2⟩)
    (Cert.BranchReferenceIdeal.Value.run m ρ)

section
open Cert.BranchReferenceIdeal Cert.BranchReferenceIdeal.Gen
variable (a s d g : Mat 2048 1024) (w : Mat 1024 2048) (e : Mat 2048 2048) (u : Mat 1024 1024)

theorem ref0 : (Host.dotGeneral (F := Ideal) (φ₁ := .f32) (φ₂ := .f32) dot_S2048x1024_S1024x2048_S2048x2048_1_0_0_1_n_n none a w : Mat 2048 2048) = nn a w := by
  funext i
  unfold nn
  pointwise
theorem ref1 : (Host.dotGeneral (F := Ideal) (φ₁ := .f32) (φ₂ := .f32) dot_S2048x1024_S1024x1024_S2048x1024_1_0_0_1_n_n none s u : Mat 2048 1024) = nn s u := by
  funext i
  unfold nn
  pointwise
theorem ref2 : (addf (F := Ideal) (φ := .f32) g (Host.dotGeneral (F := Ideal) (φ₁ := .f32) (φ₂ := .f32) dot_S2048x1024_S1024x1024_S2048x1024_1_1_0_0_n_n none d u) : Mat 2048 1024) = fun i => nt d u i + g i := by
  funext i
  unfold nt
  rw [add_comm]
  pointwise
theorem ref3 : (transpose S1024x1024 [1, 0] (Host.dotGeneral (F := Ideal) (φ₁ := .f32) (φ₂ := .f32) dot_S2048x1024_S2048x1024_S1024x1024_0_0_1_1_n_n none d s : Mat 1024 1024) transposes_S1024x1024_S1024x1024_1_0 : Mat 1024 1024) = tn s d := by
  rw [← tr_tn]
  funext i
  unfold tr tn
  pointwise
theorem ref4 : (Host.dotGeneral (F := Ideal) (φ₁ := .f32) (φ₂ := .f32) dot_S2048x2048_S1024x2048_S2048x1024_1_1_0_0_n_n none e w : Mat 2048 1024) = nt e w := by
  funext i
  unfold nt
  pointwise
theorem ref5 : (transpose S1024x2048 [1, 0] (Host.dotGeneral (F := Ideal) (φ₁ := .f32) (φ₂ := .f32) dot_S2048x2048_S2048x1024_S2048x1024_0_0_1_1_n_n none e a : Mat 2048 1024) transposes_S2048x1024_S1024x2048_1_0 : Mat 1024 2048) = tn a e := by
  rw [← tr_tn]
  funext i
  unfold tr tn
  pointwise
end

theorem results : Cert.algebraic_BranchIdeal_BranchReferenceIdeal := fun m g m' g' _ ha =>
  ⟨fun c => Cert.BranchIdeal.Gen.W8 m g c (Proc.devRef .tc Cert.BranchIdeal.main_v5),
   fun c => Cert.BranchIdeal.Gen.W8 m g c (Proc.devRef .tc Cert.BranchIdeal.main_v6),
   fun c => Cert.BranchIdeal.Gen.W8 m g c (Proc.devRef .tc Cert.BranchIdeal.main_v7),
   fun c => Cert.BranchIdeal.Gen.W8 m g c (Proc.devRef .tc Cert.BranchIdeal.main_v11),
   fun c => Cert.BranchIdeal.Gen.W8 m g c (Proc.devRef .tc Cert.BranchIdeal.main_v9),
   fun c => Cert.BranchIdeal.Gen.W8 m g c (Proc.devRef .tc Cert.BranchIdeal.main_v12),
   (θ_run Cert.BranchIdeal.defs _ _).mono
    (fun _ h c => ⟨h.1 c _ (by decide), h.1 c _ (by decide), h.1 c _ (by decide), h.1 c _ (by decide), h.1 c _ (by decide), h.1 c _ (by decide),
      h.args m g c _ (by decide) (by decide), h.args m g c _ (by decide) (by decide), h.args m g c _ (by decide) (by decide), h.args m g c _ (by decide) (by decide),
      h.args m g c _ (by decide) (by decide), h.args m g c _ (by decide) (by decide), h.args m g c _ (by decide) (by decide)⟩)
    (Cert.BranchIdeal.Run.run_main m g),
   (θ_run Cert.BranchReferenceIdeal.defs _ _).mono
    (fun _ h c => by
      obtain ⟨a0, a1, a2, a3, a4, a5, a6⟩ := ha c
      obtain ⟨h0, h1, h2, h3, h4, h5, h6⟩ := h c
      rw [a0, a1] at h0
      rw [a3, a4] at h1
      rw [a4, a5, a6] at h2
      rw [a3, a5] at h3
      rw [a1, a2] at h4
      rw [a0, a2] at h5
      exact ⟨h0.trans ((ref0 ..).trans (res0 m g c).symm), h1.trans ((ref1 ..).trans (res1 m g c).symm), h2.trans ((ref2 ..).trans (res2 m g c).symm),
        h3.trans ((ref3 ..).trans (res3 m g c).symm), h4.trans ((ref4 ..).trans (res4 m g c).symm), h5.trans ((ref5 ..).trans (res5 m g c).symm), h6⟩)
    (Cert.BranchReferenceIdeal.Value.run m' g')⟩

end Cert.BranchV

end
-- ==== Proof.SideValue.lean ====
/-
  The input projections' remaining products: `proj_ba`, `dh_ba` and `dw_in_ba`, at the 256 columns of the two gates padded
  to whole lanes, and `dh_u`, a product with nothing added. Each call's result array, block by block, is the whole product
  of the arrays that it reads; and so the program's results, as functions of its arguments.
-/
module

public import proofs.«01_k».proof.Proof.Gen.SideIdeal.Frame
public import proofs.«01_k».proof.Proof.Gen.SideReferenceIdeal.Read
public import proofs.«01_k».proof.Proof.MatProd
public import Idealize.ShloMosaic.Lib.Pipeline.ValueKit
public import Idealize.ShloMosaic.Lib.Pointwise

@[expose] public section

set_option maxRecDepth 16384

noncomputable section

namespace Cert.SideV

open Cert.SideIdeal Cert.SideIdeal.Gen Cert.Mat
open Idealize.ShloMosaic Idealize.ShloMosaic.TcCoe Idealize.ShloMosaic.Tactic Idealize.ShloMosaic.StableHlo
open scoped BigOperators

/-! ## The calls -/

section
variable (V : (c : Dev nD) → (b : Ref sig .tc) → Buf (Elt Ideal) ((c : Thread nD τ).loc b)) (c : Dev nD)

theorem idx0_0 : ∀ t : Fin cfg0.N, win0_0.index t = ![win0_2.index t 0, 0] := (by decide +kernel : ∀ t : Fin grid0.N, _)
theorem idx0_1 : ∀ t : Fin cfg0.N, win0_1.index t = ![win0_2.index t 1, 0] := (by decide +kernel : ∀ t : Fin grid0.N, _)
theorem arr0 : (dat0 V c).arrAt 2 cfg0.N = nt (V c main_v0 : Mat 2048 2048) (V c main_v2 : Mat 256 2048) := by
  refine (dat0 V c).arrAt_eq_of_covers 2 _ (by decide +kernel) fun t hf y => ?_
  blk_simp
  rw [after0_2]
  frame_out
  unfold nt
  pointwise [k0_pay1]
  blk_point [iblk0, idx0_0, idx0_1]

theorem idx1_0 : ∀ t : Fin cfg1.N, win1_0.index t = ![win1_2.index t 0, 0] := (by decide +kernel : ∀ t : Fin grid1.N, _)
theorem idx1_1 : ∀ t : Fin cfg1.N, win1_1.index t = ![0, win1_2.index t 1] := (by decide +kernel : ∀ t : Fin grid1.N, _)
theorem arr1 : (dat1 V c).arrAt 2 cfg1.N = nn (V c main_v4 : Mat 2048 1024) (V c main_v6 : Mat 1024 2048) := by
  refine (dat1 V c).arrAt_eq_of_covers 2 _ (by decide +kernel) fun t hf y => ?_
  blk_simp
  rw [after1_2]
  frame_out
  unfold nn
  pointwise [k1_pay1]
  blk_point [iblk1, idx1_0, idx1_1]

theorem idx2_0 : ∀ t : Fin cfg2.N, win2_0.index t = ![win2_3.index t 0, 0] := (by decide +kernel : ∀ t : Fin grid2.N, _)
theorem idx2_1 : ∀ t : Fin cfg2.N, win2_1.index t = ![0, win2_3.index t 1] := (by decide +kernel : ∀ t : Fin grid2.N, _)
theorem idx2_2 : ∀ t : Fin cfg2.N, win2_2.index t = win2_3.index t := (by decide +kernel : ∀ t : Fin grid2.N, _)
theorem arr2 : (dat2 V c).arrAt 3 cfg2.N = fun i => nn (V c main_v3 : Mat 2048 256) (V c main_v2 : Mat 256 2048) i + (V c main_arg3 : Mat 2048 2048) i := by
  refine (dat2 V c).arrAt_eq_of_covers 3 _ (by decide +kernel) fun t hf y => ?_
  blk_simp
  rw [after2_3]
  frame_out
  unfold nn
  pointwise [k2_pay1]
  blk_point [iblk2, idx2_0, idx2_1, idx2_2]

theorem idx3_0 : ∀ t : Fin cfg3.N, win3_0.index t = ![0, win3_2.index t 0] := (by decide +kernel : ∀ t : Fin grid3.N, _)
theorem idx3_1 : ∀ t : Fin cfg3.N, win3_1.index t = ![0, win3_2.index t 1] := (by decide +kernel : ∀ t : Fin grid3.N, _)
theorem arr3 : (dat3 V c).arrAt 2 cfg3.N = tn (V c main_v3 : Mat 2048 256) (V c main_v0 : Mat 2048 2048) := by
  refine (dat3 V c).arrAt_eq_of_covers 2 _ (by decide +kernel) fun t hf y => ?_
  blk_simp
  rw [after3_2]
  frame_out
  unfold tn
  pointwise [k3_pay1]
  blk_point [iblk3, idx3_0, idx3_1]

end

/-! ## What the calls read -/

section
variable (m : (ℓ : Loc nD τ sig) → Buf (Elt Ideal) ℓ) (ρ : Dev nD → PrngReg) (c : Dev nD)

/-- The arguments, as matrices. -/
abbrev h : Mat 2048 2048 := m ((c : Thread nD τ).loc main_arg0)
abbrev wba : Mat 2048 256 := m ((c : Thread nD τ).loc main_arg1)
abbrev dba : Mat 2048 256 := m ((c : Thread nD τ).loc main_arg2)
abbrev dh : Mat 2048 2048 := m ((c : Thread nD τ).loc main_arg3)
abbrev du : Mat 2048 1024 := m ((c : Thread nD τ).loc main_arg4)
abbrev wu : Mat 2048 1024 := m ((c : Thread nD τ).loc main_arg5)

theorem V1_v0 : V1 m ρ c main_v0 = h m c := by
  show after hostOps0 (W0 m ρ c) _ = _
  after_results
  rfl
theorem V1_v3 : V1 m ρ c main_v3 = dba m c := by
  show after hostOps0 (W0 m ρ c) _ = _
  after_results
  rfl
theorem V1_v4 : V1 m ρ c main_v4 = du m c := by
  show after hostOps0 (W0 m ρ c) _ = _
  after_results
  rfl
theorem V1_v2 : V1 m ρ c main_v2 = tr (wba m c) := by
  show after hostOps0 (W0 m ρ c) _ = _
  after_results
  funext i
  unfold tr
  pointwise
theorem V1_v6 : V1 m ρ c main_v6 = tr (wu m c) := by
  show after hostOps0 (W0 m ρ c) _ = _
  after_results
  funext i
  unfold tr
  pointwise

-- a call's operand, at each call that reads it
theorem V2_v4 : V2 m ρ c main_v4 = du m c := (W2_of m ρ c main_v4 (by decide)).trans (V1_v4 m ρ c)
theorem V2_v6 : V2 m ρ c main_v6 = tr (wu m c) := (W2_of m ρ c main_v6 (by decide)).trans (V1_v6 m ρ c)
theorem V3_v2 : V3 m ρ c main_v2 = tr (wba m c) := (W3_of m ρ c main_v2 (by decide)).trans ((W2_of m ρ c main_v2 (by decide)).trans (V1_v2 m ρ c))
theorem V3_v3 : V3 m ρ c main_v3 = dba m c := (W3_of m ρ c main_v3 (by decide)).trans ((W2_of m ρ c main_v3 (by decide)).trans (V1_v3 m ρ c))
theorem V4_v3 : V4 m ρ c main_v3 = dba m c := (W4_of m ρ c main_v3 (by decide)).trans (V3_v3 m ρ c)
theorem V4_v0 : V4 m ρ c main_v0 = h m c := (W4_of m ρ c main_v0 (by decide)).trans <| (W3_of m ρ c main_v0 (by decide)).trans <|
  (W2_of m ρ c main_v0 (by decide)).trans (V1_v0 m ρ c)

/-! ## The program's results -/

theorem W2_v7 : W2 m ρ c (Proc.devRef .tc main_v7) = nn (h m c) (wba m c) :=
  (W2_arr m ρ c 2).trans <| (arr0 (V1 m ρ) c).trans <| by rw [V1_v0, V1_v2, nt_tr]
theorem W3_v8 : W3 m ρ c (Proc.devRef .tc main_v8) = nt (du m c) (wu m c) :=
  (W3_arr m ρ c 2).trans <| (arr1 (V2 m ρ) c).trans <| by rw [V2_v4, V2_v6, nn_tr]
theorem W4_v9 : W4 m ρ c (Proc.devRef .tc main_v9) = fun i => nt (dba m c) (wba m c) i + dh m c i :=
  (W4_arr m ρ c 3).trans <| (arr2 (V3 m ρ) c).trans <| by
    rw [V3_v3, V3_v2, nn_tr, show V3 m ρ c main_arg3 = dh m c from W3_args m ρ c _ (by decide)]
theorem W5_v10 : W5 m ρ c (Proc.devRef .tc main_v10) = tn (dba m c) (h m c) :=
  (W5_arr m ρ c 2).trans <| (arr3 (V4 m ρ) c).trans <| by rw [V4_v3, V4_v0]

theorem res0 : W6 m ρ c (Proc.devRef .tc main_v7) = nn (h m c) (wba m c) := by
  rw [W6_of m ρ c main_v7 (by decide), W5_of m ρ c main_v7 (by decide), W4_of m ρ c main_v7 (by decide), W3_of m ρ c main_v7 (by decide)]
  exact W2_v7 m ρ c
theorem res1 : W6 m ρ c (Proc.devRef .tc main_v8) = nt (du m c) (wu m c) := by
  rw [W6_of m ρ c main_v8 (by decide), W5_of m ρ c main_v8 (by decide), W4_of m ρ c main_v8 (by decide)]
  exact W3_v8 m ρ c
theorem res2 : W6 m ρ c (Proc.devRef .tc main_v9) = fun i => nt (dba m c) (wba m c) i + dh m c i := by
  rw [W6_of m ρ c main_v9 (by decide), W5_of m ρ c main_v9 (by decide)]
  exact W4_v9 m ρ c
theorem res3 : W6 m ρ c (Proc.devRef .tc main_v12) = tn (h m c) (dba m c) := by
  show after hostOps4 (W5 m ρ c) _ = _
  after_results
  rw [W5_v10, ← tr_tn]
  funext i
  unfold tr
  pointwise

end

end Cert.SideV

end
-- ==== Proof.SideRun.lean ====
/- The run of the input projections' remaining products' program, at any float instance: from any memory with zero counters every weakly fair
   execution terminates, nothing faulting; every final state has each tensor value's buffer at the contents `Gen.W6` that the
   fold over @main's six items (stretch, four calls, stretch) names, and every counter at zero. -/
module

public import proofs.«01_k».proof.Proof.Gen.SideIdeal.Frame

@[expose] public section

set_option maxRecDepth 16384

noncomputable section

namespace Cert.SideIdeal.Run

open Cert.SideIdeal Cert.SideIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What holds of every final state: each tensor value's buffer at `W6`, every counter at zero. -/
abbrev Final (s : MemSt nD τ sig (Elt F)) : Prop :=
  (∀ (c : Dev nD) (b : Ref sig .tc), (Proc.devRef .tc b : DevRef τ sig).isScoped = false →
    s.mem ((c.tc : Thread nD τ).loc b) = W6 m ρ c (Proc.devRef .tc b)) ∧ s.sem = fun _ => 0

-- the kit's implicit arguments are found by unifying its conclusion with this one, which takes unfolding plain definitions in a metavariable's type
set_option backward.isDefEq.respectTransparency.types false in
theorem run_main : θ_run defs (onTc (τ := τ) (main (F := F))) ⟨m, fun _ => 0, ρ⟩ (fun r => Final m ρ r.2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c _ (mem_uc b (by rw [hb]; exact Bool.false_ne_true)), funext fun g => hz g (.inr (no_unscoped g.2))⟩)

/-- Every argument array ends as it was launched. -/
theorem Final.args {s : MemSt nD τ sig (Elt F)} (h : Final m ρ s) (c : Dev nD) (r : Ref sig .tc) (hr : r ∈ argRefs)
    (hs : (Proc.devRef .tc r : DevRef τ sig).isScoped = false) : s.mem ((c.tc : Thread nD τ).loc r) = m ((c.tc : Thread nD τ).loc r) :=
  (h.1 c r hs).trans (W6_args m ρ c r hr)

end Cert.SideIdeal.Run

end
-- ==== Proof.SideClaims.lean ====
/-
  The input projections' remaining products: the program's results are the reference's, on any arguments.
-/
module

public import proofs.«01_k».proof.Defs
public import proofs.«01_k».proof.Proof.Gen.SideReferenceIdeal.Run
public import proofs.«01_k».proof.Proof.SideValue
public import proofs.«01_k».proof.Proof.SideRun
public import Idealize.ShloMosaic.Lib.Quiescent

@[expose] public section

set_option maxRecDepth 16384

noncomputable section

namespace Cert.SideV

open Cert.Mat
open Idealize.ShloMosaic Idealize.ShloMosaic.TcCoe Idealize.ShloMosaic.Tactic Idealize.SL.Sem
open scoped BigOperators

theorem frame_reference : Cert.quiescent_SideReferenceIdeal := fun m ρ _ =>
  (θ_run Cert.SideReferenceIdeal.defs _ _).mono (fun r h => ⟨fun c => (h c).2.2.2.2, sem_eq_zero_of_no_sems (by decide) r.2⟩)
    (Cert.SideReferenceIdeal.Value.run m ρ)

section
open Cert.SideReferenceIdeal Cert.SideReferenceIdeal.Gen
variable (x g : Mat 2048 2048) (b e : Mat 2048 256) (u d : Mat 2048 1024)

theorem ref0 : (Host.dotGeneral (F := Ideal) (φ₁ := .f32) (φ₂ := .f32) dot_S2048x2048_S2048x256_S2048x256_1_0_0_1_n_n none x b : Mat 2048 256) = nn x b := by
  funext i
  unfold nn
  pointwise
theorem ref1 : (Host.dotGeneral (F := Ideal) (φ₁ := .f32) (φ₂ := .f32) dot_S2048x1024_S2048x1024_S2048x2048_1_1_0_0_n_n none d u : Mat 2048 2048) = nt d u := by
  funext i
  unfold nt
  pointwise
theorem ref2 : (addf (F := Ideal) (φ := .f32) g (Host.dotGeneral (F := Ideal) (φ₁ := .f32) (φ₂ := .f32) dot_S2048x256_S2048x256_S2048x2048_1_1_0_0_n_n none e b) : Mat 2048 2048) = fun i => nt e b i + g i := by
  funext i
  unfold nt
  rw [add_comm]
  pointwise
theorem ref3 : (transpose S2048x256 [1, 0] (Host.dotGeneral (F := Ideal) (φ₁ := .f32) (φ₂ := .f32) dot_S2048x256_S2048x2048_S256x2048_0_0_1_1_n_n none e x : Mat 256 2048) transposes_S256x2048_S2048x256_1_0 : Mat 2048 256) = tn x e := by
  rw [← tr_tn]
  funext i
  unfold tr tn
  pointwise
end

theorem results : Cert.algebraic_SideIdeal_SideReferenceIdeal := fun m g m' g' _ ha =>
  ⟨fun c => Cert.SideIdeal.Gen.W6 m g c (Proc.devRef .tc Cert.SideIdeal.main_v7),
   fun c => Cert.SideIdeal.Gen.W6 m g c (Proc.devRef .tc Cert.SideIdeal.main_v8),
   fun c => Cert.SideIdeal.Gen.W6 m g c (Proc.devRef .tc Cert.SideIdeal.main_v9),
   fun c => Cert.SideIdeal.Gen.W6 m g c (Proc.devRef .tc Cert.SideIdeal.main_v12),
   (θ_run Cert.SideIdeal.defs _ _).mono
    (fun _ h c => ⟨h.1 c _ (by decide), h.1 c _ (by decide), h.1 c _ (by decide), h.1 c _ (by decide),
      h.args m g c _ (by decide) (by decide), h.args m g c _ (by decide) (by decide), h.args m g c _ (by decide) (by decide), h.args m g c _ (by decide) (by decide),
      h.args m g c _ (by decide) (by decide), h.args m g c _ (by decide) (by decide)⟩)
    (Cert.SideIdeal.Run.run_main m g),
   (θ_run Cert.SideReferenceIdeal.defs _ _).mono
    (fun _ h c => by
      obtain ⟨a0, a1, a2, a3, a4, a5⟩ := ha c
      obtain ⟨h0, h1, h2, h3, h4⟩ := h c
      rw [a0, a1] at h0
      rw [a4, a5] at h1
      rw [a1, a2, a3] at h2
      rw [a0, a2] at h3
      exact ⟨h0.trans ((ref0 ..).trans (res0 m g c).symm), h1.trans ((ref1 ..).trans (res1 m g c).symm), h2.trans ((ref2 ..).trans (res2 m g c).symm),
        h3.trans ((ref3 ..).trans (res3 m g c).symm), h4⟩)
    (Cert.SideReferenceIdeal.Value.run m' g')⟩

end Cert.SideV

end
-- ==== Proof.DhQkvClaims.lean ====
/-
  `dh_qkv`, the gradient that the projection of the keys, queries and values sends back to its input, added to what the other projections sent: the
  product is taken in three thirds of the summed axis, the sum so far kept in a scratch block. The call's result array is the whole
  product plus the array added, and so is the program's result, which is the reference's on any arguments.
-/
module

public import proofs.«01_k».proof.Defs
public import proofs.«01_k».proof.Proof.Gen.DhQkvIdeal.Value
public import proofs.«01_k».proof.Proof.Gen.DhQkvReferenceIdeal.Run
public import proofs.«01_k».proof.Proof.Gen.DhQkvReferenceIdeal.Read
public import proofs.«01_k».proof.Proof.MatProd
public import Idealize.ShloMosaic.Lib.Pipeline.ValueKit
public import Idealize.ShloMosaic.Lib.Pointwise
public import Idealize.ShloMosaic.Lib.Quiescent

@[expose] public section

set_option maxRecDepth 16384

noncomputable section

namespace Cert.DhQkvV

open Cert.Mat
open Idealize.ShloMosaic Idealize.ShloMosaic.TcCoe Idealize.ShloMosaic.Tactic Idealize.ShloMosaic.StableHlo Idealize.SL.Sem
open scoped BigOperators

section
open Cert.DhQkvIdeal Cert.DhQkvIdeal.Gen
variable (m : (ℓ : Loc nD τ sig) → Buf (Elt Ideal) ℓ) (c : Dev nD)

/-! ## The call -/

theorem pay2_apply (x : Vec Ideal S1024x1024 .bf16) (w : Vec Ideal S1024x1024 .bf16) (j : S1024x1024.Idx) :
    k0_pay2 (F := Ideal) x w j = 0 + k0_pay1 (F := Ideal) x w j := by
  rw [zero_add]
  pointwise [k0_pay2]
theorem pay3_apply (x : Vec Ideal S1024x1024 .bf16) (w : Vec Ideal S1024x1024 .bf16) (a : Vec Ideal S1024x1024 .f32) (j : S1024x1024.Idx) :
    k0_pay3 (F := Ideal) x w a j = a j + k0_pay1 (F := Ideal) x w j := by
  pointwise [k0_pay3]
theorem pay1_apply (x : Vec Ideal S1024x1024 .bf16) (w : Vec Ideal S1024x1024 .bf16) (j : S1024x1024.Idx) :
    k0_pay1 (F := Ideal) x w j = ∑ k : Fin 1024, x (ix2 (j 0) k) * w (ix2 k (j 1)) := by
  pointwise [k0_pay1]

theorem sc_A (t : Fin cfg0.N) (h : t.val % 3 = 0) : (outsAt0 m c t.val t.isLt).2 = k0_pay2 (F := Ideal) (iblk m c 0 t) (iblk m c 1 t) := by
  rw [outsAt0_A m c t h (by omega) (by omega)]
  frame_out
theorem sc_B (t : Fin cfg0.N) (h : ¬t.val % 3 = 0) :
    (outsAt0 m c t.val t.isLt).2 = k0_pay3 (F := Ideal) (iblk m c 0 t) (iblk m c 1 t) (outsAt0 m c (t.val - 1) (Nat.lt_of_le_of_lt (Nat.sub_le _ _) t.isLt)).2 := by
  by_cases h2 : t.val % 3 = 2
  · rw [outsAt0_C m c t h (by omega) h2]
    frame_out
    exact congrArg _ (Memref.IsWhole.read_unread _ _)
  · rw [outsAt0_B m c t h (by omega) h2]
    frame_out
    exact congrArg _ (Memref.IsWhole.read_unread _ _)

/-- What the scratch holds at the point that writes a block back: the block products of its run, added. -/
theorem acc_eq (t : Fin cfg0.N) (ht : t.val % 3 = 2) (j : S1024x1024.Idx) :
    (outsAt0 m c t.val t.isLt).2 j = ∑ s : Fin 3, k0_pay1 (F := Ideal) (iblk m c 0 ⟨3 * (t.val / 3) + s.val, by have := t.isLt; have := s.isLt; omega⟩)
      (iblk m c 1 ⟨3 * (t.val / 3) + s.val, by have := t.isLt; have := s.isLt; omega⟩) j :=
  (Pipeline.eq_sum_fin_of_reset_step_apply_of_flush (M := EReal) (fun n h => (outsAt0 m c n h).2) 3 (fun _ => 0) (fun t => k0_pay1 (F := Ideal) (iblk m c 0 t) (iblk m c 1 t))
    (fun t h j => by rw [sc_A m c t h, pay2_apply]) (fun t h j => by rw [sc_B m c t h, pay3_apply]) t ht j).trans (zero_add _)

theorem out_eq (t : Fin cfg0.N) (ht : t.val % 3 = 2) : (outsAt0 m c t.val t.isLt).1 = k0_pay4 (F := Ideal) (outsAt0 m c t.val t.isLt).2 (iblk m c 2 t) := by
  rw [outsAt0_C m c t (by omega) (by omega) ht]
  frame_out

/-- The points of the run of `t` read the blocks of `t`'s rows and of `t`'s columns, in the order of the summed axis. -/
theorem idx0_0 : ∀ (t p : Fin cfg0.N) (s : Fin 3), p.val = 3 * (t.val / 3) + s.val → win0_0.index p = ![win0_3.index t 0, s.val] :=
  (by decide +kernel : ∀ (t p : Fin grid0.N) (s : Fin 3), _)
theorem idx0_1 : ∀ (t p : Fin cfg0.N) (s : Fin 3), p.val = 3 * (t.val / 3) + s.val → win0_1.index p = ![s.val, win0_3.index t 1] :=
  (by decide +kernel : ∀ (t p : Fin grid0.N) (s : Fin 3), _)

theorem arr : (dats m 0 c).arrAt 3 cfg0.N = fun i => nn (V m c main_v0 : Mat 2048 3072) (V m c main_v2 : Mat 3072 2048) i + (V m c main_arg2 : Mat 2048 2048) i := by
  refine (dats m 0 c).arrAt_eq_of_covers 3 _ (by decide +kernel) fun t hf y => ?_
  have ht := (flush0_3 t).mp hf
  blk_simp
  rw [after0_3, out_eq m c t ht]
  unfold nn
  pointwise [k0_pay4]
  rw [acc_eq m c t ht]
  simp only [pay1_apply]
  congr 1
  · refine Fin.sum_mul_add_congr fun s k hl => ?_
    generalize hp : (⟨3 * (t.val / 3) + s.val, _⟩ : Fin cfg0.N) = p
    have e0 := idx0_0 t p s (by rw [← hp])
    have e1 := idx0_1 t p s (by rw [← hp])
    blk_point [iblk, e0, e1]
/-! ## The program's result -/

theorem V_v0 : V m c main_v0 = m ((c : Thread nD τ).loc main_arg0) := by
  show after hostOps0 _ _ = _
  after_results
  rfl
theorem V_v2 : V m c main_v2 = tr (m ((c : Thread nD τ).loc main_arg1) : Mat 2048 3072) := by
  show after hostOps0 _ _ = _
  after_results
  funext i
  unfold tr
  pointwise

theorem res : (dats m 0 c).arrAt 3 cfg0.N = fun i => nt (m ((c : Thread nD τ).loc main_arg0) : Mat 2048 3072) (m ((c : Thread nD τ).loc main_arg1) : Mat 2048 3072) i
    + (m ((c : Thread nD τ).loc main_arg2) : Mat 2048 2048) i := by
  rw [arr, V_v0, V_v2, nn_tr, V_main_arg2]

end

/-! ## The claims -/

theorem frame_reference : Cert.quiescent_DhQkvReferenceIdeal := fun m ρ _ =>
  (θ_run Cert.DhQkvReferenceIdeal.defs _ _).mono (fun r h => ⟨fun c => (h c).2, sem_eq_zero_of_no_sems (by decide) r.2⟩)
    (Cert.DhQkvReferenceIdeal.Value.run m ρ)

section
open Cert.DhQkvReferenceIdeal Cert.DhQkvReferenceIdeal.Gen
theorem ref (d w : Mat 2048 3072) (g : Mat 2048 2048) :
    (addf (F := Ideal) (φ := .f32) g (Host.dotGeneral (F := Ideal) (φ₁ := .f32) (φ₂ := .f32) dot_S2048x3072_S2048x3072_S2048x2048_1_1_0_0_n_n none d w) : Mat 2048 2048) = fun i => nt d w i + g i := by
  funext i
  unfold nt
  rw [add_comm]
  pointwise
end

theorem results : Cert.algebraic_DhQkvIdeal_DhQkvReferenceIdeal := fun m g m' g' _ ha =>
  ⟨fun c => (Cert.DhQkvIdeal.Gen.dats m 0 c).arrAt 3 Cert.DhQkvIdeal.cfg0.N,
   Cert.DhQkvIdeal.Value.run_blocks m g,
   (θ_run Cert.DhQkvReferenceIdeal.defs _ _).mono
    (fun _ h c => by
      obtain ⟨a0, a1, a2⟩ := ha c
      obtain ⟨h0, h1⟩ := h c
      rw [a0, a1, a2] at h0
      exact ⟨h0.trans ((ref ..).trans (res m c).symm), h1⟩)
    (Cert.DhQkvReferenceIdeal.Value.run m' g')⟩

end Cert.DhQkvV

end
-- ==== Proof.DhGateClaims.lean ====
/-
  `dh_gate`, the gradient that the gate's projection sends back to its input, added to what the other projections sent: the
  product is taken in two halves of the summed axis, the first kept in a scratch block. The call's result array is the whole
  product plus the array added, and so is the program's result, which is the reference's on any arguments.
-/
module

public import proofs.«01_k».proof.Defs
public import proofs.«01_k».proof.Proof.Gen.DhGateIdeal.Value
public import proofs.«01_k».proof.Proof.Gen.DhGateReferenceIdeal.Run
public import proofs.«01_k».proof.Proof.Gen.DhGateReferenceIdeal.Read
public import proofs.«01_k».proof.Proof.MatProd
public import Idealize.ShloMosaic.Lib.Pipeline.ValueKit
public import Idealize.ShloMosaic.Lib.Pointwise
public import Idealize.ShloMosaic.Lib.Quiescent

@[expose] public section

set_option maxRecDepth 16384

noncomputable section

namespace Cert.DhGateV

open Cert.Mat
open Idealize.ShloMosaic Idealize.ShloMosaic.TcCoe Idealize.ShloMosaic.Tactic Idealize.ShloMosaic.StableHlo Idealize.SL.Sem
open scoped BigOperators

section
open Cert.DhGateIdeal Cert.DhGateIdeal.Gen
variable (m : (ℓ : Loc nD τ sig) → Buf (Elt Ideal) ℓ) (c : Dev nD)

/-! ## The call -/

theorem pay2_apply (x : Vec Ideal S1024x2048 .bf16) (w : Vec Ideal S2048x1024 .bf16) (j : S1024x1024.Idx) :
    k0_pay2 (F := Ideal) x w j = 0 + k0_pay1 (F := Ideal) x w j := by
  rw [zero_add]
  pointwise [k0_pay2]
theorem pay3_apply (x : Vec Ideal S1024x2048 .bf16) (w : Vec Ideal S2048x1024 .bf16) (a : Vec Ideal S1024x1024 .f32) (j : S1024x1024.Idx) :
    k0_pay3 (F := Ideal) x w a j = a j + k0_pay1 (F := Ideal) x w j := by
  pointwise [k0_pay3]
theorem pay1_apply (x : Vec Ideal S1024x2048 .bf16) (w : Vec Ideal S2048x1024 .bf16) (j : S1024x1024.Idx) :
    k0_pay1 (F := Ideal) x w j = ∑ k : Fin 2048, x (ix2 (j 0) k) * w (ix2 k (j 1)) := by
  pointwise [k0_pay1]

theorem sc_A (t : Fin cfg0.N) (h : t.val % 2 = 0) : (outsAt0 m c t.val t.isLt).2 = k0_pay2 (F := Ideal) (iblk m c 0 t) (iblk m c 1 t) := by
  rw [outsAt0_A m c t h (by omega) (by omega)]
  frame_out
theorem sc_B (t : Fin cfg0.N) (h : ¬t.val % 2 = 0) :
    (outsAt0 m c t.val t.isLt).2 = k0_pay3 (F := Ideal) (iblk m c 0 t) (iblk m c 1 t) (outsAt0 m c (t.val - 1) (Nat.lt_of_le_of_lt (Nat.sub_le _ _) t.isLt)).2 := by
  rw [outsAt0_B m c t h (by omega) (by omega)]
  frame_out
  exact congrArg _ (Memref.IsWhole.read_unread _ _)

/-- What the scratch holds at the point that writes a block back: the block products of its run, added. -/
theorem acc_eq (t : Fin cfg0.N) (ht : t.val % 2 = 1) (j : S1024x1024.Idx) :
    (outsAt0 m c t.val t.isLt).2 j = ∑ s : Fin 2, k0_pay1 (F := Ideal) (iblk m c 0 ⟨2 * (t.val / 2) + s.val, by have := t.isLt; have := s.isLt; omega⟩)
      (iblk m c 1 ⟨2 * (t.val / 2) + s.val, by have := t.isLt; have := s.isLt; omega⟩) j :=
  (Pipeline.eq_sum_fin_of_reset_step_apply_of_flush (M := EReal) (fun n h => (outsAt0 m c n h).2) 2 (fun _ => 0) (fun t => k0_pay1 (F := Ideal) (iblk m c 0 t) (iblk m c 1 t))
    (fun t h j => by rw [sc_A m c t h, pay2_apply]) (fun t h j => by rw [sc_B m c t h, pay3_apply]) t ht j).trans (zero_add _)

theorem out_eq (t : Fin cfg0.N) (ht : t.val % 2 = 1) : (outsAt0 m c t.val t.isLt).1 = k0_pay4 (F := Ideal) (outsAt0 m c t.val t.isLt).2 (iblk m c 2 t) := by
  rw [outsAt0_B m c t (by omega) ht ht]
  frame_out

/-- The points of the run of `t` read the blocks of `t`'s rows and of `t`'s columns, in the order of the summed axis. -/
theorem idx0_0 : ∀ (t p : Fin cfg0.N) (s : Fin 2), p.val = 2 * (t.val / 2) + s.val → win0_0.index p = ![win0_3.index t 0, s.val] :=
  (by decide +kernel : ∀ (t p : Fin grid0.N) (s : Fin 2), _)
theorem idx0_1 : ∀ (t p : Fin cfg0.N) (s : Fin 2), p.val = 2 * (t.val / 2) + s.val → win0_1.index p = ![s.val, win0_3.index t 1] :=
  (by decide +kernel : ∀ (t p : Fin grid0.N) (s : Fin 2), _)

theorem arr : (dats m 0 c).arrAt 3 cfg0.N = fun i => nn (V m c main_v0 : Mat 2048 4096) (V m c main_v2 : Mat 4096 2048) i + (V m c main_arg2 : Mat 2048 2048) i := by
  refine (dats m 0 c).arrAt_eq_of_covers 3 _ (by decide +kernel) fun t hf y => ?_
  have ht := (flush0_3 t).mp hf
  blk_simp
  rw [after0_3, out_eq m c t ht]
  unfold nn
  pointwise [k0_pay4]
  rw [acc_eq m c t ht]
  simp only [pay1_apply]
  congr 1
  · refine Fin.sum_mul_add_congr fun s k hl => ?_
    generalize hp : (⟨2 * (t.val / 2) + s.val, _⟩ : Fin cfg0.N) = p
    have e0 := idx0_0 t p s (by rw [← hp])
    have e1 := idx0_1 t p s (by rw [← hp])
    blk_point [iblk, e0, e1]
/-! ## The program's result -/

theorem V_v0 : V m c main_v0 = m ((c : Thread nD τ).loc main_arg0) := by
  show after hostOps0 _ _ = _
  after_results
  rfl
theorem V_v2 : V m c main_v2 = tr (m ((c : Thread nD τ).loc main_arg1) : Mat 2048 4096) := by
  show after hostOps0 _ _ = _
  after_results
  funext i
  unfold tr
  pointwise

theorem res : (dats m 0 c).arrAt 3 cfg0.N = fun i => nt (m ((c : Thread nD τ).loc main_arg0) : Mat 2048 4096) (m ((c : Thread nD τ).loc main_arg1) : Mat 2048 4096) i
    + (m ((c : Thread nD τ).loc main_arg2) : Mat 2048 2048) i := by
  rw [arr, V_v0, V_v2, nn_tr, V_main_arg2]

end

/-! ## The claims -/

theorem frame_reference : Cert.quiescent_DhGateReferenceIdeal := fun m ρ _ =>
  (θ_run Cert.DhGateReferenceIdeal.defs _ _).mono (fun r h => ⟨fun c => (h c).2, sem_eq_zero_of_no_sems (by decide) r.2⟩)
    (Cert.DhGateReferenceIdeal.Value.run m ρ)

section
open Cert.DhGateReferenceIdeal Cert.DhGateReferenceIdeal.Gen
theorem ref (d w : Mat 2048 4096) (g : Mat 2048 2048) :
    (addf (F := Ideal) (φ := .f32) g (Host.dotGeneral (F := Ideal) (φ₁ := .f32) (φ₂ := .f32) dot_S2048x4096_S2048x4096_S2048x2048_1_1_0_0_n_n none d w) : Mat 2048 2048) = fun i => nt d w i + g i := by
  funext i
  unfold nt
  rw [add_comm]
  pointwise
end

theorem results : Cert.algebraic_DhGateIdeal_DhGateReferenceIdeal := fun m g m' g' _ ha =>
  ⟨fun c => (Cert.DhGateIdeal.Gen.dats m 0 c).arrAt 3 Cert.DhGateIdeal.cfg0.N,
   Cert.DhGateIdeal.Value.run_blocks m g,
   (θ_run Cert.DhGateReferenceIdeal.defs _ _).mono
    (fun _ h c => by
      obtain ⟨a0, a1, a2⟩ := ha c
      obtain ⟨h0, h1⟩ := h c
      rw [a0, a1, a2] at h0
      exact ⟨h0.trans ((ref ..).trans (res m c).symm), h1⟩)
    (Cert.DhGateReferenceIdeal.Value.run m' g')⟩

end Cert.DhGateV

end
-- ==== Proof.GluClaims.lean ====
/-
  `post_b_bwd`, the gradient of the branch's gate y · σ(g + b) · z · σ(z): three arrays row by row, and the gradient of the bias
  `b`, which the call sums over its sixteen blocks of rows. The call's result arrays are the four gradients entry by entry, and
  so are the reference's.
-/
module

public import proofs.«01_k».proof.Defs
public import proofs.«01_k».proof.Proof.Gen.GluIdeal.Value
public import proofs.«01_k».proof.Proof.Gen.GluReferenceIdeal.Run
public import proofs.«01_k».proof.Proof.Gen.GluReferenceIdeal.Read
public import proofs.«01_k».proof.Proof.MatProd
public import Idealize.ShloMosaic.Lib.Pipeline.ValueKit
public import Idealize.ShloMosaic.Lib.Pointwise
public import Idealize.ShloMosaic.Lib.Quiescent

@[expose] public section

set_option maxRecDepth 16384

noncomputable section

namespace Cert.GluV

open Cert.Mat
open Idealize.ShloMosaic Idealize.ShloMosaic.TcCoe Idealize.ShloMosaic.Tactic Idealize.ShloMosaic.StableHlo Idealize.SL.Sem
open scoped BigOperators

/-! ## The gradients of one entry -/

/-- The logistic function of an extended real. -/
def lgs (x : EReal) : EReal := FloatOps.logistic (F := Ideal) (φ := .f32) x
/-- The gradient that reaches the product y · σ(g + b). -/
def back (z d : EReal) : EReal := d * (z * lgs z)
/-- The gradient of y. -/
def gy (g z b d : EReal) : EReal := back z d * lgs (g + b)
/-- The gradient of g, and an entry's share of the gradient of b. -/
def gg (y g z b d : EReal) : EReal := y * back z d * (lgs (g + b) * (1 - lgs (g + b)))
/-- The gradient of z. -/
def gz (y g z b d : EReal) : EReal := y * lgs (g + b) * d * lgs z + z * (y * lgs (g + b) * d) * (lgs z * (1 - lgs z))

section
open Cert.GluIdeal Cert.GluIdeal.Gen
variable (m : (ℓ : Loc nD τ sig) → Buf (Elt Ideal) ℓ) (c : Dev nD)

theorem pay6_apply (g z : Vec Ideal S128x1024 .f32) (b : Vec Ideal S1x1024 .f32) (d : Vec Ideal S128x1024 .f32) (j : S128x1024.Idx) :
    k0_pay6 (F := Ideal) g z b d j = gy (g j) (z j) (b (ix2 0 (j 1))) (d j) := by
  pointwise [k0_pay6, k0_pay5, k0_pay4, k0_pay3, gy, back, lgs]
theorem pay7_apply (y g z : Vec Ideal S128x1024 .f32) (b : Vec Ideal S1x1024 .f32) (d : Vec Ideal S128x1024 .f32) (j : S128x1024.Idx) :
    k0_pay7 (F := Ideal) y g z b d j = gg (y j) (g j) (z j) (b (ix2 0 (j 1))) (d j) := by
  pointwise [k0_pay7, k0_pay5, k0_pay4, k0_pay3, gg, back, lgs]
theorem pay10_apply (y g z : Vec Ideal S128x1024 .f32) (b : Vec Ideal S1x1024 .f32) (d : Vec Ideal S128x1024 .f32) (j : S128x1024.Idx) :
    k0_pay10 (F := Ideal) y g z b d j = gz (y j) (g j) (z j) (b (ix2 0 (j 1))) (d j) := by
  pointwise [k0_pay10, k0_pay5, k0_pay4, k0_pay3, gz, lgs]
theorem pay8_apply (y g z : Vec Ideal S128x1024 .f32) (b : Vec Ideal S1x1024 .f32) (d : Vec Ideal S128x1024 .f32) (j : S1x1024.Idx) :
    k0_pay8 (F := Ideal) y g z b d j = ∑ k : Fin 128, k0_pay7 (F := Ideal) y g z b d (ix2 k (j 1)) := by
  pointwise [k0_pay8]

theorem out_5 (t : Fin cfg0.N) : (outsAt0 m c t.val t.isLt).1 = k0_pay6 (F := Ideal) (iblk m c 1 t) (iblk m c 2 t) (iblk m c 3 t) (iblk m c 4 t) := by
  by_cases h : t.val % 16 = 0
  · rw [outsAt0_A m c t h]
    frame_out
  · rw [outsAt0_B m c t h]
    frame_out
theorem out_6 (t : Fin cfg0.N) : (outsAt0 m c t.val t.isLt).2.1 = k0_pay9 (F := Ideal) (iblk m c 0 t) (iblk m c 1 t) (iblk m c 2 t) (iblk m c 3 t) (iblk m c 4 t) := by
  by_cases h : t.val % 16 = 0
  · rw [outsAt0_A m c t h]
    frame_out
  · rw [outsAt0_B m c t h]
    frame_out
theorem out_7 (t : Fin cfg0.N) : (outsAt0 m c t.val t.isLt).2.2.1 = k0_pay10 (F := Ideal) (iblk m c 0 t) (iblk m c 1 t) (iblk m c 2 t) (iblk m c 3 t) (iblk m c 4 t) := by
  by_cases h : t.val % 16 = 0
  · rw [outsAt0_A m c t h]
    frame_out
  · rw [outsAt0_B m c t h]
    frame_out

/-- A block's share of the bias gradient. -/
abbrev part (t : Fin cfg0.N) : Vec Ideal S1x1024 .f32 := k0_pay8 (F := Ideal) (iblk m c 0 t) (iblk m c 1 t) (iblk m c 2 t) (iblk m c 3 t) (iblk m c 4 t)

theorem acc_A (t : Fin cfg0.N) (h : t.val % 16 = 0) (j : S1x1024.Idx) : (outsAt0 m c t.val t.isLt).2.2.2 j = 0 + part m c t j := by
  rw [outsAt0_A m c t h]
  frame_out
  pointwise [k0_pay2, k0_pay1]
theorem acc_B (t : Fin cfg0.N) (h : ¬t.val % 16 = 0) (j : S1x1024.Idx) :
    (outsAt0 m c t.val t.isLt).2.2.2 j = (outsAt0 m c (t.val - 1) (Nat.lt_of_le_of_lt (Nat.sub_le _ _) t.isLt)).2.2.2 j + part m c t j := by
  rw [outsAt0_B m c t h]
  frame_out
  pointwise [k0_pay2]

theorem acc_eq (t : Fin cfg0.N) (ht : t.val % 16 = 15) (j : S1x1024.Idx) :
    (outsAt0 m c t.val t.isLt).2.2.2 j = ∑ s : Fin 16, part m c ⟨16 * (t.val / 16) + s.val, by have := t.isLt; have := s.isLt; have hN := N_0; omega⟩ j :=
  (Pipeline.eq_sum_fin_of_reset_step_apply_of_flush (M := EReal) (fun n h => (outsAt0 m c n h).2.2.2) 16 (fun _ => 0) (part m c)
    (fun t h j => acc_A m c t h j) (fun t h j => acc_B m c t h j) t ht j).trans (zero_add _)

/-- The point `t` reads and writes the rows of block `t`, and the one block of the bias. -/
theorem idx_row : ∀ t : Fin cfg0.N, win0_0.index t = ![t.val, 0] ∧ win0_1.index t = ![t.val, 0] ∧ win0_2.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)
theorem idx_bias : ∀ t : Fin cfg0.N, win0_3.index t = ![0, 0] ∧ win0_8.index t = ![0, 0] :=
  (by decide +kernel : ∀ t : Fin grid0.N, _)

theorem arr5 : (dats m 0 c).arrAt 5 cfg0.N = fun i => gy ((V m c main_arg1 : Mat 2048 1024) i) ((V m c main_arg2 : Mat 2048 1024) i)
    ((V m c main_arg3 : Mat 1 1024) (ix2 0 (i 1))) ((V m c main_arg4 : Mat 2048 1024) i) := by
  refine (dats m 0 c).arrAt_eq_of_covers 5 _ (by decide +kernel) fun t hf y => ?_
  obtain ⟨-, e1, e2, e4, e5, -, -⟩ := idx_row t
  obtain ⟨e3, -⟩ := idx_bias t
  blk_simp
  rw [after0_5, out_5, pay6_apply]
  blk_point [iblk, e1, e2, e3, e4, e5]

theorem arr6 : (dats m 0 c).arrAt 6 cfg0.N = fun i => gg ((V m c main_arg0 : Mat 2048 1024) i) ((V m c main_arg1 : Mat 2048 1024) i) ((V m c main_arg2 : Mat 2048 1024) i)
    ((V m c main_arg3 : Mat 1 1024) (ix2 0 (i 1))) ((V m c main_arg4 : Mat 2048 1024) i) := by
  refine (dats m 0 c).arrAt_eq_of_covers 6 _ (by decide +kernel) fun t hf y => ?_
  obtain ⟨e0, e1, e2, e4, -, e6, -⟩ := idx_row t
  obtain ⟨e3, -⟩ := idx_bias t
  blk_simp
  rw [after0_6, out_6]
  pointwise [k0_pay9, pay7_apply]
  blk_point [iblk, e0, e1, e2, e3, e4, e6]

theorem arr7 : (dats m 0 c).arrAt 7 cfg0.N = fun i => gz ((V m c main_arg0 : Mat 2048 1024) i) ((V m c main_arg1 : Mat 2048 1024) i) ((V m c main_arg2 : Mat 2048 1024) i)
    ((V m c main_arg3 : Mat 1 1024) (ix2 0 (i 1))) ((V m c main_arg4 : Mat 2048 1024) i) := by
  refine (dats m 0 c).arrAt_eq_of_covers 7 _ (by decide +kernel) fun t hf y => ?_
  obtain ⟨e0, e1, e2, e4, -, -, e7⟩ := idx_row t
  obtain ⟨e3, -⟩ := idx_bias t
  blk_simp
  rw [after0_7, out_7, pay10_apply]
  blk_point [iblk, e0, e1, e2, e3, e4, e7]

theorem arr8 : (dats m 0 c).arrAt 8 cfg0.N = fun i => ∑ l : Fin 2048, gg ((V m c main_arg0 : Mat 2048 1024) (ix2 l (i 1))) ((V m c main_arg1 : Mat 2048 1024) (ix2 l (i 1)))
    ((V m c main_arg2 : Mat 2048 1024) (ix2 l (i 1))) ((V m c main_arg3 : Mat 1 1024) (ix2 0 (i 1))) ((V m c main_arg4 : Mat 2048 1024) (ix2 l (i 1))) := by
  refine (dats m 0 c).arrAt_eq_of_covers 8 _ (by decide +kernel) fun t hf y => ?_
  have ht := (flush0_8 t).mp hf
  have e8 := (idx_bias t).2
  blk_simp
  rw [after0_8, acc_eq m c t ht]
  simp only [part, pay8_apply, pay7_apply]
  refine Fin.sum_mul_add_congr fun s k hl => ?_
  generalize hp : (⟨16 * (t.val / 16) + s.val, _⟩ : Fin cfg0.N) = p
  have hps : p.val = s.val := by have hN : t.val < 16 := lt_of_lt_of_eq t.isLt (show cfg0.N = 16 from N_0); rw [← hp]; simp only; omega
  obtain ⟨e0, e1, e2, e4, -, -, -⟩ := idx_row p
  obtain ⟨e3, -⟩ := idx_bias p
  blk_point [iblk, e0, e1, e2, e3, e4, e8, hps]

end

/-! ## The claims -/

theorem frame_reference : Cert.quiescent_GluReferenceIdeal := fun m ρ _ =>
  (θ_run Cert.GluReferenceIdeal.defs _ _).mono (fun r h => ⟨fun c => (h c).2.2.2.2, sem_eq_zero_of_no_sems (by decide) r.2⟩)
    (Cert.GluReferenceIdeal.Value.run m ρ)

section
open Cert.GluReferenceIdeal Cert.GluReferenceIdeal.Gen Cert.GluReferenceIdeal.Read
variable (y g z : Vec Ideal S2048x1024 .f32) (b : Vec Ideal S1x1024 .f32) (d : Vec Ideal S2048x1024 .f32)

theorem lgs_gate (i : S2048x1024.Idx) : val_main_v7 (F := Ideal) g b i = lgs (g i + b (ix2 0 (i 1))) := by
  pointwise [val_main_v7, val_main_v6, val_main_cst_0, val_main_v5, val_main_v4, val_main_cst, val_main_v3, val_main_v2, val_main_v1, val_main_v0, lgs]
  rfl
theorem lgs_z (i : S2048x1024.Idx) : val_main_v12_2 (F := Ideal) z i = lgs (z i) := by
  pointwise [val_main_v12_2, val_main_call0_v4, val_main_call0_cst_0, val_main_call0_v3, val_main_call0_v2, val_main_call0_cst, val_main_call0_v1, val_main_call0_v0, lgs]
  rfl
theorem ref_back (i : S2048x1024.Idx) : val_main_v15 (F := Ideal) z d i = back (z i) (d i) := by
  pointwise [val_main_v15, val_main_v12_0, lgs_z, back]
theorem ref_gg (i : S2048x1024.Idx) : val_main_v19 (F := Ideal) y g z b d i = gg (y i) (g i) (z i) (b (ix2 0 (i 1))) (d i) := by
  pointwise [val_main_v19, val_main_v17, val_main_v10, val_main_v9, val_main_v8, val_main_cst_1, lgs_gate, ref_back, gg]
theorem ref0 : (val_main_v18 (F := Ideal) g z b d : Mat 2048 1024) = fun i => gy (g i) (z i) (b (ix2 0 (i 1))) (d i) := by
  funext i
  pointwise [val_main_v18, lgs_gate, ref_back, gy]
theorem ref1 : (val_main_v22 (F := Ideal) y g z b d : Mat 2048 1024) = fun i => gg (y i) (g i) (z i) (b (ix2 0 (i 1))) (d i) := by
  funext i
  pointwise [val_main_v22, ref_gg]
theorem ref2 : (val_main_v23 (F := Ideal) y g z b d : Mat 2048 1024) = fun i => gz (y i) (g i) (z i) (b (ix2 0 (i 1))) (d i) := by
  funext i
  pointwise [val_main_v23, val_main_v16, val_main_call1_v2, val_main_call1_v1, val_main_call1_v0, val_main_v14, val_main_v11, val_main_v12_1, val_main_call0_v7,
    val_main_call0_v6, val_main_call0_cst_1, lgs_gate, lgs_z, gz]
theorem ref3 : (val_main_v21 (F := Ideal) y g z b d : Mat 1 1024) = fun i => ∑ l : Fin 2048, gg (y (ix2 l (i 1))) (g (ix2 l (i 1))) (z (ix2 l (i 1))) (b (ix2 0 (i 1))) (d (ix2 l (i 1))) := by
  funext i
  pointwise [val_main_v21, val_main_v20, val_main_cst_2, ref_gg]
end

theorem results : Cert.algebraic_GluIdeal_GluReferenceIdeal := fun m g m' g' _ ha =>
  ⟨fun c => (Cert.GluIdeal.Gen.dats m 0 c).arrAt 5 Cert.GluIdeal.cfg0.N,
   fun c => (Cert.GluIdeal.Gen.dats m 0 c).arrAt 6 Cert.GluIdeal.cfg0.N,
   fun c => (Cert.GluIdeal.Gen.dats m 0 c).arrAt 7 Cert.GluIdeal.cfg0.N,
   fun c => (Cert.GluIdeal.Gen.dats m 0 c).arrAt 8 Cert.GluIdeal.cfg0.N,
   Cert.GluIdeal.Value.run_blocks m g,
   (θ_run Cert.GluReferenceIdeal.defs _ _).mono
    (fun _ h c => by
      obtain ⟨a0, a1, a2, a3, a4⟩ := ha c
      obtain ⟨h0, h1, h2, h3, h4⟩ := h c
      rw [Cert.GluReferenceIdeal.Read.val_main_v18_eq, a1, a2, a3, a4] at h0
      rw [Cert.GluReferenceIdeal.Read.val_main_v22_eq, a0, a1, a2, a3, a4] at h1
      rw [Cert.GluReferenceIdeal.Read.val_main_v23_eq, a0, a1, a2, a3, a4] at h2
      rw [Cert.GluReferenceIdeal.Read.val_main_v21_eq, a0, a1, a2, a3, a4] at h3
      exact ⟨h0.trans ((ref0 ..).trans (arr5 m c).symm), h1.trans ((ref1 ..).trans (arr6 m c).symm),
        h2.trans ((ref2 ..).trans (arr7 m c).symm), h3.trans ((ref3 ..).trans (arr8 m c).symm), h4⟩)
    (Cert.GluReferenceIdeal.Value.run m' g')⟩

end Cert.GluV

end
-- ==== Proof.MergeClaims.lean ====
/-
  `merge_bwd`, the gradient of the gated merge p_a · y_a + p_b · y_b, where (p_a, p_b) = σ(g + b) and each row of g holds the two
  gates' halves side by side: three arrays row by row, and the gradient of the bias `b`, which the call sums over its sixteen
  blocks of rows. The call's result arrays are the four gradients entry by entry, and so are the reference's.
-/
module

public import proofs.«01_k».proof.Defs
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.MatProd
public import proofs.«01_k».proof.Proof.GluClaims
public import Idealize.ShloMosaic.Lib.Pipeline.ValueKit
public import Idealize.ShloMosaic.Lib.Pointwise
public import Idealize.ShloMosaic.Lib.Quiescent

@[expose] public section

set_option maxRecDepth 16384

noncomputable section

namespace Cert.MergeV

open Cert.Mat
open Cert.GluV (lgs)
open Idealize.ShloMosaic Idealize.ShloMosaic.TcCoe Idealize.ShloMosaic.Tactic Idealize.ShloMosaic.StableHlo Idealize.SL.Sem
open scoped BigOperators

/-! ## The gradients of one entry -/

/-- The slope of the logistic function. -/
def slope (x : EReal) : EReal := lgs x * (1 - lgs x)
/-- The gradient that reaches entry `(r, k)` of the gates: d · y_a in the left half, d · y_b in the right half. -/
def up {n : ℕ} (ya yb d : Mat n 2048) (r : Fin n) (k : Fin 4096) : EReal :=
  if h : k.val < 2048 then d (ix2 r ⟨k.val, h⟩) * ya (ix2 r ⟨k.val, h⟩)
  else d (ix2 r ⟨k.val - 2048, by omega⟩) * yb (ix2 r ⟨k.val - 2048, by omega⟩)
/-- The gradient of g at `(r, k)`, and that entry's share of the gradient of b. -/
def gg {n : ℕ} (g : Mat n 4096) (ya yb : Mat n 2048) (b : Mat 1 4096) (d : Mat n 2048) (r : Fin n) (k : Fin 4096) : EReal :=
  up ya yb d r k * slope (g (ix2 r k) + b (ix2 0 k))
/-- Column `k` of the left half, and of the right half. -/
abbrev colA (k : Fin 2048) : Fin 4096 := ⟨k.val, by omega⟩
abbrev colB (k : Fin 2048) : Fin 4096 := ⟨2048 + k.val, by omega⟩
/-- The gradients of y_a and of y_b at `(r, k)`. -/
def ga {n : ℕ} (g : Mat n 4096) (b : Mat 1 4096) (d : Mat n 2048) (r : Fin n) (k : Fin 2048) : EReal :=
  lgs (g (ix2 r (colA k)) + b (ix2 0 (colA k))) * d (ix2 r k)
def gb {n : ℕ} (g : Mat n 4096) (b : Mat 1 4096) (d : Mat n 2048) (r : Fin n) (k : Fin 2048) : EReal :=
  lgs (g (ix2 r (colB k)) + b (ix2 0 (colB k))) * d (ix2 r k)

section
open Cert.MergeIdeal Cert.MergeIdeal.Gen
variable (m : (ℓ : Loc nD τ sig) → Buf (Elt Ideal) ℓ) (c : Dev nD)

theorem pay6_apply (g : Vec Ideal S128x4096 .f32) (ya yb : Vec Ideal S128x2048 .f32) (b : Vec Ideal S1x4096 .f32) (d : Vec Ideal S128x2048 .f32) (j : S128x4096.Idx) :
    k0_pay6 (F := Ideal) g ya yb b d j = gg g ya yb b d (j 0) (j 1) := by
  pointwise [k0_pay6, k0_pay5, k0_pay4, k0_pay3, gg, up, slope, lgs]
  by_cases h : (j 1).val < 2048
  · simp only [h, ↓reduceDIte, zero_add]
  · simp only [h, ↓reduceDIte, add_zero]
theorem pay7_apply (g : Vec Ideal S128x4096 .f32) (ya yb : Vec Ideal S128x2048 .f32) (b : Vec Ideal S1x4096 .f32) (d : Vec Ideal S128x2048 .f32) (j : S1x4096.Idx) :
    k0_pay7 (F := Ideal) g ya yb b d j = ∑ k : Fin 128, gg g ya yb b d k (j 1) := by
  pointwise [k0_pay7, pay6_apply]
theorem pay9_apply (g : Vec Ideal S128x4096 .f32) (b : Vec Ideal S1x4096 .f32) (d : Vec Ideal S128x2048 .f32) (j : S128x2048.Idx) :
    k0_pay9 (F := Ideal) g b d j = ga g b d (j 0) (j 1) := by
  pointwise [k0_pay9, k0_pay4, k0_pay3, ga, lgs]
theorem pay10_apply (g : Vec Ideal S128x4096 .f32) (b : Vec Ideal S1x4096 .f32) (d : Vec Ideal S128x2048 .f32) (j : S128x2048.Idx) :
    k0_pay10 (F := Ideal) g b d j = gb g b d (j 0) (j 1) := by
  pointwise [k0_pay10, k0_pay5, k0_pay3, gb, lgs]

theorem out_5 (t : Fin cfg0.N) : (outsAt0 m c t.val t.isLt).1 = k0_pay8 (F := Ideal) (iblk m c 0 t) (iblk m c 1 t) (iblk m c 2 t) (iblk m c 3 t) (iblk m c 4 t) := by
  by_cases h : t.val % 16 = 0
  · rw [outsAt0_A m c t h]
    frame_out
  · rw [outsAt0_B m c t h]
    frame_out
theorem out_6 (t : Fin cfg0.N) : (outsAt0 m c t.val t.isLt).2.1 = k0_pay9 (F := Ideal) (iblk m c 0 t) (iblk m c 3 t) (iblk m c 4 t) := by
  by_cases h : t.val % 16 = 0
  · rw [outsAt0_A m c t h]
    frame_out
  · rw [outsAt0_B m c t h]
    frame_out
theorem out_7 (t : Fin cfg0.N) : (outsAt0 m c t.val t.isLt).2.2.1 = k0_pay10 (F := Ideal) (iblk m c 0 t) (iblk m c 3 t) (iblk m c 4 t) := by
  by_cases h : t.val % 16 = 0
  · rw [outsAt0_A m c t h]
    frame_out
  · rw [outsAt0_B m c t h]
    frame_out

/-- A block's share of the bias gradient. -/
abbrev part (t : Fin cfg0.N) : Vec Ideal S1x4096 .f32 := k0_pay7 (F := Ideal) (iblk m c 0 t) (iblk m c 1 t) (iblk m c 2 t) (iblk m c 3 t) (iblk m c 4 t)

theorem acc_A (t : Fin cfg0.N) (h : t.val % 16 = 0) (j : S1x4096.Idx) : (outsAt0 m c t.val t.isLt).2.2.2 j = 0 + part m c t j := by
  rw [outsAt0_A m c t h]
  frame_out
  pointwise [k0_pay2, k0_pay1]
theorem acc_B (t : Fin cfg0.N) (h : ¬t.val % 16 = 0) (j : S1x4096.Idx) :
    (outsAt0 m c t.val t.isLt).2.2.2 j = (outsAt0 m c (t.val - 1) (Nat.lt_of_le_of_lt (Nat.sub_le _ _) t.isLt)).2.2.2 j + part m c t j := by
  rw [outsAt0_B m c t h]
  frame_out
  pointwise [k0_pay2]

theorem acc_eq (t : Fin cfg0.N) (ht : t.val % 16 = 15) (j : S1x4096.Idx) :
    (outsAt0 m c t.val t.isLt).2.2.2 j = ∑ s : Fin 16, part m c ⟨16 * (t.val / 16) + s.val, by have := t.isLt; have := s.isLt; have hN := N_0; omega⟩ j :=
  (Pipeline.eq_sum_fin_of_reset_step_apply_of_flush (M := EReal) (fun n h => (outsAt0 m c n h).2.2.2) 16 (fun _ => 0) (part m c)
    (fun t h j => acc_A m c t h j) (fun t h j => acc_B m c t h j) t ht j).trans (zero_add _)

/-- The point `t` reads and writes the rows of block `t`, and the one block of the bias. -/
theorem idx_row : ∀ t : Fin cfg0.N, win0_0.index t = ![t.val, 0] ∧ win0_1.index t = ![t.val, 0] ∧ win0_2.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)
theorem idx_bias : ∀ t : Fin cfg0.N, win0_3.index t = ![0, 0] ∧ win0_8.index t = ![0, 0] :=
  (by decide +kernel : ∀ t : Fin grid0.N, _)

theorem gg_blk (t : Fin cfg0.N) (r : Fin 128) (k : Fin 4096) (l : Fin 2048) (k' : Fin 4096) (hl : l.val = t.val * 128 + r.val) (hk : k' = k) :
    gg (iblk m c 0 t : Mat 128 4096) (iblk m c 1 t : Mat 128 2048) (iblk m c 2 t : Mat 128 2048) (iblk m c 3 t : Mat 1 4096) (iblk m c 4 t : Mat 128 2048) r k
      = gg (V m c main_arg0 : Mat 2048 4096) (V m c main_arg1 : Mat 2048 2048) (V m c main_arg2 : Mat 2048 2048) (V m c main_arg3 : Mat 1 4096) (V m c main_arg4 : Mat 2048 2048) l k' := by
  subst hk
  obtain ⟨e0, e1, e2, e4, -, -, -⟩ := idx_row t
  obtain ⟨e3, -⟩ := idx_bias t
  unfold gg up
  by_cases h : k'.val < 2048
  · simp only [h, ↓reduceDIte]
    blk_point [iblk, e0, e1, e2, e3, e4]
  · simp only [h, ↓reduceDIte]
    blk_point [iblk, e0, e1, e2, e3, e4]

theorem arr5 : (dats m 0 c).arrAt 5 cfg0.N = fun i => gg (V m c main_arg0 : Mat 2048 4096) (V m c main_arg1 : Mat 2048 2048) (V m c main_arg2 : Mat 2048 2048) (V m c main_arg3 : Mat 1 4096) (V m c main_arg4 : Mat 2048 2048) (i 0) (i 1) := by
  refine (dats m 0 c).arrAt_eq_of_covers 5 _ (by decide +kernel) fun t hf y => ?_
  obtain ⟨-, -, -, -, e5, -, -⟩ := idx_row t
  blk_simp
  rw [after0_5, out_5]
  pointwise [k0_pay8, pay6_apply]
  refine gg_blk m c t _ _ _ _ ?_ ?_
  · blk_point [e5]
  · refine Fin.ext ?_
    blk_point [e5]

theorem arr6 : (dats m 0 c).arrAt 6 cfg0.N = fun i => ga (V m c main_arg0 : Mat 2048 4096) (V m c main_arg3 : Mat 1 4096) (V m c main_arg4 : Mat 2048 2048) (i 0) (i 1) := by
  refine (dats m 0 c).arrAt_eq_of_covers 6 _ (by decide +kernel) fun t hf y => ?_
  obtain ⟨e0, -, -, e4, -, e6, -⟩ := idx_row t
  obtain ⟨e3, -⟩ := idx_bias t
  blk_simp
  rw [after0_6, out_6, pay9_apply]
  unfold ga
  blk_point [iblk, e0, e3, e4, e6]
  all_goals blk_point [e6]

theorem arr7 : (dats m 0 c).arrAt 7 cfg0.N = fun i => gb (V m c main_arg0 : Mat 2048 4096) (V m c main_arg3 : Mat 1 4096) (V m c main_arg4 : Mat 2048 2048) (i 0) (i 1) := by
  refine (dats m 0 c).arrAt_eq_of_covers 7 _ (by decide +kernel) fun t hf y => ?_
  obtain ⟨e0, -, -, e4, -, -, e7⟩ := idx_row t
  obtain ⟨e3, -⟩ := idx_bias t
  blk_simp
  rw [after0_7, out_7, pay10_apply]
  unfold gb
  blk_point [iblk, e0, e3, e4, e7]
  all_goals exact congrArg (2048 + ·) (by blk_point [e7])

theorem arr8 : (dats m 0 c).arrAt 8 cfg0.N = fun i => ∑ l : Fin 2048, gg (V m c main_arg0 : Mat 2048 4096) (V m c main_arg1 : Mat 2048 2048) (V m c main_arg2 : Mat 2048 2048) (V m c main_arg3 : Mat 1 4096) (V m c main_arg4 : Mat 2048 2048) l (i 1) := by
  refine (dats m 0 c).arrAt_eq_of_covers 8 _ (by decide +kernel) fun t hf y => ?_
  have ht := (flush0_8 t).mp hf
  have e8 := (idx_bias t).2
  blk_simp
  rw [after0_8, acc_eq m c t ht]
  simp only [part, pay7_apply]
  refine Fin.sum_mul_add_congr fun s k hl => ?_
  generalize hp : (⟨16 * (t.val / 16) + s.val, _⟩ : Fin cfg0.N) = p
  have hps : p.val = s.val := by have hN : t.val < 16 := lt_of_lt_of_eq t.isLt (show cfg0.N = 16 from N_0); rw [← hp]; simp only; omega
  refine gg_blk m c p k _ _ _ (by rw [hps]) (Fin.ext ?_)
  blk_point [e8]

end

/-! ## The claims -/

theorem frame_reference : Cert.quiescent_MergeReferenceIdeal := fun m ρ _ =>
  (θ_run Cert.MergeReferenceIdeal.defs _ _).mono (fun r h => ⟨fun c => (h c).2.2.2.2, sem_eq_zero_of_no_sems (by decide) r.2⟩)
    (Cert.MergeReferenceIdeal.Value.run m ρ)

section
open Cert.MergeReferenceIdeal Cert.MergeReferenceIdeal.Gen Cert.MergeReferenceIdeal.Read
variable (g : Vec Ideal S2048x4096 .f32) (ya yb : Vec Ideal S2048x2048 .f32) (b : Vec Ideal S1x4096 .f32) (d : Vec Ideal S2048x2048 .f32)

theorem lgs_gate (i : S2048x4096.Idx) : val_main_v7 (F := Ideal) g b i = lgs (g i + b (ix2 0 (i 1))) := by
  pointwise [val_main_v7, val_main_v6, val_main_cst_0, val_main_v5, val_main_v4, val_main_cst, val_main_v3, val_main_v2, val_main_v1, val_main_v0, lgs]
  rfl
theorem ref_gg (i : S2048x4096.Idx) : val_main_v23 (F := Ideal) g ya yb b d i = gg g ya yb b d (i 0) (i 1) := by
  pointwise [val_main_v23, val_main_v22, val_main_v21, val_main_v19, val_main_v17, val_main_v16, val_main_v10, val_main_v9, val_main_v8, val_main_cst_1, lgs_gate,
    gg, up, slope]
theorem ref0 : (val_main_v26 (F := Ideal) g ya yb b d : Mat 2048 4096) = fun i => gg g ya yb b d (i 0) (i 1) := by
  funext i
  pointwise [val_main_v26, ref_gg]
theorem ref1 : (val_main_v27 (F := Ideal) g b d : Mat 2048 2048) = fun i => ga g b d (i 0) (i 1) := by
  funext i
  pointwise [val_main_v27, val_main_v20, val_main_v16, val_main_v11, lgs_gate, ga]
theorem ref2 : (val_main_v28 (F := Ideal) g b d : Mat 2048 2048) = fun i => gb g b d (i 0) (i 1) := by
  funext i
  pointwise [val_main_v28, val_main_v18, val_main_v17, val_main_v12, lgs_gate, gb]
theorem ref3 : (val_main_v25 (F := Ideal) g ya yb b d : Mat 1 4096) = fun i => ∑ l : Fin 2048, gg g ya yb b d l (i 1) := by
  funext i
  pointwise [val_main_v25, val_main_v24, val_main_cst_2, ref_gg]
end

theorem results : Cert.algebraic_MergeIdeal_MergeReferenceIdeal := fun m g m' g' _ ha =>
  ⟨fun c => (Cert.MergeIdeal.Gen.dats m 0 c).arrAt 5 Cert.MergeIdeal.cfg0.N,
   fun c => (Cert.MergeIdeal.Gen.dats m 0 c).arrAt 6 Cert.MergeIdeal.cfg0.N,
   fun c => (Cert.MergeIdeal.Gen.dats m 0 c).arrAt 7 Cert.MergeIdeal.cfg0.N,
   fun c => (Cert.MergeIdeal.Gen.dats m 0 c).arrAt 8 Cert.MergeIdeal.cfg0.N,
   Cert.MergeIdeal.Value.run_blocks m g,
   (θ_run Cert.MergeReferenceIdeal.defs _ _).mono
    (fun _ h c => by
      obtain ⟨a0, a1, a2, a3, a4⟩ := ha c
      obtain ⟨h0, h1, h2, h3, h4⟩ := h c
      rw [Cert.MergeReferenceIdeal.Read.val_main_v26_eq, a0, a1, a2, a3, a4] at h0
      rw [Cert.MergeReferenceIdeal.Read.val_main_v27_eq, a0, a3, a4] at h1
      rw [Cert.MergeReferenceIdeal.Read.val_main_v28_eq, a0, a3, a4] at h2
      rw [Cert.MergeReferenceIdeal.Read.val_main_v25_eq, a0, a1, a2, a3, a4] at h3
      exact ⟨h0.trans ((ref0 ..).trans (arr5 m c).symm), h1.trans ((ref1 ..).trans (arr6 m c).symm),
        h2.trans ((ref2 ..).trans (arr7 m c).symm), h3.trans ((ref3 ..).trans (arr8 m c).symm), h4⟩)
    (Cert.MergeReferenceIdeal.Value.run m' g')⟩

end Cert.MergeV

end
-- ==== Proof.MergeFwdClaims.lean ====
/-
  `merge_fwd`, the gated merge p_a · y_a + p_b · y_b, where (p_a, p_b) = σ(g + b) and each row of g holds the two gates' halves
  side by side, row by row. The call's result array is that sum entry by entry, and so is the reference's.
-/
module

public import proofs.«01_k».proof.Defs
public import proofs.«01_k».proof.Proof.Gen.MergeFwdIdeal.Value
public import proofs.«01_k».proof.Proof.Gen.MergeFwdReferenceIdeal.Run
public import proofs.«01_k».proof.Proof.Gen.MergeFwdReferenceIdeal.Read
public import proofs.«01_k».proof.Proof.MatProd
public import proofs.«01_k».proof.Proof.MergeClaims
public import Idealize.ShloMosaic.Lib.Pipeline.ValueKit
public import Idealize.ShloMosaic.Lib.Pointwise
public import Idealize.ShloMosaic.Lib.Quiescent

@[expose] public section

set_option maxRecDepth 16384

noncomputable section

namespace Cert.MergeFwdV

open Cert.Mat
open Cert.GluV (lgs)
open Cert.MergeV (colA colB ga gb)
open Idealize.ShloMosaic Idealize.ShloMosaic.TcCoe Idealize.ShloMosaic.Tactic Idealize.ShloMosaic.StableHlo Idealize.SL.Sem
open scoped BigOperators

section
open Cert.MergeFwdIdeal Cert.MergeFwdIdeal.Gen
variable (m : (ℓ : Loc nD τ sig) → Buf (Elt Ideal) ℓ) (c : Dev nD)

theorem pay_apply (g : Vec Ideal S128x4096 .f32) (ya yb : Vec Ideal S128x2048 .f32) (b : Vec Ideal S1x4096 .f32) (j : S128x2048.Idx) :
    k0_pay1 (F := Ideal) g ya yb b j = ga g b ya (j 0) (j 1) + gb g b yb (j 0) (j 1) := by
  pointwise [k0_pay1, ga, gb, lgs]

theorem out_eq (g : Vec Ideal S128x4096 .f32) (ya yb : Vec Ideal S128x2048 .f32) (b : Vec Ideal S1x4096 .f32) : out0_4 (F := Ideal) g ya yb b = k0_pay1 (F := Ideal) g ya yb b := by
  unfold out0_4
  frame_out

/-- The point `t` reads and writes the rows of block `t`, and the one row of the last argument. -/
theorem idx_row : ∀ t : Fin cfg0.N, win0_0.index t = ![t.val, 0] ∧ win0_1.index t = ![t.val, 0] ∧ win0_2.index t = ![t.val, 0] ∧ win0_4.index t = ![t.val, 0] ∧ win0_3.index t = ![0, 0] :=
  (by decide +kernel : ∀ t : Fin grid0.N, _)

theorem arr : (dats m 0 c).arrAt 4 cfg0.N = fun i => ga (V m c main_arg0 : Mat 2048 4096) (V m c main_arg3 : Mat 1 4096) (V m c main_arg1 : Mat 2048 2048) (i 0) (i 1) + gb (V m c main_arg0 : Mat 2048 4096) (V m c main_arg3 : Mat 1 4096) (V m c main_arg2 : Mat 2048 2048) (i 0) (i 1) := by
  refine (dats m 0 c).arrAt_eq_of_covers 4 _ (by decide +kernel) fun t hf y => ?_
  obtain ⟨e0, e1, e2, eo, eb⟩ := idx_row t
  blk_simp
  rw [after0_4, out_eq, pay_apply]
  unfold ga gb
  blk_point [iblk, e0, e1, e2, eo, eb]
  all_goals first | blk_point [eo] | exact congrArg (2048 + ·) (by blk_point [eo])

end

/-! ## The claims -/

theorem frame_reference : Cert.quiescent_MergeFwdReferenceIdeal := fun m ρ _ =>
  (θ_run Cert.MergeFwdReferenceIdeal.defs _ _).mono (fun r h => ⟨fun c => (h c).2, sem_eq_zero_of_no_sems (by decide) r.2⟩)
    (Cert.MergeFwdReferenceIdeal.Value.run m ρ)

section
open Cert.MergeFwdReferenceIdeal Cert.MergeFwdReferenceIdeal.Gen Cert.MergeFwdReferenceIdeal.Read
variable (g : Vec Ideal S2048x4096 .f32) (ya yb : Vec Ideal S2048x2048 .f32) (b : Vec Ideal S1x4096 .f32)

theorem lgs_gate (i : S2048x4096.Idx) : val_main_v7 (F := Ideal) g b i = lgs (g i + b (ix2 0 (i 1))) := by
  pointwise [val_main_v7, val_main_v6, val_main_cst_0, val_main_v5, val_main_v4, val_main_cst, val_main_v3, val_main_v2, val_main_v1, val_main_v0, lgs]
  rfl
theorem ref : (val_main_v13 (F := Ideal) g ya yb b : Mat 2048 2048) = fun i => ga g b ya (i 0) (i 1) + gb g b yb (i 0) (i 1) := by
  funext i
  pointwise [val_main_v13, val_main_v12, val_main_v11, val_main_v10, val_main_v9, val_main_v8, lgs_gate, ga, gb]
end

theorem results : Cert.algebraic_MergeFwdIdeal_MergeFwdReferenceIdeal := fun m g m' g' _ ha =>
  ⟨fun c => (Cert.MergeFwdIdeal.Gen.dats m 0 c).arrAt 4 Cert.MergeFwdIdeal.cfg0.N,
   Cert.MergeFwdIdeal.Value.run_blocks m g,
   (θ_run Cert.MergeFwdReferenceIdeal.defs _ _).mono
    (fun _ h c => by
      obtain ⟨a0, a1, a2, a3⟩ := ha c
      obtain ⟨h0, h1⟩ := h c
      rw [Cert.MergeFwdReferenceIdeal.Read.val_main_v13_eq, a0, a1, a2, a3] at h0
      exact ⟨h0.trans ((ref ..).trans (arr m c).symm), h1⟩)
    (Cert.MergeFwdReferenceIdeal.Value.run m' g')⟩

end Cert.MergeFwdV

end
-- ==== Proof.GluFwdClaims.lean ====
/-
  `post_b_fwd`, the S5 branch's gates y · σ(g + b) · z · σ(z), row by row. The call's result array is that product entry by
  entry, and so is the reference's.
-/
module

public import proofs.«01_k».proof.Defs
public import proofs.«01_k».proof.Proof.Gen.GluFwdIdeal.Value
public import proofs.«01_k».proof.Proof.Gen.GluFwdReferenceIdeal.Run
public import proofs.«01_k».proof.Proof.Gen.GluFwdReferenceIdeal.Read
public import proofs.«01_k».proof.Proof.MatProd
public import proofs.«01_k».proof.Proof.GluClaims
public import Idealize.ShloMosaic.Lib.Pipeline.ValueKit
public import Idealize.ShloMosaic.Lib.Pointwise
public import Idealize.ShloMosaic.Lib.Quiescent

@[expose] public section

set_option maxRecDepth 16384

noncomputable section

namespace Cert.GluFwdV

open Cert.Mat
open Cert.GluV (lgs)
open Idealize.ShloMosaic Idealize.ShloMosaic.TcCoe Idealize.ShloMosaic.Tactic Idealize.ShloMosaic.StableHlo Idealize.SL.Sem
open scoped BigOperators

/-- The gated entry. -/
def gated (y g z b : EReal) : EReal := y * lgs (g + b) * (z * lgs z)

section
open Cert.GluFwdIdeal Cert.GluFwdIdeal.Gen
variable (m : (ℓ : Loc nD τ sig) → Buf (Elt Ideal) ℓ) (c : Dev nD)

theorem pay_apply (y g z : Vec Ideal S256x1024 .f32) (b : Vec Ideal S1x1024 .f32) (j : S256x1024.Idx) :
    k0_pay1 (F := Ideal) y g z b j = gated (y j) (g j) (z j) (b (ix2 0 (j 1))) := by
  pointwise [k0_pay1, gated, lgs]

theorem out_eq (y g z : Vec Ideal S256x1024 .f32) (b : Vec Ideal S1x1024 .f32) : out0_4 (F := Ideal) y g z b = k0_pay1 (F := Ideal) y g z b := by
  unfold out0_4
  frame_out

/-- The point `t` reads and writes the rows of block `t`, and the one row of the last argument. -/
theorem idx_row : ∀ t : Fin cfg0.N, win0_0.index t = ![t.val, 0] ∧ win0_1.index t = ![t.val, 0] ∧ win0_2.index t = ![t.val, 0] ∧ win0_4.index t = ![t.val, 0] ∧ win0_3.index t = ![0, 0] :=
  (by decide +kernel : ∀ t : Fin grid0.N, _)

theorem arr : (dats m 0 c).arrAt 4 cfg0.N = fun i => gated ((V m c main_arg0 : Mat 2048 1024) i) ((V m c main_arg1 : Mat 2048 1024) i) ((V m c main_arg2 : Mat 2048 1024) i) ((V m c main_arg3 : Mat 1 1024) (ix2 0 (i 1))) := by
  refine (dats m 0 c).arrAt_eq_of_covers 4 _ (by decide +kernel) fun t hf y => ?_
  obtain ⟨e0, e1, e2, eo, eb⟩ := idx_row t
  blk_simp
  rw [after0_4, out_eq, pay_apply]
  blk_point [iblk, e0, e1, e2, eo, eb]

end

/-! ## The claims -/

theorem frame_reference : Cert.quiescent_GluFwdReferenceIdeal := fun m ρ _ =>
  (θ_run Cert.GluFwdReferenceIdeal.defs _ _).mono (fun r h => ⟨fun c => (h c).2, sem_eq_zero_of_no_sems (by decide) r.2⟩)
    (Cert.GluFwdReferenceIdeal.Value.run m ρ)

section
open Cert.GluFwdReferenceIdeal Cert.GluFwdReferenceIdeal.Gen Cert.GluFwdReferenceIdeal.Read
variable (y g z : Vec Ideal S2048x1024 .f32) (b : Vec Ideal S1x1024 .f32)

theorem lgs_gate (i : S2048x1024.Idx) : val_main_v7 (F := Ideal) g b i = lgs (g i + b (ix2 0 (i 1))) := by
  pointwise [val_main_v7, val_main_v6, val_main_cst_0, val_main_v5, val_main_v4, val_main_cst, val_main_v3, val_main_v2, val_main_v1, val_main_v0, lgs]
  rfl
theorem lgs_z (i : S2048x1024.Idx) : val_main_call0_v5 (F := Ideal) z i = lgs (z i) := by
  pointwise [val_main_call0_v5, val_main_call0_v4, val_main_call0_cst_0, val_main_call0_v3, val_main_call0_v2, val_main_call0_cst, val_main_call0_v1, val_main_call0_v0, lgs]
  rfl
theorem ref : (val_main_v11 (F := Ideal) y g z b : Mat 2048 1024) = fun i => gated (y i) (g i) (z i) (b (ix2 0 (i 1))) := by
  funext i
  pointwise [val_main_v11, val_main_v10, val_main_v9, val_main_v8, lgs_gate, lgs_z, gated]
end

theorem results : Cert.algebraic_GluFwdIdeal_GluFwdReferenceIdeal := fun m g m' g' _ ha =>
  ⟨fun c => (Cert.GluFwdIdeal.Gen.dats m 0 c).arrAt 4 Cert.GluFwdIdeal.cfg0.N,
   Cert.GluFwdIdeal.Value.run_blocks m g,
   (θ_run Cert.GluFwdReferenceIdeal.defs _ _).mono
    (fun _ h c => by
      obtain ⟨a0, a1, a2, a3⟩ := ha c
      obtain ⟨h0, h1⟩ := h c
      rw [Cert.GluFwdReferenceIdeal.Read.val_main_v11_eq, a0, a1, a2, a3] at h0
      exact ⟨h0.trans ((ref ..).trans (arr m c).symm), h1⟩)
    (Cert.GluFwdReferenceIdeal.Value.run m' g')⟩

end Cert.GluFwdV

end
-- ==== Proof.SkipFwdClaims.lean ====
/-
  `s5_out_fwd`, the output of the S5 layer: the two directions' outputs and the skip u · s added, and the tanh form of the GELU,
  row by row. The call's result array is that entry by entry, and so is the reference's.
-/
module

public import proofs.«01_k».proof.Defs
public import proofs.«01_k».proof.Proof.Gen.SkipFwdIdeal.Value
public import proofs.«01_k».proof.Proof.Gen.SkipFwdReferenceIdeal.Run
public import proofs.«01_k».proof.Proof.Gen.SkipFwdReferenceIdeal.Read
public import proofs.«01_k».proof.Proof.MatProd
public import Idealize.ShloMosaic.Lib.Pipeline.ValueKit
public import Idealize.ShloMosaic.Lib.Pointwise
public import Idealize.ShloMosaic.Lib.Quiescent

@[expose] public section

set_option maxRecDepth 16384

noncomputable section

namespace Cert.SkipFwdV

open Cert.Mat
open Idealize.ShloMosaic Idealize.ShloMosaic.TcCoe Idealize.ShloMosaic.Tactic Idealize.ShloMosaic.StableHlo Idealize.SL.Sem
open scoped BigOperators

/-- A constant of the programs, from its bits. -/
abbrev con (b : BitVec 32) : EReal := FloatOps.ofBits (F := Ideal) .f32 b
/-- tanh of the polynomial in x that the GELU takes it of. -/
def th (x : EReal) : EReal := Ideal.tanh (con 0x3F4C422A#32 * (x + con 0x3D372713#32 * (x * (x * x))))
/-- The tanh form of the GELU. -/
def gelu (x : EReal) : EReal := x * (con 0x3F000000#32 * (con 0x3F800000#32 + th x))
/-- The entry that the GELU is taken of. -/
def pre (f b u s : EReal) : EReal := f + b + u * s

section
open Cert.SkipFwdIdeal Cert.SkipFwdIdeal.Gen
variable (m : (ℓ : Loc nD τ sig) → Buf (Elt Ideal) ℓ) (c : Dev nD)

theorem pay_apply (f b u : Vec Ideal S256x1024 .f32) (s : Vec Ideal S1x1024 .f32) (j : S256x1024.Idx) :
    k0_pay1 (F := Ideal) f b u s j = gelu (pre (f j) (b j) (u j) (s (ix2 0 (j 1)))) := by
  pointwise [k0_pay1, gelu, pre, th, con]

theorem out_eq (f b u : Vec Ideal S256x1024 .f32) (s : Vec Ideal S1x1024 .f32) : out0_4 (F := Ideal) f b u s = k0_pay1 (F := Ideal) f b u s := by
  unfold out0_4
  frame_out

/-- The point `t` reads and writes the rows of block `t`, and the one row of the last argument. -/
theorem idx_row : ∀ t : Fin cfg0.N, win0_0.index t = ![t.val, 0] ∧ win0_1.index t = ![t.val, 0] ∧ win0_2.index t = ![t.val, 0] ∧ win0_4.index t = ![t.val, 0] ∧ win0_3.index t = ![0, 0] :=
  (by decide +kernel : ∀ t : Fin grid0.N, _)

theorem arr : (dats m 0 c).arrAt 4 cfg0.N = fun i => gelu (pre ((V m c main_arg0 : Mat 2048 1024) i) ((V m c main_arg1 : Mat 2048 1024) i) ((V m c main_arg2 : Mat 2048 1024) i) ((V m c main_arg3 : Mat 1 1024) (ix2 0 (i 1)))) := by
  refine (dats m 0 c).arrAt_eq_of_covers 4 _ (by decide +kernel) fun t hf y => ?_
  obtain ⟨e0, e1, e2, eo, eb⟩ := idx_row t
  blk_simp
  rw [after0_4, out_eq, pay_apply]
  blk_point [iblk, e0, e1, e2, eo, eb]

end

/-! ## The claims -/

theorem frame_reference : Cert.quiescent_SkipFwdReferenceIdeal := fun m ρ _ =>
  (θ_run Cert.SkipFwdReferenceIdeal.defs _ _).mono (fun r h => ⟨fun c => (h c).2, sem_eq_zero_of_no_sems (by decide) r.2⟩)
    (Cert.SkipFwdReferenceIdeal.Value.run m ρ)

section
open Cert.SkipFwdReferenceIdeal Cert.SkipFwdReferenceIdeal.Gen Cert.SkipFwdReferenceIdeal.Read
variable (f b u : Vec Ideal S2048x1024 .f32) (s : Vec Ideal S1x1024 .f32)

theorem ref_pre (i : S2048x1024.Idx) : val_main_v3 (F := Ideal) f b u s i = pre (f i) (b i) (u i) (s (ix2 0 (i 1))) := by
  pointwise [val_main_v3, val_main_v2, val_main_v1, val_main_v0, pre]
theorem ref_cube (i : S2048x1024.Idx) : val_main_v5 (F := Ideal) f b u s i = val_main_v3 (F := Ideal) f b u s i * (val_main_v3 (F := Ideal) f b u s i * val_main_v3 (F := Ideal) f b u s i) := by
  refine Eq.trans ?_ (mul_comm (G := EReal) _ _)
  pointwise [val_main_v5, val_main_v4]
theorem ref_th (i : S2048x1024.Idx) : val_main_v11 (F := Ideal) f b u s i = th (pre (f i) (b i) (u i) (s (ix2 0 (i 1)))) := by
  pointwise [val_main_v11, val_main_v10, val_main_v9, val_main_cst_0, val_main_v8, val_main_v7, val_main_v6, val_main_cst, ref_cube, ref_pre, th, con]
theorem ref : (val_main_v16 (F := Ideal) f b u s : Mat 2048 1024) = fun i => gelu (pre (f i) (b i) (u i) (s (ix2 0 (i 1)))) := by
  funext i
  pointwise [val_main_v16, val_main_v15, val_main_v14, val_main_cst_2, val_main_v13, val_main_v12, val_main_cst_1, ref_th, ref_pre, gelu, con]
end

theorem results : Cert.algebraic_SkipFwdIdeal_SkipFwdReferenceIdeal := fun m g m' g' _ ha =>
  ⟨fun c => (Cert.SkipFwdIdeal.Gen.dats m 0 c).arrAt 4 Cert.SkipFwdIdeal.cfg0.N,
   Cert.SkipFwdIdeal.Value.run_blocks m g,
   (θ_run Cert.SkipFwdReferenceIdeal.defs _ _).mono
    (fun _ h c => by
      obtain ⟨a0, a1, a2, a3⟩ := ha c
      obtain ⟨h0, h1⟩ := h c
      rw [Cert.SkipFwdReferenceIdeal.Read.val_main_v16_eq, a0, a1, a2, a3] at h0
      exact ⟨h0.trans ((ref ..).trans (arr m c).symm), h1⟩)
    (Cert.SkipFwdReferenceIdeal.Value.run m' g')⟩

end Cert.SkipFwdV

end
-- ==== Proof.SkipClaims.lean ====
/-
  `s5_out_bwd`, the gradient of the S5 layer's output gelu(f + b + u · s): of the two directions' outputs, which have one gradient,
  and of the skipped input u row by row, and of the skip's factors s, which the call sums over its sixteen blocks of rows. The
  call's result arrays are the three gradients entry by entry, and so are the reference's.
-/
module

public import proofs.«01_k».proof.Defs
public import proofs.«01_k».proof.Proof.Gen.SkipIdeal.Value
public import proofs.«01_k».proof.Proof.Gen.SkipReferenceIdeal.Run
public import proofs.«01_k».proof.Proof.Gen.SkipReferenceIdeal.Read
public import proofs.«01_k».proof.Proof.MatProd
public import proofs.«01_k».proof.Proof.SkipFwdClaims
public import Idealize.ShloMosaic.Lib.Pipeline.ValueKit
public import Idealize.ShloMosaic.Lib.Pointwise
public import Idealize.ShloMosaic.Lib.Quiescent

@[expose] public section

set_option maxRecDepth 16384

noncomputable section

namespace Cert.SkipV

open Cert.Mat
open Cert.SkipFwdV (con th pre)
open Idealize.ShloMosaic Idealize.ShloMosaic.TcCoe Idealize.ShloMosaic.Tactic Idealize.ShloMosaic.StableHlo Idealize.SL.Sem
open scoped BigOperators

/-- What the argument of tanh sends back, at gradient `d` of the GELU. -/
def inner (x d : EReal) : EReal :=
  con 0x3F4C422A#32 * (con 0x3F000000#32 * (x * d) * ((con 0x3F800000#32 + th x) * (con 0x3F800000#32 - th x)))
/-- The GELU's gradient. -/
def dgelu (x d : EReal) : EReal :=
  d * (con 0x3F000000#32 * (con 0x3F800000#32 + th x)) + inner x d + con 0x3D372713#32 * inner x d * (con 0x40400000#32 * (x * x))
/-- A row's share of the gradient of `s`. -/
def share (u x d : EReal) : EReal := u * dgelu x d

section
open Cert.SkipIdeal Cert.SkipIdeal.Gen
variable (m : (ℓ : Loc nD τ sig) → Buf (Elt Ideal) ℓ) (c : Dev nD)

theorem pay6_apply (f b u : Vec Ideal S128x1024 .f32) (s : Vec Ideal S1x1024 .f32) (j : S128x1024.Idx) : k0_pay6 (F := Ideal) f b u s j = pre (f j) (b j) (u j) (s (ix2 0 (j 1))) := by
  pointwise [k0_pay6, pre]
theorem pay8_apply (f b u : Vec Ideal S128x1024 .f32) (s : Vec Ideal S1x1024 .f32) (j : S128x1024.Idx) : k0_pay8 (F := Ideal) f b u s j = th (pre (f j) (b j) (u j) (s (ix2 0 (j 1)))) := by
  pointwise [k0_pay8, pay6_apply, th, con]
theorem pay9_apply (f b u : Vec Ideal S128x1024 .f32) (s : Vec Ideal S1x1024 .f32) (d : Vec Ideal S128x1024 .f32) (j : S128x1024.Idx) : k0_pay9 (F := Ideal) f b u s d j = inner (pre (f j) (b j) (u j) (s (ix2 0 (j 1)))) (d j) := by
  pointwise [k0_pay9, pay8_apply, pay6_apply, inner, con]
theorem pay1_apply (f b u : Vec Ideal S128x1024 .f32) (s : Vec Ideal S1x1024 .f32) (d : Vec Ideal S128x1024 .f32) (j : S128x1024.Idx) :
    k0_pay1 (F := Ideal) (k0_pay7 (F := Ideal) f b u s) (k0_pay10 (F := Ideal) f b u s d) (k0_pay11 (F := Ideal) f b u s d) j = dgelu (pre (f j) (b j) (u j) (s (ix2 0 (j 1)))) (d j) := by
  pointwise [k0_pay1, k0_pay7, k0_pay10, k0_pay11, pay9_apply, pay8_apply, pay6_apply, dgelu, con]
/-- A block's share of the gradient of s. -/
abbrev part (t : Fin cfg0.N) : Vec Ideal S1x1024 .f32 := fun j => ∑ k : Fin 128,
  share ((iblk m c 2 t : Mat 128 1024) (ix2 k (j 1))) (pre ((iblk m c 0 t : Mat 128 1024) (ix2 k (j 1))) ((iblk m c 1 t : Mat 128 1024) (ix2 k (j 1))) ((iblk m c 2 t : Mat 128 1024) (ix2 k (j 1))) ((iblk m c 3 t : Mat 1 1024) (ix2 0 (j 1)))) ((iblk m c 4 t : Mat 128 1024) (ix2 k (j 1)))

theorem out_5 (t : Fin cfg0.N) : (outsAt0 m c t.val t.isLt).1 = k0_pay3 (F := Ideal) (k0_pay7 (F := Ideal) (iblk m c 0 t) (iblk m c 1 t) (iblk m c 2 t) (iblk m c 3 t)) (k0_pay10 (F := Ideal) (iblk m c 0 t) (iblk m c 1 t) (iblk m c 2 t) (iblk m c 3 t) (iblk m c 4 t)) (k0_pay11 (F := Ideal) (iblk m c 0 t) (iblk m c 1 t) (iblk m c 2 t) (iblk m c 3 t) (iblk m c 4 t)) := by
  by_cases h : t.val % 16 = 0
  · rw [outsAt0_A m c t h]
    frame_out
  · rw [outsAt0_B m c t h]
    frame_out
theorem out_6 (t : Fin cfg0.N) : (outsAt0 m c t.val t.isLt).2.1 = k0_pay2 (F := Ideal) (iblk m c 3 t) (k0_pay7 (F := Ideal) (iblk m c 0 t) (iblk m c 1 t) (iblk m c 2 t) (iblk m c 3 t)) (k0_pay10 (F := Ideal) (iblk m c 0 t) (iblk m c 1 t) (iblk m c 2 t) (iblk m c 3 t) (iblk m c 4 t)) (k0_pay11 (F := Ideal) (iblk m c 0 t) (iblk m c 1 t) (iblk m c 2 t) (iblk m c 3 t) (iblk m c 4 t)) := by
  by_cases h : t.val % 16 = 0
  · rw [outsAt0_A m c t h]
    frame_out
  · rw [outsAt0_B m c t h]
    frame_out

theorem acc_A (t : Fin cfg0.N) (h : t.val % 16 = 0) (j : S1x1024.Idx) : (outsAt0 m c t.val t.isLt).2.2 j = 0 + part m c t j := by
  rw [outsAt0_A m c t h]
  frame_out
  pointwise [k0_pay5, k0_pay4, pay1_apply, part, share]
theorem acc_B (t : Fin cfg0.N) (h : ¬t.val % 16 = 0) (j : S1x1024.Idx) :
    (outsAt0 m c t.val t.isLt).2.2 j = (outsAt0 m c (t.val - 1) (Nat.lt_of_le_of_lt (Nat.sub_le _ _) t.isLt)).2.2 j + part m c t j := by
  rw [outsAt0_B m c t h]
  frame_out
  pointwise [k0_pay5, pay1_apply, part, share]

theorem acc_eq (t : Fin cfg0.N) (ht : t.val % 16 = 15) (j : S1x1024.Idx) :
    (outsAt0 m c t.val t.isLt).2.2 j = ∑ s : Fin 16, part m c ⟨16 * (t.val / 16) + s.val, by have := t.isLt; have := s.isLt; have hN := N_0; omega⟩ j :=
  (Pipeline.eq_sum_fin_of_reset_step_apply_of_flush (M := EReal) (fun n h => (outsAt0 m c n h).2.2) 16 (fun _ => 0) (part m c)
    (fun t h j => acc_A m c t h j) (fun t h j => acc_B m c t h j) t ht j).trans (zero_add _)

/-- The point `t` reads and writes the rows of block `t`, and the one block of the skip's factors. -/
theorem idx_row : ∀ t : Fin cfg0.N, win0_0.index t = ![t.val, 0] ∧ win0_1.index t = ![t.val, 0] ∧ win0_2.index t = ![t.val, 0] ∧ win0_4.index t = ![t.val, 0]
    ∧ win0_5.index t = ![t.val, 0] ∧ win0_6.index t = ![t.val, 0] :=
  (by decide +kernel : ∀ t : Fin grid0.N, _)
theorem idx_one : ∀ t : Fin cfg0.N, win0_3.index t = ![0, 0] ∧ win0_7.index t = ![0, 0] :=
  (by decide +kernel : ∀ t : Fin grid0.N, _)

theorem arr5 : (dats m 0 c).arrAt 5 cfg0.N = fun i => dgelu (pre ((V m c main_arg0 : Mat 2048 1024) i) ((V m c main_arg1 : Mat 2048 1024) i) ((V m c main_arg2 : Mat 2048 1024) i) ((V m c main_arg3 : Mat 1 1024) (ix2 0 (i 1)))) ((V m c main_arg4 : Mat 2048 1024) i) := by
  refine (dats m 0 c).arrAt_eq_of_covers 5 _ (by decide +kernel) fun t hf y => ?_
  obtain ⟨e0, e1, e2, e4, e5, -⟩ := idx_row t
  obtain ⟨e3, -⟩ := idx_one t
  blk_simp
  rw [after0_5, out_5]
  pointwise [k0_pay3, pay1_apply]
  blk_point [iblk, e0, e1, e2, e3, e4, e5]

theorem arr6 : (dats m 0 c).arrAt 6 cfg0.N = fun i => dgelu (pre ((V m c main_arg0 : Mat 2048 1024) i) ((V m c main_arg1 : Mat 2048 1024) i) ((V m c main_arg2 : Mat 2048 1024) i) ((V m c main_arg3 : Mat 1 1024) (ix2 0 (i 1)))) ((V m c main_arg4 : Mat 2048 1024) i) * (V m c main_arg3 : Mat 1 1024) (ix2 0 (i 1)) := by
  refine (dats m 0 c).arrAt_eq_of_covers 6 _ (by decide +kernel) fun t hf y => ?_
  obtain ⟨e0, e1, e2, e4, -, e6⟩ := idx_row t
  obtain ⟨e3, -⟩ := idx_one t
  blk_simp
  rw [after0_6, out_6]
  pointwise [k0_pay2, pay1_apply]
  blk_point [iblk, e0, e1, e2, e3, e4, e6]

theorem arr7 : (dats m 0 c).arrAt 7 cfg0.N = fun i => ∑ l : Fin 2048, share ((V m c main_arg2 : Mat 2048 1024) (ix2 l (i 1))) (pre ((V m c main_arg0 : Mat 2048 1024) (ix2 l (i 1))) ((V m c main_arg1 : Mat 2048 1024) (ix2 l (i 1))) ((V m c main_arg2 : Mat 2048 1024) (ix2 l (i 1))) ((V m c main_arg3 : Mat 1 1024) (ix2 0 (i 1)))) ((V m c main_arg4 : Mat 2048 1024) (ix2 l (i 1))) := by
  refine (dats m 0 c).arrAt_eq_of_covers 7 _ (by decide +kernel) fun t hf y => ?_
  have ht := (flush0_7 t).mp hf
  have e7 := (idx_one t).2
  blk_simp
  rw [after0_7, acc_eq m c t ht]
  simp only [part]
  refine Fin.sum_mul_add_congr fun s k hl => ?_
  generalize hp : (⟨16 * (t.val / 16) + s.val, _⟩ : Fin cfg0.N) = p
  have hps : p.val = s.val := by have hN : t.val < 16 := lt_of_lt_of_eq t.isLt (show cfg0.N = 16 from N_0); rw [← hp]; simp only; omega
  obtain ⟨e0, e1, e2, e4, -, -⟩ := idx_row p
  obtain ⟨e3, -⟩ := idx_one p
  blk_point [iblk, e0, e1, e2, e3, e4, e7, hps]

end

/-! ## The claims -/

theorem frame_reference : Cert.quiescent_SkipReferenceIdeal := fun m ρ _ =>
  (θ_run Cert.SkipReferenceIdeal.defs _ _).mono (fun r h => ⟨fun c => (h c).2.2.2, sem_eq_zero_of_no_sems (by decide) r.2⟩)
    (Cert.SkipReferenceIdeal.Value.run m ρ)

section
open Cert.SkipReferenceIdeal Cert.SkipReferenceIdeal.Gen Cert.SkipReferenceIdeal.Read
variable (f b u : Vec Ideal S2048x1024 .f32) (s : Vec Ideal S1x1024 .f32) (d : Vec Ideal S2048x1024 .f32)

theorem ref_pre (i : S2048x1024.Idx) : val_main_v3 (F := Ideal) f b u s i = pre (f i) (b i) (u i) (s (ix2 0 (i 1))) := by
  pointwise [val_main_v3, val_main_v2, val_main_v1, val_main_v0, pre]
theorem ref_cube (i : S2048x1024.Idx) : val_main_v5 (F := Ideal) f b u s i = val_main_v3 (F := Ideal) f b u s i * (val_main_v3 (F := Ideal) f b u s i * val_main_v3 (F := Ideal) f b u s i) := by
  refine Eq.trans ?_ (mul_comm (G := EReal) _ _)
  pointwise [val_main_v5, val_main_v4]
theorem ref_th (i : S2048x1024.Idx) : val_main_v14 (F := Ideal) f b u s i = th (pre (f i) (b i) (u i) (s (ix2 0 (i 1)))) := by
  pointwise [val_main_v14, val_main_v13, val_main_v12, val_main_cst_1, val_main_v11, val_main_v10, val_main_v9, val_main_cst_0, ref_cube, ref_pre, th, con]
theorem ref_inner (i : S2048x1024.Idx) : val_main_v31 (F := Ideal) f b u s d i = inner (pre (f i) (b i) (u i) (s (ix2 0 (i 1)))) (d i) := by
  pointwise [val_main_v31, val_main_v30, val_main_cst_7, val_main_v29, val_main_v28, val_main_v27, val_main_cst_6, val_main_v25, val_main_v19, val_main_v18, val_main_v17,
    val_main_cst_3, val_main_v16, val_main_v15, val_main_cst_2, ref_th, ref_pre, inner, con]
theorem ref_dgelu (i : S2048x1024.Idx) : val_main_v36 (F := Ideal) f b u s d i = dgelu (pre (f i) (b i) (u i) (s (ix2 0 (i 1)))) (d i) := by
  pointwise [val_main_v36, val_main_v35, val_main_v34, val_main_v33, val_main_cst_8, val_main_v32, val_main_v26, val_main_v23, val_main_v22, val_main_cst_5,
    val_main_v21, val_main_v20, val_main_cst_4, val_main_v8, val_main_v7, val_main_cst, val_main_v6, ref_inner, ref_th, ref_pre, dgelu, con]
theorem ref0 : (val_main_v42 (F := Ideal) f b u s d : Mat 2048 1024) = fun i => dgelu (pre (f i) (b i) (u i) (s (ix2 0 (i 1)))) (d i) := by
  funext i
  pointwise [val_main_v42, ref_dgelu]
theorem ref1 : (val_main_v41 (F := Ideal) f b u s d : Mat 2048 1024) = fun i => dgelu (pre (f i) (b i) (u i) (s (ix2 0 (i 1)))) (d i) * s (ix2 0 (i 1)) := by
  funext i
  pointwise [val_main_v41, val_main_v40, ref_dgelu]
theorem ref2 : (val_main_v39 (F := Ideal) f b u s d : Mat 1 1024) = fun i => ∑ l : Fin 2048, share (u (ix2 l (i 1))) (pre (f (ix2 l (i 1))) (b (ix2 l (i 1))) (u (ix2 l (i 1))) (s (ix2 0 (i 1)))) (d (ix2 l (i 1))) := by
  funext i
  pointwise [val_main_v39, val_main_v38, val_main_cst_9, val_main_v37, ref_dgelu, share]
end

theorem results : Cert.algebraic_SkipIdeal_SkipReferenceIdeal := fun m g m' g' _ ha =>
  ⟨fun c => (Cert.SkipIdeal.Gen.dats m 0 c).arrAt 5 Cert.SkipIdeal.cfg0.N,
   fun c => (Cert.SkipIdeal.Gen.dats m 0 c).arrAt 6 Cert.SkipIdeal.cfg0.N,
   fun c => (Cert.SkipIdeal.Gen.dats m 0 c).arrAt 7 Cert.SkipIdeal.cfg0.N,
   Cert.SkipIdeal.Value.run_blocks m g,
   (θ_run Cert.SkipReferenceIdeal.defs _ _).mono
    (fun _ h c => by
      obtain ⟨a0, a1, a2, a3, a4⟩ := ha c
      obtain ⟨h0, h1, h2, h3⟩ := h c
      rw [Cert.SkipReferenceIdeal.Read.val_main_v42_eq, a0, a1, a2, a3, a4] at h0
      rw [Cert.SkipReferenceIdeal.Read.val_main_v41_eq, a0, a1, a2, a3, a4] at h1
      rw [Cert.SkipReferenceIdeal.Read.val_main_v39_eq, a0, a1, a2, a3, a4] at h2
      exact ⟨h0.trans ((ref0 ..).trans (arr5 m c).symm), h1.trans ((ref1 ..).trans (arr6 m c).symm),
        h2.trans ((ref2 ..).trans (arr7 m c).symm), h3⟩)
    (Cert.SkipReferenceIdeal.Value.run m' g')⟩

end Cert.SkipV

end
-- ==== Proof.NormFwdClaims.lean ====
/-
  `norm_fwd`, the root mean square norm x · (mean x² + ε)^(−1/2) · g of each row. The call's result array is that entry by entry,
  and so is the reference's.
-/
module

public import proofs.«01_k».proof.Defs
public import proofs.«01_k».proof.Proof.Gen.NormFwdIdeal.Value
public import proofs.«01_k».proof.Proof.Gen.NormFwdReferenceIdeal.Run
public import proofs.«01_k».proof.Proof.Gen.NormFwdReferenceIdeal.Read
public import proofs.«01_k».proof.Proof.MatProd
public import Idealize.ShloMosaic.Lib.Pipeline.ValueKit
public import Idealize.ShloMosaic.Lib.Pointwise
public import Idealize.ShloMosaic.Lib.Quiescent

@[expose] public section

set_option maxRecDepth 16384

noncomputable section

namespace Cert.NormFwdV

open Cert.Mat
open Idealize.ShloMosaic Idealize.ShloMosaic.TcCoe Idealize.ShloMosaic.Tactic Idealize.ShloMosaic.StableHlo Idealize.SL.Sem
open scoped BigOperators

/-- A constant of the programs, from its bits. -/
abbrev con (b : BitVec 32) : EReal := FloatOps.ofBits (F := Ideal) .f32 b
/-- The mean square of row `r`, plus ε. -/
def ms {n : ℕ} (x : Mat n 2048) (r : Fin n) : EReal := Ideal.div (∑ k : Fin 2048, x (ix2 r k) * x (ix2 r k)) (con 0x45000000#32) + con 0x358637BD#32
/-- Its root's reciprocal. -/
def rs {n : ℕ} (x : Mat n 2048) (r : Fin n) : EReal := Ideal.rsqrt (ms x r)
/-- The normed entry `(r, k)`. -/
def nx {n : ℕ} (x : Mat n 2048) (g : Mat 1 2048) (r : Fin n) (k : Fin 2048) : EReal := x (ix2 r k) * rs x r * g (ix2 0 k)

section
open Cert.NormFwdIdeal Cert.NormFwdIdeal.Gen
variable (m : (ℓ : Loc nD τ sig) → Buf (Elt Ideal) ℓ) (c : Dev nD)

theorem pay_apply (x : Vec Ideal S256x2048 .f32) (g : Vec Ideal S1x2048 .f32) (j : S256x2048.Idx) :
    k0_pay1 (F := Ideal) x g j = nx x g (j 0) (j 1) := by
  pointwise [k0_pay1, nx, rs, ms, con]

theorem out_eq (x : Vec Ideal S256x2048 .f32) (g : Vec Ideal S1x2048 .f32) : out0_2 (F := Ideal) x g = k0_pay1 (F := Ideal) x g := by
  unfold out0_2
  frame_out

/-- The point `t` reads and writes the rows of block `t`, and the one row of the last argument. -/
theorem idx_row : ∀ t : Fin cfg0.N, win0_0.index t = ![t.val, 0] ∧ win0_2.index t = ![t.val, 0] ∧ win0_1.index t = ![0, 0] :=
  (by decide +kernel : ∀ t : Fin grid0.N, _)

section
variable (t : Fin cfg0.N) (r : Fin 256) (k : Fin 2048) (l : Fin 2048) (hl : l.val = t.val * 256 + r.val)
include hl
theorem x_blk : (iblk m c 0 t : Mat 256 2048) (ix2 r k) = (V m c main_arg0 : Mat 2048 2048) (ix2 l k) := by
  obtain ⟨e0, -, -⟩ := idx_row t
  blk_point [iblk, e0]
omit hl in
theorem g_blk : (iblk m c 1 t : Mat 1 2048) (ix2 0 k) = (V m c main_arg1 : Mat 1 2048) (ix2 0 k) := by
  obtain ⟨-, -, e1⟩ := idx_row t
  blk_point [iblk, e1]
theorem nx_blk (k' : Fin 2048) (hk : k' = k) : nx (iblk m c 0 t : Mat 256 2048) (iblk m c 1 t : Mat 1 2048) r k
    = nx (V m c main_arg0 : Mat 2048 2048) (V m c main_arg1 : Mat 1 2048) l k' := by
  subst hk
  simp only [nx, rs, ms, x_blk m c t r _ l hl, g_blk m c t]
end

theorem arr : (dats m 0 c).arrAt 2 cfg0.N = fun i => nx (V m c main_arg0 : Mat 2048 2048) (V m c main_arg1 : Mat 1 2048) (i 0) (i 1) := by
  refine (dats m 0 c).arrAt_eq_of_covers 2 _ (by decide +kernel) fun t hf y => ?_
  obtain ⟨-, eo, -⟩ := idx_row t
  blk_simp
  rw [after0_2, out_eq, pay_apply]
  refine nx_blk m c t _ _ _ ?_ _ (Fin.ext ?_)
  · blk_point [eo]
  · blk_point [eo]

end

/-! ## The claims -/

theorem frame_reference : Cert.quiescent_NormFwdReferenceIdeal := fun m ρ _ =>
  (θ_run Cert.NormFwdReferenceIdeal.defs _ _).mono (fun r h => ⟨fun c => (h c).2, sem_eq_zero_of_no_sems (by decide) r.2⟩)
    (Cert.NormFwdReferenceIdeal.Value.run m ρ)

section
open Cert.NormFwdReferenceIdeal Cert.NormFwdReferenceIdeal.Gen Cert.NormFwdReferenceIdeal.Read
variable (x : Vec Ideal S2048x2048 .f32) (g : Vec Ideal S1x2048 .f32)

theorem ref : (val_main_v12 (F := Ideal) x g : Mat 2048 2048) = fun i => nx x g (i 0) (i 1) := by
  funext i
  pointwise [val_main_v12, val_main_v11, val_main_v10, val_main_v9, val_main_v8, val_main_v7, val_main_v6, val_main_v5, val_main_cst_1, val_main_v4, val_main_v3,
    val_main_cst_0, val_main_v2, val_main_v1, val_main_cst, val_main_v0, nx, rs, ms, con]
end

theorem results : Cert.algebraic_NormFwdIdeal_NormFwdReferenceIdeal := fun m g m' g' _ ha =>
  ⟨fun c => (Cert.NormFwdIdeal.Gen.dats m 0 c).arrAt 2 Cert.NormFwdIdeal.cfg0.N,
   Cert.NormFwdIdeal.Value.run_blocks m g,
   (θ_run Cert.NormFwdReferenceIdeal.defs _ _).mono
    (fun _ h c => by
      obtain ⟨a0, a1⟩ := ha c
      obtain ⟨h0, h1⟩ := h c
      rw [Cert.NormFwdReferenceIdeal.Read.val_main_v12_eq, a0, a1] at h0
      exact ⟨h0.trans ((ref ..).trans (arr m c).symm), h1⟩)
    (Cert.NormFwdReferenceIdeal.Value.run m' g')⟩

end Cert.NormFwdV

end
-- ==== Proof.NormClaims.lean ====
/-
  `norm_bwd`, the gradient of the root mean square norm x · (mean x² + ε)^(−1/2) · g of each row: of x, row by row, with the
  gradient that passes by the layer added, and of g, which the call sums over its eight blocks of rows. The call's result arrays
  are the two gradients entry by entry, and so are the reference's.
-/
module

public import proofs.«01_k».proof.Defs
public import proofs.«01_k».proof.Proof.Gen.NormIdeal.Value
public import proofs.«01_k».proof.Proof.Gen.NormReferenceIdeal.Run
public import proofs.«01_k».proof.Proof.Gen.NormReferenceIdeal.Read
public import proofs.«01_k».proof.Proof.MatProd
public import proofs.«01_k».proof.Proof.NormFwdClaims
public import Idealize.ShloMosaic.Lib.Pipeline.ValueKit
public import Idealize.ShloMosaic.Lib.Pointwise
public import Idealize.ShloMosaic.Lib.Quiescent

@[expose] public section

set_option maxRecDepth 16384

noncomputable section

namespace Cert.NormV

open Cert.Mat
open Cert.NormFwdV (con ms rs)
open Idealize.ShloMosaic Idealize.ShloMosaic.TcCoe Idealize.ShloMosaic.Tactic Idealize.ShloMosaic.StableHlo Idealize.SL.Sem
open scoped BigOperators

/-- The gradient that reaches the normed entry before `g`. -/
def gh {n : ℕ} (g : Mat 1 2048) (d : Mat n 2048) (r : Fin n) (k : Fin 2048) : EReal := d (ix2 r k) * g (ix2 0 k)
/-- The gradient of half of the square of each entry of row `r`. -/
def sq {n : ℕ} (x : Mat n 2048) (g : Mat 1 2048) (d : Mat n 2048) (r : Fin n) : EReal :=
  Ideal.div ((∑ k : Fin 2048, x (ix2 r k) * gh g d r k) * (con 0xBF000000#32 * Ideal.div (rs x r) (ms x r))) (con 0x45000000#32)
/-- The gradient of x at `(r, k)`, and `e` added. -/
def gx {n : ℕ} (x : Mat n 2048) (g : Mat 1 2048) (d e : Mat n 2048) (r : Fin n) (k : Fin 2048) : EReal :=
  gh g d r k * rs x r + x (ix2 r k) * sq x g d r + sq x g d r * x (ix2 r k) + e (ix2 r k)
/-- An entry's share of the gradient of g. -/
def gg {n : ℕ} (x d : Mat n 2048) (r : Fin n) (k : Fin 2048) : EReal := x (ix2 r k) * rs x r * d (ix2 r k)

section
open Cert.NormIdeal Cert.NormIdeal.Gen
variable (m : (ℓ : Loc nD τ sig) → Buf (Elt Ideal) ℓ) (c : Dev nD)

theorem pay3_apply (x : Vec Ideal S256x2048 .f32) (j : S256x1.Idx) : k0_pay3 (F := Ideal) x j = ms x (j 0) := by
  pointwise [k0_pay3, ms, con]
theorem pay4_apply (x : Vec Ideal S256x2048 .f32) (j : S256x1.Idx) : k0_pay4 (F := Ideal) x j = rs x (j 0) := by
  pointwise [k0_pay4, pay3_apply, rs]
theorem pay5_apply (x d : Vec Ideal S256x2048 .f32) (j : S1x2048.Idx) : k0_pay5 (F := Ideal) x d j = ∑ k : Fin 256, gg x d k (j 1) := by
  pointwise [k0_pay5, pay4_apply, gg]
theorem pay6_apply (x : Vec Ideal S256x2048 .f32) (g : Vec Ideal S1x2048 .f32) (d e : Vec Ideal S256x2048 .f32) (j : S256x2048.Idx) :
    k0_pay6 (F := Ideal) x g d e j = gx x g d e (j 0) (j 1) := by
  pointwise [k0_pay6, pay4_apply, pay3_apply, gx, sq, gh, con]
  simp only [Fin.sum_univ_one]

theorem out_4 (t : Fin cfg0.N) : (outsAt0 m c t.val t.isLt).1 = k0_pay6 (F := Ideal) (iblk m c 0 t) (iblk m c 1 t) (iblk m c 2 t) (iblk m c 3 t) := by
  by_cases h : t.val % 8 = 0
  · rw [outsAt0_A m c t h]
    frame_out
  · rw [outsAt0_B m c t h]
    frame_out

/-- A block's share of the gradient of g. -/
abbrev part (t : Fin cfg0.N) : Vec Ideal S1x2048 .f32 := k0_pay5 (F := Ideal) (iblk m c 0 t) (iblk m c 2 t)

theorem acc_A (t : Fin cfg0.N) (h : t.val % 8 = 0) (j : S1x2048.Idx) : (outsAt0 m c t.val t.isLt).2 j = 0 + part m c t j := by
  rw [outsAt0_A m c t h]
  frame_out
  pointwise [k0_pay2, k0_pay1]
theorem acc_B (t : Fin cfg0.N) (h : ¬t.val % 8 = 0) (j : S1x2048.Idx) :
    (outsAt0 m c t.val t.isLt).2 j = (outsAt0 m c (t.val - 1) (Nat.lt_of_le_of_lt (Nat.sub_le _ _) t.isLt)).2 j + part m c t j := by
  rw [outsAt0_B m c t h]
  frame_out
  pointwise [k0_pay2]

theorem acc_eq (t : Fin cfg0.N) (ht : t.val % 8 = 7) (j : S1x2048.Idx) :
    (outsAt0 m c t.val t.isLt).2 j = ∑ s : Fin 8, part m c ⟨8 * (t.val / 8) + s.val, by have := t.isLt; have := s.isLt; have hN := N_0; omega⟩ j :=
  (Pipeline.eq_sum_fin_of_reset_step_apply_of_flush (M := EReal) (fun n h => (outsAt0 m c n h).2) 8 (fun _ => 0) (part m c)
    (fun t h j => acc_A m c t h j) (fun t h j => acc_B m c t h j) t ht j).trans (zero_add _)

/-- The point `t` reads and writes the rows of block `t`, and the one row of g and of its gradient. -/
theorem idx_row : ∀ t : Fin cfg0.N, win0_0.index t = ![t.val, 0] ∧ win0_2.index t = ![t.val, 0] ∧ win0_3.index t = ![t.val, 0] ∧ win0_4.index t = ![t.val, 0] :=
  (by decide +kernel : ∀ t : Fin grid0.N, _)
theorem idx_one : ∀ t : Fin cfg0.N, win0_1.index t = ![0, 0] ∧ win0_5.index t = ![0, 0] :=
  (by decide +kernel : ∀ t : Fin grid0.N, _)

section
variable (t : Fin cfg0.N) (r : Fin 256) (k : Fin 2048) (l : Fin 2048) (hl : l.val = t.val * 256 + r.val)
include hl
theorem x_blk : (iblk m c 0 t : Mat 256 2048) (ix2 r k) = (V m c main_arg0 : Mat 2048 2048) (ix2 l k) := by
  obtain ⟨e0, -, -, -⟩ := idx_row t
  blk_point [iblk, e0]
theorem d_blk : (iblk m c 2 t : Mat 256 2048) (ix2 r k) = (V m c main_arg2 : Mat 2048 2048) (ix2 l k) := by
  obtain ⟨-, e2, -, -⟩ := idx_row t
  blk_point [iblk, e2]
theorem e_blk : (iblk m c 3 t : Mat 256 2048) (ix2 r k) = (V m c main_arg3 : Mat 2048 2048) (ix2 l k) := by
  obtain ⟨-, -, e3, -⟩ := idx_row t
  blk_point [iblk, e3]
omit hl in
theorem g_blk : (iblk m c 1 t : Mat 1 2048) (ix2 0 k) = (V m c main_arg1 : Mat 1 2048) (ix2 0 k) := by
  obtain ⟨e1, -⟩ := idx_one t
  blk_point [iblk, e1]
theorem gg_blk (k' : Fin 2048) (hk : k' = k) : gg (iblk m c 0 t : Mat 256 2048) (iblk m c 2 t : Mat 256 2048) r k = gg (V m c main_arg0 : Mat 2048 2048) (V m c main_arg2 : Mat 2048 2048) l k' := by
  subst hk
  simp only [gg, rs, ms, x_blk m c t r _ l hl, d_blk m c t r _ l hl]
theorem gx_blk (k' : Fin 2048) (hk : k' = k) : gx (iblk m c 0 t : Mat 256 2048) (iblk m c 1 t : Mat 1 2048) (iblk m c 2 t : Mat 256 2048) (iblk m c 3 t : Mat 256 2048) r k
    = gx (V m c main_arg0 : Mat 2048 2048) (V m c main_arg1 : Mat 1 2048) (V m c main_arg2 : Mat 2048 2048) (V m c main_arg3 : Mat 2048 2048) l k' := by
  subst hk
  simp only [gx, gh, sq, rs, ms, x_blk m c t r _ l hl, d_blk m c t r _ l hl, e_blk m c t r _ l hl, g_blk m c t]
end

theorem arr4 : (dats m 0 c).arrAt 4 cfg0.N = fun i => gx (V m c main_arg0 : Mat 2048 2048) (V m c main_arg1 : Mat 1 2048) (V m c main_arg2 : Mat 2048 2048) (V m c main_arg3 : Mat 2048 2048) (i 0) (i 1) := by
  refine (dats m 0 c).arrAt_eq_of_covers 4 _ (by decide +kernel) fun t hf y => ?_
  obtain ⟨-, -, -, e4⟩ := idx_row t
  blk_simp
  rw [after0_4, out_4, pay6_apply]
  refine gx_blk m c t _ _ _ ?_ _ ?_
  · blk_point [e4]
  · refine Fin.ext ?_
    blk_point [e4]

theorem arr5 : (dats m 0 c).arrAt 5 cfg0.N = fun i => ∑ l : Fin 2048, gg (V m c main_arg0 : Mat 2048 2048) (V m c main_arg2 : Mat 2048 2048) l (i 1) := by
  refine (dats m 0 c).arrAt_eq_of_covers 5 _ (by decide +kernel) fun t hf y => ?_
  have ht := (flush0_5 t).mp hf
  have e5 := (idx_one t).2
  blk_simp
  rw [after0_5, acc_eq m c t ht]
  simp only [part, pay5_apply]
  refine Fin.sum_mul_add_congr fun s k hl => ?_
  generalize hp : (⟨8 * (t.val / 8) + s.val, _⟩ : Fin cfg0.N) = p
  have hps : p.val = s.val := by have hN : t.val < 8 := lt_of_lt_of_eq t.isLt (show cfg0.N = 8 from N_0); rw [← hp]; simp only; omega
  refine gg_blk m c p k _ _ (by rw [hps]) _ (Fin.ext ?_)
  blk_point [e5]

end

/-! ## The claims -/

theorem frame_reference : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run m ρ)

section
open Cert.NormReferenceIdeal Cert.NormReferenceIdeal.Gen Cert.NormReferenceIdeal.Read
variable (x : Vec Ideal S2048x2048 .f32) (g : Vec Ideal S1x2048 .f32) (d e : Vec Ideal S2048x2048 .f32)

theorem ref_ms (i : S2048x1.Idx) : val_main_v6 (F := Ideal) x i = ms x (i 0) := by
  pointwise [val_main_v6, val_main_v5, val_main_cst_1, val_main_v4, val_main_v3, val_main_cst_0, val_main_v2, val_main_v1, val_main_cst, val_main_v0, ms, con]
theorem ref_rs (i : S2048x1.Idx) : val_main_v7 (F := Ideal) x i = rs x (i 0) := by
  pointwise [val_main_v7, ref_ms, rs]
theorem ref_gh (i : S2048x2048.Idx) : val_main_v19 (F := Ideal) g d i = gh g d (i 0) (i 1) := by
  pointwise [val_main_v19, val_main_v18, gh]
theorem ref_sq (i : S2048x2048.Idx) : val_main_v29 (F := Ideal) x g d i = sq x g d (i 0) := by
  pointwise [val_main_v29, val_main_v28, val_main_cst_6, val_main_v27, val_main_v26, val_main_cst_5, val_main_v25, val_main_v22, val_main_v21, val_main_cst_4, val_main_v20,
    val_main_v10, val_main_v9, val_main_cst_2, val_main_v8, ref_gh, ref_rs, ref_ms, sq, con]
  exact Fin.sum_univ_one _
theorem ref0 : (val_main_v34 (F := Ideal) x g d e : Mat 2048 2048) = fun i => gx x g d e (i 0) (i 1) := by
  funext i
  pointwise [val_main_v34, val_main_v33, val_main_v32, val_main_v31, val_main_v30, val_main_v24, val_main_v23, ref_sq, ref_gh, ref_rs, gx]
theorem ref1 : (val_main_v17 (F := Ideal) x d : Mat 1 2048) = fun i => ∑ l : Fin 2048, gg x d l (i 1) := by
  funext i
  pointwise [val_main_v17, val_main_v16, val_main_cst_3, val_main_v15, val_main_v12, val_main_v11, ref_rs, gg]
end

theorem results : Cert.algebraic_NormIdeal_NormReferenceIdeal := fun m g m' g' _ ha =>
  ⟨fun c => (Cert.NormIdeal.Gen.dats m 0 c).arrAt 4 Cert.NormIdeal.cfg0.N,
   fun c => (Cert.NormIdeal.Gen.dats m 0 c).arrAt 5 Cert.NormIdeal.cfg0.N,
   Cert.NormIdeal.Value.run_blocks m g,
   (θ_run Cert.NormReferenceIdeal.defs _ _).mono
    (fun _ h c => by
      obtain ⟨a0, a1, a2, a3⟩ := ha c
      obtain ⟨h0, h1, h2⟩ := h c
      rw [Cert.NormReferenceIdeal.Read.val_main_v34_eq, a0, a1, a2, a3] at h0
      rw [Cert.NormReferenceIdeal.Read.val_main_v17_eq, a0, a2] at h1
      exact ⟨h0.trans ((ref0 ..).trans (arr4 m c).symm), h1.trans ((ref1 ..).trans (arr5 m c).symm), h2⟩)
    (Cert.NormReferenceIdeal.Value.run m' g')⟩

end Cert.NormV

end
-- ==== Proof.Adam.lean ====
/-
  One step of AdamW at one entry, from the weight `w`, the gradient `g` and the two moments.
-/
module

public import Idealize.ShloMosaic.PureOps.Ideal

@[expose] public section

noncomputable section

namespace Cert.Adam

open Idealize.ShloMosaic

/-- A constant of the programs, from its bits. -/
abbrev con (b : BitVec 32) : EReal := FloatOps.ofBits (F := Ideal) .f32 b
/-- The gradient, summed over its two parts. -/
def gs (g h : EReal) : EReal := g + h
/-- The new first moment. -/
def nm (m g : EReal) : EReal := con 0x3F666666#32 * m + con 0x3DCCCCCD#32 * g
/-- The new second moment. -/
def nv (v g : EReal) : EReal := con 0x3F7FBE77#32 * v + con 0x3A83126F#32 * (g * g)
/-- The step. -/
def dl (w g m v : EReal) : EReal :=
  con 0xBA83126F#32 * (Ideal.div (Ideal.div (nm m g) (con 0x3F26BD02#32)) (Ideal.sqrt (Ideal.div (nv v g) (con 0x3C231ACC#32)) + con 0x322BCC77#32) + con 0x3C23D70A#32 * w)

end Cert.Adam

end
-- ==== Proof.AdamGluClaims.lean ====
/-
  `adamw_w_glu`, the AdamW step of w_glu: the call's four result arrays are the gradient summed, the step and the two new moments
  entry by entry, and so are the reference's.
-/
module

public import proofs.«01_k».proof.Defs
public import proofs.«01_k».proof.Proof.Gen.AdamGluIdeal.Value
public import proofs.«01_k».proof.Proof.Gen.AdamGluReferenceIdeal.Run
public import proofs.«01_k».proof.Proof.Gen.AdamGluReferenceIdeal.Read
public import proofs.«01_k».proof.Proof.Adam
public import Idealize.ShloMosaic.Lib.Pipeline.ValueKit
public import Idealize.ShloMosaic.Lib.Pointwise
public import Idealize.ShloMosaic.Lib.Quiescent

@[expose] public section

set_option maxRecDepth 16384

noncomputable section

namespace Cert.AdamGluV

open Cert.Adam
open Idealize.ShloMosaic Idealize.ShloMosaic.TcCoe Idealize.ShloMosaic.Tactic Idealize.ShloMosaic.StableHlo Idealize.SL.Sem
open scoped BigOperators

section
open Cert.AdamGluIdeal Cert.AdamGluIdeal.Gen
variable (m : (ℓ : Loc nD τ sig) → Buf (Elt Ideal) ℓ) (c : Dev nD)

theorem out (w m v g h : Vec Ideal S1x256x1024 .f32) (j : S1x256x1024.Idx) :
    out0_5 (F := Ideal) w m v g h j = (gs (g j) (h j))
    ∧ out0_6 (F := Ideal) w m v g h j = dl (w j) (gs (g j) (h j)) (m j) (v j)
    ∧ out0_7 (F := Ideal) w m v g h j = nm (m j) (gs (g j) (h j))
    ∧ out0_8 (F := Ideal) w m v g h j = nv (v j) (gs (g j) (h j)) := by
  have e0 : out0_5 (F := Ideal) w m v g h = k0_pay2 (F := Ideal) g h := by
    unfold out0_5
    frame_out
  have e1 : out0_6 (F := Ideal) w m v g h = k0_pay1 (F := Ideal) (k0_pay5 (F := Ideal) g h m v w) (k0_pay6 (F := Ideal)) := by
    unfold out0_6
    frame_out
  have e2 : out0_7 (F := Ideal) w m v g h = k0_pay3 (F := Ideal) g h m := by
    unfold out0_7
    frame_out
  have e3 : out0_8 (F := Ideal) w m v g h = k0_pay4 (F := Ideal) g h v := by
    unfold out0_8
    frame_out
  rw [e0, e1, e2, e3]
  refine ⟨?_, ?_, ?_, ?_⟩ <;> pointwise [k0_pay1, k0_pay5, k0_pay6, k0_pay4, k0_pay3, k0_pay2, gs, nm, nv, dl, con]

/-- The point `t` reads and writes block `t`. -/
theorem idx_row : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, _)

theorem arr5 : (dats m 0 c).arrAt 5 cfg0.N = fun i : S1x1024x1024.Idx => (gs (V m c main_arg1 i) (V m c main_arg2 i)) := by
  refine (dats m 0 c).arrAt_eq_of_covers 5 _ (by decide +kernel) fun t hf y => ?_
  blk_simp
  rw [after0_5, (out ..).1]
  blk_point [iblk, idx_row t]
theorem arr6 : (dats m 0 c).arrAt 6 cfg0.N = fun i : S1x1024x1024.Idx => dl (V m c main_arg0 i) (gs (V m c main_arg1 i) (V m c main_arg2 i)) (V m c main_arg3 i) (V m c main_arg4 i) := by
  refine (dats m 0 c).arrAt_eq_of_covers 6 _ (by decide +kernel) fun t hf y => ?_
  blk_simp
  rw [after0_6, (out ..).2.1]
  blk_point [iblk, idx_row t]
theorem arr7 : (dats m 0 c).arrAt 7 cfg0.N = fun i : S1x1024x1024.Idx => nm (V m c main_arg3 i) (gs (V m c main_arg1 i) (V m c main_arg2 i)) := by
  refine (dats m 0 c).arrAt_eq_of_covers 7 _ (by decide +kernel) fun t hf y => ?_
  blk_simp
  rw [after0_7, (out ..).2.2.1]
  blk_point [iblk, idx_row t]
theorem arr8 : (dats m 0 c).arrAt 8 cfg0.N = fun i : S1x1024x1024.Idx => nv (V m c main_arg4 i) (gs (V m c main_arg1 i) (V m c main_arg2 i)) := by
  refine (dats m 0 c).arrAt_eq_of_covers 8 _ (by decide +kernel) fun t hf y => ?_
  blk_simp
  rw [after0_8, (out ..).2.2.2]
  blk_point [iblk, idx_row t]
end

/-! ## The claims -/

theorem frame_reference : Cert.quiescent_AdamGluReferenceIdeal := fun m ρ _ =>
  (θ_run Cert.AdamGluReferenceIdeal.defs _ _).mono (fun r h => ⟨fun c => (h c).2.2.2.2, sem_eq_zero_of_no_sems (by decide) r.2⟩)
    (Cert.AdamGluReferenceIdeal.Value.run m ρ)

section
open Cert.AdamGluReferenceIdeal Cert.AdamGluReferenceIdeal.Gen Cert.AdamGluReferenceIdeal.Read
variable (w m v g h : Vec Ideal S1x1024x1024 .f32)

theorem ref : (∀ i : S1x1024x1024.Idx, val_main_v0 (F := Ideal) g h i = (gs (g i) (h i)))
    ∧ (∀ i : S1x1024x1024.Idx, val_main_v24 (F := Ideal) w g h m v i = dl (w i) (gs (g i) (h i)) (m i) (v i))
    ∧ (∀ i : S1x1024x1024.Idx, val_main_v5 (F := Ideal) g h m i = nm (m i) (gs (g i) (h i)))
    ∧ (∀ i : S1x1024x1024.Idx, val_main_v11 (F := Ideal) g h v i = nv (v i) (gs (g i) (h i))) := by
  refine ⟨fun i => ?_, fun i => ?_, fun i => ?_, fun i => ?_⟩ <;>
    pointwise [val_main_v24, val_main_v23, val_main_cst_7, val_main_v22, val_main_v21, val_main_v20, val_main_cst_6, val_main_v19, val_main_v18, val_main_v17, val_main_cst_5, val_main_v16, val_main_v15, val_main_v14, val_main_cst_4, val_main_v13, val_main_v12, val_main_cst_3, val_main_v11, val_main_v10, val_main_v9, val_main_cst_2, val_main_v8, val_main_v7, val_main_v6, val_main_cst_1, val_main_v5, val_main_v4, val_main_v3, val_main_cst_0, val_main_v2, val_main_v1, val_main_cst, val_main_v0, gs, nm, nv, dl, con]
end

theorem results : Cert.algebraic_AdamGluIdeal_AdamGluReferenceIdeal := fun m g m' g' _ ha =>
  ⟨_, _, _, _, Cert.AdamGluIdeal.Value.run_blocks m g,
   (θ_run Cert.AdamGluReferenceIdeal.defs _ _).mono
    (fun _ h c => by
      obtain ⟨a0, a1, a2, a3, a4⟩ := ha c
      obtain ⟨h0, h1, h2, h3, h4⟩ := h c
      rw [Cert.AdamGluReferenceIdeal.Read.val_main_v0_eq, a1, a2] at h0
      rw [Cert.AdamGluReferenceIdeal.Read.val_main_v24_eq, a0, a1, a2, a3, a4] at h1
      rw [Cert.AdamGluReferenceIdeal.Read.val_main_v5_eq, a1, a2, a3] at h2
      rw [Cert.AdamGluReferenceIdeal.Read.val_main_v11_eq, a1, a2, a4] at h3
      open Cert.AdamGluIdeal Cert.AdamGluIdeal.Gen in have r := ref (V m c main_arg0) (V m c main_arg3) (V m c main_arg4) (V m c main_arg1) (V m c main_arg2)
      exact ⟨h0.trans ((funext r.1).trans (arr5 m c).symm), h1.trans ((funext r.2.1).trans (arr6 m c).symm),
        h2.trans ((funext r.2.2.1).trans (arr7 m c).symm), h3.trans ((funext r.2.2.2).trans (arr8 m c).symm), h4⟩)
    (Cert.AdamGluReferenceIdeal.Value.run m' g')⟩

end Cert.AdamGluV

end
-- ==== Proof.AdamPaClaims.lean ====
/-
  `adamw_w_pa`, the AdamW step of w_pa (and of w_pb, which has the same shape): the call's four result arrays are the gradient summed, the step and the two new moments
  entry by entry, and so are the reference's.
-/
module

public import proofs.«01_k».proof.Defs
public import proofs.«01_k».proof.Proof.Gen.AdamPaIdeal.Value
public import proofs.«01_k».proof.Proof.Gen.AdamPaReferenceIdeal.Run
public import proofs.«01_k».proof.Proof.Gen.AdamPaReferenceIdeal.Read
public import proofs.«01_k».proof.Proof.Adam
public import Idealize.ShloMosaic.Lib.Pipeline.ValueKit
public import Idealize.ShloMosaic.Lib.Pointwise
public import Idealize.ShloMosaic.Lib.Quiescent

@[expose] public section

set_option maxRecDepth 16384

noncomputable section

namespace Cert.AdamPaV

open Cert.Adam
open Idealize.ShloMosaic Idealize.ShloMosaic.TcCoe Idealize.ShloMosaic.Tactic Idealize.ShloMosaic.StableHlo Idealize.SL.Sem
open scoped BigOperators

section
open Cert.AdamPaIdeal Cert.AdamPaIdeal.Gen
variable (m : (ℓ : Loc nD τ sig) → Buf (Elt Ideal) ℓ) (c : Dev nD)

theorem out (w m v g h : Vec Ideal S1x512x512 .f32) (j : S1x512x512.Idx) :
    out0_5 (F := Ideal) w m v g h j = (gs (g j) (h j))
    ∧ out0_6 (F := Ideal) w m v g h j = dl (w j) (gs (g j) (h j)) (m j) (v j)
    ∧ out0_7 (F := Ideal) w m v g h j = nm (m j) (gs (g j) (h j))
    ∧ out0_8 (F := Ideal) w m v g h j = nv (v j) (gs (g j) (h j)) := by
  have e0 : out0_5 (F := Ideal) w m v g h = k0_pay2 (F := Ideal) g h := by
    unfold out0_5
    frame_out
  have e1 : out0_6 (F := Ideal) w m v g h = k0_pay1 (F := Ideal) (k0_pay5 (F := Ideal) g h m v w) (k0_pay6 (F := Ideal)) := by
    unfold out0_6
    frame_out
  have e2 : out0_7 (F := Ideal) w m v g h = k0_pay3 (F := Ideal) g h m := by
    unfold out0_7
    frame_out
  have e3 : out0_8 (F := Ideal) w m v g h = k0_pay4 (F := Ideal) g h v := by
    unfold out0_8
    frame_out
  rw [e0, e1, e2, e3]
  refine ⟨?_, ?_, ?_, ?_⟩ <;> pointwise [k0_pay1, k0_pay5, k0_pay6, k0_pay4, k0_pay3, k0_pay2, gs, nm, nv, dl, con]

/-- The point `t` reads and writes block `t`. -/
theorem idx_row : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, _)

theorem arr5 : (dats m 0 c).arrAt 5 cfg0.N = fun i : S1x4096x512.Idx => (gs (V m c main_arg1 i) (V m c main_arg2 i)) := by
  refine (dats m 0 c).arrAt_eq_of_covers 5 _ (by decide +kernel) fun t hf y => ?_
  blk_simp
  rw [after0_5, (out ..).1]
  blk_point [iblk, idx_row t]
theorem arr6 : (dats m 0 c).arrAt 6 cfg0.N = fun i : S1x4096x512.Idx => dl (V m c main_arg0 i) (gs (V m c main_arg1 i) (V m c main_arg2 i)) (V m c main_arg3 i) (V m c main_arg4 i) := by
  refine (dats m 0 c).arrAt_eq_of_covers 6 _ (by decide +kernel) fun t hf y => ?_
  blk_simp
  rw [after0_6, (out ..).2.1]
  blk_point [iblk, idx_row t]
theorem arr7 : (dats m 0 c).arrAt 7 cfg0.N = fun i : S1x4096x512.Idx => nm (V m c main_arg3 i) (gs (V m c main_arg1 i) (V m c main_arg2 i)) := by
  refine (dats m 0 c).arrAt_eq_of_covers 7 _ (by decide +kernel) fun t hf y => ?_
  blk_simp
  rw [after0_7, (out ..).2.2.1]
  blk_point [iblk, idx_row t]
theorem arr8 : (dats m 0 c).arrAt 8 cfg0.N = fun i : S1x4096x512.Idx => nv (V m c main_arg4 i) (gs (V m c main_arg1 i) (V m c main_arg2 i)) := by
  refine (dats m 0 c).arrAt_eq_of_covers 8 _ (by decide +kernel) fun t hf y => ?_
  blk_simp
  rw [after0_8, (out ..).2.2.2]
  blk_point [iblk, idx_row t]
end

/-! ## The claims -/

theorem frame_reference : Cert.quiescent_AdamPaReferenceIdeal := fun m ρ _ =>
  (θ_run Cert.AdamPaReferenceIdeal.defs _ _).mono (fun r h => ⟨fun c => (h c).2.2.2.2, sem_eq_zero_of_no_sems (by decide) r.2⟩)
    (Cert.AdamPaReferenceIdeal.Value.run m ρ)

section
open Cert.AdamPaReferenceIdeal Cert.AdamPaReferenceIdeal.Gen Cert.AdamPaReferenceIdeal.Read
variable (w m v g h : Vec Ideal S1x4096x512 .f32)

theorem ref : (∀ i : S1x4096x512.Idx, val_main_v0 (F := Ideal) g h i = (gs (g i) (h i)))
    ∧ (∀ i : S1x4096x512.Idx, val_main_v24 (F := Ideal) w g h m v i = dl (w i) (gs (g i) (h i)) (m i) (v i))
    ∧ (∀ i : S1x4096x512.Idx, val_main_v5 (F := Ideal) g h m i = nm (m i) (gs (g i) (h i)))
    ∧ (∀ i : S1x4096x512.Idx, val_main_v11 (F := Ideal) g h v i = nv (v i) (gs (g i) (h i))) := by
  refine ⟨fun i => ?_, fun i => ?_, fun i => ?_, fun i => ?_⟩ <;>
    pointwise [val_main_v24, val_main_v23, val_main_cst_7, val_main_v22, val_main_v21, val_main_v20, val_main_cst_6, val_main_v19, val_main_v18, val_main_v17, val_main_cst_5, val_main_v16, val_main_v15, val_main_v14, val_main_cst_4, val_main_v13, val_main_v12, val_main_cst_3, val_main_v11, val_main_v10, val_main_v9, val_main_cst_2, val_main_v8, val_main_v7, val_main_v6, val_main_cst_1, val_main_v5, val_main_v4, val_main_v3, val_main_cst_0, val_main_v2, val_main_v1, val_main_cst, val_main_v0, gs, nm, nv, dl, con]
end

theorem results : Cert.algebraic_AdamPaIdeal_AdamPaReferenceIdeal := fun m g m' g' _ ha =>
  ⟨_, _, _, _, Cert.AdamPaIdeal.Value.run_blocks m g,
   (θ_run Cert.AdamPaReferenceIdeal.defs _ _).mono
    (fun _ h c => by
      obtain ⟨a0, a1, a2, a3, a4⟩ := ha c
      obtain ⟨h0, h1, h2, h3, h4⟩ := h c
      rw [Cert.AdamPaReferenceIdeal.Read.val_main_v0_eq, a1, a2] at h0
      rw [Cert.AdamPaReferenceIdeal.Read.val_main_v24_eq, a0, a1, a2, a3, a4] at h1
      rw [Cert.AdamPaReferenceIdeal.Read.val_main_v5_eq, a1, a2, a3] at h2
      rw [Cert.AdamPaReferenceIdeal.Read.val_main_v11_eq, a1, a2, a4] at h3
      open Cert.AdamPaIdeal Cert.AdamPaIdeal.Gen in have r := ref (V m c main_arg0) (V m c main_arg3) (V m c main_arg4) (V m c main_arg1) (V m c main_arg2)
      exact ⟨h0.trans ((funext r.1).trans (arr5 m c).symm), h1.trans ((funext r.2.1).trans (arr6 m c).symm),
        h2.trans ((funext r.2.2.1).trans (arr7 m c).symm), h3.trans ((funext r.2.2.2).trans (arr8 m c).symm), h4⟩)
    (Cert.AdamPaReferenceIdeal.Value.run m' g')⟩

end Cert.AdamPaV

end
-- ==== Proof.AdamOutClaims.lean ====
/-
  `adamw_w_out`, the AdamW step of w_out: the call's four result arrays are the gradient summed, the step and the two new moments
  entry by entry, and so are the reference's.
-/
module

public import proofs.«01_k».proof.Defs
public import proofs.«01_k».proof.Proof.Gen.AdamOutIdeal.Value
public import proofs.«01_k».proof.Proof.Gen.AdamOutReferenceIdeal.Run
public import proofs.«01_k».proof.Proof.Gen.AdamOutReferenceIdeal.Read
public import proofs.«01_k».proof.Proof.Adam
public import Idealize.ShloMosaic.Lib.Pipeline.ValueKit
public import Idealize.ShloMosaic.Lib.Pointwise
public import Idealize.ShloMosaic.Lib.Quiescent

@[expose] public section

set_option maxRecDepth 16384

noncomputable section

namespace Cert.AdamOutV

open Cert.Adam
open Idealize.ShloMosaic Idealize.ShloMosaic.TcCoe Idealize.ShloMosaic.Tactic Idealize.ShloMosaic.StableHlo Idealize.SL.Sem
open scoped BigOperators

section
open Cert.AdamOutIdeal Cert.AdamOutIdeal.Gen
variable (m : (ℓ : Loc nD τ sig) → Buf (Elt Ideal) ℓ) (c : Dev nD)

theorem out (w m v g h : Vec Ideal S1x128x2048 .f32) (j : S1x128x2048.Idx) :
    out0_5 (F := Ideal) w m v g h j = (gs (g j) (h j))
    ∧ out0_6 (F := Ideal) w m v g h j = dl (w j) (gs (g j) (h j)) (m j) (v j)
    ∧ out0_7 (F := Ideal) w m v g h j = nm (m j) (gs (g j) (h j))
    ∧ out0_8 (F := Ideal) w m v g h j = nv (v j) (gs (g j) (h j)) := by
  have e0 : out0_5 (F := Ideal) w m v g h = k0_pay2 (F := Ideal) g h := by
    unfold out0_5
    frame_out
  have e1 : out0_6 (F := Ideal) w m v g h = k0_pay1 (F := Ideal) (k0_pay5 (F := Ideal) g h m v w) (k0_pay6 (F := Ideal)) := by
    unfold out0_6
    frame_out
  have e2 : out0_7 (F := Ideal) w m v g h = k0_pay3 (F := Ideal) g h m := by
    unfold out0_7
    frame_out
  have e3 : out0_8 (F := Ideal) w m v g h = k0_pay4 (F := Ideal) g h v := by
    unfold out0_8
    frame_out
  rw [e0, e1, e2, e3]
  refine ⟨?_, ?_, ?_, ?_⟩ <;> pointwise [k0_pay1, k0_pay5, k0_pay6, k0_pay4, k0_pay3, k0_pay2, gs, nm, nv, dl, con]

/-- The point `t` reads and writes block `t`. -/
theorem idx_row : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, _)

theorem arr5 : (dats m 0 c).arrAt 5 cfg0.N = fun i : S1x2048x2048.Idx => (gs (V m c main_arg1 i) (V m c main_arg2 i)) := by
  refine (dats m 0 c).arrAt_eq_of_covers 5 _ (by decide +kernel) fun t hf y => ?_
  blk_simp
  rw [after0_5, (out ..).1]
  blk_point [iblk, idx_row t]
theorem arr6 : (dats m 0 c).arrAt 6 cfg0.N = fun i : S1x2048x2048.Idx => dl (V m c main_arg0 i) (gs (V m c main_arg1 i) (V m c main_arg2 i)) (V m c main_arg3 i) (V m c main_arg4 i) := by
  refine (dats m 0 c).arrAt_eq_of_covers 6 _ (by decide +kernel) fun t hf y => ?_
  blk_simp
  rw [after0_6, (out ..).2.1]
  blk_point [iblk, idx_row t]
theorem arr7 : (dats m 0 c).arrAt 7 cfg0.N = fun i : S1x2048x2048.Idx => nm (V m c main_arg3 i) (gs (V m c main_arg1 i) (V m c main_arg2 i)) := by
  refine (dats m 0 c).arrAt_eq_of_covers 7 _ (by decide +kernel) fun t hf y => ?_
  blk_simp
  rw [after0_7, (out ..).2.2.1]
  blk_point [iblk, idx_row t]
theorem arr8 : (dats m 0 c).arrAt 8 cfg0.N = fun i : S1x2048x2048.Idx => nv (V m c main_arg4 i) (gs (V m c main_arg1 i) (V m c main_arg2 i)) := by
  refine (dats m 0 c).arrAt_eq_of_covers 8 _ (by decide +kernel) fun t hf y => ?_
  blk_simp
  rw [after0_8, (out ..).2.2.2]
  blk_point [iblk, idx_row t]
end

/-! ## The claims -/

theorem frame_reference : Cert.quiescent_AdamOutReferenceIdeal := fun m ρ _ =>
  (θ_run Cert.AdamOutReferenceIdeal.defs _ _).mono (fun r h => ⟨fun c => (h c).2.2.2.2, sem_eq_zero_of_no_sems (by decide) r.2⟩)
    (Cert.AdamOutReferenceIdeal.Value.run m ρ)

section
open Cert.AdamOutReferenceIdeal Cert.AdamOutReferenceIdeal.Gen Cert.AdamOutReferenceIdeal.Read
variable (w m v g h : Vec Ideal S1x2048x2048 .f32)

theorem ref : (∀ i : S1x2048x2048.Idx, val_main_v0 (F := Ideal) g h i = (gs (g i) (h i)))
    ∧ (∀ i : S1x2048x2048.Idx, val_main_v24 (F := Ideal) w g h m v i = dl (w i) (gs (g i) (h i)) (m i) (v i))
    ∧ (∀ i : S1x2048x2048.Idx, val_main_v5 (F := Ideal) g h m i = nm (m i) (gs (g i) (h i)))
    ∧ (∀ i : S1x2048x2048.Idx, val_main_v11 (F := Ideal) g h v i = nv (v i) (gs (g i) (h i))) := by
  refine ⟨fun i => ?_, fun i => ?_, fun i => ?_, fun i => ?_⟩ <;>
    pointwise [val_main_v24, val_main_v23, val_main_cst_7, val_main_v22, val_main_v21, val_main_v20, val_main_cst_6, val_main_v19, val_main_v18, val_main_v17, val_main_cst_5, val_main_v16, val_main_v15, val_main_v14, val_main_cst_4, val_main_v13, val_main_v12, val_main_cst_3, val_main_v11, val_main_v10, val_main_v9, val_main_cst_2, val_main_v8, val_main_v7, val_main_v6, val_main_cst_1, val_main_v5, val_main_v4, val_main_v3, val_main_cst_0, val_main_v2, val_main_v1, val_main_cst, val_main_v0, gs, nm, nv, dl, con]
end

theorem results : Cert.algebraic_AdamOutIdeal_AdamOutReferenceIdeal := fun m g m' g' _ ha =>
  ⟨_, _, _, _, Cert.AdamOutIdeal.Value.run_blocks m g,
   (θ_run Cert.AdamOutReferenceIdeal.defs _ _).mono
    (fun _ h c => by
      obtain ⟨a0, a1, a2, a3, a4⟩ := ha c
      obtain ⟨h0, h1, h2, h3, h4⟩ := h c
      rw [Cert.AdamOutReferenceIdeal.Read.val_main_v0_eq, a1, a2] at h0
      rw [Cert.AdamOutReferenceIdeal.Read.val_main_v24_eq, a0, a1, a2, a3, a4] at h1
      rw [Cert.AdamOutReferenceIdeal.Read.val_main_v5_eq, a1, a2, a3] at h2
      rw [Cert.AdamOutReferenceIdeal.Read.val_main_v11_eq, a1, a2, a4] at h3
      open Cert.AdamOutIdeal Cert.AdamOutIdeal.Gen in have r := ref (V m c main_arg0) (V m c main_arg3) (V m c main_arg4) (V m c main_arg1) (V m c main_arg2)
      exact ⟨h0.trans ((funext r.1).trans (arr5 m c).symm), h1.trans ((funext r.2.1).trans (arr6 m c).symm),
        h2.trans ((funext r.2.2.1).trans (arr7 m c).symm), h3.trans ((funext r.2.2.2).trans (arr8 m c).symm), h4⟩)
    (Cert.AdamOutReferenceIdeal.Value.run m' g')⟩

end Cert.AdamOutV

end
-- ==== Proof.AdamInClaims.lean ====
/-
  `adamw_w_in`, the AdamW step of w_in: the call's four result arrays are the gradient summed, the step and the two new moments
  entry by entry, and so are the reference's.
-/
module

public import proofs.«01_k».proof.Defs
public import proofs.«01_k».proof.Proof.Gen.AdamInIdeal.Value
public import proofs.«01_k».proof.Proof.Gen.AdamInReferenceIdeal.Run
public import proofs.«01_k».proof.Proof.Gen.AdamInReferenceIdeal.Read
public import proofs.«01_k».proof.Proof.Adam
public import Idealize.ShloMosaic.Lib.Pipeline.ValueKit
public import Idealize.ShloMosaic.Lib.Pointwise
public import Idealize.ShloMosaic.Lib.Quiescent

@[expose] public section

set_option maxRecDepth 16384

noncomputable section

namespace Cert.AdamInV

open Cert.Adam
open Idealize.ShloMosaic Idealize.ShloMosaic.TcCoe Idealize.ShloMosaic.Tactic Idealize.ShloMosaic.StableHlo Idealize.SL.Sem
open scoped BigOperators

section
open Cert.AdamInIdeal Cert.AdamInIdeal.Gen
variable (m : (ℓ : Loc nD τ sig) → Buf (Elt Ideal) ℓ) (c : Dev nD)

theorem out (w m v g h : Vec Ideal S1x96x2048 .f32) (j : S1x96x2048.Idx) :
    out0_5 (F := Ideal) w m v g h j = (gs (g j) (h j))
    ∧ out0_6 (F := Ideal) w m v g h j = dl (w j) (gs (g j) (h j)) (m j) (v j)
    ∧ out0_7 (F := Ideal) w m v g h j = nm (m j) (gs (g j) (h j))
    ∧ out0_8 (F := Ideal) w m v g h j = nv (v j) (gs (g j) (h j)) := by
  have e0 : out0_5 (F := Ideal) w m v g h = k0_pay2 (F := Ideal) g h := by
    unfold out0_5
    frame_out
  have e1 : out0_6 (F := Ideal) w m v g h = k0_pay1 (F := Ideal) (k0_pay5 (F := Ideal) g h m v w) (k0_pay6 (F := Ideal)) := by
    unfold out0_6
    frame_out
  have e2 : out0_7 (F := Ideal) w m v g h = k0_pay3 (F := Ideal) g h m := by
    unfold out0_7
    frame_out
  have e3 : out0_8 (F := Ideal) w m v g h = k0_pay4 (F := Ideal) g h v := by
    unfold out0_8
    frame_out
  rw [e0, e1, e2, e3]
  refine ⟨?_, ?_, ?_, ?_⟩ <;> pointwise [k0_pay1, k0_pay5, k0_pay6, k0_pay4, k0_pay3, k0_pay2, gs, nm, nv, dl, con]

/-- The point `t` reads and writes block `t`. -/
theorem idx_row : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ win0_8.index t = ![0, t.val, 0] :=
  (by decide +kernel : ∀ t : Fin grid0.N, _)

theorem arr5 : (dats m 0 c).arrAt 5 cfg0.N = fun i : S1x10272x2048.Idx => (gs (V m c main_arg1 i) (V m c main_arg2 i)) := by
  refine (dats m 0 c).arrAt_eq_of_covers 5 _ (by decide +kernel) fun t hf y => ?_
  blk_simp
  rw [after0_5, (out ..).1]
  blk_point [iblk, idx_row t]
theorem arr6 : (dats m 0 c).arrAt 6 cfg0.N = fun i : S1x10272x2048.Idx => dl (V m c main_arg0 i) (gs (V m c main_arg1 i) (V m c main_arg2 i)) (V m c main_arg3 i) (V m c main_arg4 i) := by
  refine (dats m 0 c).arrAt_eq_of_covers 6 _ (by decide +kernel) fun t hf y => ?_
  blk_simp
  rw [after0_6, (out ..).2.1]
  blk_point [iblk, idx_row t]
theorem arr7 : (dats m 0 c).arrAt 7 cfg0.N = fun i : S1x10272x2048.Idx => nm (V m c main_arg3 i) (gs (V m c main_arg1 i) (V m c main_arg2 i)) := by
  refine (dats m 0 c).arrAt_eq_of_covers 7 _ (by decide +kernel) fun t hf y => ?_
  blk_simp
  rw [after0_7, (out ..).2.2.1]
  blk_point [iblk, idx_row t]
theorem arr8 : (dats m 0 c).arrAt 8 cfg0.N = fun i : S1x10272x2048.Idx => nv (V m c main_arg4 i) (gs (V m c main_arg1 i) (V m c main_arg2 i)) := by
  refine (dats m 0 c).arrAt_eq_of_covers 8 _ (by decide +kernel) fun t hf y => ?_
  blk_simp
  rw [after0_8, (out ..).2.2.2]
  blk_point [iblk, idx_row t]
end

/-! ## The claims -/

theorem frame_reference : Cert.quiescent_AdamInReferenceIdeal := fun m ρ _ =>
  (θ_run Cert.AdamInReferenceIdeal.defs _ _).mono (fun r h => ⟨fun c => (h c).2.2.2.2, sem_eq_zero_of_no_sems (by decide) r.2⟩)
    (Cert.AdamInReferenceIdeal.Value.run m ρ)

section
open Cert.AdamInReferenceIdeal Cert.AdamInReferenceIdeal.Gen Cert.AdamInReferenceIdeal.Read
variable (w m v g h : Vec Ideal S1x10272x2048 .f32)

theorem ref : (∀ i : S1x10272x2048.Idx, val_main_v0 (F := Ideal) g h i = (gs (g i) (h i)))
    ∧ (∀ i : S1x10272x2048.Idx, val_main_v24 (F := Ideal) w g h m v i = dl (w i) (gs (g i) (h i)) (m i) (v i))
    ∧ (∀ i : S1x10272x2048.Idx, val_main_v5 (F := Ideal) g h m i = nm (m i) (gs (g i) (h i)))
    ∧ (∀ i : S1x10272x2048.Idx, val_main_v11 (F := Ideal) g h v i = nv (v i) (gs (g i) (h i))) := by
  refine ⟨fun i => ?_, fun i => ?_, fun i => ?_, fun i => ?_⟩ <;>
    pointwise [val_main_v24, val_main_v23, val_main_cst_7, val_main_v22, val_main_v21, val_main_v20, val_main_cst_6, val_main_v19, val_main_v18, val_main_v17, val_main_cst_5, val_main_v16, val_main_v15, val_main_v14, val_main_cst_4, val_main_v13, val_main_v12, val_main_cst_3, val_main_v11, val_main_v10, val_main_v9, val_main_cst_2, val_main_v8, val_main_v7, val_main_v6, val_main_cst_1, val_main_v5, val_main_v4, val_main_v3, val_main_cst_0, val_main_v2, val_main_v1, val_main_cst, val_main_v0, gs, nm, nv, dl, con]
end

theorem results : Cert.algebraic_AdamInIdeal_AdamInReferenceIdeal := fun m g m' g' _ ha =>
  ⟨_, _, _, _, Cert.AdamInIdeal.Value.run_blocks m g,
   (θ_run Cert.AdamInReferenceIdeal.defs _ _).mono
    (fun _ h c => by
      obtain ⟨a0, a1, a2, a3, a4⟩ := ha c
      obtain ⟨h0, h1, h2, h3, h4⟩ := h c
      rw [Cert.AdamInReferenceIdeal.Read.val_main_v0_eq, a1, a2] at h0
      rw [Cert.AdamInReferenceIdeal.Read.val_main_v24_eq, a0, a1, a2, a3, a4] at h1
      rw [Cert.AdamInReferenceIdeal.Read.val_main_v5_eq, a1, a2, a3] at h2
      rw [Cert.AdamInReferenceIdeal.Read.val_main_v11_eq, a1, a2, a4] at h3
      open Cert.AdamInIdeal Cert.AdamInIdeal.Gen in have r := ref (V m c main_arg0) (V m c main_arg3) (V m c main_arg4) (V m c main_arg1) (V m c main_arg2)
      exact ⟨h0.trans ((funext r.1).trans (arr5 m c).symm), h1.trans ((funext r.2.1).trans (arr6 m c).symm),
        h2.trans ((funext r.2.2.1).trans (arr7 m c).symm), h3.trans ((funext r.2.2.2).trans (arr8 m c).symm), h4⟩)
    (Cert.AdamInReferenceIdeal.Value.run m' g')⟩

end Cert.AdamInV

end
-- ==== Proof.AdamConvClaims.lean ====
/-
  `adamw_conv_w`, the AdamW step of conv_w: the call's four result arrays are the gradient summed, the step and the two new moments
  entry by entry, and so are the reference's.
-/
module

public import proofs.«01_k».proof.Defs
public import proofs.«01_k».proof.Proof.Gen.AdamConvIdeal.Value
public import proofs.«01_k».proof.Proof.Gen.AdamConvReferenceIdeal.Run
public import proofs.«01_k».proof.Proof.Gen.AdamConvReferenceIdeal.Read
public import proofs.«01_k».proof.Proof.Adam
public import Idealize.ShloMosaic.Lib.Pipeline.ValueKit
public import Idealize.ShloMosaic.Lib.Pointwise
public import Idealize.ShloMosaic.Lib.Quiescent

@[expose] public section

set_option maxRecDepth 16384

noncomputable section

namespace Cert.AdamConvV

open Cert.Adam
open Idealize.ShloMosaic Idealize.ShloMosaic.TcCoe Idealize.ShloMosaic.Tactic Idealize.ShloMosaic.StableHlo Idealize.SL.Sem
open scoped BigOperators

section
open Cert.AdamConvIdeal Cert.AdamConvIdeal.Gen
variable (m : (ℓ : Loc nD τ sig) → Buf (Elt Ideal) ℓ) (c : Dev nD)

theorem out (w m v g h : Vec Ideal S1x5x768 .f32) (j : S1x5x768.Idx) :
    out0_5 (F := Ideal) w m v g h j = (gs (g j) (h j))
    ∧ out0_6 (F := Ideal) w m v g h j = dl (w j) (gs (g j) (h j)) (m j) (v j)
    ∧ out0_7 (F := Ideal) w m v g h j = nm (m j) (gs (g j) (h j))
    ∧ out0_8 (F := Ideal) w m v g h j = nv (v j) (gs (g j) (h j)) := by
  have e0 : out0_5 (F := Ideal) w m v g h = k0_pay2 (F := Ideal) g h := by
    unfold out0_5
    frame_out
  have e1 : out0_6 (F := Ideal) w m v g h = k0_pay1 (F := Ideal) (k0_pay5 (F := Ideal) g h m v w) (k0_pay6 (F := Ideal)) := by
    unfold out0_6
    frame_out
  have e2 : out0_7 (F := Ideal) w m v g h = k0_pay3 (F := Ideal) g h m := by
    unfold out0_7
    frame_out
  have e3 : out0_8 (F := Ideal) w m v g h = k0_pay4 (F := Ideal) g h v := by
    unfold out0_8
    frame_out
  rw [e0, e1, e2, e3]
  refine ⟨?_, ?_, ?_, ?_⟩ <;> pointwise [k0_pay1, k0_pay5, k0_pay6, k0_pay4, k0_pay3, k0_pay2, gs, nm, nv, dl, con]

/-- The point `t` reads and writes block `t`. -/
theorem idx_row : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

theorem arr5 : (dats m 0 c).arrAt 5 cfg0.N = fun i : S4x5x768.Idx => (gs (V m c main_arg1 i) (V m c main_arg2 i)) := by
  refine (dats m 0 c).arrAt_eq_of_covers 5 _ (by decide +kernel) fun t hf y => ?_
  blk_simp
  rw [after0_5, (out ..).1]
  blk_point [iblk, idx_row t]
theorem arr6 : (dats m 0 c).arrAt 6 cfg0.N = fun i : S4x5x768.Idx => dl (V m c main_arg0 i) (gs (V m c main_arg1 i) (V m c main_arg2 i)) (V m c main_arg3 i) (V m c main_arg4 i) := by
  refine (dats m 0 c).arrAt_eq_of_covers 6 _ (by decide +kernel) fun t hf y => ?_
  blk_simp
  rw [after0_6, (out ..).2.1]
  blk_point [iblk, idx_row t]
theorem arr7 : (dats m 0 c).arrAt 7 cfg0.N = fun i : S4x5x768.Idx => nm (V m c main_arg3 i) (gs (V m c main_arg1 i) (V m c main_arg2 i)) := by
  refine (dats m 0 c).arrAt_eq_of_covers 7 _ (by decide +kernel) fun t hf y => ?_
  blk_simp
  rw [after0_7, (out ..).2.2.1]
  blk_point [iblk, idx_row t]
theorem arr8 : (dats m 0 c).arrAt 8 cfg0.N = fun i : S4x5x768.Idx => nv (V m c main_arg4 i) (gs (V m c main_arg1 i) (V m c main_arg2 i)) := by
  refine (dats m 0 c).arrAt_eq_of_covers 8 _ (by decide +kernel) fun t hf y => ?_
  blk_simp
  rw [after0_8, (out ..).2.2.2]
  blk_point [iblk, idx_row t]
end

/-! ## The claims -/

theorem frame_reference : Cert.quiescent_AdamConvReferenceIdeal := fun m ρ _ =>
  (θ_run Cert.AdamConvReferenceIdeal.defs _ _).mono (fun r h => ⟨fun c => (h c).2.2.2.2, sem_eq_zero_of_no_sems (by decide) r.2⟩)
    (Cert.AdamConvReferenceIdeal.Value.run m ρ)

section
open Cert.AdamConvReferenceIdeal Cert.AdamConvReferenceIdeal.Gen Cert.AdamConvReferenceIdeal.Read
variable (w m v g h : Vec Ideal S4x5x768 .f32)

theorem ref : (∀ i : S4x5x768.Idx, val_main_v0 (F := Ideal) g h i = (gs (g i) (h i)))
    ∧ (∀ i : S4x5x768.Idx, val_main_v24 (F := Ideal) w g h m v i = dl (w i) (gs (g i) (h i)) (m i) (v i))
    ∧ (∀ i : S4x5x768.Idx, val_main_v5 (F := Ideal) g h m i = nm (m i) (gs (g i) (h i)))
    ∧ (∀ i : S4x5x768.Idx, val_main_v11 (F := Ideal) g h v i = nv (v i) (gs (g i) (h i))) := by
  refine ⟨fun i => ?_, fun i => ?_, fun i => ?_, fun i => ?_⟩ <;>
    pointwise [val_main_v24, val_main_v23, val_main_cst_7, val_main_v22, val_main_v21, val_main_v20, val_main_cst_6, val_main_v19, val_main_v18, val_main_v17, val_main_cst_5, val_main_v16, val_main_v15, val_main_v14, val_main_cst_4, val_main_v13, val_main_v12, val_main_cst_3, val_main_v11, val_main_v10, val_main_v9, val_main_cst_2, val_main_v8, val_main_v7, val_main_v6, val_main_cst_1, val_main_v5, val_main_v4, val_main_v3, val_main_cst_0, val_main_v2, val_main_v1, val_main_cst, val_main_v0, gs, nm, nv, dl, con]
end

theorem results : Cert.algebraic_AdamConvIdeal_AdamConvReferenceIdeal := fun m g m' g' _ ha =>
  ⟨_, _, _, _, Cert.AdamConvIdeal.Value.run_blocks m g,
   (θ_run Cert.AdamConvReferenceIdeal.defs _ _).mono
    (fun _ h c => by
      obtain ⟨a0, a1, a2, a3, a4⟩ := ha c
      obtain ⟨h0, h1, h2, h3, h4⟩ := h c
      rw [Cert.AdamConvReferenceIdeal.Read.val_main_v0_eq, a1, a2] at h0
      rw [Cert.AdamConvReferenceIdeal.Read.val_main_v24_eq, a0, a1, a2, a3, a4] at h1
      rw [Cert.AdamConvReferenceIdeal.Read.val_main_v5_eq, a1, a2, a3] at h2
      rw [Cert.AdamConvReferenceIdeal.Read.val_main_v11_eq, a1, a2, a4] at h3
      open Cert.AdamConvIdeal Cert.AdamConvIdeal.Gen in have r := ref (V m c main_arg0) (V m c main_arg3) (V m c main_arg4) (V m c main_arg1) (V m c main_arg2)
      exact ⟨h0.trans ((funext r.1).trans (arr5 m c).symm), h1.trans ((funext r.2.1).trans (arr6 m c).symm),
        h2.trans ((funext r.2.2.1).trans (arr7 m c).symm), h3.trans ((funext r.2.2.2).trans (arr8 m c).symm), h4⟩)
    (Cert.AdamConvReferenceIdeal.Value.run m' g')⟩

end Cert.AdamConvV

end
-- ==== Proof.AdamSmallClaims.lean ====
/-
  `adamw_small`, the AdamW step of the packed small weights: the call's four result arrays are the gradient, the step and the two new moments
  entry by entry, and so are the reference's.
-/
module

public import proofs.«01_k».proof.Defs
public import proofs.«01_k».proof.Proof.Gen.AdamSmallIdeal.Value
public import proofs.«01_k».proof.Proof.Gen.AdamSmallReferenceIdeal.Run
public import proofs.«01_k».proof.Proof.Gen.AdamSmallReferenceIdeal.Read
public import proofs.«01_k».proof.Proof.Adam
public import Idealize.ShloMosaic.Lib.Pipeline.ValueKit
public import Idealize.ShloMosaic.Lib.Pointwise
public import Idealize.ShloMosaic.Lib.Quiescent

@[expose] public section

set_option maxRecDepth 16384

noncomputable section

namespace Cert.AdamSmallV

open Cert.Adam
open Idealize.ShloMosaic Idealize.ShloMosaic.TcCoe Idealize.ShloMosaic.Tactic Idealize.ShloMosaic.StableHlo Idealize.SL.Sem
open scoped BigOperators

section
open Cert.AdamSmallIdeal Cert.AdamSmallIdeal.Gen
variable (m : (ℓ : Loc nD τ sig) → Buf (Elt Ideal) ℓ) (c : Dev nD)

theorem out (w m v g : Vec Ideal S1x1088x128 .f32) (j : S1x1088x128.Idx) :
    out0_4 (F := Ideal) w m v g j = (g j)
    ∧ out0_5 (F := Ideal) w m v g j = dl (w j) (g j) (m j) (v j)
    ∧ out0_6 (F := Ideal) w m v g j = nm (m j) (g j)
    ∧ out0_7 (F := Ideal) w m v g j = nv (v j) (g j) := by
  have e0 : out0_4 (F := Ideal) w m v g = g := by
    unfold out0_4
    frame_out
  have e1 : out0_5 (F := Ideal) w m v g = k0_pay3 (F := Ideal) g m v w := by
    unfold out0_5
    frame_out
  have e2 : out0_6 (F := Ideal) w m v g = k0_pay1 (F := Ideal) g m := by
    unfold out0_6
    frame_out
  have e3 : out0_7 (F := Ideal) w m v g = k0_pay2 (F := Ideal) g v := by
    unfold out0_7
    frame_out
  rw [e0, e1, e2, e3]
  refine ⟨rfl, ?_, ?_, ?_⟩ <;> pointwise [k0_pay3, k0_pay1, k0_pay2, nm, nv, dl, con]

/-- The point `t` reads and writes block `t`. -/
theorem idx_row : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

theorem arr4 : (dats m 0 c).arrAt 4 cfg0.N = fun i : S1x17408x128.Idx => (V m c main_arg1 i) := by
  refine (dats m 0 c).arrAt_eq_of_covers 4 _ (by decide +kernel) fun t hf y => ?_
  blk_simp
  rw [after0_4, (out ..).1]
  blk_point [iblk, idx_row t]
theorem arr5 : (dats m 0 c).arrAt 5 cfg0.N = fun i : S1x17408x128.Idx => dl (V m c main_arg0 i) (V m c main_arg1 i) (V m c main_arg2 i) (V m c main_arg3 i) := by
  refine (dats m 0 c).arrAt_eq_of_covers 5 _ (by decide +kernel) fun t hf y => ?_
  blk_simp
  rw [after0_5, (out ..).2.1]
  blk_point [iblk, idx_row t]
theorem arr6 : (dats m 0 c).arrAt 6 cfg0.N = fun i : S1x17408x128.Idx => nm (V m c main_arg2 i) (V m c main_arg1 i) := by
  refine (dats m 0 c).arrAt_eq_of_covers 6 _ (by decide +kernel) fun t hf y => ?_
  blk_simp
  rw [after0_6, (out ..).2.2.1]
  blk_point [iblk, idx_row t]
theorem arr7 : (dats m 0 c).arrAt 7 cfg0.N = fun i : S1x17408x128.Idx => nv (V m c main_arg3 i) (V m c main_arg1 i) := by
  refine (dats m 0 c).arrAt_eq_of_covers 7 _ (by decide +kernel) fun t hf y => ?_
  blk_simp
  rw [after0_7, (out ..).2.2.2]
  blk_point [iblk, idx_row t]
end

/-! ## The claims -/

theorem frame_reference : Cert.quiescent_AdamSmallReferenceIdeal := fun m ρ _ =>
  (θ_run Cert.AdamSmallReferenceIdeal.defs _ _).mono (fun r h => ⟨fun c => (h c).2.2.2.2, sem_eq_zero_of_no_sems (by decide) r.2⟩)
    (Cert.AdamSmallReferenceIdeal.Value.run m ρ)

section
open Cert.AdamSmallReferenceIdeal Cert.AdamSmallReferenceIdeal.Gen Cert.AdamSmallReferenceIdeal.Read
variable (w m v g : Vec Ideal S1x17408x128 .f32)

theorem ref : (∀ i : S1x17408x128.Idx, val_main_v23 (F := Ideal) w g m v i = dl (w i) (g i) (m i) (v i))
    ∧ (∀ i : S1x17408x128.Idx, val_main_v4 (F := Ideal) g m i = nm (m i) (g i))
    ∧ (∀ i : S1x17408x128.Idx, val_main_v10 (F := Ideal) g v i = nv (v i) (g i)) := by
  refine ⟨fun i => ?_, fun i => ?_, fun i => ?_⟩ <;>
    pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst, nm, nv, dl, con]
end

theorem results : Cert.algebraic_AdamSmallIdeal_AdamSmallReferenceIdeal := fun m g m' g' _ ha =>
  ⟨_, _, _, _, Cert.AdamSmallIdeal.Value.run_blocks m g,
   (θ_run Cert.AdamSmallReferenceIdeal.defs _ _).mono
    (fun _ h c => by
      obtain ⟨a0, a1, a2, a3⟩ := ha c
      obtain ⟨h0, h1, h2, h3, h4⟩ := h c
      rw [a1] at h0
      rw [Cert.AdamSmallReferenceIdeal.Read.val_main_v23_eq, a0, a1, a2, a3] at h1
      rw [Cert.AdamSmallReferenceIdeal.Read.val_main_v4_eq, a1, a2] at h2
      rw [Cert.AdamSmallReferenceIdeal.Read.val_main_v10_eq, a1, a3] at h3
      open Cert.AdamSmallIdeal Cert.AdamSmallIdeal.Gen in have r := ref (V m c main_arg0) (V m c main_arg2) (V m c main_arg3) (V m c main_arg1)
      exact ⟨h0.trans (arr4 m c).symm, h1.trans ((funext r.1).trans (arr5 m c).symm),
        h2.trans ((funext r.2.1).trans (arr6 m c).symm), h3.trans ((funext r.2.2).trans (arr7 m c).symm), h4⟩)
    (Cert.AdamSmallReferenceIdeal.Value.run m' g')⟩

end Cert.AdamSmallV

end
-- ==== Proof.LossClaims.lean ====
/-
  `final_loss`, the last norm and the loss: half of the sum, over the rows, of the mean of (norm(x) − target)², and its gradients.
  The call adds the loss up block by block, each block's half taken by itself, and differentiates the square as a product; the
  reference takes the half of the whole sum, and differentiates the square. The results are the same, for all arguments.
-/
module

public import proofs.«01_k».proof.Defs
public import proofs.«01_k».proof.Proof.Gen.LossIdeal.Value
public import proofs.«01_k».proof.Proof.Gen.LossReferenceIdeal.Run
public import proofs.«01_k».proof.Proof.Gen.LossReferenceIdeal.Read
public import proofs.«01_k».proof.Proof.NormClaims

@[expose] public section

set_option maxRecDepth 16384

noncomputable section

namespace Cert.LossV

open Cert.Mat
open Cert.NormFwdV (con ms rs nx)
open Cert.NormV (gh sq gg)
open Idealize.ShloMosaic Idealize.ShloMosaic.TcCoe Idealize.ShloMosaic.Tactic Idealize.ShloMosaic.StableHlo Idealize.SL.Sem
open scoped BigOperators

/-- The error at `(r, k)`. -/
def er {n : ℕ} (x : Mat n 2048) (g : Mat 1 2048) (y : Mat n 2048) (r : Fin n) (k : Fin 2048) : EReal := nx x g r k - y (ix2 r k)
/-- The mean of the squares of the errors of row `r`. -/
def mn {n : ℕ} (x : Mat n 2048) (g : Mat 1 2048) (y : Mat n 2048) (r : Fin n) : EReal :=
  Ideal.div (∑ k : Fin 2048, er x g y r k * er x g y r k) (con 0x45000000#32)
/-- The gradient of one square. -/
def ct : EReal := Ideal.div (con 0x3F000000#32 * con 0x3F800000#32) (con 0x45000000#32)
/-- The gradient of the loss at the normed entry `(r, k)`. -/
def dr {n : ℕ} (x : Mat n 2048) (g : Mat 1 2048) (y : Mat n 2048) (r : Fin n) (k : Fin 2048) : EReal := er x g y r k * ct + ct * er x g y r k
/-- Its matrix. -/
def de {n : ℕ} (x : Mat n 2048) (g : Mat 1 2048) (y : Mat n 2048) : Mat n 2048 := fun i => dr x g y (i 0) (i 1)
/-- The gradient of x at `(r, k)` from the gradient `d` at the normed entries. -/
def gx {n : ℕ} (x : Mat n 2048) (g : Mat 1 2048) (d : Mat n 2048) (r : Fin n) (k : Fin 2048) : EReal :=
  gh g d r k * rs x r + x (ix2 r k) * sq x g d r + sq x g d r * x (ix2 r k)

theorem con_two : con 0x40000000#32 = 1 + 1 := by
  have h : con 0x40000000#32 = ((2 : ℝ) : EReal) := by
    simp [con, Ideal.ofBits, Ideal.ieee, -EReal.coe_mul]; norm_num
  rw [h, ← EReal.coe_one, ← EReal.coe_add]
  norm_num
theorem con_half : con 0x3F000000#32 = ((1 / 2 : ℝ) : EReal) := by
  simp [con, Ideal.ofBits, Ideal.ieee, -EReal.coe_mul]; norm_num

/-- The square's derivative, once for each factor. -/
theorem twice (a e : EReal) : a * (con 0x40000000#32 * e) = e * a + a * e := by
  rw [con_two, mul_left_comm, EReal.right_distrib_of_nonneg zero_le_one zero_le_one, one_mul, mul_comm e a]

/-- The half of a sum. -/
theorem half_sum {n : ℕ} (f : Fin n → EReal) : ∑ s, con 0x3F000000#32 * f s = con 0x3F000000#32 * ∑ s, f s := by
  have h0 : (0 : EReal) ≤ con 0x3F000000#32 := by rw [con_half]; exact EReal.coe_nonneg.mpr (by norm_num)
  have h1 : con 0x3F000000#32 ≠ ⊤ := by rw [con_half]; exact EReal.coe_ne_top _
  generalize con 0x3F000000#32 = a at h0 h1
  induction n with
  | zero => simp only [Fin.sum_univ_zero, mul_zero]
  | succ n ih => rw [Fin.sum_univ_castSucc, Fin.sum_univ_castSucc, EReal.left_distrib_of_nonneg_of_ne_top h0 h1, ih]

section
open Cert.LossIdeal Cert.LossIdeal.Gen
variable (m : (ℓ : Loc nD τ sig) → Buf (Elt Ideal) ℓ) (c : Dev nD)

/-- The arguments, and their blocks at the point `t`. -/
abbrev X : Mat 2048 2048 := V m c main_arg0
abbrev G : Mat 1 2048 := V m c main_arg1
abbrev Y : Mat 2048 2048 := V m c main_arg2
abbrev bX (t : Fin cfg0.N) : Mat 256 2048 := iblk m c 0 t
abbrev bG (t : Fin cfg0.N) : Mat 1 2048 := iblk m c 1 t
abbrev bY (t : Fin cfg0.N) : Mat 256 2048 := iblk m c 2 t

section
variable (x y : Vec Ideal S256x2048 .f32) (g : Vec Ideal S1x2048 .f32)

theorem pay6_apply (j : S256x1.Idx) : k0_pay6 (F := Ideal) x j = ms x (j 0) := by
  pointwise [k0_pay6, ms, con]
theorem pay7_apply (j : S256x1.Idx) : k0_pay7 (F := Ideal) x j = rs x (j 0) := by
  pointwise [k0_pay7, pay6_apply, rs]
theorem pay10_apply (j : S256x2048.Idx) : k0_pay10 (F := Ideal) y x g j = er x g y (j 0) (j 1) := by
  pointwise [k0_pay10, k0_pay9, pay7_apply, er, nx]
theorem pay12_apply (j : S256x2048.Idx) : k0_pay12 (F := Ideal) y x g j = de x g y j := by
  show _ = dr x g y (j 0) (j 1)
  pointwise [k0_pay12, pay10_apply, dr, ct, con]
theorem pay13_apply (j : S1x2048.Idx) : k0_pay13 (F := Ideal) y x g j = ∑ k : Fin 256, gg x (de x g y) k (j 1) := by
  pointwise [k0_pay13, k0_pay9, pay7_apply, pay12_apply, gg]
theorem pay5_apply (z : Vec Ideal S8x128 .f32) (j : S8x128.Idx) :
    k0_pay5 (F := Ideal) (k0_pay11 (F := Ideal) y x g) z j = z j + con 0x3F000000#32 * ∑ k : Fin 256, mn x g y k := by
  pointwise [k0_pay5, k0_pay11, pay10_apply, mn, con]
theorem pay1_apply (j : S256x2048.Idx) :
    k0_pay1 (F := Ideal) x (k0_pay7 (F := Ideal) x) (k0_pay8 (F := Ideal) x) (k0_pay12 (F := Ideal) y x g) (k0_pay14 (F := Ideal) g) j = gx x g (de x g y) (j 0) (j 1) := by
  pointwise [k0_pay1, k0_pay8, k0_pay14, pay7_apply, pay6_apply, pay12_apply, gx, NormV.sq, gh, con]
  simp only [Fin.sum_univ_one]
end

theorem out_3 (t : Fin cfg0.N) : (outsAt0 m c t.val t.isLt).1 = k0_pay1 (F := Ideal) (iblk m c 0 t) (k0_pay7 (F := Ideal) (iblk m c 0 t)) (k0_pay8 (F := Ideal) (iblk m c 0 t))
    (k0_pay12 (F := Ideal) (iblk m c 2 t) (iblk m c 0 t) (iblk m c 1 t)) (k0_pay14 (F := Ideal) (iblk m c 1 t)) := by
  by_cases h : t.val % 8 = 0
  · rw [outsAt0_A m c t h]
    frame_out
  · rw [outsAt0_B m c t h]
    frame_out

/-- A block's share of the gradient of g, and of the loss. -/
abbrev part (t : Fin cfg0.N) : S1x2048.Idx → EReal := fun j => ∑ k : Fin 256, gg (bX m c t) (de (bX m c t) (bG m c t) (bY m c t)) k (j 1)
abbrev half (t : Fin cfg0.N) : S8x128.Idx → EReal := fun _ => con 0x3F000000#32 * ∑ k : Fin 256, mn (bX m c t) (bG m c t) (bY m c t) k

theorem acc_A (t : Fin cfg0.N) (h : t.val % 8 = 0) :
    (∀ j : S1x2048.Idx, (outsAt0 m c t.val t.isLt).2.1 j = 0 + part m c t j) ∧ ∀ j : S8x128.Idx, (outsAt0 m c t.val t.isLt).2.2 j = 0 + half m c t j := by
  rw [outsAt0_A m c t h]
  refine ⟨fun j => ?_, fun j => ?_⟩
  · frame_out
    pointwise [k0_pay4, k0_pay2, pay13_apply, part]
  · frame_out
    rw [pay5_apply]
    pointwise [k0_pay3, half]
theorem acc_B (t : Fin cfg0.N) (h : ¬t.val % 8 = 0) :
    (∀ j : S1x2048.Idx, (outsAt0 m c t.val t.isLt).2.1 j = (outsAt0 m c (t.val - 1) (Nat.lt_of_le_of_lt (Nat.sub_le _ _) t.isLt)).2.1 j + part m c t j)
    ∧ ∀ j : S8x128.Idx, (outsAt0 m c t.val t.isLt).2.2 j = (outsAt0 m c (t.val - 1) (Nat.lt_of_le_of_lt (Nat.sub_le _ _) t.isLt)).2.2 j + half m c t j := by
  rw [outsAt0_B m c t h]
  refine ⟨fun j => ?_, fun j => ?_⟩
  · frame_out
    pointwise [k0_pay4, pay13_apply, part]
  · frame_out
    rw [pay5_apply]

theorem acc_eq (t : Fin cfg0.N) (ht : t.val % 8 = 7) :
    (∀ j : S1x2048.Idx, (outsAt0 m c t.val t.isLt).2.1 j = ∑ s : Fin 8, part m c ⟨8 * (t.val / 8) + s.val, by have := t.isLt; have := s.isLt; have hN := N_0; omega⟩ j)
    ∧ ∀ j : S8x128.Idx, (outsAt0 m c t.val t.isLt).2.2 j = ∑ s : Fin 8, half m c ⟨8 * (t.val / 8) + s.val, by have := t.isLt; have := s.isLt; have hN := N_0; omega⟩ j :=
  ⟨fun j => (Pipeline.eq_sum_fin_of_reset_step_apply_of_flush (M := EReal) (fun n h => (outsAt0 m c n h).2.1) 8 (fun _ => 0) (part m c)
    (fun t h => (acc_A m c t h).1) (fun t h => (acc_B m c t h).1) t ht j).trans (zero_add _),
   fun j => (Pipeline.eq_sum_fin_of_reset_step_apply_of_flush (M := EReal) (fun n h => (outsAt0 m c n h).2.2) 8 (fun _ => 0) (half m c)
    (fun t h => (acc_A m c t h).2) (fun t h => (acc_B m c t h).2) t ht j).trans (zero_add _)⟩

/-- The point `t` reads and writes the rows of block `t`, and the whole of g, of its gradient and of the loss. -/
theorem idx_row : ∀ t : Fin cfg0.N, win0_0.index t = ![t.val, 0] ∧ win0_2.index t = ![t.val, 0] ∧ win0_3.index t = ![t.val, 0]
    ∧ win0_1.index t = ![0, 0] ∧ win0_4.index t = ![0, 0] ∧ win0_5.index t = ![0, 0] :=
  (by decide +kernel : ∀ t : Fin grid0.N, _)

section
variable (t : Fin cfg0.N) (r : Fin 256) (k : Fin 2048) (l : Fin 2048) (hl : l.val = t.val * 256 + r.val)
include hl
theorem x_blk : bX m c t (ix2 r k) = X m c (ix2 l k) := by
  blk_point [iblk, (idx_row t).1]
theorem y_blk : bY m c t (ix2 r k) = Y m c (ix2 l k) := by
  blk_point [iblk, (idx_row t).2.1]
omit hl in
theorem g_blk : bG m c t (ix2 0 k) = G m c (ix2 0 k) := by
  blk_point [iblk, (idx_row t).2.2.2.1]
theorem er_blk : er (bX m c t) (bG m c t) (bY m c t) r k = er (X m c) (G m c) (Y m c) l k := by
  simp only [er, nx, rs, ms, x_blk m c t r _ l hl, y_blk m c t r _ l hl, g_blk m c t]
theorem mn_blk : mn (bX m c t) (bG m c t) (bY m c t) r = mn (X m c) (G m c) (Y m c) l := by
  simp only [mn, er_blk m c t r _ l hl]
theorem de_blk : de (bX m c t) (bG m c t) (bY m c t) (ix2 r k) = de (X m c) (G m c) (Y m c) (ix2 l k) := by
  show dr (bX m c t) (bG m c t) (bY m c t) r k = dr (X m c) (G m c) (Y m c) l k
  simp only [dr, er_blk m c t r _ l hl]
theorem gg_blk (k' : Fin 2048) (hk : k' = k) : gg (bX m c t) (de (bX m c t) (bG m c t) (bY m c t)) r k = gg (X m c) (de (X m c) (G m c) (Y m c)) l k' := by
  subst hk
  simp only [gg, rs, ms, x_blk m c t r _ l hl, de_blk m c t r _ l hl]
theorem gx_blk (k' : Fin 2048) (hk : k' = k) : gx (bX m c t) (bG m c t) (de (bX m c t) (bG m c t) (bY m c t)) r k = gx (X m c) (G m c) (de (X m c) (G m c) (Y m c)) l k' := by
  subst hk
  simp only [gx, gh, NormV.sq, rs, ms, x_blk m c t r _ l hl, de_blk m c t r _ l hl, g_blk m c t]
end

theorem arr3 : (dats m 0 c).arrAt 3 cfg0.N = fun i => gx (X m c) (G m c) (de (X m c) (G m c) (Y m c)) (i 0) (i 1) := by
  refine (dats m 0 c).arrAt_eq_of_covers 3 _ (by decide +kernel) fun t hf y => ?_
  have e3 := (idx_row t).2.2.1
  blk_simp
  rw [after0_3, out_3, pay1_apply]
  refine gx_blk m c t _ _ _ ?_ _ ?_
  · blk_point [e3]
  · refine Fin.ext ?_
    blk_point [e3]

theorem arr4 : (dats m 0 c).arrAt 4 cfg0.N = fun i => ∑ l : Fin 2048, gg (X m c) (de (X m c) (G m c) (Y m c)) l (i 1) := by
  refine (dats m 0 c).arrAt_eq_of_covers 4 _ (by decide +kernel) fun t hf y => ?_
  have ht := (flush0_4 t).mp hf
  have e4 := (idx_row t).2.2.2.2.1
  blk_simp
  rw [after0_4, (acc_eq m c t ht).1]
  refine Fin.sum_mul_add_congr fun s k hl => ?_
  generalize hp : (⟨8 * (t.val / 8) + s.val, _⟩ : Fin cfg0.N) = p
  have hps : p.val = s.val := by have hN : t.val < 8 := lt_of_lt_of_eq t.isLt (show cfg0.N = 8 from N_0); rw [← hp]; simp only; omega
  refine gg_blk m c p k _ _ (by rw [hps]) _ (Fin.ext ?_)
  blk_point [e4]

theorem arr5 : (dats m 0 c).arrAt 5 cfg0.N = fun _ => con 0x3F000000#32 * ∑ l : Fin 2048, mn (X m c) (G m c) (Y m c) l := by
  refine (dats m 0 c).arrAt_eq_of_covers 5 _ (by decide +kernel) fun t hf y => ?_
  have ht := (flush0_5 t).mp hf
  blk_simp
  rw [after0_5, (acc_eq m c t ht).2]
  refine (half_sum _).trans (congrArg _ (Fin.sum_mul_add_congr fun s k hl => ?_))
  generalize hp : (⟨8 * (t.val / 8) + s.val, _⟩ : Fin cfg0.N) = p
  have hps : p.val = s.val := by have hN : t.val < 8 := lt_of_lt_of_eq t.isLt (show cfg0.N = 8 from N_0); rw [← hp]; simp only; omega
  exact mn_blk m c p k _ (by rw [hps])
end

/-! ## The claims -/

theorem frame_reference : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run m ρ)

section
open Cert.LossReferenceIdeal Cert.LossReferenceIdeal.Gen Cert.LossReferenceIdeal.Read
variable (x : Vec Ideal S2048x2048 .f32) (g : Vec Ideal S1x2048 .f32) (y : Vec Ideal S2048x2048 .f32)

theorem ref_ms (i : S2048x1.Idx) : val_main_v6 (F := Ideal) x i = ms x (i 0) := by
  pointwise [val_main_v6, val_main_v5, val_main_cst_1, val_main_v4, val_main_v3, val_main_cst_0, val_main_v2, val_main_v1, val_main_cst, val_main_v0, ms, con]
theorem ref_rs (i : S2048x1.Idx) : val_main_v7 (F := Ideal) x i = rs x (i 0) := by
  pointwise [val_main_v7, ref_ms, rs]
theorem ref_er (i : S2048x2048.Idx) : val_main_v15 (F := Ideal) x g y i = er x g y (i 0) (i 1) := by
  pointwise [val_main_v15, val_main_v14, val_main_v13, val_main_v12, val_main_v11, ref_rs, er, nx]
theorem ref_de (i : S2048x2048.Idx) : val_main_v29 (F := Ideal) x g y i = de x g y i := by
  show _ = dr x g y (i 0) (i 1)
  refine Eq.trans ?_ (twice ct (er x g y (i 0) (i 1)))
  pointwise [val_main_v29, val_main_v28, val_main_v27, val_main_v26, val_main_cst_10, val_main_v25, val_main_v24, val_main_cst_9, val_main_cst_8, val_main_v18, val_main_v17, val_main_cst_3, ref_er, ct, con]
theorem ref_gh (i : S2048x2048.Idx) : val_main_v34 (F := Ideal) x g y i = gh g (de x g y) (i 0) (i 1) := by
  pointwise [val_main_v34, val_main_v33, ref_de, gh]
theorem ref_sq (i : S2048.Idx) : val_main_v43 (F := Ideal) x g y i = sq x g (de x g y) (i 0) := by
  pointwise [val_main_v43, val_main_cst_14, val_main_v42, val_main_v41, val_main_cst_13, val_main_v40, val_main_v37, val_main_v36, val_main_cst_12, val_main_v35,
    val_main_v10, val_main_v9, val_main_cst_2, val_main_v8, ref_gh, ref_rs, ref_ms, NormV.sq, con]
  exact Fin.sum_univ_one _
theorem ref0 : (val_main_v48 (F := Ideal) x g y : Mat 2048 2048) = fun i => gx x g (de x g y) (i 0) (i 1) := by
  funext i
  pointwise [val_main_v48, val_main_v47, val_main_v46, val_main_v45, val_main_v44, val_main_v39, val_main_v38, ref_sq, ref_gh, ref_rs, gx]
theorem ref1 : (val_main_v32 (F := Ideal) x g y : Mat 1 2048) = fun i => ∑ l : Fin 2048, gg x (de x g y) l (i 1) := by
  funext i
  pointwise [val_main_v32, val_main_v31, val_main_cst_11, val_main_v30, val_main_v12, val_main_v11, ref_de, ref_rs, gg]
theorem ref2 : (val_main_v49 (F := Ideal) x g y : Mat 8 128) = fun _ => con 0x3F000000#32 * ∑ l : Fin 2048, mn x g y l := by
  funext i
  pointwise [val_main_v49, val_main_v23, val_main_cst_7, val_main_v22, val_main_cst_6, val_main_v21, val_main_v20, val_main_cst_5, val_main_v19, val_main_cst_4, val_main_v16, ref_er, mn, con]
end

theorem results : Cert.algebraic_LossIdeal_LossReferenceIdeal := fun m g m' g' _ ha =>
  ⟨_, _, _, Cert.LossIdeal.Value.run_blocks m g,
   (θ_run Cert.LossReferenceIdeal.defs _ _).mono
    (fun _ h c => by
      obtain ⟨a0, a1, a2⟩ := ha c
      obtain ⟨h0, h1, h2, h3⟩ := h c
      rw [Cert.LossReferenceIdeal.Read.val_main_v48_eq, a0, a1, a2] at h0
      rw [Cert.LossReferenceIdeal.Read.val_main_v32_eq, a0, a1, a2] at h1
      rw [Cert.LossReferenceIdeal.Read.val_main_v49_eq, a0, a1, a2] at h2
      exact ⟨h0.trans ((ref0 ..).trans (arr3 m c).symm), h1.trans ((ref1 ..).trans (arr4 m c).symm), h2.trans ((ref2 ..).trans (arr5 m c).symm), h3⟩)
    (Cert.LossReferenceIdeal.Value.run m' g')⟩

end Cert.LossV

end
-- ==== Proof.KRun.lean ====
/- Hand-written, untrusted. THE RUN of the kernel program, at any float instance: from any memory with zero counters every weakly
   fair execution terminates, nothing faulting; every final state has each tensor value's buffer at the contents `Gen.W5` that the
   fold over @main's five items (stretch, forward region, stretch, backward region, stretch) names, and every counter at zero. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- What holds of every final state: each tensor value's buffer at `W5`, every counter at zero. -/
abbrev Final (s : MemSt nD τ sig (Elt F)) : Prop :=
  (∀ (c : Dev nD) (b : Ref sig .tc), (Proc.devRef .tc b : DevRef τ sig).isScoped = false →
    s.mem ((c.tc : Thread nD τ).loc b) = W5 m ρ c (Proc.devRef .tc b)) ∧ s.sem = fun _ => 0

-- the kit's implicit arguments are found by unifying its conclusion with this one, which takes unfolding plain definitions in a metavariable's type
set_option backward.isDefEq.respectTransparency.types false in
theorem run_main : θ_run defs (onTc (τ := τ) (main (F := F))) ⟨m, fun _ => 0, ρ⟩ (fun r => Final m ρ r.2) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c _ (mem_uc b (by rw [hb]; exact Bool.false_ne_true)), funext fun g => hz g (.inr (no_unscoped g.2))⟩)

/-- Every argument array ends as it was launched. -/
theorem Final.args {s : MemSt nD τ sig (Elt F)} (h : Final m ρ s) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  ⟨(h.1 c main_arg0 (by decide)).trans (W5_main_arg0 m ρ c), (h.1 c main_arg1 (by decide)).trans (W5_main_arg1 m ρ c),
   (h.1 c main_arg2 (by decide)).trans (W5_main_arg2 m ρ c), (h.1 c main_arg3 (by decide)).trans (W5_main_arg3 m ρ c),
   (h.1 c main_arg4 (by decide)).trans (W5_main_arg4 m ρ c), (h.1 c main_arg5 (by decide)).trans (W5_main_arg5 m ρ c),
   (h.1 c main_arg6 (by decide)).trans (W5_main_arg6 m ρ c), (h.1 c main_arg7 (by decide)).trans (W5_main_arg7 m ρ c)⟩

end Cert.KernelIdeal.Run

end
-- ==== Proof.RefLists.lean ====
/- Hand-written, untrusted. The operations of the reference `ReferenceIdeal`, as lists: @main is a stretch, the forward loop
   of 2048 trips, a stretch, the backward loop of 2048 trips, and a last stretch; each loop's body is a chain of stretches,
   a stretch of its own for every call of the two module-local indexing functions. For every list: it touches TensorCore
   references only (`_sub`), allocates nothing (`_fresh`), which references it writes (`_W`, `_writes`), and that every other
   reference keeps its contents (`_keep`). -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Lists

open Cert.ReferenceIdeal Cert.ReferenceIdeal.Gen
open Idealize.ShloMosaic Idealize.ShloMosaic.TcCoe
open Idealize.SL Idealize.SL.RA Idealize.SL.BI Idealize.SL.Sem
open Idealize.ShloMosaic.StableHlo

variable {F : FTy → Type} [FloatOps F]

/-- @main before the forward loop. -/
abbrev preOps : List (HloOp τ sig (Elt F)) :=
  [ StableHlo.reshape main_arg0 main_v0 (rfl : (.f32 : EltTy) = .f32) shapeCasts_S2048x1024_S2048x64x16,
    StableHlo.binary main_v0 main_arg3 main_v1 ((fun l r => Host.dotGeneral dot_S2048x64x16_S64x64x16_S64x2048x64_2_2_0_1_1_0 none l r) : (⟨S2048x64x16, .f32⟩ : BufTy).Contents (Elt F) → (⟨S64x64x16, .f32⟩ : BufTy).Contents (Elt F) → (⟨S64x2048x64, .f32⟩ : BufTy).Contents (Elt F)),
    StableHlo.unary main_v1 main_v2 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.binary main_v0 main_arg4 main_v3 ((fun l r => Host.dotGeneral dot_S2048x64x16_S64x64x16_S64x2048x64_2_2_0_1_1_0 none l r) : (⟨S2048x64x16, .f32⟩ : BufTy).Contents (Elt F) → (⟨S64x64x16, .f32⟩ : BufTy).Contents (Elt F) → (⟨S64x2048x64, .f32⟩ : BufTy).Contents (Elt F)),
    StableHlo.unary main_v3 main_v4 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.nullary main_cst (constant S_ .f32 0x00000000#32),
    StableHlo.unary main_cst main_v5 (broadcastInDim S64x64 ![] bcast_S_S64x64 : (⟨S_, .f32⟩ : BufTy).Contents (Elt F) → (⟨S64x64, .f32⟩ : BufTy).Contents (Elt F)),
    StableHlo.nullary main_cst_0 (constant S_ .f32 0x00000000#32),
    StableHlo.unary main_cst_0 main_v6 (broadcastInDim S2048x64x64 ![] bcast_S_S2048x64x64 : (⟨S_, .f32⟩ : BufTy).Contents (Elt F) → (⟨S2048x64x64, .f32⟩ : BufTy).Contents (Elt F)),
    StableHlo.nullary main_cst_1 (constant S_ .f32 0x00000000#32),
    StableHlo.unary main_cst_1 main_v7 (broadcastInDim S2048x64x64 ![] bcast_S_S2048x64x64 : (⟨S_, .f32⟩ : BufTy).Contents (Elt F) → (⟨S2048x64x64, .f32⟩ : BufTy).Contents (Elt F)),
    StableHlo.nullary main_cst_2 (constant S_ .f32 0x00000000#32),
    StableHlo.unary main_cst_2 main_v8 (broadcastInDim S2048x64x64 ![] bcast_S_S2048x64x64 : (⟨S_, .f32⟩ : BufTy).Contents (Elt F) → (⟨S2048x64x64, .f32⟩ : BufTy).Contents (Elt F)),
    StableHlo.nullary main_cst_3 (constant S_ .f32 0x00000000#32),
    StableHlo.unary main_cst_3 main_v9 (broadcastInDim S2048x64x64 ![] bcast_S_S2048x64x64 : (⟨S_, .f32⟩ : BufTy).Contents (Elt F) → (⟨S2048x64x64, .f32⟩ : BufTy).Contents (Elt F)),
    StableHlo.nullary main_c (constantI S_ 32 0#32),
    StableHlo.unary main_v2 main_v10_0 id,
    StableHlo.unary main_v4 main_v10_1 id,
    StableHlo.unary main_arg1 main_v10_2 id,
    StableHlo.unary main_arg2 main_v10_3 id,
    StableHlo.unary main_c main_v10_4 id,
    StableHlo.unary main_v5 main_v10_5 id,
    StableHlo.unary main_v5 main_v10_6 id,
    StableHlo.unary main_v6 main_v10_7 id,
    StableHlo.unary main_v7 main_v10_8 id,
    StableHlo.unary main_v8 main_v10_9 id,
    StableHlo.unary main_v9 main_v10_10 id ]
theorem preOps_sub : (preOps : List (HloOp τ sig (Elt F))).Forall fun op => op.bufs ⊆ StableHlo.tcRefs τ sig :=
  ⟨StableHlo.reshape_bufs_sub .., StableHlo.binary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem preOps_fresh : (preOps : List (HloOp τ sig (Elt F))).Forall fun op => op.fresh = ∅ :=
  StableHlo.forall_fresh_of_map rfl
abbrev preOps_W : List (Ref sig .tc) := [main_v0, main_v1, main_v2, main_v3, main_v4, main_cst, main_v5, main_cst_0, main_v6, main_cst_1, main_v7, main_cst_2, main_v8, main_cst_3, main_v9, main_c, main_v10_0, main_v10_1, main_v10_2, main_v10_3, main_v10_4, main_v10_5, main_v10_6, main_v10_7, main_v10_8, main_v10_9, main_v10_10]
theorem preOps_writes : (preOps : List (HloOp τ sig (Elt F))).Forall fun op => op.writes ⊆ (preOps_W.map (Proc.devRef (τ := τ) .tc)).toFinset :=
  StableHlo.forall_writes_sub_of_map rfl
theorem preOps_keep (V : Valuation τ sig (Elt F)) (r : Ref sig .tc) (h : r ∉ preOps_W) :
    after preOps V (Proc.devRef .tc r) = V (Proc.devRef .tc r) :=
  after_of_writes_sub preOps V preOps_writes h

/-- @main between the loops. -/
abbrev midOps : List (HloOp τ sig (Elt F)) :=
  [ StableHlo.binary main_v10_7 main_arg5 main_v11 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F)),
    StableHlo.unary main_v11 main_v12 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v10_8 main_arg6 main_v13 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F)),
    StableHlo.unary main_v13 main_v14 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v12 main_v14 main_v15 (subf : (⟨S2048x64x16, .f32⟩ : BufTy).Contents (Elt F) → (⟨S2048x64x16, .f32⟩ : BufTy).Contents (Elt F) → (⟨S2048x64x16, .f32⟩ : BufTy).Contents (Elt F)),
    StableHlo.reshape main_v15 main_v16 (rfl : (.f32 : EltTy) = .f32) shapeCasts_S2048x64x16_S2048x1024,
    StableHlo.nullary main_cst_4 (constant S_ .f32 0x00000000#32),
    StableHlo.unary main_cst_4 main_v17 (broadcastInDim S64x64 ![] bcast_S_S64x64 : (⟨S_, .f32⟩ : BufTy).Contents (Elt F) → (⟨S64x64, .f32⟩ : BufTy).Contents (Elt F)),
    StableHlo.nullary main_cst_5 (constant S_ .f32 0x00000000#32),
    StableHlo.unary main_cst_5 main_v18 (broadcastInDim S64x64 ![] bcast_S_S64x64 : (⟨S_, .f32⟩ : BufTy).Contents (Elt F) → (⟨S64x64, .f32⟩ : BufTy).Contents (Elt F)),
    StableHlo.reshape main_arg7 main_v19 (rfl : (.f32 : EltTy) = .f32) shapeCasts_S2048x1024_S2048x64x16,
    StableHlo.unary main_v19 main_v20 (Host.negf : (⟨S2048x64x16, .f32⟩ : BufTy).Contents (Elt F) → (⟨S2048x64x16, .f32⟩ : BufTy).Contents (Elt F)),
    StableHlo.unary main_v20 main_v21 ((transpose S64x2048x16 [1, 0, 2] · transposes_S2048x64x16_S64x2048x16_1_0_2) : (⟨S2048x64x16, .f32⟩ : BufTy).Contents (Elt F) → (⟨S64x2048x16, .f32⟩ : BufTy).Contents (Elt F)),
    StableHlo.binary main_v21 main_v10_8 main_v22 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F)),
    StableHlo.binary main_v21 main_arg6 main_v23 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F)),
    StableHlo.unary main_v23 main_v24 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.unary main_v19 main_v25 ((transpose S64x2048x16 [1, 0, 2] · transposes_S2048x64x16_S64x2048x16_1_0_2) : (⟨S2048x64x16, .f32⟩ : BufTy).Contents (Elt F) → (⟨S64x2048x16, .f32⟩ : BufTy).Contents (Elt F)),
    StableHlo.binary main_v25 main_v10_7 main_v26 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F)),
    StableHlo.binary main_v25 main_arg5 main_v27 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F)),
    StableHlo.unary main_v27 main_v28 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.nullary main_cst_6 (constant S_ .f32 0x00000000#32),
    StableHlo.unary main_cst_6 main_v29 (broadcastInDim S64x64 ![] bcast_S_S64x64 : (⟨S_, .f32⟩ : BufTy).Contents (Elt F) → (⟨S64x64, .f32⟩ : BufTy).Contents (Elt F)),
    StableHlo.nullary main_cst_7 (constant S_ .f32 0x00000000#32),
    StableHlo.unary main_cst_7 main_v30 (broadcastInDim S64x64 ![] bcast_S_S64x64 : (⟨S_, .f32⟩ : BufTy).Contents (Elt F) → (⟨S64x64, .f32⟩ : BufTy).Contents (Elt F)),
    StableHlo.nullary main_cst_8 (constant S_ .f32 0x00000000#32),
    StableHlo.unary main_cst_8 main_v31 (broadcastInDim S64x64 ![] bcast_S_S64x64 : (⟨S_, .f32⟩ : BufTy).Contents (Elt F) → (⟨S64x64, .f32⟩ : BufTy).Contents (Elt F)),
    StableHlo.nullary main_cst_9 (constant S_ .f32 0x00000000#32),
    StableHlo.unary main_cst_9 main_v32 (broadcastInDim S64x64 ![] bcast_S_S64x64 : (⟨S_, .f32⟩ : BufTy).Contents (Elt F) → (⟨S64x64, .f32⟩ : BufTy).Contents (Elt F)),
    StableHlo.nullary main_cst_10 (constant S_ .f32 0x00000000#32),
    StableHlo.unary main_cst_10 main_v33 (broadcastInDim S2048x64x64 ![] bcast_S_S2048x64x64 : (⟨S_, .f32⟩ : BufTy).Contents (Elt F) → (⟨S2048x64x64, .f32⟩ : BufTy).Contents (Elt F)),
    StableHlo.nullary main_cst_11 (constant S_ .f32 0x00000000#32),
    StableHlo.unary main_cst_11 main_v34 (broadcastInDim S2048x64x64 ![] bcast_S_S2048x64x64 : (⟨S_, .f32⟩ : BufTy).Contents (Elt F) → (⟨S2048x64x64, .f32⟩ : BufTy).Contents (Elt F)),
    StableHlo.nullary main_c_12 (constantI S_ 32 0#32),
    StableHlo.unary main_v28 main_v35_0 id,
    StableHlo.unary main_v24 main_v35_1 id,
    StableHlo.unary main_v10_9 main_v35_2 id,
    StableHlo.unary main_v10_10 main_v35_3 id,
    StableHlo.unary main_arg1 main_v35_4 id,
    StableHlo.unary main_arg2 main_v35_5 id,
    StableHlo.unary main_c_12 main_v35_6 id,
    StableHlo.unary main_v31 main_v35_7 id,
    StableHlo.unary main_v32 main_v35_8 id,
    StableHlo.unary main_v29 main_v35_9 id,
    StableHlo.unary main_v30 main_v35_10 id,
    StableHlo.unary main_v33 main_v35_11 id,
    StableHlo.unary main_v34 main_v35_12 id ]
theorem midOps_sub : (midOps : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.reshape_bufs_sub .., StableHlo.nullary_bufs_sub .., StableHlo.unary_bufs_sub .., StableHlo.nullary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem midOps_fresh : (midOps : List (HloOp τ sig (Elt F))).Forall fun op => op.fresh = ∅ :=
  StableHlo.forall_fresh_of_map rfl
abbrev midOps_W : List (Ref sig .tc) := [main_v11, main_v12, main_v13, main_v14, main_v15, main_v16, main_cst_4, main_v17, main_cst_5, main_v18, main_v19, main_v20, main_v21, main_v22, main_v23, main_v24, main_v25, main_v26, main_v27, main_v28, main_cst_6, main_v29, main_cst_7, main_v30, main_cst_8, main_v31, main_cst_9, main_v32, main_cst_10, main_v33, main_cst_11, main_v34, main_c_12, main_v35_0, main_v35_1, main_v35_2, main_v35_3, main_v35_4, main_v35_5, main_v35_6, main_v35_7, main_v35_8, main_v35_9, main_v35_10, main_v35_11, main_v35_12]
theorem midOps_writes : (midOps : List (HloOp τ sig (Elt F))).Forall fun op => op.writes ⊆ (midOps_W.map (Proc.devRef (τ := τ) .tc)).toFinset :=
  StableHlo.forall_writes_sub_of_map rfl
theorem midOps_keep (V : Valuation τ sig (Elt F)) (r : Ref sig .tc) (h : r ∉ midOps_W) :
    after midOps V (Proc.devRef .tc r) = V (Proc.devRef .tc r) :=
  after_of_writes_sub midOps V midOps_writes h

/-- @main after the backward loop. -/
abbrev postOps : List (HloOp τ sig (Elt F)) :=
  [ StableHlo.unary main_v35_12 main_v36 ((transpose S64x2048x64 [1, 0, 2] · transposes_S2048x64x64_S64x2048x64_1_0_2) : (⟨S2048x64x64, .f32⟩ : BufTy).Contents (Elt F) → (⟨S64x2048x64, .f32⟩ : BufTy).Contents (Elt F)),
    StableHlo.binary main_v36 main_v0 main_v37 ((fun l r => Host.dotGeneral dot_S64x2048x64_S2048x64x16_S64x64x16_1_0_2_2_0_1 none l r) : (⟨S64x2048x64, .f32⟩ : BufTy).Contents (Elt F) → (⟨S2048x64x16, .f32⟩ : BufTy).Contents (Elt F) → (⟨S64x64x16, .f32⟩ : BufTy).Contents (Elt F)),
    StableHlo.binary main_v36 main_arg4 main_v38 ((fun l r => Host.dotGeneral dot_S64x2048x64_S64x64x16_S64x2048x16_2_1_1_2_0_0 none l r) : (⟨S64x2048x64, .f32⟩ : BufTy).Contents (Elt F) → (⟨S64x64x16, .f32⟩ : BufTy).Contents (Elt F) → (⟨S64x2048x16, .f32⟩ : BufTy).Contents (Elt F)),
    StableHlo.unary main_v38 main_v39 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.unary main_v35_11 main_v40 ((transpose S64x2048x64 [1, 0, 2] · transposes_S2048x64x64_S64x2048x64_1_0_2) : (⟨S2048x64x64, .f32⟩ : BufTy).Contents (Elt F) → (⟨S64x2048x64, .f32⟩ : BufTy).Contents (Elt F)),
    StableHlo.binary main_v40 main_v0 main_v41 ((fun l r => Host.dotGeneral dot_S64x2048x64_S2048x64x16_S64x64x16_1_0_2_2_0_1 none l r) : (⟨S64x2048x64, .f32⟩ : BufTy).Contents (Elt F) → (⟨S2048x64x16, .f32⟩ : BufTy).Contents (Elt F) → (⟨S64x64x16, .f32⟩ : BufTy).Contents (Elt F)),
    StableHlo.binary main_v40 main_arg3 main_v42 ((fun l r => Host.dotGeneral dot_S64x2048x64_S64x64x16_S64x2048x16_2_1_1_2_0_0 none l r) : (⟨S64x2048x64, .f32⟩ : BufTy).Contents (Elt F) → (⟨S64x64x16, .f32⟩ : BufTy).Contents (Elt F) → (⟨S64x2048x16, .f32⟩ : BufTy).Contents (Elt F)),
    StableHlo.unary main_v42 main_v43 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v39 main_v43 main_v44 (addf : (⟨S2048x64x16, .f32⟩ : BufTy).Contents (Elt F) → (⟨S2048x64x16, .f32⟩ : BufTy).Contents (Elt F) → (⟨S2048x64x16, .f32⟩ : BufTy).Contents (Elt F)),
    StableHlo.reshape main_v44 main_v45 (rfl : (.f32 : EltTy) = .f32) shapeCasts_S2048x64x16_S2048x1024 ]
theorem postOps_sub : (postOps : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.reshape_bufs_sub ..⟩
theorem postOps_fresh : (postOps : List (HloOp τ sig (Elt F))).Forall fun op => op.fresh = ∅ :=
  StableHlo.forall_fresh_of_map rfl
abbrev postOps_W : List (Ref sig .tc) := [main_v36, main_v37, main_v38, main_v39, main_v40, main_v41, main_v42, main_v43, main_v44, main_v45]
theorem postOps_writes : (postOps : List (HloOp τ sig (Elt F))).Forall fun op => op.writes ⊆ (postOps_W.map (Proc.devRef (τ := τ) .tc)).toFinset :=
  StableHlo.forall_writes_sub_of_map rfl
theorem postOps_keep (V : Valuation τ sig (Elt F)) (r : Ref sig .tc) (h : r ∉ postOps_W) :
    after postOps V (Proc.devRef .tc r) = V (Proc.devRef .tc r) :=
  after_of_writes_sub postOps V postOps_writes h

/-- @main is the chain of its stretches and loops. -/
theorem main_chain (c : Dev nD) : main (F := F) c = (Pipeline.chain
  [ StableHlo.seq preOps,
    HostLoop.enter 0,
    StableHlo.seq midOps,
    HostLoop.enter 1,
    StableHlo.seq postOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- Loop 0's body, stretch 0 (an indexing call). -/
abbrev body0_0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v10_0 : StableHlo.TRef sig ⟨S2048x64x64, .f32⟩) ![(.of main_v10_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while0b_call0_v0 : StableHlo.TRef sig ⟨S1x64x64, .f32⟩) (.of main_while0b_v46 : StableHlo.TRef sig ⟨S64x64, .f32⟩) (rfl : (.f32 : EltTy) = .f32) shapeCasts_S1x64x64_S64x64 ]
theorem body0_0_sub : (body0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem body0_0_fresh : (body0_0 : List (HloOp τ sig (Elt F))).Forall fun op => op.fresh = ∅ :=
  StableHlo.forall_fresh_of_map rfl
abbrev body0_0_W : List (Ref sig .tc) := [main_while0b_call0_c, main_while0b_call0_c_0, main_while0b_call0_v0, main_while0b_v46]
theorem body0_0_writes : (body0_0 : List (HloOp τ sig (Elt F))).Forall fun op => op.writes ⊆ (body0_0_W.map (Proc.devRef (τ := τ) .tc)).toFinset :=
  StableHlo.forall_writes_sub_of_map rfl
theorem body0_0_keep (V : Valuation τ sig (Elt F)) (r : Ref sig .tc) (h : r ∉ body0_0_W) :
    after body0_0 V (Proc.devRef .tc r) = V (Proc.devRef .tc r) :=
  after_of_writes_sub body0_0 V body0_0_writes h

/-- Loop 0's body, stretch 1 (an indexing call). -/
abbrev body0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v10_1 : StableHlo.TRef sig ⟨S2048x64x64, .f32⟩) ![(.of main_v10_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while0b_call1_v0 : StableHlo.TRef sig ⟨S1x64x64, .f32⟩) (.of main_while0b_v47 : StableHlo.TRef sig ⟨S64x64, .f32⟩) (rfl : (.f32 : EltTy) = .f32) shapeCasts_S1x64x64_S64x64 ]
theorem body0_1_sub : (body0_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem body0_1_fresh : (body0_1 : List (HloOp τ sig (Elt F))).Forall fun op => op.fresh = ∅ :=
  StableHlo.forall_fresh_of_map rfl
abbrev body0_1_W : List (Ref sig .tc) := [main_while0b_call1_c, main_while0b_call1_c_0, main_while0b_call1_v0, main_while0b_v47]
theorem body0_1_writes : (body0_1 : List (HloOp τ sig (Elt F))).Forall fun op => op.writes ⊆ (body0_1_W.map (Proc.devRef (τ := τ) .tc)).toFinset :=
  StableHlo.forall_writes_sub_of_map rfl
theorem body0_1_keep (V : Valuation τ sig (Elt F)) (r : Ref sig .tc) (h : r ∉ body0_1_W) :
    after body0_1 V (Proc.devRef .tc r) = V (Proc.devRef .tc r) :=
  after_of_writes_sub body0_1 V body0_1_writes h

/-- Loop 0's body, stretch 2. -/
abbrev body0_2 : List (HloOp τ sig (Elt F)) :=
  [ StableHlo.binary main_v10_2 main_v10_5 main_while0b_v48 (mulf : (⟨S64x64, .f32⟩ : BufTy).Contents (Elt F) → (⟨S64x64, .f32⟩ : BufTy).Contents (Elt F) → (⟨S64x64, .f32⟩ : BufTy).Contents (Elt F)),
    StableHlo.binary main_v10_3 main_v10_6 main_while0b_v49 (mulf : (⟨S64x64, .f32⟩ : BufTy).Contents (Elt F) → (⟨S64x64, .f32⟩ : BufTy).Contents (Elt F) → (⟨S64x64, .f32⟩ : BufTy).Contents (Elt F)),
    StableHlo.binary main_while0b_v48 main_while0b_v49 main_while0b_v50 (subf : (⟨S64x64, .f32⟩ : BufTy).Contents (Elt F) → (⟨S64x64, .f32⟩ : BufTy).Contents (Elt F) → (⟨S64x64, .f32⟩ : BufTy).Contents (Elt F)),
    StableHlo.binary main_while0b_v50 main_while0b_v46 main_while0b_v51 (addf : (⟨S64x64, .f32⟩ : BufTy).Contents (Elt F) → (⟨S64x64, .f32⟩ : BufTy).Contents (Elt F) → (⟨S64x64, .f32⟩ : BufTy).Contents (Elt F)),
    StableHlo.binary main_v10_2 main_v10_6 main_while0b_v52 (mulf : (⟨S64x64, .f32⟩ : BufTy).Contents (Elt F) → (⟨S64x64, .f32⟩ : BufTy).Contents (Elt F) → (⟨S64x64, .f32⟩ : BufTy).Contents (Elt F)),
    StableHlo.binary main_v10_3 main_v10_5 main_while0b_v53 (mulf : (⟨S64x64, .f32⟩ : BufTy).Contents (Elt F) → (⟨S64x64, .f32⟩ : BufTy).Contents (Elt F) → (⟨S64x64, .f32⟩ : BufTy).Contents (Elt F)),
    StableHlo.binary main_while0b_v52 main_while0b_v53 main_while0b_v54 (addf : (⟨S64x64, .f32⟩ : BufTy).Contents (Elt F) → (⟨S64x64, .f32⟩ : BufTy).Contents (Elt F) → (⟨S64x64, .f32⟩ : BufTy).Contents (Elt F)),
    StableHlo.binary main_while0b_v54 main_while0b_v47 main_while0b_v55 (addf : (⟨S64x64, .f32⟩ : BufTy).Contents (Elt F) → (⟨S64x64, .f32⟩ : BufTy).Contents (Elt F) → (⟨S64x64, .f32⟩ : BufTy).Contents (Elt F)) ]
theorem body0_2_sub : (body0_2 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem body0_2_fresh : (body0_2 : List (HloOp τ sig (Elt F))).Forall fun op => op.fresh = ∅ :=
  StableHlo.forall_fresh_of_map rfl
abbrev body0_2_W : List (Ref sig .tc) := [main_while0b_v48, main_while0b_v49, main_while0b_v50, main_while0b_v51, main_while0b_v52, main_while0b_v53, main_while0b_v54, main_while0b_v55]
theorem body0_2_writes : (body0_2 : List (HloOp τ sig (Elt F))).Forall fun op => op.writes ⊆ (body0_2_W.map (Proc.devRef (τ := τ) .tc)).toFinset :=
  StableHlo.forall_writes_sub_of_map rfl
theorem body0_2_keep (V : Valuation τ sig (Elt F)) (r : Ref sig .tc) (h : r ∉ body0_2_W) :
    after body0_2 V (Proc.devRef .tc r) = V (Proc.devRef .tc r) :=
  after_of_writes_sub body0_2 V body0_2_writes h

/-- Loop 0's body, stretch 3 (an indexing call). -/
abbrev body0_3 : List (HloOp τ sig (Elt F)) :=
  [ StableHlo.TRef.unary (.of main_while0b_v51 : StableHlo.TRef sig ⟨S64x64, .f32⟩) (.of main_while0b_call2_v0 : StableHlo.TRef sig ⟨S1x64x64, .f32⟩) (broadcastInDim S1x64x64 ![1, 2] bcast_S64x64_S1x64x64_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v10_7 : StableHlo.TRef sig ⟨S2048x64x64, .f32⟩) (.of main_while0b_call2_v0 : StableHlo.TRef sig ⟨S1x64x64, .f32⟩) ![(.of main_v10_4 : StableHlo.TRef sig ⟨S_, .i32⟩), (.of main_while0b_call2_c : StableHlo.TRef sig ⟨S_, .i32⟩), (.of main_while0b_call2_c_0 : StableHlo.TRef sig ⟨S_, .i32⟩)] (.of main_while0b_v56 : StableHlo.TRef sig ⟨S2048x64x64, .f32⟩) (fun x u i => Host.dynamicUpdateSlice x u (fun k => (i k (Shape.Idx.first h_S_)).toInt) updateFits_S2048x64x64_S1x64x64) ]
theorem body0_3_sub : (body0_3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem body0_3_fresh : (body0_3 : List (HloOp τ sig (Elt F))).Forall fun op => op.fresh = ∅ :=
  StableHlo.forall_fresh_of_map rfl
abbrev body0_3_W : List (Ref sig .tc) := [main_while0b_call2_v0, main_while0b_call2_c, main_while0b_call2_c_0, main_while0b_v56]
theorem body0_3_writes : (body0_3 : List (HloOp τ sig (Elt F))).Forall fun op => op.writes ⊆ (body0_3_W.map (Proc.devRef (τ := τ) .tc)).toFinset :=
  StableHlo.forall_writes_sub_of_map rfl
theorem body0_3_keep (V : Valuation τ sig (Elt F)) (r : Ref sig .tc) (h : r ∉ body0_3_W) :
    after body0_3 V (Proc.devRef .tc r) = V (Proc.devRef .tc r) :=
  after_of_writes_sub body0_3 V body0_3_writes h

/-- Loop 0's body, stretch 4 (an indexing call). -/
abbrev body0_4 : List (HloOp τ sig (Elt F)) :=
  [ StableHlo.TRef.unary (.of main_while0b_v55 : StableHlo.TRef sig ⟨S64x64, .f32⟩) (.of main_while0b_call3_v0 : StableHlo.TRef sig ⟨S1x64x64, .f32⟩) (broadcastInDim S1x64x64 ![1, 2] bcast_S64x64_S1x64x64_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v10_8 : StableHlo.TRef sig ⟨S2048x64x64, .f32⟩) (.of main_while0b_call3_v0 : StableHlo.TRef sig ⟨S1x64x64, .f32⟩) ![(.of main_v10_4 : StableHlo.TRef sig ⟨S_, .i32⟩), (.of main_while0b_call3_c : StableHlo.TRef sig ⟨S_, .i32⟩), (.of main_while0b_call3_c_0 : StableHlo.TRef sig ⟨S_, .i32⟩)] (.of main_while0b_v57 : StableHlo.TRef sig ⟨S2048x64x64, .f32⟩) (fun x u i => Host.dynamicUpdateSlice x u (fun k => (i k (Shape.Idx.first h_S_)).toInt) updateFits_S2048x64x64_S1x64x64) ]
theorem body0_4_sub : (body0_4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem body0_4_fresh : (body0_4 : List (HloOp τ sig (Elt F))).Forall fun op => op.fresh = ∅ :=
  StableHlo.forall_fresh_of_map rfl
abbrev body0_4_W : List (Ref sig .tc) := [main_while0b_call3_v0, main_while0b_call3_c, main_while0b_call3_c_0, main_while0b_v57]
theorem body0_4_writes : (body0_4 : List (HloOp τ sig (Elt F))).Forall fun op => op.writes ⊆ (body0_4_W.map (Proc.devRef (τ := τ) .tc)).toFinset :=
  StableHlo.forall_writes_sub_of_map rfl
theorem body0_4_keep (V : Valuation τ sig (Elt F)) (r : Ref sig .tc) (h : r ∉ body0_4_W) :
    after body0_4 V (Proc.devRef .tc r) = V (Proc.devRef .tc r) :=
  after_of_writes_sub body0_4 V body0_4_writes h

/-- Loop 0's body, stretch 5 (an indexing call). -/
abbrev body0_5 : List (HloOp τ sig (Elt F)) :=
  [ StableHlo.TRef.unary (.of main_v10_5 : StableHlo.TRef sig ⟨S64x64, .f32⟩) (.of main_while0b_call4_v0 : StableHlo.TRef sig ⟨S1x64x64, .f32⟩) (broadcastInDim S1x64x64 ![1, 2] bcast_S64x64_S1x64x64_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v10_9 : StableHlo.TRef sig ⟨S2048x64x64, .f32⟩) (.of main_while0b_call4_v0 : StableHlo.TRef sig ⟨S1x64x64, .f32⟩) ![(.of main_v10_4 : StableHlo.TRef sig ⟨S_, .i32⟩), (.of main_while0b_call4_c : StableHlo.TRef sig ⟨S_, .i32⟩), (.of main_while0b_call4_c_0 : StableHlo.TRef sig ⟨S_, .i32⟩)] (.of main_while0b_v58 : StableHlo.TRef sig ⟨S2048x64x64, .f32⟩) (fun x u i => Host.dynamicUpdateSlice x u (fun k => (i k (Shape.Idx.first h_S_)).toInt) updateFits_S2048x64x64_S1x64x64) ]
theorem body0_5_sub : (body0_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem body0_5_fresh : (body0_5 : List (HloOp τ sig (Elt F))).Forall fun op => op.fresh = ∅ :=
  StableHlo.forall_fresh_of_map rfl
abbrev body0_5_W : List (Ref sig .tc) := [main_while0b_call4_v0, main_while0b_call4_c, main_while0b_call4_c_0, main_while0b_v58]
theorem body0_5_writes : (body0_5 : List (HloOp τ sig (Elt F))).Forall fun op => op.writes ⊆ (body0_5_W.map (Proc.devRef (τ := τ) .tc)).toFinset :=
  StableHlo.forall_writes_sub_of_map rfl
theorem body0_5_keep (V : Valuation τ sig (Elt F)) (r : Ref sig .tc) (h : r ∉ body0_5_W) :
    after body0_5 V (Proc.devRef .tc r) = V (Proc.devRef .tc r) :=
  after_of_writes_sub body0_5 V body0_5_writes h

/-- Loop 0's body, stretch 6 (an indexing call). -/
abbrev body0_6 : List (HloOp τ sig (Elt F)) :=
  [ StableHlo.TRef.unary (.of main_v10_6 : StableHlo.TRef sig ⟨S64x64, .f32⟩) (.of main_while0b_call5_v0 : StableHlo.TRef sig ⟨S1x64x64, .f32⟩) (broadcastInDim S1x64x64 ![1, 2] bcast_S64x64_S1x64x64_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v10_10 : StableHlo.TRef sig ⟨S2048x64x64, .f32⟩) (.of main_while0b_call5_v0 : StableHlo.TRef sig ⟨S1x64x64, .f32⟩) ![(.of main_v10_4 : StableHlo.TRef sig ⟨S_, .i32⟩), (.of main_while0b_call5_c : StableHlo.TRef sig ⟨S_, .i32⟩), (.of main_while0b_call5_c_0 : StableHlo.TRef sig ⟨S_, .i32⟩)] (.of main_while0b_v59 : StableHlo.TRef sig ⟨S2048x64x64, .f32⟩) (fun x u i => Host.dynamicUpdateSlice x u (fun k => (i k (Shape.Idx.first h_S_)).toInt) updateFits_S2048x64x64_S1x64x64) ]
theorem body0_6_sub : (body0_6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem body0_6_fresh : (body0_6 : List (HloOp τ sig (Elt F))).Forall fun op => op.fresh = ∅ :=
  StableHlo.forall_fresh_of_map rfl
abbrev body0_6_W : List (Ref sig .tc) := [main_while0b_call5_v0, main_while0b_call5_c, main_while0b_call5_c_0, main_while0b_v59]
theorem body0_6_writes : (body0_6 : List (HloOp τ sig (Elt F))).Forall fun op => op.writes ⊆ (body0_6_W.map (Proc.devRef (τ := τ) .tc)).toFinset :=
  StableHlo.forall_writes_sub_of_map rfl
theorem body0_6_keep (V : Valuation τ sig (Elt F)) (r : Ref sig .tc) (h : r ∉ body0_6_W) :
    after body0_6 V (Proc.devRef .tc r) = V (Proc.devRef .tc r) :=
  after_of_writes_sub body0_6 V body0_6_writes h

/-- Loop 0's body, stretch 7. -/
abbrev body0_7 : List (HloOp τ sig (Elt F)) :=
  [ StableHlo.nullary main_while0b_c_23 (constantI S_ 32 1#32),
    StableHlo.binary main_v10_4 main_while0b_c_23 main_while0b_v60 (addi : (⟨S_, .i32⟩ : BufTy).Contents (Elt F) → (⟨S_, .i32⟩ : BufTy).Contents (Elt F) → (⟨S_, .i32⟩ : BufTy).Contents (Elt F)),
    StableHlo.unary main_while0b_v60 main_v10_4 id,
    StableHlo.unary main_while0b_v51 main_v10_5 id,
    StableHlo.unary main_while0b_v55 main_v10_6 id,
    StableHlo.unary main_while0b_v56 main_v10_7 id,
    StableHlo.unary main_while0b_v57 main_v10_8 id,
    StableHlo.unary main_while0b_v58 main_v10_9 id,
    StableHlo.unary main_while0b_v59 main_v10_10 id ]
theorem body0_7_sub : (body0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem body0_7_fresh : (body0_7 : List (HloOp τ sig (Elt F))).Forall fun op => op.fresh = ∅ :=
  StableHlo.forall_fresh_of_map rfl
abbrev body0_7_W : List (Ref sig .tc) := [main_while0b_c_23, main_while0b_v60, main_v10_4, main_v10_5, main_v10_6, main_v10_7, main_v10_8, main_v10_9, main_v10_10]
theorem body0_7_writes : (body0_7 : List (HloOp τ sig (Elt F))).Forall fun op => op.writes ⊆ (body0_7_W.map (Proc.devRef (τ := τ) .tc)).toFinset :=
  StableHlo.forall_writes_sub_of_map rfl
theorem body0_7_keep (V : Valuation τ sig (Elt F)) (r : Ref sig .tc) (h : r ∉ body0_7_W) :
    after body0_7 V (Proc.devRef .tc r) = V (Proc.devRef .tc r) :=
  after_of_writes_sub body0_7 V body0_7_writes h

/-- Loop 0's body is the chain of its stretches. -/
theorem body0_chain : main_while0_body (F := F) = (Pipeline.chain
  [ StableHlo.seq body0_0,
    StableHlo.seq body0_1,
    StableHlo.seq body0_2,
    StableHlo.seq body0_3,
    StableHlo.seq body0_4,
    StableHlo.seq body0_5,
    StableHlo.seq body0_6,
    StableHlo.seq body0_7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, Pipeline.chain_cons, Pipeline.chain_cons, StableHlo.chain_seq_cons]
  chain_rfl

abbrev bodyI0 : List (List (HloOp τ sig (Elt F))) := [body0_0, body0_1, body0_2, body0_3, body0_4, body0_5, body0_6, body0_7]
theorem plain0 : Plain (bodyI0 (F := F)) := .cons body0_0_sub (hf := List.forall_iff_forall_mem.mp body0_0_fresh) (.cons body0_1_sub (hf := List.forall_iff_forall_mem.mp body0_1_fresh) (.cons body0_2_sub (hf := List.forall_iff_forall_mem.mp body0_2_fresh) (.cons body0_3_sub (hf := List.forall_iff_forall_mem.mp body0_3_fresh) (.cons body0_4_sub (hf := List.forall_iff_forall_mem.mp body0_4_fresh) (.cons body0_5_sub (hf := List.forall_iff_forall_mem.mp body0_5_fresh) (.cons body0_6_sub (hf := List.forall_iff_forall_mem.mp body0_6_fresh) (.cons body0_7_sub (hf := List.forall_iff_forall_mem.mp body0_7_fresh) (.nil))))))))

/-- Loop 1's body, stretch 0. -/
abbrev body1_0 : List (HloOp τ sig (Elt F)) :=
  [ StableHlo.nullary main_while1b_c_25 (constantI S_ 32 2048#32),
    StableHlo.binary main_while1b_c_25 main_v35_6 main_while1b_v46 (subi : (⟨S_, .i32⟩ : BufTy).Contents (Elt F) → (⟨S_, .i32⟩ : BufTy).Contents (Elt F) → (⟨S_, .i32⟩ : BufTy).Contents (Elt F)),
    StableHlo.nullary main_while1b_c_26 (constantI S_ 32 1#32),
    StableHlo.binary main_while1b_v46 main_while1b_c_26 main_while1b_v47 (subi : (⟨S_, .i32⟩ : BufTy).Contents (Elt F) → (⟨S_, .i32⟩ : BufTy).Contents (Elt F) → (⟨S_, .i32⟩ : BufTy).Contents (Elt F)) ]
theorem body1_0_sub : (body1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem body1_0_fresh : (body1_0 : List (HloOp τ sig (Elt F))).Forall fun op => op.fresh = ∅ :=
  StableHlo.forall_fresh_of_map rfl
abbrev body1_0_W : List (Ref sig .tc) := [main_while1b_c_25, main_while1b_v46, main_while1b_c_26, main_while1b_v47]
theorem body1_0_writes : (body1_0 : List (HloOp τ sig (Elt F))).Forall fun op => op.writes ⊆ (body1_0_W.map (Proc.devRef (τ := τ) .tc)).toFinset :=
  StableHlo.forall_writes_sub_of_map rfl
theorem body1_0_keep (V : Valuation τ sig (Elt F)) (r : Ref sig .tc) (h : r ∉ body1_0_W) :
    after body1_0 V (Proc.devRef .tc r) = V (Proc.devRef .tc r) :=
  after_of_writes_sub body1_0 V body1_0_writes h

/-- Loop 1's body, stretch 1 (an indexing call). -/
abbrev body1_1 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v35_0 : StableHlo.TRef sig ⟨S2048x64x64, .f32⟩) ![(.of main_while1b_v47 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call6_v0 : StableHlo.TRef sig ⟨S1x64x64, .f32⟩) (.of main_while1b_v48 : StableHlo.TRef sig ⟨S64x64, .f32⟩) (rfl : (.f32 : EltTy) = .f32) shapeCasts_S1x64x64_S64x64 ]
theorem body1_1_sub : (body1_1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem body1_1_fresh : (body1_1 : List (HloOp τ sig (Elt F))).Forall fun op => op.fresh = ∅ :=
  StableHlo.forall_fresh_of_map rfl
abbrev body1_1_W : List (Ref sig .tc) := [main_while1b_call6_c, main_while1b_call6_c_0, main_while1b_call6_v0, main_while1b_v48]
theorem body1_1_writes : (body1_1 : List (HloOp τ sig (Elt F))).Forall fun op => op.writes ⊆ (body1_1_W.map (Proc.devRef (τ := τ) .tc)).toFinset :=
  StableHlo.forall_writes_sub_of_map rfl
theorem body1_1_keep (V : Valuation τ sig (Elt F)) (r : Ref sig .tc) (h : r ∉ body1_1_W) :
    after body1_1 V (Proc.devRef .tc r) = V (Proc.devRef .tc r) :=
  after_of_writes_sub body1_1 V body1_1_writes h

/-- Loop 1's body, stretch 2 (an indexing call). -/
abbrev body1_2 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v35_1 : StableHlo.TRef sig ⟨S2048x64x64, .f32⟩) ![(.of main_while1b_v47 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call7_v0 : StableHlo.TRef sig ⟨S1x64x64, .f32⟩) (.of main_while1b_v49 : StableHlo.TRef sig ⟨S64x64, .f32⟩) (rfl : (.f32 : EltTy) = .f32) shapeCasts_S1x64x64_S64x64 ]
theorem body1_2_sub : (body1_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem body1_2_fresh : (body1_2 : List (HloOp τ sig (Elt F))).Forall fun op => op.fresh = ∅ :=
  StableHlo.forall_fresh_of_map rfl
abbrev body1_2_W : List (Ref sig .tc) := [main_while1b_call7_c, main_while1b_call7_c_0, main_while1b_call7_v0, main_while1b_v49]
theorem body1_2_writes : (body1_2 : List (HloOp τ sig (Elt F))).Forall fun op => op.writes ⊆ (body1_2_W.map (Proc.devRef (τ := τ) .tc)).toFinset :=
  StableHlo.forall_writes_sub_of_map rfl
theorem body1_2_keep (V : Valuation τ sig (Elt F)) (r : Ref sig .tc) (h : r ∉ body1_2_W) :
    after body1_2 V (Proc.devRef .tc r) = V (Proc.devRef .tc r) :=
  after_of_writes_sub body1_2 V body1_2_writes h

/-- Loop 1's body, stretch 3 (an indexing call). -/
abbrev body1_3 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v35_2 : StableHlo.TRef sig ⟨S2048x64x64, .f32⟩) ![(.of main_while1b_v47 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call8_v0 : StableHlo.TRef sig ⟨S1x64x64, .f32⟩) (.of main_while1b_v50 : StableHlo.TRef sig ⟨S64x64, .f32⟩) (rfl : (.f32 : EltTy) = .f32) shapeCasts_S1x64x64_S64x64 ]
theorem body1_3_sub : (body1_3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem body1_3_fresh : (body1_3 : List (HloOp τ sig (Elt F))).Forall fun op => op.fresh = ∅ :=
  StableHlo.forall_fresh_of_map rfl
abbrev body1_3_W : List (Ref sig .tc) := [main_while1b_call8_c, main_while1b_call8_c_0, main_while1b_call8_v0, main_while1b_v50]
theorem body1_3_writes : (body1_3 : List (HloOp τ sig (Elt F))).Forall fun op => op.writes ⊆ (body1_3_W.map (Proc.devRef (τ := τ) .tc)).toFinset :=
  StableHlo.forall_writes_sub_of_map rfl
theorem body1_3_keep (V : Valuation τ sig (Elt F)) (r : Ref sig .tc) (h : r ∉ body1_3_W) :
    after body1_3 V (Proc.devRef .tc r) = V (Proc.devRef .tc r) :=
  after_of_writes_sub body1_3 V body1_3_writes h

/-- Loop 1's body, stretch 4 (an indexing call). -/
abbrev body1_4 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v35_3 : StableHlo.TRef sig ⟨S2048x64x64, .f32⟩) ![(.of main_while1b_v47 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x64x64, .f32⟩) (fun x i => Host.dynamicSlice S1x64x64 x (fun k => (i k (Shape.Idx.first h_S_)).toInt) sliceFits_S2048x64x64_S1x64x64),
    StableHlo.TRef.reshape (.of main_while1b_call9_v0 : StableHlo.TRef sig ⟨S1x64x64, .f32⟩) (.of main_while1b_v51 : StableHlo.TRef sig ⟨S64x64, .f32⟩) (rfl : (.f32 : EltTy) = .f32) shapeCasts_S1x64x64_S64x64 ]
theorem body1_4_sub : (body1_4 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem body1_4_fresh : (body1_4 : List (HloOp τ sig (Elt F))).Forall fun op => op.fresh = ∅ :=
  StableHlo.forall_fresh_of_map rfl
abbrev body1_4_W : List (Ref sig .tc) := [main_while1b_call9_c, main_while1b_call9_c_0, main_while1b_call9_v0, main_while1b_v51]
theorem body1_4_writes : (body1_4 : List (HloOp τ sig (Elt F))).Forall fun op => op.writes ⊆ (body1_4_W.map (Proc.devRef (τ := τ) .tc)).toFinset :=
  StableHlo.forall_writes_sub_of_map rfl
theorem body1_4_keep (V : Valuation τ sig (Elt F)) (r : Ref sig .tc) (h : r ∉ body1_4_W) :
    after body1_4 V (Proc.devRef .tc r) = V (Proc.devRef .tc r) :=
  after_of_writes_sub body1_4 V body1_4_writes h

/-- Loop 1's body, stretch 5. -/
abbrev body1_5 : List (HloOp τ sig (Elt F)) :=
  [ StableHlo.binary main_v35_9 main_while1b_v48 main_while1b_v52 (addf : (⟨S64x64, .f32⟩ : BufTy).Contents (Elt F) → (⟨S64x64, .f32⟩ : BufTy).Contents (Elt F) → (⟨S64x64, .f32⟩ : BufTy).Contents (Elt F)),
    StableHlo.binary main_v35_10 main_while1b_v49 main_while1b_v53 (addf : (⟨S64x64, .f32⟩ : BufTy).Contents (Elt F) → (⟨S64x64, .f32⟩ : BufTy).Contents (Elt F) → (⟨S64x64, .f32⟩ : BufTy).Contents (Elt F)),
    StableHlo.binary main_v35_5 main_while1b_v53 main_while1b_v54 (mulf : (⟨S64x64, .f32⟩ : BufTy).Contents (Elt F) → (⟨S64x64, .f32⟩ : BufTy).Contents (Elt F) → (⟨S64x64, .f32⟩ : BufTy).Contents (Elt F)),
    StableHlo.binary main_while1b_v53 main_while1b_v50 main_while1b_v55 (mulf : (⟨S64x64, .f32⟩ : BufTy).Contents (Elt F) → (⟨S64x64, .f32⟩ : BufTy).Contents (Elt F) → (⟨S64x64, .f32⟩ : BufTy).Contents (Elt F)),
    StableHlo.binary main_v35_8 main_while1b_v55 main_while1b_v56 (addf : (⟨S64x64, .f32⟩ : BufTy).Contents (Elt F) → (⟨S64x64, .f32⟩ : BufTy).Contents (Elt F) → (⟨S64x64, .f32⟩ : BufTy).Contents (Elt F)),
    StableHlo.binary main_v35_4 main_while1b_v53 main_while1b_v57 (mulf : (⟨S64x64, .f32⟩ : BufTy).Contents (Elt F) → (⟨S64x64, .f32⟩ : BufTy).Contents (Elt F) → (⟨S64x64, .f32⟩ : BufTy).Contents (Elt F)),
    StableHlo.binary main_while1b_v53 main_while1b_v51 main_while1b_v58 (mulf : (⟨S64x64, .f32⟩ : BufTy).Contents (Elt F) → (⟨S64x64, .f32⟩ : BufTy).Contents (Elt F) → (⟨S64x64, .f32⟩ : BufTy).Contents (Elt F)),
    StableHlo.binary main_v35_7 main_while1b_v58 main_while1b_v59 (addf : (⟨S64x64, .f32⟩ : BufTy).Contents (Elt F) → (⟨S64x64, .f32⟩ : BufTy).Contents (Elt F) → (⟨S64x64, .f32⟩ : BufTy).Contents (Elt F)),
    StableHlo.unary main_while1b_v52 main_while1b_v60 (Host.negf : (⟨S64x64, .f32⟩ : BufTy).Contents (Elt F) → (⟨S64x64, .f32⟩ : BufTy).Contents (Elt F)),
    StableHlo.binary main_v35_5 main_while1b_v60 main_while1b_v61 (mulf : (⟨S64x64, .f32⟩ : BufTy).Contents (Elt F) → (⟨S64x64, .f32⟩ : BufTy).Contents (Elt F) → (⟨S64x64, .f32⟩ : BufTy).Contents (Elt F)),
    StableHlo.binary main_while1b_v57 main_while1b_v61 main_while1b_v62 (addf : (⟨S64x64, .f32⟩ : BufTy).Contents (Elt F) → (⟨S64x64, .f32⟩ : BufTy).Contents (Elt F) → (⟨S64x64, .f32⟩ : BufTy).Contents (Elt F)),
    StableHlo.binary main_while1b_v60 main_while1b_v51 main_while1b_v63 (mulf : (⟨S64x64, .f32⟩ : BufTy).Contents (Elt F) → (⟨S64x64, .f32⟩ : BufTy).Contents (Elt F) → (⟨S64x64, .f32⟩ : BufTy).Contents (Elt F)),
    StableHlo.binary main_while1b_v56 main_while1b_v63 main_while1b_v64 (addf : (⟨S64x64, .f32⟩ : BufTy).Contents (Elt F) → (⟨S64x64, .f32⟩ : BufTy).Contents (Elt F) → (⟨S64x64, .f32⟩ : BufTy).Contents (Elt F)),
    StableHlo.binary main_v35_4 main_while1b_v52 main_while1b_v65 (mulf : (⟨S64x64, .f32⟩ : BufTy).Contents (Elt F) → (⟨S64x64, .f32⟩ : BufTy).Contents (Elt F) → (⟨S64x64, .f32⟩ : BufTy).Contents (Elt F)),
    StableHlo.binary main_while1b_v54 main_while1b_v65 main_while1b_v66 (addf : (⟨S64x64, .f32⟩ : BufTy).Contents (Elt F) → (⟨S64x64, .f32⟩ : BufTy).Contents (Elt F) → (⟨S64x64, .f32⟩ : BufTy).Contents (Elt F)),
    StableHlo.binary main_while1b_v52 main_while1b_v50 main_while1b_v67 (mulf : (⟨S64x64, .f32⟩ : BufTy).Contents (Elt F) → (⟨S64x64, .f32⟩ : BufTy).Contents (Elt F) → (⟨S64x64, .f32⟩ : BufTy).Contents (Elt F)),
    StableHlo.binary main_while1b_v59 main_while1b_v67 main_while1b_v68 (addf : (⟨S64x64, .f32⟩ : BufTy).Contents (Elt F) → (⟨S64x64, .f32⟩ : BufTy).Contents (Elt F) → (⟨S64x64, .f32⟩ : BufTy).Contents (Elt F)) ]
theorem body1_5_sub : (body1_5 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem body1_5_fresh : (body1_5 : List (HloOp τ sig (Elt F))).Forall fun op => op.fresh = ∅ :=
  StableHlo.forall_fresh_of_map rfl
abbrev body1_5_W : List (Ref sig .tc) := [main_while1b_v52, main_while1b_v53, main_while1b_v54, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68]
theorem body1_5_writes : (body1_5 : List (HloOp τ sig (Elt F))).Forall fun op => op.writes ⊆ (body1_5_W.map (Proc.devRef (τ := τ) .tc)).toFinset :=
  StableHlo.forall_writes_sub_of_map rfl
theorem body1_5_keep (V : Valuation τ sig (Elt F)) (r : Ref sig .tc) (h : r ∉ body1_5_W) :
    after body1_5 V (Proc.devRef .tc r) = V (Proc.devRef .tc r) :=
  after_of_writes_sub body1_5 V body1_5_writes h

/-- Loop 1's body, stretch 6 (an indexing call). -/
abbrev body1_6 : List (HloOp τ sig (Elt F)) :=
  [ StableHlo.TRef.unary (.of main_while1b_v52 : StableHlo.TRef sig ⟨S64x64, .f32⟩) (.of main_while1b_call10_v0 : StableHlo.TRef sig ⟨S1x64x64, .f32⟩) (broadcastInDim S1x64x64 ![1, 2] bcast_S64x64_S1x64x64_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v35_11 : StableHlo.TRef sig ⟨S2048x64x64, .f32⟩) (.of main_while1b_call10_v0 : StableHlo.TRef sig ⟨S1x64x64, .f32⟩) ![(.of main_while1b_v47 : StableHlo.TRef sig ⟨S_, .i32⟩), (.of main_while1b_call10_c : StableHlo.TRef sig ⟨S_, .i32⟩), (.of main_while1b_call10_c_0 : StableHlo.TRef sig ⟨S_, .i32⟩)] (.of main_while1b_v69 : StableHlo.TRef sig ⟨S2048x64x64, .f32⟩) (fun x u i => Host.dynamicUpdateSlice x u (fun k => (i k (Shape.Idx.first h_S_)).toInt) updateFits_S2048x64x64_S1x64x64) ]
theorem body1_6_sub : (body1_6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem body1_6_fresh : (body1_6 : List (HloOp τ sig (Elt F))).Forall fun op => op.fresh = ∅ :=
  StableHlo.forall_fresh_of_map rfl
abbrev body1_6_W : List (Ref sig .tc) := [main_while1b_call10_v0, main_while1b_call10_c, main_while1b_call10_c_0, main_while1b_v69]
theorem body1_6_writes : (body1_6 : List (HloOp τ sig (Elt F))).Forall fun op => op.writes ⊆ (body1_6_W.map (Proc.devRef (τ := τ) .tc)).toFinset :=
  StableHlo.forall_writes_sub_of_map rfl
theorem body1_6_keep (V : Valuation τ sig (Elt F)) (r : Ref sig .tc) (h : r ∉ body1_6_W) :
    after body1_6 V (Proc.devRef .tc r) = V (Proc.devRef .tc r) :=
  after_of_writes_sub body1_6 V body1_6_writes h

/-- Loop 1's body, stretch 7 (an indexing call). -/
abbrev body1_7 : List (HloOp τ sig (Elt F)) :=
  [ StableHlo.TRef.unary (.of main_while1b_v53 : StableHlo.TRef sig ⟨S64x64, .f32⟩) (.of main_while1b_call11_v0 : StableHlo.TRef sig ⟨S1x64x64, .f32⟩) (broadcastInDim S1x64x64 ![1, 2] bcast_S64x64_S1x64x64_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v35_12 : StableHlo.TRef sig ⟨S2048x64x64, .f32⟩) (.of main_while1b_call11_v0 : StableHlo.TRef sig ⟨S1x64x64, .f32⟩) ![(.of main_while1b_v47 : StableHlo.TRef sig ⟨S_, .i32⟩), (.of main_while1b_call11_c : StableHlo.TRef sig ⟨S_, .i32⟩), (.of main_while1b_call11_c_0 : StableHlo.TRef sig ⟨S_, .i32⟩)] (.of main_while1b_v70 : StableHlo.TRef sig ⟨S2048x64x64, .f32⟩) (fun x u i => Host.dynamicUpdateSlice x u (fun k => (i k (Shape.Idx.first h_S_)).toInt) updateFits_S2048x64x64_S1x64x64) ]
theorem body1_7_sub : (body1_7 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem body1_7_fresh : (body1_7 : List (HloOp τ sig (Elt F))).Forall fun op => op.fresh = ∅ :=
  StableHlo.forall_fresh_of_map rfl
abbrev body1_7_W : List (Ref sig .tc) := [main_while1b_call11_v0, main_while1b_call11_c, main_while1b_call11_c_0, main_while1b_v70]
theorem body1_7_writes : (body1_7 : List (HloOp τ sig (Elt F))).Forall fun op => op.writes ⊆ (body1_7_W.map (Proc.devRef (τ := τ) .tc)).toFinset :=
  StableHlo.forall_writes_sub_of_map rfl
theorem body1_7_keep (V : Valuation τ sig (Elt F)) (r : Ref sig .tc) (h : r ∉ body1_7_W) :
    after body1_7 V (Proc.devRef .tc r) = V (Proc.devRef .tc r) :=
  after_of_writes_sub body1_7 V body1_7_writes h

/-- Loop 1's body, stretch 8. -/
abbrev body1_8 : List (HloOp τ sig (Elt F)) :=
  [ StableHlo.nullary main_while1b_c_27 (constantI S_ 32 1#32),
    StableHlo.binary main_v35_6 main_while1b_c_27 main_while1b_v71 (addi : (⟨S_, .i32⟩ : BufTy).Contents (Elt F) → (⟨S_, .i32⟩ : BufTy).Contents (Elt F) → (⟨S_, .i32⟩ : BufTy).Contents (Elt F)),
    StableHlo.unary main_while1b_v71 main_v35_6 id,
    StableHlo.unary main_while1b_v68 main_v35_7 id,
    StableHlo.unary main_while1b_v64 main_v35_8 id,
    StableHlo.unary main_while1b_v66 main_v35_9 id,
    StableHlo.unary main_while1b_v62 main_v35_10 id,
    StableHlo.unary main_while1b_v69 main_v35_11 id,
    StableHlo.unary main_while1b_v70 main_v35_12 id ]
theorem body1_8_sub : (body1_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem body1_8_fresh : (body1_8 : List (HloOp τ sig (Elt F))).Forall fun op => op.fresh = ∅ :=
  StableHlo.forall_fresh_of_map rfl
abbrev body1_8_W : List (Ref sig .tc) := [main_while1b_c_27, main_while1b_v71, main_v35_6, main_v35_7, main_v35_8, main_v35_9, main_v35_10, main_v35_11, main_v35_12]
theorem body1_8_writes : (body1_8 : List (HloOp τ sig (Elt F))).Forall fun op => op.writes ⊆ (body1_8_W.map (Proc.devRef (τ := τ) .tc)).toFinset :=
  StableHlo.forall_writes_sub_of_map rfl
theorem body1_8_keep (V : Valuation τ sig (Elt F)) (r : Ref sig .tc) (h : r ∉ body1_8_W) :
    after body1_8 V (Proc.devRef .tc r) = V (Proc.devRef .tc r) :=
  after_of_writes_sub body1_8 V body1_8_writes h

/-- Loop 1's body is the chain of its stretches. -/
theorem body1_chain : main_while1_body (F := F) = (Pipeline.chain
  [ StableHlo.seq body1_0,
    StableHlo.seq body1_1,
    StableHlo.seq body1_2,
    StableHlo.seq body1_3,
    StableHlo.seq body1_4,
    StableHlo.seq body1_5,
    StableHlo.seq body1_6,
    StableHlo.seq body1_7,
    StableHlo.seq body1_8 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, StableHlo.chain_seq_cons, Pipeline.chain_cons, Pipeline.chain_cons, StableHlo.chain_seq_cons]
  chain_rfl

abbrev bodyI1 : List (List (HloOp τ sig (Elt F))) := [body1_0, body1_1, body1_2, body1_3, body1_4, body1_5, body1_6, body1_7, body1_8]
theorem plain1 : Plain (bodyI1 (F := F)) := .cons body1_0_sub (hf := List.forall_iff_forall_mem.mp body1_0_fresh) (.cons body1_1_sub (hf := List.forall_iff_forall_mem.mp body1_1_fresh) (.cons body1_2_sub (hf := List.forall_iff_forall_mem.mp body1_2_fresh) (.cons body1_3_sub (hf := List.forall_iff_forall_mem.mp body1_3_fresh) (.cons body1_4_sub (hf := List.forall_iff_forall_mem.mp body1_4_fresh) (.cons body1_5_sub (hf := List.forall_iff_forall_mem.mp body1_5_fresh) (.cons body1_6_sub (hf := List.forall_iff_forall_mem.mp body1_6_fresh) (.cons body1_7_sub (hf := List.forall_iff_forall_mem.mp body1_7_fresh) (.cons body1_8_sub (hf := List.forall_iff_forall_mem.mp body1_8_fresh) (.nil)))))))))

/-- Loop 0's condition: the bound, and the trip counter compared with it. -/
abbrev cond0 : List (HloOp τ sig (Elt F)) :=
  [ StableHlo.nullary main_while0c_c_23 (constantI S_ 32 2048#32),
    StableHlo.binary main_v10_4 main_while0c_c_23 main_while0c_v46 (cmpi .slt) ]
theorem cond0_sub : (cond0 : List (HloOp τ sig (Elt F))).Forall fun op => op.bufs ⊆ StableHlo.tcRefs τ sig :=
  ⟨StableHlo.nullary_bufs_sub .., StableHlo.binary_bufs_sub ..⟩
theorem cond0_fresh : (cond0 : List (HloOp τ sig (Elt F))).Forall fun op => op.fresh = ∅ :=
  StableHlo.forall_fresh_of_map rfl
abbrev cond0_W : List (Ref sig .tc) := [main_while0c_c_23, main_while0c_v46]
theorem cond0_writes : (cond0 : List (HloOp τ sig (Elt F))).Forall fun op => op.writes ⊆ (cond0_W.map (Proc.devRef (τ := τ) .tc)).toFinset :=
  StableHlo.forall_writes_sub_of_map rfl
theorem cond0_keep (V : Valuation τ sig (Elt F)) (r : Ref sig .tc) (h : r ∉ cond0_W) :
    after cond0 V (Proc.devRef .tc r) = V (Proc.devRef .tc r) :=
  after_of_writes_sub cond0 V cond0_writes h

/-- Loop 1's condition: the bound, and the trip counter compared with it. -/
abbrev cond1 : List (HloOp τ sig (Elt F)) :=
  [ StableHlo.nullary main_while1c_c_25 (constantI S_ 32 2048#32),
    StableHlo.binary main_v35_6 main_while1c_c_25 main_while1c_v46 (cmpi .slt) ]
theorem cond1_sub : (cond1 : List (HloOp τ sig (Elt F))).Forall fun op => op.bufs ⊆ StableHlo.tcRefs τ sig :=
  ⟨StableHlo.nullary_bufs_sub .., StableHlo.binary_bufs_sub ..⟩
theorem cond1_fresh : (cond1 : List (HloOp τ sig (Elt F))).Forall fun op => op.fresh = ∅ :=
  StableHlo.forall_fresh_of_map rfl
abbrev cond1_W : List (Ref sig .tc) := [main_while1c_c_25, main_while1c_v46]
theorem cond1_writes : (cond1 : List (HloOp τ sig (Elt F))).Forall fun op => op.writes ⊆ (cond1_W.map (Proc.devRef (τ := τ) .tc)).toFinset :=
  StableHlo.forall_writes_sub_of_map rfl
theorem cond1_keep (V : Valuation τ sig (Elt F)) (r : Ref sig .tc) (h : r ∉ cond1_W) :
    after cond1 V (Proc.devRef .tc r) = V (Proc.devRef .tc r) :=
  after_of_writes_sub cond1 V cond1_writes h

abbrev preI : List (List (HloOp τ sig (Elt F))) := [preOps]
theorem plain_pre : Plain (preI (F := F)) := .cons preOps_sub (hf := List.forall_iff_forall_mem.mp preOps_fresh) (.nil)

abbrev midI : List (List (HloOp τ sig (Elt F))) := [midOps]
theorem plain_mid : Plain (midI (F := F)) := .cons midOps_sub (hf := List.forall_iff_forall_mem.mp midOps_fresh) (.nil)

abbrev postI : List (List (HloOp τ sig (Elt F))) := [postOps]
theorem plain_post : Plain (postI (F := F)) := .cons postOps_sub (hf := List.forall_iff_forall_mem.mp postOps_fresh) (.nil)

end Cert.ReferenceIdeal.Lists

end
-- ==== Proof.RefRun.lean ====
/- Hand-written, untrusted. THE RUN of the reference `ReferenceIdeal` by the library's loop kit: a stretch, the forward loop,
   a stretch, the backward loop, a last stretch (`Lists.main_chain`). Every final state has every TensorCore buffer at `Wfin`
   and every semaphore counter at zero. The contents at each boundary are named: `E0` when the forward loop is entered,
   `K0 k` before the `k`-th evaluation of its condition, `E1` and `K1 k` likewise for the backward loop. -/
module

public import proofs.«01_k».proof.Proof.RefLists
public import Idealize.ShloMosaic.Lib.Pipeline.RegionsLoop

@[expose] public section

noncomputable section

namespace Cert.ReferenceIdeal.Run

open Cert.ReferenceIdeal Cert.ReferenceIdeal.Lists
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## No pipeline, no semaphore dues -/

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm :=
  fun j => j.elim0
abbrev L : GSem nD τ sig → Finset Unit := fun _ => ∅
abbrev lv : GSem nD τ sig → Unit → ℕ := fun _ _ => 0
theorem hinj : Function.Injective (Pipeline.cellOf (nD := nD) (τ := τ) (Pipeline.pin (pcfgs (F := F)) adm)) := fun p _ _ => p.1.elim0

local notation "𝕄" => MT nD τ sig Unit (Elt F) ℕ (Option PUnit) ℕ

/-- What a core carries beside its buffers: it owes nothing. -/
abbrev Rc (c : Dev nD) : sProp 𝕄 := iprop(∃ W, owes (c : Thread nD τ) (0 : CellTallies nD τ sig Unit) W)

variable (m : (ℓ : Loc nD τ sig) → Buf (Elt F) ℓ)

/-! ## The contents at each boundary -/

abbrev E0 (c : Dev nD) : Valuation τ sig (Elt F) := after preOps (launchContents m c)
abbrev K0 (k : ℕ) (c : Dev nD) : Valuation τ sig (Elt F) := atTrip cond0 bodyI0 (E0 m) k c
abbrev X0 (c : Dev nD) : Valuation τ sig (Elt F) := after cond0 (K0 m 2048 c)
abbrev E1 (c : Dev nD) : Valuation τ sig (Elt F) := after midOps (X0 m c)
abbrev K1 (k : ℕ) (c : Dev nD) : Valuation τ sig (Elt F) := atTrip cond1 bodyI1 (E1 m) k c
abbrev X1 (c : Dev nD) : Valuation τ sig (Elt F) := after cond1 (K1 m 2048 c)
abbrev Wfin (c : Dev nD) : Valuation τ sig (Elt F) := after postOps (X1 m c)

/-! ## A reference that no operation writes -/

theorem body0_keep (V : Valuation τ sig (Elt F)) (r : Ref sig .tc) (h : r ∉ body0_0_W ++ body0_1_W ++ body0_2_W ++ body0_3_W ++ body0_4_W ++ body0_5_W ++ body0_6_W ++ body0_7_W) :
    afterL bodyI0 V (Proc.devRef .tc r) = V (Proc.devRef .tc r) := by
  simp only [List.mem_append, not_or] at h
  obtain ⟨⟨⟨⟨⟨⟨⟨h0, h1⟩, h2⟩, h3⟩, h4⟩, h5⟩, h6⟩, h7⟩ := h
  simp only [afterL_cons, afterL_nil]
  rw [body0_7_keep _ _ h7, body0_6_keep _ _ h6, body0_5_keep _ _ h5, body0_4_keep _ _ h4, body0_3_keep _ _ h3, body0_2_keep _ _ h2,
    body0_1_keep _ _ h1, body0_0_keep _ _ h0]

theorem body1_keep (V : Valuation τ sig (Elt F)) (r : Ref sig .tc) (h : r ∉ body1_0_W ++ body1_1_W ++ body1_2_W ++ body1_3_W ++ body1_4_W ++ body1_5_W ++ body1_6_W ++ body1_7_W ++ body1_8_W) :
    afterL bodyI1 V (Proc.devRef .tc r) = V (Proc.devRef .tc r) := by
  simp only [List.mem_append, not_or] at h
  obtain ⟨⟨⟨⟨⟨⟨⟨⟨h0, h1⟩, h2⟩, h3⟩, h4⟩, h5⟩, h6⟩, h7⟩, h8⟩ := h
  simp only [afterL_cons, afterL_nil]
  rw [body1_8_keep _ _ h8, body1_7_keep _ _ h7, body1_6_keep _ _ h6, body1_5_keep _ _ h5, body1_4_keep _ _ h4, body1_3_keep _ _ h3, body1_2_keep _ _ h2,
    body1_1_keep _ _ h1, body1_0_keep _ _ h0]

/-- What the forward loop's trips and conditions do not write stands at its entry contents. -/
theorem K0_keep (c : Dev nD) (r : Ref sig .tc) (hc : r ∉ cond0_W)
    (h : r ∉ body0_0_W ++ body0_1_W ++ body0_2_W ++ body0_3_W ++ body0_4_W ++ body0_5_W ++ body0_6_W ++ body0_7_W) :
    ∀ k, K0 m k c (Proc.devRef .tc r) = E0 m c (Proc.devRef .tc r)
  | 0 => rfl
  | k + 1 => by
    rw [show K0 m (k + 1) c = afterL bodyI0 (after cond0 (K0 m k c)) from rfl, body0_keep _ _ h, cond0_keep _ _ hc, K0_keep c r hc h k]

/-- What the backward loop's trips and conditions do not write stands at its entry contents. -/
theorem K1_keep (c : Dev nD) (r : Ref sig .tc) (hc : r ∉ cond1_W)
    (h : r ∉ body1_0_W ++ body1_1_W ++ body1_2_W ++ body1_3_W ++ body1_4_W ++ body1_5_W ++ body1_6_W ++ body1_7_W ++ body1_8_W) :
    ∀ k, K1 m k c (Proc.devRef .tc r) = E1 m c (Proc.devRef .tc r)
  | 0 => rfl
  | k + 1 => by
    rw [show K1 m (k + 1) c = afterL bodyI1 (after cond1 (K1 m k c)) from rfl, body1_keep _ _ h, cond1_keep _ _ hc, K1_keep c r hc h k]

abbrev allW : List (Ref sig .tc) :=
  preOps_W ++ cond0_W ++ (body0_0_W ++ body0_1_W ++ body0_2_W ++ body0_3_W ++ body0_4_W ++ body0_5_W ++ body0_6_W ++ body0_7_W) ++ midOps_W ++ cond1_W
    ++ (body1_0_W ++ body1_1_W ++ body1_2_W ++ body1_3_W ++ body1_4_W ++ body1_5_W ++ body1_6_W ++ body1_7_W ++ body1_8_W) ++ postOps_W

/-- A reference no operation of the program writes ends as it was at launch. -/
theorem Wfin_keep (c : Dev nD) (r : Ref sig .tc) (h : r ∉ allW) : Wfin m c (Proc.devRef .tc r) = m ((c.tc : Thread nD τ).loc r) := by
  have hs : r ∉ preOps_W ∧ r ∉ cond0_W ∧ r ∉ body0_0_W ++ body0_1_W ++ body0_2_W ++ body0_3_W ++ body0_4_W ++ body0_5_W ++ body0_6_W ++ body0_7_W
      ∧ r ∉ midOps_W ∧ r ∉ cond1_W
      ∧ r ∉ body1_0_W ++ body1_1_W ++ body1_2_W ++ body1_3_W ++ body1_4_W ++ body1_5_W ++ body1_6_W ++ body1_7_W ++ body1_8_W ∧ r ∉ postOps_W := by
    refine ⟨fun hh => h ?_, fun hh => h ?_, fun hh => h ?_, fun hh => h ?_, fun hh => h ?_, fun hh => h ?_, fun hh => h ?_⟩ <;>
      · unfold allW; repeat (first | exact List.mem_append_right _ hh | exact hh | apply List.mem_append_left)
  obtain ⟨h0, h1, h2, h3, h4, h5, h6⟩ := hs
  refine (postOps_keep _ _ h6).trans ((cond1_keep _ _ h4).trans ((K1_keep m c r h4 h5 2048).trans ((midOps_keep _ _ h3).trans
    ((cond0_keep _ _ h1).trans ((K0_keep m c r h1 h2 2048).trans ((preOps_keep _ _ h0).trans rfl))))))

/-! ## The trip counters and the conditions -/

theorem ctr0_step (X : Valuation τ sig (Elt F)) :
    afterL bodyI0 X (Proc.devRef .tc main_v10_4) = addi (X (Proc.devRef .tc main_v10_4)) (constantI S_ 32 1#32) := by
  simp only [afterL_cons, afterL_nil]
  rw [show ∀ V : Valuation τ sig (Elt F), after body0_7 V (Proc.devRef .tc main_v10_4) = addi (V (Proc.devRef .tc main_v10_4)) (constantI S_ 32 1#32) from
    fun V => by after_results; rfl]
  rw [body0_6_keep _ _ (by decide), body0_5_keep _ _ (by decide), body0_4_keep _ _ (by decide), body0_3_keep _ _ (by decide), body0_2_keep _ _ (by decide),
    body0_1_keep _ _ (by decide), body0_0_keep _ _ (by decide)]
theorem ctr0_entry (c : Dev nD) : E0 m c (Proc.devRef .tc main_v10_4) = fun _ => (0#32 : BitVec 32) := by
  after_reads_simp
  rfl
theorem K0_ctr (c : Dev nD) : ∀ k, K0 m k c (Proc.devRef .tc main_v10_4) = fun _ => Scf.iv 0#32 1#32 k
  | 0 => by rw [show K0 m 0 c = E0 m c from rfl, ctr0_entry, Scf.iv_zero]
  | k + 1 => by
    rw [show K0 m (k + 1) c = afterL bodyI0 (after cond0 (K0 m k c)) from rfl, ctr0_step, cond0_keep _ _ (by decide), K0_ctr c k, Scf.iv_succ]
    rfl

theorem ctr1_step (X : Valuation τ sig (Elt F)) :
    afterL bodyI1 X (Proc.devRef .tc main_v35_6) = addi (X (Proc.devRef .tc main_v35_6)) (constantI S_ 32 1#32) := by
  simp only [afterL_cons, afterL_nil]
  rw [show ∀ V : Valuation τ sig (Elt F), after body1_8 V (Proc.devRef .tc main_v35_6) = addi (V (Proc.devRef .tc main_v35_6)) (constantI S_ 32 1#32) from
    fun V => by after_results; rfl]
  rw [body1_7_keep _ _ (by decide), body1_6_keep _ _ (by decide), body1_5_keep _ _ (by decide), body1_4_keep _ _ (by decide), body1_3_keep _ _ (by decide),
    body1_2_keep _ _ (by decide), body1_1_keep _ _ (by decide), body1_0_keep _ _ (by decide)]
theorem ctr1_entry (c : Dev nD) : E1 m c (Proc.devRef .tc main_v35_6) = fun _ => (0#32 : BitVec 32) := by
  after_reads_simp
  rfl
theorem K1_ctr (c : Dev nD) : ∀ k, K1 m k c (Proc.devRef .tc main_v35_6) = fun _ => Scf.iv 0#32 1#32 k
  | 0 => by rw [show K1 m 0 c = E1 m c from rfl, ctr1_entry, Scf.iv_zero]
  | k + 1 => by
    rw [show K1 m (k + 1) c = afterL bodyI1 (after cond1 (K1 m k c)) from rfl, ctr1_step, cond1_keep _ _ (by decide), K1_ctr c k, Scf.iv_succ]
    rfl

-- a rule stated for any thread is applied at the TensorCore's: unification must unfold plain definitions in a metavariable's type
set_option backward.isDefEq.respectTransparency.types false in
/-- The forward loop's condition, evaluated for the `k`-th time, says whether `k < 2048`. -/
theorem cond0_spec : LoopCond (pcfgs (F := F)) defs₀ Variants.none loops Rc (main_while0_cond (F := F)) cond0 bodyI0 (E0 m) 2048 := by
  intro k hk c bd
  have hctr := K0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (K0 m k c) main_v10_4 HostLoop.idx0) (HloOp.result _ (K0 m k c) main_while0c_c_23 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

set_option backward.isDefEq.respectTransparency.types false in
/-- The backward loop's condition, evaluated for the `k`-th time, says whether `k < 2048`. -/
theorem cond1_spec : LoopCond (pcfgs (F := F)) defs₀ Variants.none loops Rc (main_while1_cond (F := F)) cond1 bodyI1 (E1 m) 2048 := by
  intro k hk c bd
  have hctr := K1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb] <;> iassumption
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (K1 m k c) main_v35_6 HostLoop.idx0) (HloOp.result _ (K1 m k c) main_while1c_c_25 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-! ## The five segments -/

abbrev KitSeg : Type 1 := Pipeline.CSeg (pcfgs (F := F)) adm defs₀ Variants.none L lv loops tk

abbrev opsSeg (ops : List (HloOp τ sig (Elt F))) (hs : ops.Forall fun op => op.bufs ⊆ StableHlo.tcRefs τ sig) (hf : ops.Forall fun op => op.fresh = ∅)
    (W : Dev nD → Valuation τ sig (Elt F)) : KitSeg (F := F) :=
  Pipeline.CSeg.ofOps _ _ _ _ _ _ _ _ (ucRefs τ sig) ops
    (fun op h => sub_ucRefs op ((List.forall_iff_forall_mem.mp hs) op h)) (fun op h => (List.forall_iff_forall_mem.mp hf) op h) W Rc

abbrev segs : List (KitSeg (F := F)) :=
  [ opsSeg preOps preOps_sub preOps_fresh (launchContents m),
    loopSeg _ _ _ _ _ _ _ _ 0 (main_while0_cond (F := F)) (main_while0_body (F := F)) rfl cond0 bodyI0 plain0 (by rw [body0_chain]; rfl) 2048 (E0 m) Rc (cond0_spec m),
    opsSeg midOps midOps_sub midOps_fresh (X0 m),
    loopSeg _ _ _ _ _ _ _ _ 1 (main_while1_cond (F := F)) (main_while1_body (F := F)) rfl cond1 bodyI1 plain1 (by rw [body1_chain]; rfl) 2048 (E1 m) Rc (cond1_spec m),
    opsSeg postOps postOps_sub postOps_fresh (X1 m) ]

theorem main_run (c : Dev nD) : main (F := F) c = Pipeline.CSeg.runL (segs m) := (main_chain c).trans (by chain_rfl)
theorem segs_disjoint : (segs m).Pairwise fun s s' => Disjoint s.T s'.T :=
  Pipeline.CSeg.pairwise_disjoint_of_T_empty _ fun s _ => Finset.eq_empty_of_isEmpty s.T

set_option backward.isDefEq.respectTransparency.types false in
/-- THE RUN: from any memory with zero counters every weakly fair execution terminates, nothing faulting, both loops included;
    every final state has every tensor value's buffer at `Wfin` and every semaphore counter at zero. -/
theorem run_main (ρ : Dev nD → PrngReg) : θ_run defs (onTc (τ := τ) (main (F := F))) ⟨m, fun _ => 0, ρ⟩
    (fun r => (∀ (c : Dev nD), ∀ b ∈ ucRefs τ sig, r.2.mem (((c : Thread nD τ)).1, b) = Wfin m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm hinj defs₀ Variants.none L lv loops tk m ρ main (segs m)
    (fun c Q => by rw [main_run m c]) (segs_disjoint m)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rc c))
    (Tₙ := fun c => iprop(held (c : Thread nD τ) (ucRefs τ sig) (Wfin m c)))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem (((c : Thread nD τ)).1, b) = Wfin m c b)
    (hfin := fun c s' => by
      unfold held
      iintro ⟨Hh, HSI⟩
      ihave Hr := (pointsTo_read_all (ucRefs τ sig) (fun b => (((c : Thread nD τ)).1, b)) (fun b => Wfin m c b) s') $$ [Hh HSI]
      · isplitl [Hh] <;> iassumption
      icases Hr with ⟨%h, HSI⟩
      imodintro
      isplitr; · ipureintro; exact h
      iexact HSI)
    (hQ := fun s h hz => ⟨h, sem_eq_zero hz fun _ sm => by cases sm with | reg r => exact Fin.elim0 r | dma r => exact Fin.elim0 r⟩)

/-- A buffer of the program is at its value of `Wfin`. -/
theorem run_read (ρ : Dev nD → PrngReg) : θ_run defs (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = Wfin m c (Proc.devRef .tc b)) ∧ r.2.sem = fun _ => 0) :=
  (θ_run defs _ _).mono (fun _ h => ⟨fun c b hb => h.1 c _ (devRef_mem_ucRefs b hb), h.2⟩) (run_main m ρ)

end Cert.ReferenceIdeal.Run

end
-- ==== Proof.Cx.lean ====
/-
  Complex numbers held as pairs of extended reals, and the recurrence `z ↦ l z + x k`.

  A kernel keeps a complex state as two arrays, its real and its imaginary part. `Is a b z` says that the extended
  reals `a` and `b` are the two parts of the complex number `z`; sums and products of such pairs, as the programs spell
  them, are again such pairs. `scan l x z0 k` is the state after `k` steps from `z0`.
-/
module

public import Mathlib.Data.EReal.Operations
public import Mathlib.Analysis.Complex.Basic
public import Mathlib.Algebra.BigOperators.Fin

@[expose] public section

noncomputable section

namespace Cert.S5

open scoped BigOperators

/-- A real number as an extended real. -/
abbrev up (r : ℝ) : EReal := (r : EReal)

/-- A finite sum of reals, taken among the extended reals. -/
theorem sum_up {ι : Type*} (s : Finset ι) (f : ι → ℝ) : ∑ k ∈ s, up (f k) = up (∑ k ∈ s, f k) := by
  classical
  induction s using Finset.induction_on with
  | empty => simp
  | insert a s ha ih => rw [Finset.sum_insert ha, Finset.sum_insert ha, ih, up, up, up, EReal.coe_add]

/-- Products and sums of products of reals. -/
theorem sum_mul_up {ι : Type*} [Fintype ι] (f g : ι → EReal) (f' g' : ι → ℝ) (hf : ∀ k, f k = up (f' k))
    (hg : ∀ k, g k = up (g' k)) : ∑ k, f k * g k = up (∑ k, f' k * g' k) := by
  rw [← sum_up]
  exact Finset.sum_congr rfl fun k _ => by rw [hf, hg]; exact (EReal.coe_mul _ _).symm

/-- `a` and `b` are the real and the imaginary part of `z`. -/
structure Is (a b : EReal) (z : ℂ) : Prop where
  re : a = up z.re
  im : b = up z.im

namespace Is

variable {a b c d e f : EReal} {z w v : ℂ}

theorem zero : Is 0 0 0 := ⟨by simp, by simp⟩

theorem congr (h : Is a b z) (ha : c = a) (hb : d = b) (hz : z = w) : Is c d w := by
  subst ha hb hz; exact h

/-- `z w`. -/
theorem mul (hz : Is a b z) (hw : Is c d w) : Is (a * c - b * d) (a * d + b * c) (z * w) := by
  obtain ⟨rfl, rfl⟩ := hz
  obtain ⟨rfl, rfl⟩ := hw
  constructor
  · rw [Complex.mul_re]; push_cast [up]; rfl
  · rw [Complex.mul_im]; push_cast [up]; rfl

theorem add (hz : Is a b z) (hw : Is c d w) : Is (a + c) (b + d) (z + w) := by
  obtain ⟨rfl, rfl⟩ := hz
  obtain ⟨rfl, rfl⟩ := hw
  exact ⟨by rw [Complex.add_re]; push_cast [up]; rfl, by rw [Complex.add_im]; push_cast [up]; rfl⟩

/-- One step of the recurrence. -/
theorem step (hz : Is a b z) (hw : Is c d w) (hv : Is e f v) :
    Is (a * c - b * d + e) (a * d + b * c + f) (z * w + v) := (hz.mul hw).add hv

theorem sq (hz : Is a b z) : Is (a * a - b * b) (a * b + b * a) (z ^ 2) := by
  rw [_root_.pow_two]; exact hz.mul hz

theorem conjugate (hz : Is a b z) : Is a (-b) ((starRingEnd ℂ) z) := by
  obtain ⟨rfl, rfl⟩ := hz
  exact ⟨rfl, by rw [Complex.conj_im]; push_cast [up]; rfl⟩

theorem ofParts (r s : ℝ) : Is (up r) (up s) ⟨r, s⟩ := ⟨rfl, rfl⟩

end Is

/-- The state after `k` steps of `z ↦ l z + x j` from `z0`. -/
def scan (l : ℂ) (x : ℕ → ℂ) (z0 : ℂ) : ℕ → ℂ
  | 0 => z0
  | k + 1 => l * scan l x z0 k + x k

theorem scan_succ (l : ℂ) (x : ℕ → ℂ) (z0 : ℂ) (k : ℕ) : scan l x z0 (k + 1) = l * scan l x z0 k + x k := rfl

/-- The steps after the first `m` start from the state those leave. -/
theorem scan_add (l : ℂ) (x : ℕ → ℂ) (z0 : ℂ) (m : ℕ) :
    ∀ k, scan l x z0 (m + k) = scan l (fun i => x (m + i)) (scan l x z0 m) k
  | 0 => rfl
  | k + 1 => by rw [← Nat.add_assoc, scan_succ, scan_add l x z0 m k, scan_succ]

/-- The start's share of the state after `k` steps. -/
theorem scan_start (l : ℂ) (x : ℕ → ℂ) (z0 : ℂ) : ∀ k, scan l x z0 k = l ^ k * z0 + scan l x 0 k
  | 0 => by simp [scan]
  | k + 1 => by rw [scan_succ, scan_succ, scan_start l x z0 k]; ring

theorem scan_congr (l : ℂ) {x y : ℕ → ℂ} (z0 : ℂ) : ∀ k, (∀ i < k, x i = y i) → scan l x z0 k = scan l y z0 k
  | 0, _ => rfl
  | k + 1, h => by
    rw [scan_succ, scan_succ, scan_congr l z0 k fun i hi => h i (by omega), h k (by omega)]

/-- The state in which segment `s` of `n` steps starts, as a kernel finds it from the segments' own ends. -/
def entryOf (l : ℂ) (n : ℕ) (fin : ℕ → ℂ) : ℕ → ℂ
  | 0 => 0
  | s + 1 => l ^ n * entryOf l n fin s + fin s

/-- It is the state of the whole recurrence after the segments before it. -/
theorem entryOf_eq (l : ℂ) (n : ℕ) (x : ℕ → ℂ) :
    ∀ s, entryOf l n (fun s => scan l (fun i => x (s * n + i)) 0 n) s = scan l x 0 (s * n)
  | 0 => by simp [entryOf, scan]
  | s + 1 => by
    rw [entryOf, entryOf_eq l n x s, Nat.succ_mul, scan_add, ← scan_start]

/-- A segment run from its entry state runs as the whole recurrence does. -/
theorem segment_eq (l : ℂ) (n : ℕ) (x : ℕ → ℂ) (s k : ℕ) :
    scan l (fun i => x (s * n + i)) (entryOf l n (fun s => scan l (fun i => x (s * n + i)) 0 n) s) k
      = scan l x 0 (s * n + k) := by
  rw [entryOf_eq, scan_add]

end Cert.S5

end
-- ==== Proof.Closed.lean ====
/-
  The step of the state-space layer in closed form, over the reals: the states as runs of the recurrence, the adjoint states as
  runs of the conjugate recurrence from the end of time, and the eight results as sums over them.
-/
module

public import proofs.«01_k».proof.Proof.Cx

@[expose] public section

noncomputable section

namespace Cert.S5

open scoped BigOperators

/-- Lane `ch` of group `g` among the 1024 lanes. -/
def gch (g : Fin 64) (ch : Fin 16) : Fin 1024 := ⟨g.val * 16 + ch.val, by omega⟩

def gOf (n : Fin 1024) : Fin 64 := ⟨n.val / 16, by omega⟩
def cOf (n : Fin 1024) : Fin 16 := ⟨n.val % 16, by omega⟩

theorem gch_of (n : Fin 1024) : gch (gOf n) (cOf n) = n := Fin.ext (by show n.val / 16 * 16 + n.val % 16 = n.val; omega)

/-- The inputs, as real and complex numbers. -/
structure Data where
  u : ℕ → Fin 1024 → ℝ
  l : Fin 64 → Fin 64 → ℂ
  br : Fin 64 → Fin 64 → Fin 16 → ℝ
  bi : Fin 64 → Fin 64 → Fin 16 → ℝ
  cr : Fin 64 → Fin 16 → Fin 64 → ℝ
  ci : Fin 64 → Fin 16 → Fin 64 → ℝ
  dy : ℕ → Fin 1024 → ℝ

namespace Data

variable (D : Data)

/-- The drive of state `p` of group `g` at time `t`. -/
def bu (g p : Fin 64) (t : ℕ) : ℂ := ⟨∑ ch, D.u t (gch g ch) * D.br g p ch, ∑ ch, D.u t (gch g ch) * D.bi g p ch⟩

/-- The state before step `t`. -/
def x (g p : Fin 64) (t : ℕ) : ℂ := scan (D.l g p) (D.bu g p) 0 t

/-- The cotangent that the output at time `t` sends to the state. -/
def ct (g p : Fin 64) (t : ℕ) : ℂ := ⟨∑ ch, D.dy t (gch g ch) * D.cr g ch p, -∑ ch, D.dy t (gch g ch) * D.ci g ch p⟩

/-- The cotangent of the state after step `t`. -/
def adj (g p : Fin 64) (t : ℕ) : ℂ := scan ((starRingEnd ℂ) (D.l g p)) (fun i => D.ct g p (2047 - i)) 0 (2048 - t)

def y (t : ℕ) (g : Fin 64) (ch : Fin 16) : ℝ := ∑ p, (D.x g p (t + 1)).re * D.cr g ch p - ∑ p, (D.x g p (t + 1)).im * D.ci g ch p
def du (t : ℕ) (g : Fin 64) (ch : Fin 16) : ℝ := ∑ p, (D.adj g p t).re * D.br g p ch + ∑ p, (D.adj g p t).im * D.bi g p ch
def dl (g p : Fin 64) : ℂ := ∑ t ∈ Finset.range 2048, D.adj g p t * (starRingEnd ℂ) (D.x g p t)
def dbr (g p : Fin 64) (ch : Fin 16) : ℝ := ∑ t ∈ Finset.range 2048, (D.adj g p t).re * D.u t (gch g ch)
def dbi (g p : Fin 64) (ch : Fin 16) : ℝ := ∑ t ∈ Finset.range 2048, (D.adj g p t).im * D.u t (gch g ch)
def dcr (g : Fin 64) (ch : Fin 16) (p : Fin 64) : ℝ := ∑ t ∈ Finset.range 2048, D.dy t (gch g ch) * (D.x g p (t + 1)).re
def dci (g : Fin 64) (ch : Fin 16) (p : Fin 64) : ℝ := ∑ t ∈ Finset.range 2048, -D.dy t (gch g ch) * (D.x g p (t + 1)).im

end Data

end Cert.S5

end
-- ==== Proof.KRegion.lean ====
/-
  The blocks of the two calls as parts of the arrays: a window of rows and columns covers the columns of its block, and a
  window with a leading axis covers its entry on that axis. So an input block is its part of the array, and an output
  array holds, block by block, what the body left.
-/
module

public import proofs.«01_k».proof.Proof.Gen.KernelIdeal.Frame
public import proofs.«01_k».proof.Proof.Closed
public import Idealize.ShloMosaic.Lib.Pointwise

@[expose] public section

set_option maxRecDepth 16384

noncomputable section

namespace Cert.S5

open Cert.KernelIdeal Cert.KernelIdeal.Gen
open Idealize.ShloMosaic Idealize.ShloMosaic.TcCoe Idealize.ShloMosaic.Tactic
open Idealize.ShloMosaic.StableHlo
open scoped BigOperators

/-! ## The grids' points, and the columns of a block -/

theorem N0 : cfg0.N = 8 := by decide +kernel
theorem N1 : cfg1.N = 8 := by decide +kernel
def pt0 (t : Fin 8) : Fin cfg0.N := t.cast N0.symm
def pt1 (t : Fin 8) : Fin cfg1.N := t.cast N1.symm
def col128 (t : Fin 8) (c : Fin 128) : Fin 1024 := ⟨128 * t.val + c.val, by omega⟩
def col1024 (t : Fin 8) (c : Fin 1024) : Fin 8192 := ⟨1024 * t.val + c.val, by omega⟩

theorem idx0_0 : ∀ t : Fin cfg0.N, win0_0.index t (0 : Fin 2) = 0 ∧ win0_0.index t (1 : Fin 2) = t.val :=
  (by decide +kernel : ∀ t : Fin grid0.N, _)
theorem emb0_0 (t : Fin 8) (r : Fin 2048) (c : Fin 128) : ((cfg0.win 0).blk (pt0 t)).view.emb (ix2 r c : S2048x128.Idx) = (ix2 r (col128 t c) : S2048x1024.Idx) := by
  obtain ⟨e0, e1⟩ := idx0_0 (pt0 t)
  funext a; apply Fin.ext
  match a with
  | ⟨0, _⟩ => show win0_0.index (pt0 t) (0 : Fin 2) * 2048 + 1 * ((ix2 r c : S2048x128.Idx) 0).val = ((ix2 r (col128 t c) : S2048x1024.Idx) 0).val; rw [e0]; show 0 * 2048 + 1 * r.val = r.val; omega
  | ⟨1, _⟩ => show win0_0.index (pt0 t) (1 : Fin 2) * 128 + 1 * ((ix2 r c : S2048x128.Idx) 1).val = ((ix2 r (col128 t c) : S2048x1024.Idx) 1).val; rw [e1]; show t.val * 128 + 1 * c.val = 128 * t.val + c.val; omega
theorem iblk0_0 (V : (c : Dev nD) → (r : Ref sig .tc) → r.ty.shape.Idx → Elt Ideal r.ty.elt) (d : Dev nD) (t : Fin 8) (r : Fin 2048) (c : Fin 128) :
    (iblk0 V d 0 (pt0 t) : S2048x128.Idx → EReal) (ix2 r c) = (V d main_v49 : S2048x1024.Idx → EReal) (ix2 r (col128 t c)) := by
  show (V d main_v49 : S2048x1024.Idx → EReal) (((cfg0.win 0).blk (pt0 t)).view.emb (ix2 r c : S2048x128.Idx)) = _
  rw [emb0_0]

theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem emb0_1 (t : Fin 8) (r : Fin 128) (c : Fin 1024) : ((cfg0.win 1).blk (pt0 t)).view.emb (ix3 0 r c : S1x128x1024.Idx) = (ix3 t r c : S8x128x1024.Idx) := by
  obtain ⟨e0, e1, e2⟩ := idx0_1 (pt0 t)
  funext a; apply Fin.ext
  match a with
  | ⟨0, _⟩ => show win0_1.index (pt0 t) (0 : Fin 3) * 1 + 1 * ((ix3 0 r c : S1x128x1024.Idx) 0).val = ((ix3 t r c : S8x128x1024.Idx) 0).val; rw [e0]; show t.val * 1 + 1 * 0 = t.val; omega
  | ⟨1, _⟩ => show win0_1.index (pt0 t) (1 : Fin 3) * 128 + 1 * ((ix3 0 r c : S1x128x1024.Idx) 1).val = ((ix3 t r c : S8x128x1024.Idx) 1).val; rw [e1]; show 0 * 128 + 1 * r.val = r.val; omega
  | ⟨2, _⟩ => show win0_1.index (pt0 t) (2 : Fin 3) * 1024 + 1 * ((ix3 0 r c : S1x128x1024.Idx) 2).val = ((ix3 t r c : S8x128x1024.Idx) 2).val; rw [e2]; show 0 * 1024 + 1 * c.val = c.val; omega
theorem iblk0_1 (V : (c : Dev nD) → (r : Ref sig .tc) → r.ty.shape.Idx → Elt Ideal r.ty.elt) (d : Dev nD) (t : Fin 8) (r : Fin 128) (c : Fin 1024) :
    (iblk0 V d 1 (pt0 t) : S1x128x1024.Idx → EReal) (ix3 0 r c) = (V d main_v54 : S8x128x1024.Idx → EReal) (ix3 t r c) := by
  show (V d main_v54 : S8x128x1024.Idx → EReal) (((cfg0.win 1).blk (pt0 t)).view.emb (ix3 0 r c : S1x128x1024.Idx)) = _
  rw [emb0_1]

theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem emb0_2 (t : Fin 8) (r : Fin 1024) (c : Fin 128) : ((cfg0.win 2).blk (pt0 t)).view.emb (ix3 0 r c : S1x1024x128.Idx) = (ix3 t r c : S8x1024x128.Idx) := by
  obtain ⟨e0, e1, e2⟩ := idx0_2 (pt0 t)
  funext a; apply Fin.ext
  match a with
  | ⟨0, _⟩ => show win0_2.index (pt0 t) (0 : Fin 3) * 1 + 1 * ((ix3 0 r c : S1x1024x128.Idx) 0).val = ((ix3 t r c : S8x1024x128.Idx) 0).val; rw [e0]; show t.val * 1 + 1 * 0 = t.val; omega
  | ⟨1, _⟩ => show win0_2.index (pt0 t) (1 : Fin 3) * 1024 + 1 * ((ix3 0 r c : S1x1024x128.Idx) 1).val = ((ix3 t r c : S8x1024x128.Idx) 1).val; rw [e1]; show 0 * 1024 + 1 * r.val = r.val; omega
  | ⟨2, _⟩ => show win0_2.index (pt0 t) (2 : Fin 3) * 128 + 1 * ((ix3 0 r c : S1x1024x128.Idx) 2).val = ((ix3 t r c : S8x1024x128.Idx) 2).val; rw [e2]; show 0 * 128 + 1 * c.val = c.val; omega
theorem iblk0_2 (V : (c : Dev nD) → (r : Ref sig .tc) → r.ty.shape.Idx → Elt Ideal r.ty.elt) (d : Dev nD) (t : Fin 8) (r : Fin 1024) (c : Fin 128) :
    (iblk0 V d 2 (pt0 t) : S1x1024x128.Idx → EReal) (ix3 0 r c) = (V d main_v55 : S8x1024x128.Idx → EReal) (ix3 t r c) := by
  show (V d main_v55 : S8x1024x128.Idx → EReal) (((cfg0.win 2).blk (pt0 t)).view.emb (ix3 0 r c : S1x1024x128.Idx)) = _
  rw [emb0_2]

theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem emb0_3 (t : Fin 8) (r : Fin 8) (c : Fin 1024) : ((cfg0.win 3).blk (pt0 t)).view.emb (ix3 0 r c : S1x8x1024.Idx) = (ix3 t r c : S8x8x1024.Idx) := by
  obtain ⟨e0, e1, e2⟩ := idx0_3 (pt0 t)
  funext a; apply Fin.ext
  match a with
  | ⟨0, _⟩ => show win0_3.index (pt0 t) (0 : Fin 3) * 1 + 1 * ((ix3 0 r c : S1x8x1024.Idx) 0).val = ((ix3 t r c : S8x8x1024.Idx) 0).val; rw [e0]; show t.val * 1 + 1 * 0 = t.val; omega
  | ⟨1, _⟩ => show win0_3.index (pt0 t) (1 : Fin 3) * 8 + 1 * ((ix3 0 r c : S1x8x1024.Idx) 1).val = ((ix3 t r c : S8x8x1024.Idx) 1).val; rw [e1]; show 0 * 8 + 1 * r.val = r.val; omega
  | ⟨2, _⟩ => show win0_3.index (pt0 t) (2 : Fin 3) * 1024 + 1 * ((ix3 0 r c : S1x8x1024.Idx) 2).val = ((ix3 t r c : S8x8x1024.Idx) 2).val; rw [e2]; show 0 * 1024 + 1 * c.val = c.val; omega
theorem iblk0_3 (V : (c : Dev nD) → (r : Ref sig .tc) → r.ty.shape.Idx → Elt Ideal r.ty.elt) (d : Dev nD) (t : Fin 8) (r : Fin 8) (c : Fin 1024) :
    (iblk0 V d 3 (pt0 t) : S1x8x1024.Idx → EReal) (ix3 0 r c) = (V d main_v56 : S8x8x1024.Idx → EReal) (ix3 t r c) := by
  show (V d main_v56 : S8x8x1024.Idx → EReal) (((cfg0.win 3).blk (pt0 t)).view.emb (ix3 0 r c : S1x8x1024.Idx)) = _
  rw [emb0_3]

theorem idx0_4 : ∀ t : Fin cfg0.N, win0_4.index t (0 : Fin 2) = 0 ∧ win0_4.index t (1 : Fin 2) = t.val :=
  (by decide +kernel : ∀ t : Fin grid0.N, _)
theorem emb0_4 (t : Fin 8) (r : Fin 2048) (c : Fin 128) : ((cfg0.win 4).blk (pt0 t)).view.emb (ix2 r c : S2048x128.Idx) = (ix2 r (col128 t c) : S2048x1024.Idx) := by
  obtain ⟨e0, e1⟩ := idx0_4 (pt0 t)
  funext a; apply Fin.ext
  match a with
  | ⟨0, _⟩ => show win0_4.index (pt0 t) (0 : Fin 2) * 2048 + 1 * ((ix2 r c : S2048x128.Idx) 0).val = ((ix2 r (col128 t c) : S2048x1024.Idx) 0).val; rw [e0]; show 0 * 2048 + 1 * r.val = r.val; omega
  | ⟨1, _⟩ => show win0_4.index (pt0 t) (1 : Fin 2) * 128 + 1 * ((ix2 r c : S2048x128.Idx) 1).val = ((ix2 r (col128 t c) : S2048x1024.Idx) 1).val; rw [e1]; show t.val * 128 + 1 * c.val = 128 * t.val + c.val; omega
theorem mem0_4 (t : Fin cfg0.N) (i : S2048x1024.Idx) (h : i ∈ ((cfg0.win 4).blk t).view.set) : (i 1).val / 128 = t.val := by
  replace h : i ∈ ((View.whole main_v57_0).slice (win0_4.rect t)).set := h
  rw [View.set_slice_whole, Rect.mem_set_unit] at h
  have h' : win0_4.index t (1 : Fin 2) * 128 ≤ (i 1).val ∧ (i 1).val < win0_4.index t (1 : Fin 2) * 128 + 128 := h 1
  rw [(idx0_4 t).2] at h'
  omega
theorem arr0_4 (V : (c : Dev nD) → (r : Ref sig .tc) → r.ty.shape.Idx → Elt Ideal r.ty.elt) (d : Dev nD) (t : Fin 8) (r : Fin 2048) (c : Fin 128) :
    ((dat0 V d).arrAt 4 cfg0.N : S2048x1024.Idx → EReal) (ix2 r (col128 t c)) = ((dat0 V d).after 4 (pt0 t) : S2048x128.Idx → EReal) (ix2 r c) := by
  rw [← emb0_4 t r c]
  exact (dat0 V d).arrAt_emb_eq_flushed 4 (fun t t' _ _ hne => Finset.disjoint_left.mpr fun i h h' =>
    hne (Fin.ext ((mem0_4 t i h).symm.trans (mem0_4 t' i h')))) (pt0 t) (flush0_4 _) (ix2 r c : S2048x128.Idx)

theorem idx0_5 : ∀ t : Fin cfg0.N, win0_5.index t (0 : Fin 2) = 0 ∧ win0_5.index t (1 : Fin 2) = t.val :=
  (by decide +kernel : ∀ t : Fin grid0.N, _)
theorem emb0_5 (t : Fin 8) (r : Fin 2048) (c : Fin 1024) : ((cfg0.win 5).blk (pt0 t)).view.emb (ix2 r c : S2048x1024.Idx) = (ix2 r (col1024 t c) : S2048x8192.Idx) := by
  obtain ⟨e0, e1⟩ := idx0_5 (pt0 t)
  funext a; apply Fin.ext
  match a with
  | ⟨0, _⟩ => show win0_5.index (pt0 t) (0 : Fin 2) * 2048 + 1 * ((ix2 r c : S2048x1024.Idx) 0).val = ((ix2 r (col1024 t c) : S2048x8192.Idx) 0).val; rw [e0]; show 0 * 2048 + 1 * r.val = r.val; omega
  | ⟨1, _⟩ => show win0_5.index (pt0 t) (1 : Fin 2) * 1024 + 1 * ((ix2 r c : S2048x1024.Idx) 1).val = ((ix2 r (col1024 t c) : S2048x8192.Idx) 1).val; rw [e1]; show t.val * 1024 + 1 * c.val = 1024 * t.val + c.val; omega
theorem mem0_5 (t : Fin cfg0.N) (i : S2048x8192.Idx) (h : i ∈ ((cfg0.win 5).blk t).view.set) : (i 1).val / 1024 = t.val := by
  replace h : i ∈ ((View.whole main_v57_1).slice (win0_5.rect t)).set := h
  rw [View.set_slice_whole, Rect.mem_set_unit] at h
  have h' : win0_5.index t (1 : Fin 2) * 1024 ≤ (i 1).val ∧ (i 1).val < win0_5.index t (1 : Fin 2) * 1024 + 1024 := h 1
  rw [(idx0_5 t).2] at h'
  omega
theorem arr0_5 (V : (c : Dev nD) → (r : Ref sig .tc) → r.ty.shape.Idx → Elt Ideal r.ty.elt) (d : Dev nD) (t : Fin 8) (r : Fin 2048) (c : Fin 1024) :
    ((dat0 V d).arrAt 5 cfg0.N : S2048x8192.Idx → EReal) (ix2 r (col1024 t c)) = ((dat0 V d).after 5 (pt0 t) : S2048x1024.Idx → EReal) (ix2 r c) := by
  rw [← emb0_5 t r c]
  exact (dat0 V d).arrAt_emb_eq_flushed 5 (fun t t' _ _ hne => Finset.disjoint_left.mpr fun i h h' =>
    hne (Fin.ext ((mem0_5 t i h).symm.trans (mem0_5 t' i h')))) (pt0 t) (flush0_5 _) (ix2 r c : S2048x1024.Idx)

theorem idx0_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem emb0_6 (t : Fin 8) (r : Fin 8) (c : Fin 1024) : ((cfg0.win 6).blk (pt0 t)).view.emb (ix3 0 r c : S1x8x1024.Idx) = (ix3 t r c : S8x8x1024.Idx) := by
  obtain ⟨e0, e1, e2⟩ := idx0_6 (pt0 t)
  funext a; apply Fin.ext
  match a with
  | ⟨0, _⟩ => show win0_6.index (pt0 t) (0 : Fin 3) * 1 + 1 * ((ix3 0 r c : S1x8x1024.Idx) 0).val = ((ix3 t r c : S8x8x1024.Idx) 0).val; rw [e0]; show t.val * 1 + 1 * 0 = t.val; omega
  | ⟨1, _⟩ => show win0_6.index (pt0 t) (1 : Fin 3) * 8 + 1 * ((ix3 0 r c : S1x8x1024.Idx) 1).val = ((ix3 t r c : S8x8x1024.Idx) 1).val; rw [e1]; show 0 * 8 + 1 * r.val = r.val; omega
  | ⟨2, _⟩ => show win0_6.index (pt0 t) (2 : Fin 3) * 1024 + 1 * ((ix3 0 r c : S1x8x1024.Idx) 2).val = ((ix3 t r c : S8x8x1024.Idx) 2).val; rw [e2]; show 0 * 1024 + 1 * c.val = c.val; omega
theorem mem0_6 (t : Fin cfg0.N) (i : S8x8x1024.Idx) (h : i ∈ ((cfg0.win 6).blk t).view.set) : (i 0).val / 1 = t.val := by
  replace h : i ∈ ((View.whole main_v57_2).slice (win0_6.rect t)).set := h
  rw [View.set_slice_whole, Rect.mem_set_unit] at h
  have h' : win0_6.index t (0 : Fin 3) * 1 ≤ (i 0).val ∧ (i 0).val < win0_6.index t (0 : Fin 3) * 1 + 1 := h 0
  rw [(idx0_6 t).1] at h'
  omega
theorem arr0_6 (V : (c : Dev nD) → (r : Ref sig .tc) → r.ty.shape.Idx → Elt Ideal r.ty.elt) (d : Dev nD) (t : Fin 8) (r : Fin 8) (c : Fin 1024) :
    ((dat0 V d).arrAt 6 cfg0.N : S8x8x1024.Idx → EReal) (ix3 t r c) = ((dat0 V d).after 6 (pt0 t) : S1x8x1024.Idx → EReal) (ix3 0 r c) := by
  rw [← emb0_6 t r c]
  exact (dat0 V d).arrAt_emb_eq_flushed 6 (fun t t' _ _ hne => Finset.disjoint_left.mpr fun i h h' =>
    hne (Fin.ext ((mem0_6 t i h).symm.trans (mem0_6 t' i h')))) (pt0 t) (flush0_6 _) (ix3 0 r c : S1x8x1024.Idx)

theorem idx1_0 : ∀ t : Fin cfg1.N, win1_0.index t (0 : Fin 2) = 0 ∧ win1_0.index t (1 : Fin 2) = t.val :=
  (by decide +kernel : ∀ t : Fin grid1.N, _)
theorem emb1_0 (t : Fin 8) (r : Fin 2048) (c : Fin 128) : ((cfg1.win 0).blk (pt1 t)).view.emb (ix2 r c : S2048x128.Idx) = (ix2 r (col128 t c) : S2048x1024.Idx) := by
  obtain ⟨e0, e1⟩ := idx1_0 (pt1 t)
  funext a; apply Fin.ext
  match a with
  | ⟨0, _⟩ => show win1_0.index (pt1 t) (0 : Fin 2) * 2048 + 1 * ((ix2 r c : S2048x128.Idx) 0).val = ((ix2 r (col128 t c) : S2048x1024.Idx) 0).val; rw [e0]; show 0 * 2048 + 1 * r.val = r.val; omega
  | ⟨1, _⟩ => show win1_0.index (pt1 t) (1 : Fin 2) * 128 + 1 * ((ix2 r c : S2048x128.Idx) 1).val = ((ix2 r (col128 t c) : S2048x1024.Idx) 1).val; rw [e1]; show t.val * 128 + 1 * c.val = 128 * t.val + c.val; omega
theorem iblk1_0 (V : (c : Dev nD) → (r : Ref sig .tc) → r.ty.shape.Idx → Elt Ideal r.ty.elt) (d : Dev nD) (t : Fin 8) (r : Fin 2048) (c : Fin 128) :
    (iblk1 V d 0 (pt1 t) : S2048x128.Idx → EReal) (ix2 r c) = (V d main_v49 : S2048x1024.Idx → EReal) (ix2 r (col128 t c)) := by
  show (V d main_v49 : S2048x1024.Idx → EReal) (((cfg1.win 0).blk (pt1 t)).view.emb (ix2 r c : S2048x128.Idx)) = _
  rw [emb1_0]

theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)
theorem emb1_1 (t : Fin 8) (r : Fin 128) (c : Fin 1024) : ((cfg1.win 1).blk (pt1 t)).view.emb (ix3 0 r c : S1x128x1024.Idx) = (ix3 t r c : S8x128x1024.Idx) := by
  obtain ⟨e0, e1, e2⟩ := idx1_1 (pt1 t)
  funext a; apply Fin.ext
  match a with
  | ⟨0, _⟩ => show win1_1.index (pt1 t) (0 : Fin 3) * 1 + 1 * ((ix3 0 r c : S1x128x1024.Idx) 0).val = ((ix3 t r c : S8x128x1024.Idx) 0).val; rw [e0]; show t.val * 1 + 1 * 0 = t.val; omega
  | ⟨1, _⟩ => show win1_1.index (pt1 t) (1 : Fin 3) * 128 + 1 * ((ix3 0 r c : S1x128x1024.Idx) 1).val = ((ix3 t r c : S8x128x1024.Idx) 1).val; rw [e1]; show 0 * 128 + 1 * r.val = r.val; omega
  | ⟨2, _⟩ => show win1_1.index (pt1 t) (2 : Fin 3) * 1024 + 1 * ((ix3 0 r c : S1x128x1024.Idx) 2).val = ((ix3 t r c : S8x128x1024.Idx) 2).val; rw [e2]; show 0 * 1024 + 1 * c.val = c.val; omega
theorem iblk1_1 (V : (c : Dev nD) → (r : Ref sig .tc) → r.ty.shape.Idx → Elt Ideal r.ty.elt) (d : Dev nD) (t : Fin 8) (r : Fin 128) (c : Fin 1024) :
    (iblk1 V d 1 (pt1 t) : S1x128x1024.Idx → EReal) (ix3 0 r c) = (V d main_v58 : S8x128x1024.Idx → EReal) (ix3 t r c) := by
  show (V d main_v58 : S8x128x1024.Idx → EReal) (((cfg1.win 1).blk (pt1 t)).view.emb (ix3 0 r c : S1x128x1024.Idx)) = _
  rw [emb1_1]

theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)
theorem emb1_2 (t : Fin 8) (r : Fin 1024) (c : Fin 128) : ((cfg1.win 2).blk (pt1 t)).view.emb (ix3 0 r c : S1x1024x128.Idx) = (ix3 t r c : S8x1024x128.Idx) := by
  obtain ⟨e0, e1, e2⟩ := idx1_2 (pt1 t)
  funext a; apply Fin.ext
  match a with
  | ⟨0, _⟩ => show win1_2.index (pt1 t) (0 : Fin 3) * 1 + 1 * ((ix3 0 r c : S1x1024x128.Idx) 0).val = ((ix3 t r c : S8x1024x128.Idx) 0).val; rw [e0]; show t.val * 1 + 1 * 0 = t.val; omega
  | ⟨1, _⟩ => show win1_2.index (pt1 t) (1 : Fin 3) * 1024 + 1 * ((ix3 0 r c : S1x1024x128.Idx) 1).val = ((ix3 t r c : S8x1024x128.Idx) 1).val; rw [e1]; show 0 * 1024 + 1 * r.val = r.val; omega
  | ⟨2, _⟩ => show win1_2.index (pt1 t) (2 : Fin 3) * 128 + 1 * ((ix3 0 r c : S1x1024x128.Idx) 2).val = ((ix3 t r c : S8x1024x128.Idx) 2).val; rw [e2]; show 0 * 128 + 1 * c.val = c.val; omega
theorem iblk1_2 (V : (c : Dev nD) → (r : Ref sig .tc) → r.ty.shape.Idx → Elt Ideal r.ty.elt) (d : Dev nD) (t : Fin 8) (r : Fin 1024) (c : Fin 128) :
    (iblk1 V d 2 (pt1 t) : S1x1024x128.Idx → EReal) (ix3 0 r c) = (V d main_v59 : S8x1024x128.Idx → EReal) (ix3 t r c) := by
  show (V d main_v59 : S8x1024x128.Idx → EReal) (((cfg1.win 2).blk (pt1 t)).view.emb (ix3 0 r c : S1x1024x128.Idx)) = _
  rw [emb1_2]

theorem idx1_3 : ∀ t : Fin cfg1.N, win1_3.index t (0 : Fin 3) = t.val ∧ win1_3.index t (1 : Fin 3) = 0 ∧ win1_3.index t (2 : Fin 3) = 0 :=
  (by decide +kernel : ∀ t : Fin grid1.N, _)
theorem emb1_3 (t : Fin 8) (r : Fin 8) (c : Fin 1024) : ((cfg1.win 3).blk (pt1 t)).view.emb (ix3 0 r c : S1x8x1024.Idx) = (ix3 t r c : S8x8x1024.Idx) := by
  obtain ⟨e0, e1, e2⟩ := idx1_3 (pt1 t)
  funext a; apply Fin.ext
  match a with
  | ⟨0, _⟩ => show win1_3.index (pt1 t) (0 : Fin 3) * 1 + 1 * ((ix3 0 r c : S1x8x1024.Idx) 0).val = ((ix3 t r c : S8x8x1024.Idx) 0).val; rw [e0]; show t.val * 1 + 1 * 0 = t.val; omega
  | ⟨1, _⟩ => show win1_3.index (pt1 t) (1 : Fin 3) * 8 + 1 * ((ix3 0 r c : S1x8x1024.Idx) 1).val = ((ix3 t r c : S8x8x1024.Idx) 1).val; rw [e1]; show 0 * 8 + 1 * r.val = r.val; omega
  | ⟨2, _⟩ => show win1_3.index (pt1 t) (2 : Fin 3) * 1024 + 1 * ((ix3 0 r c : S1x8x1024.Idx) 2).val = ((ix3 t r c : S8x8x1024.Idx) 2).val; rw [e2]; show 0 * 1024 + 1 * c.val = c.val; omega
theorem iblk1_3 (V : (c : Dev nD) → (r : Ref sig .tc) → r.ty.shape.Idx → Elt Ideal r.ty.elt) (d : Dev nD) (t : Fin 8) (r : Fin 8) (c : Fin 1024) :
    (iblk1 V d 3 (pt1 t) : S1x8x1024.Idx → EReal) (ix3 0 r c) = (V d main_v60 : S8x8x1024.Idx → EReal) (ix3 t r c) := by
  show (V d main_v60 : S8x8x1024.Idx → EReal) (((cfg1.win 3).blk (pt1 t)).view.emb (ix3 0 r c : S1x8x1024.Idx)) = _
  rw [emb1_3]

theorem idx1_4 : ∀ t : Fin cfg1.N, win1_4.index t (0 : Fin 2) = 0 ∧ win1_4.index t (1 : Fin 2) = t.val :=
  (by decide +kernel : ∀ t : Fin grid1.N, _)
theorem emb1_4 (t : Fin 8) (r : Fin 2048) (c : Fin 128) : ((cfg1.win 4).blk (pt1 t)).view.emb (ix2 r c : S2048x128.Idx) = (ix2 r (col128 t c) : S2048x1024.Idx) := by
  obtain ⟨e0, e1⟩ := idx1_4 (pt1 t)
  funext a; apply Fin.ext
  match a with
  | ⟨0, _⟩ => show win1_4.index (pt1 t) (0 : Fin 2) * 2048 + 1 * ((ix2 r c : S2048x128.Idx) 0).val = ((ix2 r (col128 t c) : S2048x1024.Idx) 0).val; rw [e0]; show 0 * 2048 + 1 * r.val = r.val; omega
  | ⟨1, _⟩ => show win1_4.index (pt1 t) (1 : Fin 2) * 128 + 1 * ((ix2 r c : S2048x128.Idx) 1).val = ((ix2 r (col128 t c) : S2048x1024.Idx) 1).val; rw [e1]; show t.val * 128 + 1 * c.val = 128 * t.val + c.val; omega
theorem iblk1_4 (V : (c : Dev nD) → (r : Ref sig .tc) → r.ty.shape.Idx → Elt Ideal r.ty.elt) (d : Dev nD) (t : Fin 8) (r : Fin 2048) (c : Fin 128) :
    (iblk1 V d 4 (pt1 t) : S2048x128.Idx → EReal) (ix2 r c) = (V d main_v53 : S2048x1024.Idx → EReal) (ix2 r (col128 t c)) := by
  show (V d main_v53 : S2048x1024.Idx → EReal) (((cfg1.win 4).blk (pt1 t)).view.emb (ix2 r c : S2048x128.Idx)) = _
  rw [emb1_4]

theorem idx1_5 : ∀ t : Fin cfg1.N, win1_5.index t (0 : Fin 2) = 0 ∧ win1_5.index t (1 : Fin 2) = t.val :=
  (by decide +kernel : ∀ t : Fin grid1.N, _)
theorem emb1_5 (t : Fin 8) (r : Fin 2048) (c : Fin 1024) : ((cfg1.win 5).blk (pt1 t)).view.emb (ix2 r c : S2048x1024.Idx) = (ix2 r (col1024 t c) : S2048x8192.Idx) := by
  obtain ⟨e0, e1⟩ := idx1_5 (pt1 t)
  funext a; apply Fin.ext
  match a with
  | ⟨0, _⟩ => show win1_5.index (pt1 t) (0 : Fin 2) * 2048 + 1 * ((ix2 r c : S2048x1024.Idx) 0).val = ((ix2 r (col1024 t c) : S2048x8192.Idx) 0).val; rw [e0]; show 0 * 2048 + 1 * r.val = r.val; omega
  | ⟨1, _⟩ => show win1_5.index (pt1 t) (1 : Fin 2) * 1024 + 1 * ((ix2 r c : S2048x1024.Idx) 1).val = ((ix2 r (col1024 t c) : S2048x8192.Idx) 1).val; rw [e1]; show t.val * 1024 + 1 * c.val = 1024 * t.val + c.val; omega
theorem iblk1_5 (V : (c : Dev nD) → (r : Ref sig .tc) → r.ty.shape.Idx → Elt Ideal r.ty.elt) (d : Dev nD) (t : Fin 8) (r : Fin 2048) (c : Fin 1024) :
    (iblk1 V d 5 (pt1 t) : S2048x1024.Idx → EReal) (ix2 r c) = (V d main_v57_1 : S2048x8192.Idx → EReal) (ix2 r (col1024 t c)) := by
  show (V d main_v57_1 : S2048x8192.Idx → EReal) (((cfg1.win 5).blk (pt1 t)).view.emb (ix2 r c : S2048x1024.Idx)) = _
  rw [emb1_5]

theorem idx1_6 : ∀ t : Fin cfg1.N, win1_6.index t (0 : Fin 3) = t.val ∧ win1_6.index t (1 : Fin 3) = 0 ∧ win1_6.index t (2 : Fin 3) = 0 :=
  (by decide +kernel : ∀ t : Fin grid1.N, _)
theorem emb1_6 (t : Fin 8) (r : Fin 8) (c : Fin 1024) : ((cfg1.win 6).blk (pt1 t)).view.emb (ix3 0 r c : S1x8x1024.Idx) = (ix3 t r c : S8x8x1024.Idx) := by
  obtain ⟨e0, e1, e2⟩ := idx1_6 (pt1 t)
  funext a; apply Fin.ext
  match a with
  | ⟨0, _⟩ => show win1_6.index (pt1 t) (0 : Fin 3) * 1 + 1 * ((ix3 0 r c : S1x8x1024.Idx) 0).val = ((ix3 t r c : S8x8x1024.Idx) 0).val; rw [e0]; show t.val * 1 + 1 * 0 = t.val; omega
  | ⟨1, _⟩ => show win1_6.index (pt1 t) (1 : Fin 3) * 8 + 1 * ((ix3 0 r c : S1x8x1024.Idx) 1).val = ((ix3 t r c : S8x8x1024.Idx) 1).val; rw [e1]; show 0 * 8 + 1 * r.val = r.val; omega
  | ⟨2, _⟩ => show win1_6.index (pt1 t) (2 : Fin 3) * 1024 + 1 * ((ix3 0 r c : S1x8x1024.Idx) 2).val = ((ix3 t r c : S8x8x1024.Idx) 2).val; rw [e2]; show 0 * 1024 + 1 * c.val = c.val; omega
theorem iblk1_6 (V : (c : Dev nD) → (r : Ref sig .tc) → r.ty.shape.Idx → Elt Ideal r.ty.elt) (d : Dev nD) (t : Fin 8) (r : Fin 8) (c : Fin 1024) :
    (iblk1 V d 6 (pt1 t) : S1x8x1024.Idx → EReal) (ix3 0 r c) = (V d main_v57_2 : S8x8x1024.Idx → EReal) (ix3 t r c) := by
  show (V d main_v57_2 : S8x8x1024.Idx → EReal) (((cfg1.win 6).blk (pt1 t)).view.emb (ix3 0 r c : S1x8x1024.Idx)) = _
  rw [emb1_6]

theorem idx1_7 : ∀ t : Fin cfg1.N, win1_7.index t (0 : Fin 2) = 0 ∧ win1_7.index t (1 : Fin 2) = t.val :=
  (by decide +kernel : ∀ t : Fin grid1.N, _)
theorem emb1_7 (t : Fin 8) (r : Fin 2048) (c : Fin 128) : ((cfg1.win 7).blk (pt1 t)).view.emb (ix2 r c : S2048x128.Idx) = (ix2 r (col128 t c) : S2048x1024.Idx) := by
  obtain ⟨e0, e1⟩ := idx1_7 (pt1 t)
  funext a; apply Fin.ext
  match a with
  | ⟨0, _⟩ => show win1_7.index (pt1 t) (0 : Fin 2) * 2048 + 1 * ((ix2 r c : S2048x128.Idx) 0).val = ((ix2 r (col128 t c) : S2048x1024.Idx) 0).val; rw [e0]; show 0 * 2048 + 1 * r.val = r.val; omega
  | ⟨1, _⟩ => show win1_7.index (pt1 t) (1 : Fin 2) * 128 + 1 * ((ix2 r c : S2048x128.Idx) 1).val = ((ix2 r (col128 t c) : S2048x1024.Idx) 1).val; rw [e1]; show t.val * 128 + 1 * c.val = 128 * t.val + c.val; omega
theorem mem1_7 (t : Fin cfg1.N) (i : S2048x1024.Idx) (h : i ∈ ((cfg1.win 7).blk t).view.set) : (i 1).val / 128 = t.val := by
  replace h : i ∈ ((View.whole main_v61_0).slice (win1_7.rect t)).set := h
  rw [View.set_slice_whole, Rect.mem_set_unit] at h
  have h' : win1_7.index t (1 : Fin 2) * 128 ≤ (i 1).val ∧ (i 1).val < win1_7.index t (1 : Fin 2) * 128 + 128 := h 1
  rw [(idx1_7 t).2] at h'
  omega
theorem arr1_7 (V : (c : Dev nD) → (r : Ref sig .tc) → r.ty.shape.Idx → Elt Ideal r.ty.elt) (d : Dev nD) (t : Fin 8) (r : Fin 2048) (c : Fin 128) :
    ((dat1 V d).arrAt 7 cfg1.N : S2048x1024.Idx → EReal) (ix2 r (col128 t c)) = ((dat1 V d).after 7 (pt1 t) : S2048x128.Idx → EReal) (ix2 r c) := by
  rw [← emb1_7 t r c]
  exact (dat1 V d).arrAt_emb_eq_flushed 7 (fun t t' _ _ hne => Finset.disjoint_left.mpr fun i h h' =>
    hne (Fin.ext ((mem1_7 t i h).symm.trans (mem1_7 t' i h')))) (pt1 t) (flush1_7 _) (ix2 r c : S2048x128.Idx)

theorem idx1_8 : ∀ t : Fin cfg1.N, win1_8.index t (0 : Fin 3) = t.val ∧ win1_8.index t (1 : Fin 3) = 0 ∧ win1_8.index t (2 : Fin 3) = 0 :=
  (by decide +kernel : ∀ t : Fin grid1.N, _)
theorem emb1_8 (t : Fin 8) (r : Fin 128) (c : Fin 1024) : ((cfg1.win 8).blk (pt1 t)).view.emb (ix3 0 r c : S1x128x1024.Idx) = (ix3 t r c : S8x128x1024.Idx) := by
  obtain ⟨e0, e1, e2⟩ := idx1_8 (pt1 t)
  funext a; apply Fin.ext
  match a with
  | ⟨0, _⟩ => show win1_8.index (pt1 t) (0 : Fin 3) * 1 + 1 * ((ix3 0 r c : S1x128x1024.Idx) 0).val = ((ix3 t r c : S8x128x1024.Idx) 0).val; rw [e0]; show t.val * 1 + 1 * 0 = t.val; omega
  | ⟨1, _⟩ => show win1_8.index (pt1 t) (1 : Fin 3) * 128 + 1 * ((ix3 0 r c : S1x128x1024.Idx) 1).val = ((ix3 t r c : S8x128x1024.Idx) 1).val; rw [e1]; show 0 * 128 + 1 * r.val = r.val; omega
  | ⟨2, _⟩ => show win1_8.index (pt1 t) (2 : Fin 3) * 1024 + 1 * ((ix3 0 r c : S1x128x1024.Idx) 2).val = ((ix3 t r c : S8x128x1024.Idx) 2).val; rw [e2]; show 0 * 1024 + 1 * c.val = c.val; omega
theorem mem1_8 (t : Fin cfg1.N) (i : S8x128x1024.Idx) (h : i ∈ ((cfg1.win 8).blk t).view.set) : (i 0).val / 1 = t.val := by
  replace h : i ∈ ((View.whole main_v61_1).slice (win1_8.rect t)).set := h
  rw [View.set_slice_whole, Rect.mem_set_unit] at h
  have h' : win1_8.index t (0 : Fin 3) * 1 ≤ (i 0).val ∧ (i 0).val < win1_8.index t (0 : Fin 3) * 1 + 1 := h 0
  rw [(idx1_8 t).1] at h'
  omega
theorem arr1_8 (V : (c : Dev nD) → (r : Ref sig .tc) → r.ty.shape.Idx → Elt Ideal r.ty.elt) (d : Dev nD) (t : Fin 8) (r : Fin 128) (c : Fin 1024) :
    ((dat1 V d).arrAt 8 cfg1.N : S8x128x1024.Idx → EReal) (ix3 t r c) = ((dat1 V d).after 8 (pt1 t) : S1x128x1024.Idx → EReal) (ix3 0 r c) := by
  rw [← emb1_8 t r c]
  exact (dat1 V d).arrAt_emb_eq_flushed 8 (fun t t' _ _ hne => Finset.disjoint_left.mpr fun i h h' =>
    hne (Fin.ext ((mem1_8 t i h).symm.trans (mem1_8 t' i h')))) (pt1 t) (flush1_8 _) (ix3 0 r c : S1x128x1024.Idx)

theorem idx1_9 : ∀ t : Fin cfg1.N, win1_9.index t (0 : Fin 3) = t.val ∧ win1_9.index t (1 : Fin 3) = 0 ∧ win1_9.index t (2 : Fin 3) = 0 :=
  (by decide +kernel : ∀ t : Fin grid1.N, _)
theorem emb1_9 (t : Fin 8) (r : Fin 1024) (c : Fin 128) : ((cfg1.win 9).blk (pt1 t)).view.emb (ix3 0 r c : S1x1024x128.Idx) = (ix3 t r c : S8x1024x128.Idx) := by
  obtain ⟨e0, e1, e2⟩ := idx1_9 (pt1 t)
  funext a; apply Fin.ext
  match a with
  | ⟨0, _⟩ => show win1_9.index (pt1 t) (0 : Fin 3) * 1 + 1 * ((ix3 0 r c : S1x1024x128.Idx) 0).val = ((ix3 t r c : S8x1024x128.Idx) 0).val; rw [e0]; show t.val * 1 + 1 * 0 = t.val; omega
  | ⟨1, _⟩ => show win1_9.index (pt1 t) (1 : Fin 3) * 1024 + 1 * ((ix3 0 r c : S1x1024x128.Idx) 1).val = ((ix3 t r c : S8x1024x128.Idx) 1).val; rw [e1]; show 0 * 1024 + 1 * r.val = r.val; omega
  | ⟨2, _⟩ => show win1_9.index (pt1 t) (2 : Fin 3) * 128 + 1 * ((ix3 0 r c : S1x1024x128.Idx) 2).val = ((ix3 t r c : S8x1024x128.Idx) 2).val; rw [e2]; show 0 * 128 + 1 * c.val = c.val; omega
theorem mem1_9 (t : Fin cfg1.N) (i : S8x1024x128.Idx) (h : i ∈ ((cfg1.win 9).blk t).view.set) : (i 0).val / 1 = t.val := by
  replace h : i ∈ ((View.whole main_v61_2).slice (win1_9.rect t)).set := h
  rw [View.set_slice_whole, Rect.mem_set_unit] at h
  have h' : win1_9.index t (0 : Fin 3) * 1 ≤ (i 0).val ∧ (i 0).val < win1_9.index t (0 : Fin 3) * 1 + 1 := h 0
  rw [(idx1_9 t).1] at h'
  omega
theorem arr1_9 (V : (c : Dev nD) → (r : Ref sig .tc) → r.ty.shape.Idx → Elt Ideal r.ty.elt) (d : Dev nD) (t : Fin 8) (r : Fin 1024) (c : Fin 128) :
    ((dat1 V d).arrAt 9 cfg1.N : S8x1024x128.Idx → EReal) (ix3 t r c) = ((dat1 V d).after 9 (pt1 t) : S1x1024x128.Idx → EReal) (ix3 0 r c) := by
  rw [← emb1_9 t r c]
  exact (dat1 V d).arrAt_emb_eq_flushed 9 (fun t t' _ _ hne => Finset.disjoint_left.mpr fun i h h' =>
    hne (Fin.ext ((mem1_9 t i h).symm.trans (mem1_9 t' i h')))) (pt1 t) (flush1_9 _) (ix3 0 r c : S1x1024x128.Idx)

theorem idx1_10 : ∀ t : Fin cfg1.N, win1_10.index t (0 : Fin 3) = t.val ∧ win1_10.index t (1 : Fin 3) = 0 ∧ win1_10.index t (2 : Fin 3) = 0 :=
  (by decide +kernel : ∀ t : Fin grid1.N, _)
theorem emb1_10 (t : Fin 8) (r : Fin 8) (c : Fin 1024) : ((cfg1.win 10).blk (pt1 t)).view.emb (ix3 0 r c : S1x8x1024.Idx) = (ix3 t r c : S8x8x1024.Idx) := by
  obtain ⟨e0, e1, e2⟩ := idx1_10 (pt1 t)
  funext a; apply Fin.ext
  match a with
  | ⟨0, _⟩ => show win1_10.index (pt1 t) (0 : Fin 3) * 1 + 1 * ((ix3 0 r c : S1x8x1024.Idx) 0).val = ((ix3 t r c : S8x8x1024.Idx) 0).val; rw [e0]; show t.val * 1 + 1 * 0 = t.val; omega
  | ⟨1, _⟩ => show win1_10.index (pt1 t) (1 : Fin 3) * 8 + 1 * ((ix3 0 r c : S1x8x1024.Idx) 1).val = ((ix3 t r c : S8x8x1024.Idx) 1).val; rw [e1]; show 0 * 8 + 1 * r.val = r.val; omega
  | ⟨2, _⟩ => show win1_10.index (pt1 t) (2 : Fin 3) * 1024 + 1 * ((ix3 0 r c : S1x8x1024.Idx) 2).val = ((ix3 t r c : S8x8x1024.Idx) 2).val; rw [e2]; show 0 * 1024 + 1 * c.val = c.val; omega
theorem mem1_10 (t : Fin cfg1.N) (i : S8x8x1024.Idx) (h : i ∈ ((cfg1.win 10).blk t).view.set) : (i 0).val / 1 = t.val := by
  replace h : i ∈ ((View.whole main_v61_3).slice (win1_10.rect t)).set := h
  rw [View.set_slice_whole, Rect.mem_set_unit] at h
  have h' : win1_10.index t (0 : Fin 3) * 1 ≤ (i 0).val ∧ (i 0).val < win1_10.index t (0 : Fin 3) * 1 + 1 := h 0
  rw [(idx1_10 t).1] at h'
  omega
theorem arr1_10 (V : (c : Dev nD) → (r : Ref sig .tc) → r.ty.shape.Idx → Elt Ideal r.ty.elt) (d : Dev nD) (t : Fin 8) (r : Fin 8) (c : Fin 1024) :
    ((dat1 V d).arrAt 10 cfg1.N : S8x8x1024.Idx → EReal) (ix3 t r c) = ((dat1 V d).after 10 (pt1 t) : S1x8x1024.Idx → EReal) (ix3 0 r c) := by
  rw [← emb1_10 t r c]
  exact (dat1 V d).arrAt_emb_eq_flushed 10 (fun t t' _ _ hne => Finset.disjoint_left.mpr fun i h h' =>
    hne (Fin.ext ((mem1_10 t i h).symm.trans (mem1_10 t' i h')))) (pt1 t) (flush1_10 _) (ix3 0 r c : S1x8x1024.Idx)

end Cert.S5

end
-- ==== Proof.KScan.lean ====
/-
  The two passes of the segmented scan over a [2048, 1024] buffer, whatever program runs them.

  A row `8 i + s` holds step `i` of segment `s`; columns `n` and `512 + n` hold the real and the imaginary part of state
  `n`. The first pass runs every segment from zero and keeps the last states only; the second runs them from the entry
  states and overwrites the buffer. `row k` is the group of eight rows that step `k` handles.
-/
module

public import proofs.«01_k».proof.Proof.Cx
public import proofs.«01_k».proof.Proof.Gen.KernelIdeal
public import Idealize.ShloMosaic.Lib.WritesUnit
public import Idealize.ShloMosaic.Lib.Pipeline.Value
public import Idealize.ShloMosaic.Lib.Pointwise

@[expose] public section

set_option maxRecDepth 16384

noncomputable section

namespace Cert.S5

open Cert.KernelIdeal Idealize.ShloMosaic

/-- The column of state `n`'s real part, -/
abbrev lo (n : Fin 512) : Fin 1024 := ⟨n.val, by omega⟩
/-- and of its imaginary part. -/
abbrev hi (n : Fin 512) : Fin 1024 := ⟨512 + n.val, by omega⟩

/-- An array of eight rows of real or imaginary parts. -/
abbrev Part : Type := FVec Ideal S8x512 .f32

section
variable {κ : Kind} {sp : Space} (v : View sig κ sp S2048x1024 .f32) (G : v.ty.Contents (Elt Ideal))

/-- Eight rows stored in two halves, read in the left half, -/
theorem read_pair_lo {offR offI : Fin 2 → ℕ} (o : ℕ) (hR : offR = ![o, 0]) (hI : offI = ![o, 512])
    (inbR : ∀ a : Fin 2, offR a + S8x512.size a ≤ S2048x1024.size a)
    (inbI : ∀ a : Fin 2, offI a + S8x512.size a ≤ S2048x1024.size a)
    (a b : Part) (L : List (View.Piece (Elt Ideal) S2048x1024 .f32)) (r : Fin 2048) (s : Fin 8) (n : Fin 512)
    (h : r.val = o + s.val) :
    v.read (Elt Ideal) (v.writes (Elt Ideal) G ((⟨Rect.unit (s := S2048x1024) offI S8x512.size inbI, b⟩ : View.Piece (Elt Ideal) S2048x1024 .f32)
      :: (⟨Rect.unit (s := S2048x1024) offR S8x512.size inbR, a⟩ : View.Piece (Elt Ideal) S2048x1024 .f32) :: L)) (ix2 r (lo n)) = a (ix2 s n) := by
  rw [View.read_writes_cons_unit_of_not_mem v G inbI b _ _ hI (1 : Fin 2) (Or.inl (by show n.val < 512; omega))]
  exact View.read_writes_cons_unit_of_mem v G inbR a L (ix2 r (lo n)) (ix2 s n) hR
    (Fin.forall_fin_two.mpr ⟨h, (Nat.zero_add _).symm⟩)

/-- and in the right half. -/
theorem read_pair_hi {offR offI : Fin 2 → ℕ} (o : ℕ) (hI : offI = ![o, 512])
    (inbR : ∀ a : Fin 2, offR a + S8x512.size a ≤ S2048x1024.size a)
    (inbI : ∀ a : Fin 2, offI a + S8x512.size a ≤ S2048x1024.size a)
    (a b : Part) (L : List (View.Piece (Elt Ideal) S2048x1024 .f32)) (r : Fin 2048) (s : Fin 8) (n : Fin 512)
    (h : r.val = o + s.val) :
    v.read (Elt Ideal) (v.writes (Elt Ideal) G ((⟨Rect.unit (s := S2048x1024) offI S8x512.size inbI, b⟩ : View.Piece (Elt Ideal) S2048x1024 .f32)
      :: (⟨Rect.unit (s := S2048x1024) offR S8x512.size inbR, a⟩ : View.Piece (Elt Ideal) S2048x1024 .f32) :: L)) (ix2 r (hi n)) = b (ix2 s n) :=
  View.read_writes_cons_unit_of_mem v G inbI b _ (ix2 r (hi n)) (ix2 s n) hI
    (Fin.forall_fin_two.mpr ⟨h, rfl⟩)

/-- Any other row reads what was there. -/
theorem read_pair_off {offR offI : Fin 2 → ℕ} (o : ℕ) (hR : offR = ![o, 0]) (hI : offI = ![o, 512])
    (inbR : ∀ a : Fin 2, offR a + S8x512.size a ≤ S2048x1024.size a)
    (inbI : ∀ a : Fin 2, offI a + S8x512.size a ≤ S2048x1024.size a)
    (a b : Part) (L : List (View.Piece (Elt Ideal) S2048x1024 .f32)) (r : Fin 2048) (m : Fin 1024)
    (h : r.val < o ∨ o + 8 ≤ r.val) :
    v.read (Elt Ideal) (v.writes (Elt Ideal) G ((⟨Rect.unit (s := S2048x1024) offI S8x512.size inbI, b⟩ : View.Piece (Elt Ideal) S2048x1024 .f32)
      :: (⟨Rect.unit (s := S2048x1024) offR S8x512.size inbR, a⟩ : View.Piece (Elt Ideal) S2048x1024 .f32) :: L)) (ix2 r m)
      = v.read (Elt Ideal) (v.writes (Elt Ideal) G L) (ix2 r m) := by
  rw [View.read_writes_cons_unit_of_not_mem v G inbI b _ _ hI (0 : Fin 2) h,
    View.read_writes_cons_unit_of_not_mem v G inbR a _ _ hR (0 : Fin 2) h]

/-- One step of a segment on pairs: `l z + x`. -/
def stepRe (lr li a b x : EReal) : EReal := lr * a - li * b + x
/-- Its imaginary part. -/
def stepIm (lr li a b x : EReal) : EReal := lr * b + li * a + x

/-- The first pass: the segments' states after `k` steps from `E`. -/
theorem pass1 (rd : Fin 2048 → Fin 1024 → EReal) (lr li : Part) (st : ℕ → Part × Part) (row : ℕ → ℕ)
    (hrow : ∀ k < 256, row k < 256) (L : ℕ → ℂ) (X E : ℕ → ℕ → ℂ)
    (hL : ∀ (s : Fin 8) (n : Fin 512), Is (lr (ix2 s n)) (li (ix2 s n)) (L n))
    (hX : ∀ (r : Fin 2048) (n : Fin 512), Is (rd r (lo n)) (rd r (hi n)) (X r n))
    (h0 : ∀ (s : Fin 8) (n : Fin 512), Is ((st 0).1 (ix2 s n)) ((st 0).2 (ix2 s n)) (E s n))
    (hs : ∀ k < 256, ∀ (s : Fin 8) (n : Fin 512) (r : Fin 2048), r.val = 8 * row k + s.val →
      (st (k + 1)).1 (ix2 s n) = stepRe (lr (ix2 s n)) (li (ix2 s n)) ((st k).1 (ix2 s n)) ((st k).2 (ix2 s n)) (rd r (lo n))
      ∧ (st (k + 1)).2 (ix2 s n) = stepIm (lr (ix2 s n)) (li (ix2 s n)) ((st k).1 (ix2 s n)) ((st k).2 (ix2 s n)) (rd r (hi n))) :
    ∀ k ≤ 256, ∀ (s : Fin 8) (n : Fin 512),
      Is ((st k).1 (ix2 s n)) ((st k).2 (ix2 s n)) (scan (L n) (fun i => X (8 * row i + s) n) (E s n) k)
  | 0, _, s, n => h0 s n
  | k + 1, hk, s, n => by
    have ih := pass1 rd lr li st row hrow L X E hL hX h0 hs k (by omega) s n
    have hr := hrow k (by omega)
    obtain ⟨h1, h2⟩ := hs k (by omega) s n ⟨8 * row k + s.val, by omega⟩ rfl
    rw [h1, h2, scan_succ]
    exact (hL s n).step ih (hX ⟨8 * row k + s.val, by omega⟩ n)

/-- What one step of the second pass does to the carried states and the list of stores. -/
def Step2 (lr li : Part) (o : ℕ) (st st' : (Part × Part) × List (View.Piece (Elt Ideal) S2048x1024 .f32)) : Prop :=
  ∃ (offR offI : Fin 2 → ℕ) (inbR : ∀ a : Fin 2, offR a + S8x512.size a ≤ S2048x1024.size a)
    (inbI : ∀ a : Fin 2, offI a + S8x512.size a ≤ S2048x1024.size a) (a b : Part),
    offR = ![o, 0] ∧ offI = ![o, 512]
    ∧ st' = ((a, b), (⟨Rect.unit (s := S2048x1024) offI S8x512.size inbI, b⟩ : View.Piece (Elt Ideal) S2048x1024 .f32)
      :: (⟨Rect.unit (s := S2048x1024) offR S8x512.size inbR, a⟩ : View.Piece (Elt Ideal) S2048x1024 .f32) :: st.2)
    ∧ ∀ (s : Fin 8) (n : Fin 512) (r : Fin 2048), r.val = o + s.val →
      a (ix2 s n) = stepRe (lr (ix2 s n)) (li (ix2 s n)) (st.1.1 (ix2 s n)) (st.1.2 (ix2 s n))
        (v.read (Elt Ideal) (v.writes (Elt Ideal) G st.2) (ix2 r (lo n)))
      ∧ b (ix2 s n) = stepIm (lr (ix2 s n)) (li (ix2 s n)) (st.1.1 (ix2 s n)) (st.1.2 (ix2 s n))
        (v.read (Elt Ideal) (v.writes (Elt Ideal) G st.2) (ix2 r (hi n)))

/-- The second pass: the carried states, and the buffer with the visited rows overwritten. -/
theorem pass2 (lr li : Part) (st : ℕ → (Part × Part) × List (View.Piece (Elt Ideal) S2048x1024 .f32)) (row : ℕ → ℕ)
    (hrow : ∀ k < 256, row k < 256) (hinj : ∀ j < 256, ∀ k < 256, row j = row k → j = k)
    (L : ℕ → ℂ) (X E : ℕ → ℕ → ℂ)
    (hL : ∀ (s : Fin 8) (n : Fin 512), Is (lr (ix2 s n)) (li (ix2 s n)) (L n))
    (hX : ∀ (r : Fin 2048) (n : Fin 512), Is (v.read (Elt Ideal) G (ix2 r (lo n))) (v.read (Elt Ideal) G (ix2 r (hi n))) (X r n))
    (h0 : ∀ (s : Fin 8) (n : Fin 512), Is ((st 0).1.1 (ix2 s n)) ((st 0).1.2 (ix2 s n)) (E s n))
    (hnil : (st 0).2 = [])
    (hs : ∀ k < 256, Step2 v G lr li (8 * row k) (st k) (st (k + 1))) :
    ∀ k ≤ 256, (∀ (s : Fin 8) (n : Fin 512),
      Is ((st k).1.1 (ix2 s n)) ((st k).1.2 (ix2 s n)) (scan (L n) (fun i => X (8 * row i + s) n) (E s n) k))
      ∧ ∀ j < 256, ∀ (s : Fin 8) (n : Fin 512) (r : Fin 2048), r.val = 8 * row j + s.val →
        Is (v.read (Elt Ideal) (v.writes (Elt Ideal) G (st k).2) (ix2 r (lo n)))
          (v.read (Elt Ideal) (v.writes (Elt Ideal) G (st k).2) (ix2 r (hi n)))
          (if j < k then scan (L n) (fun i => X (8 * row i + s) n) (E s n) (j + 1) else X r n)
  | 0, _ => ⟨h0, fun j _ s n r _ => by
      rw [hnil, if_neg (Nat.not_lt_zero _)]
      exact hX r n⟩
  | k + 1, hk => by
    obtain ⟨ih1, ih2⟩ := pass2 lr li st row hrow hinj L X E hL hX h0 hnil hs k (by omega)
    obtain ⟨offR, offI, inbR, inbI, a, b, hR, hI, hst, hab⟩ := hs k (by omega)
    have hr := hrow k (by omega)
    have key : ∀ (s : Fin 8) (n : Fin 512),
        Is (a (ix2 s n)) (b (ix2 s n)) (scan (L n) (fun i => X (8 * row i + s) n) (E s n) (k + 1)) := by
      intro s n
      obtain ⟨ha, hb⟩ := hab s n ⟨8 * row k + s.val, by omega⟩ rfl
      rw [ha, hb, scan_succ]
      have hx := ih2 k (by omega) s n ⟨8 * row k + s.val, by omega⟩ rfl
      rw [if_neg (Nat.lt_irrefl _)] at hx
      exact (hL s n).step (ih1 s n) hx
    rw [hst]
    refine ⟨key, fun j hj s n r hrj => ?_⟩
    by_cases hjk : j = k
    · subst hjk
      rw [if_pos (Nat.lt_succ_self _)]
      refine (key s n).congr ?_ ?_ rfl
      · exact read_pair_lo v G (8 * row j) hR hI inbR inbI a b _ r s n hrj
      · exact read_pair_hi v G (8 * row j) hI inbR inbI a b _ r s n hrj
    · have hne : row j ≠ row k := fun h => hjk (hinj j hj k (by omega) h)
      have hoff : r.val < 8 * row k ∨ 8 * row k + 8 ≤ r.val := by omega
      refine (ih2 j hj s n r hrj).congr (read_pair_off v G (8 * row k) hR hI inbR inbI a b _ r (lo n) hoff)
        (read_pair_off v G (8 * row k) hR hI inbR inbI a b _ r (hi n) hoff) ?_
      by_cases h : j < k
      · rw [if_pos h, if_pos (by omega)]
      · rw [if_neg h, if_neg (by omega)]

end

end Cert.S5

end
-- ==== Proof.KRows.lean ====
/-
  Loads of row blocks from the arguments, and lists of stores that tile an array by row blocks.
-/
module

public import proofs.«01_k».proof.Proof.KScan
public import proofs.«01_k».proof.Proof.Gen.KernelIdeal.Skeleton
public import Idealize.ShloMosaic.Lib.Pipeline.Value

@[expose] public section

set_option maxRecDepth 16384

noncomputable section

namespace Cert.S5

open Cert.KernelIdeal Cert.KernelIdeal.Gen Idealize.ShloMosaic Idealize.ShloMosaic.TcCoe Idealize.ShloMosaic.Tactic

/-- A load of 256 rows of a block, at an index. -/
theorem ld_rows128 {e : EltTy} {arg : Memref sig .tc .vmem S2048x128 e} (h : arg.IsWhole) (x : Vec Ideal S2048x128 e) {off : Fin 2 → ℕ} (o : ℕ)
    (ho : off = ![o, 0]) (inb : ∀ a : Fin 2, off a + S256x128.size a ≤ S2048x128.size a) (a : Fin 256) (c : Fin 128)
    (r : Fin 2048) (hr : r.val = o + a.val) :
    (View.readAt (Elt Ideal) arg.view (Rect.unit (s := S2048x128) off S256x128.size inb).toLoadRect (h.unread x) : Vec Ideal S256x128 e) (ix2 a c)
      = x (ix2 r c) := by
  subst ho
  rw [View.readAt_eq_ld, h.read_unread]
  refine congrArg x (funext fun q => Fin.ext ?_)
  match q with
  | ⟨0, _⟩ => show o + 1 * a.val = r.val; omega
  | ⟨1, _⟩ => show 0 + 1 * c.val = c.val; omega

/-- The same of an array of 1024 columns. -/
theorem ld_rows1024 {e : EltTy} {arg : Memref sig .tc .vmem S2048x1024 e} (h : arg.IsWhole) (x : Vec Ideal S2048x1024 e) {off : Fin 2 → ℕ} (o : ℕ)
    (ho : off = ![o, 0]) (inb : ∀ a : Fin 2, off a + S256x1024.size a ≤ S2048x1024.size a) (a : Fin 256) (c : Fin 1024)
    (r : Fin 2048) (hr : r.val = o + a.val) :
    (View.readAt (Elt Ideal) arg.view (Rect.unit (s := S2048x1024) off S256x1024.size inb).toLoadRect (h.unread x) : Vec Ideal S256x1024 e) (ix2 a c)
      = x (ix2 r c) := by
  subst ho
  rw [View.readAt_eq_ld, h.read_unread]
  refine congrArg x (funext fun q => Fin.ext ?_)
  match q with
  | ⟨0, _⟩ => show o + 1 * a.val = r.val; omega
  | ⟨1, _⟩ => show 0 + 1 * c.val = c.val; omega

/-- A load of a whole three-axis block. -/
theorem ld_whole3 {S : Shape} {e : EltTy} {arg : Memref sig .tc .vmem S e} (h : arg.IsWhole) (x : Vec Ideal S e) {off : Fin S.rank → ℕ}
    (ho : ∀ a, off a = 0) (inb : ∀ a, off a + S.size a ≤ S.size a) :
    (View.readAt (Elt Ideal) arg.view (Rect.unit (s := S) off S.size inb).toLoadRect (h.unread x) : Vec Ideal S e) = x := by
  rw [View.readAt_eq_ld, h.read_unread]
  funext j
  refine congrArg x (funext fun q => Fin.ext ?_)
  show off q + 1 * (j q).val = (j q).val
  rw [ho q]; omega

/-- A load of half of one row of the decay block. -/
theorem ld_lam {arg : Memref sig .tc .vmem S1x8x1024 .f32} (h : arg.IsWhole) (x : Vec Ideal S1x8x1024 .f32) {off : Fin 3 → ℕ} (q : ℕ)
    (ho : off = ![0, 0, q]) (inb : ∀ a : Fin 3, off a + S1x1x512.size a ≤ S1x8x1024.size a) (n : Fin 512)
    (m : Fin 1024) (hm : m.val = q + n.val) :
    (View.readAt (Elt Ideal) arg.view (Rect.unit (s := S1x8x1024) off S1x1x512.size inb).toLoadRect (h.unread x) : Vec Ideal S1x1x512 .f32) (ix3 0 0 n)
      = x (ix3 0 0 m) := by
  subst ho
  rw [View.readAt_eq_ld, h.read_unread]
  refine congrArg x (funext fun a => Fin.ext ?_)
  match a with
  | ⟨0, _⟩ => rfl
  | ⟨1, _⟩ => rfl
  | ⟨2, _⟩ => show q + 1 * n.val = m.val; omega

/-- A load of half of the entry states' rows. -/
theorem ld_ent {arg : Memref sig .tc .vmem S1x8x1024 .f32} (h : arg.IsWhole) (x : Vec Ideal S1x8x1024 .f32) {off : Fin 3 → ℕ} (q : ℕ)
    (ho : off = ![0, 0, q]) (inb : ∀ a : Fin 3, off a + S1x8x512.size a ≤ S1x8x1024.size a) (s : Fin 8) (n : Fin 512)
    (m : Fin 1024) (hm : m.val = q + n.val) :
    (View.readAt (Elt Ideal) arg.view (Rect.unit (s := S1x8x1024) off S1x8x512.size inb).toLoadRect (h.unread x) : Vec Ideal S1x8x512 .f32) (ix3 0 s n)
      = x (ix3 0 s m) := by
  subst ho
  rw [View.readAt_eq_ld, h.read_unread]
  refine congrArg x (funext fun a => Fin.ext ?_)
  match a with
  | ⟨0, _⟩ => rfl
  | ⟨1, _⟩ => show 0 + 1 * s.val = s.val; omega
  | ⟨2, _⟩ => show q + 1 * n.val = m.val; omega

/-- A store of 256 rows agrees with an array that it is a part of. -/
theorem piece1024 (G : S2048x1024.Idx → EReal) {off : Fin 2 → ℕ} (o : ℕ) (ho : off = ![o, 0])
    (inb : ∀ a : Fin 2, off a + S256x1024.size a ≤ S2048x1024.size a) (p : Vec Ideal S256x1024 .f32)
    (hp : ∀ (a : Fin 256) (k : Fin 1024) (r : Fin 2048), r.val = o + a.val → p (ix2 a k) = G (ix2 r k))
    (x : (Rect.unit (s := S2048x1024) off S256x1024.size inb).shape.Idx) :
    p x = G ((Rect.unit (s := S2048x1024) off S256x1024.size inb).emb x) := by
  subst ho
  have h0 : o + 256 ≤ 2048 := inb 0
  have l0 : (x 0 : Fin 256).val < 256 := (x 0 : Fin 256).isLt
  have hx : (x : S256x1024.Idx) = ix2 (x 0 : Fin 256) (x 1 : Fin 1024) := by
    funext a
    match a with
    | ⟨0, _⟩ => rfl
    | ⟨1, _⟩ => rfl
  refine (congrArg p hx).trans ((hp (x 0) (x 1) ⟨o + (x 0 : Fin 256).val, by omega⟩ rfl).trans (congrArg G (funext fun q => Fin.ext ?_)))
  match q with
  | ⟨0, _⟩ => show o + (x 0 : Fin 256).val = o + 1 * (x 0 : Fin 256).val; omega
  | ⟨1, _⟩ => show (x 1 : Fin 1024).val = 0 + 1 * (x 1 : Fin 1024).val; omega

/-- The same of an array of 128 columns. -/
theorem piece128 (G : S2048x128.Idx → EReal) {off : Fin 2 → ℕ} (o : ℕ) (ho : off = ![o, 0])
    (inb : ∀ a : Fin 2, off a + S256x128.size a ≤ S2048x128.size a) (p : Vec Ideal S256x128 .f32)
    (hp : ∀ (a : Fin 256) (k : Fin 128) (r : Fin 2048), r.val = o + a.val → p (ix2 a k) = G (ix2 r k))
    (x : (Rect.unit (s := S2048x128) off S256x128.size inb).shape.Idx) :
    p x = G ((Rect.unit (s := S2048x128) off S256x128.size inb).emb x) := by
  subst ho
  have h0 : o + 256 ≤ 2048 := inb 0
  have l0 : (x 0 : Fin 256).val < 256 := (x 0 : Fin 256).isLt
  have hx : (x : S256x128.Idx) = ix2 (x 0 : Fin 256) (x 1 : Fin 128) := by
    funext a
    match a with
    | ⟨0, _⟩ => rfl
    | ⟨1, _⟩ => rfl
  refine (congrArg p hx).trans ((hp (x 0) (x 1) ⟨o + (x 0 : Fin 256).val, by omega⟩ rfl).trans (congrArg G (funext fun q => Fin.ext ?_)))
  match q with
  | ⟨0, _⟩ => show o + (x 0 : Fin 256).val = o + 1 * (x 0 : Fin 256).val; omega
  | ⟨1, _⟩ => show (x 1 : Fin 128).val = 0 + 1 * (x 1 : Fin 128).val; omega

end Cert.S5

end
-- ==== Proof.KEntry0.lean ====
/-
  The forward kernel's chain from the segments' ends to the segments' entry states.

  `λ ^ 256` by eight squarings, then seven steps `cur ↦ λ ^ 256 cur + fin s`, each placed into one row.
-/
module

public import proofs.«01_k».proof.Proof.KScan
public import proofs.«01_k».proof.Proof.Gen.KernelIdeal.Skeleton

@[expose] public section

set_option maxRecDepth 16384

noncomputable section

namespace Cert.S5

open Cert.KernelIdeal Cert.KernelIdeal.Gen Idealize.ShloMosaic Idealize.ShloMosaic.TcCoe Idealize.ShloMosaic.Tactic

section
variable (v56 v58 : Vec Ideal S1x1x512 .f32) (n : Fin 512) (l : ℂ)

/-- The power that carries a state over a whole segment. -/
theorem power0 (h : Is (v56 (ix3 0 0 n)) (v58 (ix3 0 0 n)) l) :
    Is (k0_pay36 (F := Ideal) (k0_pay27 (F := Ideal) v56 v58) (k0_pay28 (F := Ideal) v56 v58) (k0_pay29 (F := Ideal) v56 v58) (k0_pay30 (F := Ideal) v56 v58) (ix2 0 n))
      (k0_pay37 (F := Ideal) (k0_pay27 (F := Ideal) v56 v58) (k0_pay28 (F := Ideal) v56 v58) (k0_pay29 (F := Ideal) v56 v58) (k0_pay30 (F := Ideal) v56 v58) (ix2 0 n)) (l ^ 256) := by
  have h1 : Is (k0_pay14 (F := Ideal) v56 (ix2 0 n)) (k0_pay15 (F := Ideal) v58 (ix2 0 n)) l :=
    h.congr (by pointwise [k0_pay14]) (by pointwise [k0_pay15]) rfl
  have h2 : Is (k0_pay21 (F := Ideal) v56 v58 (ix2 0 n)) (k0_pay22 (F := Ideal) v56 v58 (ix2 0 n)) _ :=
    h1.sq.congr (by pointwise [k0_pay21]) (by pointwise [k0_pay22]) rfl
  have h4 : Is (k0_pay23 (F := Ideal) v56 v58 (ix2 0 n)) (k0_pay24 (F := Ideal) v56 v58 (ix2 0 n)) _ :=
    h2.sq.congr (by pointwise [k0_pay23]) (by pointwise [k0_pay24]) rfl
  have h8 : Is (k0_pay25 (F := Ideal) v56 v58 (ix2 0 n)) (k0_pay26 (F := Ideal) v56 v58 (ix2 0 n)) _ :=
    h4.sq.congr (by pointwise [k0_pay25]) (by pointwise [k0_pay26]) rfl
  have h16 : Is (k0_pay27 (F := Ideal) v56 v58 (ix2 0 n)) (k0_pay28 (F := Ideal) v56 v58 (ix2 0 n)) _ :=
    h8.sq.congr (by pointwise [k0_pay27]) (by pointwise [k0_pay28]) rfl
  have h32 : Is (k0_pay29 (F := Ideal) v56 v58 (ix2 0 n)) (k0_pay31 (F := Ideal) (k0_pay27 (F := Ideal) v56 v58) (k0_pay28 (F := Ideal) v56 v58) (k0_pay30 (F := Ideal) v56 v58) (ix2 0 n)) _ :=
    h16.sq.congr (by pointwise [k0_pay29]) (by pointwise [k0_pay31, k0_pay30]) rfl
  generalize k0_pay27 v56 v58 = w88 at *
  generalize k0_pay28 v56 v58 = w91 at *
  generalize k0_pay29 v56 v58 = w94 at *
  generalize k0_pay30 v56 v58 = w95 at *
  have h64 : Is (k0_pay32 (F := Ideal) w88 w91 w94 w95 (ix2 0 n)) (k0_pay33 (F := Ideal) w88 w91 w94 w95 (ix2 0 n)) _ :=
    h32.sq.congr (by pointwise [k0_pay32]) (by pointwise [k0_pay33]) rfl
  have h128 : Is (k0_pay34 (F := Ideal) w88 w91 w94 w95 (ix2 0 n)) (k0_pay35 (F := Ideal) w88 w91 w94 w95 (ix2 0 n)) _ :=
    h64.sq.congr (by pointwise [k0_pay34]) (by pointwise [k0_pay35]) rfl
  exact h128.sq.congr (by pointwise [k0_pay36]) (by pointwise [k0_pay37]) (by ring)

end

/-- A row picked by its number. -/
theorem sel_row {α : Type} (s k : ℕ) (hs : s < 8) (hk : k < 8) (x y : α) :
    Scalar.select (IntOp.cmpi CmpIPredicate.eq (BitVec.ofNat 32 s) (BitVec.ofNat 32 k)) x y = if s = k then x else y := by
  have h : ∀ a b : Fin 8, IntOp.cmpi CmpIPredicate.eq (BitVec.ofNat 32 a) (BitVec.ofNat 32 b) = if a.val = b.val then 1#1 else 0#1 := by
    decide
  rw [h ⟨s, hs⟩ ⟨k, hk⟩]
  by_cases e : s = k
  · rw [if_pos e, if_pos e]; rfl
  · rw [if_neg e, if_neg e]; rfl

section
variable (w88 w91 w94 w95 : Vec Ideal S1x512 .f32) (f0 f1 : Part) (n : Fin 512) (l : ℂ) (F : ℕ → ℂ)

/-- The entry states of the eight segments, from the power and the segments' ends. -/
theorem entry0
    (hp : Is (k0_pay36 (F := Ideal) w88 w91 w94 w95 (ix2 0 n)) (k0_pay37 (F := Ideal) w88 w91 w94 w95 (ix2 0 n)) (l ^ 256))
    (hf : ∀ s : Fin 8, Is (f0 (ix2 s n)) (f1 (ix2 s n)) (F s)) (s : Fin 8) :
    Is (k0_pay59 (F := Ideal) (iota Kind.tc S8x512 32 [0] iota_S8x512_d0_w32) f0 f1 (k0_pay36 (F := Ideal) w88 w91 w94 w95) (k0_pay37 (F := Ideal) w88 w91 w94 w95)
        (k0_pay52 (F := Ideal) (iota Kind.tc S8x512 32 [0] iota_S8x512_d0_w32) f0 f1 (k0_pay36 (F := Ideal) w88 w91 w94 w95) (k0_pay37 (F := Ideal) w88 w91 w94 w95)
          (k0_pay42 (F := Ideal) (iota Kind.tc S8x512 32 [0] iota_S8x512_d0_w32) k0_pay18 f0 w88 w91 w94 w95)
          (k0_pay44 (F := Ideal) f0 f1 w88 w91 w94 w95) (k0_pay45 (F := Ideal) f0 f1 w88 w91 w94 w95)
          (k0_pay46 (iota Kind.tc S8x512 32 [0] iota_S8x512_d0_w32)) (k0_pay47 (F := Ideal) f0 f1 w88 w91 w94 w95))
        (k0_pay54 (F := Ideal) f0 f1 (k0_pay36 (F := Ideal) w88 w91 w94 w95) (k0_pay37 (F := Ideal) w88 w91 w94 w95) (k0_pay44 (F := Ideal) f0 f1 w88 w91 w94 w95) (k0_pay45 (F := Ideal) f0 f1 w88 w91 w94 w95))
        (k0_pay55 (F := Ideal) f0 f1 (k0_pay36 (F := Ideal) w88 w91 w94 w95) (k0_pay37 (F := Ideal) w88 w91 w94 w95) (k0_pay44 (F := Ideal) f0 f1 w88 w91 w94 w95) (k0_pay45 (F := Ideal) f0 f1 w88 w91 w94 w95))
        (ix2 s n))
      (k0_pay60 (F := Ideal) (iota Kind.tc S8x512 32 [0] iota_S8x512_d0_w32) f0 f1 (k0_pay36 (F := Ideal) w88 w91 w94 w95) (k0_pay37 (F := Ideal) w88 w91 w94 w95)
        (k0_pay53 (F := Ideal) (iota Kind.tc S8x512 32 [0] iota_S8x512_d0_w32) f0 f1 (k0_pay36 (F := Ideal) w88 w91 w94 w95) (k0_pay37 (F := Ideal) w88 w91 w94 w95)
          (k0_pay43 (F := Ideal) (iota Kind.tc S8x512 32 [0] iota_S8x512_d0_w32) k0_pay18 f1 w88 w91 w94 w95)
          (k0_pay44 (F := Ideal) f0 f1 w88 w91 w94 w95) (k0_pay45 (F := Ideal) f0 f1 w88 w91 w94 w95))
        (k0_pay54 (F := Ideal) f0 f1 (k0_pay36 (F := Ideal) w88 w91 w94 w95) (k0_pay37 (F := Ideal) w88 w91 w94 w95) (k0_pay44 (F := Ideal) f0 f1 w88 w91 w94 w95) (k0_pay45 (F := Ideal) f0 f1 w88 w91 w94 w95))
        (k0_pay55 (F := Ideal) f0 f1 (k0_pay36 (F := Ideal) w88 w91 w94 w95) (k0_pay37 (F := Ideal) w88 w91 w94 w95) (k0_pay44 (F := Ideal) f0 f1 w88 w91 w94 w95) (k0_pay45 (F := Ideal) f0 f1 w88 w91 w94 w95))
        (ix2 s n))
      (entryOf l 256 F s) := by
  have e1 : Is (k0_pay40 (F := Ideal) f0 w88 w91 w94 w95 (ix2 0 n)) (k0_pay41 (F := Ideal) f1 w88 w91 w94 w95 (ix2 0 n)) (entryOf l 256 F 1) :=
    (hp.step Is.zero (hf 0)).congr (by pointwise [k0_pay40, k0_pay38, k0_pay39]) (by pointwise [k0_pay41, k0_pay38, k0_pay39]) rfl
  have e2 : Is (k0_pay44 (F := Ideal) f0 f1 w88 w91 w94 w95 (ix2 0 n)) (k0_pay45 (F := Ideal) f0 f1 w88 w91 w94 w95 (ix2 0 n)) (entryOf l 256 F 2) :=
    (hp.step e1 (hf 1)).congr (by pointwise [k0_pay44]) (by pointwise [k0_pay45]) rfl
  have e3 : Is (k0_pay48 (F := Ideal) f0 (k0_pay36 w88 w91 w94 w95) (k0_pay37 w88 w91 w94 w95) (k0_pay44 f0 f1 w88 w91 w94 w95) (k0_pay45 f0 f1 w88 w91 w94 w95) (ix2 0 n)) (k0_pay49 (F := Ideal) f1 (k0_pay36 w88 w91 w94 w95) (k0_pay37 w88 w91 w94 w95) (k0_pay44 f0 f1 w88 w91 w94 w95) (k0_pay45 f0 f1 w88 w91 w94 w95) (ix2 0 n)) (entryOf l 256 F 3) :=
    (hp.step e2 (hf 2)).congr (by pointwise [k0_pay48]) (by pointwise [k0_pay49]) rfl
  have e4 : Is (k0_pay50 (F := Ideal) f0 f1 (k0_pay36 w88 w91 w94 w95) (k0_pay37 w88 w91 w94 w95) (k0_pay44 f0 f1 w88 w91 w94 w95) (k0_pay45 f0 f1 w88 w91 w94 w95) (ix2 0 n)) (k0_pay51 (F := Ideal) f0 f1 (k0_pay36 w88 w91 w94 w95) (k0_pay37 w88 w91 w94 w95) (k0_pay44 f0 f1 w88 w91 w94 w95) (k0_pay45 f0 f1 w88 w91 w94 w95) (ix2 0 n)) (entryOf l 256 F 4) :=
    (hp.step e3 (hf 3)).congr (by pointwise [k0_pay50]) (by pointwise [k0_pay51]) rfl
  have e5 : Is (k0_pay55 (F := Ideal) f0 f1 (k0_pay36 w88 w91 w94 w95) (k0_pay37 w88 w91 w94 w95) (k0_pay44 f0 f1 w88 w91 w94 w95) (k0_pay45 f0 f1 w88 w91 w94 w95) (ix2 0 n)) (k0_pay56 (F := Ideal) f1 (k0_pay54 f0 f1 (k0_pay36 w88 w91 w94 w95) (k0_pay37 w88 w91 w94 w95) (k0_pay44 f0 f1 w88 w91 w94 w95) (k0_pay45 f0 f1 w88 w91 w94 w95)) (ix2 0 n)) (entryOf l 256 F 5) :=
    (hp.step e4 (hf 4)).congr (by pointwise [k0_pay55]) (by pointwise [k0_pay56, k0_pay54]) rfl
  generalize k0_pay54 (F := Ideal) f0 f1 (k0_pay36 w88 w91 w94 w95) (k0_pay37 w88 w91 w94 w95) (k0_pay44 f0 f1 w88 w91 w94 w95) (k0_pay45 f0 f1 w88 w91 w94 w95) = w203 at *
  have e6 : Is (k0_pay57 (F := Ideal) f0 f1 (k0_pay36 w88 w91 w94 w95) (k0_pay37 w88 w91 w94 w95) w203 (k0_pay55 f0 f1 (k0_pay36 w88 w91 w94 w95) (k0_pay37 w88 w91 w94 w95) (k0_pay44 f0 f1 w88 w91 w94 w95) (k0_pay45 f0 f1 w88 w91 w94 w95)) (ix2 0 n)) (k0_pay58 (F := Ideal) f1 (k0_pay36 w88 w91 w94 w95) (k0_pay37 w88 w91 w94 w95) w203 (k0_pay55 f0 f1 (k0_pay36 w88 w91 w94 w95) (k0_pay37 w88 w91 w94 w95) (k0_pay44 f0 f1 w88 w91 w94 w95) (k0_pay45 f0 f1 w88 w91 w94 w95)) (ix2 0 n)) (entryOf l 256 F 6) :=
    (hp.step e5 (hf 5)).congr (by pointwise [k0_pay57]) (by pointwise [k0_pay58]) rfl
  have e7 := hp.step e6 (hf 6)
  fin_vals s with hs
  · refine Is.zero.congr ?_ ?_ (by rw [hs]; rfl)
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl
  · refine e1.congr ?_ ?_ (by rw [hs])
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl
  · refine e2.congr ?_ ?_ (by rw [hs])
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl
  · refine e3.congr ?_ ?_ (by rw [hs])
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl
  · refine e4.congr ?_ ?_ (by rw [hs])
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl
  · refine e5.congr ?_ ?_ (by rw [hs])
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl
  · refine e6.congr ?_ ?_ (by rw [hs])
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl
  · refine e7.congr ?_ ?_ (by rw [hs]; rfl)
    · pointwise [k0_pay59, k0_pay52, k0_pay42, k0_pay46, k0_pay47, k0_pay18]; simp (disch := omega) only [sel_row]; rw [hs]; rfl
    · pointwise [k0_pay60, k0_pay53, k0_pay43, k0_pay18]; simp (disch := omega) only [sel_row]; rw [hs]; rfl

end

end Cert.S5

end
-- ==== Proof.KTrip0.lean ====
/-
  The forward kernel's two loops, one trip at a time, as steps of the segmented scan.
-/
module

public import proofs.«01_k».proof.Proof.KScan
public import proofs.«01_k».proof.Proof.Gen.KernelIdeal.Loops

@[expose] public section

set_option maxRecDepth 16384

noncomputable section

namespace Cert.S5

open Cert.KernelIdeal Cert.KernelIdeal.Gen Idealize.ShloMosaic Idealize.ShloMosaic.TcCoe Idealize.ShloMosaic.Tactic

theorem trips_k0_t1 : k0_t1_loop.trips = 256 := by decide +kernel
theorem trips_k0_t2 : k0_t2_loop.trips = 256 := by decide +kernel
theorem off1_eq : ∀ k : Fin k0_t1_loop.trips, k0_off1 k = ![8 * k.val, 0] := by decide +kernel
theorem off2_eq : ∀ k : Fin k0_t1_loop.trips, k0_off2 k = ![8 * k.val, 512] := by decide +kernel
theorem off3_eq : ∀ k : Fin k0_t2_loop.trips, k0_off3 k = ![8 * k.val, 0] := by decide +kernel
theorem off4_eq : ∀ k : Fin k0_t2_loop.trips, k0_off4 k = ![8 * k.val, 512] := by decide +kernel

theorem pay19_apply (v56 v58 : Vec Ideal S1x1x512 .f32) (a b x : Part) (s : Fin 8) (n : Fin 512) :
    k0_pay19 v56 v58 a b x (ix2 s n)
      = stepRe (k0_pay16 v56 (ix2 s n)) (k0_pay17 v58 (ix2 s n)) (a (ix2 s n)) (b (ix2 s n)) (x (ix2 s n)) := by
  pointwise [k0_pay19, stepRe]

theorem pay20_apply (v56 v58 : Vec Ideal S1x1x512 .f32) (a b x : Part) (s : Fin 8) (n : Fin 512) :
    k0_pay20 v56 v58 a b x (ix2 s n)
      = stepIm (k0_pay16 v56 (ix2 s n)) (k0_pay17 v58 (ix2 s n)) (a (ix2 s n)) (b (ix2 s n)) (x (ix2 s n)) := by
  pointwise [k0_pay20, stepIm]

theorem pay61_apply (l m a b x : Part) (s : Fin 8) (n : Fin 512) :
    k0_pay61 l m a b x (ix2 s n) = stepRe (l (ix2 s n)) (m (ix2 s n)) (a (ix2 s n)) (b (ix2 s n)) (x (ix2 s n)) := by
  pointwise [k0_pay61, stepRe]

theorem pay62_apply (l m a b x : Part) (s : Fin 8) (n : Fin 512) :
    k0_pay62 l m a b x (ix2 s n) = stepIm (l (ix2 s n)) (m (ix2 s n)) (a (ix2 s n)) (b (ix2 s n)) (x (ix2 s n)) := by
  pointwise [k0_pay62, stepIm]

theorem pay16_apply (v : Vec Ideal S1x1x512 .f32) (s : Fin 8) (n : Fin 512) : k0_pay16 v (ix2 s n) = v (ix3 0 0 n) := by
  pointwise [k0_pay16, k0_pay14]

theorem pay17_apply (v : Vec Ideal S1x1x512 .f32) (s : Fin 8) (n : Fin 512) : k0_pay17 v (ix2 s n) = v (ix3 0 0 n) := by
  pointwise [k0_pay17, k0_pay15]

section
variable (𝒱 : Variants) (c : Dev nD) (bd : Option 𝒱.V) (i : grid0.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x1024 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S1x8x1024 .f32) (harg7 : arg7.IsWhole)

/-- A load of eight rows and half of the columns, at an index. -/
theorem load_half {κ : Kind} {sp : Space} (v : View sig κ sp S2048x1024 .f32) (f : v.ty.Contents (Elt Ideal)) {off : Fin 2 → ℕ}
    (o q : ℕ) (h : off = ![o, q]) (inb : ∀ a : Fin 2, off a + S8x512.size a ≤ S2048x1024.size a) (s : Fin 8) (n : Fin 512)
    (r : Fin 2048) (m : Fin 1024) (hr : r.val = o + s.val) (hm : m.val = q + n.val) :
    (v.readAt (Elt Ideal) (Rect.unit (s := S2048x1024) off S8x512.size inb).toLoadRect f : Part) (ix2 s n)
      = v.read (Elt Ideal) f (ix2 r m) := by
  subst h
  refine congrArg (v.read (Elt Ideal) f) (funext fun a => Fin.ext ?_)
  match a with
  | ⟨0, _⟩ => show o + 1 * s.val = r.val; omega
  | ⟨1, _⟩ => show q + 1 * n.val = m.val; omega

/-- A trip of the first loop. -/
theorem trip1_step (v51 : FVec Ideal S256x128 .bf16) (v56 v58 : Vec Ideal S1x1x512 .f32)
    (X : BufTy.Contents (Elt Ideal) arg6.view.ty) (init : Part × Part) :
    ∀ k < 256, ∀ (s : Fin 8) (n : Fin 512) (r : Fin 2048), r.val = 8 * k + s.val →
      (st_k0_t1 (F := Ideal) 𝒱 c bd i arg1 harg1 arg2 harg2 arg3 harg3 arg4 harg4 arg5 harg5 arg6 harg6 arg7 harg7 v51 v56 v58 X init (k + 1)).1 (ix2 s n)
        = stepRe (k0_pay16 v56 (ix2 s n)) (k0_pay17 v58 (ix2 s n))
          ((st_k0_t1 (F := Ideal) 𝒱 c bd i arg1 harg1 arg2 harg2 arg3 harg3 arg4 harg4 arg5 harg5 arg6 harg6 arg7 harg7 v51 v56 v58 X init k).1 (ix2 s n))
          ((st_k0_t1 (F := Ideal) 𝒱 c bd i arg1 harg1 arg2 harg2 arg3 harg3 arg4 harg4 arg5 harg5 arg6 harg6 arg7 harg7 v51 v56 v58 X init k).2 (ix2 s n))
          (arg6.view.read (Elt Ideal) X (ix2 r (lo n)))
      ∧ (st_k0_t1 (F := Ideal) 𝒱 c bd i arg1 harg1 arg2 harg2 arg3 harg3 arg4 harg4 arg5 harg5 arg6 harg6 arg7 harg7 v51 v56 v58 X init (k + 1)).2 (ix2 s n)
        = stepIm (k0_pay16 v56 (ix2 s n)) (k0_pay17 v58 (ix2 s n))
          ((st_k0_t1 (F := Ideal) 𝒱 c bd i arg1 harg1 arg2 harg2 arg3 harg3 arg4 harg4 arg5 harg5 arg6 harg6 arg7 harg7 v51 v56 v58 X init k).1 (ix2 s n))
          ((st_k0_t1 (F := Ideal) 𝒱 c bd i arg1 harg1 arg2 harg2 arg3 harg3 arg4 harg4 arg5 harg5 arg6 harg6 arg7 harg7 v51 v56 v58 X init k).2 (ix2 s n))
          (arg6.view.read (Elt Ideal) X (ix2 r (hi n))) := by
  intro k hk s n r hr
  have h := st_k0_t1_succ (F := Ideal) 𝒱 c bd i arg1 harg1 arg2 harg2 arg3 harg3 arg4 harg4 arg5 harg5 arg6 harg6 arg7 harg7 v51 v56 v58 X init ⟨k, by rw [trips_k0_t1]; exact hk⟩
  dsimp only at h
  rw [h]
  generalize st_k0_t1 (F := Ideal) 𝒱 c bd i arg1 harg1 arg2 harg2 arg3 harg3 arg4 harg4 arg5 harg5 arg6 harg6 arg7 harg7 v51 v56 v58 X init k = acc
  unfold tripR_k0_t1 trip_k0_t1
  dsimp only
  rw [pay19_apply, pay20_apply]
  constructor
  · exact congrArg _ (load_half arg6.view X (8 * k) 0 (off1_eq _) _ s n r (lo n) hr (Nat.zero_add _).symm)
  · exact congrArg _ (load_half arg6.view X (8 * k) 512 (off2_eq _) _ s n r (hi n) hr rfl)

/-- A trip of the second loop. -/
theorem trip2_step (v62 v64 v252 v257 : Part) (w w' : BitVec 32) (G : BufTy.Contents (Elt Ideal) arg6.view.ty)
    (init : Part × Part) :
    ∀ k < 256, Step2 arg6.view G v62 v64 (8 * k)
      (st_k0_t2 (F := Ideal) 𝒱 c bd i arg1 harg1 arg2 harg2 arg3 harg3 arg4 harg4 arg5 harg5 arg6 harg6 arg7 harg7 v62 v64 v252 v257 w w' G init k)
      (st_k0_t2 (F := Ideal) 𝒱 c bd i arg1 harg1 arg2 harg2 arg3 harg3 arg4 harg4 arg5 harg5 arg6 harg6 arg7 harg7 v62 v64 v252 v257 w w' G init (k + 1)) := by
  intro k hk
  have h := st_k0_t2_succ (F := Ideal) 𝒱 c bd i arg1 harg1 arg2 harg2 arg3 harg3 arg4 harg4 arg5 harg5 arg6 harg6 arg7 harg7 v62 v64 v252 v257 w w' G init ⟨k, by rw [trips_k0_t2]; exact hk⟩
  dsimp only at h
  rw [h]
  generalize st_k0_t2 (F := Ideal) 𝒱 c bd i arg1 harg1 arg2 harg2 arg3 harg3 arg4 harg4 arg5 harg5 arg6 harg6 arg7 harg7 v62 v64 v252 v257 w w' G init k = st
  unfold tripR_k0_t2 tripL_k0_t2 trip_k0_t2
  dsimp only
  refine ⟨_, _, _, _, _, _, off3_eq _, off4_eq _, rfl, fun s n r hr => ?_⟩
  rw [pay61_apply, pay62_apply]
  constructor
  · exact congrArg _ (load_half arg6.view _ (8 * k) 0 (off3_eq _) _ s n r (lo n) hr (Nat.zero_add _).symm)
  · exact congrArg _ (load_half arg6.view _ (8 * k) 512 (off4_eq _) _ s n r (hi n) hr rfl)

end

end Cert.S5

end
-- ==== Proof.KBody0.lean ====
/-
  What one grid point of the forward kernel leaves in its three result blocks.

  The block of states first holds the inputs `u wb`, then the states themselves; the entry states of the segments go to
  a block of their own; `y` is the states' product with `wc`.
-/
module

public import proofs.«01_k».proof.Proof.KRows
public import proofs.«01_k».proof.Proof.KEntry0
public import proofs.«01_k».proof.Proof.KTrip0
public import proofs.«01_k».proof.Proof.Gen.KernelIdeal.Frame

@[expose] public section

set_option maxRecDepth 16384

noncomputable section

namespace Cert.S5

open Cert.KernelIdeal Cert.KernelIdeal.Gen Idealize.ShloMosaic Idealize.ShloMosaic.TcCoe Idealize.ShloMosaic.Tactic

/-- The input of state `n` at row `r`. -/
def drive (U B : ℕ → ℕ → ℝ) (r n : ℕ) : ℂ :=
  ⟨∑ c : Fin 128, U r c * B c n, ∑ c : Fin 128, U r c * B c (512 + n)⟩

/-- The end of segment `s` run from zero, its rows visited in the order `row`, -/
def segFin (row : ℕ → ℕ) (l : ℂ) (x : ℕ → ℂ) (s : ℕ) : ℂ := scan l (fun i => x (8 * row i + s)) 0 256
/-- the state in which it starts, -/
def segEnt (row : ℕ → ℕ) (l : ℂ) (x : ℕ → ℂ) (s : ℕ) : ℂ := entryOf l 256 (segFin row l x) s
/-- and its states. -/
def segAt (row : ℕ → ℕ) (l : ℂ) (x : ℕ → ℂ) (s k : ℕ) : ℂ := scan l (fun i => x (8 * row i + s)) (segEnt row l x s) k

/-- Two halves of eight rows, stored one after the other, read on the left -/
theorem ent_lo (a b : Vec Ideal S1x8x512 .f32) (s : Fin 8) (n : Fin 512) :
    View.canon (Val := Elt Ideal) (s := S1x8x1024) (e := .f32) [⟨Rect.unit (s := S1x8x1024) ![0, 0, 512] S1x8x512.size inb_S1x8x1024_S1x8x512_0_0_512, b⟩,
      ⟨Rect.unit (s := S1x8x1024) ![0, 0, 0] S1x8x512.size inb_S1x8x1024_S1x8x512_0_0_0, a⟩] (ix3 0 s (lo n)) = a (ix3 0 s n) := by
  rw [View.canon_cons_of_not_mem _ _ (by
    rw [Rect.mem_set_unit]; intro h; have := (h 2).1; have h2 : 512 ≤ n.val := this; omega)]
  have e : (ix3 0 s (lo n) : S1x8x1024.Idx)
      = (Rect.unit (s := S1x8x1024) ![0, 0, 0] S1x8x512.size inb_S1x8x1024_S1x8x512_0_0_0).emb (ix3 0 s n : S1x8x512.Idx) :=
    funext fun q => Fin.ext (match q with
      | ⟨0, _⟩ => rfl
      | ⟨1, _⟩ => show s.val = 0 + 1 * s.val by omega
      | ⟨2, _⟩ => show n.val = 0 + 1 * n.val by omega)
  rw [e]
  exact View.canon_cons_emb (Val := Elt Ideal) (e := .f32) (Rect.unit (s := S1x8x1024) ![0, 0, 0] S1x8x512.size inb_S1x8x1024_S1x8x512_0_0_0) a [] (ix3 0 s n : S1x8x512.Idx)

/-- and on the right. -/
theorem ent_hi (a b : Vec Ideal S1x8x512 .f32) (s : Fin 8) (n : Fin 512) :
    View.canon (Val := Elt Ideal) (s := S1x8x1024) (e := .f32) [⟨Rect.unit (s := S1x8x1024) ![0, 0, 512] S1x8x512.size inb_S1x8x1024_S1x8x512_0_0_512, b⟩,
      ⟨Rect.unit (s := S1x8x1024) ![0, 0, 0] S1x8x512.size inb_S1x8x1024_S1x8x512_0_0_0, a⟩] (ix3 0 s (hi n)) = b (ix3 0 s n) := by
  have e : (ix3 0 s (hi n) : S1x8x1024.Idx)
      = (Rect.unit (s := S1x8x1024) ![0, 0, 512] S1x8x512.size inb_S1x8x1024_S1x8x512_0_0_512).emb (ix3 0 s n : S1x8x512.Idx) :=
    funext fun q => Fin.ext (match q with
      | ⟨0, _⟩ => rfl
      | ⟨1, _⟩ => show s.val = 0 + 1 * s.val by omega
      | ⟨2, _⟩ => show 512 + n.val = 512 + 1 * n.val by omega)
  rw [e]
  exact View.canon_cons_emb (Val := Elt Ideal) (e := .f32) (Rect.unit (s := S1x8x1024) ![0, 0, 512] S1x8x512.size inb_S1x8x1024_S1x8x512_0_0_512) b _ (ix3 0 s n : S1x8x512.Idx)

/-- The product of 256 rows of `u` with `wb`. -/
theorem in_apply (w : Vec Ideal S256x128 .f32) (b : Vec Ideal S1x128x1024 .bf16) (a : Fin 256) (k : Fin 1024) :
    k0_pay3 (F := Ideal) w b (ix2 a k) = ∑ c : Fin 128, w (ix2 a c) * b (ix3 0 c k) := by
  pointwise [k0_pay3]

/-- The product of 256 rows of states with `wc`. -/
theorem out_apply (w : Vec Ideal S256x1024 .f32) (b : Vec Ideal S1x1024x128 .bf16) (a : Fin 256) (k : Fin 128) :
    k0_pay65 (F := Ideal) w b (ix2 a k) = ∑ c : Fin 1024, w (ix2 a c) * b (ix3 0 c k) := by
  pointwise [k0_pay65]

section
variable (c : Dev nD) (i : grid0.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x1024 .f32) (harg4 : arg4.IsWhole) (arg5 : Memref sig .tc .vmem S2048x128 .f32) (harg5 : arg5.IsWhole) (arg6 : Memref sig .tc .vmem S2048x1024 .f32) (harg6 : arg6.IsWhole) (arg7 : Memref sig .tc .vmem S1x8x1024 .f32) (harg7 : arg7.IsWhole)
  (x0 : Vec Ideal S2048x128 .f32) (x1 : Vec Ideal S1x128x1024 .bf16) (x2 : Vec Ideal S1x1024x128 .bf16) (x3 : Vec Ideal S1x8x1024 .f32)

/-- The inputs of all rows. -/
def inG : S2048x1024.Idx → EReal := fun y => ∑ c : Fin 128, x0 (ix2 (y 0) c) * x1 (ix3 0 c (y 1))

theorem in_piece (off : Fin 2 → ℕ) (o : ℕ) (ho : off = ![o, 0]) (inb : ∀ a : Fin 2, off a + S256x128.size a ≤ S2048x128.size a)
    (inb' : ∀ a : Fin 2, off a + S256x1024.size a ≤ S2048x1024.size a)
    (x : (Rect.unit (s := S2048x1024) off S256x1024.size inb').shape.Idx) :
    k0_pay3 (F := Ideal) (View.readAt (Elt Ideal) arg1.view (Rect.unit (s := S2048x128) off S256x128.size inb).toLoadRect (harg1.unread x0))
        (View.readAt (Elt Ideal) arg2.view (Rect.unit ![0, 0, 0] S1x128x1024.size inb_S1x128x1024_S1x128x1024_0_0_0).toLoadRect (harg2.unread x1)) x
      = inG x0 x1 ((Rect.unit (s := S2048x1024) off S256x1024.size inb').emb x) := by
  refine piece1024 (inG x0 x1) o ho inb' _ (fun a k r hr => ?_) x
  rw [in_apply, ld_whole3 harg2 x1 (by decide)]
  exact Finset.sum_congr rfl fun c _ => by rw [ld_rows128 harg1 x0 o ho inb a c r hr]; rfl

/-- They are what the states' block holds before the scan. -/
theorem input0 (r : Fin 2048) (k : Fin 1024) :
    View.canon (kernelRun0_A.sl.H5_8 (F := Ideal) c arg1 harg1 arg2 harg2 x0 x1) (ix2 r k) = inG x0 x1 (ix2 r k) := by
  refine View.canon_apply_of_pieces (inG x0 x1) _ ?_ _ (View.cover_of_tiledL (kernelRun0_A.sl.H5_8 (F := Ideal) c arg1 harg1 arg2 harg2 x0 x1) S256x1024.size (by sl_kernel_rfl) (ix2 r k))
  have key := in_piece arg1 harg1 arg2 harg2 x0 x1
  unfold kernelRun0_A.sl.H5_8
  simp only [List.forall_mem_cons]
  exact ⟨key _ _ rfl _ _, key _ _ rfl _ _, key _ _ rfl _ _, key _ _ rfl _ _, key _ _ rfl _ _, key _ _ rfl _ _, key _ _ rfl _ _,
    key _ _ rfl _ _, fun _ h => absurd h List.not_mem_nil⟩

variable (U B : ℕ → ℕ → ℝ) (L : ℕ → ℂ)

theorem inG_up (hU : ∀ (r : Fin 2048) (c : Fin 128), x0 (ix2 r c) = up (U r c))
    (hB : ∀ (c : Fin 128) (k : Fin 1024), x1 (ix3 0 c k) = up (B c k)) (r : Fin 2048) (k : Fin 1024) :
    inG x0 x1 (ix2 r k) = up (∑ c : Fin 128, U r c * B c k) :=
  sum_mul_up _ _ _ _ (fun c => hU r c) fun c => hB c k

theorem input_is (hU : ∀ (r : Fin 2048) (c : Fin 128), x0 (ix2 r c) = up (U r c))
    (hB : ∀ (c : Fin 128) (k : Fin 1024), x1 (ix3 0 c k) = up (B c k)) (r : Fin 2048) (n : Fin 512) :
    Is (View.canon (kernelRun0_A.sl.H5_8 (F := Ideal) c arg1 harg1 arg2 harg2 x0 x1) (ix2 r (lo n)))
      (View.canon (kernelRun0_A.sl.H5_8 (F := Ideal) c arg1 harg1 arg2 harg2 x0 x1) (ix2 r (hi n))) (drive U B r n) := by
  rw [input0, input0]
  exact ⟨inG_up x0 x1 U B hU hB r _, inG_up x0 x1 U B hU hB r _⟩

theorem lam_is (hL : ∀ n : Fin 512, Is (x3 (ix3 0 0 (lo n))) (x3 (ix3 0 0 (hi n))) (L n)) (s : Fin 8) (n : Fin 512) :
    Is (kernelRun0_A.sl.r_3 (F := Ideal) c arg4 harg4 x3 (ix2 s n)) (kernelRun0_A.sl.r_4 (F := Ideal) c arg4 harg4 x3 (ix2 s n)) (L n) := by
  unfold kernelRun0_A.sl.r_3 kernelRun0_A.sl.r_4
  rw [pay16_apply, pay17_apply]
  refine (hL n).congr ?_ ?_ rfl
  · exact ld_lam harg4 x3 0 rfl _ n (lo n) (Nat.zero_add _).symm
  · exact ld_lam harg4 x3 512 rfl _ n (hi n) rfl

/-- The ends of the segments run from zero. -/
theorem fin0 (hU : ∀ (r : Fin 2048) (c : Fin 128), x0 (ix2 r c) = up (U r c))
    (hB : ∀ (c : Fin 128) (k : Fin 1024), x1 (ix3 0 c k) = up (B c k))
    (hL : ∀ n : Fin 512, Is (x3 (ix3 0 0 (lo n))) (x3 (ix3 0 0 (hi n))) (L n)) (s : Fin 8) (n : Fin 512) :
    Is (kernelRun0_A.sl.r_5 (F := Ideal) c i arg1 harg1 arg2 harg2 arg3 harg3 arg4 harg4 arg5 harg5 arg6 harg6 arg7 harg7 x0 x1 x3 (ix2 s n))
      (kernelRun0_A.sl.r_6 (F := Ideal) c i arg1 harg1 arg2 harg2 arg3 harg3 arg4 harg4 arg5 harg5 arg6 harg6 arg7 harg7 x0 x1 x3 (ix2 s n)) (segFin (fun i => i) (L n) (fun r => drive U B r n) s) := by
  unfold kernelRun0_A.sl.r_5 kernelRun0_A.sl.r_6
  rw [show Scf.trips k0_t1_loop.lb k0_t1_loop.ub k0_t1_loop.st = 256 from trips_k0_t1]
  exact pass1 (fun r k => arg6.view.read (Elt Ideal) (arg6.view.writes (Elt Ideal) arg6.view.junk
      (kernelRun0_A.sl.H5_8 c arg1 harg1 arg2 harg2 x0 x1)) (ix2 r k)) _ _
    (st_k0_t1 (F := Ideal) Variants.none c none i arg1 harg1 arg2 harg2 arg3 harg3 arg4 harg4 arg5 harg5 arg6 harg6 arg7 harg7
      (kernelRun0_A.sl.r_2 c arg1 harg1 x0) _ _ _ (k0_pay18, k0_pay18)) (fun i => i) (fun _ h => h) L (drive U B) (fun _ _ => 0)
    (lam_is c arg4 harg4 x3 L hL)
    (fun r n => by rw [View.read_writes_junk_eq_canon]; exact input_is c arg1 harg1 arg2 harg2 x0 x1 U B hU hB r n)
    (fun s n => by
      rw [st_k0_t1_zero]
      exact Is.zero.congr (by pointwise [k0_pay18]) (by pointwise [k0_pay18]) rfl)
    (trip1_step Variants.none c none i arg1 harg1 arg2 harg2 arg3 harg3 arg4 harg4 arg5 harg5 arg6 harg6 arg7 harg7 _ _ _ _ _)
    256 le_rfl s n

/-- The segments' entry states. -/
theorem ent0 (hU : ∀ (r : Fin 2048) (c : Fin 128), x0 (ix2 r c) = up (U r c))
    (hB : ∀ (c : Fin 128) (k : Fin 1024), x1 (ix3 0 c k) = up (B c k))
    (hL : ∀ n : Fin 512, Is (x3 (ix3 0 0 (lo n))) (x3 (ix3 0 0 (hi n))) (L n))
    (s : Fin 8) (n : Fin 512) :
    Is (kernelRun0_A.sl.r_22 (F := Ideal) c i arg1 harg1 arg2 harg2 arg3 harg3 arg4 harg4 arg5 harg5 arg6 harg6 arg7 harg7 x0 x1 x3 (ix2 s n))
      (kernelRun0_A.sl.r_23 (F := Ideal) c i arg1 harg1 arg2 harg2 arg3 harg3 arg4 harg4 arg5 harg5 arg6 harg6 arg7 harg7 x0 x1 x3 (ix2 s n)) (segEnt (fun i => i) (L n) (fun r => drive U B r n) s) := by
  have hp : Is _ _ _ := (hL n).congr (ld_lam harg4 x3 0 rfl inb_S1x8x1024_S1x1x512_0_0_0 n (lo n) (Nat.zero_add _).symm)
    (ld_lam harg4 x3 512 rfl inb_S1x8x1024_S1x1x512_0_0_512 n (hi n) rfl) rfl
  unfold kernelRun0_A.sl.r_22 kernelRun0_A.sl.r_23 kernelRun0_A.sl.r_18 kernelRun0_A.sl.r_19 kernelRun0_A.sl.r_20 kernelRun0_A.sl.r_21
    kernelRun0_A.sl.r_17 kernelRun0_A.sl.r_16 kernelRun0_A.sl.r_15 kernelRun0_A.sl.r_14 kernelRun0_A.sl.r_13 kernelRun0_A.sl.r_12
    kernelRun0_A.sl.r_11 kernelRun0_A.sl.r_10 kernelRun0_A.sl.r_9 kernelRun0_A.sl.r_8 kernelRun0_A.sl.r_7 kernelRun0_A.sl.v60
  exact entry0 _ _ _ _ _ _ n (L n) _ (power0 _ _ n (L n) hp) (fun s => fin0 c i arg1 harg1 arg2 harg2 arg3 harg3 arg4 harg4 arg5 harg5 arg6 harg6 arg7 harg7 x0 x1 x3 U B L hU hB hL s n) s

/-- The states, in the list of all stores into their block. -/
theorem list0 (hU : ∀ (r : Fin 2048) (c : Fin 128), x0 (ix2 r c) = up (U r c))
    (hB : ∀ (c : Fin 128) (k : Fin 1024), x1 (ix3 0 c k) = up (B c k))
    (hL : ∀ n : Fin 512, Is (x3 (ix3 0 0 (lo n))) (x3 (ix3 0 0 (hi n))) (L n))
    (j : ℕ) (hj : j < 256) (s : Fin 8) (n : Fin 512) (r : Fin 2048) (hr : r.val = 8 * j + s.val) :
    Is (View.canon (kernelRun0_A (F := Ideal) c i arg1 harg1 arg2 harg2 arg3 harg3 arg4 harg4 arg5 harg5 arg6 harg6 arg7 harg7 x0 x1 x2 x3).2.1 (ix2 r (lo n)))
      (View.canon (kernelRun0_A (F := Ideal) c i arg1 harg1 arg2 harg2 arg3 harg3 arg4 harg4 arg5 harg5 arg6 harg6 arg7 harg7 x0 x1 x2 x3).2.1 (ix2 r (hi n)))
      (segAt (fun i => i) (L n) (fun r => drive U B r n) s (j + 1)) := by
  unfold kernelRun0_A
  dsimp only
  rw [show Scf.trips (0#32) (Scalar.addi 0#32 256#32) 1#32 = 256 from trips_k0_t2]
  have h := (pass2 arg6.view (arg6.view.writes (Elt Ideal) arg6.view.junk (kernelRun0_A.sl.H5_8 c arg1 harg1 arg2 harg2 x0 x1))
    (kernelRun0_A.sl.r_3 (F := Ideal) c arg4 harg4 x3) (kernelRun0_A.sl.r_4 (F := Ideal) c arg4 harg4 x3)
    (st_k0_t2 (F := Ideal) Variants.none c none i arg1 harg1 arg2 harg2 arg3 harg3 arg4 harg4 arg5 harg5 arg6 harg6 arg7 harg7
      (kernelRun0_A.sl.r_3 c arg4 harg4 x3) (kernelRun0_A.sl.r_4 c arg4 harg4 x3)
      (kernelRun0_A.sl.r_22 c i arg1 harg1 arg2 harg2 arg3 harg3 arg4 harg4 arg5 harg5 arg6 harg6 arg7 harg7 x0 x1 x3) (kernelRun0_A.sl.r_23 c i arg1 harg1 arg2 harg2 arg3 harg3 arg4 harg4 arg5 harg5 arg6 harg6 arg7 harg7 x0 x1 x3) (0#32) (256#32)
      (arg6.view.writes (Elt Ideal) arg6.view.junk (kernelRun0_A.sl.H5_8 c arg1 harg1 arg2 harg2 x0 x1))
      (kernelRun0_A.sl.r_22 c i arg1 harg1 arg2 harg2 arg3 harg3 arg4 harg4 arg5 harg5 arg6 harg6 arg7 harg7 x0 x1 x3, kernelRun0_A.sl.r_23 c i arg1 harg1 arg2 harg2 arg3 harg3 arg4 harg4 arg5 harg5 arg6 harg6 arg7 harg7 x0 x1 x3))
    (fun i => i) (fun _ h => h) (fun _ _ _ _ h => h) L (drive U B) (fun s n => segEnt (fun i => i) (L n) (fun r => drive U B r n) s)
    (lam_is c arg4 harg4 x3 L hL)
    (fun r n => by rw [View.read_writes_junk_eq_canon]; exact input_is c arg1 harg1 arg2 harg2 x0 x1 U B hU hB r n)
    (fun s n => ent0 c i arg1 harg1 arg2 harg2 arg3 harg3 arg4 harg4 arg5 harg5 arg6 harg6 arg7 harg7 x0 x1 x3 U B L hU hB hL s n) rfl
    (trip2_step Variants.none c none i arg1 harg1 arg2 harg2 arg3 harg3 arg4 harg4 arg5 harg5 arg6 harg6 arg7 harg7 _ _ _ _ _ _ _ _) 256 le_rfl).2 j hj s n r hr
  rw [if_pos hj, ← View.writes_append, View.read_writes_junk_eq_canon] at h
  exact h

/-- The block of states, state by state: row `8 j + s` holds what segment `s` reaches after `j + 1` steps. -/
theorem states0 (hU : ∀ (r : Fin 2048) (c : Fin 128), x0 (ix2 r c) = up (U r c))
    (hB : ∀ (c : Fin 128) (k : Fin 1024), x1 (ix3 0 c k) = up (B c k))
    (hL : ∀ n : Fin 512, Is (x3 (ix3 0 0 (lo n))) (x3 (ix3 0 0 (hi n))) (L n))
    (r : Fin 2048) (n : Fin 512) :
    Is (out0_A_5 (F := Ideal) c i arg1 harg1 arg2 harg2 arg3 harg3 arg4 harg4 arg5 harg5 arg6 harg6 arg7 harg7 x0 x1 x2 x3 (ix2 r (lo n)))
      (out0_A_5 (F := Ideal) c i arg1 harg1 arg2 harg2 arg3 harg3 arg4 harg4 arg5 harg5 arg6 harg6 arg7 harg7 x0 x1 x2 x3 (ix2 r (hi n)))
      (segAt (fun i => i) (L n) (fun r => drive U B r n) (r.val % 8) (r.val / 8 + 1)) := by
  unfold out0_A_5
  rw [View.read_writes_junk_eq_canon]
  exact list0 c i arg1 harg1 arg2 harg2 arg3 harg3 arg4 harg4 arg5 harg5 arg6 harg6 arg7 harg7 x0 x1 x2 x3 U B L hU hB hL (r.val / 8) (by omega) ⟨r.val % 8, by omega⟩ n r (by show r.val = 8 * (r.val / 8) + r.val % 8; omega)

/-- The block of entry states. -/
theorem entry0_out (hU : ∀ (r : Fin 2048) (c : Fin 128), x0 (ix2 r c) = up (U r c))
    (hB : ∀ (c : Fin 128) (k : Fin 1024), x1 (ix3 0 c k) = up (B c k))
    (hL : ∀ n : Fin 512, Is (x3 (ix3 0 0 (lo n))) (x3 (ix3 0 0 (hi n))) (L n))
    (s : Fin 8) (n : Fin 512) :
    Is (out0_A_6 (F := Ideal) c i arg1 harg1 arg2 harg2 arg3 harg3 arg4 harg4 arg5 harg5 arg6 harg6 arg7 harg7 x0 x1 x2 x3 (ix3 0 s (lo n)))
      (out0_A_6 (F := Ideal) c i arg1 harg1 arg2 harg2 arg3 harg3 arg4 harg4 arg5 harg5 arg6 harg6 arg7 harg7 x0 x1 x2 x3 (ix3 0 s (hi n)))
      (segEnt (fun i => i) (L n) (fun r => drive U B r n) s) := by
  unfold out0_A_6
  rw [View.read_writes_junk_eq_canon]
  refine (ent0 c i arg1 harg1 arg2 harg2 arg3 harg3 arg4 harg4 arg5 harg5 arg6 harg6 arg7 harg7 x0 x1 x3 U B L hU hB hL s n).congr ?_ ?_ rfl
  · refine (ent_lo _ _ s n).trans ?_
    pointwise [k0_pay63]
  · refine (ent_hi _ _ s n).trans ?_
    pointwise [k0_pay64]

/-- The rows of `y`, from the block of states. -/
def outG (S : S2048x1024.Idx → EReal) (w : Vec Ideal S1x1024x128 .bf16) : S2048x128.Idx → EReal :=
  fun y => ∑ k : Fin 1024, S (ix2 (y 0) k) * w (ix3 0 k (y 1))

theorem out_piece (S : List (View.Piece (Elt Ideal) S2048x1024 .f32)) (off : Fin 2 → ℕ) (o : ℕ) (ho : off = ![o, 0])
    (inb : ∀ a : Fin 2, off a + S256x1024.size a ≤ S2048x1024.size a) (inb' : ∀ a : Fin 2, off a + S256x128.size a ≤ S2048x128.size a)
    (x : (Rect.unit (s := S2048x128) off S256x128.size inb').shape.Idx) :
    k0_pay65 (F := Ideal) (arg6.view.readCov S (Rect.unit (s := S2048x1024) off S256x1024.size inb).toLoadRect)
        (View.readAt (Elt Ideal) arg3.view (Rect.unit ![0, 0, 0] S1x1024x128.size inb_S1x1024x128_S1x1024x128_0_0_0).toLoadRect (harg3.unread x2)) x
      = outG (View.canon S) x2 ((Rect.unit (s := S2048x128) off S256x128.size inb').emb x) := by
  refine piece128 (outG (View.canon S) x2) o ho inb' _ (fun a k r hr => ?_) x
  rw [out_apply, ld_whole3 harg3 x2 (by decide)]
  refine Finset.sum_congr rfl fun q _ => ?_
  rw [View.readCov_eq_canon']
  refine congrArg (· * _) (congrArg (View.canon S) (funext fun p => Fin.ext ?_))
  subst ho
  match p with
  | ⟨0, _⟩ => show o + 1 * a.val = r.val; omega
  | ⟨1, _⟩ => show 0 + 1 * q.val = q.val; omega

/-- The block of `y`: the product of the block of states with `wc`. -/
theorem y0 (y : S2048x128.Idx) :
    out0_A_4 (F := Ideal) c i arg1 harg1 arg2 harg2 arg3 harg3 arg4 harg4 arg5 harg5 arg6 harg6 arg7 harg7 x0 x1 x2 x3 y
      = outG (out0_A_5 (F := Ideal) c i arg1 harg1 arg2 harg2 arg3 harg3 arg4 harg4 arg5 harg5 arg6 harg6 arg7 harg7 x0 x1 x2 x3) x2 y := by
  unfold out0_A_4 out0_A_5
  rw [View.read_writes_junk_eq_canon, View.read_writes_junk_eq_canon]
  refine View.canon_apply_of_pieces _ _ ?_ y (cover0_A_4 c i arg1 harg1 arg2 harg2 arg3 harg3 arg4 harg4 arg5 harg5 arg6 harg6 arg7 harg7 x0 x1 x2 x3 y)
  have key := out_piece arg3 harg3 arg6 x2 (kernelRun0_A (F := Ideal) c i arg1 harg1 arg2 harg2 arg3 harg3 arg4 harg4 arg5 harg5 arg6 harg6 arg7 harg7 x0 x1 x2 x3).2.1
  unfold kernelRun0_A at key ⊢
  dsimp only at key ⊢
  simp only [List.forall_mem_cons]
  exact ⟨key _ _ rfl _ _, key _ _ rfl _ _, key _ _ rfl _ _, key _ _ rfl _ _, key _ _ rfl _ _, key _ _ rfl _ _, key _ _ rfl _ _,
    key _ _ rfl _ _, fun _ h => absurd h List.not_mem_nil⟩

end

end Cert.S5

end
-- ==== Proof.KEntry1.lean ====
/-
  The backward kernel's chain from the segments' ends to the segments' entry states, last segment first.

  The factor is the conjugate of `λ`: the kernel hands the scan the negated imaginary part.
-/
module

public import proofs.«01_k».proof.Proof.KEntry0

@[expose] public section

set_option maxRecDepth 16384

noncomputable section

namespace Cert.S5

open Cert.KernelIdeal Cert.KernelIdeal.Gen Idealize.ShloMosaic Idealize.ShloMosaic.TcCoe Idealize.ShloMosaic.Tactic

section
variable (v1 v3 : Vec Ideal S1x512 .f32) (n : Fin 512) (l : ℂ)

/-- The eighth power of the conjugate factor. -/
theorem power1a (h : Is (v1 (ix2 0 n)) (v3 (ix2 0 n)) l) :
    Is (k1_pay47 (F := Ideal) v1 v3 (ix2 0 n)) (k1_pay48 (F := Ideal) v1 v3 (ix2 0 n)) ((starRingEnd ℂ) l ^ 8) := by
  have h1 : Is (v1 (ix2 0 n)) (k1_pay37 (F := Ideal) v3 (ix2 0 n)) ((starRingEnd ℂ) l) :=
    h.conjugate.congr rfl (by pointwise [k1_pay37]; exact zero_sub _) rfl
  have h2 : Is (k1_pay43 (F := Ideal) v1 v3 (ix2 0 n)) (k1_pay44 (F := Ideal) v1 v3 (ix2 0 n)) _ :=
    h1.sq.congr (by pointwise [k1_pay43]) (by pointwise [k1_pay44]) rfl
  have h4 : Is (k1_pay45 (F := Ideal) v1 v3 (ix2 0 n)) (k1_pay46 (F := Ideal) v1 v3 (ix2 0 n)) _ :=
    h2.sq.congr (by pointwise [k1_pay45]) (by pointwise [k1_pay46]) rfl
  exact h4.sq.congr (by pointwise [k1_pay47]) (by pointwise [k1_pay48]) (by ring)

end

section
variable (v180 v183 : Vec Ideal S1x512 .f32) (n : Fin 512) (l : ℂ)

/-- The power that carries a state over a whole segment. -/
theorem power1b (h : Is (v180 (ix2 0 n)) (v183 (ix2 0 n)) (l ^ 8)) :
    Is (k1_pay57 (F := Ideal) v180 v183 (ix2 0 n)) (k1_pay58 (F := Ideal) v180 v183 (ix2 0 n)) (l ^ 256) := by
  have h16 : Is (k1_pay49 (F := Ideal) v180 v183 (ix2 0 n)) (k1_pay50 (F := Ideal) v180 v183 (ix2 0 n)) _ :=
    h.sq.congr (by pointwise [k1_pay49]) (by pointwise [k1_pay50]) rfl
  have h32 : Is (k1_pay51 (F := Ideal) v180 v183 (ix2 0 n)) (k1_pay52 (F := Ideal) v180 v183 (ix2 0 n)) _ :=
    h16.sq.congr (by pointwise [k1_pay51]) (by pointwise [k1_pay52]) rfl
  have h64 : Is (k1_pay53 (F := Ideal) v180 v183 (ix2 0 n)) (k1_pay54 (F := Ideal) v180 v183 (ix2 0 n)) _ :=
    h32.sq.congr (by pointwise [k1_pay53]) (by pointwise [k1_pay54]) rfl
  have h128 : Is (k1_pay55 (F := Ideal) v180 v183 (ix2 0 n)) (k1_pay56 (F := Ideal) v180 v183 (ix2 0 n)) _ :=
    h64.sq.congr (by pointwise [k1_pay55]) (by pointwise [k1_pay56]) rfl
  exact h128.sq.congr (by pointwise [k1_pay57]) (by pointwise [k1_pay58]) (by ring)

variable (f0 f1 : Part) (F : ℕ → ℂ)

/-- The entry states of the eight segments, from the power and the segments' ends. -/
theorem entry1
    (hp : Is (k1_pay57 (F := Ideal) v180 v183 (ix2 0 n)) (k1_pay58 (F := Ideal) v180 v183 (ix2 0 n)) (l ^ 256))
    (hf : ∀ s : Fin 8, Is (f0 (ix2 s n)) (f1 (ix2 s n)) (F s)) (s : Fin 8) :
    Is (k1_pay86 (F := Ideal) (k1_pay81 (F := Ideal) (iota Kind.tc S8x512 32 [0] iota_S8x512_d0_w32) f0 f1 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay74 (F := Ideal) (iota Kind.tc S8x512 32 [0] iota_S8x512_d0_w32) f0 f1 (k1_pay57 (F := Ideal) v180 v183) (k1_pay58 (F := Ideal) v180 v183) (k1_pay61 (F := Ideal) f0 v180 v183) (k1_pay63 (F := Ideal) (iota Kind.tc S8x512 32 [0] iota_S8x512_d0_w32) (k1_pay40 (F := Ideal)) f0 v180 v183) (k1_pay65 (F := Ideal) f0 f1 v180 v183) (k1_pay66 (F := Ideal) f1 v180 v183))) (k1_pay84 (iota Kind.tc S8x512 32 [0] iota_S8x512_d0_w32)) (k1_pay85 (F := Ideal) f0 f1 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183))) (ix2 s n))
      (k1_pay87 (F := Ideal) (iota Kind.tc S8x512 32 [0] iota_S8x512_d0_w32) (k1_pay82 (F := Ideal) (iota Kind.tc S8x512 32 [0] iota_S8x512_d0_w32) f0 f1 (k1_pay57 (F := Ideal) v180 v183) (k1_pay58 (F := Ideal) v180 v183) (k1_pay71 (F := Ideal) (iota Kind.tc S8x512 32 [0] iota_S8x512_d0_w32) f0 f1 (k1_pay57 (F := Ideal) v180 v183) (k1_pay58 (F := Ideal) v180 v183) (k1_pay61 (F := Ideal) f0 v180 v183) (k1_pay64 (F := Ideal) (iota Kind.tc S8x512 32 [0] iota_S8x512_d0_w32) (k1_pay40 (F := Ideal)) f1 v180 v183) (k1_pay65 (F := Ideal) f0 f1 v180 v183) (k1_pay66 (F := Ideal) f1 v180 v183)) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay75 (iota Kind.tc S8x512 32 [0] iota_S8x512_d0_w32)) (k1_pay76 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183))) (k1_pay83 (F := Ideal) f0 f1 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183))) (ix2 s n))
      (entryOf l 256 (fun q => F (7 - q)) (7 - s)) := by
  have e1 : Is ((k1_pay61 (F := Ideal) f0 v180 v183) (ix2 0 n)) (k1_pay62 (F := Ideal) f1 v180 v183 (ix2 0 n)) (entryOf l 256 (fun q => F (7 - q)) 1) :=
    (hp.step Is.zero (hf 7)).congr (by pointwise [k1_pay61, k1_pay59, k1_pay60]) (by pointwise [k1_pay62, k1_pay59, k1_pay60]) rfl
  have e2 : Is (k1_pay67 (F := Ideal) f0 (k1_pay65 (F := Ideal) f0 f1 v180 v183) (ix2 0 n)) (k1_pay68 (F := Ideal) f1 (k1_pay58 (F := Ideal) v180 v183) (k1_pay61 (F := Ideal) f0 v180 v183) (k1_pay66 (F := Ideal) f1 v180 v183) (ix2 0 n)) (entryOf l 256 (fun q => F (7 - q)) 2) :=
    (hp.step e1 (hf 6)).congr (by pointwise [k1_pay67, k1_pay65]) (by pointwise [k1_pay68, k1_pay66]) rfl
  have e3 : Is (k1_pay69 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183) (ix2 0 n)) (k1_pay70 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183) (ix2 0 n)) (entryOf l 256 (fun q => F (7 - q)) 3) :=
    (hp.step e2 (hf 5)).congr (by pointwise [k1_pay69]) (by pointwise [k1_pay70]) rfl
  have e4 : Is ((k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (ix2 0 n)) ((k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (ix2 0 n)) (entryOf l 256 (fun q => F (7 - q)) 4) :=
    (hp.step e3 (hf 4)).congr (by pointwise [k1_pay72]) (by pointwise [k1_pay73]) rfl
  have e5 : Is (k1_pay77 (F := Ideal) f0 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (ix2 0 n)) (k1_pay78 (F := Ideal) f1 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (ix2 0 n)) (entryOf l 256 (fun q => F (7 - q)) 5) :=
    (hp.step e4 (hf 3)).congr (by pointwise [k1_pay77]) (by pointwise [k1_pay78]) rfl
  have e6 : Is (k1_pay79 (F := Ideal) f0 f1 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (ix2 0 n)) (k1_pay80 (F := Ideal) f0 f1 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (ix2 0 n)) (entryOf l 256 (fun q => F (7 - q)) 6) :=
    (hp.step e5 (hf 2)).congr (by pointwise [k1_pay79]) (by pointwise [k1_pay80]) rfl
  have e7 : Is _ ((k1_pay83 (F := Ideal) f0 f1 (k1_pay57 (F := Ideal) v180 v183) (k1_pay58 (F := Ideal) v180 v183) (k1_pay72 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183)) (k1_pay73 (F := Ideal) f0 f1 (k1_pay57 (F := Ideal) v180 v183) (k1_pay58 (F := Ideal) v180 v183) (k1_pay61 (F := Ideal) f0 v180 v183) (k1_pay65 (F := Ideal) f0 f1 v180 v183) (k1_pay66 (F := Ideal) f1 v180 v183))) (ix2 0 n)) (entryOf l 256 (fun q => F (7 - q)) 7) :=
    (hp.step e6 (hf 1)).congr rfl (by pointwise [k1_pay83]) rfl
  fin_vals s with hs
  · refine e7.congr ?_ ?_ (by rw [hs])
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl
  · refine e6.congr ?_ ?_ (by rw [hs])
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl
  · refine e5.congr ?_ ?_ (by rw [hs])
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl
  · refine e4.congr ?_ ?_ (by rw [hs])
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl
  · refine e3.congr ?_ ?_ (by rw [hs])
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl
  · refine e2.congr ?_ ?_ (by rw [hs])
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl
  · refine e1.congr ?_ ?_ (by rw [hs])
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl
  · refine Is.zero.congr ?_ ?_ (by rw [hs]; rfl)
    · pointwise [k1_pay86, k1_pay81, k1_pay84, k1_pay74, k1_pay63, k1_pay40, k1_pay85]; simp (disch := omega) only [sel_row]; rw [hs]; rfl
    · pointwise [k1_pay87, k1_pay82, k1_pay75, k1_pay76, k1_pay71, k1_pay64, k1_pay40]; simp (disch := omega) only [sel_row]; rw [hs]; rfl

end

end Cert.S5

end
-- ==== Proof.KTrip1.lean ====
/-
  The backward kernel's three loops, one trip at a time.

  The first two are the segmented scan again, in the opposite order of rows and with the conjugate factor; the third
  multiplies every adjoint state with the conjugate of the state before it.
-/
module

public import proofs.«01_k».proof.Proof.KTrip0

@[expose] public section

set_option maxRecDepth 16384

noncomputable section

namespace Cert.S5

open Cert.KernelIdeal Cert.KernelIdeal.Gen Idealize.ShloMosaic Idealize.ShloMosaic.TcCoe Idealize.ShloMosaic.Tactic

theorem trips_k1_t1 : k1_t1_loop.trips = 256 := by decide +kernel
theorem trips_k1_t2 : k1_t2_loop.trips = 256 := by decide +kernel
theorem trips_k1_t3 : k1_t3_loop.trips = 256 := by decide +kernel
theorem boff1_eq : ∀ k : Fin k1_t1_loop.trips, k1_off1 k = ![8 * (255 - k.val), 0] := by decide +kernel
theorem boff2_eq : ∀ k : Fin k1_t1_loop.trips, k1_off2 k = ![8 * (255 - k.val), 512] := by decide +kernel
theorem boff3_eq : ∀ k : Fin k1_t2_loop.trips, k1_off3 k = ![8 * (255 - k.val), 0] := by decide +kernel
theorem boff4_eq : ∀ k : Fin k1_t2_loop.trips, k1_off4 k = ![8 * (255 - k.val), 512] := by decide +kernel
theorem boff5_eq : ∀ k : Fin k1_t3_loop.trips, k1_off5 k = ![8 * k.val, 0] := by decide +kernel
theorem boff6_eq : ∀ k : Fin k1_t3_loop.trips, k1_off6 k = ![8 * k.val, 512] := by decide +kernel

theorem bpay41_apply (v1 v3 : Vec Ideal S1x512 .f32) (a b x : Part) (s : Fin 8) (n : Fin 512) :
    k1_pay41 v1 v3 a b x (ix2 s n)
      = stepRe (k1_pay38 (F := Ideal) v1 (ix2 s n)) (k1_pay39 (F := Ideal) v3 (ix2 s n)) (a (ix2 s n)) (b (ix2 s n)) (x (ix2 s n)) := by
  pointwise [k1_pay41, stepRe]

theorem bpay42_apply (v1 v3 : Vec Ideal S1x512 .f32) (a b x : Part) (s : Fin 8) (n : Fin 512) :
    k1_pay42 v1 v3 a b x (ix2 s n)
      = stepIm (k1_pay38 (F := Ideal) v1 (ix2 s n)) (k1_pay39 (F := Ideal) v3 (ix2 s n)) (a (ix2 s n)) (b (ix2 s n)) (x (ix2 s n)) := by
  pointwise [k1_pay42, stepIm]

theorem bpay90_apply (l m a b x : Part) (s : Fin 8) (n : Fin 512) :
    k1_pay88 l m a b x (ix2 s n) = stepRe (l (ix2 s n)) (m (ix2 s n)) (a (ix2 s n)) (b (ix2 s n)) (x (ix2 s n)) := by
  pointwise [k1_pay88, stepRe]

theorem bpay91_apply (l m a b x : Part) (s : Fin 8) (n : Fin 512) :
    k1_pay89 l m a b x (ix2 s n) = stepIm (l (ix2 s n)) (m (ix2 s n)) (a (ix2 s n)) (b (ix2 s n)) (x (ix2 s n)) := by
  pointwise [k1_pay89, stepIm]

theorem bpay90_eq (l m a b x : Part) : k1_pay90 (F := Ideal) l m a b x = k1_pay88 l m a b x := by
  unfold k1_pay90; exact shapeCast_self _ _

theorem bpay91_eq (l m a b x : Part) : k1_pay91 (F := Ideal) l m a b x = k1_pay89 l m a b x := by
  unfold k1_pay91; exact shapeCast_self _ _

theorem bpay38_apply (v : Vec Ideal S1x512 .f32) (s : Fin 8) (n : Fin 512) : k1_pay38 (F := Ideal) v (ix2 s n) = v (ix2 0 n) := by
  pointwise [k1_pay38]

theorem bpay39_apply (v : Vec Ideal S1x512 .f32) (s : Fin 8) (n : Fin 512) : k1_pay39 (F := Ideal) v (ix2 s n) = 0 - v (ix2 0 n) := by
  pointwise [k1_pay39, k1_pay37]

theorem bpay93_apply (acc p q a b : Part) (s : Fin 8) (n : Fin 512) :
    k1_pay93 acc p q a b (ix2 s n) = acc (ix2 s n) + a (ix2 s n) * p (ix2 s n) + b (ix2 s n) * q (ix2 s n) := by
  pointwise [k1_pay93]

theorem bpay94_apply (acc p q a b : Part) (s : Fin 8) (n : Fin 512) :
    k1_pay94 acc p q a b (ix2 s n) = acc (ix2 s n) + b (ix2 s n) * p (ix2 s n) - a (ix2 s n) * q (ix2 s n) := by
  pointwise [k1_pay94]

/-- Adding `a` times the conjugate of `x`, as the third loop does. -/
theorem Is.conj_step {c d a b x y : EReal} {z w v : ℂ} (hz : Is c d z) (hw : Is a b w) (hv : Is x y v) :
    Is (c + a * x + b * y) (d + b * x - a * y) (z + w * (starRingEnd ℂ) v) := by
  obtain ⟨rfl, rfl⟩ := hz
  obtain ⟨rfl, rfl⟩ := hw
  obtain ⟨rfl, rfl⟩ := hv
  constructor
  · rw [Complex.add_re, Complex.mul_re, Complex.conj_re, Complex.conj_im, mul_neg, sub_neg_eq_add, ← add_assoc]
    push_cast [up]; rfl
  · rw [Complex.add_im, Complex.mul_im, Complex.conj_re, Complex.conj_im, mul_neg,
      show w.re * v.im = w.re * v.im from rfl, show z.im + (-(w.re * v.im) + w.im * v.re) = z.im + w.im * v.re - w.re * v.im by ring]
    push_cast [up]; rfl

section
variable (𝒱 : Variants) (c : Dev nD) (bd : Option 𝒱.V) (i : grid1.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x1024 .f32) (harg4 : arg4.IsWhole) (arg5 : Memref sig .tc .vmem S2048x128 .bf16) (harg5 : arg5.IsWhole) (arg6 : Memref sig .tc .vmem S2048x1024 .f32) (harg6 : arg6.IsWhole) (arg7 : Memref sig .tc .vmem S1x8x1024 .f32) (harg7 : arg7.IsWhole) (arg8 : Memref sig .tc .vmem S2048x128 .f32) (harg8 : arg8.IsWhole) (arg9 : Memref sig .tc .vmem S1x128x1024 .f32) (harg9 : arg9.IsWhole) (arg10 : Memref sig .tc .vmem S1x1024x128 .f32) (harg10 : arg10.IsWhole) (arg11 : Memref sig .tc .vmem S1x8x1024 .f32) (harg11 : arg11.IsWhole) (arg12 : Memref sig .tc .vmem S2048x1024 .f32) (harg12 : arg12.IsWhole)

/-- A trip of the first loop. -/
theorem btrip1_step (v1 v3 : Vec Ideal S1x512 .f32) (v139 : FVec Ideal S256x128 .bf16) (v141 : FVec Ideal S1024x128 .f32)
    (X : BufTy.Contents (Elt Ideal) arg12.view.ty) (init : Part × Part) :
    ∀ k < 256, ∀ (s : Fin 8) (n : Fin 512) (r : Fin 2048), r.val = 8 * (255 - k) + s.val →
      (st_k1_t1 (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init (k + 1)).1 (ix2 s n)
        = stepRe (k1_pay38 (F := Ideal) v1 (ix2 s n)) (k1_pay39 (F := Ideal) v3 (ix2 s n))
          ((st_k1_t1 (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init k).1 (ix2 s n))
          ((st_k1_t1 (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init k).2 (ix2 s n))
          (arg12.view.read (Elt Ideal) X (ix2 r (lo n)))
      ∧ (st_k1_t1 (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init (k + 1)).2 (ix2 s n)
        = stepIm (k1_pay38 (F := Ideal) v1 (ix2 s n)) (k1_pay39 (F := Ideal) v3 (ix2 s n))
          ((st_k1_t1 (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init k).1 (ix2 s n))
          ((st_k1_t1 (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init k).2 (ix2 s n))
          (arg12.view.read (Elt Ideal) X (ix2 r (hi n))) := by
  intro k hk s n r hr
  have h := st_k1_t1_succ (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init ⟨k, by rw [trips_k1_t1]; exact hk⟩
  dsimp only at h
  rw [h]
  generalize st_k1_t1 (F := Ideal) 𝒱 c bd i arg1 harg1 arg2 harg2 arg3 harg3 arg4 harg4 arg5 harg5 arg6 harg6 arg7 harg7 arg8 harg8 arg9 harg9 arg10 harg10 arg11 harg11 arg12 harg12 v1 v3 v139 v141 X init k = acc
  unfold tripR_k1_t1 trip_k1_t1
  dsimp only
  rw [bpay41_apply, bpay42_apply]
  constructor
  · exact congrArg _ (load_half arg12.view X (8 * (255 - k)) 0 (boff1_eq _) _ s n r (lo n) hr (Nat.zero_add _).symm)
  · exact congrArg _ (load_half arg12.view X (8 * (255 - k)) 512 (boff2_eq _) _ s n r (hi n) hr rfl)

/-- A trip of the second loop. -/
theorem btrip2_step (v5 v7 : Part) (v158 : IVec S8x512 32) (v160 v162 v330 v335 : Part) (v345 : FVec Ideal S1x512 .f32) (v347 : IVec S8x512 1)
    (v348 : FVec Ideal S1x512 .f32) (G : BufTy.Contents (Elt Ideal) arg12.view.ty) (init : Part × Part) :
    ∀ k < 256, Step2 arg12.view G v160 v162 (8 * (255 - k))
      (st_k1_t2 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 G init k)
      (st_k1_t2 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 G init (k + 1)) := by
  intro k hk
  have h := st_k1_t2_succ (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 G init ⟨k, by rw [trips_k1_t2]; exact hk⟩
  dsimp only at h
  rw [h]
  generalize st_k1_t2 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 G init k = st
  unfold tripR_k1_t2 tripL_k1_t2 trip_k1_t2
  dsimp only
  rw [bpay90_eq, bpay91_eq]
  refine ⟨_, _, _, _, _, _, boff3_eq _, boff4_eq _, rfl, fun s n r hr => ?_⟩
  rw [bpay90_apply, bpay91_apply]
  constructor
  · exact congrArg _ (load_half arg12.view _ (8 * (255 - k)) 0 (boff3_eq _) _ s n r (lo n) hr (Nat.zero_add _).symm)
  · exact congrArg _ (load_half arg12.view _ (8 * (255 - k)) 512 (boff4_eq _) _ s n r (hi n) hr rfl)

/-- The state before step `k` of a segment that starts in `e` and whose rows hold `x`. -/
def before (e : ℂ) (x : ℕ → ℂ) (s : ℕ) : ℕ → ℂ
  | 0 => e
  | k + 1 => x (8 * k + s)

/-- The third loop: the sum, over the steps of a segment, of the adjoint state times the conjugate of the state before,
and that state. -/
theorem btrip3 (v5 v7 : Part) (v158 : IVec S8x512 32) (v160 v162 v330 v335 : Part) (v345 : FVec Ideal S1x512 .f32) (v347 : IVec S8x512 1)
    (v348 : FVec Ideal S1x512 .f32) (X6 : BufTy.Contents (Elt Ideal) arg6.view.ty) (X12 : BufTy.Contents (Elt Ideal) arg12.view.ty)
    (A X E : ℕ → ℕ → ℂ)
    (hA : ∀ (r : Fin 2048) (n : Fin 512), Is (arg12.view.read (Elt Ideal) X12 (ix2 r (lo n))) (arg12.view.read (Elt Ideal) X12 (ix2 r (hi n))) (A r n))
    (hX : ∀ (r : Fin 2048) (n : Fin 512), Is (arg6.view.read (Elt Ideal) X6 (ix2 r (lo n))) (arg6.view.read (Elt Ideal) X6 (ix2 r (hi n))) (X r n))
    (hE : ∀ (s : Fin 8) (n : Fin 512), Is (v5 (ix2 s n)) (v7 (ix2 s n)) (E s n)) :
    ∀ k ≤ 256, ∀ (s : Fin 8) (n : Fin 512),
      Is ((st_k1_t3 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 X6 X12 (k1_pay92 (F := Ideal), k1_pay92 (F := Ideal), v5, v7) k).1 (ix2 s n))
        ((st_k1_t3 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 X6 X12 (k1_pay92 (F := Ideal), k1_pay92 (F := Ideal), v5, v7) k).2.1 (ix2 s n))
        (∑ j ∈ Finset.range k, A (8 * j + s) n * (starRingEnd ℂ) (before (E s n) (fun r => X r n) s j))
      ∧ Is ((st_k1_t3 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 X6 X12 (k1_pay92 (F := Ideal), k1_pay92 (F := Ideal), v5, v7) k).2.2.1 (ix2 s n))
        ((st_k1_t3 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 X6 X12 (k1_pay92 (F := Ideal), k1_pay92 (F := Ideal), v5, v7) k).2.2.2 (ix2 s n))
        (before (E s n) (fun r => X r n) s k)
  | 0, _, s, n => by
    rw [st_k1_t3_zero]
    refine ⟨?_, hE s n⟩
    rw [Finset.sum_range_zero]
    exact Is.zero.congr (by pointwise [k1_pay92]) (by pointwise [k1_pay92]) rfl
  | k + 1, hk, s, n => by
    obtain ⟨ih1, ih2⟩ := btrip3 v5 v7 v158 v160 v162 v330 v335 v345 v347 v348 X6 X12 A X E hA hX hE k (by omega) s n
    have h := st_k1_t3_succ (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 X6 X12 (k1_pay92 (F := Ideal), k1_pay92 (F := Ideal), v5, v7) ⟨k, by rw [trips_k1_t3]; exact hk⟩
    dsimp only at h
    rw [h]
    generalize st_k1_t3 (F := Ideal) 𝒱 c bd i arg1 harg1 arg2 harg2 arg3 harg3 arg4 harg4 arg5 harg5 arg6 harg6 arg7 harg7 arg8 harg8 arg9 harg9 arg10 harg10 arg11 harg11 arg12 harg12 v5 v7 v158 v160 v162 v330 v335 v345 v347 v348 X6 X12 (k1_pay92 (F := Ideal), k1_pay92 (F := Ideal), v5, v7) k = acc at ih1 ih2 ⊢
    unfold tripR_k1_t3 trip_k1_t3
    dsimp only
    have hr : 8 * k + s.val < 2048 := by omega
    have e1 := load_half arg12.view X12 (8 * k) 0 (boff5_eq ⟨k, by rw [trips_k1_t3]; exact hk⟩) (k1_off5_inb _) s n ⟨8 * k + s.val, hr⟩ (lo n) rfl (Nat.zero_add _).symm
    have e2 := load_half arg12.view X12 (8 * k) 512 (boff6_eq ⟨k, by rw [trips_k1_t3]; exact hk⟩) (k1_off6_inb _) s n ⟨8 * k + s.val, hr⟩ (hi n) rfl rfl
    have e3 := load_half arg6.view X6 (8 * k) 0 (boff5_eq ⟨k, by rw [trips_k1_t3]; exact hk⟩) (k1_off5_inb _) s n ⟨8 * k + s.val, hr⟩ (lo n) rfl (Nat.zero_add _).symm
    have e4 := load_half arg6.view X6 (8 * k) 512 (boff6_eq ⟨k, by rw [trips_k1_t3]; exact hk⟩) (k1_off6_inb _) s n ⟨8 * k + s.val, hr⟩ (hi n) rfl rfl
    rw [bpay93_apply, bpay94_apply, Finset.sum_range_succ]
    refine ⟨ih1.conj_step ((hA ⟨8 * k + s.val, hr⟩ n).congr e1 e2 rfl) ih2, (hX ⟨8 * k + s.val, hr⟩ n).congr ?_ ?_ rfl⟩
    · exact (congrFun (shapeCast_self _ _) _).trans e3
    · exact (congrFun (shapeCast_self _ _) _).trans e4

end

end Cert.S5

end
-- ==== Proof.KBody1.lean ====
/-
  What one grid point of the backward kernel leaves: the adjoint states.

  The scratch block first holds the products `dy wcᵀ`, then the adjoint states, which run through the rows in the
  opposite order with the conjugate factor.
-/
module

public import proofs.«01_k».proof.Proof.KBody0
public import proofs.«01_k».proof.Proof.KEntry1
public import proofs.«01_k».proof.Proof.KTrip1

@[expose] public section

set_option maxRecDepth 16384

noncomputable section

namespace Cert.S5

open Cert.KernelIdeal Cert.KernelIdeal.Gen Idealize.ShloMosaic Idealize.ShloMosaic.TcCoe Idealize.ShloMosaic.Tactic

/-- What the output's gradient sends into state `n` at row `r`. -/
def pull (D C : ℕ → ℕ → ℝ) (r n : ℕ) : ℂ :=
  ⟨∑ c : Fin 128, D r c * C n c, ∑ c : Fin 128, D r c * C (512 + n) c⟩

/-- The rows in the opposite order. -/
def rev (i : ℕ) : ℕ := 255 - i
/-- The adjoint state in which segment `s` starts: the segments too come in the opposite order, -/
def adjEnt (l : ℂ) (x : ℕ → ℂ) (s : ℕ) : ℂ := entryOf l 256 (fun q => segFin rev l x (7 - q)) (7 - s)
/-- and its adjoint states. -/
def adjAt (l : ℂ) (x : ℕ → ℂ) (s k : ℕ) : ℂ := scan l (fun i => x (8 * rev i + s)) (adjEnt l x s) k

/-- The product of 256 rows of `dy` with the transpose of `wc`. -/
theorem pull_apply (w : Vec Ideal S256x128 .bf16) (b : Vec Ideal S1x1024x128 .bf16) (a : Fin 256) (k : Fin 1024) :
    k1_pay32 (F := Ideal) w b (ix2 a k) = ∑ c : Fin 128, w (ix2 a c) * b (ix3 0 k c) := by
  pointwise [k1_pay32, k1_pay30]

theorem bpay4_apply (v : Vec Ideal S1x1x512 .f32) (n : Fin 512) : k1_pay4 (F := Ideal) v (ix2 0 n) = v (ix3 0 0 n) := by
  pointwise [k1_pay4]

theorem bpay5_apply (v : Vec Ideal S1x1x512 .f32) (n : Fin 512) : k1_pay5 (F := Ideal) v (ix2 0 n) = v (ix3 0 0 n) := by
  pointwise [k1_pay5]

section
variable (c : Dev nD) (i : grid1.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x1024 .f32) (harg4 : arg4.IsWhole) (arg5 : Memref sig .tc .vmem S2048x128 .bf16) (harg5 : arg5.IsWhole) (arg6 : Memref sig .tc .vmem S2048x1024 .f32) (harg6 : arg6.IsWhole) (arg7 : Memref sig .tc .vmem S1x8x1024 .f32) (harg7 : arg7.IsWhole) (arg8 : Memref sig .tc .vmem S2048x128 .f32) (harg8 : arg8.IsWhole) (arg9 : Memref sig .tc .vmem S1x128x1024 .f32) (harg9 : arg9.IsWhole) (arg10 : Memref sig .tc .vmem S1x1024x128 .f32) (harg10 : arg10.IsWhole) (arg11 : Memref sig .tc .vmem S1x8x1024 .f32) (harg11 : arg11.IsWhole) (arg12 : Memref sig .tc .vmem S2048x1024 .f32) (harg12 : arg12.IsWhole)
  (x0 : Vec Ideal S2048x128 .f32) (x1 : Vec Ideal S1x128x1024 .bf16) (x2 : Vec Ideal S1x1024x128 .bf16) (x3 : Vec Ideal S1x8x1024 .f32) (x4 : Vec Ideal S2048x128 .bf16) (x5 : Vec Ideal S2048x1024 .f32) (x6 : Vec Ideal S1x8x1024 .f32)

/-- The products of all rows. -/
def pullG : S2048x1024.Idx → EReal := fun y => ∑ c : Fin 128, x4 (ix2 (y 0) c) * x2 (ix3 0 (y 1) c)

theorem pull_piece (off : Fin 2 → ℕ) (o : ℕ) (ho : off = ![o, 0]) (inb : ∀ a : Fin 2, off a + S256x128.size a ≤ S2048x128.size a)
    (inb' : ∀ a : Fin 2, off a + S256x1024.size a ≤ S2048x1024.size a)
    (x : (Rect.unit (s := S2048x1024) off S256x1024.size inb').shape.Idx) :
    k1_pay32 (F := Ideal) (View.readAt (Elt Ideal) arg5.view (Rect.unit (s := S2048x128) off S256x128.size inb).toLoadRect (harg5.unread x4))
        (View.readAt (Elt Ideal) arg3.view (Rect.unit ![0, 0, 0] S1x1024x128.size inb_S1x1024x128_S1x1024x128_0_0_0).toLoadRect (harg3.unread x2)) x
      = pullG x2 x4 ((Rect.unit (s := S2048x1024) off S256x1024.size inb').emb x) := by
  refine piece1024 (pullG x2 x4) o ho inb' _ (fun a k r hr => ?_) x
  rw [pull_apply, ld_whole3 harg3 x2 (by decide)]
  exact Finset.sum_congr rfl fun c _ => by rw [ld_rows128 harg5 x4 o ho inb a c r hr]; rfl

/-- They are what the scratch block holds before the scan. -/
theorem pull1 (r : Fin 2048) (k : Fin 1024) :
    View.canon (kernelRun1_A.sl.HS0_8 (F := Ideal) c arg3 harg3 arg5 harg5 x2 x4) (ix2 r k) = pullG x2 x4 (ix2 r k) := by
  refine View.canon_apply_of_pieces (pullG x2 x4) _ ?_ _ (View.cover_of_tiledL (kernelRun1_A.sl.HS0_8 (F := Ideal) c arg3 harg3 arg5 harg5 x2 x4) S256x1024.size (by sl_kernel_rfl) (ix2 r k))
  have key := pull_piece arg3 harg3 arg5 harg5 x2 x4
  unfold kernelRun1_A.sl.HS0_8
  simp only [List.forall_mem_cons]
  exact ⟨key _ _ rfl _ _, key _ _ rfl _ _, key _ _ rfl _ _, key _ _ rfl _ _, key _ _ rfl _ _, key _ _ rfl _ _, key _ _ rfl _ _,
    key _ _ rfl _ _, fun _ h => absurd h List.not_mem_nil⟩

variable (C D : ℕ → ℕ → ℝ) (L : ℕ → ℂ)

theorem pull_is (hC : ∀ (k : Fin 1024) (c : Fin 128), x2 (ix3 0 k c) = up (C k c))
    (hD : ∀ (r : Fin 2048) (c : Fin 128), x4 (ix2 r c) = up (D r c)) (r : Fin 2048) (n : Fin 512) :
    Is (View.canon (kernelRun1_A.sl.HS0_8 (F := Ideal) c arg3 harg3 arg5 harg5 x2 x4) (ix2 r (lo n))) (View.canon (kernelRun1_A.sl.HS0_8 (F := Ideal) c arg3 harg3 arg5 harg5 x2 x4) (ix2 r (hi n))) (pull D C r n) := by
  rw [pull1, pull1]
  exact ⟨sum_mul_up _ _ _ _ (fun c => hD r c) fun c => hC _ c, sum_mul_up _ _ _ _ (fun c => hD r c) fun c => hC _ c⟩

theorem blam_is (hL : ∀ n : Fin 512, Is (x3 (ix3 0 0 (lo n))) (x3 (ix3 0 0 (hi n))) (L n)) (s : Fin 8) (n : Fin 512) :
    Is ((kernelRun1_A.sl.r_12 (F := Ideal) c arg4 harg4 x3) (ix2 s n)) ((kernelRun1_A.sl.r_13 (F := Ideal) c arg4 harg4 x3) (ix2 s n)) ((starRingEnd ℂ) (L n)) := by
  unfold kernelRun1_A.sl.r_12 kernelRun1_A.sl.r_13 kernelRun1_A.sl.r kernelRun1_A.sl.r_1
  rw [bpay38_apply, bpay39_apply, bpay4_apply, bpay5_apply]
  refine (hL n).conjugate.congr ?_ ?_ rfl
  · exact ld_lam harg4 x3 0 rfl _ n (lo n) (Nat.zero_add _).symm
  · rw [zero_sub]
    exact congrArg Neg.neg (ld_lam harg4 x3 512 rfl _ n (hi n) rfl)

/-- The ends of the segments run from zero. -/
theorem fin1 (hC : ∀ (k : Fin 1024) (c : Fin 128), x2 (ix3 0 k c) = up (C k c))
    (hD : ∀ (r : Fin 2048) (c : Fin 128), x4 (ix2 r c) = up (D r c))
    (hL : ∀ n : Fin 512, Is (x3 (ix3 0 0 (lo n))) (x3 (ix3 0 0 (hi n))) (L n)) (s : Fin 8) (n : Fin 512) :
    Is ((kernelRun1_A.sl.r_14 (F := Ideal) c i arg1 harg1 arg2 harg2 arg3 harg3 arg4 harg4 arg5 harg5 arg6 harg6 arg7 harg7 arg8 harg8 arg9 harg9 arg10 harg10 arg11 harg11 arg12 harg12 x2 x3 x4 x5) (ix2 s n)) ((kernelRun1_A.sl.r_15 (F := Ideal) c i arg1 harg1 arg2 harg2 arg3 harg3 arg4 harg4 arg5 harg5 arg6 harg6 arg7 harg7 arg8 harg8 arg9 harg9 arg10 harg10 arg11 harg11 arg12 harg12 x2 x3 x4 x5) (ix2 s n)) (segFin rev ((starRingEnd ℂ) (L n)) (fun r => pull D C r n) s) := by
  unfold kernelRun1_A.sl.r_14 kernelRun1_A.sl.r_15
  rw [show (Scf.trips k1_t1_loop.lb k1_t1_loop.ub k1_t1_loop.st) = 256 from trips_k1_t1]
  exact pass1 (fun r k => arg12.view.read (Elt Ideal) (arg12.view.writes (Elt Ideal) arg12.view.junk (kernelRun1_A.sl.HS0_8 (F := Ideal) c arg3 harg3 arg5 harg5 x2 x4)) (ix2 r k)) (kernelRun1_A.sl.r_12 (F := Ideal) c arg4 harg4 x3) (kernelRun1_A.sl.r_13 (F := Ideal) c arg4 harg4 x3)
    (st_k1_t1 (F := Ideal) Variants.none c none i arg1 harg1 arg2 harg2 arg3 harg3 arg4 harg4 arg5 harg5 arg6 harg6 arg7 harg7 arg8 harg8 arg9 harg9 arg10 harg10 arg11 harg11 arg12 harg12
      (kernelRun1_A.sl.r c arg4 harg4 x3) (kernelRun1_A.sl.r_1 c arg4 harg4 x3) _ _ _ (k1_pay40, k1_pay40)) rev (fun k h => by unfold rev; omega) (fun n => (starRingEnd ℂ) (L n)) (pull D C) (fun _ _ => 0)
    (blam_is c arg4 harg4 x3 L hL)
    (fun r n => by rw [View.read_writes_junk_eq_canon]; exact pull_is c arg3 harg3 arg5 harg5 x2 x4 C D hC hD r n)
    (fun s n => by
      rw [st_k1_t1_zero]
      exact Is.zero.congr (by pointwise [k1_pay40]) (by pointwise [k1_pay40]) rfl)
    (btrip1_step Variants.none c none i arg1 harg1 arg2 harg2 arg3 harg3 arg4 harg4 arg5 harg5 arg6 harg6 arg7 harg7 arg8 harg8 arg9 harg9 arg10 harg10 arg11 harg11 arg12 harg12 _ _ _ _ _ _)
    256 le_rfl s n

/-- The adjoint states in which the segments start. -/
theorem ent1 (hC : ∀ (k : Fin 1024) (c : Fin 128), x2 (ix3 0 k c) = up (C k c))
    (hD : ∀ (r : Fin 2048) (c : Fin 128), x4 (ix2 r c) = up (D r c))
    (hL : ∀ n : Fin 512, Is (x3 (ix3 0 0 (lo n))) (x3 (ix3 0 0 (hi n))) (L n)) (s : Fin 8) (n : Fin 512) :
    Is ((k1_pay86 (F := Ideal) (kernelRun1_A.sl.r_30 (F := Ideal) c i arg1 harg1 arg2 harg2 arg3 harg3 arg4 harg4 arg5 harg5 arg6 harg6 arg7 harg7 arg8 harg8 arg9 harg9 arg10 harg10 arg11 harg11 arg12 harg12 x2 x3 x4 x5) (k1_pay84 kernelRun1_A.sl.v158) (kernelRun1_A.sl.r_33 (F := Ideal) c i arg1 harg1 arg2 harg2 arg3 harg3 arg4 harg4 arg5 harg5 arg6 harg6 arg7 harg7 arg8 harg8 arg9 harg9 arg10 harg10 arg11 harg11 arg12 harg12 x2 x3 x4 x5)) (ix2 s n))
      ((k1_pay87 (F := Ideal) kernelRun1_A.sl.v158 (kernelRun1_A.sl.r_31 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_32 (F := Ideal) c i arg1 harg1 arg2 harg2 arg3 harg3 arg4 harg4 arg5 harg5 arg6 harg6 arg7 harg7 arg8 harg8 arg9 harg9 arg10 harg10 arg11 harg11 arg12 harg12 x2 x3 x4 x5)) (ix2 s n)) (adjEnt ((starRingEnd ℂ) (L n)) (fun r => pull D C r n) s) := by
  have hp : Is (kernelRun1_A.sl.r (F := Ideal) c arg4 harg4 x3 (ix2 0 n)) (kernelRun1_A.sl.r_1 (F := Ideal) c arg4 harg4 x3 (ix2 0 n)) (L n) := by
    unfold kernelRun1_A.sl.r kernelRun1_A.sl.r_1
    rw [bpay4_apply, bpay5_apply]
    exact (hL n).congr (ld_lam harg4 x3 0 rfl inb_S1x8x1024_S1x1x512_0_0_0 n (lo n) (Nat.zero_add _).symm)
      (ld_lam harg4 x3 512 rfl inb_S1x8x1024_S1x1x512_0_0_512 n (hi n) rfl) rfl
  unfold kernelRun1_A.sl.r_30 kernelRun1_A.sl.r_31 kernelRun1_A.sl.r_32 kernelRun1_A.sl.r_33 kernelRun1_A.sl.r_29 kernelRun1_A.sl.r_28 kernelRun1_A.sl.r_27 kernelRun1_A.sl.r_26 kernelRun1_A.sl.r_25 kernelRun1_A.sl.r_24 kernelRun1_A.sl.r_23 kernelRun1_A.sl.r_22 kernelRun1_A.sl.r_21 kernelRun1_A.sl.r_20 kernelRun1_A.sl.r_19 kernelRun1_A.sl.r_18 kernelRun1_A.sl.r_17 kernelRun1_A.sl.r_16 kernelRun1_A.sl.v158
  exact entry1 _ _ n ((starRingEnd ℂ) (L n)) _ _ _ (power1b _ _ n _ (power1a _ _ n (L n) hp)) (fun s => fin1 c i arg1 harg1 arg2 harg2 arg3 harg3 arg4 harg4 arg5 harg5 arg6 harg6 arg7 harg7 arg8 harg8 arg9 harg9 arg10 harg10 arg11 harg11 arg12 harg12 x2 x3 x4 x5 C D L hC hD hL s n) s

/-- All stores into the scratch block. -/
def adjL : List (View.Piece (Elt Ideal) S2048x1024 .f32) :=
  (st_k1_t2 (F := Ideal) Variants.none c none i arg1 harg1 arg2 harg2 arg3 harg3 arg4 harg4 arg5 harg5 arg6 harg6 arg7 harg7 arg8 harg8 arg9 harg9 arg10 harg10 arg11 harg11 arg12 harg12 (kernelRun1_A.sl.r_2 (F := Ideal) c arg7 harg7 x6) (kernelRun1_A.sl.r_3 (F := Ideal) c arg7 harg7 x6) kernelRun1_A.sl.v158 (kernelRun1_A.sl.r_12 (F := Ideal) c arg4 harg4 x3) (kernelRun1_A.sl.r_13 (F := Ideal) c arg4 harg4 x3) (kernelRun1_A.sl.r_30 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_31 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_32 (F := Ideal) c i arg1 harg1 arg2 harg2 arg3 harg3 arg4 harg4 arg5 harg5 arg6 harg6 arg7 harg7 arg8 harg8 arg9 harg9 arg10 harg10 arg11 harg11 arg12 harg12 x2 x3 x4 x5) (k1_pay84 kernelRun1_A.sl.v158) (kernelRun1_A.sl.r_33 (F := Ideal) c i arg1 harg1 arg2 harg2 arg3 harg3 arg4 harg4 arg5 harg5 arg6 harg6 arg7 harg7 arg8 harg8 arg9 harg9 arg10 harg10 arg11 harg11 arg12 harg12 x2 x3 x4 x5) (arg12.view.writes (Elt Ideal) arg12.view.junk (kernelRun1_A.sl.HS0_8 (F := Ideal) c arg3 harg3 arg5 harg5 x2 x4)) ((k1_pay86 (F := Ideal) (kernelRun1_A.sl.r_30 (F := Ideal) c i arg1 harg1 arg2 harg2 arg3 harg3 arg4 harg4 arg5 harg5 arg6 harg6 arg7 harg7 arg8 harg8 arg9 harg9 arg10 harg10 arg11 harg11 arg12 harg12 x2 x3 x4 x5) (k1_pay84 kernelRun1_A.sl.v158) (kernelRun1_A.sl.r_33 (F := Ideal) c i arg1 harg1 arg2 harg2 arg3 harg3 arg4 harg4 arg5 harg5 arg6 harg6 arg7 harg7 arg8 harg8 arg9 harg9 arg10 harg10 arg11 harg11 arg12 harg12 x2 x3 x4 x5)), (k1_pay87 (F := Ideal) kernelRun1_A.sl.v158 (kernelRun1_A.sl.r_31 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_32 (F := Ideal) c i arg1 harg1 arg2 harg2 arg3 harg3 arg4 harg4 arg5 harg5 arg6 harg6 arg7 harg7 arg8 harg8 arg9 harg9 arg10 harg10 arg11 harg11 arg12 harg12 x2 x3 x4 x5))) (Scf.trips k1_t2_loop.lb k1_t2_loop.ub k1_t2_loop.st)).2 ++ (kernelRun1_A.sl.HS0_8 (F := Ideal) c arg3 harg3 arg5 harg5 x2 x4)

/-- The adjoint states: row `8 j + s` holds what segment `s` reaches after `256 - j` steps. -/
theorem adj1 (hC : ∀ (k : Fin 1024) (c : Fin 128), x2 (ix3 0 k c) = up (C k c))
    (hD : ∀ (r : Fin 2048) (c : Fin 128), x4 (ix2 r c) = up (D r c))
    (hL : ∀ n : Fin 512, Is (x3 (ix3 0 0 (lo n))) (x3 (ix3 0 0 (hi n))) (L n))
    (r : Fin 2048) (n : Fin 512) :
    Is (View.canon (adjL c i arg1 harg1 arg2 harg2 arg3 harg3 arg4 harg4 arg5 harg5 arg6 harg6 arg7 harg7 arg8 harg8 arg9 harg9 arg10 harg10 arg11 harg11 arg12 harg12 x2 x3 x4 x5 x6) (ix2 r (lo n))) (View.canon (adjL c i arg1 harg1 arg2 harg2 arg3 harg3 arg4 harg4 arg5 harg5 arg6 harg6 arg7 harg7 arg8 harg8 arg9 harg9 arg10 harg10 arg11 harg11 arg12 harg12 x2 x3 x4 x5 x6) (ix2 r (hi n)))
      (adjAt ((starRingEnd ℂ) (L n)) (fun r => pull D C r n) (r.val % 8) (256 - r.val / 8)) := by
  unfold adjL
  rw [show (Scf.trips k1_t2_loop.lb k1_t2_loop.ub k1_t2_loop.st) = 256 from trips_k1_t2]
  have h := (pass2 arg12.view (arg12.view.writes (Elt Ideal) arg12.view.junk (kernelRun1_A.sl.HS0_8 (F := Ideal) c arg3 harg3 arg5 harg5 x2 x4))
    (kernelRun1_A.sl.r_12 (F := Ideal) c arg4 harg4 x3) (kernelRun1_A.sl.r_13 (F := Ideal) c arg4 harg4 x3)
    (st_k1_t2 (F := Ideal) Variants.none c none i arg1 harg1 arg2 harg2 arg3 harg3 arg4 harg4 arg5 harg5 arg6 harg6 arg7 harg7 arg8 harg8 arg9 harg9 arg10 harg10 arg11 harg11 arg12 harg12 (kernelRun1_A.sl.r_2 (F := Ideal) c arg7 harg7 x6) (kernelRun1_A.sl.r_3 (F := Ideal) c arg7 harg7 x6) kernelRun1_A.sl.v158 (kernelRun1_A.sl.r_12 (F := Ideal) c arg4 harg4 x3) (kernelRun1_A.sl.r_13 (F := Ideal) c arg4 harg4 x3) (kernelRun1_A.sl.r_30 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_31 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_32 (F := Ideal) c i arg1 harg1 arg2 harg2 arg3 harg3 arg4 harg4 arg5 harg5 arg6 harg6 arg7 harg7 arg8 harg8 arg9 harg9 arg10 harg10 arg11 harg11 arg12 harg12 x2 x3 x4 x5) (k1_pay84 kernelRun1_A.sl.v158) (kernelRun1_A.sl.r_33 (F := Ideal) c i arg1 harg1 arg2 harg2 arg3 harg3 arg4 harg4 arg5 harg5 arg6 harg6 arg7 harg7 arg8 harg8 arg9 harg9 arg10 harg10 arg11 harg11 arg12 harg12 x2 x3 x4 x5) (arg12.view.writes (Elt Ideal) arg12.view.junk (kernelRun1_A.sl.HS0_8 (F := Ideal) c arg3 harg3 arg5 harg5 x2 x4)) ((k1_pay86 (F := Ideal) (kernelRun1_A.sl.r_30 (F := Ideal) c i arg1 harg1 arg2 harg2 arg3 harg3 arg4 harg4 arg5 harg5 arg6 harg6 arg7 harg7 arg8 harg8 arg9 harg9 arg10 harg10 arg11 harg11 arg12 harg12 x2 x3 x4 x5) (k1_pay84 kernelRun1_A.sl.v158) (kernelRun1_A.sl.r_33 (F := Ideal) c i arg1 harg1 arg2 harg2 arg3 harg3 arg4 harg4 arg5 harg5 arg6 harg6 arg7 harg7 arg8 harg8 arg9 harg9 arg10 harg10 arg11 harg11 arg12 harg12 x2 x3 x4 x5)), (k1_pay87 (F := Ideal) kernelRun1_A.sl.v158 (kernelRun1_A.sl.r_31 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_32 (F := Ideal) c i arg1 harg1 arg2 harg2 arg3 harg3 arg4 harg4 arg5 harg5 arg6 harg6 arg7 harg7 arg8 harg8 arg9 harg9 arg10 harg10 arg11 harg11 arg12 harg12 x2 x3 x4 x5))))
    rev (fun k h => by unfold rev; omega) (fun j hj k hk h => by unfold rev at h; omega) (fun n => (starRingEnd ℂ) (L n)) (pull D C) (fun s n => adjEnt ((starRingEnd ℂ) (L n)) (fun r => pull D C r n) s)
    (blam_is c arg4 harg4 x3 L hL)
    (fun r n => by rw [View.read_writes_junk_eq_canon]; exact pull_is c arg3 harg3 arg5 harg5 x2 x4 C D hC hD r n)
    (fun s n => ent1 c i arg1 harg1 arg2 harg2 arg3 harg3 arg4 harg4 arg5 harg5 arg6 harg6 arg7 harg7 arg8 harg8 arg9 harg9 arg10 harg10 arg11 harg11 arg12 harg12 x2 x3 x4 x5 C D L hC hD hL s n) rfl
    (btrip2_step Variants.none c none i arg1 harg1 arg2 harg2 arg3 harg3 arg4 harg4 arg5 harg5 arg6 harg6 arg7 harg7 arg8 harg8 arg9 harg9 arg10 harg10 arg11 harg11 arg12 harg12 _ _ _ _ _ _ _ _ _ _ _ _) 256 le_rfl).2 (255 - r.val / 8) (by omega) ⟨r.val % 8, by omega⟩ n r
      (by show r.val = 8 * (255 - (255 - r.val / 8)) + r.val % 8; omega)
  rw [if_pos (by omega), ← View.writes_append, View.read_writes_junk_eq_canon] at h
  have e : 256 - r.val / 8 = 255 - r.val / 8 + 1 := by omega
  rw [e]
  exact h

end

end Cert.S5

end
-- ==== Proof.KBody2.lean ====
/-
  What one grid point of the backward kernel leaves in its four result blocks.

  `du` is the product of the adjoint states with the transpose of `wb`, `dwb` the product of the transpose of `u` with the
  adjoint states and `dwc` that of the transpose of the states with `dy`, both summed in eight parts of 256 rows; `dlam` sums
  the adjoint states' products with the conjugates of the states before them.
-/
module

public import proofs.«01_k».proof.Proof.KBody1

@[expose] public section

set_option maxRecDepth 16384

noncomputable section

namespace Cert.S5

open Cert.KernelIdeal Cert.KernelIdeal.Gen Idealize.ShloMosaic Idealize.ShloMosaic.TcCoe Idealize.ShloMosaic.Tactic

theorem Is.sum {ι : Type*} (s : Finset ι) (a b : ι → EReal) (z : ι → ℂ) (h : ∀ j ∈ s, Is (a j) (b j) (z j)) :
    Is (∑ j ∈ s, a j) (∑ j ∈ s, b j) (∑ j ∈ s, z j) := by
  classical
  induction s using Finset.induction_on with
  | empty => exact Is.zero
  | insert j s hj ih =>
    rw [Finset.sum_insert hj, Finset.sum_insert hj, Finset.sum_insert hj]
    exact (h j (Finset.mem_insert_self j s)).add (ih fun q hq => h q (Finset.mem_insert_of_mem hq))

/-- A sum over all rows, taken in eight parts. -/
theorem sum_parts (f : ℕ → EReal) :
    0 + (∑ a ∈ Finset.range 256, f (0 + a)) + (∑ a ∈ Finset.range 256, f (256 + a)) + (∑ a ∈ Finset.range 256, f (512 + a))
      + (∑ a ∈ Finset.range 256, f (768 + a)) + (∑ a ∈ Finset.range 256, f (1024 + a)) + (∑ a ∈ Finset.range 256, f (1280 + a))
      + (∑ a ∈ Finset.range 256, f (1536 + a)) + (∑ a ∈ Finset.range 256, f (1792 + a)) = ∑ r ∈ Finset.range 2048, f r := by
  rw [show 2048 = 0 + 256 + 256 + 256 + 256 + 256 + 256 + 256 + 256 from rfl]
  simp only [Finset.sum_range_add]
  rw [Finset.sum_range_zero]

/-- The sum over the segments, on the left -/
theorem bpay97_apply (v : Part) (s : Fin 8) (n : Fin 512) : k1_pay97 (F := Ideal) v (ix3 0 s n) = ∑ q : Fin 8, v (ix2 q n) := by
  pointwise [k1_pay97]

/-- and on the right. -/
theorem bpay98_apply (v : Part) (s : Fin 8) (n : Fin 512) : k1_pay98 (F := Ideal) v (ix3 0 s n) = ∑ q : Fin 8, v (ix2 q n) := by
  pointwise [k1_pay98]

theorem bpay6_apply (v : Vec Ideal S1x8x512 .f32) (s : Fin 8) (n : Fin 512) : k1_pay6 (F := Ideal) v (ix2 s n) = v (ix3 0 s n) := by
  pointwise [k1_pay6]

theorem bpay7_apply (v : Vec Ideal S1x8x512 .f32) (s : Fin 8) (n : Fin 512) : k1_pay7 (F := Ideal) v (ix2 s n) = v (ix3 0 s n) := by
  pointwise [k1_pay7]

/-- The product of 256 rows of adjoint states with the transpose of `wb`. -/
theorem du_apply (w : Vec Ideal S256x1024 .f32) (b : Vec Ideal S1x128x1024 .bf16) (a : Fin 256) (e : Fin 128) :
    k1_pay3 (F := Ideal) w b (ix2 a e) = ∑ k : Fin 1024, w (ix2 a k) * b (ix3 0 e k) := by
  pointwise [k1_pay3, k1_pay1]

theorem dwcPay2 (d : Vec Ideal S256x128 .bf16) (v : Vec Ideal S1x1024x128 .f32) (x : Vec Ideal S256x1024 .f32) (k : Fin 1024) (e : Fin 128) :
    k1_pay10 (F := Ideal) d v x (ix3 0 k e) = v (ix3 0 k e) + ∑ a : Fin 256, x (ix2 a k) * d (ix2 a e) := by
  pointwise [k1_pay10, k1_pay9]

theorem dwcPay3 (d : Vec Ideal S256x128 .bf16) (v : Vec Ideal S1x1024x128 .f32) (x : Vec Ideal S256x1024 .f32) (k : Fin 1024) (e : Fin 128) :
    k1_pay14 (F := Ideal) d v x (ix3 0 k e) = v (ix3 0 k e) + ∑ a : Fin 256, x (ix2 a k) * d (ix2 a e) := by
  pointwise [k1_pay14, k1_pay13]

theorem dwcPay4 (d : Vec Ideal S256x128 .bf16) (v : Vec Ideal S1x1024x128 .f32) (x : Vec Ideal S256x1024 .f32) (k : Fin 1024) (e : Fin 128) :
    k1_pay19 (F := Ideal) (k1_pay17 (F := Ideal) v) (k1_pay18 (F := Ideal) d x) (ix3 0 k e) = v (ix3 0 k e) + ∑ a : Fin 256, x (ix2 a k) * d (ix2 a e) := by
  pointwise [k1_pay19, k1_pay17, k1_pay18, k1_pay16]

theorem dwcPay5 (d : Vec Ideal S256x128 .bf16) (v : Vec Ideal S1x1024x128 .f32) (x : Vec Ideal S256x1024 .f32) (k : Fin 1024) (e : Fin 128) :
    k1_pay22 (F := Ideal) d v x (ix3 0 k e) = v (ix3 0 k e) + ∑ a : Fin 256, x (ix2 a k) * d (ix2 a e) := by
  pointwise [k1_pay22, k1_pay21]

theorem dwcPay6 (d : Vec Ideal S256x128 .bf16) (v : Vec Ideal S1x1024x128 .f32) (x : Vec Ideal S256x1024 .f32) (k : Fin 1024) (e : Fin 128) :
    k1_pay25 (F := Ideal) d v x (ix3 0 k e) = v (ix3 0 k e) + ∑ a : Fin 256, x (ix2 a k) * d (ix2 a e) := by
  pointwise [k1_pay25, k1_pay24]

theorem dwcPay7 (d : Vec Ideal S256x128 .bf16) (v : Vec Ideal S1x1024x128 .f32) (x : Vec Ideal S256x1024 .f32) (k : Fin 1024) (e : Fin 128) :
    k1_pay28 (F := Ideal) d v x (ix3 0 k e) = v (ix3 0 k e) + ∑ a : Fin 256, x (ix2 a k) * d (ix2 a e) := by
  pointwise [k1_pay28, k1_pay27]

theorem dwcPay8 (d : Vec Ideal S256x128 .bf16) (v : Vec Ideal S1x1024x128 .f32) (x : Vec Ideal S256x1024 .f32) (k : Fin 1024) (e : Fin 128) :
    k1_pay31 (F := Ideal) d v x (ix3 0 k e) = v (ix3 0 k e) + ∑ a : Fin 256, x (ix2 a k) * d (ix2 a e) := by
  pointwise [k1_pay31, k1_pay30]

theorem dwcPay9 (d : Vec Ideal S256x128 .bf16) (v : Vec Ideal S1x1024x128 .f32) (x : Vec Ideal S256x1024 .f32) (k : Fin 1024) (e : Fin 128) :
    k1_pay35 (F := Ideal) (k1_pay33 (F := Ideal) d) (k1_pay34 (F := Ideal) v) x (ix3 0 k e) = v (ix3 0 k e) + ∑ a : Fin 256, x (ix2 a k) * d (ix2 a e) := by
  pointwise [k1_pay35, k1_pay33, k1_pay34]

theorem dwbPay2 (w : Vec Ideal S256x1024 .f32) (v : Vec Ideal S1x128x1024 .f32) (u : Vec Ideal S256x128 .f32) (e : Fin 128) (k : Fin 1024) :
    k1_pay101 (F := Ideal) (k1_pay100 (F := Ideal) w) v u (ix3 0 e k) = v (ix3 0 e k) + ∑ a : Fin 256, u (ix2 a e) * w (ix2 a k) := by
  pointwise [k1_pay101, k1_pay100]

theorem dwbPay3 (w : Vec Ideal S256x1024 .f32) (v : Vec Ideal S1x128x1024 .f32) (u : Vec Ideal S256x128 .f32) (e : Fin 128) (k : Fin 1024) :
    k1_pay104 (F := Ideal) w v u (ix3 0 e k) = v (ix3 0 e k) + ∑ a : Fin 256, u (ix2 a e) * w (ix2 a k) := by
  pointwise [k1_pay104, k1_pay103]

theorem dwbPay4 (w : Vec Ideal S256x1024 .f32) (v : Vec Ideal S1x128x1024 .f32) (u : Vec Ideal S256x128 .f32) (e : Fin 128) (k : Fin 1024) :
    k1_pay108 (F := Ideal) w v u (ix3 0 e k) = v (ix3 0 e k) + ∑ a : Fin 256, u (ix2 a e) * w (ix2 a k) := by
  pointwise [k1_pay108, k1_pay107]

theorem dwbPay5 (w : Vec Ideal S256x1024 .f32) (v : Vec Ideal S1x128x1024 .f32) (u : Vec Ideal S256x128 .f32) (e : Fin 128) (k : Fin 1024) :
    k1_pay112 (F := Ideal) (k1_pay111 (F := Ideal) w v u) (ix3 0 e k) = v (ix3 0 e k) + ∑ a : Fin 256, u (ix2 a e) * w (ix2 a k) := by
  pointwise [k1_pay112, k1_pay111, k1_pay110]

theorem dwbPay6 (w : Vec Ideal S256x1024 .f32) (v : Vec Ideal S1x128x1024 .f32) (u : Vec Ideal S256x128 .f32) (e : Fin 128) (k : Fin 1024) :
    k1_pay115 (F := Ideal) w v u (ix3 0 e k) = v (ix3 0 e k) + ∑ a : Fin 256, u (ix2 a e) * w (ix2 a k) := by
  pointwise [k1_pay115, k1_pay114]

theorem dwbPay7 (w : Vec Ideal S256x1024 .f32) (v : Vec Ideal S1x128x1024 .f32) (u : Vec Ideal S256x128 .f32) (e : Fin 128) (k : Fin 1024) :
    k1_pay119 (F := Ideal) (k1_pay117 (F := Ideal) w) (k1_pay118 (F := Ideal) v) u (ix3 0 e k) = v (ix3 0 e k) + ∑ a : Fin 256, u (ix2 a e) * w (ix2 a k) := by
  pointwise [k1_pay119, k1_pay117, k1_pay118]

theorem dwbPay8 (w : Vec Ideal S256x1024 .f32) (v : Vec Ideal S1x128x1024 .f32) (u : Vec Ideal S256x128 .f32) (e : Fin 128) (k : Fin 1024) :
    k1_pay122 (F := Ideal) w v u (ix3 0 e k) = v (ix3 0 e k) + ∑ a : Fin 256, u (ix2 a e) * w (ix2 a k) := by
  pointwise [k1_pay122, k1_pay121]

theorem dwbPay9 (w : Vec Ideal S256x1024 .f32) (v : Vec Ideal S1x128x1024 .f32) (u : Vec Ideal S256x128 .f32) (e : Fin 128) (k : Fin 1024) :
    k1_pay2 (F := Ideal) w v u (ix3 0 e k) = v (ix3 0 e k) + ∑ a : Fin 256, u (ix2 a e) * w (ix2 a k) := by
  pointwise [k1_pay2, k1_pay1]

/-- A store over a whole block is read back. -/
theorem canonC {off : Fin 3 → ℕ} (ho : off = ![0, 0, 0]) (inb : ∀ a : Fin 3, off a + S1x1024x128.size a ≤ S1x1024x128.size a)
    (p : Vec Ideal S1x1024x128 .f32) (T : List (View.Piece (Elt Ideal) S1x1024x128 .f32)) (k : Fin 1024) (e : Fin 128) :
    View.canon ((⟨Rect.unit (s := S1x1024x128) off S1x1024x128.size inb, p⟩ : View.Piece (Elt Ideal) S1x1024x128 .f32) :: T) (ix3 0 k e) = p (ix3 0 k e) := by
  subst ho
  have h : (ix3 0 k e : S1x1024x128.Idx) = (Rect.unit (s := S1x1024x128) ![0, 0, 0] S1x1024x128.size inb).emb (ix3 0 k e : S1x1024x128.Idx) :=
    funext fun q => Fin.ext (match q with
      | ⟨0, _⟩ => rfl
      | ⟨1, _⟩ => show k.val = 0 + 1 * k.val by omega
      | ⟨2, _⟩ => show e.val = 0 + 1 * e.val by omega)
  refine (congrArg (View.canon _) h).trans ?_
  exact View.canon_cons_emb (Val := Elt Ideal) (e := .f32) (Rect.unit (s := S1x1024x128) ![0, 0, 0] S1x1024x128.size inb) p T (ix3 0 k e : S1x1024x128.Idx)

theorem canonB {off : Fin 3 → ℕ} (ho : off = ![0, 0, 0]) (inb : ∀ a : Fin 3, off a + S1x128x1024.size a ≤ S1x128x1024.size a)
    (p : Vec Ideal S1x128x1024 .f32) (T : List (View.Piece (Elt Ideal) S1x128x1024 .f32)) (e : Fin 128) (k : Fin 1024) :
    View.canon ((⟨Rect.unit (s := S1x128x1024) off S1x128x1024.size inb, p⟩ : View.Piece (Elt Ideal) S1x128x1024 .f32) :: T) (ix3 0 e k) = p (ix3 0 e k) := by
  subst ho
  have h : (ix3 0 e k : S1x128x1024.Idx) = (Rect.unit (s := S1x128x1024) ![0, 0, 0] S1x128x1024.size inb).emb (ix3 0 e k : S1x128x1024.Idx) :=
    funext fun q => Fin.ext (match q with
      | ⟨0, _⟩ => rfl
      | ⟨1, _⟩ => show e.val = 0 + 1 * e.val by omega
      | ⟨2, _⟩ => show k.val = 0 + 1 * k.val by omega)
  refine (congrArg (View.canon _) h).trans ?_
  exact View.canon_cons_emb (Val := Elt Ideal) (e := .f32) (Rect.unit (s := S1x128x1024) ![0, 0, 0] S1x128x1024.size inb) p T (ix3 0 e k : S1x128x1024.Idx)

/-- A load of a whole block reads what the stores before it left. -/
theorem readC (arg10 : Memref sig .tc .vmem S1x1024x128 .f32) (T : List (View.Piece (Elt Ideal) S1x1024x128 .f32)) (inb : ∀ a : Fin 3, (![0, 0, 0] : Fin 3 → ℕ) a + S1x1024x128.size a ≤ S1x1024x128.size a) (k : Fin 1024) (e : Fin 128) :
    arg10.view.readCov T (Rect.unit (s := S1x1024x128) ![0, 0, 0] S1x1024x128.size inb).toLoadRect (ix3 0 k e) = View.canon T (ix3 0 k e) := by
  rw [View.readCov_eq_canon']
  refine congrArg (View.canon T) (funext fun q => Fin.ext ?_)
  match q with
  | ⟨0, _⟩ => rfl
  | ⟨1, _⟩ => show 0 + 1 * k.val = k.val; omega
  | ⟨2, _⟩ => show 0 + 1 * e.val = e.val; omega

theorem readB (arg9 : Memref sig .tc .vmem S1x128x1024 .f32) (T : List (View.Piece (Elt Ideal) S1x128x1024 .f32)) (inb : ∀ a : Fin 3, (![0, 0, 0] : Fin 3 → ℕ) a + S1x128x1024.size a ≤ S1x128x1024.size a) (e : Fin 128) (k : Fin 1024) :
    arg9.view.readCov T (Rect.unit (s := S1x128x1024) ![0, 0, 0] S1x128x1024.size inb).toLoadRect (ix3 0 e k) = View.canon T (ix3 0 e k) := by
  rw [View.readCov_eq_canon']
  refine congrArg (View.canon T) (funext fun q => Fin.ext ?_)
  match q with
  | ⟨0, _⟩ => rfl
  | ⟨1, _⟩ => show 0 + 1 * e.val = e.val; omega
  | ⟨2, _⟩ => show 0 + 1 * k.val = k.val; omega

section
variable (c : Dev nD) (i : grid1.Coords) (arg1 : Memref sig .tc .vmem S2048x128 .f32) (harg1 : arg1.IsWhole) (arg2 : Memref sig .tc .vmem S1x128x1024 .bf16) (harg2 : arg2.IsWhole) (arg3 : Memref sig .tc .vmem S1x1024x128 .bf16) (harg3 : arg3.IsWhole) (arg4 : Memref sig .tc .vmem S1x8x1024 .f32) (harg4 : arg4.IsWhole) (arg5 : Memref sig .tc .vmem S2048x128 .bf16) (harg5 : arg5.IsWhole) (arg6 : Memref sig .tc .vmem S2048x1024 .f32) (harg6 : arg6.IsWhole) (arg7 : Memref sig .tc .vmem S1x8x1024 .f32) (harg7 : arg7.IsWhole) (arg8 : Memref sig .tc .vmem S2048x128 .f32) (harg8 : arg8.IsWhole) (arg9 : Memref sig .tc .vmem S1x128x1024 .f32) (harg9 : arg9.IsWhole) (arg10 : Memref sig .tc .vmem S1x1024x128 .f32) (harg10 : arg10.IsWhole) (arg11 : Memref sig .tc .vmem S1x8x1024 .f32) (harg11 : arg11.IsWhole) (arg12 : Memref sig .tc .vmem S2048x1024 .f32) (harg12 : arg12.IsWhole)
  (x0 : Vec Ideal S2048x128 .f32) (x1 : Vec Ideal S1x128x1024 .bf16) (x2 : Vec Ideal S1x1024x128 .bf16) (x3 : Vec Ideal S1x8x1024 .f32) (x4 : Vec Ideal S2048x128 .bf16) (x5 : Vec Ideal S2048x1024 .f32) (x6 : Vec Ideal S1x8x1024 .f32)

/-- One row's part of `dwc`. -/
def dwcTerm (k : Fin 1024) (e : Fin 128) (r : ℕ) : EReal :=
  if h : r < 2048 then x5 (ix2 (⟨r, h⟩ : Fin 2048) k) * x4 (ix2 (⟨r, h⟩ : Fin 2048) e) else 0

theorem dwc_sum {off : Fin 2 → ℕ} (o : ℕ) (ho : off = ![o, 0]) (inb : ∀ a : Fin 2, off a + S256x128.size a ≤ S2048x128.size a)
    (inb' : ∀ a : Fin 2, off a + S256x1024.size a ≤ S2048x1024.size a) (k : Fin 1024) (e : Fin 128) :
    (∑ a : Fin 256, (View.readAt (Elt Ideal) arg6.view (Rect.unit (s := S2048x1024) off S256x1024.size inb').toLoadRect (harg6.unread x5) : Vec Ideal S256x1024 .f32) (ix2 a k)
        * (View.readAt (Elt Ideal) arg5.view (Rect.unit (s := S2048x128) off S256x128.size inb).toLoadRect (harg5.unread x4) : Vec Ideal S256x128 .bf16) (ix2 a e))
      = ∑ a ∈ Finset.range 256, dwcTerm x4 x5 k e (o + a) := by
  have h0 : o + 256 ≤ 2048 := by subst ho; exact inb 0
  rw [Finset.sum_range]
  refine Finset.sum_congr rfl fun a _ => ?_
  have h : o + a.val < 2048 := by omega
  rw [ld_rows1024 harg6 x5 o ho inb' a k ⟨o + a.val, h⟩ rfl, ld_rows128 harg5 x4 o ho inb a e ⟨o + a.val, h⟩ rfl, dwcTerm, dif_pos h]

theorem dwcList2 (k : Fin 1024) (e : Fin 128) :
    View.canon (kernelRun1_A.sl.H9_2 (F := Ideal) c arg5 harg5 arg6 harg6 arg10 x4 x5) (ix3 0 k e) = View.canon (kernelRun1_A.sl.H9_1 (F := Ideal)) (ix3 0 k e) + ∑ a ∈ Finset.range 256, dwcTerm x4 x5 k e (0 + a) := by
  unfold kernelRun1_A.sl.H9_2 kernelRun1_A.sl.v14
  rw [canonC rfl, dwcPay2, dwc_sum arg5 harg5 arg6 harg6 x4 x5 0 rfl, readC]

theorem dwcList3 (k : Fin 1024) (e : Fin 128) :
    View.canon (kernelRun1_A.sl.H9_3 (F := Ideal) c arg5 harg5 arg6 harg6 arg10 x4 x5) (ix3 0 k e) = View.canon (kernelRun1_A.sl.H9_2 (F := Ideal) c arg5 harg5 arg6 harg6 arg10 x4 x5) (ix3 0 k e) + ∑ a ∈ Finset.range 256, dwcTerm x4 x5 k e (256 + a) := by
  unfold kernelRun1_A.sl.H9_3 kernelRun1_A.sl.v32
  rw [canonC rfl, dwcPay3, dwc_sum arg5 harg5 arg6 harg6 x4 x5 256 rfl, readC]

theorem dwcList4 (k : Fin 1024) (e : Fin 128) :
    View.canon (kernelRun1_A.sl.H9_4 (F := Ideal) c arg5 harg5 arg6 harg6 arg10 x4 x5) (ix3 0 k e) = View.canon (kernelRun1_A.sl.H9_3 (F := Ideal) c arg5 harg5 arg6 harg6 arg10 x4 x5) (ix3 0 k e) + ∑ a ∈ Finset.range 256, dwcTerm x4 x5 k e (512 + a) := by
  unfold kernelRun1_A.sl.H9_4 kernelRun1_A.sl.r_7 kernelRun1_A.sl.r_8 kernelRun1_A.sl.v50
  rw [canonC rfl, dwcPay4, dwc_sum arg5 harg5 arg6 harg6 x4 x5 512 rfl, readC]

theorem dwcList5 (k : Fin 1024) (e : Fin 128) :
    View.canon (kernelRun1_A.sl.H9_5 (F := Ideal) c arg5 harg5 arg6 harg6 arg10 x4 x5) (ix3 0 k e) = View.canon (kernelRun1_A.sl.H9_4 (F := Ideal) c arg5 harg5 arg6 harg6 arg10 x4 x5) (ix3 0 k e) + ∑ a ∈ Finset.range 256, dwcTerm x4 x5 k e (768 + a) := by
  unfold kernelRun1_A.sl.H9_5 kernelRun1_A.sl.v68
  rw [canonC rfl, dwcPay5, dwc_sum arg5 harg5 arg6 harg6 x4 x5 768 rfl, readC]

theorem dwcList6 (k : Fin 1024) (e : Fin 128) :
    View.canon (kernelRun1_A.sl.H9_6 (F := Ideal) c arg5 harg5 arg6 harg6 arg10 x4 x5) (ix3 0 k e) = View.canon (kernelRun1_A.sl.H9_5 (F := Ideal) c arg5 harg5 arg6 harg6 arg10 x4 x5) (ix3 0 k e) + ∑ a ∈ Finset.range 256, dwcTerm x4 x5 k e (1024 + a) := by
  unfold kernelRun1_A.sl.H9_6 kernelRun1_A.sl.v86
  rw [canonC rfl, dwcPay6, dwc_sum arg5 harg5 arg6 harg6 x4 x5 1024 rfl, readC]

theorem dwcList7 (k : Fin 1024) (e : Fin 128) :
    View.canon (kernelRun1_A.sl.H9_7 (F := Ideal) c arg5 harg5 arg6 harg6 arg10 x4 x5) (ix3 0 k e) = View.canon (kernelRun1_A.sl.H9_6 (F := Ideal) c arg5 harg5 arg6 harg6 arg10 x4 x5) (ix3 0 k e) + ∑ a ∈ Finset.range 256, dwcTerm x4 x5 k e (1280 + a) := by
  unfold kernelRun1_A.sl.H9_7 kernelRun1_A.sl.v104
  rw [canonC rfl, dwcPay7, dwc_sum arg5 harg5 arg6 harg6 x4 x5 1280 rfl, readC]

theorem dwcList8 (k : Fin 1024) (e : Fin 128) :
    View.canon (kernelRun1_A.sl.H9_8 (F := Ideal) c arg5 harg5 arg6 harg6 arg10 x4 x5) (ix3 0 k e) = View.canon (kernelRun1_A.sl.H9_7 (F := Ideal) c arg5 harg5 arg6 harg6 arg10 x4 x5) (ix3 0 k e) + ∑ a ∈ Finset.range 256, dwcTerm x4 x5 k e (1536 + a) := by
  unfold kernelRun1_A.sl.H9_8 kernelRun1_A.sl.v122
  rw [canonC rfl, dwcPay8, dwc_sum arg5 harg5 arg6 harg6 x4 x5 1536 rfl, readC]

theorem dwcList9 (k : Fin 1024) (e : Fin 128) :
    View.canon (kernelRun1_A.sl.H9_9 (F := Ideal) c arg5 harg5 arg6 harg6 arg10 x4 x5) (ix3 0 k e) = View.canon (kernelRun1_A.sl.H9_8 (F := Ideal) c arg5 harg5 arg6 harg6 arg10 x4 x5) (ix3 0 k e) + ∑ a ∈ Finset.range 256, dwcTerm x4 x5 k e (1792 + a) := by
  unfold kernelRun1_A.sl.H9_9 kernelRun1_A.sl.r_10 kernelRun1_A.sl.r_11 kernelRun1_A.sl.v140
  rw [canonC rfl, dwcPay9, dwc_sum arg5 harg5 arg6 harg6 x4 x5 1792 rfl, readC]

/-- The block of `dwc`: the states' transpose times `dy`. -/
theorem dwc1 (k : Fin 1024) (e : Fin 128) :
    out1_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 k e) = ∑ r : Fin 2048, x5 (ix2 r k) * x4 (ix2 r e) := by
  unfold out1_A_9
  rw [View.read_writes_junk_eq_canon]
  unfold kernelRun1_A
  dsimp only
  rw [dwcList9, dwcList8, dwcList7, dwcList6, dwcList5, dwcList4, dwcList3, dwcList2]
  have h1 : View.canon (kernelRun1_A.sl.H9_1 (F := Ideal)) (ix3 0 k e) = 0 := by
    unfold kernelRun1_A.sl.H9_1
    rw [canonC rfl]
    pointwise [k1_pay8]
  rw [h1, sum_parts, Finset.sum_range]
  exact Finset.sum_congr rfl fun r _ => by rw [dwcTerm, dif_pos r.isLt]

/-- One row's part of `dwb`. -/
def dwbTerm (S : S2048x1024.Idx → EReal) (e : Fin 128) (k : Fin 1024) (r : ℕ) : EReal :=
  if h : r < 2048 then x0 (ix2 (⟨r, h⟩ : Fin 2048) e) * S (ix2 (⟨r, h⟩ : Fin 2048) k) else 0

theorem dwb_sum (S : List (View.Piece (Elt Ideal) S2048x1024 .f32)) {off : Fin 2 → ℕ} (o : ℕ) (ho : off = ![o, 0]) (inb : ∀ a : Fin 2, off a + S256x128.size a ≤ S2048x128.size a)
    (inb' : ∀ a : Fin 2, off a + S256x1024.size a ≤ S2048x1024.size a) (e : Fin 128) (k : Fin 1024) :
    (∑ a : Fin 256, (View.readAt (Elt Ideal) arg1.view (Rect.unit (s := S2048x128) off S256x128.size inb).toLoadRect (harg1.unread x0) : Vec Ideal S256x128 .f32) (ix2 a e)
        * (arg12.view.readCov S (Rect.unit (s := S2048x1024) off S256x1024.size inb').toLoadRect : Vec Ideal S256x1024 .f32) (ix2 a k))
      = ∑ a ∈ Finset.range 256, dwbTerm x0 (View.canon S) e k (o + a) := by
  have h0 : o + 256 ≤ 2048 := by subst ho; exact inb 0
  rw [Finset.sum_range]
  refine Finset.sum_congr rfl fun a _ => ?_
  have h : o + a.val < 2048 := by omega
  rw [ld_rows128 harg1 x0 o ho inb a e ⟨o + a.val, h⟩ rfl, dwbTerm, dif_pos h, View.readCov_eq_canon']
  subst ho
  refine congrArg (_ * ·) (congrArg (View.canon S) (funext fun p => Fin.ext ?_))
  match p with
  | ⟨0, _⟩ => show o + 1 * a.val = o + a.val; omega
  | ⟨1, _⟩ => show 0 + 1 * k.val = k.val; omega

theorem dwbList2 (e : Fin 128) (k : Fin 1024) :
    View.canon (kernelRun1_A.sl.H8_2 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) = View.canon (kernelRun1_A.sl.H8_1 (F := Ideal)) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (0 + a) := by
  unfold kernelRun1_A.sl.H8_2 kernelRun1_A.sl.r_34 kernelRun1_A.sl.v381 kernelRun1_A.sl.v379
  refine (canonB rfl _ _ _ e k).trans ((dwbPay2 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 0 rfl _ _ e k

theorem dwbList3 (e : Fin 128) (k : Fin 1024) :
    View.canon (kernelRun1_A.sl.H8_3 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) = View.canon (kernelRun1_A.sl.H8_2 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (256 + a) := by
  unfold kernelRun1_A.sl.H8_3 kernelRun1_A.sl.v397 kernelRun1_A.sl.v395
  refine (canonB rfl _ _ _ e k).trans ((dwbPay3 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 256 rfl _ _ e k

theorem dwbList4 (e : Fin 128) (k : Fin 1024) :
    View.canon (kernelRun1_A.sl.H8_4 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) = View.canon (kernelRun1_A.sl.H8_3 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (512 + a) := by
  unfold kernelRun1_A.sl.H8_4 kernelRun1_A.sl.v413 kernelRun1_A.sl.v411
  refine (canonB rfl _ _ _ e k).trans ((dwbPay4 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 512 rfl _ _ e k

theorem dwbList5 (e : Fin 128) (k : Fin 1024) :
    View.canon (kernelRun1_A.sl.H8_5 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) = View.canon (kernelRun1_A.sl.H8_4 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (768 + a) := by
  unfold kernelRun1_A.sl.H8_5 kernelRun1_A.sl.r_38 kernelRun1_A.sl.v429 kernelRun1_A.sl.v427
  refine (canonB rfl _ _ _ e k).trans ((dwbPay5 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 768 rfl _ _ e k

theorem dwbList6 (e : Fin 128) (k : Fin 1024) :
    View.canon (kernelRun1_A.sl.H8_6 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) = View.canon (kernelRun1_A.sl.H8_5 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (1024 + a) := by
  unfold kernelRun1_A.sl.H8_6 kernelRun1_A.sl.v445 kernelRun1_A.sl.v443
  refine (canonB rfl _ _ _ e k).trans ((dwbPay6 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 1024 rfl _ _ e k

theorem dwbList7 (e : Fin 128) (k : Fin 1024) :
    View.canon (kernelRun1_A.sl.H8_7 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) = View.canon (kernelRun1_A.sl.H8_6 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (1280 + a) := by
  unfold kernelRun1_A.sl.H8_7 kernelRun1_A.sl.r_39 kernelRun1_A.sl.r_40 kernelRun1_A.sl.v461 kernelRun1_A.sl.v459
  refine (canonB rfl _ _ _ e k).trans ((dwbPay7 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 1280 rfl _ _ e k

theorem dwbList8 (e : Fin 128) (k : Fin 1024) :
    View.canon (kernelRun1_A.sl.H8_8 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) = View.canon (kernelRun1_A.sl.H8_7 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (1536 + a) := by
  unfold kernelRun1_A.sl.H8_8 kernelRun1_A.sl.v477 kernelRun1_A.sl.v475
  refine (canonB rfl _ _ _ e k).trans ((dwbPay8 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 1536 rfl _ _ e k

theorem dwbList9 (e : Fin 128) (k : Fin 1024) :
    View.canon (kernelRun1_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6).2.1 (ix3 0 e k) = View.canon (kernelRun1_A.sl.H8_8 (F := Ideal) c i arg1 harg1 arg2 harg2 arg3 harg3 arg4 harg4 arg5 harg5 arg6 harg6 arg7 harg7 arg8 harg8 arg9 harg9 arg10 harg10 arg11 harg11 arg12 harg12 x0 x2 x3 x4 x5 x6) (ix3 0 e k) + ∑ a ∈ Finset.range 256, dwbTerm x0 (View.canon (adjL c i arg1 harg1 arg2 harg2 arg3 harg3 arg4 harg4 arg5 harg5 arg6 harg6 arg7 harg7 arg8 harg8 arg9 harg9 arg10 harg10 arg11 harg11 arg12 harg12 x2 x3 x4 x5 x6)) e k (1792 + a) := by
  unfold kernelRun1_A kernelRun1_A.sl.v493 kernelRun1_A.sl.v491
  refine (canonB rfl _ _ _ e k).trans ((dwbPay9 _ _ _ e k).trans (congrArg₂ (· + ·) (readB arg9 _ _ e k) ?_))
  exact dwb_sum arg1 harg1 arg12 x0 (adjL c i arg1 harg1 arg2 harg2 arg3 harg3 arg4 harg4 arg5 harg5 arg6 harg6 arg7 harg7 arg8 harg8 arg9 harg9 arg10 harg10 arg11 harg11 arg12 harg12 x2 x3 x4 x5 x6) 1792 rfl _ _ e k

/-- The block of `dwb`: the transpose of `u` times the adjoint states. -/
theorem dwb1 (e : Fin 128) (k : Fin 1024) :
    out1_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 e k) = ∑ r : Fin 2048, x0 (ix2 r e) * View.canon (adjL c i arg1 harg1 arg2 harg2 arg3 harg3 arg4 harg4 arg5 harg5 arg6 harg6 arg7 harg7 arg8 harg8 arg9 harg9 arg10 harg10 arg11 harg11 arg12 harg12 x2 x3 x4 x5 x6) (ix2 r k) := by
  unfold out1_A_8
  rw [View.read_writes_junk_eq_canon]
  rw [dwbList9, dwbList8, dwbList7, dwbList6, dwbList5, dwbList4, dwbList3, dwbList2]
  have h1 : View.canon (kernelRun1_A.sl.H8_1 (F := Ideal)) (ix3 0 e k) = 0 := by
    unfold kernelRun1_A.sl.H8_1
    rw [canonB rfl]
    pointwise [k1_pay99]
  rw [h1, sum_parts, Finset.sum_range]
  exact Finset.sum_congr rfl fun r _ => by rw [dwbTerm, dif_pos r.isLt]

/-- The rows of `du`, from the adjoint states. -/
def duG (S : S2048x1024.Idx → EReal) (w : Vec Ideal S1x128x1024 .bf16) : S2048x128.Idx → EReal :=
  fun y => ∑ k : Fin 1024, S (ix2 (y 0) k) * w (ix3 0 (y 1) k)

theorem du_piece (S : List (View.Piece (Elt Ideal) S2048x1024 .f32)) (off : Fin 2 → ℕ) (o : ℕ) (ho : off = ![o, 0])
    (inb : ∀ a : Fin 2, off a + S256x1024.size a ≤ S2048x1024.size a) (inb' : ∀ a : Fin 2, off a + S256x128.size a ≤ S2048x128.size a)
    (x : (Rect.unit (s := S2048x128) off S256x128.size inb').shape.Idx) :
    k1_pay3 (F := Ideal) (arg12.view.readCov S (Rect.unit (s := S2048x1024) off S256x1024.size inb).toLoadRect)
        (View.readAt (Elt Ideal) arg2.view (Rect.unit ![0, 0, 0] S1x128x1024.size inb_S1x128x1024_S1x128x1024_0_0_0).toLoadRect (harg2.unread x1)) x
      = duG (View.canon S) x1 ((Rect.unit (s := S2048x128) off S256x128.size inb').emb x) := by
  refine piece128 (duG (View.canon S) x1) o ho inb' _ (fun a k r hr => ?_) x
  rw [du_apply, ld_whole3 harg2 x1 (by decide)]
  refine Finset.sum_congr rfl fun q _ => ?_
  rw [View.readCov_eq_canon']
  refine congrArg (· * _) (congrArg (View.canon S) (funext fun p => Fin.ext ?_))
  subst ho
  match p with
  | ⟨0, _⟩ => show o + 1 * a.val = r.val; omega
  | ⟨1, _⟩ => show 0 + 1 * q.val = q.val; omega

/-- The block of `du`: the adjoint states times the transpose of `wb`. -/
theorem du1 (y : S2048x128.Idx) :
    out1_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 y = duG (View.canon (adjL c i arg1 harg1 arg2 harg2 arg3 harg3 arg4 harg4 arg5 harg5 arg6 harg6 arg7 harg7 arg8 harg8 arg9 harg9 arg10 harg10 arg11 harg11 arg12 harg12 x2 x3 x4 x5 x6)) x1 y := by
  unfold out1_A_7
  rw [View.read_writes_junk_eq_canon]
  refine View.canon_apply_of_pieces _ _ ?_ y (cover1_A_7 c i arg1 harg1 arg2 harg2 arg3 harg3 arg4 harg4 arg5 harg5 arg6 harg6 arg7 harg7 arg8 harg8 arg9 harg9 arg10 harg10 arg11 harg11 arg12 harg12 x0 x1 x2 x3 x4 x5 x6 y)
  have key := du_piece arg2 harg2 arg12 x1 (adjL c i arg1 harg1 arg2 harg2 arg3 harg3 arg4 harg4 arg5 harg5 arg6 harg6 arg7 harg7 arg8 harg8 arg9 harg9 arg10 harg10 arg11 harg11 arg12 harg12 x2 x3 x4 x5 x6)
  unfold kernelRun1_A
  dsimp only
  simp only [List.forall_mem_cons]
  exact ⟨key _ _ rfl _ _, key _ _ rfl _ _, key _ _ rfl _ _, key _ _ rfl _ _, key _ _ rfl _ _, key _ _ rfl _ _, key _ _ rfl _ _,
    key _ _ rfl _ _, fun _ h => absurd h List.not_mem_nil⟩

variable (C D : ℕ → ℕ → ℝ) (L : ℕ → ℂ) (X E : ℕ → ℕ → ℂ)

/-- The sum of the adjoint states' products, over all rows of one segment. -/
def lamSeg (A : ℕ → ℂ) (e : ℂ) (x : ℕ → ℂ) (s : ℕ) : ℂ :=
  ∑ j ∈ Finset.range 256, A (8 * j + s) * (starRingEnd ℂ) (before e x s j)

/-- The block of `dlam`. -/
theorem dlam1 (hC : ∀ (k : Fin 1024) (c : Fin 128), x2 (ix3 0 k c) = up (C k c))
    (hD : ∀ (r : Fin 2048) (c : Fin 128), x4 (ix2 r c) = up (D r c))
    (hL : ∀ n : Fin 512, Is (x3 (ix3 0 0 (lo n))) (x3 (ix3 0 0 (hi n))) (L n))
    (hX : ∀ (r : Fin 2048) (n : Fin 512), Is (x5 (ix2 r (lo n))) (x5 (ix2 r (hi n))) (X r n))
    (hE : ∀ (s : Fin 8) (n : Fin 512), Is (x6 (ix3 0 s (lo n))) (x6 (ix3 0 s (hi n))) (E s n))
    (s : Fin 8) (n : Fin 512) :
    Is (out1_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 s (lo n))) (out1_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix3 0 s (hi n)))
      (∑ q : Fin 8, lamSeg (fun r => adjAt ((starRingEnd ℂ) (L n)) (fun r => pull D C r n) (r % 8) (256 - r / 8)) (E q n) (fun r => X r n) q) := by
  have key := btrip3 Variants.none c none i arg1 harg1 arg2 harg2 arg3 harg3 arg4 harg4 arg5 harg5 arg6 harg6 arg7 harg7 arg8 harg8 arg9 harg9 arg10 harg10 arg11 harg11 arg12 harg12 (kernelRun1_A.sl.r_2 (F := Ideal) c arg7 harg7 x6) (kernelRun1_A.sl.r_3 (F := Ideal) c arg7 harg7 x6) kernelRun1_A.sl.v158 (kernelRun1_A.sl.r_12 (F := Ideal) c arg4 harg4 x3) (kernelRun1_A.sl.r_13 (F := Ideal) c arg4 harg4 x3) (kernelRun1_A.sl.r_30 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_31 (F := Ideal) c i arg1 harg1 arg2 harg2 arg3 harg3 arg4 harg4 arg5 harg5 arg6 harg6 arg7 harg7 arg8 harg8 arg9 harg9 arg10 harg10 arg11 harg11 arg12 harg12 x2 x3 x4 x5) (kernelRun1_A.sl.r_32 (F := Ideal) c i arg1 harg1 arg2 harg2 arg3 harg3 arg4 harg4 arg5 harg5 arg6 harg6 arg7 harg7 arg8 harg8 arg9 harg9 arg10 harg10 arg11 harg11 arg12 harg12 x2 x3 x4 x5) (k1_pay84 kernelRun1_A.sl.v158) (kernelRun1_A.sl.r_33 (F := Ideal) c i arg1 harg1 arg2 harg2 arg3 harg3 arg4 harg4 arg5 harg5 arg6 harg6 arg7 harg7 arg8 harg8 arg9 harg9 arg10 harg10 arg11 harg11 arg12 harg12 x2 x3 x4 x5) (harg6.unread x5) (arg12.view.writes (Elt Ideal) arg12.view.junk (adjL c i arg1 harg1 arg2 harg2 arg3 harg3 arg4 harg4 arg5 harg5 arg6 harg6 arg7 harg7 arg8 harg8 arg9 harg9 arg10 harg10 arg11 harg11 arg12 harg12 x2 x3 x4 x5 x6))
    (fun r n => adjAt ((starRingEnd ℂ) (L n)) (fun r => pull D C r n) (r % 8) (256 - r / 8)) X E
    (fun r n => by rw [View.read_writes_junk_eq_canon]; exact adj1 c i arg1 harg1 arg2 harg2 arg3 harg3 arg4 harg4 arg5 harg5 arg6 harg6 arg7 harg7 arg8 harg8 arg9 harg9 arg10 harg10 arg11 harg11 arg12 harg12 x2 x3 x4 x5 x6 C D L hC hD hL r n)
    (fun r n => by rw [harg6.read_unread]; exact hX r n)
    (fun s n => by
      unfold kernelRun1_A.sl.r_2 kernelRun1_A.sl.r_3
      rw [bpay6_apply, bpay7_apply]
      refine (hE s n).congr ?_ ?_ rfl
      · exact ld_ent harg7 x6 0 rfl _ s n (lo n) (Nat.zero_add _).symm
      · exact ld_ent harg7 x6 512 rfl _ s n (hi n) rfl) 256 le_rfl
  unfold out1_A_10
  rw [View.read_writes_junk_eq_canon]
  unfold kernelRun1_A
  dsimp only
  refine (Is.sum Finset.univ _ _ _ fun q _ => (key q n).1).congr ?_ ?_ rfl
  · exact (ent_lo _ _ s n).trans (bpay97_apply _ s n)
  · exact (ent_hi _ _ s n).trans (bpay98_apply _ s n)

end

end Cert.S5

end
-- ==== Proof.KMath.lean ====
/-
  The kernel's layout and the closed form.

  Row `r = 8 i + s` of a block is time `256 s + i`; state `n` of block `j` is state `n % 64` of group `8 j + n / 64`. In
  this layout the segments' runs are pieces of the whole runs, and the block-diagonal products are sums within a group.
-/
module

public import proofs.«01_k».proof.Proof.Closed
public import proofs.«01_k».proof.Proof.KBody2

@[expose] public section

noncomputable section

namespace Cert.S5

open scoped BigOperators

/-! ## Sums over a product layout -/

/-- A sum over `a * b` places as a double sum. -/
theorem sum_prod_fin {M : Type*} [AddCommMonoid M] (a b : ℕ) (f : ℕ → M) :
    ∑ k : Fin (a * b), f k = ∑ x : Fin a, ∑ y : Fin b, f (x * b + y) := by
  rw [← Fintype.sum_prod_type' (f := fun (x : Fin a) (y : Fin b) => f (x * b + y))]
  refine (Fintype.sum_equiv finProdFinEquiv _ _ fun x => ?_).symm
  congr 1
  show x.1.val * b + x.2.val = x.2.val + b * x.1.val
  rw [mul_comm, add_comm]

/-- Only the places of one group contribute. -/
theorem sum_group (a b : ℕ) (hb : 0 < b) (g : ℕ) (hg : g < a) (f : ℕ → ℝ) :
    ∑ k : Fin (a * b), (if k.val / b = g then f k else 0) = ∑ y : Fin b, f (g * b + y) := by
  rw [sum_prod_fin a b fun k => if k / b = g then f k else 0]
  rw [Finset.sum_eq_single (⟨g, hg⟩ : Fin a)]
  · refine Finset.sum_congr rfl fun y _ => ?_
    rw [if_pos]
    show (g * b + y.val) / b = g
    rw [mul_comm, Nat.mul_add_div hb, Nat.div_eq_of_lt y.isLt, add_zero]
  · intro x _ hx
    refine Finset.sum_eq_zero fun y _ => if_neg fun h => hx (Fin.ext ?_)
    rw [mul_comm, Nat.mul_add_div hb, Nat.div_eq_of_lt y.isLt, add_zero] at h
    exact h
  · intro h; exact absurd (Finset.mem_univ _) h

/-- The time of row `r`. -/
def tm (r : ℕ) : ℕ := r % 8 * 256 + r / 8

theorem tm_row (i s : ℕ) (hs : s < 8) : tm (8 * i + s) = s * 256 + i := by unfold tm; omega

theorem sum_seg {M : Type*} [AddCommMonoid M] (f : ℕ → M) :
    ∑ q : Fin 8, ∑ j ∈ Finset.range 256, f (q * 256 + j) = ∑ t ∈ Finset.range 2048, f t := by
  rw [Finset.sum_range (n := 2048), show (2048 : ℕ) = 8 * 256 from rfl, sum_prod_fin 8 256 f]
  exact Finset.sum_congr rfl fun q _ => Finset.sum_range _

/-- A sum over the rows of a block is a sum over time. -/
theorem sum_rows {M : Type*} [AddCommMonoid M] (f : ℕ → M) : ∑ r : Fin 2048, f (tm r) = ∑ t ∈ Finset.range 2048, f t := by
  rw [← sum_seg f]
  refine (sum_prod_fin 256 8 fun r => f (tm r)).trans ?_
  rw [Finset.sum_comm]
  refine Finset.sum_congr rfl fun s _ => ?_
  rw [Finset.sum_range]
  refine Finset.sum_congr rfl fun i _ => ?_
  rw [mul_comm, tm_row _ _ s.isLt]

/-! ## The segments -/

theorem entryOf_congr (l : ℂ) (n : ℕ) {f g : ℕ → ℂ} : ∀ s, (∀ q < s, f q = g q) → entryOf l n f s = entryOf l n g s
  | 0, _ => rfl
  | s + 1, h => by rw [entryOf, entryOf, entryOf_congr l n s fun q hq => h q (by omega), h s (by omega)]

theorem segFin_eq (l : ℂ) (b : ℕ → ℂ) (s : ℕ) (hs : s < 8) :
    segFin (fun i => i) l (fun r => b (tm r)) s = scan l (fun i => b (s * 256 + i)) 0 256 :=
  scan_congr _ _ _ fun i _ => by show b (tm (8 * i + s)) = _; rw [tm_row _ _ hs]

theorem segEnt_eq (l : ℂ) (b : ℕ → ℂ) (s : ℕ) (hs : s < 8) :
    segEnt (fun i => i) l (fun r => b (tm r)) s = scan l b 0 (s * 256) := by
  unfold segEnt
  rw [← entryOf_eq]
  exact entryOf_congr _ _ _ fun q hq => segFin_eq l b q (by omega)

theorem segAt_eq (l : ℂ) (b : ℕ → ℂ) (s : ℕ) (hs : s < 8) (k : ℕ) :
    segAt (fun i => i) l (fun r => b (tm r)) s k = scan l b 0 (s * 256 + k) := by
  unfold segAt
  rw [segEnt_eq l b s hs, scan_add]
  exact scan_congr _ _ _ fun i _ => by show b (tm (8 * i + s)) = _; rw [tm_row _ _ hs]

theorem rev_segFin_eq (l : ℂ) (b : ℕ → ℂ) (q : ℕ) (hq : q < 8) :
    segFin rev l (fun r => b (tm r)) (7 - q) = scan l (fun i => b (2047 - (q * 256 + i))) 0 256 :=
  scan_congr _ _ _ fun i hi => by
    show b (tm (8 * rev i + (7 - q))) = _
    rw [tm_row _ _ (by omega)]; unfold rev
    congr 1; omega

theorem adjEnt_eq (l : ℂ) (b : ℕ → ℂ) (s : ℕ) (hs : s < 8) :
    adjEnt l (fun r => b (tm r)) s = scan l (fun i => b (2047 - i)) 0 ((7 - s) * 256) := by
  unfold adjEnt
  rw [← entryOf_eq]
  exact entryOf_congr _ _ _ fun q hq => rev_segFin_eq l b q (by omega)

theorem adjAt_eq (l : ℂ) (b : ℕ → ℂ) (s : ℕ) (hs : s < 8) (k : ℕ) (hk : k ≤ 256) :
    adjAt l (fun r => b (tm r)) s k = scan l (fun i => b (2047 - i)) 0 ((7 - s) * 256 + k) := by
  unfold adjAt
  rw [adjEnt_eq l b s hs, scan_add]
  refine scan_congr _ _ _ fun i hi => ?_
  show b (tm (8 * rev i + s)) = _
  rw [tm_row _ _ hs]; unfold rev
  congr 1; omega

/-! ## One block -/

variable (D : Data) (j : ℕ)

def gs (n : ℕ) : Fin 64 := Fin.ofNat 64 (8 * j + n / 64)
def ps (n : ℕ) : Fin 64 := Fin.ofNat 64 (n % 64)
def gl (c : ℕ) : Fin 64 := Fin.ofNat 64 (8 * j + c / 16)
def cl (c : ℕ) : Fin 16 := Fin.ofNat 16 (c % 16)

/-- The block's columns of `u` and of `dy`, -/
def Uk (r c : ℕ) : ℝ := D.u (tm r) (Fin.ofNat 1024 (128 * j + c))
def Yk (r c : ℕ) : ℝ := D.dy (tm r) (Fin.ofNat 1024 (128 * j + c))
/-- its input map, -/
def Bk (c k : ℕ) : ℝ :=
  if c / 16 = k % 512 / 64 then (if k < 512 then D.br (gl j c) (ps k) (cl c) else D.bi (gl j c) (ps k) (cl c)) else 0
/-- its output map, -/
def Ck (k c : ℕ) : ℝ :=
  if c / 16 = k % 512 / 64 then (if k < 512 then D.cr (gl j c) (cl c) (ps k) else -D.ci (gl j c) (cl c) (ps k)) else 0
/-- and its eigenvalues. -/
def Lk (n : ℕ) : ℂ := D.l (gs j n) (ps n)

theorem col_eq (hj : j < 8) (n : ℕ) (hn : n < 512) (ch : Fin 16) :
    Fin.ofNat 1024 (128 * j + (n / 64 * 16 + ch.val)) = gch (gs j n) ch := by
  apply Fin.ext
  show (128 * j + (n / 64 * 16 + ch.val)) % 1024 = (8 * j + n / 64) % 64 * 16 + ch.val
  omega

theorem gl_eq (n : ℕ) (ch : Fin 16) : gl j (n / 64 * 16 + ch.val) = gs j n := by
  unfold gl gs; congr 2; omega
theorem cl_eq (a : ℕ) (ch : Fin 16) : cl (a * 16 + ch.val) = ch := by
  apply Fin.ext; show (a * 16 + ch.val) % 16 % 16 = ch.val; omega

theorem ps_hi (n : ℕ) : ps (512 + n) = ps n := by
  unfold ps; congr 1; omega

theorem sum128 (w : ℕ → ℝ) (f : ℕ → ℝ) (a : ℕ) (ha : a < 8) :
    ∑ c : Fin 128, w c * (if c.val / 16 = a then f c else 0) = ∑ ch : Fin 16, w (a * 16 + ch) * f (a * 16 + ch) := by
  rw [← sum_group 8 16 (by omega) a ha fun c => w c * f c]
  exact Finset.sum_congr rfl fun c _ => by split <;> simp

theorem drive_eq (hj : j < 8) (r n : ℕ) (hn : n < 512) : drive (Uk D j) (Bk D j) r n = D.bu (gs j n) (ps n) (tm r) := by
  unfold drive Data.bu Bk
  congr 1
  · simp only [Nat.mod_eq_of_lt hn, if_pos hn]
    rw [sum128 (Uk D j r) (fun c => D.br (gl j c) (ps n) (cl c)) (n / 64) (by omega)]
    refine Finset.sum_congr rfl fun ch _ => ?_
    unfold Uk
    rw [col_eq j hj n hn, gl_eq, cl_eq]
  · simp only [show (512 + n) % 512 = n by omega, if_neg (show ¬ 512 + n < 512 by omega), ps_hi]
    rw [sum128 (Uk D j r) (fun c => D.bi (gl j c) (ps n) (cl c)) (n / 64) (by omega)]
    refine Finset.sum_congr rfl fun ch _ => ?_
    unfold Uk
    rw [col_eq j hj n hn, gl_eq, cl_eq]

theorem pull_eq (hj : j < 8) (r n : ℕ) (hn : n < 512) : pull (Yk D j) (Ck D j) r n = D.ct (gs j n) (ps n) (tm r) := by
  unfold pull Data.ct Ck
  congr 1
  · simp only [Nat.mod_eq_of_lt hn, if_pos hn]
    rw [sum128 (Yk D j r) (fun c => D.cr (gl j c) (cl c) (ps n)) (n / 64) (by omega)]
    refine Finset.sum_congr rfl fun ch _ => ?_
    unfold Yk
    rw [col_eq j hj n hn, gl_eq, cl_eq]
  · simp only [show (512 + n) % 512 = n by omega, if_neg (show ¬ 512 + n < 512 by omega), ps_hi]
    rw [sum128 (Yk D j r) (fun c => -D.ci (gl j c) (cl c) (ps n)) (n / 64) (by omega), ← Finset.sum_neg_distrib]
    refine Finset.sum_congr rfl fun ch _ => ?_
    unfold Yk
    rw [col_eq j hj n hn, gl_eq, cl_eq, mul_neg]

theorem drive_fun (hj : j < 8) (n : ℕ) (hn : n < 512) :
    (fun r => drive (Uk D j) (Bk D j) r n) = fun r => D.bu (gs j n) (ps n) (tm r) := funext fun r => drive_eq D j hj r n hn
theorem pull_fun (hj : j < 8) (n : ℕ) (hn : n < 512) :
    (fun r => pull (Yk D j) (Ck D j) r n) = fun r => D.ct (gs j n) (ps n) (tm r) := funext fun r => pull_eq D j hj r n hn

/-- The states, -/
theorem state_eq (hj : j < 8) (r n : ℕ) (hn : n < 512) :
    segAt (fun i => i) (Lk D j n) (fun r => drive (Uk D j) (Bk D j) r n) (r % 8) (r / 8 + 1) = D.x (gs j n) (ps n) (tm r + 1) := by
  rw [drive_fun D j hj n hn, segAt_eq _ _ _ (by omega)]
  rfl
/-- the entry states, -/
theorem entry_eq (hj : j < 8) (s n : ℕ) (hs : s < 8) (hn : n < 512) :
    segEnt (fun i => i) (Lk D j n) (fun r => drive (Uk D j) (Bk D j) r n) s = D.x (gs j n) (ps n) (s * 256) := by
  rw [drive_fun D j hj n hn, segEnt_eq _ _ _ hs]
  rfl
/-- the adjoint states, -/
theorem adj_eq (hj : j < 8) (r n : ℕ) (hr : r < 2048) (hn : n < 512) :
    adjAt ((starRingEnd ℂ) (Lk D j n)) (fun r => pull (Yk D j) (Ck D j) r n) (r % 8) (256 - r / 8) = D.adj (gs j n) (ps n) (tm r) := by
  rw [pull_fun D j hj n hn, adjAt_eq _ _ _ (by omega) _ (by omega)]
  unfold Data.adj
  rw [show (7 - r % 8) * 256 + (256 - r / 8) = 2048 - tm r by unfold tm; omega]
  rfl
/-- and the gradient of the eigenvalues. -/
theorem dlam_eq (A X : ℕ → ℂ) (E : ℕ → ℂ) (g p : Fin 64) (hA : ∀ r < 2048, A r = D.adj g p (tm r)) (hX : ∀ r < 2048, X r = D.x g p (tm r + 1))
    (hE : ∀ s < 8, E s = D.x g p (s * 256)) : ∑ q : Fin 8, lamSeg A (E q) X q = D.dl g p := by
  unfold Data.dl
  rw [← sum_seg]
  refine Finset.sum_congr rfl fun q _ => ?_
  unfold lamSeg
  refine Finset.sum_congr rfl fun i hi => ?_
  have hi' := Finset.mem_range.mp hi
  have hq := q.isLt
  rw [hA _ (by omega), tm_row _ _ hq]
  congr 2
  cases i with
  | zero => exact hE q hq
  | succ i =>
    show X (8 * i + q) = _
    rw [hX _ (by omega), tm_row _ _ hq]
    rfl

theorem sum512 (w f : ℕ → ℝ) (a : ℕ) (ha : a < 8) :
    ∑ n : Fin 512, w n * (if a = n.val / 64 then f n else 0) = ∑ p : Fin 64, w (a * 64 + p) * f (a * 64 + p) := by
  rw [← sum_group 8 64 (by omega) a ha fun c => w c * f c]
  exact Finset.sum_congr rfl fun c _ => by simp only [eq_comm (a := a)]; split <;> simp

theorem gs_eq (c : ℕ) (p : Fin 64) : gs j (c / 16 * 64 + p.val) = gl j c := by
  unfold gl gs; congr 2; omega
theorem ps_eq (a : ℕ) (p : Fin 64) : ps (a * 64 + p.val) = p := by
  apply Fin.ext; show (a * 64 + p.val) % 64 % 64 = p.val; omega

/-- A column of the outputs. -/
theorem y_eq (t c : ℕ) (hc : c < 128) :
    ∑ n : Fin 512, (D.x (gs j n) (ps n) (t + 1)).re * Ck D j n c + ∑ n : Fin 512, (D.x (gs j n) (ps n) (t + 1)).im * Ck D j (512 + n) c
      = D.y t (gl j c) (cl c) := by
  unfold Data.y Ck
  rw [sub_eq_add_neg]
  congr 1
  · refine Eq.trans ?_ ((sum512 (fun n => (D.x (gs j n) (ps n) (t + 1)).re) (fun n => D.cr (gl j c) (cl c) (ps n)) (c / 16) (by omega)).trans ?_)
    · exact Finset.sum_congr rfl fun n _ => by rw [Nat.mod_eq_of_lt n.isLt, if_pos n.isLt]
    · exact Finset.sum_congr rfl fun p _ => by rw [gs_eq, ps_eq]
  · rw [← Finset.sum_neg_distrib]
    refine Eq.trans ?_ ((sum512 (fun n => (D.x (gs j n) (ps n) (t + 1)).im) (fun n => -D.ci (gl j c) (cl c) (ps n)) (c / 16) (by omega)).trans ?_)
    · exact Finset.sum_congr rfl fun n _ => by rw [show (512 + n.val) % 512 = n.val by omega, if_neg (show ¬ 512 + n.val < 512 by omega), ps_hi]
    · exact Finset.sum_congr rfl fun p _ => by rw [gs_eq, ps_eq, mul_neg]

/-- A column of the inputs' cotangents. -/
theorem du_eq (t c : ℕ) (hc : c < 128) :
    ∑ n : Fin 512, (D.adj (gs j n) (ps n) t).re * Bk D j c n + ∑ n : Fin 512, (D.adj (gs j n) (ps n) t).im * Bk D j c (512 + n)
      = D.du t (gl j c) (cl c) := by
  unfold Data.du Bk
  congr 1
  · refine Eq.trans ?_ ((sum512 (fun n => (D.adj (gs j n) (ps n) t).re) (fun n => D.br (gl j c) (ps n) (cl c)) (c / 16) (by omega)).trans ?_)
    · exact Finset.sum_congr rfl fun n _ => by rw [Nat.mod_eq_of_lt n.isLt, if_pos n.isLt]
    · exact Finset.sum_congr rfl fun p _ => by rw [gs_eq, ps_eq]
  · refine Eq.trans ?_ ((sum512 (fun n => (D.adj (gs j n) (ps n) t).im) (fun n => D.bi (gl j c) (ps n) (cl c)) (c / 16) (by omega)).trans ?_)
    · exact Finset.sum_congr rfl fun n _ => by rw [show (512 + n.val) % 512 = n.val by omega, if_neg (show ¬ 512 + n.val < 512 by omega), ps_hi]
    · exact Finset.sum_congr rfl fun p _ => by rw [gs_eq, ps_eq]

end Cert.S5

end
-- ==== Proof.KHost.lean ====
/-
  What the host operations before the first call, and between the two calls, leave in the calls' input arrays: the rows
  by segments, the groups' matrices in blocks, the eigenvalues once for each segment.
-/
module

public import proofs.«01_k».proof.Proof.Gen.KernelIdeal.Frame
public import proofs.«01_k».proof.Proof.KMath
public import Idealize.ShloMosaic.Lib.Pointwise
public import Idealize.ShloMosaic.Lib.StableHlo.ReadAt

@[expose] public section

set_option maxRecDepth 16384

noncomputable section

namespace Cert.S5

open Cert.KernelIdeal Cert.KernelIdeal.Gen
open Idealize.ShloMosaic Idealize.ShloMosaic.TcCoe Idealize.ShloMosaic.Tactic
open Idealize.ShloMosaic.StableHlo
open scoped BigOperators

/-- The argument arrays hold the data. -/
structure Inp (V : Valuation τ sig (Elt Ideal)) (D : Data) : Prop where
  u : ∀ (t : Fin 2048) n, (V (Proc.devRef .tc main_arg0) : S2048x1024.Idx → EReal) (ix2 t n) = up (D.u t n)
  l : ∀ g p, Is ((V (Proc.devRef .tc main_arg1) : S64x64.Idx → EReal) (ix2 g p)) ((V (Proc.devRef .tc main_arg2) : S64x64.Idx → EReal) (ix2 g p)) (D.l g p)
  br : ∀ g p ch, (V (Proc.devRef .tc main_arg3) : S64x64x16.Idx → EReal) (ix3 g p ch) = up (D.br g p ch)
  bi : ∀ g p ch, (V (Proc.devRef .tc main_arg4) : S64x64x16.Idx → EReal) (ix3 g p ch) = up (D.bi g p ch)
  cr : ∀ g ch p, (V (Proc.devRef .tc main_arg5) : S64x16x64.Idx → EReal) (ix3 g ch p) = up (D.cr g ch p)
  ci : ∀ g ch p, (V (Proc.devRef .tc main_arg6) : S64x16x64.Idx → EReal) (ix3 g ch p) = up (D.ci g ch p)
  dy : ∀ (t : Fin 2048) n, (V (Proc.devRef .tc main_arg7) : S2048x1024.Idx → EReal) (ix2 t n) = up (D.dy t n)

theorem eye_word : ∀ a b : Fin 8, IntOp.cmpi .eq (IntOp.addi (BitVec.ofNat 32 a.val) 0#32) (BitVec.ofNat 32 b.val) = if a.val = b.val then 1#1 else 0#1 := by decide
/-- An entry of the identity that the kernel multiplies by to lay the groups' matrices out in blocks. -/
theorem eye_val (a b : ℕ) (ha : a < 8) (hb : b < 8) :
    FloatOps.uitofp (F := Ideal) .f32 (IntOp.cmpi .eq (IntOp.addi (BitVec.ofNat 32 a) 0#32) (BitVec.ofNat 32 b)) = up (if a = b then 1 else 0) := by
  rw [eye_word ⟨a, ha⟩ ⟨b, hb⟩]
  show (((if a = b then 1#1 else 0#1 : BitVec 1).toNat : ℝ) : EReal) = _
  split <;> simp [up]
theorem up_mask (P : Prop) [Decidable P] (a : ℝ) : up a * up (if P then 1 else 0) = up (if P then a else 0) := by
  split <;> simp [up]

theorem gl_mk (j : Fin 8) (c : ℕ) (hc : c < 128) (h : j.val * 8 + c / 16 < 64) : (⟨j.val * 8 + c / 16, h⟩ : Fin 64) = gl j c :=
  Fin.ext (by show j.val * 8 + c / 16 = (8 * j.val + c / 16) % 64; omega)
theorem gs_mk (j : Fin 8) (n : ℕ) (hn : n < 512) (h : j.val * 8 + n / 64 < 64) : (⟨j.val * 8 + n / 64, h⟩ : Fin 64) = gs j n :=
  Fin.ext (by show j.val * 8 + n / 64 = (8 * j.val + n / 64) % 64; omega)
theorem ps_mk (n : ℕ) (h : n % 64 < 64) : (⟨n % 64, h⟩ : Fin 64) = ps n := Fin.ext (by show n % 64 = n % 64 % 64; omega)
theorem cl_mk (n : ℕ) (h : n % 16 < 16) : (⟨n % 16, h⟩ : Fin 16) = cl n := Fin.ext (by show n % 16 = n % 16 % 16; omega)
theorem gs_gl (j : Fin 8) (c n : ℕ) (h : c / 16 = n / 64) : gs j n = gl j c := by unfold gs gl; rw [h]
theorem ps_lo (n : ℕ) (h : ¬ n < 512) : ps (n - 512) = ps n := by unfold ps; congr 1; omega

variable (V : Valuation τ sig (Elt Ideal)) (D : Data) (h : Inp V D)
include h

/-! ## Before the first call -/

theorem pre_v49 (j : Fin 8) (r : Fin 2048) (c : Fin 128) : (after hostOps0 V (Proc.devRef .tc main_v49) : S2048x1024.Idx → EReal) (ix2 r (⟨128 * j.val + c.val, by omega⟩ : Fin 1024)) = up (Uk D j r c) := by
  after_reads_at
  rw [h.u]
  unfold Uk tm
  congr 2
  exact Fin.ext (by show 128 * j.val + c.val = (128 * j.val + c.val) % 1024; omega)
theorem pre_v53 (j : Fin 8) (r : Fin 2048) (c : Fin 128) : (after hostOps0 V (Proc.devRef .tc main_v53) : S2048x1024.Idx → EReal) (ix2 r (⟨128 * j.val + c.val, by omega⟩ : Fin 1024)) = up (Yk D j r c) := by
  after_reads_at
  rw [h.dy]
  unfold Yk tm
  congr 2
  exact Fin.ext (by show 128 * j.val + c.val = (128 * j.val + c.val) % 1024; omega)
theorem pre_v13 (j : Fin 8) (c : Fin 128) (k : Fin 512) : (upto hostOps0 V 23 (Proc.devRef .tc main_v13) : S1x8x128x512.Idx → EReal) (ix4 0 j c k)
    = up (if c.val / 16 = k.val / 64 then D.br (gl j c) (ps k) (cl c) else 0) := by
  after_reads_at
  refine Eq.trans (congrArg₂ (fun a b : EReal => a * b) (h.br _ _ _) (eye_val (c.val / 16) (k.val / 64) (by omega) (by omega))) ?_
  rw [up_mask, gl_mk _ _ c.isLt, ps_mk, cl_mk]
theorem pre_v21 (j : Fin 8) (c : Fin 128) (k : Fin 512) : (upto hostOps0 V 23 (Proc.devRef .tc main_v21) : S1x8x128x512.Idx → EReal) (ix4 0 j c k)
    = up (if c.val / 16 = k.val / 64 then D.bi (gl j c) (ps k) (cl c) else 0) := by
  after_reads_at
  refine Eq.trans (congrArg₂ (fun a b : EReal => a * b) (h.bi _ _ _) (eye_val (c.val / 16) (k.val / 64) (by omega) (by omega))) ?_
  rw [up_mask, gl_mk _ _ c.isLt, ps_mk, cl_mk]
theorem pre_v31 (j : Fin 8) (k : Fin 512) (c : Fin 128) : (upto hostOps0 V 42 (Proc.devRef .tc main_v31) : S1x8x512x128.Idx → EReal) (ix4 0 j k c)
    = up (if c.val / 16 = k.val / 64 then D.cr (gl j c) (cl c) (ps k) else 0) := by
  after_reads_at
  refine Eq.trans (congrArg₂ (fun a b : EReal => a * b) (h.cr _ _ _) (eye_val (k.val / 64) (c.val / 16) (by omega) (by omega))) ?_
  rw [up_mask, gs_mk _ _ k.isLt, ps_mk, cl_mk]
  congr 1
  by_cases e : c.val / 16 = k.val / 64
  · rw [if_pos e, if_pos e.symm, gs_gl j _ _ e]
  · rw [if_neg e, if_neg fun e' => e e'.symm]
theorem pre_v39 (j : Fin 8) (k : Fin 512) (c : Fin 128) : (upto hostOps0 V 42 (Proc.devRef .tc main_v39) : S1x8x512x128.Idx → EReal) (ix4 0 j k c)
    = up (if c.val / 16 = k.val / 64 then D.ci (gl j c) (cl c) (ps k) else 0) := by
  after_reads_at
  refine Eq.trans (congrArg₂ (fun a b : EReal => a * b) (h.ci _ _ _) (eye_val (k.val / 64) (c.val / 16) (by omega) (by omega))) ?_
  rw [up_mask, gs_mk _ _ k.isLt, ps_mk, cl_mk]
  congr 1
  by_cases e : c.val / 16 = k.val / 64
  · rw [if_pos e, if_pos e.symm, gs_gl j _ _ e]
  · rw [if_neg e, if_neg fun e' => e e'.symm]
omit h in
theorem neg_v40 (j : Fin 8) (k : Fin 512) (c : Fin 128) : (upto hostOps0 V 42 (Proc.devRef .tc main_v40) : S1x8x512x128.Idx → EReal) (ix4 0 j k c)
    = Neg.neg (α := EReal) ((upto hostOps0 V 42 (Proc.devRef .tc main_v39) : S1x8x512x128.Idx → EReal) (ix4 0 j k c)) := by
  after_reads_at
theorem pre_v40 (j : Fin 8) (k : Fin 512) (c : Fin 128) : (upto hostOps0 V 42 (Proc.devRef .tc main_v40) : S1x8x512x128.Idx → EReal) (ix4 0 j k c)
    = up (if c.val / 16 = k.val / 64 then -D.ci (gl j c) (cl c) (ps k) else 0) := by
  rw [neg_v40, pre_v39 V D h]
  refine (EReal.coe_neg _).symm.trans ?_
  congr 1
  split
  · rfl
  · exact neg_zero
theorem both_in (j : Fin 8) (c : Fin 128) (k : Fin 1024) :
    (if hk : k.val < 512 then (upto hostOps0 V 23 (Proc.devRef .tc main_v13) : S1x8x128x512.Idx → EReal) (ix4 0 j c ⟨k.val, hk⟩)
      else (upto hostOps0 V 23 (Proc.devRef .tc main_v21) : S1x8x128x512.Idx → EReal) (ix4 0 j c ⟨k.val - 512, by omega⟩)) = up (Bk D j c k) := by
  unfold Bk
  split
  · rw [pre_v13 V D h, Nat.mod_eq_of_lt (show k.val < 512 by assumption)]
  · rw [pre_v21 V D h]
    show up (if c.val / 16 = (k.val - 512) / 64 then D.bi (gl j c) (ps (k.val - 512)) (cl c) else 0) = _
    rw [ps_lo _ (by assumption), show k.val - 512 = k.val % 512 by omega]
theorem both_out (j : Fin 8) (k : Fin 1024) (c : Fin 128) :
    (if hk : k.val < 512 then (upto hostOps0 V 42 (Proc.devRef .tc main_v31) : S1x8x512x128.Idx → EReal) (ix4 0 j ⟨k.val, hk⟩ c)
      else (upto hostOps0 V 42 (Proc.devRef .tc main_v40) : S1x8x512x128.Idx → EReal) (ix4 0 j ⟨k.val - 512, by omega⟩ c)) = up (Ck D j k c) := by
  unfold Ck
  split
  · rw [pre_v31 V D h, Nat.mod_eq_of_lt (show k.val < 512 by assumption)]
  · rw [pre_v40 V D h]
    show up (if c.val / 16 = (k.val - 512) / 64 then -D.ci (gl j c) (cl c) (ps (k.val - 512)) else 0) = _
    rw [ps_lo _ (by assumption), show k.val - 512 = k.val % 512 by omega]
theorem pre_v23 (j : Fin 8) (c : Fin 128) (k : Fin 1024) : (after hostOps0 V (Proc.devRef .tc main_v23) : S1x8x128x1024.Idx → EReal) (ix4 0 j c k) = up (Bk D j c k) := by
  suffices hz : ∀ z, _ = z → (after hostOps0 V (Proc.devRef .tc main_v23) : S1x8x128x1024.Idx → EReal) (ix4 0 j c k) = z from hz _ (both_in V D h j c k)
  intro z hz
  after_reads_at
  exact hz
theorem pre_v54 (j : Fin 8) (c : Fin 128) (k : Fin 1024) : (after hostOps0 V (Proc.devRef .tc main_v54) : S8x128x1024.Idx → EReal) (ix3 j c k) = up (Bk D j c k) := by
  suffices hz : ∀ z, _ = z → (after hostOps0 V (Proc.devRef .tc main_v54) : S8x128x1024.Idx → EReal) (ix3 j c k) = z from hz _ (both_in V D h j c k)
  intro z hz
  after_reads_at
  exact hz
theorem pre_v42 (j : Fin 8) (k : Fin 1024) (c : Fin 128) : (after hostOps0 V (Proc.devRef .tc main_v42) : S1x8x1024x128.Idx → EReal) (ix4 0 j k c) = up (Ck D j k c) := by
  suffices hz : ∀ z, _ = z → (after hostOps0 V (Proc.devRef .tc main_v42) : S1x8x1024x128.Idx → EReal) (ix4 0 j k c) = z from hz _ (both_out V D h j k c)
  intro z hz
  after_reads_at
  exact hz
theorem pre_v55 (j : Fin 8) (k : Fin 1024) (c : Fin 128) : (after hostOps0 V (Proc.devRef .tc main_v55) : S8x1024x128.Idx → EReal) (ix3 j k c) = up (Ck D j k c) := by
  suffices hz : ∀ z, _ = z → (after hostOps0 V (Proc.devRef .tc main_v55) : S8x1024x128.Idx → EReal) (ix3 j k c) = z from hz _ (both_out V D h j k c)
  intro z hz
  after_reads_at
  exact hz
omit h in
theorem pre_v43 (j : Fin 8) (k : Fin 512) : (upto hostOps0 V 46 (Proc.devRef .tc main_v43) : S1x8x1x512.Idx → EReal) (ix4 0 j 0 k)
    = (V (Proc.devRef .tc main_arg1) : S64x64.Idx → EReal) (ix2 (gs j k) (ps k)) := by
  after_reads_at
  rw [gs_mk _ _ k.isLt, ps_mk]
omit h in
theorem pre_v44 (j : Fin 8) (k : Fin 512) : (upto hostOps0 V 46 (Proc.devRef .tc main_v44) : S1x8x1x512.Idx → EReal) (ix4 0 j 0 k)
    = (V (Proc.devRef .tc main_arg2) : S64x64.Idx → EReal) (ix2 (gs j k) (ps k)) := by
  after_reads_at
  rw [gs_mk _ _ k.isLt, ps_mk]
theorem pre_v46 (j s : Fin 8) (n : Fin 512) : Is ((after hostOps0 V (Proc.devRef .tc main_v46) : S1x8x8x1024.Idx → EReal) (ix4 0 j s (lo n))) ((after hostOps0 V (Proc.devRef .tc main_v46) : S1x8x8x1024.Idx → EReal) (ix4 0 j s (hi n))) (Lk D j n) := by
  refine (h.l (gs j n) (ps n)).congr ?_ ?_ rfl
  · have e := pre_v43 V j n
    revert e
    generalize (V (Proc.devRef .tc main_arg1) : S64x64.Idx → EReal) (ix2 (gs j n) (ps n)) = z
    generalize hy : (upto hostOps0 V 46 (Proc.devRef .tc main_v43) : S1x8x1x512.Idx → EReal) = Y
    intro e
    after_reads_at
    rw [hy]
    exact e
  · have e := pre_v44 V j n
    revert e
    generalize (V (Proc.devRef .tc main_arg2) : S64x64.Idx → EReal) (ix2 (gs j n) (ps n)) = z
    generalize hy : (upto hostOps0 V 46 (Proc.devRef .tc main_v44) : S1x8x1x512.Idx → EReal) = Y
    intro e
    after_reads_at
    rw [hy]
    exact e
theorem pre_v56 (j s : Fin 8) (n : Fin 512) : Is ((after hostOps0 V (Proc.devRef .tc main_v56) : S8x8x1024.Idx → EReal) (ix3 j s (lo n))) ((after hostOps0 V (Proc.devRef .tc main_v56) : S8x8x1024.Idx → EReal) (ix3 j s (hi n))) (Lk D j n) := by
  refine (h.l (gs j n) (ps n)).congr ?_ ?_ rfl
  · have e := pre_v43 V j n
    revert e
    generalize (V (Proc.devRef .tc main_arg1) : S64x64.Idx → EReal) (ix2 (gs j n) (ps n)) = z
    generalize hy : (upto hostOps0 V 46 (Proc.devRef .tc main_v43) : S1x8x1x512.Idx → EReal) = Y
    intro e
    after_reads_at
    rw [hy]
    exact e
  · have e := pre_v44 V j n
    revert e
    generalize (V (Proc.devRef .tc main_arg2) : S64x64.Idx → EReal) (ix2 (gs j n) (ps n)) = z
    generalize hy : (upto hostOps0 V 46 (Proc.devRef .tc main_v44) : S1x8x1x512.Idx → EReal) = Y
    intro e
    after_reads_at
    rw [hy]
    exact e

/-! ## Between the calls -/

omit h
theorem mid_v58 (j : Fin 8) (c : Fin 128) (k : Fin 1024) : (after hostOps1 V (Proc.devRef .tc main_v58) : S8x128x1024.Idx → EReal) (ix3 j c k) = (V (Proc.devRef .tc main_v23) : S1x8x128x1024.Idx → EReal) (ix4 0 j c k) := by
  after_reads_at
theorem mid_v59 (j : Fin 8) (k : Fin 1024) (c : Fin 128) : (after hostOps1 V (Proc.devRef .tc main_v59) : S8x1024x128.Idx → EReal) (ix3 j k c) = (V (Proc.devRef .tc main_v42) : S1x8x1024x128.Idx → EReal) (ix4 0 j k c) := by
  after_reads_at
theorem mid_v60 (j s : Fin 8) (k : Fin 1024) : (after hostOps1 V (Proc.devRef .tc main_v60) : S8x8x1024.Idx → EReal) (ix3 j s k) = (V (Proc.devRef .tc main_v46) : S1x8x8x1024.Idx → EReal) (ix4 0 j s k) := by
  after_reads_at

end Cert.S5

end
-- ==== Proof.KFwd.lean ====
/-
  The forward call: what it reads, and that it leaves the states, the segments' entry states and the outputs of the
  recurrence.
-/
module

public import proofs.«01_k».proof.Proof.Gen.KernelIdeal.Frame
public import proofs.«01_k».proof.Proof.KRegion
public import proofs.«01_k».proof.Proof.KHost
public import Idealize.ShloMosaic.Lib.Pointwise
public import Idealize.ShloMosaic.Lib.StableHlo.ReadAt

@[expose] public section

set_option maxRecDepth 16384

noncomputable section

namespace Cert.S5

open Cert.KernelIdeal Cert.KernelIdeal.Gen
open Idealize.ShloMosaic Idealize.ShloMosaic.TcCoe Idealize.ShloMosaic.Tactic
open Idealize.ShloMosaic.StableHlo
open scoped BigOperators

/-- A sum over the columns of a block: the real parts, then the imaginary parts. -/
theorem sum_halves {M : Type*} [AddCommMonoid M] (f : Fin 1024 → M) : ∑ k : Fin 1024, f k = ∑ n : Fin 512, f (lo n) + ∑ n : Fin 512, f (hi n) :=
  Fin.sum_univ_add (a := 512) (b := 512) f

/-- A product of complex states, held by their parts, with a real matrix. -/
theorem sum_parts_up (S w : Fin 1024 → EReal) (z : Fin 512 → ℂ) (W : ℕ → ℝ) (hS : ∀ n, Is (S (lo n)) (S (hi n)) (z n)) (hw : ∀ k : Fin 1024, w k = up (W k)) :
    ∑ k : Fin 1024, S k * w k = up (∑ n : Fin 512, (z n).re * W n + ∑ n : Fin 512, (z n).im * W (512 + n)) := by
  rw [sum_halves, up, EReal.coe_add]
  congr 1
  · exact sum_mul_up _ _ _ _ (fun n => (hS n).re) (fun n => hw (lo n))
  · exact sum_mul_up _ _ _ _ (fun n => (hS n).im) (fun n => hw (hi n))

variable (m : (ℓ : Loc nD τ sig) → Buf (Elt Ideal) ℓ) (ρ : Dev nD → PrngReg) (d : Dev nD) (D : Data) (h : Inp (W0 m ρ d) D) (j : Fin 8)

theorem V1_eq (r : Ref sig .tc) : V1 m ρ d r = after hostOps0 (W0 m ρ d) (Proc.devRef .tc r) := rfl

section
include h

/-! ## The first call's input blocks -/

theorem in0_u (r : Fin 2048) (c : Fin 128) : (iblk0 (V1 m ρ) d 0 (pt0 j) : S2048x128.Idx → EReal) (ix2 r c) = up (Uk D j r c) :=
  (iblk0_0 (V1 m ρ) d j r c).trans (pre_v49 (W0 m ρ d) D h j r c)
theorem in0_b (c : Fin 128) (k : Fin 1024) : (iblk0 (V1 m ρ) d 1 (pt0 j) : S1x128x1024.Idx → EReal) (ix3 0 c k) = up (Bk D j c k) :=
  (iblk0_1 (V1 m ρ) d j c k).trans (pre_v54 (W0 m ρ d) D h j c k)
theorem in0_c (k : Fin 1024) (c : Fin 128) : (iblk0 (V1 m ρ) d 2 (pt0 j) : S1x1024x128.Idx → EReal) (ix3 0 k c) = up (Ck D j k c) :=
  (iblk0_2 (V1 m ρ) d j k c).trans (pre_v55 (W0 m ρ d) D h j k c)
theorem in0_l (n : Fin 512) : Is ((iblk0 (V1 m ρ) d 3 (pt0 j) : S1x8x1024.Idx → EReal) (ix3 0 0 (lo n))) ((iblk0 (V1 m ρ) d 3 (pt0 j) : S1x8x1024.Idx → EReal) (ix3 0 0 (hi n))) (Lk D j n) :=
  (pre_v56 (W0 m ρ d) D h j 0 n).congr (iblk0_3 (V1 m ρ) d j 0 (lo n)) (iblk0_3 (V1 m ρ) d j 0 (hi n)) rfl

/-! ## What the first call leaves -/

/-- The state after every step. -/
theorem out0_states (r : Fin 2048) (n : Fin 512) :
    Is ((outsAt0 (V1 m ρ) d (pt0 j)).2.1 (ix2 r (lo n))) ((outsAt0 (V1 m ρ) d (pt0 j)).2.1 (ix2 r (hi n))) (D.x (gs j n) (ps n) (tm r + 1)) := by
  rw [← state_eq D j j.isLt r n n.isLt]
  unfold outsAt0
  dsimp only
  exact states0 (U := Uk D j) (B := Bk D j) (L := Lk D j) (hU := in0_u m ρ d D h j) (hB := in0_b m ρ d D h j) (hL := in0_l m ρ d D h j) (r := r) (n := n) ..
/-- The state that each segment starts in. -/
theorem out0_entry (s : Fin 8) (n : Fin 512) :
    Is ((outsAt0 (V1 m ρ) d (pt0 j)).2.2 (ix3 0 s (lo n))) ((outsAt0 (V1 m ρ) d (pt0 j)).2.2 (ix3 0 s (hi n))) (D.x (gs j n) (ps n) (s.val * 256)) := by
  rw [← entry_eq D j j.isLt s n s.isLt n.isLt]
  unfold outsAt0
  dsimp only
  exact entry0_out (U := Uk D j) (B := Bk D j) (L := Lk D j) (hU := in0_u m ρ d D h j) (hB := in0_b m ρ d D h j) (hL := in0_l m ρ d D h j) (s := s) (n := n) ..
/-- The outputs. -/
theorem out0_y (r : Fin 2048) (c : Fin 128) : (outsAt0 (V1 m ρ) d (pt0 j)).1 (ix2 r c) = up (D.y (tm r) (gl j c) (cl c)) := by
  rw [← y_eq D j (tm r) c c.isLt]
  have e : (outsAt0 (V1 m ρ) d (pt0 j)).1 (ix2 r c) = outG (outsAt0 (V1 m ρ) d (pt0 j)).2.1 (iblk0 (V1 m ρ) d 2 (pt0 j)) (ix2 r c) := by
    unfold outsAt0
    dsimp only
    rw [y0]
  rw [e]
  exact sum_parts_up (fun k => (outsAt0 (V1 m ρ) d (pt0 j)).2.1 (ix2 r k)) (fun k => (iblk0 (V1 m ρ) d 2 (pt0 j) : S1x1024x128.Idx → EReal) (ix3 0 k c))
    (fun n => D.x (gs j n) (ps n) (tm r + 1)) (fun k => Ck D j k c) (fun n => out0_states m ρ d D h j r n) (fun k => in0_c m ρ d D h j k c)

end

theorem W2_0 (r : Fin 2048) (c : Fin 128) : (W2 m ρ d (Proc.devRef .tc main_v57_0) : S2048x1024.Idx → EReal) (ix2 r (col128 j c)) = (outsAt0 (V1 m ρ) d (pt0 j)).1 (ix2 r c) :=
  (congrFun (W2_arr m ρ d 4) (ix2 r (col128 j c) : S2048x1024.Idx)).trans ((arr0_4 (V1 m ρ) d j r c).trans (congrFun (after0_4 (V1 m ρ) d (pt0 j)) (ix2 r c : S2048x128.Idx)))
theorem W2_1 (r : Fin 2048) (k : Fin 1024) : (W2 m ρ d (Proc.devRef .tc main_v57_1) : S2048x8192.Idx → EReal) (ix2 r (col1024 j k)) = (outsAt0 (V1 m ρ) d (pt0 j)).2.1 (ix2 r k) :=
  (congrFun (W2_arr m ρ d 5) (ix2 r (col1024 j k) : S2048x8192.Idx)).trans ((arr0_5 (V1 m ρ) d j r k).trans (congrFun (after0_5 (V1 m ρ) d (pt0 j)) (ix2 r k : S2048x1024.Idx)))
theorem W2_2 (s : Fin 8) (k : Fin 1024) : (W2 m ρ d (Proc.devRef .tc main_v57_2) : S8x8x1024.Idx → EReal) (ix3 j s k) = (outsAt0 (V1 m ρ) d (pt0 j)).2.2 (ix3 0 s k) :=
  (congrFun (W2_arr m ρ d 6) (ix3 j s k : S8x8x1024.Idx)).trans ((arr0_6 (V1 m ρ) d j s k).trans (congrFun (after0_6 (V1 m ρ) d (pt0 j)) (ix3 0 s k : S1x8x1024.Idx)))

end Cert.S5

end
-- ==== Proof.KBwd.lean ====
/-
  The backward call: what it reads, and that it leaves the gradients of the recurrence.
-/
module

public import proofs.«01_k».proof.Proof.Gen.KernelIdeal.Frame
public import proofs.«01_k».proof.Proof.KFwd
public import Idealize.ShloMosaic.Lib.Pointwise
public import Idealize.ShloMosaic.Lib.StableHlo.ReadAt

@[expose] public section

set_option maxRecDepth 16384

noncomputable section

namespace Cert.S5

open Cert.KernelIdeal Cert.KernelIdeal.Gen
open Idealize.ShloMosaic Idealize.ShloMosaic.TcCoe Idealize.ShloMosaic.Tactic
open Idealize.ShloMosaic.StableHlo
open scoped BigOperators

variable (m : (ℓ : Loc nD τ sig) → Buf (Elt Ideal) ℓ) (ρ : Dev nD → PrngReg) (d : Dev nD) (D : Data) (h : Inp (W0 m ρ d) D) (j : Fin 8)

/-! ## What the second call finds in its arrays -/

theorem keep_v49 (i : S2048x1024.Idx) : (V3 m ρ d main_v49 : S2048x1024.Idx → EReal) i = (after hostOps0 (W0 m ρ d) (Proc.devRef .tc main_v49) : S2048x1024.Idx → EReal) i :=
  congrFun ((W3_of m ρ d main_v49 (by decide)).trans (W2_of m ρ d main_v49 (by decide))) i
theorem keep_v53 (i : S2048x1024.Idx) : (V3 m ρ d main_v53 : S2048x1024.Idx → EReal) i = (after hostOps0 (W0 m ρ d) (Proc.devRef .tc main_v53) : S2048x1024.Idx → EReal) i :=
  congrFun ((W3_of m ρ d main_v53 (by decide)).trans (W2_of m ρ d main_v53 (by decide))) i
theorem keep_v58 (c : Fin 128) (k : Fin 1024) : (V3 m ρ d main_v58 : S8x128x1024.Idx → EReal) (ix3 j c k) = (after hostOps0 (W0 m ρ d) (Proc.devRef .tc main_v23) : S1x8x128x1024.Idx → EReal) (ix4 0 j c k) :=
  (mid_v58 (W2 m ρ d) j c k).trans (congrFun (W2_of m ρ d main_v23 (by decide)) (ix4 0 j c k : S1x8x128x1024.Idx))
theorem keep_v59 (k : Fin 1024) (c : Fin 128) : (V3 m ρ d main_v59 : S8x1024x128.Idx → EReal) (ix3 j k c) = (after hostOps0 (W0 m ρ d) (Proc.devRef .tc main_v42) : S1x8x1024x128.Idx → EReal) (ix4 0 j k c) :=
  (mid_v59 (W2 m ρ d) j k c).trans (congrFun (W2_of m ρ d main_v42 (by decide)) (ix4 0 j k c : S1x8x1024x128.Idx))
theorem keep_v60 (s : Fin 8) (k : Fin 1024) : (V3 m ρ d main_v60 : S8x8x1024.Idx → EReal) (ix3 j s k) = (after hostOps0 (W0 m ρ d) (Proc.devRef .tc main_v46) : S1x8x8x1024.Idx → EReal) (ix4 0 j s k) :=
  (mid_v60 (W2 m ρ d) j s k).trans (congrFun (W2_of m ρ d main_v46 (by decide)) (ix4 0 j s k : S1x8x8x1024.Idx))

section
include h

theorem in1_u (r : Fin 2048) (c : Fin 128) : (iblk1 (V3 m ρ) d 0 (pt1 j) : S2048x128.Idx → EReal) (ix2 r c) = up (Uk D j r c) :=
  (iblk1_0 (V3 m ρ) d j r c).trans ((keep_v49 m ρ d _).trans (pre_v49 (W0 m ρ d) D h j r c))
theorem in1_b (c : Fin 128) (k : Fin 1024) : (iblk1 (V3 m ρ) d 1 (pt1 j) : S1x128x1024.Idx → EReal) (ix3 0 c k) = up (Bk D j c k) :=
  (iblk1_1 (V3 m ρ) d j c k).trans ((keep_v58 m ρ d j c k).trans (pre_v23 (W0 m ρ d) D h j c k))
theorem in1_c (k : Fin 1024) (c : Fin 128) : (iblk1 (V3 m ρ) d 2 (pt1 j) : S1x1024x128.Idx → EReal) (ix3 0 k c) = up (Ck D j k c) :=
  (iblk1_2 (V3 m ρ) d j k c).trans ((keep_v59 m ρ d j k c).trans (pre_v42 (W0 m ρ d) D h j k c))
theorem in1_l (n : Fin 512) : Is ((iblk1 (V3 m ρ) d 3 (pt1 j) : S1x8x1024.Idx → EReal) (ix3 0 0 (lo n))) ((iblk1 (V3 m ρ) d 3 (pt1 j) : S1x8x1024.Idx → EReal) (ix3 0 0 (hi n))) (Lk D j n) :=
  (pre_v46 (W0 m ρ d) D h j 0 n).congr ((iblk1_3 (V3 m ρ) d j 0 (lo n)).trans (keep_v60 m ρ d j 0 (lo n))) ((iblk1_3 (V3 m ρ) d j 0 (hi n)).trans (keep_v60 m ρ d j 0 (hi n))) rfl
theorem in1_y (r : Fin 2048) (c : Fin 128) : (iblk1 (V3 m ρ) d 4 (pt1 j) : S2048x128.Idx → EReal) (ix2 r c) = up (Yk D j r c) :=
  (iblk1_4 (V3 m ρ) d j r c).trans ((keep_v53 m ρ d _).trans (pre_v53 (W0 m ρ d) D h j r c))
omit h in
theorem in1_s (r : Fin 2048) (k : Fin 1024) : (iblk1 (V3 m ρ) d 5 (pt1 j) : S2048x1024.Idx → EReal) (ix2 r k) = (outsAt0 (V1 m ρ) d (pt0 j)).2.1 (ix2 r k) :=
  (iblk1_5 (V3 m ρ) d j r k).trans ((congrFun (W3_of m ρ d main_v57_1 (by decide)) (ix2 r (col1024 j k) : S2048x8192.Idx)).trans (W2_1 m ρ d j r k))
omit h in
theorem in1_e (s : Fin 8) (k : Fin 1024) : (iblk1 (V3 m ρ) d 6 (pt1 j) : S1x8x1024.Idx → EReal) (ix3 0 s k) = (outsAt0 (V1 m ρ) d (pt0 j)).2.2 (ix3 0 s k) :=
  (iblk1_6 (V3 m ρ) d j s k).trans ((congrFun (W3_of m ρ d main_v57_2 (by decide)) (ix3 j s k : S8x8x1024.Idx)).trans (W2_2 m ρ d j s k))
theorem in1_x (r : Fin 2048) (n : Fin 512) : Is ((iblk1 (V3 m ρ) d 5 (pt1 j) : S2048x1024.Idx → EReal) (ix2 r (lo n))) ((iblk1 (V3 m ρ) d 5 (pt1 j) : S2048x1024.Idx → EReal) (ix2 r (hi n))) (D.x (gs j n) (ps n) (tm r + 1)) :=
  (out0_states m ρ d D h j r n).congr (in1_s m ρ d j r (lo n)) (in1_s m ρ d j r (hi n)) rfl
theorem in1_x0 (s : Fin 8) (n : Fin 512) : Is ((iblk1 (V3 m ρ) d 6 (pt1 j) : S1x8x1024.Idx → EReal) (ix3 0 s (lo n))) ((iblk1 (V3 m ρ) d 6 (pt1 j) : S1x8x1024.Idx → EReal) (ix3 0 s (hi n))) (D.x (gs j n) (ps n) (s.val * 256)) :=
  (out0_entry m ρ d D h j s n).congr (in1_e m ρ d j s (lo n)) (in1_e m ρ d j s (hi n)) rfl

end

/-! ## What the second call leaves -/

/-- The adjoint states, as the body holds them. -/
def adjBlk (V : (c : Dev nD) → (r : Ref sig .tc) → r.ty.shape.Idx → Elt Ideal r.ty.elt) (t : Fin cfg1.N) : S2048x1024.Idx → EReal :=
  View.canon (adjL d (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (iblk1 V d 2 t) (iblk1 V d 3 t) (iblk1 V d 4 t) (iblk1 V d 5 t) (iblk1 V d 6 t))

theorem out1_7 (V : (c : Dev nD) → (r : Ref sig .tc) → r.ty.shape.Idx → Elt Ideal r.ty.elt) (t : Fin cfg1.N) (r : Fin 2048) (c : Fin 128) :
    (outsAt1 V d t).1 (ix2 r c) = duG (adjBlk d V t) (iblk1 V d 1 t) (ix2 r c) := by
  unfold outsAt1 adjBlk
  dsimp only
  rw [du1]
theorem out1_8 (V : (c : Dev nD) → (r : Ref sig .tc) → r.ty.shape.Idx → Elt Ideal r.ty.elt) (t : Fin cfg1.N) (e : Fin 128) (k : Fin 1024) :
    (outsAt1 V d t).2.1 (ix3 0 e k) = ∑ r : Fin 2048, HMul.hMul (α := EReal) (β := EReal) (γ := EReal) (iblk1 V d 0 t (ix2 r e)) (adjBlk d V t (ix2 r k)) := by
  unfold outsAt1 adjBlk
  dsimp only
  rw [dwb1]
theorem out1_9 (V : (c : Dev nD) → (r : Ref sig .tc) → r.ty.shape.Idx → Elt Ideal r.ty.elt) (t : Fin cfg1.N) (k : Fin 1024) (e : Fin 128) :
    (outsAt1 V d t).2.2.1 (ix3 0 k e) = ∑ r : Fin 2048, HMul.hMul (α := EReal) (β := EReal) (γ := EReal) (iblk1 V d 5 t (ix2 r k)) (iblk1 V d 4 t (ix2 r e)) := by
  unfold outsAt1
  dsimp only
  rw [dwc1]

section
include h

theorem adjBlk_is (r : Fin 2048) (n : Fin 512) :
    Is (adjBlk d (V3 m ρ) (pt1 j) (ix2 r (lo n))) (adjBlk d (V3 m ρ) (pt1 j) (ix2 r (hi n))) (D.adj (gs j n) (ps n) (tm r)) := by
  rw [← adj_eq D j j.isLt r n r.isLt n.isLt]
  unfold adjBlk
  exact adj1 (C := Ck D j) (D := Yk D j) (L := Lk D j) (hC := in1_c m ρ d D h j) (hD := in1_y m ρ d D h j) (hL := in1_l m ρ d D h j) (r := r) (n := n) ..
/-- The gradient of the inputs, -/
theorem out1_du (r : Fin 2048) (c : Fin 128) : (outsAt1 (V3 m ρ) d (pt1 j)).1 (ix2 r c) = up (D.du (tm r) (gl j c) (cl c)) := by
  rw [← du_eq D j (tm r) c c.isLt, out1_7]
  exact sum_parts_up (fun k => adjBlk d (V3 m ρ) (pt1 j) (ix2 r k)) (fun k => (iblk1 (V3 m ρ) d 1 (pt1 j) : S1x128x1024.Idx → EReal) (ix3 0 c k))
    (fun n => D.adj (gs j n) (ps n) (tm r)) (fun k => Bk D j c k) (fun n => adjBlk_is m ρ d D h j r n) (fun k => in1_b m ρ d D h j c k)
/-- of the input maps, -/
theorem out1_dbr (e : Fin 128) (n : Fin 512) : (outsAt1 (V3 m ρ) d (pt1 j)).2.1 (ix3 0 e (lo n))
    = up (∑ t ∈ Finset.range 2048, (D.adj (gs j n) (ps n) t).re * D.u t (Fin.ofNat 1024 (128 * j.val + e.val))) := by
  rw [out1_8, ← sum_rows]
  refine (sum_mul_up _ _ _ _ (fun r => in1_u m ρ d D h j r e) (fun r => (adjBlk_is m ρ d D h j r n).re)).trans ?_
  exact congrArg _ (Finset.sum_congr rfl fun r _ => mul_comm _ _)
theorem out1_dbi (e : Fin 128) (n : Fin 512) : (outsAt1 (V3 m ρ) d (pt1 j)).2.1 (ix3 0 e (hi n))
    = up (∑ t ∈ Finset.range 2048, (D.adj (gs j n) (ps n) t).im * D.u t (Fin.ofNat 1024 (128 * j.val + e.val))) := by
  rw [out1_8, ← sum_rows]
  refine (sum_mul_up _ _ _ _ (fun r => in1_u m ρ d D h j r e) (fun r => (adjBlk_is m ρ d D h j r n).im)).trans ?_
  exact congrArg _ (Finset.sum_congr rfl fun r _ => mul_comm _ _)
/-- of the output maps, -/
theorem out1_dcr (n : Fin 512) (e : Fin 128) : (outsAt1 (V3 m ρ) d (pt1 j)).2.2.1 (ix3 0 (lo n) e)
    = up (∑ t ∈ Finset.range 2048, D.dy t (Fin.ofNat 1024 (128 * j.val + e.val)) * (D.x (gs j n) (ps n) (t + 1)).re) := by
  rw [out1_9, ← sum_rows]
  refine (sum_mul_up _ _ _ _ (fun r => (in1_x m ρ d D h j r n).re) (fun r => in1_y m ρ d D h j r e)).trans ?_
  exact congrArg _ (Finset.sum_congr rfl fun r _ => mul_comm _ _)
theorem out1_dci (n : Fin 512) (e : Fin 128) : (outsAt1 (V3 m ρ) d (pt1 j)).2.2.1 (ix3 0 (hi n) e)
    = up (∑ t ∈ Finset.range 2048, D.dy t (Fin.ofNat 1024 (128 * j.val + e.val)) * (D.x (gs j n) (ps n) (t + 1)).im) := by
  rw [out1_9, ← sum_rows]
  refine (sum_mul_up _ _ _ _ (fun r => (in1_x m ρ d D h j r n).im) (fun r => in1_y m ρ d D h j r e)).trans ?_
  exact congrArg _ (Finset.sum_congr rfl fun r _ => mul_comm _ _)
/-- and of the eigenvalues. -/
theorem out1_dl (s : Fin 8) (n : Fin 512) : Is ((outsAt1 (V3 m ρ) d (pt1 j)).2.2.2 (ix3 0 s (lo n))) ((outsAt1 (V3 m ρ) d (pt1 j)).2.2.2 (ix3 0 s (hi n))) (D.dl (gs j n) (ps n)) := by
  rw [← dlam_eq D (fun r => adjAt ((starRingEnd ℂ) (Lk D j n)) (fun r => pull (Yk D j) (Ck D j) r n) (r % 8) (256 - r / 8))
    (fun r => D.x (gs j n) (ps n) (tm r + 1)) (fun s => D.x (gs j n) (ps n) (s * 256)) (gs j n) (ps n)
    (fun r hr => adj_eq D j j.isLt r n hr n.isLt) (fun _ _ => rfl) (fun _ _ => rfl)]
  unfold outsAt1
  dsimp only
  exact dlam1 (C := Ck D j) (D := Yk D j) (L := Lk D j) (X := fun r n => D.x (gs j n) (ps n) (tm r + 1)) (E := fun s n => D.x (gs j n) (ps n) (s * 256))
    (hC := in1_c m ρ d D h j) (hD := in1_y m ρ d D h j) (hL := in1_l m ρ d D h j) (hX := in1_x m ρ d D h j) (hE := in1_x0 m ρ d D h j) (s := s) (n := n) ..

end

theorem W4_0 (r : Fin 2048) (c : Fin 128) : (W4 m ρ d (Proc.devRef .tc main_v61_0) : S2048x1024.Idx → EReal) (ix2 r (col128 j c)) = (outsAt1 (V3 m ρ) d (pt1 j)).1 (ix2 r c) :=
  (congrFun (W4_arr m ρ d 7) (ix2 r (col128 j c) : S2048x1024.Idx)).trans ((arr1_7 (V3 m ρ) d j r c).trans (congrFun (after1_7 (V3 m ρ) d (pt1 j)) (ix2 r c : S2048x128.Idx)))
theorem W4_1 (e : Fin 128) (k : Fin 1024) : (W4 m ρ d (Proc.devRef .tc main_v61_1) : S8x128x1024.Idx → EReal) (ix3 j e k) = (outsAt1 (V3 m ρ) d (pt1 j)).2.1 (ix3 0 e k) :=
  (congrFun (W4_arr m ρ d 8) (ix3 j e k : S8x128x1024.Idx)).trans ((arr1_8 (V3 m ρ) d j e k).trans (congrFun (after1_8 (V3 m ρ) d (pt1 j)) (ix3 0 e k : S1x128x1024.Idx)))
theorem W4_2 (k : Fin 1024) (e : Fin 128) : (W4 m ρ d (Proc.devRef .tc main_v61_2) : S8x1024x128.Idx → EReal) (ix3 j k e) = (outsAt1 (V3 m ρ) d (pt1 j)).2.2.1 (ix3 0 k e) :=
  (congrFun (W4_arr m ρ d 9) (ix3 j k e : S8x1024x128.Idx)).trans ((arr1_9 (V3 m ρ) d j k e).trans (congrFun (after1_9 (V3 m ρ) d (pt1 j)) (ix3 0 k e : S1x1024x128.Idx)))
theorem W4_3 (s : Fin 8) (k : Fin 1024) : (W4 m ρ d (Proc.devRef .tc main_v61_3) : S8x8x1024.Idx → EReal) (ix3 j s k) = (outsAt1 (V3 m ρ) d (pt1 j)).2.2.2 (ix3 0 s k) :=
  (congrFun (W4_arr m ρ d 10) (ix3 j s k : S8x8x1024.Idx)).trans ((arr1_10 (V3 m ρ) d j s k).trans (congrFun (after1_10 (V3 m ρ) d (pt1 j)) (ix3 0 s k : S1x8x1024.Idx)))
/-- The outputs stay as the first call left them. -/
theorem W4_y (r : Fin 2048) (c : Fin 128) : (W4 m ρ d (Proc.devRef .tc main_v57_0) : S2048x1024.Idx → EReal) (ix2 r (col128 j c)) = (outsAt0 (V1 m ρ) d (pt0 j)).1 (ix2 r c) :=
  (congrFun ((W4_of m ρ d main_v57_0 (by decide)).trans (W3_of m ρ d main_v57_0 (by decide))) (ix2 r (col128 j c) : S2048x1024.Idx)).trans (W2_0 m ρ d j r c)

end Cert.S5

end
-- ==== Proof.KPost.lean ====
/-
  The results of the kernel's program as entries of the arrays that the two calls leave.
-/
module

public import proofs.«01_k».proof.Proof.Gen.KernelIdeal.Frame
public import proofs.«01_k».proof.Proof.KHost
public import Idealize.ShloMosaic.Lib.Pointwise
public import Idealize.ShloMosaic.Lib.StableHlo.ReadAt

@[expose] public section

set_option maxRecDepth 16384

noncomputable section

namespace Cert.S5

open Cert.KernelIdeal Cert.KernelIdeal.Gen
open Idealize.ShloMosaic Idealize.ShloMosaic.TcCoe Idealize.ShloMosaic.Tactic
open Idealize.ShloMosaic.StableHlo
open scoped BigOperators

/-- A sum against a row of the identity. -/
theorem sum_eye (f : Fin 8 → EReal) (a : Fin 8) : ∑ k : Fin 8, f k * up (if a.val = k.val then 1 else 0) = f a := by
  rw [Finset.sum_eq_single a]
  · rw [if_pos rfl]; simp [up]
  · intro k _ hk
    rw [if_neg fun e => hk (Fin.ext e.symm)]; simp [up]
  · intro e; exact absurd (Finset.mem_univ _) e

theorem lift_in (hd : Shape.Reduces S1x8x8x16x8x64 [4] S1x8x8x16x64) (z : Fin 1) (a b : Fin 8) (c : Fin 16) (d : Fin 64) (k : Fin 8) :
    hd.lift (ix5 z a b c d) k = (ix6 z a b c k d : S1x8x8x16x8x64.Idx) := by
  funext x; apply Fin.ext
  fin_cases x <;> rfl
theorem lift_out (hd : Shape.Reduces S1x8x8x64x8x16 [4] S1x8x8x64x16) (z : Fin 1) (a b : Fin 8) (c : Fin 64) (d : Fin 16) (k : Fin 8) :
    hd.lift (ix5 z a b c d) k = (ix6 z a b c k d : S1x8x8x64x8x16.Idx) := by
  funext x; apply Fin.ext
  fin_cases x <;> rfl
/-- The sum over the group axis of the columns. -/
theorem reduce_in (h' : Shape.ReducesTo S1x8x8x16x8x64 [4] S1x8x8x16x64) (f : S1x8x8x16x8x64.Idx → EReal) (z : Fin 1) (a b : Fin 8) (c : Fin 16) (d : Fin 64) :
    Ideal.hostReduceAdd h' f 0 (ix5 z a b c d) = ∑ k : Fin 8, f (ix6 z a b c k d) := by
  rw [Ideal.hostReduceAdd_single _ (by decide : Shape.Reduces S1x8x8x16x8x64 [4] S1x8x8x16x64), zero_add]
  exact Finset.sum_congr rfl fun k _ => congrArg f (lift_in _ z a b c d k)
theorem reduce_out (h' : Shape.ReducesTo S1x8x8x64x8x16 [4] S1x8x8x64x16) (f : S1x8x8x64x8x16.Idx → EReal) (z : Fin 1) (a b : Fin 8) (c : Fin 64) (d : Fin 16) :
    Ideal.hostReduceAdd h' f 0 (ix5 z a b c d) = ∑ k : Fin 8, f (ix6 z a b c k d) := by
  rw [Ideal.hostReduceAdd_single _ (by decide : Shape.Reduces S1x8x8x64x8x16 [4] S1x8x8x64x16), zero_add]
  exact Finset.sum_congr rfl fun k _ => congrArg f (lift_out _ z a b c d k)

variable (V : Valuation τ sig (Elt Ideal))
theorem post_v116 (g p : Fin 64) (e : Fin 16) : (after hostOps2 V (Proc.devRef .tc main_v116) : S64x64x16.Idx → EReal) (ix3 g p e)
    = (V (Proc.devRef .tc main_v61_1) : S8x128x1024.Idx → EReal) (ix3 ⟨g.val / 8, by omega⟩ ⟨g.val % 8 * 16 + e.val, by omega⟩ ⟨(g.val % 8 * 64 + p.val), by omega⟩) := by
  after_reads_at
  rw [reduce_in]
  pointwise
  refine Eq.trans (Finset.sum_congr rfl fun k _ => congrArg₂ (fun a b : EReal => a * b) rfl (eye_val (g.val % 8) k.val (by omega) k.isLt)) ?_
  refine (sum_eye _ ⟨g.val % 8, by omega⟩).trans ?_
  refine congrArg _ ?_
  refine congrArg₂ (fun a b => (ix3 _ a b : S8x128x1024.Idx)) (Fin.ext ?_) (Fin.ext ?_)
  · show g.val % 8 * 16 + (p.val * 16 + e.val) % 16 = g.val % 8 * 16 + e.val; omega
  · show (g.val % 8 * 64 + (p.val * 16 + e.val) / 16) = (g.val % 8 * 64 + p.val); omega
theorem post_v117 (g p : Fin 64) (e : Fin 16) : (after hostOps2 V (Proc.devRef .tc main_v117) : S64x64x16.Idx → EReal) (ix3 g p e)
    = (V (Proc.devRef .tc main_v61_1) : S8x128x1024.Idx → EReal) (ix3 ⟨g.val / 8, by omega⟩ ⟨g.val % 8 * 16 + e.val, by omega⟩ ⟨512 + (g.val % 8 * 64 + p.val), by omega⟩) := by
  after_reads_at
  rw [reduce_in]
  pointwise
  refine Eq.trans (Finset.sum_congr rfl fun k _ => congrArg₂ (fun a b : EReal => a * b) rfl (eye_val (g.val % 8) k.val (by omega) k.isLt)) ?_
  refine (sum_eye _ ⟨g.val % 8, by omega⟩).trans ?_
  refine congrArg _ ?_
  refine congrArg₂ (fun a b => (ix3 _ a b : S8x128x1024.Idx)) (Fin.ext ?_) (Fin.ext ?_)
  · show g.val % 8 * 16 + (p.val * 16 + e.val) % 16 = g.val % 8 * 16 + e.val; omega
  · show 512 + (g.val % 8 * 64 + (p.val * 16 + e.val) / 16) = 512 + (g.val % 8 * 64 + p.val); omega
theorem neg_v119 (g p : Fin 64) (e : Fin 16) : (after hostOps2 V (Proc.devRef .tc main_v119) : S64x16x64.Idx → EReal) (ix3 g e p)
    = Neg.neg (α := EReal) ((after hostOps2 V (Proc.devRef .tc main_v102) : S1x64x16x64.Idx → EReal) (ix4 0 g e p)) := by
  after_reads_at
theorem post_v118 (g p : Fin 64) (e : Fin 16) : (after hostOps2 V (Proc.devRef .tc main_v118) : S64x16x64.Idx → EReal) (ix3 g e p)
    = (V (Proc.devRef .tc main_v61_2) : S8x1024x128.Idx → EReal) (ix3 ⟨g.val / 8, by omega⟩ ⟨(g.val % 8 * 64 + p.val), by omega⟩ ⟨g.val % 8 * 16 + e.val, by omega⟩) := by
  after_reads_at
  rw [reduce_out]
  pointwise
  refine Eq.trans (Finset.sum_congr rfl fun k _ => congrArg₂ (fun a b : EReal => a * b) rfl (eye_val (g.val % 8) k.val (by omega) k.isLt)) ?_
  exact sum_eye _ ⟨g.val % 8, by omega⟩
theorem post_v102 (g p : Fin 64) (e : Fin 16) : (after hostOps2 V (Proc.devRef .tc main_v102) : S1x64x16x64.Idx → EReal) (ix4 0 g e p)
    = (V (Proc.devRef .tc main_v61_2) : S8x1024x128.Idx → EReal) (ix3 ⟨g.val / 8, by omega⟩ ⟨512 + (g.val % 8 * 64 + p.val), by omega⟩ ⟨g.val % 8 * 16 + e.val, by omega⟩) := by
  after_reads_at
  rw [reduce_out]
  pointwise
  refine Eq.trans (Finset.sum_congr rfl fun k _ => congrArg₂ (fun a b : EReal => a * b) rfl (eye_val (g.val % 8) k.val (by omega) k.isLt)) ?_
  exact sum_eye _ ⟨g.val % 8, by omega⟩
theorem post_v119 (g p : Fin 64) (e : Fin 16) : (after hostOps2 V (Proc.devRef .tc main_v119) : S64x16x64.Idx → EReal) (ix3 g e p)
    = Neg.neg (α := EReal) ((V (Proc.devRef .tc main_v61_2) : S8x1024x128.Idx → EReal) (ix3 ⟨g.val / 8, by omega⟩ ⟨512 + (g.val % 8 * 64 + p.val), by omega⟩ ⟨g.val % 8 * 16 + e.val, by omega⟩)) :=
  (neg_v119 V g p e).trans (congrArg (Neg.neg (α := EReal)) (post_v102 V g p e))
theorem post_v106 (g p : Fin 64) : (after hostOps2 V (Proc.devRef .tc main_v106) : S64x64.Idx → EReal) (ix2 g p)
    = (V (Proc.devRef .tc main_v61_3) : S8x8x1024.Idx → EReal) (ix3 ⟨g.val / 8, by omega⟩ 0 ⟨(g.val % 8 * 64 + p.val), by omega⟩) := by
  after_reads_at
theorem post_v109 (g p : Fin 64) : (after hostOps2 V (Proc.devRef .tc main_v109) : S64x64.Idx → EReal) (ix2 g p)
    = (V (Proc.devRef .tc main_v61_3) : S8x8x1024.Idx → EReal) (ix3 ⟨g.val / 8, by omega⟩ 0 ⟨512 + (g.val % 8 * 64 + p.val), by omega⟩) := by
  after_reads_at
theorem post_v112 (t : Fin 2048) (n : Fin 1024) : (after hostOps2 V (Proc.devRef .tc main_v112) : S2048x1024.Idx → EReal) (ix2 t n)
    = (V (Proc.devRef .tc main_v57_0) : S2048x1024.Idx → EReal) (ix2 ⟨t.val % 256 * 8 + t.val / 256, by omega⟩ n) := by
  after_reads_at
theorem post_v115 (t : Fin 2048) (n : Fin 1024) : (after hostOps2 V (Proc.devRef .tc main_v115) : S2048x1024.Idx → EReal) (ix2 t n)
    = (V (Proc.devRef .tc main_v61_0) : S2048x1024.Idx → EReal) (ix2 ⟨t.val % 256 * 8 + t.val / 256, by omega⟩ n) := by
  after_reads_at

end Cert.S5

end
-- ==== Proof.KOut.lean ====
/-
  The kernel's eight results, in terms of the recurrence.
-/
module

public import proofs.«01_k».proof.Proof.Gen.KernelIdeal.Frame
public import proofs.«01_k».proof.Proof.KBwd
public import proofs.«01_k».proof.Proof.KPost
public import Idealize.ShloMosaic.Lib.Pointwise
public import Idealize.ShloMosaic.Lib.StableHlo.ReadAt

@[expose] public section

set_option maxRecDepth 16384

noncomputable section

namespace Cert.S5

open Cert.KernelIdeal Cert.KernelIdeal.Gen
open Idealize.ShloMosaic Idealize.ShloMosaic.TcCoe Idealize.ShloMosaic.Tactic
open Idealize.ShloMosaic.StableHlo
open scoped BigOperators

variable (m : (ℓ : Loc nD τ sig) → Buf (Elt Ideal) ℓ) (ρ : Dev nD → PrngReg) (d : Dev nD) (D : Data) (h : Inp (W0 m ρ d) D)

/-! ## Groups, states and channels inside a block -/

/-- The block of group `g`, -/
def jb (g : Fin 64) : Fin 8 := ⟨g.val / 8, by omega⟩
/-- the place of its state `p`, -/
def nb (g p : Fin 64) : Fin 512 := ⟨g.val % 8 * 64 + p.val, by omega⟩
/-- and that of its channel `ch`. -/
def eb (g : Fin 64) (ch : Fin 16) : Fin 128 := ⟨g.val % 8 * 16 + ch.val, by omega⟩

theorem gs_nb (g p : Fin 64) : gs (jb g) (nb g p) = g := by
  apply Fin.ext
  show (8 * (g.val / 8) + (g.val % 8 * 64 + p.val) / 64) % 64 = g.val
  omega
theorem ps_nb (g p : Fin 64) : ps (nb g p) = p := by
  apply Fin.ext
  show ((g.val % 8 * 64 + p.val) % 64) % 64 = p.val
  omega
theorem ch_eb (g : Fin 64) (ch : Fin 16) : Fin.ofNat 1024 (128 * (jb g).val + (eb g ch).val) = gch g ch := by
  apply Fin.ext
  show (128 * (g.val / 8) + (g.val % 8 * 16 + ch.val)) % 1024 = g.val * 16 + ch.val
  omega
theorem tm_from (t : Fin 2048) : tm (t.val % 256 * 8 + t.val / 256) = t.val := by unfold tm; omega
theorem gl_col (n : Fin 1024) : gl (n.val / 128) (n.val % 128) = gOf n := by
  apply Fin.ext
  show (8 * (n.val / 128) + n.val % 128 / 16) % 64 = n.val / 16
  omega
theorem cl_col (n : Fin 1024) : cl (n.val % 128) = cOf n := by
  apply Fin.ext
  show (n.val % 128 % 16) % 16 = n.val % 16
  omega
theorem col_split (n : Fin 1024) : col128 ⟨n.val / 128, by omega⟩ ⟨n.val % 128, by omega⟩ = n := by
  apply Fin.ext
  show 128 * (n.val / 128) + n.val % 128 = n.val
  omega

/-! ## The results -/

theorem W5_eq (r : Ref sig .tc) : W5 m ρ d (Proc.devRef .tc r) = after hostOps2 (W4 m ρ d) (Proc.devRef .tc r) := rfl

section
include h

theorem res_y (t : Fin 2048) (n : Fin 1024) : (W5 m ρ d (Proc.devRef .tc main_v112) : S2048x1024.Idx → EReal) (ix2 t n) = up (D.y t (gOf n) (cOf n)) := by
  have e := (W4_y m ρ d ⟨n.val / 128, by omega⟩ ⟨t.val % 256 * 8 + t.val / 256, by omega⟩ ⟨n.val % 128, by omega⟩).trans (out0_y m ρ d D h ⟨n.val / 128, by omega⟩ ⟨t.val % 256 * 8 + t.val / 256, by omega⟩ ⟨n.val % 128, by omega⟩)
  rw [col_split] at e
  refine (post_v112 (W4 m ρ d) t n).trans (e.trans ?_)
  show up (D.y (tm (t.val % 256 * 8 + t.val / 256)) (gl (n.val / 128) (n.val % 128)) (cl (n.val % 128))) = _
  rw [tm_from, gl_col, cl_col]
theorem res_du (t : Fin 2048) (n : Fin 1024) : (W5 m ρ d (Proc.devRef .tc main_v115) : S2048x1024.Idx → EReal) (ix2 t n) = up (D.du t (gOf n) (cOf n)) := by
  have e := (W4_0 m ρ d ⟨n.val / 128, by omega⟩ ⟨t.val % 256 * 8 + t.val / 256, by omega⟩ ⟨n.val % 128, by omega⟩).trans (out1_du m ρ d D h ⟨n.val / 128, by omega⟩ ⟨t.val % 256 * 8 + t.val / 256, by omega⟩ ⟨n.val % 128, by omega⟩)
  rw [col_split] at e
  refine (post_v115 (W4 m ρ d) t n).trans (e.trans ?_)
  show up (D.du (tm (t.val % 256 * 8 + t.val / 256)) (gl (n.val / 128) (n.val % 128)) (cl (n.val % 128))) = _
  rw [tm_from, gl_col, cl_col]
theorem res_dl (g p : Fin 64) : Is ((W5 m ρ d (Proc.devRef .tc main_v106) : S64x64.Idx → EReal) (ix2 g p)) ((W5 m ρ d (Proc.devRef .tc main_v109) : S64x64.Idx → EReal) (ix2 g p)) (D.dl g p) := by
  have e := out1_dl m ρ d D h (jb g) 0 (nb g p)
  rw [gs_nb, ps_nb] at e
  exact e.congr ((post_v106 (W4 m ρ d) g p).trans (W4_3 m ρ d (jb g) 0 (lo (nb g p)))) ((post_v109 (W4 m ρ d) g p).trans (W4_3 m ρ d (jb g) 0 (hi (nb g p)))) rfl
theorem res_dbr (g p : Fin 64) (ch : Fin 16) : (W5 m ρ d (Proc.devRef .tc main_v116) : S64x64x16.Idx → EReal) (ix3 g p ch) = up (D.dbr g p ch) := by
  have e := (W4_1 m ρ d (jb g) (eb g ch) (lo (nb g p))).trans (out1_dbr m ρ d D h (jb g) (eb g ch) (nb g p))
  rw [gs_nb, ps_nb, ch_eb] at e
  exact (post_v116 (W4 m ρ d) g p ch).trans e
theorem res_dbi (g p : Fin 64) (ch : Fin 16) : (W5 m ρ d (Proc.devRef .tc main_v117) : S64x64x16.Idx → EReal) (ix3 g p ch) = up (D.dbi g p ch) := by
  have e := (W4_1 m ρ d (jb g) (eb g ch) (hi (nb g p))).trans (out1_dbi m ρ d D h (jb g) (eb g ch) (nb g p))
  rw [gs_nb, ps_nb, ch_eb] at e
  exact (post_v117 (W4 m ρ d) g p ch).trans e
theorem res_dcr (g : Fin 64) (ch : Fin 16) (p : Fin 64) : (W5 m ρ d (Proc.devRef .tc main_v118) : S64x16x64.Idx → EReal) (ix3 g ch p) = up (D.dcr g ch p) := by
  have e := (W4_2 m ρ d (jb g) (lo (nb g p)) (eb g ch)).trans (out1_dcr m ρ d D h (jb g) (nb g p) (eb g ch))
  rw [gs_nb, ps_nb, ch_eb] at e
  exact (post_v118 (W4 m ρ d) g p ch).trans e
theorem res_dci (g : Fin 64) (ch : Fin 16) (p : Fin 64) : (W5 m ρ d (Proc.devRef .tc main_v119) : S64x16x64.Idx → EReal) (ix3 g ch p) = up (D.dci g ch p) := by
  have e := (W4_2 m ρ d (jb g) (hi (nb g p)) (eb g ch)).trans (out1_dci m ρ d D h (jb g) (nb g p) (eb g ch))
  rw [gs_nb, ps_nb, ch_eb] at e
  refine (post_v119 (W4 m ρ d) g p ch).trans ((congrArg (Neg.neg (α := EReal)) e).trans ((EReal.coe_neg _).symm.trans ?_))
  unfold Data.dci
  rw [← Finset.sum_neg_distrib]
  exact congrArg _ (Finset.sum_congr rfl fun t _ => (neg_mul _ _).symm)

end

end Cert.S5

end
-- ==== Proof.RefTrip.lean ====
/-
  One trip of each of the reference's two recurrences, read buffer by buffer.

  The forward recurrence takes row `k` of the drive, makes the next state, and stores it and the state before it at row `k`
  of the histories it keeps; the backward recurrence reads row `2047 - k`, makes the next adjoint state, and adds its share
  to the gradients of the eigenvalues.
-/
module

public import proofs.«01_k».proof.Proof.RefRun
public import proofs.«01_k».proof.Proof.Cx
public import Idealize.ShloMosaic.Lib.Pipeline.Value
public import Idealize.ShloMosaic.Lib.Pointwise
public import Idealize.ShloMosaic.Lib.DynamicIndex

@[expose] public section

set_option maxRecDepth 16384

noncomputable section

namespace Cert.ReferenceIdeal.Trip

open Cert.ReferenceIdeal Cert.ReferenceIdeal.Gen Cert.ReferenceIdeal.Lists Cert.ReferenceIdeal.Run
open Idealize.ShloMosaic Idealize.ShloMosaic.TcCoe Idealize.ShloMosaic.Tactic
open Idealize.ShloMosaic.StableHlo

/-- Row `i` of a history. -/
def row (x : S2048x64x64.Idx → EReal) (i : S_.Idx → BitVec 32) : S64x64.Idx → EReal :=
  shapeCast S64x64 (Host.dynamicSlice S1x64x64 x (fun k => (((![i, constantI S_ 32 0#32, constantI S_ 32 0#32] : Fin 3 → S_.Idx → BitVec 32)) k (Shape.Idx.first h_S_)).toInt) sliceFits_S2048x64x64_S1x64x64) shapeCasts_S1x64x64_S64x64

/-- A history with row `i` replaced. -/
def put (x : S2048x64x64.Idx → EReal) (i : S_.Idx → BitVec 32) (v : S64x64.Idx → EReal) : S2048x64x64.Idx → EReal :=
  Host.dynamicUpdateSlice x (broadcastInDim S1x64x64 ![1, 2] bcast_S64x64_S1x64x64_1_2 v) (fun k => (((![i, constantI S_ 32 0#32, constantI S_ 32 0#32] : Fin 3 → S_.Idx → BitVec 32)) k (Shape.Idx.first h_S_)).toInt) updateFits_S2048x64x64_S1x64x64

theorem start_eq (k : ℕ) (hk : k < 2048) (i : S_.Idx → BitVec 32) (hi : i = fun _ => BitVec.ofNat 32 k) (a : Fin 3) :
    (((![i, constantI S_ 32 0#32, constantI S_ 32 0#32] : Fin 3 → S_.Idx → BitVec 32)) a (Shape.Idx.first h_S_)).toInt = ((![k, 0, 0] : Fin 3 → ℕ) a : ℤ) := by
  subst hi
  fin_cases a
  · exact toInt_ofNat_of_lt (by omega)
  · rfl
  · rfl

theorem row_apply (x : S2048x64x64.Idx → EReal) (k : Fin 2048) (i : S_.Idx → BitVec 32) (hi : i = fun _ => BitVec.ofNat 32 k.val) (g p : Fin 64) :
    row x i (ix2 g p) = x (ix3 k g p) := by
  unfold row
  rw [Host.dynamicSlice_eq_extractStridedSlice S1x64x64 x _ ![k.val, 0, 0] _ (by refine ⟨rfl, fun a => ?_⟩; fin_cases a <;> simp <;> omega) (start_eq k.val k.isLt i hi)]
  pointwise

theorem put_apply (x : S2048x64x64.Idx → EReal) (k : Fin 2048) (i : S_.Idx → BitVec 32) (hi : i = fun _ => BitVec.ofNat 32 k.val) (v : S64x64.Idx → EReal)
    (t : Fin 2048) (g p : Fin 64) :
    put x i v (ix3 t g p) = if t = k then v (ix2 g p) else x (ix3 t g p) := by
  unfold put
  rw [Host.dynamicUpdateSlice_eq_updateSlice _ _ _ _ ![k.val, 0, 0] (fun a => by rw [start_eq k.val k.isLt i hi a]; fin_cases a <;> simp [S2048x64x64, S1x64x64] <;> omega)
    (by refine ⟨rfl, fun a => ?_⟩; fin_cases a <;> simp [S2048x64x64, S1x64x64] <;> omega)]
  unfold updateSlice
  by_cases ht : t = k
  · subst ht
    rw [dif_pos (fun a => by fin_cases a <;> simp [S1x64x64] <;> omega), if_pos rfl]
    pointwise
  · rw [dif_neg (fun h => ht (Fin.ext (by have := h 0; simp [S1x64x64] at this; omega))), if_neg ht]

/-! ## The stretches of a trip -/

variable (V : Valuation τ sig (Elt Ideal))

theorem body0_0_main_while0b_v46 : after body0_0 V (no_index (Proc.devRef .tc main_while0b_v46)) = row (V (Proc.devRef .tc main_v10_0)) (V (Proc.devRef .tc main_v10_4)) := by
  unfold row
  after_results_simp_entrywise
  rfl
theorem body0_1_main_while0b_v47 : after body0_1 V (no_index (Proc.devRef .tc main_while0b_v47)) = row (V (Proc.devRef .tc main_v10_1)) (V (Proc.devRef .tc main_v10_4)) := by
  unfold row
  after_results_simp_entrywise
  rfl
theorem body1_1_main_while1b_v48 : after body1_1 V (no_index (Proc.devRef .tc main_while1b_v48)) = row (V (Proc.devRef .tc main_v35_0)) (V (Proc.devRef .tc main_while1b_v47)) := by
  unfold row
  after_results_simp_entrywise
  rfl
theorem body1_2_main_while1b_v49 : after body1_2 V (no_index (Proc.devRef .tc main_while1b_v49)) = row (V (Proc.devRef .tc main_v35_1)) (V (Proc.devRef .tc main_while1b_v47)) := by
  unfold row
  after_results_simp_entrywise
  rfl
theorem body1_3_main_while1b_v50 : after body1_3 V (no_index (Proc.devRef .tc main_while1b_v50)) = row (V (Proc.devRef .tc main_v35_2)) (V (Proc.devRef .tc main_while1b_v47)) := by
  unfold row
  after_results_simp_entrywise
  rfl
theorem body1_4_main_while1b_v51 : after body1_4 V (no_index (Proc.devRef .tc main_while1b_v51)) = row (V (Proc.devRef .tc main_v35_3)) (V (Proc.devRef .tc main_while1b_v47)) := by
  unfold row
  after_results_simp_entrywise
  rfl
theorem body0_3_main_while0b_v56 : after body0_3 V (no_index (Proc.devRef .tc main_while0b_v56)) = put (V (Proc.devRef .tc main_v10_7)) (V (Proc.devRef .tc main_v10_4)) (V (Proc.devRef .tc main_while0b_v51)) := by
  unfold put
  after_results_simp_entrywise
  rfl
theorem body0_4_main_while0b_v57 : after body0_4 V (no_index (Proc.devRef .tc main_while0b_v57)) = put (V (Proc.devRef .tc main_v10_8)) (V (Proc.devRef .tc main_v10_4)) (V (Proc.devRef .tc main_while0b_v55)) := by
  unfold put
  after_results_simp_entrywise
  rfl
theorem body0_5_main_while0b_v58 : after body0_5 V (no_index (Proc.devRef .tc main_while0b_v58)) = put (V (Proc.devRef .tc main_v10_9)) (V (Proc.devRef .tc main_v10_4)) (V (Proc.devRef .tc main_v10_5)) := by
  unfold put
  after_results_simp_entrywise
  rfl
theorem body0_6_main_while0b_v59 : after body0_6 V (no_index (Proc.devRef .tc main_while0b_v59)) = put (V (Proc.devRef .tc main_v10_10)) (V (Proc.devRef .tc main_v10_4)) (V (Proc.devRef .tc main_v10_6)) := by
  unfold put
  after_results_simp_entrywise
  rfl
theorem body1_6_main_while1b_v69 : after body1_6 V (no_index (Proc.devRef .tc main_while1b_v69)) = put (V (Proc.devRef .tc main_v35_11)) (V (Proc.devRef .tc main_while1b_v47)) (V (Proc.devRef .tc main_while1b_v52)) := by
  unfold put
  after_results_simp_entrywise
  rfl
theorem body1_7_main_while1b_v70 : after body1_7 V (no_index (Proc.devRef .tc main_while1b_v70)) = put (V (Proc.devRef .tc main_v35_12)) (V (Proc.devRef .tc main_while1b_v47)) (V (Proc.devRef .tc main_while1b_v53)) := by
  unfold put
  after_results_simp_entrywise
  rfl
theorem body0_2_main_while0b_v51 : after body0_2 V (no_index (Proc.devRef .tc main_while0b_v51)) = (addf (F := Ideal) (φ := .f32) (subf (F := Ideal) (φ := .f32) (mulf (F := Ideal) (φ := .f32) (V (Proc.devRef .tc main_v10_2) : S64x64.Idx → EReal) (V (Proc.devRef .tc main_v10_5) : S64x64.Idx → EReal)) (mulf (F := Ideal) (φ := .f32) (V (Proc.devRef .tc main_v10_3) : S64x64.Idx → EReal) (V (Proc.devRef .tc main_v10_6) : S64x64.Idx → EReal))) (V (Proc.devRef .tc main_while0b_v46) : S64x64.Idx → EReal)) := by
  after_results <;> rfl
theorem body0_2_main_while0b_v55 : after body0_2 V (no_index (Proc.devRef .tc main_while0b_v55)) = (addf (F := Ideal) (φ := .f32) (addf (F := Ideal) (φ := .f32) (mulf (F := Ideal) (φ := .f32) (V (Proc.devRef .tc main_v10_2) : S64x64.Idx → EReal) (V (Proc.devRef .tc main_v10_6) : S64x64.Idx → EReal)) (mulf (F := Ideal) (φ := .f32) (V (Proc.devRef .tc main_v10_3) : S64x64.Idx → EReal) (V (Proc.devRef .tc main_v10_5) : S64x64.Idx → EReal))) (V (Proc.devRef .tc main_while0b_v47) : S64x64.Idx → EReal)) := by
  after_results <;> rfl
theorem body0_7_main_v10_5 : after body0_7 V (no_index (Proc.devRef .tc main_v10_5)) = V (Proc.devRef .tc main_while0b_v51) := by
  after_results <;> rfl
theorem body0_7_main_v10_6 : after body0_7 V (no_index (Proc.devRef .tc main_v10_6)) = V (Proc.devRef .tc main_while0b_v55) := by
  after_results <;> rfl
theorem body0_7_main_v10_7 : after body0_7 V (no_index (Proc.devRef .tc main_v10_7)) = V (Proc.devRef .tc main_while0b_v56) := by
  after_results <;> rfl
theorem body0_7_main_v10_8 : after body0_7 V (no_index (Proc.devRef .tc main_v10_8)) = V (Proc.devRef .tc main_while0b_v57) := by
  after_results <;> rfl
theorem body0_7_main_v10_9 : after body0_7 V (no_index (Proc.devRef .tc main_v10_9)) = V (Proc.devRef .tc main_while0b_v58) := by
  after_results <;> rfl
theorem body0_7_main_v10_10 : after body0_7 V (no_index (Proc.devRef .tc main_v10_10)) = V (Proc.devRef .tc main_while0b_v59) := by
  after_results <;> rfl
theorem body1_0_main_while1b_v47 : after body1_0 V (no_index (Proc.devRef .tc main_while1b_v47)) = subi (subi (constantI S_ 32 2048#32) (V (Proc.devRef .tc main_v35_6))) (constantI S_ 32 1#32) := by
  after_results <;> rfl
theorem body1_5_main_while1b_v52 : after body1_5 V (no_index (Proc.devRef .tc main_while1b_v52)) = (addf (F := Ideal) (φ := .f32) (V (Proc.devRef .tc main_v35_9) : S64x64.Idx → EReal) (V (Proc.devRef .tc main_while1b_v48) : S64x64.Idx → EReal)) := by
  after_results <;> rfl
theorem body1_5_main_while1b_v53 : after body1_5 V (no_index (Proc.devRef .tc main_while1b_v53)) = (addf (F := Ideal) (φ := .f32) (V (Proc.devRef .tc main_v35_10) : S64x64.Idx → EReal) (V (Proc.devRef .tc main_while1b_v49) : S64x64.Idx → EReal)) := by
  after_results <;> rfl
theorem body1_5_main_while1b_v62 : after body1_5 V (no_index (Proc.devRef .tc main_while1b_v62)) = (addf (F := Ideal) (φ := .f32) (mulf (F := Ideal) (φ := .f32) (V (Proc.devRef .tc main_v35_4) : S64x64.Idx → EReal) (addf (F := Ideal) (φ := .f32) (V (Proc.devRef .tc main_v35_10) : S64x64.Idx → EReal) (V (Proc.devRef .tc main_while1b_v49) : S64x64.Idx → EReal))) (mulf (F := Ideal) (φ := .f32) (V (Proc.devRef .tc main_v35_5) : S64x64.Idx → EReal) (Host.negf (F := Ideal) (φ := .f32) (addf (F := Ideal) (φ := .f32) (V (Proc.devRef .tc main_v35_9) : S64x64.Idx → EReal) (V (Proc.devRef .tc main_while1b_v48) : S64x64.Idx → EReal))))) := by
  after_results <;> rfl
theorem body1_5_main_while1b_v64 : after body1_5 V (no_index (Proc.devRef .tc main_while1b_v64)) = (addf (F := Ideal) (φ := .f32) (addf (F := Ideal) (φ := .f32) (V (Proc.devRef .tc main_v35_8) : S64x64.Idx → EReal) (mulf (F := Ideal) (φ := .f32) (addf (F := Ideal) (φ := .f32) (V (Proc.devRef .tc main_v35_10) : S64x64.Idx → EReal) (V (Proc.devRef .tc main_while1b_v49) : S64x64.Idx → EReal)) (V (Proc.devRef .tc main_while1b_v50) : S64x64.Idx → EReal))) (mulf (F := Ideal) (φ := .f32) (Host.negf (F := Ideal) (φ := .f32) (addf (F := Ideal) (φ := .f32) (V (Proc.devRef .tc main_v35_9) : S64x64.Idx → EReal) (V (Proc.devRef .tc main_while1b_v48) : S64x64.Idx → EReal))) (V (Proc.devRef .tc main_while1b_v51) : S64x64.Idx → EReal))) := by
  after_results <;> rfl
theorem body1_5_main_while1b_v66 : after body1_5 V (no_index (Proc.devRef .tc main_while1b_v66)) = (addf (F := Ideal) (φ := .f32) (mulf (F := Ideal) (φ := .f32) (V (Proc.devRef .tc main_v35_5) : S64x64.Idx → EReal) (addf (F := Ideal) (φ := .f32) (V (Proc.devRef .tc main_v35_10) : S64x64.Idx → EReal) (V (Proc.devRef .tc main_while1b_v49) : S64x64.Idx → EReal))) (mulf (F := Ideal) (φ := .f32) (V (Proc.devRef .tc main_v35_4) : S64x64.Idx → EReal) (addf (F := Ideal) (φ := .f32) (V (Proc.devRef .tc main_v35_9) : S64x64.Idx → EReal) (V (Proc.devRef .tc main_while1b_v48) : S64x64.Idx → EReal)))) := by
  after_results <;> rfl
theorem body1_5_main_while1b_v68 : after body1_5 V (no_index (Proc.devRef .tc main_while1b_v68)) = (addf (F := Ideal) (φ := .f32) (addf (F := Ideal) (φ := .f32) (V (Proc.devRef .tc main_v35_7) : S64x64.Idx → EReal) (mulf (F := Ideal) (φ := .f32) (addf (F := Ideal) (φ := .f32) (V (Proc.devRef .tc main_v35_10) : S64x64.Idx → EReal) (V (Proc.devRef .tc main_while1b_v49) : S64x64.Idx → EReal)) (V (Proc.devRef .tc main_while1b_v51) : S64x64.Idx → EReal))) (mulf (F := Ideal) (φ := .f32) (addf (F := Ideal) (φ := .f32) (V (Proc.devRef .tc main_v35_9) : S64x64.Idx → EReal) (V (Proc.devRef .tc main_while1b_v48) : S64x64.Idx → EReal)) (V (Proc.devRef .tc main_while1b_v50) : S64x64.Idx → EReal))) := by
  after_results <;> rfl
theorem body1_8_main_v35_7 : after body1_8 V (no_index (Proc.devRef .tc main_v35_7)) = V (Proc.devRef .tc main_while1b_v68) := by
  after_results <;> rfl
theorem body1_8_main_v35_8 : after body1_8 V (no_index (Proc.devRef .tc main_v35_8)) = V (Proc.devRef .tc main_while1b_v64) := by
  after_results <;> rfl
theorem body1_8_main_v35_9 : after body1_8 V (no_index (Proc.devRef .tc main_v35_9)) = V (Proc.devRef .tc main_while1b_v66) := by
  after_results <;> rfl
theorem body1_8_main_v35_10 : after body1_8 V (no_index (Proc.devRef .tc main_v35_10)) = V (Proc.devRef .tc main_while1b_v62) := by
  after_results <;> rfl
theorem body1_8_main_v35_11 : after body1_8 V (no_index (Proc.devRef .tc main_v35_11)) = V (Proc.devRef .tc main_while1b_v69) := by
  after_results <;> rfl
theorem body1_8_main_v35_12 : after body1_8 V (no_index (Proc.devRef .tc main_v35_12)) = V (Proc.devRef .tc main_while1b_v70) := by
  after_results <;> rfl
theorem keep0_0 (r : Ref sig .tc) (h : r ∉ body0_0_W) : after body0_0 V (no_index (Proc.devRef .tc r)) = V (Proc.devRef .tc r) := body0_0_keep V r h
theorem keep0_1 (r : Ref sig .tc) (h : r ∉ body0_1_W) : after body0_1 V (no_index (Proc.devRef .tc r)) = V (Proc.devRef .tc r) := body0_1_keep V r h
theorem keep0_2 (r : Ref sig .tc) (h : r ∉ body0_2_W) : after body0_2 V (no_index (Proc.devRef .tc r)) = V (Proc.devRef .tc r) := body0_2_keep V r h
theorem keep0_3 (r : Ref sig .tc) (h : r ∉ body0_3_W) : after body0_3 V (no_index (Proc.devRef .tc r)) = V (Proc.devRef .tc r) := body0_3_keep V r h
theorem keep0_4 (r : Ref sig .tc) (h : r ∉ body0_4_W) : after body0_4 V (no_index (Proc.devRef .tc r)) = V (Proc.devRef .tc r) := body0_4_keep V r h
theorem keep0_5 (r : Ref sig .tc) (h : r ∉ body0_5_W) : after body0_5 V (no_index (Proc.devRef .tc r)) = V (Proc.devRef .tc r) := body0_5_keep V r h
theorem keep0_6 (r : Ref sig .tc) (h : r ∉ body0_6_W) : after body0_6 V (no_index (Proc.devRef .tc r)) = V (Proc.devRef .tc r) := body0_6_keep V r h
theorem keep0_7 (r : Ref sig .tc) (h : r ∉ body0_7_W) : after body0_7 V (no_index (Proc.devRef .tc r)) = V (Proc.devRef .tc r) := body0_7_keep V r h
theorem keep1_0 (r : Ref sig .tc) (h : r ∉ body1_0_W) : after body1_0 V (no_index (Proc.devRef .tc r)) = V (Proc.devRef .tc r) := body1_0_keep V r h
theorem keep1_1 (r : Ref sig .tc) (h : r ∉ body1_1_W) : after body1_1 V (no_index (Proc.devRef .tc r)) = V (Proc.devRef .tc r) := body1_1_keep V r h
theorem keep1_2 (r : Ref sig .tc) (h : r ∉ body1_2_W) : after body1_2 V (no_index (Proc.devRef .tc r)) = V (Proc.devRef .tc r) := body1_2_keep V r h
theorem keep1_3 (r : Ref sig .tc) (h : r ∉ body1_3_W) : after body1_3 V (no_index (Proc.devRef .tc r)) = V (Proc.devRef .tc r) := body1_3_keep V r h
theorem keep1_4 (r : Ref sig .tc) (h : r ∉ body1_4_W) : after body1_4 V (no_index (Proc.devRef .tc r)) = V (Proc.devRef .tc r) := body1_4_keep V r h
theorem keep1_5 (r : Ref sig .tc) (h : r ∉ body1_5_W) : after body1_5 V (no_index (Proc.devRef .tc r)) = V (Proc.devRef .tc r) := body1_5_keep V r h
theorem keep1_6 (r : Ref sig .tc) (h : r ∉ body1_6_W) : after body1_6 V (no_index (Proc.devRef .tc r)) = V (Proc.devRef .tc r) := body1_6_keep V r h
theorem keep1_7 (r : Ref sig .tc) (h : r ∉ body1_7_W) : after body1_7 V (no_index (Proc.devRef .tc r)) = V (Proc.devRef .tc r) := body1_7_keep V r h
theorem keep1_8 (r : Ref sig .tc) (h : r ∉ body1_8_W) : after body1_8 V (no_index (Proc.devRef .tc r)) = V (Proc.devRef .tc r) := body1_8_keep V r h

/-! ## A trip -/

def nextRe : S64x64.Idx → EReal := (addf (F := Ideal) (φ := .f32) (subf (F := Ideal) (φ := .f32) (mulf (F := Ideal) (φ := .f32) (V (Proc.devRef .tc main_v10_2) : S64x64.Idx → EReal) (V (Proc.devRef .tc main_v10_5) : S64x64.Idx → EReal)) (mulf (F := Ideal) (φ := .f32) (V (Proc.devRef .tc main_v10_3) : S64x64.Idx → EReal) (V (Proc.devRef .tc main_v10_6) : S64x64.Idx → EReal))) (row (V (Proc.devRef .tc main_v10_0) : S2048x64x64.Idx → EReal) (V (Proc.devRef .tc main_v10_4))))
def nextIm : S64x64.Idx → EReal := (addf (F := Ideal) (φ := .f32) (addf (F := Ideal) (φ := .f32) (mulf (F := Ideal) (φ := .f32) (V (Proc.devRef .tc main_v10_2) : S64x64.Idx → EReal) (V (Proc.devRef .tc main_v10_6) : S64x64.Idx → EReal)) (mulf (F := Ideal) (φ := .f32) (V (Proc.devRef .tc main_v10_3) : S64x64.Idx → EReal) (V (Proc.devRef .tc main_v10_5) : S64x64.Idx → EReal))) (row (V (Proc.devRef .tc main_v10_1) : S2048x64x64.Idx → EReal) (V (Proc.devRef .tc main_v10_4))))

theorem trip0_main_v10_5 : afterL bodyI0 V (Proc.devRef .tc main_v10_5) = nextRe V := by
  unfold nextRe
  simp only [afterL_cons, afterL_nil]
  simp (disch := decide) only [body0_0_main_while0b_v46, body0_1_main_while0b_v47, body0_3_main_while0b_v56, body0_4_main_while0b_v57, body0_5_main_while0b_v58, body0_6_main_while0b_v59, body0_2_main_while0b_v51, body0_2_main_while0b_v55, body0_7_main_v10_5, body0_7_main_v10_6, body0_7_main_v10_7, body0_7_main_v10_8, body0_7_main_v10_9, body0_7_main_v10_10, keep0_0, keep0_1, keep0_2, keep0_3, keep0_4, keep0_5, keep0_6, keep0_7]
theorem trip0_main_v10_6 : afterL bodyI0 V (Proc.devRef .tc main_v10_6) = nextIm V := by
  unfold nextIm
  simp only [afterL_cons, afterL_nil]
  simp (disch := decide) only [body0_0_main_while0b_v46, body0_1_main_while0b_v47, body0_3_main_while0b_v56, body0_4_main_while0b_v57, body0_5_main_while0b_v58, body0_6_main_while0b_v59, body0_2_main_while0b_v51, body0_2_main_while0b_v55, body0_7_main_v10_5, body0_7_main_v10_6, body0_7_main_v10_7, body0_7_main_v10_8, body0_7_main_v10_9, body0_7_main_v10_10, keep0_0, keep0_1, keep0_2, keep0_3, keep0_4, keep0_5, keep0_6, keep0_7]
theorem trip0_main_v10_7 : afterL bodyI0 V (Proc.devRef .tc main_v10_7) = put (V (Proc.devRef .tc main_v10_7)) (V (Proc.devRef .tc main_v10_4)) (nextRe V) := by
  unfold nextRe
  simp only [afterL_cons, afterL_nil]
  simp (disch := decide) only [body0_0_main_while0b_v46, body0_1_main_while0b_v47, body0_3_main_while0b_v56, body0_4_main_while0b_v57, body0_5_main_while0b_v58, body0_6_main_while0b_v59, body0_2_main_while0b_v51, body0_2_main_while0b_v55, body0_7_main_v10_5, body0_7_main_v10_6, body0_7_main_v10_7, body0_7_main_v10_8, body0_7_main_v10_9, body0_7_main_v10_10, keep0_0, keep0_1, keep0_2, keep0_3, keep0_4, keep0_5, keep0_6, keep0_7]
theorem trip0_main_v10_8 : afterL bodyI0 V (Proc.devRef .tc main_v10_8) = put (V (Proc.devRef .tc main_v10_8)) (V (Proc.devRef .tc main_v10_4)) (nextIm V) := by
  unfold nextIm
  simp only [afterL_cons, afterL_nil]
  simp (disch := decide) only [body0_0_main_while0b_v46, body0_1_main_while0b_v47, body0_3_main_while0b_v56, body0_4_main_while0b_v57, body0_5_main_while0b_v58, body0_6_main_while0b_v59, body0_2_main_while0b_v51, body0_2_main_while0b_v55, body0_7_main_v10_5, body0_7_main_v10_6, body0_7_main_v10_7, body0_7_main_v10_8, body0_7_main_v10_9, body0_7_main_v10_10, keep0_0, keep0_1, keep0_2, keep0_3, keep0_4, keep0_5, keep0_6, keep0_7]
theorem trip0_main_v10_9 : afterL bodyI0 V (Proc.devRef .tc main_v10_9) = put (V (Proc.devRef .tc main_v10_9)) (V (Proc.devRef .tc main_v10_4)) (V (Proc.devRef .tc main_v10_5)) := by
  simp only [afterL_cons, afterL_nil]
  simp (disch := decide) only [body0_0_main_while0b_v46, body0_1_main_while0b_v47, body0_3_main_while0b_v56, body0_4_main_while0b_v57, body0_5_main_while0b_v58, body0_6_main_while0b_v59, body0_2_main_while0b_v51, body0_2_main_while0b_v55, body0_7_main_v10_5, body0_7_main_v10_6, body0_7_main_v10_7, body0_7_main_v10_8, body0_7_main_v10_9, body0_7_main_v10_10, keep0_0, keep0_1, keep0_2, keep0_3, keep0_4, keep0_5, keep0_6, keep0_7]
theorem trip0_main_v10_10 : afterL bodyI0 V (Proc.devRef .tc main_v10_10) = put (V (Proc.devRef .tc main_v10_10)) (V (Proc.devRef .tc main_v10_4)) (V (Proc.devRef .tc main_v10_6)) := by
  simp only [afterL_cons, afterL_nil]
  simp (disch := decide) only [body0_0_main_while0b_v46, body0_1_main_while0b_v47, body0_3_main_while0b_v56, body0_4_main_while0b_v57, body0_5_main_while0b_v58, body0_6_main_while0b_v59, body0_2_main_while0b_v51, body0_2_main_while0b_v55, body0_7_main_v10_5, body0_7_main_v10_6, body0_7_main_v10_7, body0_7_main_v10_8, body0_7_main_v10_9, body0_7_main_v10_10, keep0_0, keep0_1, keep0_2, keep0_3, keep0_4, keep0_5, keep0_6, keep0_7]

def back : S_.Idx → BitVec 32 := subi (subi (constantI S_ 32 2048#32) (V (Proc.devRef .tc main_v35_6))) (constantI S_ 32 1#32)
def adjRe : S64x64.Idx → EReal := (addf (F := Ideal) (φ := .f32) (V (Proc.devRef .tc main_v35_9) : S64x64.Idx → EReal) (row (V (Proc.devRef .tc main_v35_0)) (back V)))
def adjIm : S64x64.Idx → EReal := (addf (F := Ideal) (φ := .f32) (V (Proc.devRef .tc main_v35_10) : S64x64.Idx → EReal) (row (V (Proc.devRef .tc main_v35_1)) (back V)))

theorem trip1_main_v35_9 : afterL bodyI1 V (Proc.devRef .tc main_v35_9) = (addf (F := Ideal) (φ := .f32) (mulf (F := Ideal) (φ := .f32) (V (Proc.devRef .tc main_v35_5) : S64x64.Idx → EReal) (adjIm V)) (mulf (F := Ideal) (φ := .f32) (V (Proc.devRef .tc main_v35_4) : S64x64.Idx → EReal) (adjRe V))) := by
  unfold adjRe adjIm back
  simp only [afterL_cons, afterL_nil]
  simp (disch := decide) only [body1_1_main_while1b_v48, body1_2_main_while1b_v49, body1_3_main_while1b_v50, body1_4_main_while1b_v51, body1_6_main_while1b_v69, body1_7_main_while1b_v70, body1_0_main_while1b_v47, body1_5_main_while1b_v52, body1_5_main_while1b_v53, body1_5_main_while1b_v62, body1_5_main_while1b_v64, body1_5_main_while1b_v66, body1_5_main_while1b_v68, body1_8_main_v35_7, body1_8_main_v35_8, body1_8_main_v35_9, body1_8_main_v35_10, body1_8_main_v35_11, body1_8_main_v35_12, keep1_0, keep1_1, keep1_2, keep1_3, keep1_4, keep1_5, keep1_6, keep1_7, keep1_8]
theorem trip1_main_v35_10 : afterL bodyI1 V (Proc.devRef .tc main_v35_10) = (addf (F := Ideal) (φ := .f32) (mulf (F := Ideal) (φ := .f32) (V (Proc.devRef .tc main_v35_4) : S64x64.Idx → EReal) (adjIm V)) (mulf (F := Ideal) (φ := .f32) (V (Proc.devRef .tc main_v35_5) : S64x64.Idx → EReal) (Host.negf (F := Ideal) (φ := .f32) (adjRe V)))) := by
  unfold adjRe adjIm back
  simp only [afterL_cons, afterL_nil]
  simp (disch := decide) only [body1_1_main_while1b_v48, body1_2_main_while1b_v49, body1_3_main_while1b_v50, body1_4_main_while1b_v51, body1_6_main_while1b_v69, body1_7_main_while1b_v70, body1_0_main_while1b_v47, body1_5_main_while1b_v52, body1_5_main_while1b_v53, body1_5_main_while1b_v62, body1_5_main_while1b_v64, body1_5_main_while1b_v66, body1_5_main_while1b_v68, body1_8_main_v35_7, body1_8_main_v35_8, body1_8_main_v35_9, body1_8_main_v35_10, body1_8_main_v35_11, body1_8_main_v35_12, keep1_0, keep1_1, keep1_2, keep1_3, keep1_4, keep1_5, keep1_6, keep1_7, keep1_8]
theorem trip1_main_v35_8 : afterL bodyI1 V (Proc.devRef .tc main_v35_8) = (addf (F := Ideal) (φ := .f32) (addf (F := Ideal) (φ := .f32) (V (Proc.devRef .tc main_v35_8) : S64x64.Idx → EReal) (mulf (F := Ideal) (φ := .f32) (adjIm V) (row (V (Proc.devRef .tc main_v35_2)) (back V)))) (mulf (F := Ideal) (φ := .f32) (Host.negf (F := Ideal) (φ := .f32) (adjRe V)) (row (V (Proc.devRef .tc main_v35_3)) (back V)))) := by
  unfold adjRe adjIm back
  simp only [afterL_cons, afterL_nil]
  simp (disch := decide) only [body1_1_main_while1b_v48, body1_2_main_while1b_v49, body1_3_main_while1b_v50, body1_4_main_while1b_v51, body1_6_main_while1b_v69, body1_7_main_while1b_v70, body1_0_main_while1b_v47, body1_5_main_while1b_v52, body1_5_main_while1b_v53, body1_5_main_while1b_v62, body1_5_main_while1b_v64, body1_5_main_while1b_v66, body1_5_main_while1b_v68, body1_8_main_v35_7, body1_8_main_v35_8, body1_8_main_v35_9, body1_8_main_v35_10, body1_8_main_v35_11, body1_8_main_v35_12, keep1_0, keep1_1, keep1_2, keep1_3, keep1_4, keep1_5, keep1_6, keep1_7, keep1_8]
theorem trip1_main_v35_7 : afterL bodyI1 V (Proc.devRef .tc main_v35_7) = (addf (F := Ideal) (φ := .f32) (addf (F := Ideal) (φ := .f32) (V (Proc.devRef .tc main_v35_7) : S64x64.Idx → EReal) (mulf (F := Ideal) (φ := .f32) (adjIm V) (row (V (Proc.devRef .tc main_v35_3)) (back V)))) (mulf (F := Ideal) (φ := .f32) (adjRe V) (row (V (Proc.devRef .tc main_v35_2)) (back V)))) := by
  unfold adjRe adjIm back
  simp only [afterL_cons, afterL_nil]
  simp (disch := decide) only [body1_1_main_while1b_v48, body1_2_main_while1b_v49, body1_3_main_while1b_v50, body1_4_main_while1b_v51, body1_6_main_while1b_v69, body1_7_main_while1b_v70, body1_0_main_while1b_v47, body1_5_main_while1b_v52, body1_5_main_while1b_v53, body1_5_main_while1b_v62, body1_5_main_while1b_v64, body1_5_main_while1b_v66, body1_5_main_while1b_v68, body1_8_main_v35_7, body1_8_main_v35_8, body1_8_main_v35_9, body1_8_main_v35_10, body1_8_main_v35_11, body1_8_main_v35_12, keep1_0, keep1_1, keep1_2, keep1_3, keep1_4, keep1_5, keep1_6, keep1_7, keep1_8]
theorem trip1_main_v35_11 : afterL bodyI1 V (Proc.devRef .tc main_v35_11) = put (V (Proc.devRef .tc main_v35_11)) (back V) (adjRe V) := by
  unfold adjRe back
  simp only [afterL_cons, afterL_nil]
  simp (disch := decide) only [body1_1_main_while1b_v48, body1_2_main_while1b_v49, body1_3_main_while1b_v50, body1_4_main_while1b_v51, body1_6_main_while1b_v69, body1_7_main_while1b_v70, body1_0_main_while1b_v47, body1_5_main_while1b_v52, body1_5_main_while1b_v53, body1_5_main_while1b_v62, body1_5_main_while1b_v64, body1_5_main_while1b_v66, body1_5_main_while1b_v68, body1_8_main_v35_7, body1_8_main_v35_8, body1_8_main_v35_9, body1_8_main_v35_10, body1_8_main_v35_11, body1_8_main_v35_12, keep1_0, keep1_1, keep1_2, keep1_3, keep1_4, keep1_5, keep1_6, keep1_7, keep1_8]
theorem trip1_main_v35_12 : afterL bodyI1 V (Proc.devRef .tc main_v35_12) = put (V (Proc.devRef .tc main_v35_12)) (back V) (adjIm V) := by
  unfold adjIm back
  simp only [afterL_cons, afterL_nil]
  simp (disch := decide) only [body1_1_main_while1b_v48, body1_2_main_while1b_v49, body1_3_main_while1b_v50, body1_4_main_while1b_v51, body1_6_main_while1b_v69, body1_7_main_while1b_v70, body1_0_main_while1b_v47, body1_5_main_while1b_v52, body1_5_main_while1b_v53, body1_5_main_while1b_v62, body1_5_main_while1b_v64, body1_5_main_while1b_v66, body1_5_main_while1b_v68, body1_8_main_v35_7, body1_8_main_v35_8, body1_8_main_v35_9, body1_8_main_v35_10, body1_8_main_v35_11, body1_8_main_v35_12, keep1_0, keep1_1, keep1_2, keep1_3, keep1_4, keep1_5, keep1_6, keep1_7, keep1_8]

end Cert.ReferenceIdeal.Trip

end
-- ==== Proof.RefScan.lean ====
/-
  The reference's two recurrences, run to their ends: the histories they leave are the states and the adjoint states.
-/
module

public import proofs.«01_k».proof.Proof.RefTrip

@[expose] public section

set_option maxRecDepth 16384

noncomputable section

namespace Cert.ReferenceIdeal.Trip

open Cert.S5 Cert.ReferenceIdeal Cert.ReferenceIdeal.Gen Cert.ReferenceIdeal.Lists Cert.ReferenceIdeal.Run
open Idealize.ShloMosaic Idealize.ShloMosaic.TcCoe Idealize.ShloMosaic.Tactic
open Idealize.ShloMosaic.StableHlo

variable (m : (ℓ : Loc nD τ sig) → Buf (Elt Ideal) ℓ) (c : Dev nD)

theorem iv_eq (k : ℕ) : Scf.iv (0#32 : BitVec 32) 1#32 k = BitVec.ofNat 32 k := by simp [Scf.iv]

theorem back_eq (V : Valuation τ sig (Elt Ideal)) (k : ℕ) (hk : k < 2048) (h : V (Proc.devRef .tc main_v35_6) = fun _ => Scf.iv (0#32 : BitVec 32) 1#32 k) :
    back V = fun _ => BitVec.ofNat 32 (2047 - k) := by
  unfold back
  rw [h]
  funext j
  show (2048#32 - Scf.iv (0#32 : BitVec 32) 1#32 k) - 1#32 = _
  rw [iv_eq]
  apply BitVec.eq_of_toNat_eq
  simp only [BitVec.toNat_sub, BitVec.toNat_ofNat]
  omega

/-- The forward recurrence. -/
theorem fwd (l : Fin 64 → Fin 64 → ℂ) (x : Fin 64 → Fin 64 → ℕ → ℂ)
    (hl : ∀ g p, Is ((E0 m c (Proc.devRef .tc main_v10_2) : S64x64.Idx → EReal) (ix2 g p)) ((E0 m c (Proc.devRef .tc main_v10_3) : S64x64.Idx → EReal) (ix2 g p)) (l g p))
    (hx : ∀ (t : Fin 2048) g p, Is ((E0 m c (Proc.devRef .tc main_v10_0) : S2048x64x64.Idx → EReal) (ix3 t g p)) ((E0 m c (Proc.devRef .tc main_v10_1) : S2048x64x64.Idx → EReal) (ix3 t g p)) (x g p t))
    (h0 : ∀ g p, Is ((E0 m c (Proc.devRef .tc main_v10_5) : S64x64.Idx → EReal) (ix2 g p)) ((E0 m c (Proc.devRef .tc main_v10_6) : S64x64.Idx → EReal) (ix2 g p)) 0) :
    ∀ k, k ≤ 2048 →
      (∀ g p, Is ((K0 m k c (Proc.devRef .tc main_v10_5) : S64x64.Idx → EReal) (ix2 g p)) ((K0 m k c (Proc.devRef .tc main_v10_6) : S64x64.Idx → EReal) (ix2 g p)) (scan (l g p) (x g p) 0 k))
      ∧ (∀ t : Fin 2048, t.val < k → ∀ g p, Is ((K0 m k c (Proc.devRef .tc main_v10_7) : S2048x64x64.Idx → EReal) (ix3 t g p)) ((K0 m k c (Proc.devRef .tc main_v10_8) : S2048x64x64.Idx → EReal) (ix3 t g p)) (scan (l g p) (x g p) 0 (t.val + 1)))
      ∧ (∀ t : Fin 2048, t.val < k → ∀ g p, Is ((K0 m k c (Proc.devRef .tc main_v10_9) : S2048x64x64.Idx → EReal) (ix3 t g p)) ((K0 m k c (Proc.devRef .tc main_v10_10) : S2048x64x64.Idx → EReal) (ix3 t g p)) (scan (l g p) (x g p) 0 t.val)) := by
  intro k
  induction k with
  | zero => exact fun _ => ⟨h0, fun t h => absurd h (by omega), fun t h => absurd h (by omega)⟩
  | succ k ih =>
    intro hk
    obtain ⟨i5, i7, i9⟩ := ih (by omega)
    have hctr := K0_ctr m c k
    have hk' : k < 2048 := by omega
    have e : K0 m (k + 1) c = afterL bodyI0 (after cond0 (K0 m k c)) := rfl
    have hi : after cond0 (K0 m k c) (Proc.devRef .tc main_v10_4) = fun _ => BitVec.ofNat 32 (⟨k, hk'⟩ : Fin 2048).val := by
      rw [cond0_keep _ _ (by decide), hctr]; funext j; exact iv_eq k
    have hn : ∀ g p, Is (nextRe (after cond0 (K0 m k c)) (ix2 g p)) (nextIm (after cond0 (K0 m k c)) (ix2 g p)) (scan (l g p) (x g p) 0 (k + 1)) := by
      intro g p
      refine Is.congr (((hl g p).mul (i5 g p)).add (hx ⟨k, hk'⟩ g p)) ?_ ?_ (scan_succ _ _ _ _).symm
      · unfold nextRe
        simp only [cond0_keep _ main_v10_2 (by decide), cond0_keep _ main_v10_3 (by decide), cond0_keep _ main_v10_5 (by decide), cond0_keep _ main_v10_6 (by decide)]
        rw [K0_keep m c main_v10_2 (by decide) (by decide), K0_keep m c main_v10_3 (by decide) (by decide)]
        show _ - _ + row _ _ (ix2 g p) = _
        rw [row_apply _ ⟨k, hk'⟩ _ hi, cond0_keep _ _ (by decide), K0_keep m c main_v10_0 (by decide) (by decide)]
        rfl
      · unfold nextIm
        simp only [cond0_keep _ main_v10_2 (by decide), cond0_keep _ main_v10_3 (by decide), cond0_keep _ main_v10_5 (by decide), cond0_keep _ main_v10_6 (by decide)]
        rw [K0_keep m c main_v10_2 (by decide) (by decide), K0_keep m c main_v10_3 (by decide) (by decide)]
        show _ + _ + row _ _ (ix2 g p) = _
        rw [row_apply _ ⟨k, hk'⟩ _ hi, cond0_keep _ _ (by decide), K0_keep m c main_v10_1 (by decide) (by decide)]
        rfl
    refine ⟨fun g p => ?_, fun t ht g p => ?_, fun t ht g p => ?_⟩
    · rw [e, trip0_main_v10_5, trip0_main_v10_6]; exact hn g p
    · rw [e, trip0_main_v10_7, trip0_main_v10_8, put_apply _ ⟨k, hk'⟩ _ hi, put_apply _ ⟨k, hk'⟩ _ hi]
      by_cases h : t = ⟨k, hk'⟩
      · rw [if_pos h, if_pos h, h]; exact hn g p
      · rw [if_neg h, if_neg h, cond0_keep _ _ (by decide), cond0_keep _ _ (by decide)]
        exact i7 t (by have := fun hh => h (Fin.ext hh); simp at this; omega) g p
    · rw [e, trip0_main_v10_9, trip0_main_v10_10, put_apply _ ⟨k, hk'⟩ _ hi, put_apply _ ⟨k, hk'⟩ _ hi]
      simp only [cond0_keep _ main_v10_9 (by decide), cond0_keep _ main_v10_10 (by decide), cond0_keep _ main_v10_5 (by decide), cond0_keep _ main_v10_6 (by decide)]
      by_cases h : t = ⟨k, hk'⟩
      · rw [if_pos h, if_pos h, h]; exact i5 g p
      · rw [if_neg h, if_neg h]
        exact i9 t (by have := fun hh => h (Fin.ext hh); simp at this; omega) g p

theorem carry_re (lr li ar ai : EReal) : li * ai + lr * ar = lr * ar - (-li) * ai := by
  rw [EReal.neg_mul, sub_eq_add_neg, neg_neg, add_comm]
theorem carry_im (lr li ar ai : EReal) : lr * ai + li * (-ar) = lr * ai + (-li) * ar := by
  rw [EReal.neg_mul, mul_comm li (-ar), EReal.neg_mul, mul_comm ar li]
theorem grad_re {s ar ai xr xi yr yi : EReal} {s' ar' ai' xr' xi' : ℝ} (hs : s = up s') (har : ar = up ar') (hai : ai = up ai') (hxr : xr = up xr') (hxi : xi = up xi')
    (hyr : yr = up xr') (hyi : yi = up xi') : s + ai * xi + ar * xr = s + (ar * yr - ai * -yi) := by
  subst hs har hai hxr hxi hyr hyi
  simp only [up, ← EReal.coe_mul, ← EReal.coe_neg, ← EReal.coe_add, ← EReal.coe_sub]
  exact congrArg _ (by ring)
theorem grad_im {s ar ai xr xi yr yi : EReal} {s' ar' ai' xr' xi' : ℝ} (hs : s = up s') (har : ar = up ar') (hai : ai = up ai') (hxr : xr = up xr') (hxi : xi = up xi')
    (hyr : yr = up xr') (hyi : yi = up xi') : s + ai * xr + (-ar) * xi = s + (ar * -yi + ai * yr) := by
  subst hs har hai hxr hxi hyr hyi
  simp only [up, ← EReal.coe_mul, ← EReal.coe_neg, ← EReal.coe_add, ← EReal.coe_sub]
  exact congrArg _ (by ring)

/-- The backward recurrence. -/
theorem bwd (l : Fin 64 → Fin 64 → ℂ) (ct x : Fin 64 → Fin 64 → ℕ → ℂ)
    (hl : ∀ g p, Is ((E1 m c (Proc.devRef .tc main_v35_4) : S64x64.Idx → EReal) (ix2 g p)) ((E1 m c (Proc.devRef .tc main_v35_5) : S64x64.Idx → EReal) (ix2 g p)) (l g p))
    (hc : ∀ (t : Fin 2048) g p, Is ((E1 m c (Proc.devRef .tc main_v35_0) : S2048x64x64.Idx → EReal) (ix3 t g p)) ((E1 m c (Proc.devRef .tc main_v35_1) : S2048x64x64.Idx → EReal) (ix3 t g p)) (ct g p t))
    (hx : ∀ (t : Fin 2048) g p, Is ((E1 m c (Proc.devRef .tc main_v35_2) : S2048x64x64.Idx → EReal) (ix3 t g p)) ((E1 m c (Proc.devRef .tc main_v35_3) : S2048x64x64.Idx → EReal) (ix3 t g p)) (x g p t))
    (h0 : ∀ g p, Is ((E1 m c (Proc.devRef .tc main_v35_9) : S64x64.Idx → EReal) (ix2 g p)) ((E1 m c (Proc.devRef .tc main_v35_10) : S64x64.Idx → EReal) (ix2 g p)) 0)
    (h7 : ∀ g p, Is ((E1 m c (Proc.devRef .tc main_v35_7) : S64x64.Idx → EReal) (ix2 g p)) ((E1 m c (Proc.devRef .tc main_v35_8) : S64x64.Idx → EReal) (ix2 g p)) 0) :
    ∀ k, k ≤ 2048 →
      (∀ g p, Is ((K1 m k c (Proc.devRef .tc main_v35_9) : S64x64.Idx → EReal) (ix2 g p)) ((K1 m k c (Proc.devRef .tc main_v35_10) : S64x64.Idx → EReal) (ix2 g p)) ((starRingEnd ℂ) (l g p) * scan ((starRingEnd ℂ) (l g p)) (fun i => ct g p (2047 - i)) 0 k))
      ∧ (∀ g p, Is ((K1 m k c (Proc.devRef .tc main_v35_7) : S64x64.Idx → EReal) (ix2 g p)) ((K1 m k c (Proc.devRef .tc main_v35_8) : S64x64.Idx → EReal) (ix2 g p)) (∑ j ∈ Finset.range k, scan ((starRingEnd ℂ) (l g p)) (fun i => ct g p (2047 - i)) 0 (j + 1) * (starRingEnd ℂ) (x g p (2047 - j))))
      ∧ (∀ t : Fin 2048, 2048 - k ≤ t.val → ∀ g p, Is ((K1 m k c (Proc.devRef .tc main_v35_11) : S2048x64x64.Idx → EReal) (ix3 t g p)) ((K1 m k c (Proc.devRef .tc main_v35_12) : S2048x64x64.Idx → EReal) (ix3 t g p)) (scan ((starRingEnd ℂ) (l g p)) (fun i => ct g p (2047 - i)) 0 (2048 - t.val))) := by
  intro k
  induction k with
  | zero =>
    refine fun _ => ⟨fun g p => ?_, fun g p => ?_, fun t h => absurd h (by omega)⟩
    · exact (h0 g p).congr rfl rfl (by rw [S5.scan, mul_zero])
    · exact (h7 g p).congr rfl rfl (by simp)
  | succ k ih =>
    intro hk
    obtain ⟨i9, i7, i11⟩ := ih (by omega)
    have hk' : k < 2048 := by omega
    have e : K1 m (k + 1) c = afterL bodyI1 (after cond1 (K1 m k c)) := rfl
    have hb : back (after cond1 (K1 m k c)) = fun _ => BitVec.ofNat 32 (⟨2047 - k, by omega⟩ : Fin 2048).val :=
      back_eq _ k hk' ((cond1_keep _ _ (by decide)).trans (K1_ctr m c k))
    have hr : ∀ (b : S2048x64x64.Idx → EReal) g p, row b (back (after cond1 (K1 m k c))) (ix2 g p) = b (ix3 ⟨2047 - k, by omega⟩ g p) :=
      fun b g p => row_apply _ ⟨2047 - k, by omega⟩ _ hb g p
    have hn : ∀ g p, Is (adjRe (after cond1 (K1 m k c)) (ix2 g p)) (adjIm (after cond1 (K1 m k c)) (ix2 g p)) (scan ((starRingEnd ℂ) (l g p)) (fun i => ct g p (2047 - i)) 0 (k + 1)) := by
      intro g p
      refine Is.congr ((i9 g p).add (hc ⟨2047 - k, by omega⟩ g p)) ?_ ?_ (scan_succ _ _ _ _).symm
      · unfold adjRe
        show _ + row _ _ (ix2 g p) = _
        rw [hr, cond1_keep _ _ (by decide), cond1_keep _ _ (by decide), K1_keep m c main_v35_0 (by decide) (by decide)]
      · unfold adjIm
        show _ + row _ _ (ix2 g p) = _
        rw [hr, cond1_keep _ _ (by decide), cond1_keep _ _ (by decide), K1_keep m c main_v35_1 (by decide) (by decide)]
    refine ⟨fun g p => ?_, fun g p => ?_, fun t ht g p => ?_⟩
    · rw [e, trip1_main_v35_9, trip1_main_v35_10]
      refine ((hl g p).conjugate.mul (hn g p)).congr ?_ ?_ rfl
      · simp only [cond1_keep _ main_v35_4 (by decide), cond1_keep _ main_v35_5 (by decide)]
        rw [K1_keep m c main_v35_4 (by decide) (by decide), K1_keep m c main_v35_5 (by decide) (by decide)]
        exact carry_re _ _ _ _
      · simp only [cond1_keep _ main_v35_4 (by decide), cond1_keep _ main_v35_5 (by decide)]
        rw [K1_keep m c main_v35_4 (by decide) (by decide), K1_keep m c main_v35_5 (by decide) (by decide)]
        exact carry_im _ _ _ _
    · rw [e, trip1_main_v35_7, trip1_main_v35_8, Finset.sum_range_succ]
      have hm := (i7 g p).add ((hn g p).mul (hx ⟨2047 - k, by omega⟩ g p).conjugate)
      have hre := (hn g p).re
      have him := (hn g p).im
      have hxr := (hx ⟨2047 - k, by omega⟩ g p).re
      have hxi := (hx ⟨2047 - k, by omega⟩ g p).im
      have h7' := (i7 g p).re
      have h8' := (i7 g p).im
      refine hm.congr ?_ ?_ rfl
      · simp only [cond1_keep _ main_v35_2 (by decide), cond1_keep _ main_v35_3 (by decide), cond1_keep _ main_v35_7 (by decide)]
        rw [K1_keep m c main_v35_2 (by decide) (by decide), K1_keep m c main_v35_3 (by decide) (by decide)]
        exact grad_re h7' hre him ((hr _ g p).trans hxr) ((hr _ g p).trans hxi) hxr hxi
      · simp only [cond1_keep _ main_v35_2 (by decide), cond1_keep _ main_v35_3 (by decide), cond1_keep _ main_v35_8 (by decide)]
        rw [K1_keep m c main_v35_2 (by decide) (by decide), K1_keep m c main_v35_3 (by decide) (by decide)]
        exact grad_im h8' hre him ((hr _ g p).trans hxr) ((hr _ g p).trans hxi) hxr hxi
    · rw [e, trip1_main_v35_11, trip1_main_v35_12, put_apply _ ⟨2047 - k, by omega⟩ _ hb, put_apply _ ⟨2047 - k, by omega⟩ _ hb]
      by_cases h : t = ⟨2047 - k, by omega⟩
      · rw [if_pos h, if_pos h, h]
        exact (hn g p).congr rfl rfl (congrArg _ (by show k + 1 = 2048 - (2047 - k); omega))
      · rw [if_neg h, if_neg h, cond1_keep _ _ (by decide), cond1_keep _ _ (by decide)]
        exact i11 t (by have := fun hh => h (Fin.ext hh); simp at this; omega) g p

end Cert.ReferenceIdeal.Trip

end
-- ==== Proof.RefOut.lean ====
/-
  The reference's eight results in closed form.
-/
module

public import proofs.«01_k».proof.Proof.RefScan
public import proofs.«01_k».proof.Proof.Closed

@[expose] public section

set_option maxRecDepth 16384

noncomputable section

namespace Cert.ReferenceIdeal.Trip

open Cert.S5 Cert.ReferenceIdeal Cert.ReferenceIdeal.Gen Cert.ReferenceIdeal.Lists Cert.ReferenceIdeal.Run
open Idealize.ShloMosaic Idealize.ShloMosaic.TcCoe Idealize.ShloMosaic.Tactic
open Idealize.ShloMosaic.StableHlo
open scoped BigOperators

/-! ## The stretches' operations, entry by entry -/

abbrev A2 := S2048x1024.Idx → EReal
abbrev A3 := S2048x64x16.Idx → EReal
abbrev H3 := S2048x64x64.Idx → EReal
abbrev B3 := S64x64x16.Idx → EReal
abbrev C3 := S64x16x64.Idx → EReal

def grp (x : A2) : A3 := shapeCast S2048x64x16 x shapeCasts_S2048x1024_S2048x64x16
theorem grp_apply (x : A2) (t : Fin 2048) (g : Fin 64) (ch : Fin 16) : grp x (ix3 t g ch) = x (ix2 t (gch g ch)) := by
  unfold grp; pointwise; rfl
def flat (x : A3) : A2 := shapeCast S2048x1024 x shapeCasts_S2048x64x16_S2048x1024
theorem flat_apply (x : A3) (t : Fin 2048) (n : Fin 1024) : flat x (ix2 t n) = x (ix3 t (gOf n) (cOf n)) := by
  unfold flat; pointwise; rfl
def toState (x : A3) (y : B3) : H3 := transpose S2048x64x64 [1, 0, 2] (Host.dotGeneral (F := Ideal) (φ₁ := .f32) (φ₂ := .f32) dot_S2048x64x16_S64x64x16_S64x2048x64_2_2_0_1_1_0 none x y) transposes_S64x2048x64_S2048x64x64_1_0_2
theorem toState_apply (x : A3) (y : B3) (t : Fin 2048) (g p : Fin 64) : toState x y (ix3 t g p) = ∑ ch : Fin 16, x (ix3 t g ch) * y (ix3 g p ch) := by
  unfold toState; pointwise
def toOut (x : H3) (y : C3) : A3 := transpose S2048x64x16 [1, 0, 2] (Host.dotGeneral (F := Ideal) (φ₁ := .f32) (φ₂ := .f32) dot_S2048x64x64_S64x16x64_S64x2048x16_2_2_0_1_1_0 none x y) transposes_S64x2048x16_S2048x64x16_1_0_2
theorem toOut_apply (x : H3) (y : C3) (t : Fin 2048) (g : Fin 64) (ch : Fin 16) : toOut x y (ix3 t g ch) = ∑ p : Fin 64, x (ix3 t g p) * y (ix3 g ch p) := by
  unfold toOut; pointwise
abbrev swap (x : A3) : S64x2048x16.Idx → EReal := transpose S64x2048x16 [1, 0, 2] x transposes_S2048x64x16_S64x2048x16_1_0_2
def outState (x : A3) (y : H3) : C3 := Host.dotGeneral (F := Ideal) (φ₁ := .f32) (φ₂ := .f32) dot_S64x2048x16_S2048x64x64_S64x16x64_1_0_2_2_0_1 none (swap x) y
theorem outState_apply (x : A3) (y : H3) (g : Fin 64) (ch : Fin 16) (p : Fin 64) : outState x y (ix3 g ch p) = ∑ t : Fin 2048, x (ix3 t g ch) * y (ix3 t g p) := by
  unfold outState; pointwise
def pullOut (x : A3) (y : C3) : H3 := transpose S2048x64x64 [1, 0, 2] (Host.dotGeneral (F := Ideal) (φ₁ := .f32) (φ₂ := .f32) dot_S64x2048x16_S64x16x64_S64x2048x64_2_1_1_2_0_0 none (swap x) y) transposes_S64x2048x64_S2048x64x64_1_0_2
theorem pullOut_apply (x : A3) (y : C3) (t : Fin 2048) (g p : Fin 64) : pullOut x y (ix3 t g p) = ∑ ch : Fin 16, x (ix3 t g ch) * y (ix3 g ch p) := by
  unfold pullOut; pointwise
abbrev swapH (x : H3) : S64x2048x64.Idx → EReal := transpose S64x2048x64 [1, 0, 2] x transposes_S2048x64x64_S64x2048x64_1_0_2
def stateIn (x : H3) (y : A3) : B3 := Host.dotGeneral (F := Ideal) (φ₁ := .f32) (φ₂ := .f32) dot_S64x2048x64_S2048x64x16_S64x64x16_1_0_2_2_0_1 none (swapH x) y
theorem stateIn_apply (x : H3) (y : A3) (g p : Fin 64) (ch : Fin 16) : stateIn x y (ix3 g p ch) = ∑ t : Fin 2048, x (ix3 t g p) * y (ix3 t g ch) := by
  unfold stateIn; pointwise
def pullIn (x : H3) (y : B3) : A3 := transpose S2048x64x16 [1, 0, 2] (Host.dotGeneral (F := Ideal) (φ₁ := .f32) (φ₂ := .f32) dot_S64x2048x64_S64x64x16_S64x2048x16_2_1_1_2_0_0 none (swapH x) y) transposes_S64x2048x16_S2048x64x16_1_0_2
theorem pullIn_apply (x : H3) (y : B3) (t : Fin 2048) (g : Fin 64) (ch : Fin 16) : pullIn x y (ix3 t g ch) = ∑ p : Fin 64, x (ix3 t g p) * y (ix3 g p ch) := by
  unfold pullIn; pointwise
def neg3 (x : A3) : A3 := Host.negf (F := Ideal) (φ := .f32) x
def sub3 (x y : A3) : A3 := subf (F := Ideal) (φ := .f32) x y
def add3 (x y : A3) : A3 := addf (F := Ideal) (φ := .f32) x y
def zero2 : S64x64.Idx → EReal := broadcastInDim S64x64 ![] bcast_S_S64x64 (constant (F := Ideal) S_ .f32 0x00000000#32)
theorem zero2_apply (g p : Fin 64) : zero2 (ix2 g p) = 0 := by
  unfold zero2; pointwise

/-! ## Contents at the boundaries -/

theorem preOps_main_v10_0 (V : Valuation τ sig (Elt Ideal)) : after preOps V (no_index (Proc.devRef .tc main_v10_0)) = toState (grp (V (Proc.devRef .tc main_arg0))) (V (Proc.devRef .tc main_arg3)) := by
  unfold toState grp
  after_reads_simp
  try rfl
theorem preOps_main_v10_1 (V : Valuation τ sig (Elt Ideal)) : after preOps V (no_index (Proc.devRef .tc main_v10_1)) = toState (grp (V (Proc.devRef .tc main_arg0))) (V (Proc.devRef .tc main_arg4)) := by
  unfold toState grp
  after_reads_simp
  try rfl
theorem preOps_main_v0 (V : Valuation τ sig (Elt Ideal)) : after preOps V (no_index (Proc.devRef .tc main_v0)) = grp (V (Proc.devRef .tc main_arg0)) := by
  unfold grp
  after_reads_simp
  try rfl
theorem preOps_main_v10_2 (V : Valuation τ sig (Elt Ideal)) : after preOps V (no_index (Proc.devRef .tc main_v10_2)) = (V (Proc.devRef .tc main_arg1)) := by
  after_reads_simp
  try rfl
theorem preOps_main_v10_3 (V : Valuation τ sig (Elt Ideal)) : after preOps V (no_index (Proc.devRef .tc main_v10_3)) = (V (Proc.devRef .tc main_arg2)) := by
  after_reads_simp
  try rfl
theorem preOps_main_v10_5 (V : Valuation τ sig (Elt Ideal)) : after preOps V (no_index (Proc.devRef .tc main_v10_5)) = zero2 := by
  unfold zero2
  after_reads_simp
  try rfl
theorem preOps_main_v10_6 (V : Valuation τ sig (Elt Ideal)) : after preOps V (no_index (Proc.devRef .tc main_v10_6)) = zero2 := by
  unfold zero2
  after_reads_simp
  try rfl
theorem midOps_main_v16 (V : Valuation τ sig (Elt Ideal)) : after midOps V (no_index (Proc.devRef .tc main_v16)) = flat (sub3 (toOut (V (Proc.devRef .tc main_v10_7)) (V (Proc.devRef .tc main_arg5))) (toOut (V (Proc.devRef .tc main_v10_8)) (V (Proc.devRef .tc main_arg6)))) := by
  unfold flat sub3 toOut
  after_reads_simp
  try rfl
theorem midOps_main_v22 (V : Valuation τ sig (Elt Ideal)) : after midOps V (no_index (Proc.devRef .tc main_v22)) = outState (neg3 (grp (V (Proc.devRef .tc main_arg7)))) (V (Proc.devRef .tc main_v10_8)) := by
  unfold outState neg3 grp
  after_reads_simp
  try rfl
theorem midOps_main_v26 (V : Valuation τ sig (Elt Ideal)) : after midOps V (no_index (Proc.devRef .tc main_v26)) = outState (grp (V (Proc.devRef .tc main_arg7))) (V (Proc.devRef .tc main_v10_7)) := by
  unfold outState grp
  after_reads_simp
  try rfl
theorem midOps_main_v35_0 (V : Valuation τ sig (Elt Ideal)) : after midOps V (no_index (Proc.devRef .tc main_v35_0)) = pullOut (grp (V (Proc.devRef .tc main_arg7))) (V (Proc.devRef .tc main_arg5)) := by
  unfold pullOut grp
  after_reads_simp
  try rfl
theorem midOps_main_v35_1 (V : Valuation τ sig (Elt Ideal)) : after midOps V (no_index (Proc.devRef .tc main_v35_1)) = pullOut (neg3 (grp (V (Proc.devRef .tc main_arg7)))) (V (Proc.devRef .tc main_arg6)) := by
  unfold pullOut neg3 grp
  after_reads_simp
  try rfl
theorem midOps_main_v35_2 (V : Valuation τ sig (Elt Ideal)) : after midOps V (no_index (Proc.devRef .tc main_v35_2)) = (V (Proc.devRef .tc main_v10_9)) := by
  after_reads_simp
  try rfl
theorem midOps_main_v35_3 (V : Valuation τ sig (Elt Ideal)) : after midOps V (no_index (Proc.devRef .tc main_v35_3)) = (V (Proc.devRef .tc main_v10_10)) := by
  after_reads_simp
  try rfl
theorem midOps_main_v35_4 (V : Valuation τ sig (Elt Ideal)) : after midOps V (no_index (Proc.devRef .tc main_v35_4)) = (V (Proc.devRef .tc main_arg1)) := by
  after_reads_simp
  try rfl
theorem midOps_main_v35_5 (V : Valuation τ sig (Elt Ideal)) : after midOps V (no_index (Proc.devRef .tc main_v35_5)) = (V (Proc.devRef .tc main_arg2)) := by
  after_reads_simp
  try rfl
theorem midOps_main_v35_7 (V : Valuation τ sig (Elt Ideal)) : after midOps V (no_index (Proc.devRef .tc main_v35_7)) = zero2 := by
  unfold zero2
  after_reads_simp
  try rfl
theorem midOps_main_v35_8 (V : Valuation τ sig (Elt Ideal)) : after midOps V (no_index (Proc.devRef .tc main_v35_8)) = zero2 := by
  unfold zero2
  after_reads_simp
  try rfl
theorem midOps_main_v35_9 (V : Valuation τ sig (Elt Ideal)) : after midOps V (no_index (Proc.devRef .tc main_v35_9)) = zero2 := by
  unfold zero2
  after_reads_simp
  try rfl
theorem midOps_main_v35_10 (V : Valuation τ sig (Elt Ideal)) : after midOps V (no_index (Proc.devRef .tc main_v35_10)) = zero2 := by
  unfold zero2
  after_reads_simp
  try rfl
theorem postOps_main_v37 (V : Valuation τ sig (Elt Ideal)) : after postOps V (no_index (Proc.devRef .tc main_v37)) = stateIn (V (Proc.devRef .tc main_v35_12)) (V (Proc.devRef .tc main_v0)) := by
  unfold stateIn
  after_reads_simp
  try rfl
theorem postOps_main_v41 (V : Valuation τ sig (Elt Ideal)) : after postOps V (no_index (Proc.devRef .tc main_v41)) = stateIn (V (Proc.devRef .tc main_v35_11)) (V (Proc.devRef .tc main_v0)) := by
  unfold stateIn
  after_reads_simp
  try rfl
theorem postOps_main_v45 (V : Valuation τ sig (Elt Ideal)) : after postOps V (no_index (Proc.devRef .tc main_v45)) = flat (add3 (pullIn (V (Proc.devRef .tc main_v35_12)) (V (Proc.devRef .tc main_arg4))) (pullIn (V (Proc.devRef .tc main_v35_11)) (V (Proc.devRef .tc main_arg3)))) := by
  unfold flat add3 pullIn
  after_reads_simp
  try rfl

/-- The inputs hold the numbers of `D`. -/
structure Inp (V : Valuation τ sig (Elt Ideal)) (D : Data) : Prop where
  u : ∀ (t : Fin 2048) n, (V (Proc.devRef .tc main_arg0) : A2) (ix2 t n) = up (D.u t n)
  l : ∀ g p, Is ((V (Proc.devRef .tc main_arg1) : S64x64.Idx → EReal) (ix2 g p)) ((V (Proc.devRef .tc main_arg2) : S64x64.Idx → EReal) (ix2 g p)) (D.l g p)
  br : ∀ g p ch, (V (Proc.devRef .tc main_arg3) : B3) (ix3 g p ch) = up (D.br g p ch)
  bi : ∀ g p ch, (V (Proc.devRef .tc main_arg4) : B3) (ix3 g p ch) = up (D.bi g p ch)
  cr : ∀ g ch p, (V (Proc.devRef .tc main_arg5) : C3) (ix3 g ch p) = up (D.cr g ch p)
  ci : ∀ g ch p, (V (Proc.devRef .tc main_arg6) : C3) (ix3 g ch p) = up (D.ci g ch p)
  dy : ∀ (t : Fin 2048) n, (V (Proc.devRef .tc main_arg7) : A2) (ix2 t n) = up (D.dy t n)

variable (m : (ℓ : Loc nD τ sig) → Buf (Elt Ideal) ℓ) (c : Dev nD) (D : Data) (h : Inp (launchContents m c) D)

theorem E0_eq (r : Ref sig .tc) : E0 m c (Proc.devRef .tc r) = after preOps (launchContents m c) (Proc.devRef .tc r) := rfl
theorem X0_eq (r : Ref sig .tc) : X0 m c (Proc.devRef .tc r) = after cond0 (K0 m 2048 c) (Proc.devRef .tc r) := rfl
theorem E1_eq (r : Ref sig .tc) : E1 m c (Proc.devRef .tc r) = after midOps (X0 m c) (Proc.devRef .tc r) := rfl
theorem X1_eq (r : Ref sig .tc) : X1 m c (Proc.devRef .tc r) = after cond1 (K1 m 2048 c) (Proc.devRef .tc r) := rfl
theorem W_eq (r : Ref sig .tc) : Wfin m c (Proc.devRef .tc r) = after postOps (X1 m c) (Proc.devRef .tc r) := rfl

include h

theorem x0_arg (r : Ref sig .tc) (h1 : r ∉ preOps_W) (h2 : r ∉ cond0_W) (h3 : r ∉ body0_0_W ++ body0_1_W ++ body0_2_W ++ body0_3_W ++ body0_4_W ++ body0_5_W ++ body0_6_W ++ body0_7_W) :
    X0 m c (Proc.devRef .tc r) = launchContents m c (Proc.devRef .tc r) :=
  (cond0_keep _ _ h2).trans ((K0_keep m c r h2 h3 2048).trans (preOps_keep _ _ h1))

theorem x1_of (r : Ref sig .tc) (h2 : r ∉ cond1_W) (h3 : r ∉ body1_0_W ++ body1_1_W ++ body1_2_W ++ body1_3_W ++ body1_4_W ++ body1_5_W ++ body1_6_W ++ body1_7_W ++ body1_8_W) :
    X1 m c (Proc.devRef .tc r) = E1 m c (Proc.devRef .tc r) :=
  (cond1_keep _ _ h2).trans (K1_keep m c r h2 h3 2048)

theorem fwd_end :
    (∀ (t : Fin 2048) g p, Is ((X0 m c (Proc.devRef .tc main_v10_7) : H3) (ix3 t g p)) ((X0 m c (Proc.devRef .tc main_v10_8) : H3) (ix3 t g p)) (D.x g p (t.val + 1)))
    ∧ (∀ (t : Fin 2048) g p, Is ((X0 m c (Proc.devRef .tc main_v10_9) : H3) (ix3 t g p)) ((X0 m c (Proc.devRef .tc main_v10_10) : H3) (ix3 t g p)) (D.x g p t.val)) := by
  have hf := fwd m c D.l D.bu
    (fun g p => by rw [E0_eq, E0_eq, preOps_main_v10_2, preOps_main_v10_3]; exact h.l g p)
    (fun t g p => by
      rw [E0_eq, E0_eq, preOps_main_v10_0, preOps_main_v10_1, toState_apply, toState_apply]
      exact ⟨sum_mul_up _ _ _ _ (fun ch => (grp_apply _ t g ch).trans (h.u t _)) (fun ch => h.br g p ch),
        sum_mul_up _ _ _ _ (fun ch => (grp_apply _ t g ch).trans (h.u t _)) (fun ch => h.bi g p ch)⟩)
    (fun g p => by rw [E0_eq, E0_eq, preOps_main_v10_5, preOps_main_v10_6, zero2_apply]; exact Is.zero)
    2048 le_rfl
  refine ⟨fun t g p => ?_, fun t g p => ?_⟩
  · rw [X0_eq, X0_eq, cond0_keep _ _ (by decide), cond0_keep _ _ (by decide)]; exact hf.2.1 t t.isLt g p
  · rw [X0_eq, X0_eq, cond0_keep _ _ (by decide), cond0_keep _ _ (by decide)]; exact hf.2.2 t t.isLt g p

theorem bwd_end :
    (∀ g p, Is ((X1 m c (Proc.devRef .tc main_v35_7) : S64x64.Idx → EReal) (ix2 g p)) ((X1 m c (Proc.devRef .tc main_v35_8) : S64x64.Idx → EReal) (ix2 g p)) (D.dl g p))
    ∧ (∀ (t : Fin 2048) g p, Is ((X1 m c (Proc.devRef .tc main_v35_11) : H3) (ix3 t g p)) ((X1 m c (Proc.devRef .tc main_v35_12) : H3) (ix3 t g p)) (D.adj g p t.val)) := by
  have hf := bwd m c D.l D.ct D.x
    (fun g p => by rw [E1_eq, E1_eq, midOps_main_v35_4, midOps_main_v35_5, x0_arg m c D h _ (by decide) (by decide) (by decide), x0_arg m c D h _ (by decide) (by decide) (by decide)]; exact h.l g p)
    (fun t g p => by
      rw [E1_eq, E1_eq, midOps_main_v35_0, midOps_main_v35_1, pullOut_apply, pullOut_apply, x0_arg m c D h main_arg5 (by decide) (by decide) (by decide),
        x0_arg m c D h main_arg6 (by decide) (by decide) (by decide), x0_arg m c D h main_arg7 (by decide) (by decide) (by decide)]
      refine ⟨sum_mul_up _ _ _ _ (fun ch => (grp_apply _ t g ch).trans (h.dy t _)) (fun ch => h.cr g ch p), ?_⟩
      refine (sum_mul_up _ _ (fun ch => -D.dy t (gch g ch)) _ (fun ch => (congrArg (fun z => -z) ((grp_apply _ t g ch).trans (h.dy t _))).trans (EReal.coe_neg _).symm) (fun ch => h.ci g ch p)).trans (congrArg up ?_)
      simp only [neg_mul, Finset.sum_neg_distrib]; rfl)
    (fun t g p => by rw [E1_eq, E1_eq, midOps_main_v35_2, midOps_main_v35_3]; exact (fwd_end m c D h).2 t g p)
    (fun g p => by rw [E1_eq, E1_eq, midOps_main_v35_9, midOps_main_v35_10, zero2_apply]; exact Is.zero)
    (fun g p => by rw [E1_eq, E1_eq, midOps_main_v35_7, midOps_main_v35_8, zero2_apply]; exact Is.zero)
    2048 le_rfl
  refine ⟨fun g p => ?_, fun t g p => ?_⟩
  · rw [X1_eq, X1_eq, cond1_keep _ _ (by decide), cond1_keep _ _ (by decide)]
    refine (hf.2.1 g p).congr rfl rfl ?_
    unfold Data.dl
    rw [← Finset.sum_range_reflect]
    refine Finset.sum_congr rfl fun j hj => ?_
    have hj' := Finset.mem_range.mp hj
    unfold Data.adj
    rw [show 2048 - 1 - j + 1 = 2048 - j by omega, show 2047 - (2048 - 1 - j) = j by omega]
  · rw [X1_eq, X1_eq, cond1_keep _ _ (by decide), cond1_keep _ _ (by decide)]; exact hf.2.2 t (by omega) g p

theorem out_y (t : Fin 2048) (n : Fin 1024) : (Wfin m c (Proc.devRef .tc main_v16) : A2) (ix2 t n) = up (D.y t (gOf n) (cOf n)) := by
  rw [W_eq, postOps_keep _ _ (by decide), x1_of m c D h _ (by decide) (by decide), E1_eq, midOps_main_v16, flat_apply]
  show toOut _ _ _ - toOut _ _ _ = _
  rw [toOut_apply, toOut_apply, x0_arg m c D h main_arg5 (by decide) (by decide) (by decide), x0_arg m c D h main_arg6 (by decide) (by decide) (by decide),
    sum_mul_up _ _ _ _ (fun p => ((fwd_end m c D h).1 t (gOf n) p).re) (fun p => h.cr (gOf n) (cOf n) p),
    sum_mul_up _ _ _ _ (fun p => ((fwd_end m c D h).1 t (gOf n) p).im) (fun p => h.ci (gOf n) (cOf n) p)]
  exact (EReal.coe_sub _ _).symm

theorem out_dcr (g : Fin 64) (ch : Fin 16) (p : Fin 64) : (Wfin m c (Proc.devRef .tc main_v26) : C3) (ix3 g ch p) = up (D.dcr g ch p) := by
  rw [W_eq, postOps_keep _ _ (by decide), x1_of m c D h _ (by decide) (by decide), E1_eq, midOps_main_v26, outState_apply, x0_arg m c D h main_arg7 (by decide) (by decide) (by decide)]
  unfold Data.dcr
  rw [Finset.sum_range]
  exact sum_mul_up _ _ _ _ (fun t => (grp_apply _ t g ch).trans (h.dy t _)) (fun t => ((fwd_end m c D h).1 t g p).re)

theorem out_dci (g : Fin 64) (ch : Fin 16) (p : Fin 64) : (Wfin m c (Proc.devRef .tc main_v22) : C3) (ix3 g ch p) = up (D.dci g ch p) := by
  rw [W_eq, postOps_keep _ _ (by decide), x1_of m c D h _ (by decide) (by decide), E1_eq, midOps_main_v22, outState_apply, x0_arg m c D h main_arg7 (by decide) (by decide) (by decide)]
  unfold Data.dci
  rw [Finset.sum_range]
  exact sum_mul_up _ _ _ _ (fun t => (congrArg (fun z => -z) ((grp_apply _ t g ch).trans (h.dy t _))).trans (EReal.coe_neg _).symm) (fun t => ((fwd_end m c D h).1 t g p).im)

theorem out_dl (g p : Fin 64) : Is ((Wfin m c (Proc.devRef .tc main_v35_7) : S64x64.Idx → EReal) (ix2 g p)) ((Wfin m c (Proc.devRef .tc main_v35_8) : S64x64.Idx → EReal) (ix2 g p)) (D.dl g p) := by
  rw [W_eq, W_eq, postOps_keep _ _ (by decide), postOps_keep _ _ (by decide)]
  exact (bwd_end m c D h).1 g p

theorem x1_v0 : X1 m c (Proc.devRef .tc main_v0) = grp (launchContents m c (Proc.devRef .tc main_arg0)) := by
  rw [x1_of m c D h _ (by decide) (by decide), E1_eq, midOps_keep _ _ (by decide), X0_eq, cond0_keep _ _ (by decide), K0_keep m c _ (by decide) (by decide), E0_eq, preOps_main_v0]

theorem out_dbr (g p : Fin 64) (ch : Fin 16) : (Wfin m c (Proc.devRef .tc main_v41) : B3) (ix3 g p ch) = up (D.dbr g p ch) := by
  rw [W_eq, postOps_main_v41, stateIn_apply, x1_v0 m c D h]
  unfold Data.dbr
  rw [Finset.sum_range]
  exact sum_mul_up _ _ _ _ (fun t => ((bwd_end m c D h).2 t g p).re) (fun t => (grp_apply _ t g ch).trans (h.u t _))

theorem out_dbi (g p : Fin 64) (ch : Fin 16) : (Wfin m c (Proc.devRef .tc main_v37) : B3) (ix3 g p ch) = up (D.dbi g p ch) := by
  rw [W_eq, postOps_main_v37, stateIn_apply, x1_v0 m c D h]
  unfold Data.dbi
  rw [Finset.sum_range]
  exact sum_mul_up _ _ _ _ (fun t => ((bwd_end m c D h).2 t g p).im) (fun t => (grp_apply _ t g ch).trans (h.u t _))

theorem x1_arg (r : Ref sig .tc) (h1 : r ∉ preOps_W) (h2 : r ∉ cond0_W) (h3 : r ∉ body0_0_W ++ body0_1_W ++ body0_2_W ++ body0_3_W ++ body0_4_W ++ body0_5_W ++ body0_6_W ++ body0_7_W)
    (h4 : r ∉ midOps_W) (h5 : r ∉ cond1_W) (h6 : r ∉ body1_0_W ++ body1_1_W ++ body1_2_W ++ body1_3_W ++ body1_4_W ++ body1_5_W ++ body1_6_W ++ body1_7_W ++ body1_8_W) :
    X1 m c (Proc.devRef .tc r) = launchContents m c (Proc.devRef .tc r) :=
  (x1_of m c D h r h5 h6).trans ((midOps_keep _ _ h4).trans (x0_arg m c D h r h1 h2 h3))

theorem out_du (t : Fin 2048) (n : Fin 1024) : (Wfin m c (Proc.devRef .tc main_v45) : A2) (ix2 t n) = up (D.du t (gOf n) (cOf n)) := by
  rw [W_eq, postOps_main_v45, flat_apply]
  show pullIn _ _ _ + pullIn _ _ _ = _
  rw [pullIn_apply, pullIn_apply, x1_arg m c D h main_arg3 (by decide) (by decide) (by decide) (by decide) (by decide) (by decide),
    x1_arg m c D h main_arg4 (by decide) (by decide) (by decide) (by decide) (by decide) (by decide),
    sum_mul_up _ _ _ _ (fun p => ((bwd_end m c D h).2 t (gOf n) p).re) (fun p => h.br (gOf n) p (cOf n)),
    sum_mul_up _ _ _ _ (fun p => ((bwd_end m c D h).2 t (gOf n) p).im) (fun p => h.bi (gOf n) p (cOf n))]
  exact (add_comm _ _).trans (EReal.coe_add _ _).symm

end Cert.ReferenceIdeal.Trip

end
-- ==== Proof.Match.lean ====
/-
  The kernel's results are the reference's, on finite inputs.
-/
module

public import proofs.«01_k».proof.Defs
public import proofs.«01_k».proof.Proof.KOut
public import proofs.«01_k».proof.Proof.RefOut
public import proofs.«01_k».proof.Proof.Gen.ReferenceIdeal
public import Idealize.ShloMosaic.Lib.ValueIdxCore

@[expose] public section

set_option maxRecDepth 16384

noncomputable section

namespace Cert.S5

open Idealize.ShloMosaic Idealize.ShloMosaic.TcCoe
open Idealize.ShloMosaic.StableHlo

/-- The shape relations that the precondition states. -/
instance finite_facts : Cert.Pre_finite.Facts where
  bcast_S_S2048x1024 := by decide
  bcast_S_S64x64 := by decide
  bcast_S_S64x64x16 := by decide
  bcast_S_S64x16x64 := by decide

/-! ## A finite extended real is a real -/

theorem inf_word : Ideal.ofBits .f32 0x7F800000#32 = (⊤ : EReal) := by simp [Ideal.ofBits, Ideal.ieee]

theorem real_of (x : EReal) (h : Ideal.cmp .olt (max x (-x)) (Ideal.ofBits .f32 0x7F800000#32) = 1#1) : x = up x.toReal := by
  rw [inf_word] at h
  have h' : max x (-x) < ⊤ := by
    by_contra hn
    simp [Ideal.cmp, hn] at h
  refine (EReal.coe_toReal ?_ ?_).symm
  · rintro rfl; simp at h'
  · rintro rfl; simp at h'

/-! ## The inputs as numbers -/

/-- Every entry of every array is a real number. -/
structure Reals (a0 : (⟨2, ![2048, 1024]⟩ : Shape).Idx → EReal) (a1 : (⟨2, ![64, 64]⟩ : Shape).Idx → EReal) (a2 : (⟨2, ![64, 64]⟩ : Shape).Idx → EReal) (a3 : (⟨3, ![64, 64, 16]⟩ : Shape).Idx → EReal) (a4 : (⟨3, ![64, 64, 16]⟩ : Shape).Idx → EReal) (a5 : (⟨3, ![64, 16, 64]⟩ : Shape).Idx → EReal) (a6 : (⟨3, ![64, 16, 64]⟩ : Shape).Idx → EReal) (a7 : (⟨2, ![2048, 1024]⟩ : Shape).Idx → EReal) : Prop where
  h0 : ∀ i, a0 i = up (a0 i).toReal
  h1 : ∀ i, a1 i = up (a1 i).toReal
  h2 : ∀ i, a2 i = up (a2 i).toReal
  h3 : ∀ i, a3 i = up (a3 i).toReal
  h4 : ∀ i, a4 i = up (a4 i).toReal
  h5 : ∀ i, a5 i = up (a5 i).toReal
  h6 : ∀ i, a6 i = up (a6 i).toReal
  h7 : ∀ i, a7 i = up (a7 i).toReal

/-- The numbers that the arrays hold. -/
def dataOf (a0 : (⟨2, ![2048, 1024]⟩ : Shape).Idx → EReal) (a1 : (⟨2, ![64, 64]⟩ : Shape).Idx → EReal) (a2 : (⟨2, ![64, 64]⟩ : Shape).Idx → EReal) (a3 : (⟨3, ![64, 64, 16]⟩ : Shape).Idx → EReal) (a4 : (⟨3, ![64, 64, 16]⟩ : Shape).Idx → EReal) (a5 : (⟨3, ![64, 16, 64]⟩ : Shape).Idx → EReal) (a6 : (⟨3, ![64, 16, 64]⟩ : Shape).Idx → EReal) (a7 : (⟨2, ![2048, 1024]⟩ : Shape).Idx → EReal) : Data where
  u t n := (a0 (ix2 (Fin.ofNat 2048 t) n)).toReal
  l g p := ⟨(a1 (ix2 g p)).toReal, (a2 (ix2 g p)).toReal⟩
  br g p ch := (a3 (ix3 g p ch)).toReal
  bi g p ch := (a4 (ix3 g p ch)).toReal
  cr g ch p := (a5 (ix3 g ch p)).toReal
  ci g ch p := (a6 (ix3 g ch p)).toReal
  dy t n := (a7 (ix2 (Fin.ofNat 2048 t) n)).toReal

theorem ext2 {n0 n1 : ℕ} {f g : (⟨2, ![n0, n1]⟩ : Shape).Idx → EReal} (h : ∀ a b, f (ix2 a b) = g (ix2 a b)) : f = g :=
  funext fun i => by rw [eq_ix2 i]; exact h (i 0) (i 1)
theorem ext3 {n0 n1 n2 : ℕ} {f g : (⟨3, ![n0, n1, n2]⟩ : Shape).Idx → EReal} (h : ∀ a b e, f (ix3 a b e) = g (ix3 a b e)) : f = g :=
  funext fun i => by rw [eq_ix3 i]; exact h (i 0) (i 1) (i 2)
theorem row_self (t : Fin 2048) : Fin.ofNat 2048 t.val = t := Fin.ext (Nat.mod_eq_of_lt t.isLt)

section
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

theorem reals_of (h : Cert.Pre_KernelIdeal_finite m) (c : Dev Cert.KernelIdeal.nD) : Reals (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  ⟨fun i => real_of _ (congrFun (h c).1 i),
   fun i => real_of _ (congrFun (h c).2.1 i),
   fun i => real_of _ (congrFun (h c).2.2.1 i),
   fun i => real_of _ (congrFun (h c).2.2.2.1 i),
   fun i => real_of _ (congrFun (h c).2.2.2.2.1 i),
   fun i => real_of _ (congrFun (h c).2.2.2.2.2.1 i),
   fun i => real_of _ (congrFun (h c).2.2.2.2.2.2.1 i),
   fun i => real_of _ (congrFun (h c).2.2.2.2.2.2.2 i)⟩

/-- The numbers that the kernel's arguments hold on core `c`. -/
def kdata (c : Dev Cert.KernelIdeal.nD) : Data := dataOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))

theorem inp_kernel (h : Cert.Pre_KernelIdeal_finite m) (c : Dev Cert.KernelIdeal.nD) : Inp (Cert.KernelIdeal.Gen.W0 m ρ c) (kdata m c) :=
  ⟨fun t n => ((reals_of m h c).h0 (ix2 t n)).trans (congrArg (fun s => up (EReal.toReal ((m ((c.tc : Thread Cert.KernelIdeal.nD Cert.KernelIdeal.τ).loc Cert.KernelIdeal.main_arg0)) (ix2 s n)))) (row_self t).symm),
   fun g p => ⟨(reals_of m h c).h1 (ix2 g p), (reals_of m h c).h2 (ix2 g p)⟩,
   fun a b e => (reals_of m h c).h3 (ix3 a b e),
   fun a b e => (reals_of m h c).h4 (ix3 a b e),
   fun a b e => (reals_of m h c).h5 (ix3 a b e),
   fun a b e => (reals_of m h c).h6 (ix3 a b e),
   fun t n => ((reals_of m h c).h7 (ix2 t n)).trans (congrArg (fun s => up (EReal.toReal ((m ((c.tc : Thread Cert.KernelIdeal.nD Cert.KernelIdeal.τ).loc Cert.KernelIdeal.main_arg7)) (ix2 s n)))) (row_self t).symm)⟩
theorem inp_reference (h : Cert.Pre_KernelIdeal_finite m)
    (ha : (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))) (c : Dev Cert.KernelIdeal.nD) :
    Cert.ReferenceIdeal.Trip.Inp (launchContents m' c) (kdata m c) :=
  ⟨fun t n => ((fun i => (congrFun (ha c).1 i).trans ((reals_of m h c).h0 i)) (ix2 t n)).trans (congrArg (fun s => up (EReal.toReal ((m ((c.tc : Thread Cert.KernelIdeal.nD Cert.KernelIdeal.τ).loc Cert.KernelIdeal.main_arg0)) (ix2 s n)))) (row_self t).symm),
   fun g p => ⟨(fun i => (congrFun (ha c).2.1 i).trans ((reals_of m h c).h1 i)) (ix2 g p), (fun i => (congrFun (ha c).2.2.1 i).trans ((reals_of m h c).h2 i)) (ix2 g p)⟩,
   fun a b e => (fun i => (congrFun (ha c).2.2.2.1 i).trans ((reals_of m h c).h3 i)) (ix3 a b e),
   fun a b e => (fun i => (congrFun (ha c).2.2.2.2.1 i).trans ((reals_of m h c).h4 i)) (ix3 a b e),
   fun a b e => (fun i => (congrFun (ha c).2.2.2.2.2.1 i).trans ((reals_of m h c).h5 i)) (ix3 a b e),
   fun a b e => (fun i => (congrFun (ha c).2.2.2.2.2.2.1 i).trans ((reals_of m h c).h6 i)) (ix3 a b e),
   fun t n => ((fun i => (congrFun (ha c).2.2.2.2.2.2.2 i).trans ((reals_of m h c).h7 i)) (ix2 t n)).trans (congrArg (fun s => up (EReal.toReal ((m ((c.tc : Thread Cert.KernelIdeal.nD Cert.KernelIdeal.τ).loc Cert.KernelIdeal.main_arg7)) (ix2 s n)))) (row_self t).symm)⟩

/-! ## The eight results -/

variable (h : Cert.Pre_KernelIdeal_finite m)
  (ha : (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))) (c : Dev Cert.KernelIdeal.nD)
include h ha

theorem same_v112 : (Cert.ReferenceIdeal.Run.Wfin m' c (Proc.devRef .tc Cert.ReferenceIdeal.main_v16) : (⟨2, ![2048, 1024]⟩ : Shape).Idx → EReal)
    = (Cert.KernelIdeal.Gen.W5 m ρ c (Proc.devRef .tc Cert.KernelIdeal.main_v112) : (⟨2, ![2048, 1024]⟩ : Shape).Idx → EReal) := by
  refine ext2 fun a b => ?_
  exact (Cert.ReferenceIdeal.Trip.out_y m' c (kdata m c) (inp_reference m m' h ha c) a b).trans (res_y m ρ c (kdata m c) (inp_kernel m ρ h c) a b).symm
theorem same_v115 : (Cert.ReferenceIdeal.Run.Wfin m' c (Proc.devRef .tc Cert.ReferenceIdeal.main_v45) : (⟨2, ![2048, 1024]⟩ : Shape).Idx → EReal)
    = (Cert.KernelIdeal.Gen.W5 m ρ c (Proc.devRef .tc Cert.KernelIdeal.main_v115) : (⟨2, ![2048, 1024]⟩ : Shape).Idx → EReal) := by
  refine ext2 fun a b => ?_
  exact (Cert.ReferenceIdeal.Trip.out_du m' c (kdata m c) (inp_reference m m' h ha c) a b).trans (res_du m ρ c (kdata m c) (inp_kernel m ρ h c) a b).symm
theorem same_v106 : (Cert.ReferenceIdeal.Run.Wfin m' c (Proc.devRef .tc Cert.ReferenceIdeal.main_v35_7) : (⟨2, ![64, 64]⟩ : Shape).Idx → EReal)
    = (Cert.KernelIdeal.Gen.W5 m ρ c (Proc.devRef .tc Cert.KernelIdeal.main_v106) : (⟨2, ![64, 64]⟩ : Shape).Idx → EReal) := by
  refine ext2 fun a b => ?_
  exact (Cert.ReferenceIdeal.Trip.out_dl m' c (kdata m c) (inp_reference m m' h ha c) a b).re.trans (res_dl m ρ c (kdata m c) (inp_kernel m ρ h c) a b).re.symm
theorem same_v109 : (Cert.ReferenceIdeal.Run.Wfin m' c (Proc.devRef .tc Cert.ReferenceIdeal.main_v35_8) : (⟨2, ![64, 64]⟩ : Shape).Idx → EReal)
    = (Cert.KernelIdeal.Gen.W5 m ρ c (Proc.devRef .tc Cert.KernelIdeal.main_v109) : (⟨2, ![64, 64]⟩ : Shape).Idx → EReal) := by
  refine ext2 fun a b => ?_
  exact (Cert.ReferenceIdeal.Trip.out_dl m' c (kdata m c) (inp_reference m m' h ha c) a b).im.trans (res_dl m ρ c (kdata m c) (inp_kernel m ρ h c) a b).im.symm
theorem same_v116 : (Cert.ReferenceIdeal.Run.Wfin m' c (Proc.devRef .tc Cert.ReferenceIdeal.main_v41) : (⟨3, ![64, 64, 16]⟩ : Shape).Idx → EReal)
    = (Cert.KernelIdeal.Gen.W5 m ρ c (Proc.devRef .tc Cert.KernelIdeal.main_v116) : (⟨3, ![64, 64, 16]⟩ : Shape).Idx → EReal) := by
  refine ext3 fun a b e => ?_
  exact (Cert.ReferenceIdeal.Trip.out_dbr m' c (kdata m c) (inp_reference m m' h ha c) a b e).trans (res_dbr m ρ c (kdata m c) (inp_kernel m ρ h c) a b e).symm
theorem same_v117 : (Cert.ReferenceIdeal.Run.Wfin m' c (Proc.devRef .tc Cert.ReferenceIdeal.main_v37) : (⟨3, ![64, 64, 16]⟩ : Shape).Idx → EReal)
    = (Cert.KernelIdeal.Gen.W5 m ρ c (Proc.devRef .tc Cert.KernelIdeal.main_v117) : (⟨3, ![64, 64, 16]⟩ : Shape).Idx → EReal) := by
  refine ext3 fun a b e => ?_
  exact (Cert.ReferenceIdeal.Trip.out_dbi m' c (kdata m c) (inp_reference m m' h ha c) a b e).trans (res_dbi m ρ c (kdata m c) (inp_kernel m ρ h c) a b e).symm
theorem same_v118 : (Cert.ReferenceIdeal.Run.Wfin m' c (Proc.devRef .tc Cert.ReferenceIdeal.main_v26) : (⟨3, ![64, 16, 64]⟩ : Shape).Idx → EReal)
    = (Cert.KernelIdeal.Gen.W5 m ρ c (Proc.devRef .tc Cert.KernelIdeal.main_v118) : (⟨3, ![64, 16, 64]⟩ : Shape).Idx → EReal) := by
  refine ext3 fun a b e => ?_
  exact (Cert.ReferenceIdeal.Trip.out_dcr m' c (kdata m c) (inp_reference m m' h ha c) a b e).trans (res_dcr m ρ c (kdata m c) (inp_kernel m ρ h c) a b e).symm
theorem same_v119 : (Cert.ReferenceIdeal.Run.Wfin m' c (Proc.devRef .tc Cert.ReferenceIdeal.main_v22) : (⟨3, ![64, 16, 64]⟩ : Shape).Idx → EReal)
    = (Cert.KernelIdeal.Gen.W5 m ρ c (Proc.devRef .tc Cert.KernelIdeal.main_v119) : (⟨3, ![64, 16, 64]⟩ : Shape).Idx → EReal) := by
  refine ext3 fun a b e => ?_
  exact (Cert.ReferenceIdeal.Trip.out_dci m' c (kdata m c) (inp_reference m m' h ha c) a b e).trans (res_dci m ρ c (kdata m c) (inp_kernel m ρ h c) a b e).symm

end

end Cert.S5

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.In
public import proofs.«01_k».proof.Proof.Gen.InIdeal
public import proofs.«01_k».proof.Proof.Gen.In.Frame
public import proofs.«01_k».proof.Proof.Gen.InIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Branch
public import proofs.«01_k».proof.Proof.Gen.BranchIdeal
public import proofs.«01_k».proof.Proof.Gen.Branch.Frame
public import proofs.«01_k».proof.Proof.Gen.BranchIdeal.Frame
public import proofs.«01_k».proof.Proof.Gen.BranchReferenceIdeal
public import proofs.«01_k».proof.Proof.Gen.BranchReferenceIdeal.Run
public import proofs.«01_k».proof.Proof.Gen.BranchReferenceIdeal.Read
public import proofs.«01_k».proof.Proof.Gen.Side
public import proofs.«01_k».proof.Proof.Gen.SideIdeal
public import proofs.«01_k».proof.Proof.Gen.Side.Frame
public import proofs.«01_k».proof.Proof.Gen.SideIdeal.Frame
public import proofs.«01_k».proof.Proof.Gen.SideReferenceIdeal
public import proofs.«01_k».proof.Proof.Gen.SideReferenceIdeal.Run
public import proofs.«01_k».proof.Proof.Gen.SideReferenceIdeal.Read
public import proofs.«01_k».proof.Proof.Gen.DhQkv
public import proofs.«01_k».proof.Proof.Gen.DhQkvIdeal
public import proofs.«01_k».proof.Proof.Gen.DhQkv.Frame
public import proofs.«01_k».proof.Proof.Gen.DhQkvIdeal.Frame
public import proofs.«01_k».proof.Proof.Gen.DhQkvIdeal.Value
public import proofs.«01_k».proof.Proof.Gen.DhQkvReferenceIdeal
public import proofs.«01_k».proof.Proof.Gen.DhQkvReferenceIdeal.Run
public import proofs.«01_k».proof.Proof.Gen.DhQkvReferenceIdeal.Read
public import proofs.«01_k».proof.Proof.Gen.DhGate
public import proofs.«01_k».proof.Proof.Gen.DhGateIdeal
public import proofs.«01_k».proof.Proof.Gen.DhGate.Frame
public import proofs.«01_k».proof.Proof.Gen.DhGateIdeal.Frame
public import proofs.«01_k».proof.Proof.Gen.DhGateIdeal.Value
public import proofs.«01_k».proof.Proof.Gen.DhGateReferenceIdeal
public import proofs.«01_k».proof.Proof.Gen.DhGateReferenceIdeal.Run
public import proofs.«01_k».proof.Proof.Gen.DhGateReferenceIdeal.Read
public import proofs.«01_k».proof.Proof.Gen.Merge
public import proofs.«01_k».proof.Proof.Gen.MergeIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Glu
public import proofs.«01_k».proof.Proof.Gen.GluIdeal
public import proofs.«01_k».proof.Proof.Gen.Glu.Frame
public import proofs.«01_k».proof.Proof.Gen.GluIdeal.Frame
public import proofs.«01_k».proof.Proof.Gen.GluIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.Gen.MergeFwd
public import proofs.«01_k».proof.Proof.Gen.MergeFwdIdeal
public import proofs.«01_k».proof.Proof.Gen.MergeFwd.Frame
public import proofs.«01_k».proof.Proof.Gen.MergeFwdIdeal.Frame
public import proofs.«01_k».proof.Proof.Gen.MergeFwdIdeal.Value
public import proofs.«01_k».proof.Proof.Gen.MergeFwdReferenceIdeal
public import proofs.«01_k».proof.Proof.Gen.MergeFwdReferenceIdeal.Run
public import proofs.«01_k».proof.Proof.Gen.MergeFwdReferenceIdeal.Read
public import proofs.«01_k».proof.Proof.Gen.GluFwd
public import proofs.«01_k».proof.Proof.Gen.GluFwdIdeal
public import proofs.«01_k».proof.Proof.Gen.GluFwd.Frame
public import proofs.«01_k».proof.Proof.Gen.GluFwdIdeal.Frame
public import proofs.«01_k».proof.Proof.Gen.GluFwdIdeal.Value
public import proofs.«01_k».proof.Proof.Gen.GluFwdReferenceIdeal
public import proofs.«01_k».proof.Proof.Gen.GluFwdReferenceIdeal.Run
public import proofs.«01_k».proof.Proof.Gen.GluFwdReferenceIdeal.Read
public import proofs.«01_k».proof.Proof.Gen.SkipFwd
public import proofs.«01_k».proof.Proof.Gen.SkipFwdIdeal
public import proofs.«01_k».proof.Proof.Gen.SkipFwd.Frame
public import proofs.«01_k».proof.Proof.Gen.SkipFwdIdeal.Frame
public import proofs.«01_k».proof.Proof.Gen.SkipFwdIdeal.Value
public import proofs.«01_k».proof.Proof.Gen.SkipFwdReferenceIdeal
public import proofs.«01_k».proof.Proof.Gen.SkipFwdReferenceIdeal.Run
public import proofs.«01_k».proof.Proof.Gen.SkipFwdReferenceIdeal.Read
public import proofs.«01_k».proof.Proof.Gen.Skip
public import proofs.«01_k».proof.Proof.Gen.SkipIdeal
public import proofs.«01_k».proof.Proof.Gen.Skip.Frame
public import proofs.«01_k».proof.Proof.Gen.SkipIdeal.Frame
public import proofs.«01_k».proof.Proof.Gen.SkipIdeal.Value
public import proofs.«01_k».proof.Proof.Gen.SkipReferenceIdeal
public import proofs.«01_k».proof.Proof.Gen.SkipReferenceIdeal.Run
public import proofs.«01_k».proof.Proof.Gen.SkipReferenceIdeal.Read
public import proofs.«01_k».proof.Proof.Gen.NormFwd
public import proofs.«01_k».proof.Proof.Gen.NormFwdIdeal
public import proofs.«01_k».proof.Proof.Gen.NormFwd.Frame
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.NormFwdReferenceIdeal.Read
public import proofs.«01_k».proof.Proof.Gen.Norm
public import proofs.«01_k».proof.Proof.Gen.NormIdeal
public import proofs.«01_k».proof.Proof.Gen.Norm.Frame
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.AdamGlu
public import proofs.«01_k».proof.Proof.Gen.AdamGluIdeal
public import proofs.«01_k».proof.Proof.Gen.AdamGlu.Frame
public import proofs.«01_k».proof.Proof.Gen.AdamGluIdeal.Frame
public import proofs.«01_k».proof.Proof.Gen.AdamGluIdeal.Value
public import proofs.«01_k».proof.Proof.Gen.AdamGluReferenceIdeal
public import proofs.«01_k».proof.Proof.Gen.AdamGluReferenceIdeal.Run
public import proofs.«01_k».proof.Proof.Gen.AdamGluReferenceIdeal.Read
public import proofs.«01_k».proof.Proof.Gen.AdamPa
public import proofs.«01_k».proof.Proof.Gen.AdamPaIdeal
public import proofs.«01_k».proof.Proof.Gen.AdamPa.Frame
public import proofs.«01_k».proof.Proof.Gen.AdamPaIdeal.Frame
public import proofs.«01_k».proof.Proof.Gen.AdamPaIdeal.Value
public import proofs.«01_k».proof.Proof.Gen.AdamPaReferenceIdeal
public import proofs.«01_k».proof.Proof.Gen.AdamPaReferenceIdeal.Run
public import proofs.«01_k».proof.Proof.Gen.AdamPaReferenceIdeal.Read
public import proofs.«01_k».proof.Proof.Gen.AdamOut
public import proofs.«01_k».proof.Proof.Gen.AdamOutIdeal
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamOutReferenceIdeal.Read
public import proofs.«01_k».proof.Proof.Gen.AdamIn
public import proofs.«01_k».proof.Proof.Gen.AdamInIdeal
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamConv
public import proofs.«01_k».proof.Proof.Gen.AdamConvIdeal
public import proofs.«01_k».proof.Proof.Gen.AdamConv.Frame
public import proofs.«01_k».proof.Proof.Gen.AdamConvIdeal.Frame
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.Gen.AdamConvReferenceIdeal.Read
public import proofs.«01_k».proof.Proof.Gen.AdamSmall
public import proofs.«01_k».proof.Proof.Gen.AdamSmallIdeal
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Gen.Loss
public import proofs.«01_k».proof.Proof.Gen.LossIdeal
public import proofs.«01_k».proof.Proof.Gen.Loss.Frame
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.OutClaims
public import proofs.«01_k».proof.Proof.InClaims
public import proofs.«01_k».proof.Proof.BranchClaims
public import proofs.«01_k».proof.Proof.SideClaims
public import proofs.«01_k».proof.Proof.DhQkvClaims
public import proofs.«01_k».proof.Proof.DhGateClaims
public import proofs.«01_k».proof.Proof.MergeClaims
public import proofs.«01_k».proof.Proof.GluClaims
public import proofs.«01_k».proof.Proof.MergeFwdClaims
public import proofs.«01_k».proof.Proof.GluFwdClaims
public import proofs.«01_k».proof.Proof.SkipFwdClaims
public import proofs.«01_k».proof.Proof.SkipClaims
public import proofs.«01_k».proof.Proof.NormFwdClaims
public import proofs.«01_k».proof.Proof.NormClaims
public import proofs.«01_k».proof.Proof.AdamGluClaims
public import proofs.«01_k».proof.Proof.AdamPaClaims
public import proofs.«01_k».proof.Proof.AdamOutClaims
public import proofs.«01_k».proof.Proof.AdamInClaims
public import proofs.«01_k».proof.Proof.AdamConvClaims
public import proofs.«01_k».proof.Proof.AdamSmallClaims
public import proofs.«01_k».proof.Proof.LossClaims
public import proofs.«01_k».proof.Proof.KRun
public import proofs.«01_k».proof.Proof.RefRun
public import proofs.«01_k».proof.Proof.Match
public import Idealize.ShloMosaic.Adequacy
public import Idealize.ShloMosaic.Init

@[expose] public section

noncomputable section

namespace Cert.Proof

open Idealize.ShloMosaic Idealize.SL.Sem Cert.Kernel

/-- The reference runs and leaves its arguments alone. -/
theorem frame_reference : Cert.quiescent_ReferenceIdeal := fun m ρ _ =>
  (θ_run Cert.ReferenceIdeal.defs _ _).mono
    (fun _ h => ⟨fun c =>
      ⟨(h.1 c _ (by decide)).trans (Cert.ReferenceIdeal.Run.Wfin_keep m c _ (by decide)),
       (h.1 c _ (by decide)).trans (Cert.ReferenceIdeal.Run.Wfin_keep m c _ (by decide)),
       (h.1 c _ (by decide)).trans (Cert.ReferenceIdeal.Run.Wfin_keep m c _ (by decide)),
       (h.1 c _ (by decide)).trans (Cert.ReferenceIdeal.Run.Wfin_keep m c _ (by decide)),
       (h.1 c _ (by decide)).trans (Cert.ReferenceIdeal.Run.Wfin_keep m c _ (by decide)),
       (h.1 c _ (by decide)).trans (Cert.ReferenceIdeal.Run.Wfin_keep m c _ (by decide)),
       (h.1 c _ (by decide)).trans (Cert.ReferenceIdeal.Run.Wfin_keep m c _ (by decide)),
       (h.1 c _ (by decide)).trans (Cert.ReferenceIdeal.Run.Wfin_keep m c _ (by decide))⟩, h.2⟩)
    (Cert.ReferenceIdeal.Run.run_read m ρ)

/-- On finite inputs the kernel and the reference leave the same eight results. -/
theorem results : Cert.algebraic_KernelIdeal_ReferenceIdeal_pre_finite := fun m g m' g' hp ha =>
  ⟨fun c => Cert.KernelIdeal.Gen.W5 m g c (Proc.devRef .tc Cert.KernelIdeal.main_v112),
   fun c => Cert.KernelIdeal.Gen.W5 m g c (Proc.devRef .tc Cert.KernelIdeal.main_v115),
   fun c => Cert.KernelIdeal.Gen.W5 m g c (Proc.devRef .tc Cert.KernelIdeal.main_v106),
   fun c => Cert.KernelIdeal.Gen.W5 m g c (Proc.devRef .tc Cert.KernelIdeal.main_v109),
   fun c => Cert.KernelIdeal.Gen.W5 m g c (Proc.devRef .tc Cert.KernelIdeal.main_v116),
   fun c => Cert.KernelIdeal.Gen.W5 m g c (Proc.devRef .tc Cert.KernelIdeal.main_v117),
   fun c => Cert.KernelIdeal.Gen.W5 m g c (Proc.devRef .tc Cert.KernelIdeal.main_v118),
   fun c => Cert.KernelIdeal.Gen.W5 m g c (Proc.devRef .tc Cert.KernelIdeal.main_v119),
   (θ_run Cert.KernelIdeal.defs _ _).mono
    (fun _ h c => ⟨h.1 c Cert.KernelIdeal.main_v112 (by decide),
      h.1 c Cert.KernelIdeal.main_v115 (by decide),
      h.1 c Cert.KernelIdeal.main_v106 (by decide),
      h.1 c Cert.KernelIdeal.main_v109 (by decide),
      h.1 c Cert.KernelIdeal.main_v116 (by decide),
      h.1 c Cert.KernelIdeal.main_v117 (by decide),
      h.1 c Cert.KernelIdeal.main_v118 (by decide),
      h.1 c Cert.KernelIdeal.main_v119 (by decide),
      Cert.KernelIdeal.Run.Final.args m g h c⟩)
    (Cert.KernelIdeal.Run.run_main m g),
   (θ_run Cert.ReferenceIdeal.defs _ _).mono
    (fun _ h c => ⟨(h.1 c Cert.ReferenceIdeal.main_v16 (by decide)).trans (Cert.S5.same_v112 m g m' hp ha c),
      (h.1 c Cert.ReferenceIdeal.main_v45 (by decide)).trans (Cert.S5.same_v115 m g m' hp ha c),
      (h.1 c Cert.ReferenceIdeal.main_v35_7 (by decide)).trans (Cert.S5.same_v106 m g m' hp ha c),
      (h.1 c Cert.ReferenceIdeal.main_v35_8 (by decide)).trans (Cert.S5.same_v109 m g m' hp ha c),
      (h.1 c Cert.ReferenceIdeal.main_v41 (by decide)).trans (Cert.S5.same_v116 m g m' hp ha c),
      (h.1 c Cert.ReferenceIdeal.main_v37 (by decide)).trans (Cert.S5.same_v117 m g m' hp ha c),
      (h.1 c Cert.ReferenceIdeal.main_v26 (by decide)).trans (Cert.S5.same_v118 m g m' hp ha c),
      (h.1 c Cert.ReferenceIdeal.main_v22 (by decide)).trans (Cert.S5.same_v119 m g m' hp ha c),
      (h.1 c _ (by decide)).trans (Cert.ReferenceIdeal.Run.Wfin_keep m' c _ (by decide)),
      (h.1 c _ (by decide)).trans (Cert.ReferenceIdeal.Run.Wfin_keep m' c _ (by decide)),
      (h.1 c _ (by decide)).trans (Cert.ReferenceIdeal.Run.Wfin_keep m' c _ (by decide)),
      (h.1 c _ (by decide)).trans (Cert.ReferenceIdeal.Run.Wfin_keep m' c _ (by decide)),
      (h.1 c _ (by decide)).trans (Cert.ReferenceIdeal.Run.Wfin_keep m' c _ (by decide)),
      (h.1 c _ (by decide)).trans (Cert.ReferenceIdeal.Run.Wfin_keep m' c _ (by decide)),
      (h.1 c _ (by decide)).trans (Cert.ReferenceIdeal.Run.Wfin_keep m' c _ (by decide)),
      (h.1 c _ (by decide)).trans (Cert.ReferenceIdeal.Run.Wfin_keep m' c _ (by decide))⟩)
    (Cert.ReferenceIdeal.Run.run_read m' g')⟩

theorem claim : Cert.Claim := ⟨Cert.Kernel.Gen.facts, Cert.KernelIdeal.Gen.facts, Cert.ReferenceIdeal.Gen.facts,
  Cert.Out.Gen.facts, Cert.OutIdeal.Gen.facts, Cert.OutReferenceIdeal.Gen.facts,
  Cert.In.Gen.facts, Cert.InIdeal.Gen.facts, Cert.InReferenceIdeal.Gen.facts,
  Cert.Branch.Gen.facts, Cert.BranchIdeal.Gen.facts, Cert.BranchReferenceIdeal.Gen.facts,
  Cert.Side.Gen.facts, Cert.SideIdeal.Gen.facts, Cert.SideReferenceIdeal.Gen.facts,
  Cert.DhQkv.Gen.facts, Cert.DhQkvIdeal.Gen.facts, Cert.DhQkvReferenceIdeal.Gen.facts,
  Cert.DhGate.Gen.facts, Cert.DhGateIdeal.Gen.facts, Cert.DhGateReferenceIdeal.Gen.facts,
  Cert.Merge.Gen.facts, Cert.MergeIdeal.Gen.facts, Cert.MergeReferenceIdeal.Gen.facts,
  Cert.Glu.Gen.facts, Cert.GluIdeal.Gen.facts, Cert.GluReferenceIdeal.Gen.facts,
  Cert.MergeFwd.Gen.facts, Cert.MergeFwdIdeal.Gen.facts, Cert.MergeFwdReferenceIdeal.Gen.facts,
  Cert.GluFwd.Gen.facts, Cert.GluFwdIdeal.Gen.facts, Cert.GluFwdReferenceIdeal.Gen.facts,
  Cert.SkipFwd.Gen.facts, Cert.SkipFwdIdeal.Gen.facts, Cert.SkipFwdReferenceIdeal.Gen.facts,
  Cert.Skip.Gen.facts, Cert.SkipIdeal.Gen.facts, Cert.SkipReferenceIdeal.Gen.facts,
  Cert.NormFwd.Gen.facts, Cert.NormFwdIdeal.Gen.facts, Cert.NormFwdReferenceIdeal.Gen.facts,
  Cert.Norm.Gen.facts, Cert.NormIdeal.Gen.facts, Cert.NormReferenceIdeal.Gen.facts,
  Cert.AdamGlu.Gen.facts, Cert.AdamGluIdeal.Gen.facts, Cert.AdamGluReferenceIdeal.Gen.facts,
  Cert.AdamPa.Gen.facts, Cert.AdamPaIdeal.Gen.facts, Cert.AdamPaReferenceIdeal.Gen.facts,
  Cert.AdamOut.Gen.facts, Cert.AdamOutIdeal.Gen.facts, Cert.AdamOutReferenceIdeal.Gen.facts,
  Cert.AdamIn.Gen.facts, Cert.AdamInIdeal.Gen.facts, Cert.AdamInReferenceIdeal.Gen.facts,
  Cert.AdamConv.Gen.facts, Cert.AdamConvIdeal.Gen.facts, Cert.AdamConvReferenceIdeal.Gen.facts,
  Cert.AdamSmall.Gen.facts, Cert.AdamSmallIdeal.Gen.facts, Cert.AdamSmallReferenceIdeal.Gen.facts,
  Cert.Loss.Gen.facts, Cert.LossIdeal.Gen.facts, Cert.LossReferenceIdeal.Gen.facts,
  Cert.S5.finite_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Out.Gen.frame m ρ, fun m ρ _ => Cert.OutIdeal.Gen.frame m ρ, Cert.OutV.frame_reference,
  fun m ρ _ => Cert.In.Gen.frame m ρ, fun m ρ _ => Cert.InIdeal.Gen.frame m ρ, Cert.InV.frame_reference,
  fun m ρ _ => Cert.Branch.Gen.frame m ρ, fun m ρ _ => Cert.BranchIdeal.Gen.frame m ρ, Cert.BranchV.frame_reference,
  fun m ρ _ => Cert.Side.Gen.frame m ρ, fun m ρ _ => Cert.SideIdeal.Gen.frame m ρ, Cert.SideV.frame_reference,
  fun m ρ _ => Cert.DhQkv.Gen.frame m ρ, fun m ρ _ => Cert.DhQkvIdeal.Gen.frame m ρ, Cert.DhQkvV.frame_reference,
  fun m ρ _ => Cert.DhGate.Gen.frame m ρ, fun m ρ _ => Cert.DhGateIdeal.Gen.frame m ρ, Cert.DhGateV.frame_reference,
  fun m ρ _ => Cert.Merge.Gen.frame m ρ, fun m ρ _ => Cert.MergeIdeal.Gen.frame m ρ, Cert.MergeV.frame_reference,
  fun m ρ _ => Cert.Glu.Gen.frame m ρ, fun m ρ _ => Cert.GluIdeal.Gen.frame m ρ, Cert.GluV.frame_reference,
  fun m ρ _ => Cert.MergeFwd.Gen.frame m ρ, fun m ρ _ => Cert.MergeFwdIdeal.Gen.frame m ρ, Cert.MergeFwdV.frame_reference,
  fun m ρ _ => Cert.GluFwd.Gen.frame m ρ, fun m ρ _ => Cert.GluFwdIdeal.Gen.frame m ρ, Cert.GluFwdV.frame_reference,
  fun m ρ _ => Cert.SkipFwd.Gen.frame m ρ, fun m ρ _ => Cert.SkipFwdIdeal.Gen.frame m ρ, Cert.SkipFwdV.frame_reference,
  fun m ρ _ => Cert.Skip.Gen.frame m ρ, fun m ρ _ => Cert.SkipIdeal.Gen.frame m ρ, Cert.SkipV.frame_reference,
  fun m ρ _ => Cert.NormFwd.Gen.frame m ρ, fun m ρ _ => Cert.NormFwdIdeal.Gen.frame m ρ, Cert.NormFwdV.frame_reference,
  fun m ρ _ => Cert.Norm.Gen.frame m ρ, fun m ρ _ => Cert.NormIdeal.Gen.frame m ρ, Cert.NormV.frame_reference,
  fun m ρ _ => Cert.AdamGlu.Gen.frame m ρ, fun m ρ _ => Cert.AdamGluIdeal.Gen.frame m ρ, Cert.AdamGluV.frame_reference,
  fun m ρ _ => Cert.AdamPa.Gen.frame m ρ, fun m ρ _ => Cert.AdamPaIdeal.Gen.frame m ρ, Cert.AdamPaV.frame_reference,
  fun m ρ _ => Cert.AdamOut.Gen.frame m ρ, fun m ρ _ => Cert.AdamOutIdeal.Gen.frame m ρ, Cert.AdamOutV.frame_reference,
  fun m ρ _ => Cert.AdamIn.Gen.frame m ρ, fun m ρ _ => Cert.AdamInIdeal.Gen.frame m ρ, Cert.AdamInV.frame_reference,
  fun m ρ _ => Cert.AdamConv.Gen.frame m ρ, fun m ρ _ => Cert.AdamConvIdeal.Gen.frame m ρ, Cert.AdamConvV.frame_reference,
  fun m ρ _ => Cert.AdamSmall.Gen.frame m ρ, fun m ρ _ => Cert.AdamSmallIdeal.Gen.frame m ρ, Cert.AdamSmallV.frame_reference,
  fun m ρ _ => Cert.Loss.Gen.frame m ρ, fun m ρ _ => Cert.LossIdeal.Gen.frame m ρ, Cert.LossV.frame_reference,
  trivial, results,
  trivial, Cert.OutV.results,
  trivial, Cert.InV.results,
  trivial, Cert.BranchV.results,
  trivial, Cert.SideV.results,
  trivial, Cert.DhQkvV.results,
  trivial, Cert.DhGateV.results,
  trivial, Cert.MergeV.results,
  trivial, Cert.GluV.results,
  trivial, Cert.MergeFwdV.results,
  trivial, Cert.GluFwdV.results,
  trivial, Cert.SkipFwdV.results,
  trivial, Cert.SkipV.results,
  trivial, Cert.NormFwdV.results,
  trivial, Cert.NormV.results,
  trivial, Cert.AdamGluV.results,
  trivial, Cert.AdamPaV.results,
  trivial, Cert.AdamOutV.results,
  trivial, Cert.AdamInV.results,
  trivial, Cert.AdamConvV.results,
  trivial, Cert.AdamSmallV.results,
  trivial, Cert.LossV.results⟩

end Cert.Proof

end
